-- ==== Defs.lean ====
def Pre_Kernel [hPre_batch_named : Cert.Pre_batch_named.Facts] (m : (ℓ : Loc Cert.Kernel.nD Cert.Kernel.τ Cert.Kernel.sig) → Buf (Elt Bits) ℓ) : Prop :=
  ∀ c : Dev Cert.Kernel.nD,
    (Cert.Pre_batch_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_batch_named : Cert.Pre_batch_named.Facts] (m : (ℓ : Loc Cert.KernelIdeal.nD Cert.KernelIdeal.τ Cert.KernelIdeal.sig) → Buf (Elt Ideal) ℓ) : Prop :=
  ∀ c : Dev Cert.KernelIdeal.nD,
    (Cert.Pre_batch_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_Kernel2 [hPre_windows_inside : Cert.Pre_windows_inside.Facts] (m : (ℓ : Loc Cert.Kernel2.nD Cert.Kernel2.τ Cert.Kernel2.sig) → Buf (Elt Bits) ℓ) : Prop :=
  ∀ c : Dev Cert.Kernel2.nD,
    (Cert.Pre_windows_inside.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9)) (m ((c.tc : Thread Cert.Kernel2.nD Cert.Kernel2.τ).loc Cert.Kernel2.main_arg10)) (m ((c.tc : Thread Cert.Kernel2.nD Cert.Kernel2.τ).loc Cert.Kernel2.main_arg11)) (m ((c.tc : Thread Cert.Kernel2.nD Cert.Kernel2.τ).loc Cert.Kernel2.main_arg12)) (m ((c.tc : Thread Cert.Kernel2.nD Cert.Kernel2.τ).loc Cert.Kernel2.main_arg13)) (m ((c.tc : Thread Cert.Kernel2.nD Cert.Kernel2.τ).loc Cert.Kernel2.main_arg14)) (m ((c.tc : Thread Cert.Kernel2.nD Cert.Kernel2.τ).loc Cert.Kernel2.main_arg15)) (m ((c.tc : Thread Cert.Kernel2.nD Cert.Kernel2.τ).loc Cert.Kernel2.main_arg16))) = (fun _ => 1#1)

def Pre_Kernel2Ideal [hPre_windows_inside : Cert.Pre_windows_inside.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_windows_inside.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_windows_inside [hPre_windows_inside : Cert.Pre_windows_inside.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_windows_inside.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16))) = (fun _ => 1#1)

def quiescent_Kernel [hKernel : Cert.Kernel.Facts] [hPre_batch_named : Cert.Pre_batch_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_batch_named : Cert.Pre_batch_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] [hPre_windows_inside : Cert.Pre_windows_inside.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16))
      ∧ r.2.sem = fun _ => 0)

def quiescent_Kernel2Ideal [hKernel2Ideal : Cert.Kernel2Ideal.Facts] [hPre_windows_inside : Cert.Pre_windows_inside.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16))
      ∧ r.2.sem = fun _ => 0)

def quiescent_Reference2Ideal_pre_windows_inside [hReference2Ideal : Cert.Reference2Ideal.Facts] [hPre_windows_inside : Cert.Pre_windows_inside.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_windows_inside m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] [hPre_windows_inside : Cert.Pre_windows_inside.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v610) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_batch_named : Cert.Pre_batch_named.Facts) (hPre_windows_inside : Cert.Pre_windows_inside.Facts),
    quiescent_Kernel (hKernel := hKernel) (hPre_batch_named := hPre_batch_named)
    ∧ quiescent_KernelIdeal (hKernelIdeal := hKernelIdeal) (hPre_batch_named := hPre_batch_named)
    ∧ quiescent_ReferenceIdeal (hReferenceIdeal := hReferenceIdeal)
    ∧ quiescent_Kernel2 (hKernel2 := hKernel2) (hPre_windows_inside := hPre_windows_inside)
    ∧ quiescent_Kernel2Ideal (hKernel2Ideal := hKernel2Ideal) (hPre_windows_inside := hPre_windows_inside)
    ∧ quiescent_Reference2Ideal (hReference2Ideal := hReference2Ideal)
    ∧ quiescent_Reference2Ideal_pre_windows_inside (hReference2Ideal := hReference2Ideal) (hPre_windows_inside := hPre_windows_inside)
    ∧ preserves_Kernel_KernelIdeal
    ∧ preserves_Kernel2_Kernel2Ideal
    ∧ algebraic_Kernel2Ideal_Reference2Ideal (hKernel2Ideal := hKernel2Ideal) (hReference2Ideal := hReference2Ideal) (hPre_windows_inside := hPre_windows_inside)
-- ==== Pre_batch_named.lean ====
abbrev S2x256x256x256 : Shape := ⟨4, ![2, 256, 256, 256]⟩
abbrev S2x256x128x128 : Shape := ⟨4, ![2, 256, 128, 128]⟩
abbrev S2x256x64x64 : Shape := ⟨4, ![2, 256, 64, 64]⟩
abbrev S2x256x32x32 : Shape := ⟨4, ![2, 256, 32, 32]⟩
abbrev S512x4 : Shape := ⟨2, ![512, 4]⟩
abbrev S512 : Shape := ⟨1, ![512]⟩
abbrev S256x1024 : Shape := ⟨2, ![256, 1024]⟩
abbrev S256 : Shape := ⟨1, ![256]⟩
abbrev S_ : Shape := ⟨0, ![]⟩

class Facts : Prop where
  bcast_S_S512 : S_.BroadcastsInDim S512 (![] : Fin 0 → Fin S512.rank)

variable [Facts]

def fn {F : FTy → Type} [FloatOps F] (main_arg0 : FVec F S2x256x256x256 .f32) (main_arg1 : FVec F S2x256x128x128 .f32) (main_arg2 : FVec F S2x256x64x64 .f32) (main_arg3 : FVec F S2x256x32x32 .f32) (main_arg4 : FVec F S512x4 .f32) (main_arg5 : IVec S512 32) (main_arg6 : FVec F S256x1024 .f32) (main_arg7 : FVec F S256 .f32) : IVec S512 1 :=
  let main_c : IVec S_ 32 := constantI S_ 32 0#32
  let main_v0 : IVec S512 32 := broadcastInDim S512 ![] bcast_S_S512 main_c
  let main_v1 : IVec S512 1 := cmpi .sge main_arg5 main_v0
  let main_c_0 : IVec S_ 32 := constantI S_ 32 2#32
  let main_v2 : IVec S512 32 := broadcastInDim S512 ![] bcast_S_S512 main_c_0
  let main_v3 : IVec S512 1 := cmpi .slt main_arg5 main_v2
  let main_v4 : IVec S512 1 := andi main_v1 main_v3
  main_v4
-- ==== Pre_windows_inside.lean ====
abbrev S2x256x256x256 : Shape := ⟨4, ![2, 256, 256, 256]⟩
abbrev S2x256x128x128 : Shape := ⟨4, ![2, 256, 128, 128]⟩
abbrev S2x256x64x64 : Shape := ⟨4, ![2, 256, 64, 64]⟩
abbrev S2x256x32x32 : Shape := ⟨4, ![2, 256, 32, 32]⟩
abbrev S512 : Shape := ⟨1, ![512]⟩
abbrev S4x512 : Shape := ⟨2, ![4, 512]⟩
abbrev S512x14 : Shape := ⟨2, ![512, 14]⟩
abbrev S256x1024 : Shape := ⟨2, ![256, 1024]⟩
abbrev S256 : Shape := ⟨1, ![256]⟩
abbrev S_ : Shape := ⟨0, ![]⟩
abbrev S512x1 : Shape := ⟨2, ![512, 1]⟩
abbrev S1x512 : Shape := ⟨2, ![1, 512]⟩

class Facts : Prop where
  bcast_S_S512 : S_.BroadcastsInDim S512 (![] : Fin 0 → Fin S512.rank)
  bcast_S512_S512x1_0 : S512.BroadcastsInDim S512x1 (![0] : Fin 1 → Fin S512x1.rank)
  slices_S4x512_S1x512_0_0 : S4x512.Slices ![0, 0] S1x512
  shapeCasts_S1x512_S512 : S1x512.ShapeCasts S512
  bcast_S_S512x1 : S_.BroadcastsInDim S512x1 (![] : Fin 0 → Fin S512x1.rank)
  bcast_S512x1_S512x14_0_1 : S512x1.BroadcastsInDim S512x14 (![0, 1] : Fin 2 → Fin S512x14.rank)
  slices_S4x512_S1x512_1_0 : S4x512.Slices ![1, 0] S1x512
  slices_S4x512_S1x512_2_0 : S4x512.Slices ![2, 0] S1x512
  slices_S4x512_S1x512_3_0 : S4x512.Slices ![3, 0] S1x512

variable [Facts]

def fn_part9 {F : FTy → Type} [FloatOps F] (main_arg14 : FVec F S512x14 .f32) (main_v151 : IVec S512x1 32) (main_v177 : IVec S512x14 1) (main_v182 : IVec S512x14 1) : IVec S512x14 1 :=
  let main_v183 : IVec S512x14 1 := andi main_v177 main_v182
  let main_v184 : FVec F S512x1 .f32 := sitofp .f32 main_v151
  let main_v185 : FVec F S512x14 .f32 := broadcastInDim S512x14 ![0, 1] bcast_S512x1_S512x14_0_1 main_v184
  let main_v186 : IVec S512x14 1 := cmpf .oge main_arg14 main_v185
  let main_v187 : IVec S512x14 1 := andi main_v183 main_v186
  let main_c_32 : IVec S_ 32 := constantI S_ 32 15#32
  let main_v188 : IVec S512x1 32 := broadcastInDim S512x1 ![] bcast_S_S512x1 main_c_32
  let main_v189 : IVec S512x1 32 := addi main_v151 main_v188
  let main_v190 : FVec F S512x1 .f32 := sitofp .f32 main_v189
  let main_v191 : FVec F S512x14 .f32 := broadcastInDim S512x14 ![0, 1] bcast_S512x1_S512x14_0_1 main_v190
  let main_v192 : IVec S512x14 1 := cmpf .ole main_arg14 main_v191
  let main_v193 : IVec S512x14 1 := andi main_v187 main_v192
  main_v193

def fn_part8 {F : FTy → Type} [FloatOps F] (main_arg13 : FVec F S512x14 .f32) (main_arg14 : FVec F S512x14 .f32) (main_v148 : IVec S512x1 32) (main_v151 : IVec S512x1 32) (main_v159 : IVec S512x14 1) (main_v162 : IVec S512x14 1) : IVec S512x14 1 :=
  let main_v163 : IVec S512x14 1 := andi main_v159 main_v162
  let main_c_28 : IVec S_ 32 := constantI S_ 32 16#32
  let main_v164 : IVec S512x1 32 := broadcastInDim S512x1 ![] bcast_S_S512x1 main_c_28
  let main_v165 : IVec S512x1 1 := cmpi .sle main_v151 main_v164
  let main_v166 : IVec S512x14 1 := broadcastInDim S512x14 ![0, 1] bcast_S512x1_S512x14_0_1 main_v165
  let main_v167 : IVec S512x14 1 := andi main_v163 main_v166
  let main_c_29 : IVec S_ 32 := constantI S_ 32 7#32
  let main_v168 : IVec S512x1 32 := broadcastInDim S512x1 ![] bcast_S_S512x1 main_c_29
  let main_v169 : IVec S512x1 32 := andi main_v151 main_v168
  let main_c_30 : IVec S_ 32 := constantI S_ 32 0#32
  let main_v170 : IVec S512x1 32 := broadcastInDim S512x1 ![] bcast_S_S512x1 main_c_30
  let main_v171 : IVec S512x1 1 := cmpi .eq main_v169 main_v170
  let main_v172 : IVec S512x14 1 := broadcastInDim S512x14 ![0, 1] bcast_S512x1_S512x14_0_1 main_v171
  let main_v173 : IVec S512x14 1 := andi main_v167 main_v172
  let main_v174 : FVec F S512x1 .f32 := sitofp .f32 main_v148
  let main_v175 : FVec F S512x14 .f32 := broadcastInDim S512x14 ![0, 1] bcast_S512x1_S512x14_0_1 main_v174
  let main_v176 : IVec S512x14 1 := cmpf .oge main_arg13 main_v175
  let main_v177 : IVec S512x14 1 := andi main_v173 main_v176
  let main_c_31 : IVec S_ 32 := constantI S_ 32 15#32
  let main_v178 : IVec S512x1 32 := broadcastInDim S512x1 ![] bcast_S_S512x1 main_c_31
  let main_v179 : IVec S512x1 32 := addi main_v148 main_v178
  let main_v180 : FVec F S512x1 .f32 := sitofp .f32 main_v179
  let main_v181 : FVec F S512x14 .f32 := broadcastInDim S512x14 ![0, 1] bcast_S512x1_S512x14_0_1 main_v180
  let main_v182 : IVec S512x14 1 := cmpf .ole main_arg13 main_v181
  fn_part9 (F := F) main_arg14 main_v151 main_v177 main_v182

def fn_part7 {F : FTy → Type} [FloatOps F] (main_arg5 : IVec S4x512 32) (main_arg6 : IVec S4x512 32) (main_arg12 : FVec F S512x14 .f32) (main_arg13 : FVec F S512x14 .f32) (main_arg14 : FVec F S512x14 .f32) (main_v139 : IVec S512x14 1) (main_v141 : IVec S512x1 32) : IVec S512x14 1 :=
  let main_v142 : FVec F S512x1 .f32 := sitofp .f32 main_v141
  let main_v143 : FVec F S512x14 .f32 := broadcastInDim S512x14 ![0, 1] bcast_S512x1_S512x14_0_1 main_v142
  let main_v144 : IVec S512x14 1 := cmpf .ole main_arg12 main_v143
  let main_v145 : IVec S512x14 1 := andi main_v139 main_v144
  let main_v146 : IVec S1x512 32 := (extractStridedSlice S1x512 ![3, 0] · slices_S4x512_S1x512_3_0) main_arg5
  let main_v147 : IVec S512 32 := shapeCast S512 main_v146 shapeCasts_S1x512_S512
  let main_v148 : IVec S512x1 32 := broadcastInDim S512x1 ![0] bcast_S512_S512x1_0 main_v147
  let main_v149 : IVec S1x512 32 := (extractStridedSlice S1x512 ![3, 0] · slices_S4x512_S1x512_3_0) main_arg6
  let main_v150 : IVec S512 32 := shapeCast S512 main_v149 shapeCasts_S1x512_S512
  let main_v151 : IVec S512x1 32 := broadcastInDim S512x1 ![0] bcast_S512_S512x1_0 main_v150
  let main_c_25 : IVec S_ 32 := constantI S_ 32 0#32
  let main_v152 : IVec S512x1 32 := broadcastInDim S512x1 ![] bcast_S_S512x1 main_c_25
  let main_v153 : IVec S512x1 1 := cmpi .sge main_v148 main_v152
  let main_v154 : IVec S512x14 1 := broadcastInDim S512x14 ![0, 1] bcast_S512x1_S512x14_0_1 main_v153
  let main_v155 : IVec S512x14 1 := andi main_v145 main_v154
  let main_c_26 : IVec S_ 32 := constantI S_ 32 16#32
  let main_v156 : IVec S512x1 32 := broadcastInDim S512x1 ![] bcast_S_S512x1 main_c_26
  let main_v157 : IVec S512x1 1 := cmpi .sle main_v148 main_v156
  let main_v158 : IVec S512x14 1 := broadcastInDim S512x14 ![0, 1] bcast_S512x1_S512x14_0_1 main_v157
  let main_v159 : IVec S512x14 1 := andi main_v155 main_v158
  let main_c_27 : IVec S_ 32 := constantI S_ 32 0#32
  let main_v160 : IVec S512x1 32 := broadcastInDim S512x1 ![] bcast_S_S512x1 main_c_27
  let main_v161 : IVec S512x1 1 := cmpi .sge main_v151 main_v160
  let main_v162 : IVec S512x14 1 := broadcastInDim S512x14 ![0, 1] bcast_S512x1_S512x14_0_1 main_v161
  fn_part8 (F := F) main_arg13 main_arg14 main_v148 main_v151 main_v159 main_v162

def fn_part6 {F : FTy → Type} [FloatOps F] (main_arg5 : IVec S4x512 32) (main_arg6 : IVec S4x512 32) (main_arg11 : FVec F S512x14 .f32) (main_arg12 : FVec F S512x14 .f32) (main_arg13 : FVec F S512x14 .f32) (main_arg14 : FVec F S512x14 .f32) (main_v100 : IVec S512x1 32) (main_v103 : IVec S512x1 32) (main_v119 : IVec S512x14 1) (main_v120 : IVec S512x1 32) : IVec S512x14 1 :=
  let main_v121 : IVec S512x1 32 := andi main_v103 main_v120
  let main_c_22 : IVec S_ 32 := constantI S_ 32 0#32
  let main_v122 : IVec S512x1 32 := broadcastInDim S512x1 ![] bcast_S_S512x1 main_c_22
  let main_v123 : IVec S512x1 1 := cmpi .eq main_v121 main_v122
  let main_v124 : IVec S512x14 1 := broadcastInDim S512x14 ![0, 1] bcast_S512x1_S512x14_0_1 main_v123
  let main_v125 : IVec S512x14 1 := andi main_v119 main_v124
  let main_v126 : FVec F S512x1 .f32 := sitofp .f32 main_v100
  let main_v127 : FVec F S512x14 .f32 := broadcastInDim S512x14 ![0, 1] bcast_S512x1_S512x14_0_1 main_v126
  let main_v128 : IVec S512x14 1 := cmpf .oge main_arg11 main_v127
  let main_v129 : IVec S512x14 1 := andi main_v125 main_v128
  let main_c_23 : IVec S_ 32 := constantI S_ 32 15#32
  let main_v130 : IVec S512x1 32 := broadcastInDim S512x1 ![] bcast_S_S512x1 main_c_23
  let main_v131 : IVec S512x1 32 := addi main_v100 main_v130
  let main_v132 : FVec F S512x1 .f32 := sitofp .f32 main_v131
  let main_v133 : FVec F S512x14 .f32 := broadcastInDim S512x14 ![0, 1] bcast_S512x1_S512x14_0_1 main_v132
  let main_v134 : IVec S512x14 1 := cmpf .ole main_arg11 main_v133
  let main_v135 : IVec S512x14 1 := andi main_v129 main_v134
  let main_v136 : FVec F S512x1 .f32 := sitofp .f32 main_v103
  let main_v137 : FVec F S512x14 .f32 := broadcastInDim S512x14 ![0, 1] bcast_S512x1_S512x14_0_1 main_v136
  let main_v138 : IVec S512x14 1 := cmpf .oge main_arg12 main_v137
  let main_v139 : IVec S512x14 1 := andi main_v135 main_v138
  let main_c_24 : IVec S_ 32 := constantI S_ 32 23#32
  let main_v140 : IVec S512x1 32 := broadcastInDim S512x1 ![] bcast_S_S512x1 main_c_24
  let main_v141 : IVec S512x1 32 := addi main_v103 main_v140
  fn_part7 (F := F) main_arg5 main_arg6 main_arg12 main_arg13 main_arg14 main_v139 main_v141

def fn_part5 {F : FTy → Type} [FloatOps F] (main_arg5 : IVec S4x512 32) (main_arg6 : IVec S4x512 32) (main_arg11 : FVec F S512x14 .f32) (main_arg12 : FVec F S512x14 .f32) (main_arg13 : FVec F S512x14 .f32) (main_arg14 : FVec F S512x14 .f32) (main_v97 : IVec S512x14 1) (main_v100 : IVec S512x1 32) (main_v101 : IVec S1x512 32) : IVec S512x14 1 :=
  let main_v102 : IVec S512 32 := shapeCast S512 main_v101 shapeCasts_S1x512_S512
  let main_v103 : IVec S512x1 32 := broadcastInDim S512x1 ![0] bcast_S512_S512x1_0 main_v102
  let main_c_17 : IVec S_ 32 := constantI S_ 32 0#32
  let main_v104 : IVec S512x1 32 := broadcastInDim S512x1 ![] bcast_S_S512x1 main_c_17
  let main_v105 : IVec S512x1 1 := cmpi .sge main_v100 main_v104
  let main_v106 : IVec S512x14 1 := broadcastInDim S512x14 ![0, 1] bcast_S512x1_S512x14_0_1 main_v105
  let main_v107 : IVec S512x14 1 := andi main_v97 main_v106
  let main_c_18 : IVec S_ 32 := constantI S_ 32 48#32
  let main_v108 : IVec S512x1 32 := broadcastInDim S512x1 ![] bcast_S_S512x1 main_c_18
  let main_v109 : IVec S512x1 1 := cmpi .sle main_v100 main_v108
  let main_v110 : IVec S512x14 1 := broadcastInDim S512x14 ![0, 1] bcast_S512x1_S512x14_0_1 main_v109
  let main_v111 : IVec S512x14 1 := andi main_v107 main_v110
  let main_c_19 : IVec S_ 32 := constantI S_ 32 0#32
  let main_v112 : IVec S512x1 32 := broadcastInDim S512x1 ![] bcast_S_S512x1 main_c_19
  let main_v113 : IVec S512x1 1 := cmpi .sge main_v103 main_v112
  let main_v114 : IVec S512x14 1 := broadcastInDim S512x14 ![0, 1] bcast_S512x1_S512x14_0_1 main_v113
  let main_v115 : IVec S512x14 1 := andi main_v111 main_v114
  let main_c_20 : IVec S_ 32 := constantI S_ 32 40#32
  let main_v116 : IVec S512x1 32 := broadcastInDim S512x1 ![] bcast_S_S512x1 main_c_20
  let main_v117 : IVec S512x1 1 := cmpi .sle main_v103 main_v116
  let main_v118 : IVec S512x14 1 := broadcastInDim S512x14 ![0, 1] bcast_S512x1_S512x14_0_1 main_v117
  let main_v119 : IVec S512x14 1 := andi main_v115 main_v118
  let main_c_21 : IVec S_ 32 := constantI S_ 32 7#32
  let main_v120 : IVec S512x1 32 := broadcastInDim S512x1 ![] bcast_S_S512x1 main_c_21
  fn_part6 (F := F) main_arg5 main_arg6 main_arg11 main_arg12 main_arg13 main_arg14 main_v100 main_v103 main_v119 main_v120

def fn_part4 {F : FTy → Type} [FloatOps F] (main_arg5 : IVec S4x512 32) (main_arg6 : IVec S4x512 32) (main_arg9 : FVec F S512x14 .f32) (main_arg10 : FVec F S512x14 .f32) (main_arg11 : FVec F S512x14 .f32) (main_arg12 : FVec F S512x14 .f32) (main_arg13 : FVec F S512x14 .f32) (main_arg14 : FVec F S512x14 .f32) (main_v52 : IVec S512x1 32) (main_v55 : IVec S512x1 32) (main_v77 : IVec S512x14 1) (main_v79 : FVec F S512x14 .f32) : IVec S512x14 1 :=
  let main_v80 : IVec S512x14 1 := cmpf .oge main_arg9 main_v79
  let main_v81 : IVec S512x14 1 := andi main_v77 main_v80
  let main_c_15 : IVec S_ 32 := constantI S_ 32 31#32
  let main_v82 : IVec S512x1 32 := broadcastInDim S512x1 ![] bcast_S_S512x1 main_c_15
  let main_v83 : IVec S512x1 32 := addi main_v52 main_v82
  let main_v84 : FVec F S512x1 .f32 := sitofp .f32 main_v83
  let main_v85 : FVec F S512x14 .f32 := broadcastInDim S512x14 ![0, 1] bcast_S512x1_S512x14_0_1 main_v84
  let main_v86 : IVec S512x14 1 := cmpf .ole main_arg9 main_v85
  let main_v87 : IVec S512x14 1 := andi main_v81 main_v86
  let main_v88 : FVec F S512x1 .f32 := sitofp .f32 main_v55
  let main_v89 : FVec F S512x14 .f32 := broadcastInDim S512x14 ![0, 1] bcast_S512x1_S512x14_0_1 main_v88
  let main_v90 : IVec S512x14 1 := cmpf .oge main_arg10 main_v89
  let main_v91 : IVec S512x14 1 := andi main_v87 main_v90
  let main_c_16 : IVec S_ 32 := constantI S_ 32 39#32
  let main_v92 : IVec S512x1 32 := broadcastInDim S512x1 ![] bcast_S_S512x1 main_c_16
  let main_v93 : IVec S512x1 32 := addi main_v55 main_v92
  let main_v94 : FVec F S512x1 .f32 := sitofp .f32 main_v93
  let main_v95 : FVec F S512x14 .f32 := broadcastInDim S512x14 ![0, 1] bcast_S512x1_S512x14_0_1 main_v94
  let main_v96 : IVec S512x14 1 := cmpf .ole main_arg10 main_v95
  let main_v97 : IVec S512x14 1 := andi main_v91 main_v96
  let main_v98 : IVec S1x512 32 := (extractStridedSlice S1x512 ![2, 0] · slices_S4x512_S1x512_2_0) main_arg5
  let main_v99 : IVec S512 32 := shapeCast S512 main_v98 shapeCasts_S1x512_S512
  let main_v100 : IVec S512x1 32 := broadcastInDim S512x1 ![0] bcast_S512_S512x1_0 main_v99
  let main_v101 : IVec S1x512 32 := (extractStridedSlice S1x512 ![2, 0] · slices_S4x512_S1x512_2_0) main_arg6
  fn_part5 (F := F) main_arg5 main_arg6 main_arg11 main_arg12 main_arg13 main_arg14 main_v97 main_v100 main_v101

def fn_part3 {F : FTy → Type} [FloatOps F] (main_arg5 : IVec S4x512 32) (main_arg6 : IVec S4x512 32) (main_arg9 : FVec F S512x14 .f32) (main_arg10 : FVec F S512x14 .f32) (main_arg11 : FVec F S512x14 .f32) (main_arg12 : FVec F S512x14 .f32) (main_arg13 : FVec F S512x14 .f32) (main_arg14 : FVec F S512x14 .f32) (main_v52 : IVec S512x1 32) (main_v55 : IVec S512x1 32) (main_v59 : IVec S512x14 1) (main_c_10 : IVec S_ 32) : IVec S512x14 1 :=
  let main_v60 : IVec S512x1 32 := broadcastInDim S512x1 ![] bcast_S_S512x1 main_c_10
  let main_v61 : IVec S512x1 1 := cmpi .sle main_v52 main_v60
  let main_v62 : IVec S512x14 1 := broadcastInDim S512x14 ![0, 1] bcast_S512x1_S512x14_0_1 main_v61
  let main_v63 : IVec S512x14 1 := andi main_v59 main_v62
  let main_c_11 : IVec S_ 32 := constantI S_ 32 0#32
  let main_v64 : IVec S512x1 32 := broadcastInDim S512x1 ![] bcast_S_S512x1 main_c_11
  let main_v65 : IVec S512x1 1 := cmpi .sge main_v55 main_v64
  let main_v66 : IVec S512x14 1 := broadcastInDim S512x14 ![0, 1] bcast_S512x1_S512x14_0_1 main_v65
  let main_v67 : IVec S512x14 1 := andi main_v63 main_v66
  let main_c_12 : IVec S_ 32 := constantI S_ 32 88#32
  let main_v68 : IVec S512x1 32 := broadcastInDim S512x1 ![] bcast_S_S512x1 main_c_12
  let main_v69 : IVec S512x1 1 := cmpi .sle main_v55 main_v68
  let main_v70 : IVec S512x14 1 := broadcastInDim S512x14 ![0, 1] bcast_S512x1_S512x14_0_1 main_v69
  let main_v71 : IVec S512x14 1 := andi main_v67 main_v70
  let main_c_13 : IVec S_ 32 := constantI S_ 32 7#32
  let main_v72 : IVec S512x1 32 := broadcastInDim S512x1 ![] bcast_S_S512x1 main_c_13
  let main_v73 : IVec S512x1 32 := andi main_v55 main_v72
  let main_c_14 : IVec S_ 32 := constantI S_ 32 0#32
  let main_v74 : IVec S512x1 32 := broadcastInDim S512x1 ![] bcast_S_S512x1 main_c_14
  let main_v75 : IVec S512x1 1 := cmpi .eq main_v73 main_v74
  let main_v76 : IVec S512x14 1 := broadcastInDim S512x14 ![0, 1] bcast_S512x1_S512x14_0_1 main_v75
  let main_v77 : IVec S512x14 1 := andi main_v71 main_v76
  let main_v78 : FVec F S512x1 .f32 := sitofp .f32 main_v52
  let main_v79 : FVec F S512x14 .f32 := broadcastInDim S512x14 ![0, 1] bcast_S512x1_S512x14_0_1 main_v78
  fn_part4 (F := F) main_arg5 main_arg6 main_arg9 main_arg10 main_arg11 main_arg12 main_arg13 main_arg14 main_v52 main_v55 main_v77 main_v79

def fn_part2 {F : FTy → Type} [FloatOps F] (main_arg5 : IVec S4x512 32) (main_arg6 : IVec S4x512 32) (main_arg8 : FVec F S512x14 .f32) (main_arg9 : FVec F S512x14 .f32) (main_arg10 : FVec F S512x14 .f32) (main_arg11 : FVec F S512x14 .f32) (main_arg12 : FVec F S512x14 .f32) (main_arg13 : FVec F S512x14 .f32) (main_arg14 : FVec F S512x14 .f32) (main_v11 : IVec S512x1 32) (main_v33 : IVec S512x14 1) (main_v38 : IVec S512x14 1) : IVec S512x14 1 :=
  let main_v39 : IVec S512x14 1 := andi main_v33 main_v38
  let main_v40 : FVec F S512x1 .f32 := sitofp .f32 main_v11
  let main_v41 : FVec F S512x14 .f32 := broadcastInDim S512x14 ![0, 1] bcast_S512x1_S512x14_0_1 main_v40
  let main_v42 : IVec S512x14 1 := cmpf .oge main_arg8 main_v41
  let main_v43 : IVec S512x14 1 := andi main_v39 main_v42
  let main_c_8 : IVec S_ 32 := constantI S_ 32 63#32
  let main_v44 : IVec S512x1 32 := broadcastInDim S512x1 ![] bcast_S_S512x1 main_c_8
  let main_v45 : IVec S512x1 32 := addi main_v11 main_v44
  let main_v46 : FVec F S512x1 .f32 := sitofp .f32 main_v45
  let main_v47 : FVec F S512x14 .f32 := broadcastInDim S512x14 ![0, 1] bcast_S512x1_S512x14_0_1 main_v46
  let main_v48 : IVec S512x14 1 := cmpf .ole main_arg8 main_v47
  let main_v49 : IVec S512x14 1 := andi main_v43 main_v48
  let main_v50 : IVec S1x512 32 := (extractStridedSlice S1x512 ![1, 0] · slices_S4x512_S1x512_1_0) main_arg5
  let main_v51 : IVec S512 32 := shapeCast S512 main_v50 shapeCasts_S1x512_S512
  let main_v52 : IVec S512x1 32 := broadcastInDim S512x1 ![0] bcast_S512_S512x1_0 main_v51
  let main_v53 : IVec S1x512 32 := (extractStridedSlice S1x512 ![1, 0] · slices_S4x512_S1x512_1_0) main_arg6
  let main_v54 : IVec S512 32 := shapeCast S512 main_v53 shapeCasts_S1x512_S512
  let main_v55 : IVec S512x1 32 := broadcastInDim S512x1 ![0] bcast_S512_S512x1_0 main_v54
  let main_c_9 : IVec S_ 32 := constantI S_ 32 0#32
  let main_v56 : IVec S512x1 32 := broadcastInDim S512x1 ![] bcast_S_S512x1 main_c_9
  let main_v57 : IVec S512x1 1 := cmpi .sge main_v52 main_v56
  let main_v58 : IVec S512x14 1 := broadcastInDim S512x14 ![0, 1] bcast_S512x1_S512x14_0_1 main_v57
  let main_v59 : IVec S512x14 1 := andi main_v49 main_v58
  let main_c_10 : IVec S_ 32 := constantI S_ 32 96#32
  fn_part3 (F := F) main_arg5 main_arg6 main_arg9 main_arg10 main_arg11 main_arg12 main_arg13 main_arg14 main_v52 main_v55 main_v59 main_c_10

def fn_part1 {F : FTy → Type} [FloatOps F] (main_arg5 : IVec S4x512 32) (main_arg6 : IVec S4x512 32) (main_arg7 : FVec F S512x14 .f32) (main_arg8 : FVec F S512x14 .f32) (main_arg9 : FVec F S512x14 .f32) (main_arg10 : FVec F S512x14 .f32) (main_arg11 : FVec F S512x14 .f32) (main_arg12 : FVec F S512x14 .f32) (main_arg13 : FVec F S512x14 .f32) (main_arg14 : FVec F S512x14 .f32) (main_v8 : IVec S512x1 32) (main_v11 : IVec S512x1 32) (main_v17 : IVec S512x1 1) (main_v18 : IVec S512x1 32) : IVec S512x14 1 :=
  let main_v19 : IVec S512x1 1 := cmpi .sge main_v11 main_v18
  let main_v20 : IVec S512x1 1 := andi main_v17 main_v19
  let main_c_4 : IVec S_ 32 := constantI S_ 32 192#32
  let main_v21 : IVec S512x1 32 := broadcastInDim S512x1 ![] bcast_S_S512x1 main_c_4
  let main_v22 : IVec S512x1 1 := cmpi .sle main_v11 main_v21
  let main_v23 : IVec S512x1 1 := andi main_v20 main_v22
  let main_c_5 : IVec S_ 32 := constantI S_ 32 7#32
  let main_v24 : IVec S512x1 32 := broadcastInDim S512x1 ![] bcast_S_S512x1 main_c_5
  let main_v25 : IVec S512x1 32 := andi main_v11 main_v24
  let main_c_6 : IVec S_ 32 := constantI S_ 32 0#32
  let main_v26 : IVec S512x1 32 := broadcastInDim S512x1 ![] bcast_S_S512x1 main_c_6
  let main_v27 : IVec S512x1 1 := cmpi .eq main_v25 main_v26
  let main_v28 : IVec S512x1 1 := andi main_v23 main_v27
  let main_v29 : FVec F S512x1 .f32 := sitofp .f32 main_v8
  let main_v30 : FVec F S512x14 .f32 := broadcastInDim S512x14 ![0, 1] bcast_S512x1_S512x14_0_1 main_v29
  let main_v31 : IVec S512x14 1 := cmpf .oge main_arg7 main_v30
  let main_v32 : IVec S512x14 1 := broadcastInDim S512x14 ![0, 1] bcast_S512x1_S512x14_0_1 main_v28
  let main_v33 : IVec S512x14 1 := andi main_v32 main_v31
  let main_c_7 : IVec S_ 32 := constantI S_ 32 55#32
  let main_v34 : IVec S512x1 32 := broadcastInDim S512x1 ![] bcast_S_S512x1 main_c_7
  let main_v35 : IVec S512x1 32 := addi main_v8 main_v34
  let main_v36 : FVec F S512x1 .f32 := sitofp .f32 main_v35
  let main_v37 : FVec F S512x14 .f32 := broadcastInDim S512x14 ![0, 1] bcast_S512x1_S512x14_0_1 main_v36
  let main_v38 : IVec S512x14 1 := cmpf .ole main_arg7 main_v37
  fn_part2 (F := F) main_arg5 main_arg6 main_arg8 main_arg9 main_arg10 main_arg11 main_arg12 main_arg13 main_arg14 main_v11 main_v33 main_v38

def fn {F : FTy → Type} [FloatOps F] (main_arg0 : FVec F S2x256x256x256 .f32) (main_arg1 : FVec F S2x256x128x128 .f32) (main_arg2 : FVec F S2x256x64x64 .f32) (main_arg3 : FVec F S2x256x32x32 .f32) (main_arg4 : IVec S512 32) (main_arg5 : IVec S4x512 32) (main_arg6 : IVec S4x512 32) (main_arg7 : FVec F S512x14 .f32) (main_arg8 : FVec F S512x14 .f32) (main_arg9 : FVec F S512x14 .f32) (main_arg10 : FVec F S512x14 .f32) (main_arg11 : FVec F S512x14 .f32) (main_arg12 : FVec F S512x14 .f32) (main_arg13 : FVec F S512x14 .f32) (main_arg14 : FVec F S512x14 .f32) (main_arg15 : FVec F S256x1024 .f32) (main_arg16 : FVec F S256 .f32) : IVec S512x14 1 :=
  let main_c : IVec S_ 32 := constantI S_ 32 0#32
  let main_v0 : IVec S512 32 := broadcastInDim S512 ![] bcast_S_S512 main_c
  let main_v1 : IVec S512 1 := cmpi .sge main_arg4 main_v0
  let main_c_0 : IVec S_ 32 := constantI S_ 32 2#32
  let main_v2 : IVec S512 32 := broadcastInDim S512 ![] bcast_S_S512 main_c_0
  let main_v3 : IVec S512 1 := cmpi .slt main_arg4 main_v2
  let main_v4 : IVec S512 1 := andi main_v1 main_v3
  let main_v5 : IVec S512x1 1 := broadcastInDim S512x1 ![0] bcast_S512_S512x1_0 main_v4
  let main_v6 : IVec S1x512 32 := (extractStridedSlice S1x512 ![0, 0] · slices_S4x512_S1x512_0_0) main_arg5
  let main_v7 : IVec S512 32 := shapeCast S512 main_v6 shapeCasts_S1x512_S512
  let main_v8 : IVec S512x1 32 := broadcastInDim S512x1 ![0] bcast_S512_S512x1_0 main_v7
  let main_v9 : IVec S1x512 32 := (extractStridedSlice S1x512 ![0, 0] · slices_S4x512_S1x512_0_0) main_arg6
  let main_v10 : IVec S512 32 := shapeCast S512 main_v9 shapeCasts_S1x512_S512
  let main_v11 : IVec S512x1 32 := broadcastInDim S512x1 ![0] bcast_S512_S512x1_0 main_v10
  let main_c_1 : IVec S_ 32 := constantI S_ 32 0#32
  let main_v12 : IVec S512x1 32 := broadcastInDim S512x1 ![] bcast_S_S512x1 main_c_1
  let main_v13 : IVec S512x1 1 := cmpi .sge main_v8 main_v12
  let main_v14 : IVec S512x1 1 := andi main_v5 main_v13
  let main_c_2 : IVec S_ 32 := constantI S_ 32 200#32
  let main_v15 : IVec S512x1 32 := broadcastInDim S512x1 ![] bcast_S_S512x1 main_c_2
  let main_v16 : IVec S512x1 1 := cmpi .sle main_v8 main_v15
  let main_v17 : IVec S512x1 1 := andi main_v14 main_v16
  let main_c_3 : IVec S_ 32 := constantI S_ 32 0#32
  let main_v18 : IVec S512x1 32 := broadcastInDim S512x1 ![] bcast_S_S512x1 main_c_3
  fn_part1 (F := F) main_arg5 main_arg6 main_arg7 main_arg8 main_arg9 main_arg10 main_arg11 main_arg12 main_arg13 main_arg14 main_v8 main_v11 main_v17 main_v18
-- ==== Kernel.lean ====
abbrev S2x256x256x256 : Shape := ⟨4, ![2, 256, 256, 256]⟩
abbrev S2x256x128x128 : Shape := ⟨4, ![2, 256, 128, 128]⟩
abbrev S2x256x64x64 : Shape := ⟨4, ![2, 256, 64, 64]⟩
abbrev S2x256x32x32 : Shape := ⟨4, ![2, 256, 32, 32]⟩
abbrev S512x4 : Shape := ⟨2, ![512, 4]⟩
abbrev S512 : Shape := ⟨1, ![512]⟩
abbrev S256x1024 : Shape := ⟨2, ![256, 1024]⟩
abbrev S256 : Shape := ⟨1, ![256]⟩
abbrev S2x128x128x256 : Shape := ⟨4, ![2, 128, 128, 256]⟩
abbrev S2x64x64x256 : Shape := ⟨4, ![2, 64, 64, 256]⟩
abbrev S2x32x32x256 : Shape := ⟨4, ![2, 32, 32, 256]⟩
abbrev S512x1 : Shape := ⟨2, ![512, 1]⟩
abbrev S_ : Shape := ⟨0, ![]⟩
abbrev S7 : Shape := ⟨1, ![7]⟩
abbrev S7x1 : Shape := ⟨2, ![7, 1]⟩
abbrev S2 : Shape := ⟨1, ![2]⟩
abbrev S1x2 : Shape := ⟨2, ![1, 2]⟩
abbrev S7x2 : Shape := ⟨2, ![7, 2]⟩
abbrev S14 : Shape := ⟨1, ![14]⟩
abbrev S1x14 : Shape := ⟨2, ![1, 14]⟩
abbrev S512x14 : Shape := ⟨2, ![512, 14]⟩
abbrev S56 : Shape := ⟨1, ![56]⟩
abbrev S1x1x56 : Shape := ⟨3, ![1, 1, 56]⟩
abbrev S512x14x1 : Shape := ⟨3, ![512, 14, 1]⟩
abbrev S512x14x56 : Shape := ⟨3, ![512, 14, 56]⟩
abbrev S512x7x2x56 : Shape := ⟨4, ![512, 7, 2, 56]⟩
abbrev S512x7x56 : Shape := ⟨3, ![512, 7, 56]⟩
abbrev S64 : Shape := ⟨1, ![64]⟩
abbrev S1x1x64 : Shape := ⟨3, ![1, 1, 64]⟩
abbrev S512x14x64 : Shape := ⟨3, ![512, 14, 64]⟩
abbrev S512x7x2x64 : Shape := ⟨4, ![512, 7, 2, 64]⟩
abbrev S512x7x64 : Shape := ⟨3, ![512, 7, 64]⟩
abbrev S512x56x7 : Shape := ⟨3, ![512, 56, 7]⟩
abbrev S512x56x7x7 : Shape := ⟨4, ![512, 56, 7, 7]⟩
abbrev S512x56x49 : Shape := ⟨3, ![512, 56, 49]⟩
abbrev S512x64x7 : Shape := ⟨3, ![512, 64, 7]⟩
abbrev S1x512x1x64x1x7 : Shape := ⟨6, ![1, 512, 1, 64, 1, 7]⟩
abbrev S1x512x1x64x7x7 : Shape := ⟨6, ![1, 512, 1, 64, 7, 7]⟩
abbrev S512x64x49 : Shape := ⟨3, ![512, 64, 49]⟩
abbrev S32 : Shape := ⟨1, ![32]⟩
abbrev S1x1x32 : Shape := ⟨3, ![1, 1, 32]⟩
abbrev S512x14x32 : Shape := ⟨3, ![512, 14, 32]⟩
abbrev S512x7x2x32 : Shape := ⟨4, ![512, 7, 2, 32]⟩
abbrev S512x7x32 : Shape := ⟨3, ![512, 7, 32]⟩
abbrev S40 : Shape := ⟨1, ![40]⟩
abbrev S1x1x40 : Shape := ⟨3, ![1, 1, 40]⟩
abbrev S512x14x40 : Shape := ⟨3, ![512, 14, 40]⟩
abbrev S512x7x2x40 : Shape := ⟨4, ![512, 7, 2, 40]⟩
abbrev S512x7x40 : Shape := ⟨3, ![512, 7, 40]⟩
abbrev S512x32x7 : Shape := ⟨3, ![512, 32, 7]⟩
abbrev S512x32x7x7 : Shape := ⟨4, ![512, 32, 7, 7]⟩
abbrev S512x32x49 : Shape := ⟨3, ![512, 32, 49]⟩
abbrev S512x40x7 : Shape := ⟨3, ![512, 40, 7]⟩
abbrev S1x512x1x40x1x7 : Shape := ⟨6, ![1, 512, 1, 40, 1, 7]⟩
abbrev S1x512x1x40x7x7 : Shape := ⟨6, ![1, 512, 1, 40, 7, 7]⟩
abbrev S512x40x49 : Shape := ⟨3, ![512, 40, 49]⟩
abbrev S16 : Shape := ⟨1, ![16]⟩
abbrev S1x1x16 : Shape := ⟨3, ![1, 1, 16]⟩
abbrev S512x14x16 : Shape := ⟨3, ![512, 14, 16]⟩
abbrev S512x7x2x16 : Shape := ⟨4, ![512, 7, 2, 16]⟩
abbrev S512x7x16 : Shape := ⟨3, ![512, 7, 16]⟩
abbrev S24 : Shape := ⟨1, ![24]⟩
abbrev S1x1x24 : Shape := ⟨3, ![1, 1, 24]⟩
abbrev S512x14x24 : Shape := ⟨3, ![512, 14, 24]⟩
abbrev S512x7x2x24 : Shape := ⟨4, ![512, 7, 2, 24]⟩
abbrev S512x7x24 : Shape := ⟨3, ![512, 7, 24]⟩
abbrev S512x16x7 : Shape := ⟨3, ![512, 16, 7]⟩
abbrev S512x16x7x7 : Shape := ⟨4, ![512, 16, 7, 7]⟩
abbrev S512x16x49 : Shape := ⟨3, ![512, 16, 49]⟩
abbrev S512x24x7 : Shape := ⟨3, ![512, 24, 7]⟩
abbrev S1x512x1x24x1x7 : Shape := ⟨6, ![1, 512, 1, 24, 1, 7]⟩
abbrev S1x512x1x24x7x7 : Shape := ⟨6, ![1, 512, 1, 24, 7, 7]⟩
abbrev S512x24x49 : Shape := ⟨3, ![512, 24, 49]⟩
abbrev S1x512x1x16x1x7 : Shape := ⟨6, ![1, 512, 1, 16, 1, 7]⟩
abbrev S1x512x1x16x7x7 : Shape := ⟨6, ![1, 512, 1, 16, 7, 7]⟩
abbrev S1x512 : Shape := ⟨2, ![1, 512]⟩
abbrev S4x512 : Shape := ⟨2, ![4, 512]⟩
abbrev S256x4x256 : Shape := ⟨3, ![256, 4, 256]⟩
abbrev S4x256x256 : Shape := ⟨3, ![4, 256, 256]⟩
abbrev S1x256 : Shape := ⟨2, ![1, 256]⟩
abbrev S512x49x256 : Shape := ⟨3, ![512, 49, 256]⟩
abbrev S512x256x49 : Shape := ⟨3, ![512, 256, 49]⟩
abbrev S512x256x7x7 : Shape := ⟨4, ![512, 256, 7, 7]⟩
abbrev S1x56x49 : Shape := ⟨3, ![1, 56, 49]⟩
abbrev S1x64x49 : Shape := ⟨3, ![1, 64, 49]⟩
abbrev S1x32x49 : Shape := ⟨3, ![1, 32, 49]⟩
abbrev S1x40x49 : Shape := ⟨3, ![1, 40, 49]⟩
abbrev S1x16x49 : Shape := ⟨3, ![1, 16, 49]⟩
abbrev S1x24x49 : Shape := ⟨3, ![1, 24, 49]⟩
abbrev S1x49x256 : Shape := ⟨3, ![1, 49, 256]⟩
abbrev S2x56x64x256 : Shape := ⟨4, ![2, 56, 64, 256]⟩
abbrev S2x32x40x256 : Shape := ⟨4, ![2, 32, 40, 256]⟩
abbrev S2x16x24x256 : Shape := ⟨4, ![2, 16, 24, 256]⟩
abbrev S2x16x16x256 : Shape := ⟨4, ![2, 16, 16, 256]⟩
abbrev S2x4 : Shape := ⟨2, ![2, 4]⟩
abbrev S1 : Shape := ⟨1, ![1]⟩
abbrev S1x1 : Shape := ⟨2, ![1, 1]⟩
abbrev S1x56x64x256 : Shape := ⟨4, ![1, 56, 64, 256]⟩
abbrev S56x64x256 : Shape := ⟨3, ![56, 64, 256]⟩
abbrev S1x32x40x256 : Shape := ⟨4, ![1, 32, 40, 256]⟩
abbrev S32x40x256 : Shape := ⟨3, ![32, 40, 256]⟩
abbrev S1x16x24x256 : Shape := ⟨4, ![1, 16, 24, 256]⟩
abbrev S16x24x256 : Shape := ⟨3, ![16, 24, 256]⟩
abbrev S1x16x16x256 : Shape := ⟨4, ![1, 16, 16, 256]⟩
abbrev S16x16x256 : Shape := ⟨3, ![16, 16, 256]⟩
abbrev S56x49 : Shape := ⟨2, ![56, 49]⟩
abbrev S64x49 : Shape := ⟨2, ![64, 49]⟩
abbrev S56x1x49 : Shape := ⟨3, ![56, 1, 49]⟩
abbrev S56x64x49 : Shape := ⟨3, ![56, 64, 49]⟩
abbrev S3584x49 : Shape := ⟨2, ![3584, 49]⟩
abbrev S3584x256 : Shape := ⟨2, ![3584, 256]⟩
abbrev S49x256 : Shape := ⟨2, ![49, 256]⟩
abbrev S1x256x256 : Shape := ⟨3, ![1, 256, 256]⟩
abbrev S256x256 : Shape := ⟨2, ![256, 256]⟩
abbrev S32x49 : Shape := ⟨2, ![32, 49]⟩
abbrev S40x49 : Shape := ⟨2, ![40, 49]⟩
abbrev S32x1x49 : Shape := ⟨3, ![32, 1, 49]⟩
abbrev S32x40x49 : Shape := ⟨3, ![32, 40, 49]⟩
abbrev S1280x49 : Shape := ⟨2, ![1280, 49]⟩
abbrev S1280x256 : Shape := ⟨2, ![1280, 256]⟩
abbrev S16x49 : Shape := ⟨2, ![16, 49]⟩
abbrev S24x49 : Shape := ⟨2, ![24, 49]⟩
abbrev S16x1x49 : Shape := ⟨3, ![16, 1, 49]⟩
abbrev S16x24x49 : Shape := ⟨3, ![16, 24, 49]⟩
abbrev S384x49 : Shape := ⟨2, ![384, 49]⟩
abbrev S384x256 : Shape := ⟨2, ![384, 256]⟩
abbrev S16x16x49 : Shape := ⟨3, ![16, 16, 49]⟩
abbrev S256x49 : Shape := ⟨2, ![256, 49]⟩

abbrev nBuf : Space → Nat
  | .hbm => 945
  | .vmem => 24
  | .smem => 3
  | _ => 0

abbrev hbmTy0_0 (i : Nat) : BufTy := match i % 128 with
  | 0 => ⟨S2x256x256x256, .f32⟩
  | 1 => ⟨S2x256x128x128, .f32⟩
  | 2 => ⟨S2x256x64x64, .f32⟩
  | 3 => ⟨S2x256x32x32, .f32⟩
  | 4 => ⟨S512x4, .f32⟩
  | 5 => ⟨S256x1024, .f32⟩
  | 6 => ⟨S256, .f32⟩
  | 7 => ⟨S2x256x256x256, .f32⟩
  | 8 => ⟨S2x128x128x256, .f32⟩
  | 9 => ⟨S2x64x64x256, .f32⟩
  | 10 => ⟨S2x32x32x256, .f32⟩
  | 11 => ⟨S512x1, .f32⟩
  | 12 => ⟨S512, .f32⟩
  | 13 => ⟨S_, .f32⟩
  | 14 => ⟨S512, .f32⟩
  | 15 => ⟨S512, .f32⟩
  | 16 => ⟨S512x1, .f32⟩
  | 17 => ⟨S512, .f32⟩
  | 18 => ⟨S_, .f32⟩
  | 19 => ⟨S512, .f32⟩
  | 20 => ⟨S512, .f32⟩
  | 21 => ⟨S512, .f32⟩
  | 22 => ⟨S_, .f32⟩
  | 23 => ⟨S512, .f32⟩
  | 24 => ⟨S512, .f32⟩
  | 25 => ⟨S_, .f32⟩
  | 26 => ⟨S512, .f32⟩
  | 27 => ⟨S512, .f32⟩
  | 28 => ⟨S7, .f32⟩
  | 29 => ⟨S7x1, .f32⟩
  | 30 => ⟨S2, .f32⟩
  | 31 => ⟨S1x2, .f32⟩
  | 32 => ⟨S_, .f32⟩
  | 33 => ⟨S1x2, .f32⟩
  | 34 => ⟨S1x2, .f32⟩
  | 35 => ⟨S_, .f32⟩
  | 36 => ⟨S1x2, .f32⟩
  | 37 => ⟨S1x2, .f32⟩
  | 38 => ⟨S7x2, .f32⟩
  | 39 => ⟨S7x2, .f32⟩
  | 40 => ⟨S7x2, .f32⟩
  | 41 => ⟨S14, .f32⟩
  | 42 => ⟨S512x1, .f32⟩
  | 43 => ⟨S1x14, .f32⟩
  | 44 => ⟨S512x1, .f32⟩
  | 45 => ⟨S512x14, .f32⟩
  | 46 => ⟨S512x14, .f32⟩
  | 47 => ⟨S512x14, .f32⟩
  | 48 => ⟨S512x14, .f32⟩
  | 49 => ⟨S512x14, .f32⟩
  | 50 => ⟨S_, .f32⟩
  | 51 => ⟨S_, .f32⟩
  | 52 => ⟨S_, .f32⟩
  | 53 => ⟨S512x14, .f32⟩
  | 54 => ⟨S512x14, .f32⟩
  | 55 => ⟨S_, .f32⟩
  | 56 => ⟨S512x14, .f32⟩
  | 57 => ⟨S512x14, .f32⟩
  | 58 => ⟨S512x14, .f32⟩
  | 59 => ⟨S512x14, .f32⟩
  | 60 => ⟨S512x14, .i32⟩
  | 61 => ⟨S_, .i32⟩
  | 62 => ⟨S512x14, .i32⟩
  | 63 => ⟨S512x14, .i32⟩
  | 64 => ⟨S_, .i32⟩
  | 65 => ⟨S512x14, .i32⟩
  | 66 => ⟨S512x14, .i32⟩
  | 67 => ⟨S_, .i32⟩
  | 68 => ⟨S512, .i32⟩
  | 69 => ⟨S_, .i32⟩
  | 70 => ⟨S_, .i32⟩
  | 71 => ⟨S_, .i32⟩
  | 72 => ⟨S512, .i32⟩
  | 73 => ⟨S512, .i32⟩
  | 74 => ⟨S_, .i32⟩
  | 75 => ⟨S512, .i32⟩
  | 76 => ⟨S512, .i32⟩
  | 77 => ⟨S512x1, .i32⟩
  | 78 => ⟨S512x14, .i32⟩
  | 79 => ⟨S512x14, .i32⟩
  | 80 => ⟨S512x1, .i32⟩
  | 81 => ⟨S512x14, .i32⟩
  | 82 => ⟨S512x14, .i32⟩
  | 83 => ⟨S56, .i32⟩
  | 84 => ⟨S1x1x56, .i32⟩
  | 85 => ⟨S512x14x1, .i32⟩
  | 86 => ⟨S512x14x56, .i32⟩
  | 87 => ⟨S512x14x56, .i32⟩
  | 88 => ⟨S512x14x56, .i1⟩
  | 89 => ⟨S512x14x56, .f32⟩
  | 90 => ⟨S_, .f32⟩
  | 91 => ⟨S512x14, .f32⟩
  | 92 => ⟨S512x14, .f32⟩
  | 93 => ⟨S512x14x1, .f32⟩
  | 94 => ⟨S512x14x56, .f32⟩
  | 95 => ⟨S512x14x56, .f32⟩
  | 96 => ⟨S1x1x56, .i32⟩
  | 97 => ⟨S512x14x1, .i32⟩
  | 98 => ⟨S512x14x56, .i32⟩
  | 99 => ⟨S512x14x56, .i32⟩
  | 100 => ⟨S512x14x56, .i1⟩
  | 101 => ⟨S512x14x56, .f32⟩
  | 102 => ⟨S512x14x1, .f32⟩
  | 103 => ⟨S512x14x56, .f32⟩
  | 104 => ⟨S512x14x56, .f32⟩
  | 105 => ⟨S512x14x56, .f32⟩
  | 106 => ⟨S512x7x2x56, .f32⟩
  | 107 => ⟨S_, .f32⟩
  | 108 => ⟨S512x7x56, .f32⟩
  | 109 => ⟨S_, .f32⟩
  | 110 => ⟨S512x7x56, .f32⟩
  | 111 => ⟨S512x7x56, .f32⟩
  | 112 => ⟨S512x1, .f32⟩
  | 113 => ⟨S512, .f32⟩
  | 114 => ⟨S_, .f32⟩
  | 115 => ⟨S512, .f32⟩
  | 116 => ⟨S512, .f32⟩
  | 117 => ⟨S512x1, .f32⟩
  | 118 => ⟨S512, .f32⟩
  | 119 => ⟨S_, .f32⟩
  | 120 => ⟨S512, .f32⟩
  | 121 => ⟨S512, .f32⟩
  | 122 => ⟨S512, .f32⟩
  | 123 => ⟨S_, .f32⟩
  | 124 => ⟨S512, .f32⟩
  | 125 => ⟨S512, .f32⟩
  | 126 => ⟨S_, .f32⟩
  | 127 => ⟨S512, .f32⟩
  | _ => ⟨S2x256x256x256, .f32⟩

abbrev hbmTy0_1 (i : Nat) : BufTy := match i % 128 with
  | 0 => ⟨S512, .f32⟩
  | 1 => ⟨S7, .f32⟩
  | 2 => ⟨S7x1, .f32⟩
  | 3 => ⟨S2, .f32⟩
  | 4 => ⟨S1x2, .f32⟩
  | 5 => ⟨S_, .f32⟩
  | 6 => ⟨S1x2, .f32⟩
  | 7 => ⟨S1x2, .f32⟩
  | 8 => ⟨S_, .f32⟩
  | 9 => ⟨S1x2, .f32⟩
  | 10 => ⟨S1x2, .f32⟩
  | 11 => ⟨S7x2, .f32⟩
  | 12 => ⟨S7x2, .f32⟩
  | 13 => ⟨S7x2, .f32⟩
  | 14 => ⟨S14, .f32⟩
  | 15 => ⟨S512x1, .f32⟩
  | 16 => ⟨S1x14, .f32⟩
  | 17 => ⟨S512x1, .f32⟩
  | 18 => ⟨S512x14, .f32⟩
  | 19 => ⟨S512x14, .f32⟩
  | 20 => ⟨S512x14, .f32⟩
  | 21 => ⟨S512x14, .f32⟩
  | 22 => ⟨S512x14, .f32⟩
  | 23 => ⟨S_, .f32⟩
  | 24 => ⟨S_, .f32⟩
  | 25 => ⟨S_, .f32⟩
  | 26 => ⟨S512x14, .f32⟩
  | 27 => ⟨S512x14, .f32⟩
  | 28 => ⟨S_, .f32⟩
  | 29 => ⟨S512x14, .f32⟩
  | 30 => ⟨S512x14, .f32⟩
  | 31 => ⟨S512x14, .f32⟩
  | 32 => ⟨S512x14, .f32⟩
  | 33 => ⟨S512x14, .i32⟩
  | 34 => ⟨S_, .i32⟩
  | 35 => ⟨S512x14, .i32⟩
  | 36 => ⟨S512x14, .i32⟩
  | 37 => ⟨S_, .i32⟩
  | 38 => ⟨S512x14, .i32⟩
  | 39 => ⟨S512x14, .i32⟩
  | 40 => ⟨S_, .i32⟩
  | 41 => ⟨S512, .i32⟩
  | 42 => ⟨S_, .i32⟩
  | 43 => ⟨S_, .i32⟩
  | 44 => ⟨S512, .i32⟩
  | 45 => ⟨S512, .i32⟩
  | 46 => ⟨S512, .i32⟩
  | 47 => ⟨S_, .i32⟩
  | 48 => ⟨S512, .i32⟩
  | 49 => ⟨S512, .i1⟩
  | 50 => ⟨S512, .i32⟩
  | 51 => ⟨S512, .i32⟩
  | 52 => ⟨S_, .i32⟩
  | 53 => ⟨S512, .i32⟩
  | 54 => ⟨S512, .i1⟩
  | 55 => ⟨S512, .i1⟩
  | 56 => ⟨S_, .i32⟩
  | 57 => ⟨S512, .i32⟩
  | 58 => ⟨S512, .i32⟩
  | 59 => ⟨S512, .i32⟩
  | 60 => ⟨S_, .i32⟩
  | 61 => ⟨S512, .i32⟩
  | 62 => ⟨S512, .i32⟩
  | 63 => ⟨S_, .i32⟩
  | 64 => ⟨S_, .i32⟩
  | 65 => ⟨S_, .i32⟩
  | 66 => ⟨S512, .i32⟩
  | 67 => ⟨S512, .i32⟩
  | 68 => ⟨S_, .i32⟩
  | 69 => ⟨S512, .i32⟩
  | 70 => ⟨S512, .i32⟩
  | 71 => ⟨S512x1, .i32⟩
  | 72 => ⟨S512x14, .i32⟩
  | 73 => ⟨S512x14, .i32⟩
  | 74 => ⟨S512x1, .i32⟩
  | 75 => ⟨S512x14, .i32⟩
  | 76 => ⟨S512x14, .i32⟩
  | 77 => ⟨S64, .i32⟩
  | 78 => ⟨S1x1x64, .i32⟩
  | 79 => ⟨S512x14x1, .i32⟩
  | 80 => ⟨S512x14x64, .i32⟩
  | 81 => ⟨S512x14x64, .i32⟩
  | 82 => ⟨S512x14x64, .i1⟩
  | 83 => ⟨S512x14x64, .f32⟩
  | 84 => ⟨S_, .f32⟩
  | 85 => ⟨S512x14, .f32⟩
  | 86 => ⟨S512x14, .f32⟩
  | 87 => ⟨S512x14x1, .f32⟩
  | 88 => ⟨S512x14x64, .f32⟩
  | 89 => ⟨S512x14x64, .f32⟩
  | 90 => ⟨S1x1x64, .i32⟩
  | 91 => ⟨S512x14x1, .i32⟩
  | 92 => ⟨S512x14x64, .i32⟩
  | 93 => ⟨S512x14x64, .i32⟩
  | 94 => ⟨S512x14x64, .i1⟩
  | 95 => ⟨S512x14x64, .f32⟩
  | 96 => ⟨S512x14x1, .f32⟩
  | 97 => ⟨S512x14x64, .f32⟩
  | 98 => ⟨S512x14x64, .f32⟩
  | 99 => ⟨S512x14x64, .f32⟩
  | 100 => ⟨S512x7x2x64, .f32⟩
  | 101 => ⟨S_, .f32⟩
  | 102 => ⟨S512x7x64, .f32⟩
  | 103 => ⟨S_, .f32⟩
  | 104 => ⟨S512x7x64, .f32⟩
  | 105 => ⟨S512x7x64, .f32⟩
  | 106 => ⟨S512x56x7, .f32⟩
  | 107 => ⟨S512x56x7x7, .f32⟩
  | 108 => ⟨S512x56x49, .f32⟩
  | 109 => ⟨S512x64x7, .f32⟩
  | 110 => ⟨S1x512x1x64x1x7, .f32⟩
  | 111 => ⟨S1x512x1x64x7x7, .f32⟩
  | 112 => ⟨S512x64x49, .f32⟩
  | 113 => ⟨S512x1, .f32⟩
  | 114 => ⟨S512, .f32⟩
  | 115 => ⟨S_, .f32⟩
  | 116 => ⟨S512, .f32⟩
  | 117 => ⟨S512, .f32⟩
  | 118 => ⟨S512x1, .f32⟩
  | 119 => ⟨S512, .f32⟩
  | 120 => ⟨S_, .f32⟩
  | 121 => ⟨S512, .f32⟩
  | 122 => ⟨S512, .f32⟩
  | 123 => ⟨S512, .f32⟩
  | 124 => ⟨S_, .f32⟩
  | 125 => ⟨S512, .f32⟩
  | 126 => ⟨S512, .f32⟩
  | 127 => ⟨S_, .f32⟩
  | _ => ⟨S2x256x256x256, .f32⟩

abbrev hbmTy0_2 (i : Nat) : BufTy := match i % 128 with
  | 0 => ⟨S512, .f32⟩
  | 1 => ⟨S512, .f32⟩
  | 2 => ⟨S7, .f32⟩
  | 3 => ⟨S7x1, .f32⟩
  | 4 => ⟨S2, .f32⟩
  | 5 => ⟨S1x2, .f32⟩
  | 6 => ⟨S_, .f32⟩
  | 7 => ⟨S1x2, .f32⟩
  | 8 => ⟨S1x2, .f32⟩
  | 9 => ⟨S_, .f32⟩
  | 10 => ⟨S1x2, .f32⟩
  | 11 => ⟨S1x2, .f32⟩
  | 12 => ⟨S7x2, .f32⟩
  | 13 => ⟨S7x2, .f32⟩
  | 14 => ⟨S7x2, .f32⟩
  | 15 => ⟨S14, .f32⟩
  | 16 => ⟨S512x1, .f32⟩
  | 17 => ⟨S1x14, .f32⟩
  | 18 => ⟨S512x1, .f32⟩
  | 19 => ⟨S512x14, .f32⟩
  | 20 => ⟨S512x14, .f32⟩
  | 21 => ⟨S512x14, .f32⟩
  | 22 => ⟨S512x14, .f32⟩
  | 23 => ⟨S512x14, .f32⟩
  | 24 => ⟨S_, .f32⟩
  | 25 => ⟨S_, .f32⟩
  | 26 => ⟨S_, .f32⟩
  | 27 => ⟨S512x14, .f32⟩
  | 28 => ⟨S512x14, .f32⟩
  | 29 => ⟨S_, .f32⟩
  | 30 => ⟨S512x14, .f32⟩
  | 31 => ⟨S512x14, .f32⟩
  | 32 => ⟨S512x14, .f32⟩
  | 33 => ⟨S512x14, .f32⟩
  | 34 => ⟨S512x14, .i32⟩
  | 35 => ⟨S_, .i32⟩
  | 36 => ⟨S512x14, .i32⟩
  | 37 => ⟨S512x14, .i32⟩
  | 38 => ⟨S_, .i32⟩
  | 39 => ⟨S512x14, .i32⟩
  | 40 => ⟨S512x14, .i32⟩
  | 41 => ⟨S_, .i32⟩
  | 42 => ⟨S512, .i32⟩
  | 43 => ⟨S_, .i32⟩
  | 44 => ⟨S_, .i32⟩
  | 45 => ⟨S_, .i32⟩
  | 46 => ⟨S512, .i32⟩
  | 47 => ⟨S512, .i32⟩
  | 48 => ⟨S_, .i32⟩
  | 49 => ⟨S512, .i32⟩
  | 50 => ⟨S512, .i32⟩
  | 51 => ⟨S512x1, .i32⟩
  | 52 => ⟨S512x14, .i32⟩
  | 53 => ⟨S512x14, .i32⟩
  | 54 => ⟨S512x1, .i32⟩
  | 55 => ⟨S512x14, .i32⟩
  | 56 => ⟨S512x14, .i32⟩
  | 57 => ⟨S32, .i32⟩
  | 58 => ⟨S1x1x32, .i32⟩
  | 59 => ⟨S512x14x1, .i32⟩
  | 60 => ⟨S512x14x32, .i32⟩
  | 61 => ⟨S512x14x32, .i32⟩
  | 62 => ⟨S512x14x32, .i1⟩
  | 63 => ⟨S512x14x32, .f32⟩
  | 64 => ⟨S_, .f32⟩
  | 65 => ⟨S512x14, .f32⟩
  | 66 => ⟨S512x14, .f32⟩
  | 67 => ⟨S512x14x1, .f32⟩
  | 68 => ⟨S512x14x32, .f32⟩
  | 69 => ⟨S512x14x32, .f32⟩
  | 70 => ⟨S1x1x32, .i32⟩
  | 71 => ⟨S512x14x1, .i32⟩
  | 72 => ⟨S512x14x32, .i32⟩
  | 73 => ⟨S512x14x32, .i32⟩
  | 74 => ⟨S512x14x32, .i1⟩
  | 75 => ⟨S512x14x32, .f32⟩
  | 76 => ⟨S512x14x1, .f32⟩
  | 77 => ⟨S512x14x32, .f32⟩
  | 78 => ⟨S512x14x32, .f32⟩
  | 79 => ⟨S512x14x32, .f32⟩
  | 80 => ⟨S512x7x2x32, .f32⟩
  | 81 => ⟨S_, .f32⟩
  | 82 => ⟨S512x7x32, .f32⟩
  | 83 => ⟨S_, .f32⟩
  | 84 => ⟨S512x7x32, .f32⟩
  | 85 => ⟨S512x7x32, .f32⟩
  | 86 => ⟨S512x1, .f32⟩
  | 87 => ⟨S512, .f32⟩
  | 88 => ⟨S_, .f32⟩
  | 89 => ⟨S512, .f32⟩
  | 90 => ⟨S512, .f32⟩
  | 91 => ⟨S512x1, .f32⟩
  | 92 => ⟨S512, .f32⟩
  | 93 => ⟨S_, .f32⟩
  | 94 => ⟨S512, .f32⟩
  | 95 => ⟨S512, .f32⟩
  | 96 => ⟨S512, .f32⟩
  | 97 => ⟨S_, .f32⟩
  | 98 => ⟨S512, .f32⟩
  | 99 => ⟨S512, .f32⟩
  | 100 => ⟨S_, .f32⟩
  | 101 => ⟨S512, .f32⟩
  | 102 => ⟨S512, .f32⟩
  | 103 => ⟨S7, .f32⟩
  | 104 => ⟨S7x1, .f32⟩
  | 105 => ⟨S2, .f32⟩
  | 106 => ⟨S1x2, .f32⟩
  | 107 => ⟨S_, .f32⟩
  | 108 => ⟨S1x2, .f32⟩
  | 109 => ⟨S1x2, .f32⟩
  | 110 => ⟨S_, .f32⟩
  | 111 => ⟨S1x2, .f32⟩
  | 112 => ⟨S1x2, .f32⟩
  | 113 => ⟨S7x2, .f32⟩
  | 114 => ⟨S7x2, .f32⟩
  | 115 => ⟨S7x2, .f32⟩
  | 116 => ⟨S14, .f32⟩
  | 117 => ⟨S512x1, .f32⟩
  | 118 => ⟨S1x14, .f32⟩
  | 119 => ⟨S512x1, .f32⟩
  | 120 => ⟨S512x14, .f32⟩
  | 121 => ⟨S512x14, .f32⟩
  | 122 => ⟨S512x14, .f32⟩
  | 123 => ⟨S512x14, .f32⟩
  | 124 => ⟨S512x14, .f32⟩
  | 125 => ⟨S_, .f32⟩
  | 126 => ⟨S_, .f32⟩
  | 127 => ⟨S_, .f32⟩
  | _ => ⟨S2x256x256x256, .f32⟩

abbrev hbmTy0_3 (i : Nat) : BufTy := match i % 128 with
  | 0 => ⟨S512x14, .f32⟩
  | 1 => ⟨S512x14, .f32⟩
  | 2 => ⟨S_, .f32⟩
  | 3 => ⟨S512x14, .f32⟩
  | 4 => ⟨S512x14, .f32⟩
  | 5 => ⟨S512x14, .f32⟩
  | 6 => ⟨S512x14, .f32⟩
  | 7 => ⟨S512x14, .i32⟩
  | 8 => ⟨S_, .i32⟩
  | 9 => ⟨S512x14, .i32⟩
  | 10 => ⟨S512x14, .i32⟩
  | 11 => ⟨S_, .i32⟩
  | 12 => ⟨S512x14, .i32⟩
  | 13 => ⟨S512x14, .i32⟩
  | 14 => ⟨S_, .i32⟩
  | 15 => ⟨S512, .i32⟩
  | 16 => ⟨S_, .i32⟩
  | 17 => ⟨S_, .i32⟩
  | 18 => ⟨S512, .i32⟩
  | 19 => ⟨S512, .i32⟩
  | 20 => ⟨S512, .i32⟩
  | 21 => ⟨S_, .i32⟩
  | 22 => ⟨S512, .i32⟩
  | 23 => ⟨S512, .i1⟩
  | 24 => ⟨S512, .i32⟩
  | 25 => ⟨S512, .i32⟩
  | 26 => ⟨S_, .i32⟩
  | 27 => ⟨S512, .i32⟩
  | 28 => ⟨S512, .i1⟩
  | 29 => ⟨S512, .i1⟩
  | 30 => ⟨S_, .i32⟩
  | 31 => ⟨S512, .i32⟩
  | 32 => ⟨S512, .i32⟩
  | 33 => ⟨S512, .i32⟩
  | 34 => ⟨S_, .i32⟩
  | 35 => ⟨S512, .i32⟩
  | 36 => ⟨S512, .i32⟩
  | 37 => ⟨S_, .i32⟩
  | 38 => ⟨S_, .i32⟩
  | 39 => ⟨S_, .i32⟩
  | 40 => ⟨S512, .i32⟩
  | 41 => ⟨S512, .i32⟩
  | 42 => ⟨S_, .i32⟩
  | 43 => ⟨S512, .i32⟩
  | 44 => ⟨S512, .i32⟩
  | 45 => ⟨S512x1, .i32⟩
  | 46 => ⟨S512x14, .i32⟩
  | 47 => ⟨S512x14, .i32⟩
  | 48 => ⟨S512x1, .i32⟩
  | 49 => ⟨S512x14, .i32⟩
  | 50 => ⟨S512x14, .i32⟩
  | 51 => ⟨S40, .i32⟩
  | 52 => ⟨S1x1x40, .i32⟩
  | 53 => ⟨S512x14x1, .i32⟩
  | 54 => ⟨S512x14x40, .i32⟩
  | 55 => ⟨S512x14x40, .i32⟩
  | 56 => ⟨S512x14x40, .i1⟩
  | 57 => ⟨S512x14x40, .f32⟩
  | 58 => ⟨S_, .f32⟩
  | 59 => ⟨S512x14, .f32⟩
  | 60 => ⟨S512x14, .f32⟩
  | 61 => ⟨S512x14x1, .f32⟩
  | 62 => ⟨S512x14x40, .f32⟩
  | 63 => ⟨S512x14x40, .f32⟩
  | 64 => ⟨S1x1x40, .i32⟩
  | 65 => ⟨S512x14x1, .i32⟩
  | 66 => ⟨S512x14x40, .i32⟩
  | 67 => ⟨S512x14x40, .i32⟩
  | 68 => ⟨S512x14x40, .i1⟩
  | 69 => ⟨S512x14x40, .f32⟩
  | 70 => ⟨S512x14x1, .f32⟩
  | 71 => ⟨S512x14x40, .f32⟩
  | 72 => ⟨S512x14x40, .f32⟩
  | 73 => ⟨S512x14x40, .f32⟩
  | 74 => ⟨S512x7x2x40, .f32⟩
  | 75 => ⟨S_, .f32⟩
  | 76 => ⟨S512x7x40, .f32⟩
  | 77 => ⟨S_, .f32⟩
  | 78 => ⟨S512x7x40, .f32⟩
  | 79 => ⟨S512x7x40, .f32⟩
  | 80 => ⟨S512x32x7, .f32⟩
  | 81 => ⟨S512x32x7x7, .f32⟩
  | 82 => ⟨S512x32x49, .f32⟩
  | 83 => ⟨S512x40x7, .f32⟩
  | 84 => ⟨S1x512x1x40x1x7, .f32⟩
  | 85 => ⟨S1x512x1x40x7x7, .f32⟩
  | 86 => ⟨S512x40x49, .f32⟩
  | 87 => ⟨S512x1, .f32⟩
  | 88 => ⟨S512, .f32⟩
  | 89 => ⟨S_, .f32⟩
  | 90 => ⟨S512, .f32⟩
  | 91 => ⟨S512, .f32⟩
  | 92 => ⟨S512x1, .f32⟩
  | 93 => ⟨S512, .f32⟩
  | 94 => ⟨S_, .f32⟩
  | 95 => ⟨S512, .f32⟩
  | 96 => ⟨S512, .f32⟩
  | 97 => ⟨S512, .f32⟩
  | 98 => ⟨S_, .f32⟩
  | 99 => ⟨S512, .f32⟩
  | 100 => ⟨S512, .f32⟩
  | 101 => ⟨S_, .f32⟩
  | 102 => ⟨S512, .f32⟩
  | 103 => ⟨S512, .f32⟩
  | 104 => ⟨S7, .f32⟩
  | 105 => ⟨S7x1, .f32⟩
  | 106 => ⟨S2, .f32⟩
  | 107 => ⟨S1x2, .f32⟩
  | 108 => ⟨S_, .f32⟩
  | 109 => ⟨S1x2, .f32⟩
  | 110 => ⟨S1x2, .f32⟩
  | 111 => ⟨S_, .f32⟩
  | 112 => ⟨S1x2, .f32⟩
  | 113 => ⟨S1x2, .f32⟩
  | 114 => ⟨S7x2, .f32⟩
  | 115 => ⟨S7x2, .f32⟩
  | 116 => ⟨S7x2, .f32⟩
  | 117 => ⟨S14, .f32⟩
  | 118 => ⟨S512x1, .f32⟩
  | 119 => ⟨S1x14, .f32⟩
  | 120 => ⟨S512x1, .f32⟩
  | 121 => ⟨S512x14, .f32⟩
  | 122 => ⟨S512x14, .f32⟩
  | 123 => ⟨S512x14, .f32⟩
  | 124 => ⟨S512x14, .f32⟩
  | 125 => ⟨S512x14, .f32⟩
  | 126 => ⟨S_, .f32⟩
  | 127 => ⟨S_, .f32⟩
  | _ => ⟨S2x256x256x256, .f32⟩

abbrev hbmTy0_4 (i : Nat) : BufTy := match i % 128 with
  | 0 => ⟨S_, .f32⟩
  | 1 => ⟨S512x14, .f32⟩
  | 2 => ⟨S512x14, .f32⟩
  | 3 => ⟨S_, .f32⟩
  | 4 => ⟨S512x14, .f32⟩
  | 5 => ⟨S512x14, .f32⟩
  | 6 => ⟨S512x14, .f32⟩
  | 7 => ⟨S512x14, .f32⟩
  | 8 => ⟨S512x14, .i32⟩
  | 9 => ⟨S_, .i32⟩
  | 10 => ⟨S512x14, .i32⟩
  | 11 => ⟨S512x14, .i32⟩
  | 12 => ⟨S_, .i32⟩
  | 13 => ⟨S512x14, .i32⟩
  | 14 => ⟨S512x14, .i32⟩
  | 15 => ⟨S_, .i32⟩
  | 16 => ⟨S512, .i32⟩
  | 17 => ⟨S_, .i32⟩
  | 18 => ⟨S_, .i32⟩
  | 19 => ⟨S_, .i32⟩
  | 20 => ⟨S512, .i32⟩
  | 21 => ⟨S512, .i32⟩
  | 22 => ⟨S_, .i32⟩
  | 23 => ⟨S512, .i32⟩
  | 24 => ⟨S512, .i32⟩
  | 25 => ⟨S512x1, .i32⟩
  | 26 => ⟨S512x14, .i32⟩
  | 27 => ⟨S512x14, .i32⟩
  | 28 => ⟨S512x1, .i32⟩
  | 29 => ⟨S512x14, .i32⟩
  | 30 => ⟨S512x14, .i32⟩
  | 31 => ⟨S16, .i32⟩
  | 32 => ⟨S1x1x16, .i32⟩
  | 33 => ⟨S512x14x1, .i32⟩
  | 34 => ⟨S512x14x16, .i32⟩
  | 35 => ⟨S512x14x16, .i32⟩
  | 36 => ⟨S512x14x16, .i1⟩
  | 37 => ⟨S512x14x16, .f32⟩
  | 38 => ⟨S_, .f32⟩
  | 39 => ⟨S512x14, .f32⟩
  | 40 => ⟨S512x14, .f32⟩
  | 41 => ⟨S512x14x1, .f32⟩
  | 42 => ⟨S512x14x16, .f32⟩
  | 43 => ⟨S512x14x16, .f32⟩
  | 44 => ⟨S1x1x16, .i32⟩
  | 45 => ⟨S512x14x1, .i32⟩
  | 46 => ⟨S512x14x16, .i32⟩
  | 47 => ⟨S512x14x16, .i32⟩
  | 48 => ⟨S512x14x16, .i1⟩
  | 49 => ⟨S512x14x16, .f32⟩
  | 50 => ⟨S512x14x1, .f32⟩
  | 51 => ⟨S512x14x16, .f32⟩
  | 52 => ⟨S512x14x16, .f32⟩
  | 53 => ⟨S512x14x16, .f32⟩
  | 54 => ⟨S512x7x2x16, .f32⟩
  | 55 => ⟨S_, .f32⟩
  | 56 => ⟨S512x7x16, .f32⟩
  | 57 => ⟨S_, .f32⟩
  | 58 => ⟨S512x7x16, .f32⟩
  | 59 => ⟨S512x7x16, .f32⟩
  | 60 => ⟨S512x1, .f32⟩
  | 61 => ⟨S512, .f32⟩
  | 62 => ⟨S_, .f32⟩
  | 63 => ⟨S512, .f32⟩
  | 64 => ⟨S512, .f32⟩
  | 65 => ⟨S512x1, .f32⟩
  | 66 => ⟨S512, .f32⟩
  | 67 => ⟨S_, .f32⟩
  | 68 => ⟨S512, .f32⟩
  | 69 => ⟨S512, .f32⟩
  | 70 => ⟨S512, .f32⟩
  | 71 => ⟨S_, .f32⟩
  | 72 => ⟨S512, .f32⟩
  | 73 => ⟨S512, .f32⟩
  | 74 => ⟨S_, .f32⟩
  | 75 => ⟨S512, .f32⟩
  | 76 => ⟨S512, .f32⟩
  | 77 => ⟨S7, .f32⟩
  | 78 => ⟨S7x1, .f32⟩
  | 79 => ⟨S2, .f32⟩
  | 80 => ⟨S1x2, .f32⟩
  | 81 => ⟨S_, .f32⟩
  | 82 => ⟨S1x2, .f32⟩
  | 83 => ⟨S1x2, .f32⟩
  | 84 => ⟨S_, .f32⟩
  | 85 => ⟨S1x2, .f32⟩
  | 86 => ⟨S1x2, .f32⟩
  | 87 => ⟨S7x2, .f32⟩
  | 88 => ⟨S7x2, .f32⟩
  | 89 => ⟨S7x2, .f32⟩
  | 90 => ⟨S14, .f32⟩
  | 91 => ⟨S512x1, .f32⟩
  | 92 => ⟨S1x14, .f32⟩
  | 93 => ⟨S512x1, .f32⟩
  | 94 => ⟨S512x14, .f32⟩
  | 95 => ⟨S512x14, .f32⟩
  | 96 => ⟨S512x14, .f32⟩
  | 97 => ⟨S512x14, .f32⟩
  | 98 => ⟨S512x14, .f32⟩
  | 99 => ⟨S_, .f32⟩
  | 100 => ⟨S_, .f32⟩
  | 101 => ⟨S_, .f32⟩
  | 102 => ⟨S512x14, .f32⟩
  | 103 => ⟨S512x14, .f32⟩
  | 104 => ⟨S_, .f32⟩
  | 105 => ⟨S512x14, .f32⟩
  | 106 => ⟨S512x14, .f32⟩
  | 107 => ⟨S512x14, .f32⟩
  | 108 => ⟨S512x14, .f32⟩
  | 109 => ⟨S512x14, .i32⟩
  | 110 => ⟨S_, .i32⟩
  | 111 => ⟨S512x14, .i32⟩
  | 112 => ⟨S512x14, .i32⟩
  | 113 => ⟨S_, .i32⟩
  | 114 => ⟨S512x14, .i32⟩
  | 115 => ⟨S512x14, .i32⟩
  | 116 => ⟨S_, .i32⟩
  | 117 => ⟨S512, .i32⟩
  | 118 => ⟨S_, .i32⟩
  | 119 => ⟨S_, .i32⟩
  | 120 => ⟨S512, .i32⟩
  | 121 => ⟨S512, .i32⟩
  | 122 => ⟨S512, .i32⟩
  | 123 => ⟨S_, .i32⟩
  | 124 => ⟨S512, .i32⟩
  | 125 => ⟨S512, .i1⟩
  | 126 => ⟨S512, .i32⟩
  | 127 => ⟨S512, .i32⟩
  | _ => ⟨S2x256x256x256, .f32⟩

abbrev hbmTy0_5 (i : Nat) : BufTy := match i % 128 with
  | 0 => ⟨S_, .i32⟩
  | 1 => ⟨S512, .i32⟩
  | 2 => ⟨S512, .i1⟩
  | 3 => ⟨S512, .i1⟩
  | 4 => ⟨S_, .i32⟩
  | 5 => ⟨S512, .i32⟩
  | 6 => ⟨S512, .i32⟩
  | 7 => ⟨S512, .i32⟩
  | 8 => ⟨S_, .i32⟩
  | 9 => ⟨S512, .i32⟩
  | 10 => ⟨S512, .i32⟩
  | 11 => ⟨S_, .i32⟩
  | 12 => ⟨S_, .i32⟩
  | 13 => ⟨S_, .i32⟩
  | 14 => ⟨S512, .i32⟩
  | 15 => ⟨S512, .i32⟩
  | 16 => ⟨S_, .i32⟩
  | 17 => ⟨S512, .i32⟩
  | 18 => ⟨S512, .i32⟩
  | 19 => ⟨S512x1, .i32⟩
  | 20 => ⟨S512x14, .i32⟩
  | 21 => ⟨S512x14, .i32⟩
  | 22 => ⟨S512x1, .i32⟩
  | 23 => ⟨S512x14, .i32⟩
  | 24 => ⟨S512x14, .i32⟩
  | 25 => ⟨S24, .i32⟩
  | 26 => ⟨S1x1x24, .i32⟩
  | 27 => ⟨S512x14x1, .i32⟩
  | 28 => ⟨S512x14x24, .i32⟩
  | 29 => ⟨S512x14x24, .i32⟩
  | 30 => ⟨S512x14x24, .i1⟩
  | 31 => ⟨S512x14x24, .f32⟩
  | 32 => ⟨S_, .f32⟩
  | 33 => ⟨S512x14, .f32⟩
  | 34 => ⟨S512x14, .f32⟩
  | 35 => ⟨S512x14x1, .f32⟩
  | 36 => ⟨S512x14x24, .f32⟩
  | 37 => ⟨S512x14x24, .f32⟩
  | 38 => ⟨S1x1x24, .i32⟩
  | 39 => ⟨S512x14x1, .i32⟩
  | 40 => ⟨S512x14x24, .i32⟩
  | 41 => ⟨S512x14x24, .i32⟩
  | 42 => ⟨S512x14x24, .i1⟩
  | 43 => ⟨S512x14x24, .f32⟩
  | 44 => ⟨S512x14x1, .f32⟩
  | 45 => ⟨S512x14x24, .f32⟩
  | 46 => ⟨S512x14x24, .f32⟩
  | 47 => ⟨S512x14x24, .f32⟩
  | 48 => ⟨S512x7x2x24, .f32⟩
  | 49 => ⟨S_, .f32⟩
  | 50 => ⟨S512x7x24, .f32⟩
  | 51 => ⟨S_, .f32⟩
  | 52 => ⟨S512x7x24, .f32⟩
  | 53 => ⟨S512x7x24, .f32⟩
  | 54 => ⟨S512x16x7, .f32⟩
  | 55 => ⟨S512x16x7x7, .f32⟩
  | 56 => ⟨S512x16x49, .f32⟩
  | 57 => ⟨S512x24x7, .f32⟩
  | 58 => ⟨S1x512x1x24x1x7, .f32⟩
  | 59 => ⟨S1x512x1x24x7x7, .f32⟩
  | 60 => ⟨S512x24x49, .f32⟩
  | 61 => ⟨S512x1, .f32⟩
  | 62 => ⟨S512, .f32⟩
  | 63 => ⟨S_, .f32⟩
  | 64 => ⟨S512, .f32⟩
  | 65 => ⟨S512, .f32⟩
  | 66 => ⟨S512x1, .f32⟩
  | 67 => ⟨S512, .f32⟩
  | 68 => ⟨S_, .f32⟩
  | 69 => ⟨S512, .f32⟩
  | 70 => ⟨S512, .f32⟩
  | 71 => ⟨S512, .f32⟩
  | 72 => ⟨S_, .f32⟩
  | 73 => ⟨S512, .f32⟩
  | 74 => ⟨S512, .f32⟩
  | 75 => ⟨S_, .f32⟩
  | 76 => ⟨S512, .f32⟩
  | 77 => ⟨S512, .f32⟩
  | 78 => ⟨S7, .f32⟩
  | 79 => ⟨S7x1, .f32⟩
  | 80 => ⟨S2, .f32⟩
  | 81 => ⟨S1x2, .f32⟩
  | 82 => ⟨S_, .f32⟩
  | 83 => ⟨S1x2, .f32⟩
  | 84 => ⟨S1x2, .f32⟩
  | 85 => ⟨S_, .f32⟩
  | 86 => ⟨S1x2, .f32⟩
  | 87 => ⟨S1x2, .f32⟩
  | 88 => ⟨S7x2, .f32⟩
  | 89 => ⟨S7x2, .f32⟩
  | 90 => ⟨S7x2, .f32⟩
  | 91 => ⟨S14, .f32⟩
  | 92 => ⟨S512x1, .f32⟩
  | 93 => ⟨S1x14, .f32⟩
  | 94 => ⟨S512x1, .f32⟩
  | 95 => ⟨S512x14, .f32⟩
  | 96 => ⟨S512x14, .f32⟩
  | 97 => ⟨S512x14, .f32⟩
  | 98 => ⟨S512x14, .f32⟩
  | 99 => ⟨S512x14, .f32⟩
  | 100 => ⟨S_, .f32⟩
  | 101 => ⟨S_, .f32⟩
  | 102 => ⟨S_, .f32⟩
  | 103 => ⟨S512x14, .f32⟩
  | 104 => ⟨S512x14, .f32⟩
  | 105 => ⟨S_, .f32⟩
  | 106 => ⟨S512x14, .f32⟩
  | 107 => ⟨S512x14, .f32⟩
  | 108 => ⟨S512x14, .f32⟩
  | 109 => ⟨S512x14, .f32⟩
  | 110 => ⟨S512x14, .i32⟩
  | 111 => ⟨S_, .i32⟩
  | 112 => ⟨S512x14, .i32⟩
  | 113 => ⟨S512x14, .i32⟩
  | 114 => ⟨S_, .i32⟩
  | 115 => ⟨S512x14, .i32⟩
  | 116 => ⟨S512x14, .i32⟩
  | 117 => ⟨S_, .i32⟩
  | 118 => ⟨S512, .i32⟩
  | 119 => ⟨S_, .i32⟩
  | 120 => ⟨S_, .i32⟩
  | 121 => ⟨S_, .i32⟩
  | 122 => ⟨S512, .i32⟩
  | 123 => ⟨S512, .i32⟩
  | 124 => ⟨S_, .i32⟩
  | 125 => ⟨S512, .i32⟩
  | 126 => ⟨S512, .i32⟩
  | 127 => ⟨S512x1, .i32⟩
  | _ => ⟨S2x256x256x256, .f32⟩

abbrev hbmTy0_6 (i : Nat) : BufTy := match i % 128 with
  | 0 => ⟨S512x14, .i32⟩
  | 1 => ⟨S512x14, .i32⟩
  | 2 => ⟨S512x1, .i32⟩
  | 3 => ⟨S512x14, .i32⟩
  | 4 => ⟨S512x14, .i32⟩
  | 5 => ⟨S16, .i32⟩
  | 6 => ⟨S1x1x16, .i32⟩
  | 7 => ⟨S512x14x1, .i32⟩
  | 8 => ⟨S512x14x16, .i32⟩
  | 9 => ⟨S512x14x16, .i32⟩
  | 10 => ⟨S512x14x16, .i1⟩
  | 11 => ⟨S512x14x16, .f32⟩
  | 12 => ⟨S_, .f32⟩
  | 13 => ⟨S512x14, .f32⟩
  | 14 => ⟨S512x14, .f32⟩
  | 15 => ⟨S512x14x1, .f32⟩
  | 16 => ⟨S512x14x16, .f32⟩
  | 17 => ⟨S512x14x16, .f32⟩
  | 18 => ⟨S1x1x16, .i32⟩
  | 19 => ⟨S512x14x1, .i32⟩
  | 20 => ⟨S512x14x16, .i32⟩
  | 21 => ⟨S512x14x16, .i32⟩
  | 22 => ⟨S512x14x16, .i1⟩
  | 23 => ⟨S512x14x16, .f32⟩
  | 24 => ⟨S512x14x1, .f32⟩
  | 25 => ⟨S512x14x16, .f32⟩
  | 26 => ⟨S512x14x16, .f32⟩
  | 27 => ⟨S512x14x16, .f32⟩
  | 28 => ⟨S512x7x2x16, .f32⟩
  | 29 => ⟨S_, .f32⟩
  | 30 => ⟨S512x7x16, .f32⟩
  | 31 => ⟨S_, .f32⟩
  | 32 => ⟨S512x7x16, .f32⟩
  | 33 => ⟨S512x7x16, .f32⟩
  | 34 => ⟨S512x1, .f32⟩
  | 35 => ⟨S512, .f32⟩
  | 36 => ⟨S_, .f32⟩
  | 37 => ⟨S512, .f32⟩
  | 38 => ⟨S512, .f32⟩
  | 39 => ⟨S512x1, .f32⟩
  | 40 => ⟨S512, .f32⟩
  | 41 => ⟨S_, .f32⟩
  | 42 => ⟨S512, .f32⟩
  | 43 => ⟨S512, .f32⟩
  | 44 => ⟨S512, .f32⟩
  | 45 => ⟨S_, .f32⟩
  | 46 => ⟨S512, .f32⟩
  | 47 => ⟨S512, .f32⟩
  | 48 => ⟨S_, .f32⟩
  | 49 => ⟨S512, .f32⟩
  | 50 => ⟨S512, .f32⟩
  | 51 => ⟨S7, .f32⟩
  | 52 => ⟨S7x1, .f32⟩
  | 53 => ⟨S2, .f32⟩
  | 54 => ⟨S1x2, .f32⟩
  | 55 => ⟨S_, .f32⟩
  | 56 => ⟨S1x2, .f32⟩
  | 57 => ⟨S1x2, .f32⟩
  | 58 => ⟨S_, .f32⟩
  | 59 => ⟨S1x2, .f32⟩
  | 60 => ⟨S1x2, .f32⟩
  | 61 => ⟨S7x2, .f32⟩
  | 62 => ⟨S7x2, .f32⟩
  | 63 => ⟨S7x2, .f32⟩
  | 64 => ⟨S14, .f32⟩
  | 65 => ⟨S512x1, .f32⟩
  | 66 => ⟨S1x14, .f32⟩
  | 67 => ⟨S512x1, .f32⟩
  | 68 => ⟨S512x14, .f32⟩
  | 69 => ⟨S512x14, .f32⟩
  | 70 => ⟨S512x14, .f32⟩
  | 71 => ⟨S512x14, .f32⟩
  | 72 => ⟨S512x14, .f32⟩
  | 73 => ⟨S_, .f32⟩
  | 74 => ⟨S_, .f32⟩
  | 75 => ⟨S_, .f32⟩
  | 76 => ⟨S512x14, .f32⟩
  | 77 => ⟨S512x14, .f32⟩
  | 78 => ⟨S_, .f32⟩
  | 79 => ⟨S512x14, .f32⟩
  | 80 => ⟨S512x14, .f32⟩
  | 81 => ⟨S512x14, .f32⟩
  | 82 => ⟨S512x14, .f32⟩
  | 83 => ⟨S512x14, .i32⟩
  | 84 => ⟨S_, .i32⟩
  | 85 => ⟨S512x14, .i32⟩
  | 86 => ⟨S512x14, .i32⟩
  | 87 => ⟨S_, .i32⟩
  | 88 => ⟨S512x14, .i32⟩
  | 89 => ⟨S512x14, .i32⟩
  | 90 => ⟨S_, .i32⟩
  | 91 => ⟨S512, .i32⟩
  | 92 => ⟨S_, .i32⟩
  | 93 => ⟨S_, .i32⟩
  | 94 => ⟨S512, .i32⟩
  | 95 => ⟨S512, .i32⟩
  | 96 => ⟨S512, .i32⟩
  | 97 => ⟨S_, .i32⟩
  | 98 => ⟨S512, .i32⟩
  | 99 => ⟨S512, .i1⟩
  | 100 => ⟨S512, .i32⟩
  | 101 => ⟨S512, .i32⟩
  | 102 => ⟨S_, .i32⟩
  | 103 => ⟨S512, .i32⟩
  | 104 => ⟨S512, .i1⟩
  | 105 => ⟨S512, .i1⟩
  | 106 => ⟨S_, .i32⟩
  | 107 => ⟨S512, .i32⟩
  | 108 => ⟨S512, .i32⟩
  | 109 => ⟨S512, .i32⟩
  | 110 => ⟨S_, .i32⟩
  | 111 => ⟨S512, .i32⟩
  | 112 => ⟨S512, .i32⟩
  | 113 => ⟨S_, .i32⟩
  | 114 => ⟨S_, .i32⟩
  | 115 => ⟨S_, .i32⟩
  | 116 => ⟨S512, .i32⟩
  | 117 => ⟨S512, .i32⟩
  | 118 => ⟨S_, .i32⟩
  | 119 => ⟨S512, .i32⟩
  | 120 => ⟨S512, .i32⟩
  | 121 => ⟨S512x1, .i32⟩
  | 122 => ⟨S512x14, .i32⟩
  | 123 => ⟨S512x14, .i32⟩
  | 124 => ⟨S512x1, .i32⟩
  | 125 => ⟨S512x14, .i32⟩
  | 126 => ⟨S512x14, .i32⟩
  | 127 => ⟨S16, .i32⟩
  | _ => ⟨S2x256x256x256, .f32⟩

abbrev hbmTy0_7 (i : Nat) : BufTy := match i % 128 with
  | 0 => ⟨S1x1x16, .i32⟩
  | 1 => ⟨S512x14x1, .i32⟩
  | 2 => ⟨S512x14x16, .i32⟩
  | 3 => ⟨S512x14x16, .i32⟩
  | 4 => ⟨S512x14x16, .i1⟩
  | 5 => ⟨S512x14x16, .f32⟩
  | 6 => ⟨S_, .f32⟩
  | 7 => ⟨S512x14, .f32⟩
  | 8 => ⟨S512x14, .f32⟩
  | 9 => ⟨S512x14x1, .f32⟩
  | 10 => ⟨S512x14x16, .f32⟩
  | 11 => ⟨S512x14x16, .f32⟩
  | 12 => ⟨S1x1x16, .i32⟩
  | 13 => ⟨S512x14x1, .i32⟩
  | 14 => ⟨S512x14x16, .i32⟩
  | 15 => ⟨S512x14x16, .i32⟩
  | 16 => ⟨S512x14x16, .i1⟩
  | 17 => ⟨S512x14x16, .f32⟩
  | 18 => ⟨S512x14x1, .f32⟩
  | 19 => ⟨S512x14x16, .f32⟩
  | 20 => ⟨S512x14x16, .f32⟩
  | 21 => ⟨S512x14x16, .f32⟩
  | 22 => ⟨S512x7x2x16, .f32⟩
  | 23 => ⟨S_, .f32⟩
  | 24 => ⟨S512x7x16, .f32⟩
  | 25 => ⟨S_, .f32⟩
  | 26 => ⟨S512x7x16, .f32⟩
  | 27 => ⟨S512x7x16, .f32⟩
  | 28 => ⟨S512x16x7, .f32⟩
  | 29 => ⟨S512x16x7x7, .f32⟩
  | 30 => ⟨S512x16x49, .f32⟩
  | 31 => ⟨S512x16x7, .f32⟩
  | 32 => ⟨S1x512x1x16x1x7, .f32⟩
  | 33 => ⟨S1x512x1x16x7x7, .f32⟩
  | 34 => ⟨S512x16x49, .f32⟩
  | 35 => ⟨S1x512, .i32⟩
  | 36 => ⟨S1x512, .i32⟩
  | 37 => ⟨S1x512, .i32⟩
  | 38 => ⟨S1x512, .i32⟩
  | 39 => ⟨S1x512, .i32⟩
  | 40 => ⟨S1x512, .i32⟩
  | 41 => ⟨S1x512, .i32⟩
  | 42 => ⟨S1x512, .i32⟩
  | 43 => ⟨S256x4x256, .f32⟩
  | 44 => ⟨S4x256x256, .f32⟩
  | 45 => ⟨S1x256, .f32⟩
  | 46 => ⟨S512x49x256, .f32⟩
  | 47 => ⟨S512x256x49, .f32⟩
  | 48 => ⟨S512x256x7x7, .f32⟩
  | _ => ⟨S2x256x256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S2x256x256x256, .f32⟩

abbrev bufTy : (tb : Table) → Fin (tcTables nBuf tb) → BufTy
  | .hbm, ⟨i, _⟩ => hbmTy i
  | .local _ .vmem, ⟨0, _⟩ => ⟨S1x56x49, .f32⟩
  | .local _ .vmem, ⟨1, _⟩ => ⟨S1x56x49, .f32⟩
  | .local _ .vmem, ⟨2, _⟩ => ⟨S1x64x49, .f32⟩
  | .local _ .vmem, ⟨3, _⟩ => ⟨S1x64x49, .f32⟩
  | .local _ .vmem, ⟨4, _⟩ => ⟨S1x32x49, .f32⟩
  | .local _ .vmem, ⟨5, _⟩ => ⟨S1x32x49, .f32⟩
  | .local _ .vmem, ⟨6, _⟩ => ⟨S1x40x49, .f32⟩
  | .local _ .vmem, ⟨7, _⟩ => ⟨S1x40x49, .f32⟩
  | .local _ .vmem, ⟨8, _⟩ => ⟨S1x16x49, .f32⟩
  | .local _ .vmem, ⟨9, _⟩ => ⟨S1x16x49, .f32⟩
  | .local _ .vmem, ⟨10, _⟩ => ⟨S1x24x49, .f32⟩
  | .local _ .vmem, ⟨11, _⟩ => ⟨S1x24x49, .f32⟩
  | .local _ .vmem, ⟨12, _⟩ => ⟨S1x16x49, .f32⟩
  | .local _ .vmem, ⟨13, _⟩ => ⟨S1x16x49, .f32⟩
  | .local _ .vmem, ⟨14, _⟩ => ⟨S1x16x49, .f32⟩
  | .local _ .vmem, ⟨15, _⟩ => ⟨S1x16x49, .f32⟩
  | .local _ .vmem, ⟨16, _⟩ => ⟨S4x256x256, .f32⟩
  | .local _ .vmem, ⟨17, _⟩ => ⟨S1x256, .f32⟩
  | .local _ .vmem, ⟨18, _⟩ => ⟨S1x49x256, .f32⟩
  | .local _ .vmem, ⟨19, _⟩ => ⟨S1x49x256, .f32⟩
  | .local _ .vmem, ⟨20, _⟩ => ⟨S2x56x64x256, .f32⟩
  | .local _ .vmem, ⟨21, _⟩ => ⟨S2x32x40x256, .f32⟩
  | .local _ .vmem, ⟨22, _⟩ => ⟨S2x16x24x256, .f32⟩
  | .local _ .vmem, ⟨23, _⟩ => ⟨S2x16x16x256, .f32⟩
  | .local _ .smem, ⟨0, _⟩ => ⟨S512, .i32⟩
  | .local _ .smem, ⟨1, _⟩ => ⟨S4x512, .i32⟩
  | .local _ .smem, ⟨2, _⟩ => ⟨S4x512, .i32⟩
  | _, _ => ⟨S2x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_cst : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_cst_0 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_cst_1 : Ref sig .tc := ⟨.hbm, 22, rfl⟩
abbrev main_call0_v13 : Ref sig .tc := ⟨.hbm, 23, rfl⟩
abbrev main_call0_v14 : Ref sig .tc := ⟨.hbm, 24, rfl⟩
abbrev main_call0_cst_2 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_call0_v19 : Ref sig .tc := ⟨.hbm, 30, rfl⟩
abbrev main_call0_v20 : Ref sig .tc := ⟨.hbm, 31, rfl⟩
abbrev main_call0_cst_3 : Ref sig .tc := ⟨.hbm, 32, rfl⟩
abbrev main_call0_v21 : Ref sig .tc := ⟨.hbm, 33, rfl⟩
abbrev main_call0_v22 : Ref sig .tc := ⟨.hbm, 34, rfl⟩
abbrev main_call0_cst_4 : Ref sig .tc := ⟨.hbm, 35, rfl⟩
abbrev main_call0_v23 : Ref sig .tc := ⟨.hbm, 36, rfl⟩
abbrev main_call0_v24 : Ref sig .tc := ⟨.hbm, 37, rfl⟩
abbrev main_call0_v25 : Ref sig .tc := ⟨.hbm, 38, rfl⟩
abbrev main_call0_v26 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_call0_v30 : Ref sig .tc := ⟨.hbm, 43, rfl⟩
abbrev main_call0_v31 : Ref sig .tc := ⟨.hbm, 44, rfl⟩
abbrev main_call0_v32 : Ref sig .tc := ⟨.hbm, 45, rfl⟩
abbrev main_call0_v33 : Ref sig .tc := ⟨.hbm, 46, rfl⟩
abbrev main_call0_v34 : Ref sig .tc := ⟨.hbm, 47, rfl⟩
abbrev main_call0_v35 : Ref sig .tc := ⟨.hbm, 48, rfl⟩
abbrev main_call0_v36 : Ref sig .tc := ⟨.hbm, 49, rfl⟩
abbrev main_call0_cst_5 : Ref sig .tc := ⟨.hbm, 50, rfl⟩
abbrev main_call0_cst_6 : Ref sig .tc := ⟨.hbm, 51, rfl⟩
abbrev main_call0_call0_v0 : Ref sig .tc := ⟨.hbm, 52, rfl⟩
abbrev main_call0_call0_v1 : Ref sig .tc := ⟨.hbm, 53, rfl⟩
abbrev main_call0_call0_v2 : Ref sig .tc := ⟨.hbm, 54, rfl⟩
abbrev main_call0_call0_v3 : Ref sig .tc := ⟨.hbm, 55, rfl⟩
abbrev main_call0_call0_v4 : Ref sig .tc := ⟨.hbm, 56, rfl⟩
abbrev main_call0_v37 : Ref sig .tc := ⟨.hbm, 57, rfl⟩
abbrev main_call0_v38 : Ref sig .tc := ⟨.hbm, 58, rfl⟩
abbrev main_call0_v39 : Ref sig .tc := ⟨.hbm, 59, rfl⟩
abbrev main_call0_v40 : Ref sig .tc := ⟨.hbm, 60, rfl⟩
abbrev main_call0_c : Ref sig .tc := ⟨.hbm, 61, rfl⟩
abbrev main_call0_v41 : Ref sig .tc := ⟨.hbm, 62, rfl⟩
abbrev main_call0_v42 : Ref sig .tc := ⟨.hbm, 63, rfl⟩
abbrev main_call0_c_7 : Ref sig .tc := ⟨.hbm, 64, rfl⟩
abbrev main_call0_v43 : Ref sig .tc := ⟨.hbm, 65, rfl⟩
abbrev main_call0_v44 : Ref sig .tc := ⟨.hbm, 66, rfl⟩
abbrev main_call0_c_8 : Ref sig .tc := ⟨.hbm, 67, rfl⟩
abbrev main_call0_v45 : Ref sig .tc := ⟨.hbm, 68, rfl⟩
abbrev main_call0_c_9 : Ref sig .tc := ⟨.hbm, 69, rfl⟩
abbrev main_call0_c_10 : Ref sig .tc := ⟨.hbm, 70, rfl⟩
abbrev main_call0_call1_v0 : Ref sig .tc := ⟨.hbm, 71, rfl⟩
abbrev main_call0_call1_v1 : Ref sig .tc := ⟨.hbm, 72, rfl⟩
abbrev main_call0_call1_v2 : Ref sig .tc := ⟨.hbm, 73, rfl⟩
abbrev main_call0_call1_v3 : Ref sig .tc := ⟨.hbm, 74, rfl⟩
abbrev main_call0_call1_v4 : Ref sig .tc := ⟨.hbm, 75, rfl⟩
abbrev main_call0_v46 : Ref sig .tc := ⟨.hbm, 76, rfl⟩
abbrev main_call0_v47 : Ref sig .tc := ⟨.hbm, 77, rfl⟩
abbrev main_call0_v48 : Ref sig .tc := ⟨.hbm, 78, rfl⟩
abbrev main_call0_v49 : Ref sig .tc := ⟨.hbm, 79, rfl⟩
abbrev main_call0_v50 : Ref sig .tc := ⟨.hbm, 80, rfl⟩
abbrev main_call0_v51 : Ref sig .tc := ⟨.hbm, 81, rfl⟩
abbrev main_call0_v52 : Ref sig .tc := ⟨.hbm, 82, rfl⟩
abbrev main_call0_v53 : Ref sig .tc := ⟨.hbm, 83, rfl⟩
abbrev main_call0_v54 : Ref sig .tc := ⟨.hbm, 84, rfl⟩
abbrev main_call0_v55 : Ref sig .tc := ⟨.hbm, 85, rfl⟩
abbrev main_call0_v56 : Ref sig .tc := ⟨.hbm, 86, rfl⟩
abbrev main_call0_v57 : Ref sig .tc := ⟨.hbm, 87, rfl⟩
abbrev main_call0_v58 : Ref sig .tc := ⟨.hbm, 88, rfl⟩
abbrev main_call0_v59 : Ref sig .tc := ⟨.hbm, 89, rfl⟩
abbrev main_call0_cst_11 : Ref sig .tc := ⟨.hbm, 90, rfl⟩
abbrev main_call0_v60 : Ref sig .tc := ⟨.hbm, 91, rfl⟩
abbrev main_call0_v61 : Ref sig .tc := ⟨.hbm, 92, rfl⟩
abbrev main_call0_v62 : Ref sig .tc := ⟨.hbm, 93, rfl⟩
abbrev main_call0_v63 : Ref sig .tc := ⟨.hbm, 94, rfl⟩
abbrev main_call0_v64 : Ref sig .tc := ⟨.hbm, 95, rfl⟩
abbrev main_call0_v65 : Ref sig .tc := ⟨.hbm, 96, rfl⟩
abbrev main_call0_v66 : Ref sig .tc := ⟨.hbm, 97, rfl⟩
abbrev main_call0_v67 : Ref sig .tc := ⟨.hbm, 98, rfl⟩
abbrev main_call0_v68 : Ref sig .tc := ⟨.hbm, 99, rfl⟩
abbrev main_call0_v69 : Ref sig .tc := ⟨.hbm, 100, rfl⟩
abbrev main_call0_v70 : Ref sig .tc := ⟨.hbm, 101, rfl⟩
abbrev main_call0_v71 : Ref sig .tc := ⟨.hbm, 102, rfl⟩
abbrev main_call0_v72 : Ref sig .tc := ⟨.hbm, 103, rfl⟩
abbrev main_call0_v73 : Ref sig .tc := ⟨.hbm, 104, rfl⟩
abbrev main_call0_v74 : Ref sig .tc := ⟨.hbm, 105, rfl⟩
abbrev main_call0_v75 : Ref sig .tc := ⟨.hbm, 106, rfl⟩
abbrev main_call0_cst_12 : Ref sig .tc := ⟨.hbm, 107, rfl⟩
abbrev main_call0_v76 : Ref sig .tc := ⟨.hbm, 108, rfl⟩
abbrev main_call0_cst_13 : Ref sig .tc := ⟨.hbm, 109, rfl⟩
abbrev main_call0_v77 : Ref sig .tc := ⟨.hbm, 110, rfl⟩
abbrev main_call0_v78 : Ref sig .tc := ⟨.hbm, 111, rfl⟩
abbrev main_call0_v79 : Ref sig .tc := ⟨.hbm, 112, rfl⟩
abbrev main_call0_v80 : Ref sig .tc := ⟨.hbm, 113, rfl⟩
abbrev main_call0_cst_14 : Ref sig .tc := ⟨.hbm, 114, rfl⟩
abbrev main_call0_v81 : Ref sig .tc := ⟨.hbm, 115, rfl⟩
abbrev main_call0_v82 : Ref sig .tc := ⟨.hbm, 116, rfl⟩
abbrev main_call0_v83 : Ref sig .tc := ⟨.hbm, 117, rfl⟩
abbrev main_call0_v84 : Ref sig .tc := ⟨.hbm, 118, rfl⟩
abbrev main_call0_cst_15 : Ref sig .tc := ⟨.hbm, 119, rfl⟩
abbrev main_call0_v85 : Ref sig .tc := ⟨.hbm, 120, rfl⟩
abbrev main_call0_v86 : Ref sig .tc := ⟨.hbm, 121, rfl⟩
abbrev main_call0_v87 : Ref sig .tc := ⟨.hbm, 122, rfl⟩
abbrev main_call0_cst_16 : Ref sig .tc := ⟨.hbm, 123, rfl⟩
abbrev main_call0_v88 : Ref sig .tc := ⟨.hbm, 124, rfl⟩
abbrev main_call0_v89 : Ref sig .tc := ⟨.hbm, 125, rfl⟩
abbrev main_call0_cst_17 : Ref sig .tc := ⟨.hbm, 126, rfl⟩
abbrev main_call0_v90 : Ref sig .tc := ⟨.hbm, 127, rfl⟩
abbrev main_call0_v91 : Ref sig .tc := ⟨.hbm, 128, rfl⟩
abbrev main_call0_v92 : Ref sig .tc := ⟨.hbm, 129, rfl⟩
abbrev main_call0_v93 : Ref sig .tc := ⟨.hbm, 130, rfl⟩
abbrev main_call0_v94 : Ref sig .tc := ⟨.hbm, 131, rfl⟩
abbrev main_call0_v95 : Ref sig .tc := ⟨.hbm, 132, rfl⟩
abbrev main_call0_cst_18 : Ref sig .tc := ⟨.hbm, 133, rfl⟩
abbrev main_call0_v96 : Ref sig .tc := ⟨.hbm, 134, rfl⟩
abbrev main_call0_v97 : Ref sig .tc := ⟨.hbm, 135, rfl⟩
abbrev main_call0_cst_19 : Ref sig .tc := ⟨.hbm, 136, rfl⟩
abbrev main_call0_v98 : Ref sig .tc := ⟨.hbm, 137, rfl⟩
abbrev main_call0_v99 : Ref sig .tc := ⟨.hbm, 138, rfl⟩
abbrev main_call0_v100 : Ref sig .tc := ⟨.hbm, 139, rfl⟩
abbrev main_call0_v101 : Ref sig .tc := ⟨.hbm, 140, rfl⟩
abbrev main_call0_v102 : Ref sig .tc := ⟨.hbm, 141, rfl⟩
abbrev main_call0_v103 : Ref sig .tc := ⟨.hbm, 142, rfl⟩
abbrev main_call0_v104 : Ref sig .tc := ⟨.hbm, 143, rfl⟩
abbrev main_call0_v105 : Ref sig .tc := ⟨.hbm, 144, rfl⟩
abbrev main_call0_v106 : Ref sig .tc := ⟨.hbm, 145, rfl⟩
abbrev main_call0_v107 : Ref sig .tc := ⟨.hbm, 146, rfl⟩
abbrev main_call0_v108 : Ref sig .tc := ⟨.hbm, 147, rfl⟩
abbrev main_call0_v109 : Ref sig .tc := ⟨.hbm, 148, rfl⟩
abbrev main_call0_v110 : Ref sig .tc := ⟨.hbm, 149, rfl⟩
abbrev main_call0_v111 : Ref sig .tc := ⟨.hbm, 150, rfl⟩
abbrev main_call0_cst_20 : Ref sig .tc := ⟨.hbm, 151, rfl⟩
abbrev main_call0_cst_21 : Ref sig .tc := ⟨.hbm, 152, rfl⟩
abbrev main_call0_call2_v0 : Ref sig .tc := ⟨.hbm, 153, rfl⟩
abbrev main_call0_call2_v1 : Ref sig .tc := ⟨.hbm, 154, rfl⟩
abbrev main_call0_call2_v2 : Ref sig .tc := ⟨.hbm, 155, rfl⟩
abbrev main_call0_call2_v3 : Ref sig .tc := ⟨.hbm, 156, rfl⟩
abbrev main_call0_call2_v4 : Ref sig .tc := ⟨.hbm, 157, rfl⟩
abbrev main_call0_v112 : Ref sig .tc := ⟨.hbm, 158, rfl⟩
abbrev main_call0_v113 : Ref sig .tc := ⟨.hbm, 159, rfl⟩
abbrev main_call0_v114 : Ref sig .tc := ⟨.hbm, 160, rfl⟩
abbrev main_call0_v115 : Ref sig .tc := ⟨.hbm, 161, rfl⟩
abbrev main_call0_c_22 : Ref sig .tc := ⟨.hbm, 162, rfl⟩
abbrev main_call0_v116 : Ref sig .tc := ⟨.hbm, 163, rfl⟩
abbrev main_call0_v117 : Ref sig .tc := ⟨.hbm, 164, rfl⟩
abbrev main_call0_c_23 : Ref sig .tc := ⟨.hbm, 165, rfl⟩
abbrev main_call0_v118 : Ref sig .tc := ⟨.hbm, 166, rfl⟩
abbrev main_call0_v119 : Ref sig .tc := ⟨.hbm, 167, rfl⟩
abbrev main_call0_c_24 : Ref sig .tc := ⟨.hbm, 168, rfl⟩
abbrev main_call0_v120 : Ref sig .tc := ⟨.hbm, 169, rfl⟩
abbrev main_call0_c_25 : Ref sig .tc := ⟨.hbm, 170, rfl⟩
abbrev main_call0_call3_v0 : Ref sig .tc := ⟨.hbm, 171, rfl⟩
abbrev main_call0_call3_v1 : Ref sig .tc := ⟨.hbm, 172, rfl⟩
abbrev main_call0_call3_v2 : Ref sig .tc := ⟨.hbm, 173, rfl⟩
abbrev main_call0_call3_v3 : Ref sig .tc := ⟨.hbm, 174, rfl⟩
abbrev main_call0_call3_v4 : Ref sig .tc := ⟨.hbm, 175, rfl⟩
abbrev main_call0_call3_v5 : Ref sig .tc := ⟨.hbm, 176, rfl⟩
abbrev main_call0_call3_v6 : Ref sig .tc := ⟨.hbm, 177, rfl⟩
abbrev main_call0_call3_v7 : Ref sig .tc := ⟨.hbm, 178, rfl⟩
abbrev main_call0_call3_v8 : Ref sig .tc := ⟨.hbm, 179, rfl⟩
abbrev main_call0_call3_c : Ref sig .tc := ⟨.hbm, 180, rfl⟩
abbrev main_call0_call3_v9 : Ref sig .tc := ⟨.hbm, 181, rfl⟩
abbrev main_call0_call3_v10 : Ref sig .tc := ⟨.hbm, 182, rfl⟩
abbrev main_call0_call3_v11 : Ref sig .tc := ⟨.hbm, 183, rfl⟩
abbrev main_call0_call3_c_0 : Ref sig .tc := ⟨.hbm, 184, rfl⟩
abbrev main_call0_call3_v12 : Ref sig .tc := ⟨.hbm, 185, rfl⟩
abbrev main_call0_call3_v13 : Ref sig .tc := ⟨.hbm, 186, rfl⟩
abbrev main_call0_v121 : Ref sig .tc := ⟨.hbm, 187, rfl⟩
abbrev main_call0_c_26 : Ref sig .tc := ⟨.hbm, 188, rfl⟩
abbrev main_call0_v122 : Ref sig .tc := ⟨.hbm, 189, rfl⟩
abbrev main_call0_v123 : Ref sig .tc := ⟨.hbm, 190, rfl⟩
abbrev main_call0_c_27 : Ref sig .tc := ⟨.hbm, 191, rfl⟩
abbrev main_call0_c_28 : Ref sig .tc := ⟨.hbm, 192, rfl⟩
abbrev main_call0_call4_v0 : Ref sig .tc := ⟨.hbm, 193, rfl⟩
abbrev main_call0_call4_v1 : Ref sig .tc := ⟨.hbm, 194, rfl⟩
abbrev main_call0_call4_v2 : Ref sig .tc := ⟨.hbm, 195, rfl⟩
abbrev main_call0_call4_v3 : Ref sig .tc := ⟨.hbm, 196, rfl⟩
abbrev main_call0_call4_v4 : Ref sig .tc := ⟨.hbm, 197, rfl⟩
abbrev main_call0_v124 : Ref sig .tc := ⟨.hbm, 198, rfl⟩
abbrev main_call0_v125 : Ref sig .tc := ⟨.hbm, 199, rfl⟩
abbrev main_call0_v126 : Ref sig .tc := ⟨.hbm, 200, rfl⟩
abbrev main_call0_v127 : Ref sig .tc := ⟨.hbm, 201, rfl⟩
abbrev main_call0_v128 : Ref sig .tc := ⟨.hbm, 202, rfl⟩
abbrev main_call0_v129 : Ref sig .tc := ⟨.hbm, 203, rfl⟩
abbrev main_call0_v130 : Ref sig .tc := ⟨.hbm, 204, rfl⟩
abbrev main_call0_v131 : Ref sig .tc := ⟨.hbm, 205, rfl⟩
abbrev main_call0_v132 : Ref sig .tc := ⟨.hbm, 206, rfl⟩
abbrev main_call0_v133 : Ref sig .tc := ⟨.hbm, 207, rfl⟩
abbrev main_call0_v134 : Ref sig .tc := ⟨.hbm, 208, rfl⟩
abbrev main_call0_v135 : Ref sig .tc := ⟨.hbm, 209, rfl⟩
abbrev main_call0_v136 : Ref sig .tc := ⟨.hbm, 210, rfl⟩
abbrev main_call0_v137 : Ref sig .tc := ⟨.hbm, 211, rfl⟩
abbrev main_call0_cst_29 : Ref sig .tc := ⟨.hbm, 212, rfl⟩
abbrev main_call0_v138 : Ref sig .tc := ⟨.hbm, 213, rfl⟩
abbrev main_call0_v139 : Ref sig .tc := ⟨.hbm, 214, rfl⟩
abbrev main_call0_v140 : Ref sig .tc := ⟨.hbm, 215, rfl⟩
abbrev main_call0_v141 : Ref sig .tc := ⟨.hbm, 216, rfl⟩
abbrev main_call0_v142 : Ref sig .tc := ⟨.hbm, 217, rfl⟩
abbrev main_call0_v143 : Ref sig .tc := ⟨.hbm, 218, rfl⟩
abbrev main_call0_v144 : Ref sig .tc := ⟨.hbm, 219, rfl⟩
abbrev main_call0_v145 : Ref sig .tc := ⟨.hbm, 220, rfl⟩
abbrev main_call0_v146 : Ref sig .tc := ⟨.hbm, 221, rfl⟩
abbrev main_call0_v147 : Ref sig .tc := ⟨.hbm, 222, rfl⟩
abbrev main_call0_v148 : Ref sig .tc := ⟨.hbm, 223, rfl⟩
abbrev main_call0_v149 : Ref sig .tc := ⟨.hbm, 224, rfl⟩
abbrev main_call0_v150 : Ref sig .tc := ⟨.hbm, 225, rfl⟩
abbrev main_call0_v151 : Ref sig .tc := ⟨.hbm, 226, rfl⟩
abbrev main_call0_v152 : Ref sig .tc := ⟨.hbm, 227, rfl⟩
abbrev main_call0_v153 : Ref sig .tc := ⟨.hbm, 228, rfl⟩
abbrev main_call0_cst_30 : Ref sig .tc := ⟨.hbm, 229, rfl⟩
abbrev main_call0_v154 : Ref sig .tc := ⟨.hbm, 230, rfl⟩
abbrev main_call0_cst_31 : Ref sig .tc := ⟨.hbm, 231, rfl⟩
abbrev main_call0_v155 : Ref sig .tc := ⟨.hbm, 232, rfl⟩
abbrev main_call0_v156 : Ref sig .tc := ⟨.hbm, 233, rfl⟩
abbrev main_call0_v157 : Ref sig .tc := ⟨.hbm, 234, rfl⟩
abbrev main_call0_v158 : Ref sig .tc := ⟨.hbm, 235, rfl⟩
abbrev main_call0_v159 : Ref sig .tc := ⟨.hbm, 236, rfl⟩
abbrev main_call0_v160 : Ref sig .tc := ⟨.hbm, 237, rfl⟩
abbrev main_call0_v161 : Ref sig .tc := ⟨.hbm, 238, rfl⟩
abbrev main_call0_v162 : Ref sig .tc := ⟨.hbm, 239, rfl⟩
abbrev main_call0_v163 : Ref sig .tc := ⟨.hbm, 240, rfl⟩
abbrev main_call0_v164 : Ref sig .tc := ⟨.hbm, 241, rfl⟩
abbrev main_call0_v165 : Ref sig .tc := ⟨.hbm, 242, rfl⟩
abbrev main_call0_cst_32 : Ref sig .tc := ⟨.hbm, 243, rfl⟩
abbrev main_call0_v166 : Ref sig .tc := ⟨.hbm, 244, rfl⟩
abbrev main_call0_v167 : Ref sig .tc := ⟨.hbm, 245, rfl⟩
abbrev main_call0_v168 : Ref sig .tc := ⟨.hbm, 246, rfl⟩
abbrev main_call0_v169 : Ref sig .tc := ⟨.hbm, 247, rfl⟩
abbrev main_call0_cst_33 : Ref sig .tc := ⟨.hbm, 248, rfl⟩
abbrev main_call0_v170 : Ref sig .tc := ⟨.hbm, 249, rfl⟩
abbrev main_call0_v171 : Ref sig .tc := ⟨.hbm, 250, rfl⟩
abbrev main_call0_v172 : Ref sig .tc := ⟨.hbm, 251, rfl⟩
abbrev main_call0_cst_34 : Ref sig .tc := ⟨.hbm, 252, rfl⟩
abbrev main_call0_v173 : Ref sig .tc := ⟨.hbm, 253, rfl⟩
abbrev main_call0_v174 : Ref sig .tc := ⟨.hbm, 254, rfl⟩
abbrev main_call0_cst_35 : Ref sig .tc := ⟨.hbm, 255, rfl⟩
abbrev main_call0_v175 : Ref sig .tc := ⟨.hbm, 256, rfl⟩
abbrev main_call0_v176 : Ref sig .tc := ⟨.hbm, 257, rfl⟩
abbrev main_call0_v177 : Ref sig .tc := ⟨.hbm, 258, rfl⟩
abbrev main_call0_v178 : Ref sig .tc := ⟨.hbm, 259, rfl⟩
abbrev main_call0_v179 : Ref sig .tc := ⟨.hbm, 260, rfl⟩
abbrev main_call0_v180 : Ref sig .tc := ⟨.hbm, 261, rfl⟩
abbrev main_call0_cst_36 : Ref sig .tc := ⟨.hbm, 262, rfl⟩
abbrev main_call0_v181 : Ref sig .tc := ⟨.hbm, 263, rfl⟩
abbrev main_call0_v182 : Ref sig .tc := ⟨.hbm, 264, rfl⟩
abbrev main_call0_cst_37 : Ref sig .tc := ⟨.hbm, 265, rfl⟩
abbrev main_call0_v183 : Ref sig .tc := ⟨.hbm, 266, rfl⟩
abbrev main_call0_v184 : Ref sig .tc := ⟨.hbm, 267, rfl⟩
abbrev main_call0_v185 : Ref sig .tc := ⟨.hbm, 268, rfl⟩
abbrev main_call0_v186 : Ref sig .tc := ⟨.hbm, 269, rfl⟩
abbrev main_call0_v187 : Ref sig .tc := ⟨.hbm, 270, rfl⟩
abbrev main_call0_v188 : Ref sig .tc := ⟨.hbm, 271, rfl⟩
abbrev main_call0_v189 : Ref sig .tc := ⟨.hbm, 272, rfl⟩
abbrev main_call0_v190 : Ref sig .tc := ⟨.hbm, 273, rfl⟩
abbrev main_call0_v191 : Ref sig .tc := ⟨.hbm, 274, rfl⟩
abbrev main_call0_v192 : Ref sig .tc := ⟨.hbm, 275, rfl⟩
abbrev main_call0_v193 : Ref sig .tc := ⟨.hbm, 276, rfl⟩
abbrev main_call0_v194 : Ref sig .tc := ⟨.hbm, 277, rfl⟩
abbrev main_call0_v195 : Ref sig .tc := ⟨.hbm, 278, rfl⟩
abbrev main_call0_v196 : Ref sig .tc := ⟨.hbm, 279, rfl⟩
abbrev main_call0_cst_38 : Ref sig .tc := ⟨.hbm, 280, rfl⟩
abbrev main_call0_cst_39 : Ref sig .tc := ⟨.hbm, 281, rfl⟩
abbrev main_call0_call5_v0 : Ref sig .tc := ⟨.hbm, 282, rfl⟩
abbrev main_call0_call5_v1 : Ref sig .tc := ⟨.hbm, 283, rfl⟩
abbrev main_call0_call5_v2 : Ref sig .tc := ⟨.hbm, 284, rfl⟩
abbrev main_call0_call5_v3 : Ref sig .tc := ⟨.hbm, 285, rfl⟩
abbrev main_call0_call5_v4 : Ref sig .tc := ⟨.hbm, 286, rfl⟩
abbrev main_call0_v197 : Ref sig .tc := ⟨.hbm, 287, rfl⟩
abbrev main_call0_v198 : Ref sig .tc := ⟨.hbm, 288, rfl⟩
abbrev main_call0_v199 : Ref sig .tc := ⟨.hbm, 289, rfl⟩
abbrev main_call0_v200 : Ref sig .tc := ⟨.hbm, 290, rfl⟩
abbrev main_call0_c_40 : Ref sig .tc := ⟨.hbm, 291, rfl⟩
abbrev main_call0_v201 : Ref sig .tc := ⟨.hbm, 292, rfl⟩
abbrev main_call0_v202 : Ref sig .tc := ⟨.hbm, 293, rfl⟩
abbrev main_call0_c_41 : Ref sig .tc := ⟨.hbm, 294, rfl⟩
abbrev main_call0_v203 : Ref sig .tc := ⟨.hbm, 295, rfl⟩
abbrev main_call0_v204 : Ref sig .tc := ⟨.hbm, 296, rfl⟩
abbrev main_call0_c_42 : Ref sig .tc := ⟨.hbm, 297, rfl⟩
abbrev main_call0_v205 : Ref sig .tc := ⟨.hbm, 298, rfl⟩
abbrev main_call0_c_43 : Ref sig .tc := ⟨.hbm, 299, rfl⟩
abbrev main_call0_c_44 : Ref sig .tc := ⟨.hbm, 300, rfl⟩
abbrev main_call0_call6_v0 : Ref sig .tc := ⟨.hbm, 301, rfl⟩
abbrev main_call0_call6_v1 : Ref sig .tc := ⟨.hbm, 302, rfl⟩
abbrev main_call0_call6_v2 : Ref sig .tc := ⟨.hbm, 303, rfl⟩
abbrev main_call0_call6_v3 : Ref sig .tc := ⟨.hbm, 304, rfl⟩
abbrev main_call0_call6_v4 : Ref sig .tc := ⟨.hbm, 305, rfl⟩
abbrev main_call0_v206 : Ref sig .tc := ⟨.hbm, 306, rfl⟩
abbrev main_call0_v207 : Ref sig .tc := ⟨.hbm, 307, rfl⟩
abbrev main_call0_v208 : Ref sig .tc := ⟨.hbm, 308, rfl⟩
abbrev main_call0_v209 : Ref sig .tc := ⟨.hbm, 309, rfl⟩
abbrev main_call0_v210 : Ref sig .tc := ⟨.hbm, 310, rfl⟩
abbrev main_call0_v211 : Ref sig .tc := ⟨.hbm, 311, rfl⟩
abbrev main_call0_v212 : Ref sig .tc := ⟨.hbm, 312, rfl⟩
abbrev main_call0_v213 : Ref sig .tc := ⟨.hbm, 313, rfl⟩
abbrev main_call0_v214 : Ref sig .tc := ⟨.hbm, 314, rfl⟩
abbrev main_call0_v215 : Ref sig .tc := ⟨.hbm, 315, rfl⟩
abbrev main_call0_v216 : Ref sig .tc := ⟨.hbm, 316, rfl⟩
abbrev main_call0_v217 : Ref sig .tc := ⟨.hbm, 317, rfl⟩
abbrev main_call0_v218 : Ref sig .tc := ⟨.hbm, 318, rfl⟩
abbrev main_call0_v219 : Ref sig .tc := ⟨.hbm, 319, rfl⟩
abbrev main_call0_cst_45 : Ref sig .tc := ⟨.hbm, 320, rfl⟩
abbrev main_call0_v220 : Ref sig .tc := ⟨.hbm, 321, rfl⟩
abbrev main_call0_v221 : Ref sig .tc := ⟨.hbm, 322, rfl⟩
abbrev main_call0_v222 : Ref sig .tc := ⟨.hbm, 323, rfl⟩
abbrev main_call0_v223 : Ref sig .tc := ⟨.hbm, 324, rfl⟩
abbrev main_call0_v224 : Ref sig .tc := ⟨.hbm, 325, rfl⟩
abbrev main_call0_v225 : Ref sig .tc := ⟨.hbm, 326, rfl⟩
abbrev main_call0_v226 : Ref sig .tc := ⟨.hbm, 327, rfl⟩
abbrev main_call0_v227 : Ref sig .tc := ⟨.hbm, 328, rfl⟩
abbrev main_call0_v228 : Ref sig .tc := ⟨.hbm, 329, rfl⟩
abbrev main_call0_v229 : Ref sig .tc := ⟨.hbm, 330, rfl⟩
abbrev main_call0_v230 : Ref sig .tc := ⟨.hbm, 331, rfl⟩
abbrev main_call0_v231 : Ref sig .tc := ⟨.hbm, 332, rfl⟩
abbrev main_call0_v232 : Ref sig .tc := ⟨.hbm, 333, rfl⟩
abbrev main_call0_v233 : Ref sig .tc := ⟨.hbm, 334, rfl⟩
abbrev main_call0_v234 : Ref sig .tc := ⟨.hbm, 335, rfl⟩
abbrev main_call0_v235 : Ref sig .tc := ⟨.hbm, 336, rfl⟩
abbrev main_call0_cst_46 : Ref sig .tc := ⟨.hbm, 337, rfl⟩
abbrev main_call0_v236 : Ref sig .tc := ⟨.hbm, 338, rfl⟩
abbrev main_call0_cst_47 : Ref sig .tc := ⟨.hbm, 339, rfl⟩
abbrev main_call0_v237 : Ref sig .tc := ⟨.hbm, 340, rfl⟩
abbrev main_call0_v238 : Ref sig .tc := ⟨.hbm, 341, rfl⟩
abbrev main_call0_v239 : Ref sig .tc := ⟨.hbm, 342, rfl⟩
abbrev main_call0_v240 : Ref sig .tc := ⟨.hbm, 343, rfl⟩
abbrev main_call0_cst_48 : Ref sig .tc := ⟨.hbm, 344, rfl⟩
abbrev main_call0_v241 : Ref sig .tc := ⟨.hbm, 345, rfl⟩
abbrev main_call0_v242 : Ref sig .tc := ⟨.hbm, 346, rfl⟩
abbrev main_call0_v243 : Ref sig .tc := ⟨.hbm, 347, rfl⟩
abbrev main_call0_v244 : Ref sig .tc := ⟨.hbm, 348, rfl⟩
abbrev main_call0_cst_49 : Ref sig .tc := ⟨.hbm, 349, rfl⟩
abbrev main_call0_v245 : Ref sig .tc := ⟨.hbm, 350, rfl⟩
abbrev main_call0_v246 : Ref sig .tc := ⟨.hbm, 351, rfl⟩
abbrev main_call0_v247 : Ref sig .tc := ⟨.hbm, 352, rfl⟩
abbrev main_call0_cst_50 : Ref sig .tc := ⟨.hbm, 353, rfl⟩
abbrev main_call0_v248 : Ref sig .tc := ⟨.hbm, 354, rfl⟩
abbrev main_call0_v249 : Ref sig .tc := ⟨.hbm, 355, rfl⟩
abbrev main_call0_cst_51 : Ref sig .tc := ⟨.hbm, 356, rfl⟩
abbrev main_call0_v250 : Ref sig .tc := ⟨.hbm, 357, rfl⟩
abbrev main_call0_v251 : Ref sig .tc := ⟨.hbm, 358, rfl⟩
abbrev main_call0_v252 : Ref sig .tc := ⟨.hbm, 359, rfl⟩
abbrev main_call0_v253 : Ref sig .tc := ⟨.hbm, 360, rfl⟩
abbrev main_call0_v254 : Ref sig .tc := ⟨.hbm, 361, rfl⟩
abbrev main_call0_v255 : Ref sig .tc := ⟨.hbm, 362, rfl⟩
abbrev main_call0_cst_52 : Ref sig .tc := ⟨.hbm, 363, rfl⟩
abbrev main_call0_v256 : Ref sig .tc := ⟨.hbm, 364, rfl⟩
abbrev main_call0_v257 : Ref sig .tc := ⟨.hbm, 365, rfl⟩
abbrev main_call0_cst_53 : Ref sig .tc := ⟨.hbm, 366, rfl⟩
abbrev main_call0_v258 : Ref sig .tc := ⟨.hbm, 367, rfl⟩
abbrev main_call0_v259 : Ref sig .tc := ⟨.hbm, 368, rfl⟩
abbrev main_call0_v260 : Ref sig .tc := ⟨.hbm, 369, rfl⟩
abbrev main_call0_v261 : Ref sig .tc := ⟨.hbm, 370, rfl⟩
abbrev main_call0_v262 : Ref sig .tc := ⟨.hbm, 371, rfl⟩
abbrev main_call0_v263 : Ref sig .tc := ⟨.hbm, 372, rfl⟩
abbrev main_call0_v264 : Ref sig .tc := ⟨.hbm, 373, rfl⟩
abbrev main_call0_v265 : Ref sig .tc := ⟨.hbm, 374, rfl⟩
abbrev main_call0_v266 : Ref sig .tc := ⟨.hbm, 375, rfl⟩
abbrev main_call0_v267 : Ref sig .tc := ⟨.hbm, 376, rfl⟩
abbrev main_call0_v268 : Ref sig .tc := ⟨.hbm, 377, rfl⟩
abbrev main_call0_v269 : Ref sig .tc := ⟨.hbm, 378, rfl⟩
abbrev main_call0_v270 : Ref sig .tc := ⟨.hbm, 379, rfl⟩
abbrev main_call0_v271 : Ref sig .tc := ⟨.hbm, 380, rfl⟩
abbrev main_call0_cst_54 : Ref sig .tc := ⟨.hbm, 381, rfl⟩
abbrev main_call0_cst_55 : Ref sig .tc := ⟨.hbm, 382, rfl⟩
abbrev main_call0_call7_v0 : Ref sig .tc := ⟨.hbm, 383, rfl⟩
abbrev main_call0_call7_v1 : Ref sig .tc := ⟨.hbm, 384, rfl⟩
abbrev main_call0_call7_v2 : Ref sig .tc := ⟨.hbm, 385, rfl⟩
abbrev main_call0_call7_v3 : Ref sig .tc := ⟨.hbm, 386, rfl⟩
abbrev main_call0_call7_v4 : Ref sig .tc := ⟨.hbm, 387, rfl⟩
abbrev main_call0_v272 : Ref sig .tc := ⟨.hbm, 388, rfl⟩
abbrev main_call0_v273 : Ref sig .tc := ⟨.hbm, 389, rfl⟩
abbrev main_call0_v274 : Ref sig .tc := ⟨.hbm, 390, rfl⟩
abbrev main_call0_v275 : Ref sig .tc := ⟨.hbm, 391, rfl⟩
abbrev main_call0_c_56 : Ref sig .tc := ⟨.hbm, 392, rfl⟩
abbrev main_call0_v276 : Ref sig .tc := ⟨.hbm, 393, rfl⟩
abbrev main_call0_v277 : Ref sig .tc := ⟨.hbm, 394, rfl⟩
abbrev main_call0_c_57 : Ref sig .tc := ⟨.hbm, 395, rfl⟩
abbrev main_call0_v278 : Ref sig .tc := ⟨.hbm, 396, rfl⟩
abbrev main_call0_v279 : Ref sig .tc := ⟨.hbm, 397, rfl⟩
abbrev main_call0_c_58 : Ref sig .tc := ⟨.hbm, 398, rfl⟩
abbrev main_call0_v280 : Ref sig .tc := ⟨.hbm, 399, rfl⟩
abbrev main_call0_c_59 : Ref sig .tc := ⟨.hbm, 400, rfl⟩
abbrev main_call0_call8_v0 : Ref sig .tc := ⟨.hbm, 401, rfl⟩
abbrev main_call0_call8_v1 : Ref sig .tc := ⟨.hbm, 402, rfl⟩
abbrev main_call0_call8_v2 : Ref sig .tc := ⟨.hbm, 403, rfl⟩
abbrev main_call0_call8_v3 : Ref sig .tc := ⟨.hbm, 404, rfl⟩
abbrev main_call0_call8_v4 : Ref sig .tc := ⟨.hbm, 405, rfl⟩
abbrev main_call0_call8_v5 : Ref sig .tc := ⟨.hbm, 406, rfl⟩
abbrev main_call0_call8_v6 : Ref sig .tc := ⟨.hbm, 407, rfl⟩
abbrev main_call0_call8_v7 : Ref sig .tc := ⟨.hbm, 408, rfl⟩
abbrev main_call0_call8_v8 : Ref sig .tc := ⟨.hbm, 409, rfl⟩
abbrev main_call0_call8_c : Ref sig .tc := ⟨.hbm, 410, rfl⟩
abbrev main_call0_call8_v9 : Ref sig .tc := ⟨.hbm, 411, rfl⟩
abbrev main_call0_call8_v10 : Ref sig .tc := ⟨.hbm, 412, rfl⟩
abbrev main_call0_call8_v11 : Ref sig .tc := ⟨.hbm, 413, rfl⟩
abbrev main_call0_call8_c_0 : Ref sig .tc := ⟨.hbm, 414, rfl⟩
abbrev main_call0_call8_v12 : Ref sig .tc := ⟨.hbm, 415, rfl⟩
abbrev main_call0_call8_v13 : Ref sig .tc := ⟨.hbm, 416, rfl⟩
abbrev main_call0_v281 : Ref sig .tc := ⟨.hbm, 417, rfl⟩
abbrev main_call0_c_60 : Ref sig .tc := ⟨.hbm, 418, rfl⟩
abbrev main_call0_v282 : Ref sig .tc := ⟨.hbm, 419, rfl⟩
abbrev main_call0_v283 : Ref sig .tc := ⟨.hbm, 420, rfl⟩
abbrev main_call0_c_61 : Ref sig .tc := ⟨.hbm, 421, rfl⟩
abbrev main_call0_c_62 : Ref sig .tc := ⟨.hbm, 422, rfl⟩
abbrev main_call0_call9_v0 : Ref sig .tc := ⟨.hbm, 423, rfl⟩
abbrev main_call0_call9_v1 : Ref sig .tc := ⟨.hbm, 424, rfl⟩
abbrev main_call0_call9_v2 : Ref sig .tc := ⟨.hbm, 425, rfl⟩
abbrev main_call0_call9_v3 : Ref sig .tc := ⟨.hbm, 426, rfl⟩
abbrev main_call0_call9_v4 : Ref sig .tc := ⟨.hbm, 427, rfl⟩
abbrev main_call0_v284 : Ref sig .tc := ⟨.hbm, 428, rfl⟩
abbrev main_call0_v285 : Ref sig .tc := ⟨.hbm, 429, rfl⟩
abbrev main_call0_v286 : Ref sig .tc := ⟨.hbm, 430, rfl⟩
abbrev main_call0_v287 : Ref sig .tc := ⟨.hbm, 431, rfl⟩
abbrev main_call0_v288 : Ref sig .tc := ⟨.hbm, 432, rfl⟩
abbrev main_call0_v289 : Ref sig .tc := ⟨.hbm, 433, rfl⟩
abbrev main_call0_v290 : Ref sig .tc := ⟨.hbm, 434, rfl⟩
abbrev main_call0_v291 : Ref sig .tc := ⟨.hbm, 435, rfl⟩
abbrev main_call0_v292 : Ref sig .tc := ⟨.hbm, 436, rfl⟩
abbrev main_call0_v293 : Ref sig .tc := ⟨.hbm, 437, rfl⟩
abbrev main_call0_v294 : Ref sig .tc := ⟨.hbm, 438, rfl⟩
abbrev main_call0_v295 : Ref sig .tc := ⟨.hbm, 439, rfl⟩
abbrev main_call0_v296 : Ref sig .tc := ⟨.hbm, 440, rfl⟩
abbrev main_call0_v297 : Ref sig .tc := ⟨.hbm, 441, rfl⟩
abbrev main_call0_cst_63 : Ref sig .tc := ⟨.hbm, 442, rfl⟩
abbrev main_call0_v298 : Ref sig .tc := ⟨.hbm, 443, rfl⟩
abbrev main_call0_v299 : Ref sig .tc := ⟨.hbm, 444, rfl⟩
abbrev main_call0_v300 : Ref sig .tc := ⟨.hbm, 445, rfl⟩
abbrev main_call0_v301 : Ref sig .tc := ⟨.hbm, 446, rfl⟩
abbrev main_call0_v302 : Ref sig .tc := ⟨.hbm, 447, rfl⟩
abbrev main_call0_v303 : Ref sig .tc := ⟨.hbm, 448, rfl⟩
abbrev main_call0_v304 : Ref sig .tc := ⟨.hbm, 449, rfl⟩
abbrev main_call0_v305 : Ref sig .tc := ⟨.hbm, 450, rfl⟩
abbrev main_call0_v306 : Ref sig .tc := ⟨.hbm, 451, rfl⟩
abbrev main_call0_v307 : Ref sig .tc := ⟨.hbm, 452, rfl⟩
abbrev main_call0_v308 : Ref sig .tc := ⟨.hbm, 453, rfl⟩
abbrev main_call0_v309 : Ref sig .tc := ⟨.hbm, 454, rfl⟩
abbrev main_call0_v310 : Ref sig .tc := ⟨.hbm, 455, rfl⟩
abbrev main_call0_v311 : Ref sig .tc := ⟨.hbm, 456, rfl⟩
abbrev main_call0_v312 : Ref sig .tc := ⟨.hbm, 457, rfl⟩
abbrev main_call0_v313 : Ref sig .tc := ⟨.hbm, 458, rfl⟩
abbrev main_call0_cst_64 : Ref sig .tc := ⟨.hbm, 459, rfl⟩
abbrev main_call0_v314 : Ref sig .tc := ⟨.hbm, 460, rfl⟩
abbrev main_call0_cst_65 : Ref sig .tc := ⟨.hbm, 461, rfl⟩
abbrev main_call0_v315 : Ref sig .tc := ⟨.hbm, 462, rfl⟩
abbrev main_call0_v316 : Ref sig .tc := ⟨.hbm, 463, rfl⟩
abbrev main_call0_v317 : Ref sig .tc := ⟨.hbm, 464, rfl⟩
abbrev main_call0_v318 : Ref sig .tc := ⟨.hbm, 465, rfl⟩
abbrev main_call0_v319 : Ref sig .tc := ⟨.hbm, 466, rfl⟩
abbrev main_call0_v320 : Ref sig .tc := ⟨.hbm, 467, rfl⟩
abbrev main_call0_v321 : Ref sig .tc := ⟨.hbm, 468, rfl⟩
abbrev main_call0_v322 : Ref sig .tc := ⟨.hbm, 469, rfl⟩
abbrev main_call0_v323 : Ref sig .tc := ⟨.hbm, 470, rfl⟩
abbrev main_call0_v324 : Ref sig .tc := ⟨.hbm, 471, rfl⟩
abbrev main_call0_v325 : Ref sig .tc := ⟨.hbm, 472, rfl⟩
abbrev main_call0_cst_66 : Ref sig .tc := ⟨.hbm, 473, rfl⟩
abbrev main_call0_v326 : Ref sig .tc := ⟨.hbm, 474, rfl⟩
abbrev main_call0_v327 : Ref sig .tc := ⟨.hbm, 475, rfl⟩
abbrev main_call0_v328 : Ref sig .tc := ⟨.hbm, 476, rfl⟩
abbrev main_call0_v329 : Ref sig .tc := ⟨.hbm, 477, rfl⟩
abbrev main_call0_cst_67 : Ref sig .tc := ⟨.hbm, 478, rfl⟩
abbrev main_call0_v330 : Ref sig .tc := ⟨.hbm, 479, rfl⟩
abbrev main_call0_v331 : Ref sig .tc := ⟨.hbm, 480, rfl⟩
abbrev main_call0_v332 : Ref sig .tc := ⟨.hbm, 481, rfl⟩
abbrev main_call0_cst_68 : Ref sig .tc := ⟨.hbm, 482, rfl⟩
abbrev main_call0_v333 : Ref sig .tc := ⟨.hbm, 483, rfl⟩
abbrev main_call0_v334 : Ref sig .tc := ⟨.hbm, 484, rfl⟩
abbrev main_call0_cst_69 : Ref sig .tc := ⟨.hbm, 485, rfl⟩
abbrev main_call0_v335 : Ref sig .tc := ⟨.hbm, 486, rfl⟩
abbrev main_call0_v336 : Ref sig .tc := ⟨.hbm, 487, rfl⟩
abbrev main_call0_v337 : Ref sig .tc := ⟨.hbm, 488, rfl⟩
abbrev main_call0_v338 : Ref sig .tc := ⟨.hbm, 489, rfl⟩
abbrev main_call0_v339 : Ref sig .tc := ⟨.hbm, 490, rfl⟩
abbrev main_call0_v340 : Ref sig .tc := ⟨.hbm, 491, rfl⟩
abbrev main_call0_cst_70 : Ref sig .tc := ⟨.hbm, 492, rfl⟩
abbrev main_call0_v341 : Ref sig .tc := ⟨.hbm, 493, rfl⟩
abbrev main_call0_v342 : Ref sig .tc := ⟨.hbm, 494, rfl⟩
abbrev main_call0_cst_71 : Ref sig .tc := ⟨.hbm, 495, rfl⟩
abbrev main_call0_v343 : Ref sig .tc := ⟨.hbm, 496, rfl⟩
abbrev main_call0_v344 : Ref sig .tc := ⟨.hbm, 497, rfl⟩
abbrev main_call0_v345 : Ref sig .tc := ⟨.hbm, 498, rfl⟩
abbrev main_call0_v346 : Ref sig .tc := ⟨.hbm, 499, rfl⟩
abbrev main_call0_v347 : Ref sig .tc := ⟨.hbm, 500, rfl⟩
abbrev main_call0_v348 : Ref sig .tc := ⟨.hbm, 501, rfl⟩
abbrev main_call0_v349 : Ref sig .tc := ⟨.hbm, 502, rfl⟩
abbrev main_call0_v350 : Ref sig .tc := ⟨.hbm, 503, rfl⟩
abbrev main_call0_v351 : Ref sig .tc := ⟨.hbm, 504, rfl⟩
abbrev main_call0_v352 : Ref sig .tc := ⟨.hbm, 505, rfl⟩
abbrev main_call0_v353 : Ref sig .tc := ⟨.hbm, 506, rfl⟩
abbrev main_call0_v354 : Ref sig .tc := ⟨.hbm, 507, rfl⟩
abbrev main_call0_v355 : Ref sig .tc := ⟨.hbm, 508, rfl⟩
abbrev main_call0_v356 : Ref sig .tc := ⟨.hbm, 509, rfl⟩
abbrev main_call0_cst_72 : Ref sig .tc := ⟨.hbm, 510, rfl⟩
abbrev main_call0_cst_73 : Ref sig .tc := ⟨.hbm, 511, rfl⟩
abbrev main_call0_call10_v0 : Ref sig .tc := ⟨.hbm, 512, rfl⟩
abbrev main_call0_call10_v1 : Ref sig .tc := ⟨.hbm, 513, rfl⟩
abbrev main_call0_call10_v2 : Ref sig .tc := ⟨.hbm, 514, rfl⟩
abbrev main_call0_call10_v3 : Ref sig .tc := ⟨.hbm, 515, rfl⟩
abbrev main_call0_call10_v4 : Ref sig .tc := ⟨.hbm, 516, rfl⟩
abbrev main_call0_v357 : Ref sig .tc := ⟨.hbm, 517, rfl⟩
abbrev main_call0_v358 : Ref sig .tc := ⟨.hbm, 518, rfl⟩
abbrev main_call0_v359 : Ref sig .tc := ⟨.hbm, 519, rfl⟩
abbrev main_call0_v360 : Ref sig .tc := ⟨.hbm, 520, rfl⟩
abbrev main_call0_c_74 : Ref sig .tc := ⟨.hbm, 521, rfl⟩
abbrev main_call0_v361 : Ref sig .tc := ⟨.hbm, 522, rfl⟩
abbrev main_call0_v362 : Ref sig .tc := ⟨.hbm, 523, rfl⟩
abbrev main_call0_c_75 : Ref sig .tc := ⟨.hbm, 524, rfl⟩
abbrev main_call0_v363 : Ref sig .tc := ⟨.hbm, 525, rfl⟩
abbrev main_call0_v364 : Ref sig .tc := ⟨.hbm, 526, rfl⟩
abbrev main_call0_c_76 : Ref sig .tc := ⟨.hbm, 527, rfl⟩
abbrev main_call0_v365 : Ref sig .tc := ⟨.hbm, 528, rfl⟩
abbrev main_call0_c_77 : Ref sig .tc := ⟨.hbm, 529, rfl⟩
abbrev main_call0_c_78 : Ref sig .tc := ⟨.hbm, 530, rfl⟩
abbrev main_call0_call11_v0 : Ref sig .tc := ⟨.hbm, 531, rfl⟩
abbrev main_call0_call11_v1 : Ref sig .tc := ⟨.hbm, 532, rfl⟩
abbrev main_call0_call11_v2 : Ref sig .tc := ⟨.hbm, 533, rfl⟩
abbrev main_call0_call11_v3 : Ref sig .tc := ⟨.hbm, 534, rfl⟩
abbrev main_call0_call11_v4 : Ref sig .tc := ⟨.hbm, 535, rfl⟩
abbrev main_call0_v366 : Ref sig .tc := ⟨.hbm, 536, rfl⟩
abbrev main_call0_v367 : Ref sig .tc := ⟨.hbm, 537, rfl⟩
abbrev main_call0_v368 : Ref sig .tc := ⟨.hbm, 538, rfl⟩
abbrev main_call0_v369 : Ref sig .tc := ⟨.hbm, 539, rfl⟩
abbrev main_call0_v370 : Ref sig .tc := ⟨.hbm, 540, rfl⟩
abbrev main_call0_v371 : Ref sig .tc := ⟨.hbm, 541, rfl⟩
abbrev main_call0_v372 : Ref sig .tc := ⟨.hbm, 542, rfl⟩
abbrev main_call0_v373 : Ref sig .tc := ⟨.hbm, 543, rfl⟩
abbrev main_call0_v374 : Ref sig .tc := ⟨.hbm, 544, rfl⟩
abbrev main_call0_v375 : Ref sig .tc := ⟨.hbm, 545, rfl⟩
abbrev main_call0_v376 : Ref sig .tc := ⟨.hbm, 546, rfl⟩
abbrev main_call0_v377 : Ref sig .tc := ⟨.hbm, 547, rfl⟩
abbrev main_call0_v378 : Ref sig .tc := ⟨.hbm, 548, rfl⟩
abbrev main_call0_v379 : Ref sig .tc := ⟨.hbm, 549, rfl⟩
abbrev main_call0_cst_79 : Ref sig .tc := ⟨.hbm, 550, rfl⟩
abbrev main_call0_v380 : Ref sig .tc := ⟨.hbm, 551, rfl⟩
abbrev main_call0_v381 : Ref sig .tc := ⟨.hbm, 552, rfl⟩
abbrev main_call0_v382 : Ref sig .tc := ⟨.hbm, 553, rfl⟩
abbrev main_call0_v383 : Ref sig .tc := ⟨.hbm, 554, rfl⟩
abbrev main_call0_v384 : Ref sig .tc := ⟨.hbm, 555, rfl⟩
abbrev main_call0_v385 : Ref sig .tc := ⟨.hbm, 556, rfl⟩
abbrev main_call0_v386 : Ref sig .tc := ⟨.hbm, 557, rfl⟩
abbrev main_call0_v387 : Ref sig .tc := ⟨.hbm, 558, rfl⟩
abbrev main_call0_v388 : Ref sig .tc := ⟨.hbm, 559, rfl⟩
abbrev main_call0_v389 : Ref sig .tc := ⟨.hbm, 560, rfl⟩
abbrev main_call0_v390 : Ref sig .tc := ⟨.hbm, 561, rfl⟩
abbrev main_call0_v391 : Ref sig .tc := ⟨.hbm, 562, rfl⟩
abbrev main_call0_v392 : Ref sig .tc := ⟨.hbm, 563, rfl⟩
abbrev main_call0_v393 : Ref sig .tc := ⟨.hbm, 564, rfl⟩
abbrev main_call0_v394 : Ref sig .tc := ⟨.hbm, 565, rfl⟩
abbrev main_call0_v395 : Ref sig .tc := ⟨.hbm, 566, rfl⟩
abbrev main_call0_cst_80 : Ref sig .tc := ⟨.hbm, 567, rfl⟩
abbrev main_call0_v396 : Ref sig .tc := ⟨.hbm, 568, rfl⟩
abbrev main_call0_cst_81 : Ref sig .tc := ⟨.hbm, 569, rfl⟩
abbrev main_call0_v397 : Ref sig .tc := ⟨.hbm, 570, rfl⟩
abbrev main_call0_v398 : Ref sig .tc := ⟨.hbm, 571, rfl⟩
abbrev main_call0_v399 : Ref sig .tc := ⟨.hbm, 572, rfl⟩
abbrev main_call0_v400 : Ref sig .tc := ⟨.hbm, 573, rfl⟩
abbrev main_call0_cst_82 : Ref sig .tc := ⟨.hbm, 574, rfl⟩
abbrev main_call0_v401 : Ref sig .tc := ⟨.hbm, 575, rfl⟩
abbrev main_call0_v402 : Ref sig .tc := ⟨.hbm, 576, rfl⟩
abbrev main_call0_v403 : Ref sig .tc := ⟨.hbm, 577, rfl⟩
abbrev main_call0_v404 : Ref sig .tc := ⟨.hbm, 578, rfl⟩
abbrev main_call0_cst_83 : Ref sig .tc := ⟨.hbm, 579, rfl⟩
abbrev main_call0_v405 : Ref sig .tc := ⟨.hbm, 580, rfl⟩
abbrev main_call0_v406 : Ref sig .tc := ⟨.hbm, 581, rfl⟩
abbrev main_call0_v407 : Ref sig .tc := ⟨.hbm, 582, rfl⟩
abbrev main_call0_cst_84 : Ref sig .tc := ⟨.hbm, 583, rfl⟩
abbrev main_call0_v408 : Ref sig .tc := ⟨.hbm, 584, rfl⟩
abbrev main_call0_v409 : Ref sig .tc := ⟨.hbm, 585, rfl⟩
abbrev main_call0_cst_85 : Ref sig .tc := ⟨.hbm, 586, rfl⟩
abbrev main_call0_v410 : Ref sig .tc := ⟨.hbm, 587, rfl⟩
abbrev main_call0_v411 : Ref sig .tc := ⟨.hbm, 588, rfl⟩
abbrev main_call0_v412 : Ref sig .tc := ⟨.hbm, 589, rfl⟩
abbrev main_call0_v413 : Ref sig .tc := ⟨.hbm, 590, rfl⟩
abbrev main_call0_v414 : Ref sig .tc := ⟨.hbm, 591, rfl⟩
abbrev main_call0_v415 : Ref sig .tc := ⟨.hbm, 592, rfl⟩
abbrev main_call0_cst_86 : Ref sig .tc := ⟨.hbm, 593, rfl⟩
abbrev main_call0_v416 : Ref sig .tc := ⟨.hbm, 594, rfl⟩
abbrev main_call0_v417 : Ref sig .tc := ⟨.hbm, 595, rfl⟩
abbrev main_call0_cst_87 : Ref sig .tc := ⟨.hbm, 596, rfl⟩
abbrev main_call0_v418 : Ref sig .tc := ⟨.hbm, 597, rfl⟩
abbrev main_call0_v419 : Ref sig .tc := ⟨.hbm, 598, rfl⟩
abbrev main_call0_v420 : Ref sig .tc := ⟨.hbm, 599, rfl⟩
abbrev main_call0_v421 : Ref sig .tc := ⟨.hbm, 600, rfl⟩
abbrev main_call0_v422 : Ref sig .tc := ⟨.hbm, 601, rfl⟩
abbrev main_call0_v423 : Ref sig .tc := ⟨.hbm, 602, rfl⟩
abbrev main_call0_v424 : Ref sig .tc := ⟨.hbm, 603, rfl⟩
abbrev main_call0_v425 : Ref sig .tc := ⟨.hbm, 604, rfl⟩
abbrev main_call0_v426 : Ref sig .tc := ⟨.hbm, 605, rfl⟩
abbrev main_call0_v427 : Ref sig .tc := ⟨.hbm, 606, rfl⟩
abbrev main_call0_v428 : Ref sig .tc := ⟨.hbm, 607, rfl⟩
abbrev main_call0_v429 : Ref sig .tc := ⟨.hbm, 608, rfl⟩
abbrev main_call0_v430 : Ref sig .tc := ⟨.hbm, 609, rfl⟩
abbrev main_call0_v431 : Ref sig .tc := ⟨.hbm, 610, rfl⟩
abbrev main_call0_cst_88 : Ref sig .tc := ⟨.hbm, 611, rfl⟩
abbrev main_call0_cst_89 : Ref sig .tc := ⟨.hbm, 612, rfl⟩
abbrev main_call0_call12_v0 : Ref sig .tc := ⟨.hbm, 613, rfl⟩
abbrev main_call0_call12_v1 : Ref sig .tc := ⟨.hbm, 614, rfl⟩
abbrev main_call0_call12_v2 : Ref sig .tc := ⟨.hbm, 615, rfl⟩
abbrev main_call0_call12_v3 : Ref sig .tc := ⟨.hbm, 616, rfl⟩
abbrev main_call0_call12_v4 : Ref sig .tc := ⟨.hbm, 617, rfl⟩
abbrev main_call0_v432 : Ref sig .tc := ⟨.hbm, 618, rfl⟩
abbrev main_call0_v433 : Ref sig .tc := ⟨.hbm, 619, rfl⟩
abbrev main_call0_v434 : Ref sig .tc := ⟨.hbm, 620, rfl⟩
abbrev main_call0_v435 : Ref sig .tc := ⟨.hbm, 621, rfl⟩
abbrev main_call0_c_90 : Ref sig .tc := ⟨.hbm, 622, rfl⟩
abbrev main_call0_v436 : Ref sig .tc := ⟨.hbm, 623, rfl⟩
abbrev main_call0_v437 : Ref sig .tc := ⟨.hbm, 624, rfl⟩
abbrev main_call0_c_91 : Ref sig .tc := ⟨.hbm, 625, rfl⟩
abbrev main_call0_v438 : Ref sig .tc := ⟨.hbm, 626, rfl⟩
abbrev main_call0_v439 : Ref sig .tc := ⟨.hbm, 627, rfl⟩
abbrev main_call0_c_92 : Ref sig .tc := ⟨.hbm, 628, rfl⟩
abbrev main_call0_v440 : Ref sig .tc := ⟨.hbm, 629, rfl⟩
abbrev main_call0_c_93 : Ref sig .tc := ⟨.hbm, 630, rfl⟩
abbrev main_call0_call13_v0 : Ref sig .tc := ⟨.hbm, 631, rfl⟩
abbrev main_call0_call13_v1 : Ref sig .tc := ⟨.hbm, 632, rfl⟩
abbrev main_call0_call13_v2 : Ref sig .tc := ⟨.hbm, 633, rfl⟩
abbrev main_call0_call13_v3 : Ref sig .tc := ⟨.hbm, 634, rfl⟩
abbrev main_call0_call13_v4 : Ref sig .tc := ⟨.hbm, 635, rfl⟩
abbrev main_call0_call13_v5 : Ref sig .tc := ⟨.hbm, 636, rfl⟩
abbrev main_call0_call13_v6 : Ref sig .tc := ⟨.hbm, 637, rfl⟩
abbrev main_call0_call13_v7 : Ref sig .tc := ⟨.hbm, 638, rfl⟩
abbrev main_call0_call13_v8 : Ref sig .tc := ⟨.hbm, 639, rfl⟩
abbrev main_call0_call13_c : Ref sig .tc := ⟨.hbm, 640, rfl⟩
abbrev main_call0_call13_v9 : Ref sig .tc := ⟨.hbm, 641, rfl⟩
abbrev main_call0_call13_v10 : Ref sig .tc := ⟨.hbm, 642, rfl⟩
abbrev main_call0_call13_v11 : Ref sig .tc := ⟨.hbm, 643, rfl⟩
abbrev main_call0_call13_c_0 : Ref sig .tc := ⟨.hbm, 644, rfl⟩
abbrev main_call0_call13_v12 : Ref sig .tc := ⟨.hbm, 645, rfl⟩
abbrev main_call0_call13_v13 : Ref sig .tc := ⟨.hbm, 646, rfl⟩
abbrev main_call0_v441 : Ref sig .tc := ⟨.hbm, 647, rfl⟩
abbrev main_call0_c_94 : Ref sig .tc := ⟨.hbm, 648, rfl⟩
abbrev main_call0_v442 : Ref sig .tc := ⟨.hbm, 649, rfl⟩
abbrev main_call0_v443 : Ref sig .tc := ⟨.hbm, 650, rfl⟩
abbrev main_call0_c_95 : Ref sig .tc := ⟨.hbm, 651, rfl⟩
abbrev main_call0_c_96 : Ref sig .tc := ⟨.hbm, 652, rfl⟩
abbrev main_call0_call14_v0 : Ref sig .tc := ⟨.hbm, 653, rfl⟩
abbrev main_call0_call14_v1 : Ref sig .tc := ⟨.hbm, 654, rfl⟩
abbrev main_call0_call14_v2 : Ref sig .tc := ⟨.hbm, 655, rfl⟩
abbrev main_call0_call14_v3 : Ref sig .tc := ⟨.hbm, 656, rfl⟩
abbrev main_call0_call14_v4 : Ref sig .tc := ⟨.hbm, 657, rfl⟩
abbrev main_call0_v444 : Ref sig .tc := ⟨.hbm, 658, rfl⟩
abbrev main_call0_v445 : Ref sig .tc := ⟨.hbm, 659, rfl⟩
abbrev main_call0_v446 : Ref sig .tc := ⟨.hbm, 660, rfl⟩
abbrev main_call0_v447 : Ref sig .tc := ⟨.hbm, 661, rfl⟩
abbrev main_call0_v448 : Ref sig .tc := ⟨.hbm, 662, rfl⟩
abbrev main_call0_v449 : Ref sig .tc := ⟨.hbm, 663, rfl⟩
abbrev main_call0_v450 : Ref sig .tc := ⟨.hbm, 664, rfl⟩
abbrev main_call0_v451 : Ref sig .tc := ⟨.hbm, 665, rfl⟩
abbrev main_call0_v452 : Ref sig .tc := ⟨.hbm, 666, rfl⟩
abbrev main_call0_v453 : Ref sig .tc := ⟨.hbm, 667, rfl⟩
abbrev main_call0_v454 : Ref sig .tc := ⟨.hbm, 668, rfl⟩
abbrev main_call0_v455 : Ref sig .tc := ⟨.hbm, 669, rfl⟩
abbrev main_call0_v456 : Ref sig .tc := ⟨.hbm, 670, rfl⟩
abbrev main_call0_v457 : Ref sig .tc := ⟨.hbm, 671, rfl⟩
abbrev main_call0_cst_97 : Ref sig .tc := ⟨.hbm, 672, rfl⟩
abbrev main_call0_v458 : Ref sig .tc := ⟨.hbm, 673, rfl⟩
abbrev main_call0_v459 : Ref sig .tc := ⟨.hbm, 674, rfl⟩
abbrev main_call0_v460 : Ref sig .tc := ⟨.hbm, 675, rfl⟩
abbrev main_call0_v461 : Ref sig .tc := ⟨.hbm, 676, rfl⟩
abbrev main_call0_v462 : Ref sig .tc := ⟨.hbm, 677, rfl⟩
abbrev main_call0_v463 : Ref sig .tc := ⟨.hbm, 678, rfl⟩
abbrev main_call0_v464 : Ref sig .tc := ⟨.hbm, 679, rfl⟩
abbrev main_call0_v465 : Ref sig .tc := ⟨.hbm, 680, rfl⟩
abbrev main_call0_v466 : Ref sig .tc := ⟨.hbm, 681, rfl⟩
abbrev main_call0_v467 : Ref sig .tc := ⟨.hbm, 682, rfl⟩
abbrev main_call0_v468 : Ref sig .tc := ⟨.hbm, 683, rfl⟩
abbrev main_call0_v469 : Ref sig .tc := ⟨.hbm, 684, rfl⟩
abbrev main_call0_v470 : Ref sig .tc := ⟨.hbm, 685, rfl⟩
abbrev main_call0_v471 : Ref sig .tc := ⟨.hbm, 686, rfl⟩
abbrev main_call0_v472 : Ref sig .tc := ⟨.hbm, 687, rfl⟩
abbrev main_call0_v473 : Ref sig .tc := ⟨.hbm, 688, rfl⟩
abbrev main_call0_cst_98 : Ref sig .tc := ⟨.hbm, 689, rfl⟩
abbrev main_call0_v474 : Ref sig .tc := ⟨.hbm, 690, rfl⟩
abbrev main_call0_cst_99 : Ref sig .tc := ⟨.hbm, 691, rfl⟩
abbrev main_call0_v475 : Ref sig .tc := ⟨.hbm, 692, rfl⟩
abbrev main_call0_v476 : Ref sig .tc := ⟨.hbm, 693, rfl⟩
abbrev main_call0_v477 : Ref sig .tc := ⟨.hbm, 694, rfl⟩
abbrev main_call0_v478 : Ref sig .tc := ⟨.hbm, 695, rfl⟩
abbrev main_call0_v479 : Ref sig .tc := ⟨.hbm, 696, rfl⟩
abbrev main_call0_v480 : Ref sig .tc := ⟨.hbm, 697, rfl⟩
abbrev main_call0_v481 : Ref sig .tc := ⟨.hbm, 698, rfl⟩
abbrev main_call0_v482 : Ref sig .tc := ⟨.hbm, 699, rfl⟩
abbrev main_call0_v483 : Ref sig .tc := ⟨.hbm, 700, rfl⟩
abbrev main_call0_v484 : Ref sig .tc := ⟨.hbm, 701, rfl⟩
abbrev main_call0_v485 : Ref sig .tc := ⟨.hbm, 702, rfl⟩
abbrev main_call0_cst_100 : Ref sig .tc := ⟨.hbm, 703, rfl⟩
abbrev main_call0_v486 : Ref sig .tc := ⟨.hbm, 704, rfl⟩
abbrev main_call0_v487 : Ref sig .tc := ⟨.hbm, 705, rfl⟩
abbrev main_call0_v488 : Ref sig .tc := ⟨.hbm, 706, rfl⟩
abbrev main_call0_v489 : Ref sig .tc := ⟨.hbm, 707, rfl⟩
abbrev main_call0_cst_101 : Ref sig .tc := ⟨.hbm, 708, rfl⟩
abbrev main_call0_v490 : Ref sig .tc := ⟨.hbm, 709, rfl⟩
abbrev main_call0_v491 : Ref sig .tc := ⟨.hbm, 710, rfl⟩
abbrev main_call0_v492 : Ref sig .tc := ⟨.hbm, 711, rfl⟩
abbrev main_call0_cst_102 : Ref sig .tc := ⟨.hbm, 712, rfl⟩
abbrev main_call0_v493 : Ref sig .tc := ⟨.hbm, 713, rfl⟩
abbrev main_call0_v494 : Ref sig .tc := ⟨.hbm, 714, rfl⟩
abbrev main_call0_cst_103 : Ref sig .tc := ⟨.hbm, 715, rfl⟩
abbrev main_call0_v495 : Ref sig .tc := ⟨.hbm, 716, rfl⟩
abbrev main_call0_v496 : Ref sig .tc := ⟨.hbm, 717, rfl⟩
abbrev main_call0_v497 : Ref sig .tc := ⟨.hbm, 718, rfl⟩
abbrev main_call0_v498 : Ref sig .tc := ⟨.hbm, 719, rfl⟩
abbrev main_call0_v499 : Ref sig .tc := ⟨.hbm, 720, rfl⟩
abbrev main_call0_v500 : Ref sig .tc := ⟨.hbm, 721, rfl⟩
abbrev main_call0_cst_104 : Ref sig .tc := ⟨.hbm, 722, rfl⟩
abbrev main_call0_v501 : Ref sig .tc := ⟨.hbm, 723, rfl⟩
abbrev main_call0_v502 : Ref sig .tc := ⟨.hbm, 724, rfl⟩
abbrev main_call0_cst_105 : Ref sig .tc := ⟨.hbm, 725, rfl⟩
abbrev main_call0_v503 : Ref sig .tc := ⟨.hbm, 726, rfl⟩
abbrev main_call0_v504 : Ref sig .tc := ⟨.hbm, 727, rfl⟩
abbrev main_call0_v505 : Ref sig .tc := ⟨.hbm, 728, rfl⟩
abbrev main_call0_v506 : Ref sig .tc := ⟨.hbm, 729, rfl⟩
abbrev main_call0_v507 : Ref sig .tc := ⟨.hbm, 730, rfl⟩
abbrev main_call0_v508 : Ref sig .tc := ⟨.hbm, 731, rfl⟩
abbrev main_call0_v509 : Ref sig .tc := ⟨.hbm, 732, rfl⟩
abbrev main_call0_v510 : Ref sig .tc := ⟨.hbm, 733, rfl⟩
abbrev main_call0_v511 : Ref sig .tc := ⟨.hbm, 734, rfl⟩
abbrev main_call0_v512 : Ref sig .tc := ⟨.hbm, 735, rfl⟩
abbrev main_call0_v513 : Ref sig .tc := ⟨.hbm, 736, rfl⟩
abbrev main_call0_v514 : Ref sig .tc := ⟨.hbm, 737, rfl⟩
abbrev main_call0_v515 : Ref sig .tc := ⟨.hbm, 738, rfl⟩
abbrev main_call0_v516 : Ref sig .tc := ⟨.hbm, 739, rfl⟩
abbrev main_call0_cst_106 : Ref sig .tc := ⟨.hbm, 740, rfl⟩
abbrev main_call0_cst_107 : Ref sig .tc := ⟨.hbm, 741, rfl⟩
abbrev main_call0_call15_v0 : Ref sig .tc := ⟨.hbm, 742, rfl⟩
abbrev main_call0_call15_v1 : Ref sig .tc := ⟨.hbm, 743, rfl⟩
abbrev main_call0_call15_v2 : Ref sig .tc := ⟨.hbm, 744, rfl⟩
abbrev main_call0_call15_v3 : Ref sig .tc := ⟨.hbm, 745, rfl⟩
abbrev main_call0_call15_v4 : Ref sig .tc := ⟨.hbm, 746, rfl⟩
abbrev main_call0_v517 : Ref sig .tc := ⟨.hbm, 747, rfl⟩
abbrev main_call0_v518 : Ref sig .tc := ⟨.hbm, 748, rfl⟩
abbrev main_call0_v519 : Ref sig .tc := ⟨.hbm, 749, rfl⟩
abbrev main_call0_v520 : Ref sig .tc := ⟨.hbm, 750, rfl⟩
abbrev main_call0_c_108 : Ref sig .tc := ⟨.hbm, 751, rfl⟩
abbrev main_call0_v521 : Ref sig .tc := ⟨.hbm, 752, rfl⟩
abbrev main_call0_v522 : Ref sig .tc := ⟨.hbm, 753, rfl⟩
abbrev main_call0_c_109 : Ref sig .tc := ⟨.hbm, 754, rfl⟩
abbrev main_call0_v523 : Ref sig .tc := ⟨.hbm, 755, rfl⟩
abbrev main_call0_v524 : Ref sig .tc := ⟨.hbm, 756, rfl⟩
abbrev main_call0_c_110 : Ref sig .tc := ⟨.hbm, 757, rfl⟩
abbrev main_call0_v525 : Ref sig .tc := ⟨.hbm, 758, rfl⟩
abbrev main_call0_c_111 : Ref sig .tc := ⟨.hbm, 759, rfl⟩
abbrev main_call0_c_112 : Ref sig .tc := ⟨.hbm, 760, rfl⟩
abbrev main_call0_call16_v0 : Ref sig .tc := ⟨.hbm, 761, rfl⟩
abbrev main_call0_call16_v1 : Ref sig .tc := ⟨.hbm, 762, rfl⟩
abbrev main_call0_call16_v2 : Ref sig .tc := ⟨.hbm, 763, rfl⟩
abbrev main_call0_call16_v3 : Ref sig .tc := ⟨.hbm, 764, rfl⟩
abbrev main_call0_call16_v4 : Ref sig .tc := ⟨.hbm, 765, rfl⟩
abbrev main_call0_v526 : Ref sig .tc := ⟨.hbm, 766, rfl⟩
abbrev main_call0_v527 : Ref sig .tc := ⟨.hbm, 767, rfl⟩
abbrev main_call0_v528 : Ref sig .tc := ⟨.hbm, 768, rfl⟩
abbrev main_call0_v529 : Ref sig .tc := ⟨.hbm, 769, rfl⟩
abbrev main_call0_v530 : Ref sig .tc := ⟨.hbm, 770, rfl⟩
abbrev main_call0_v531 : Ref sig .tc := ⟨.hbm, 771, rfl⟩
abbrev main_call0_v532 : Ref sig .tc := ⟨.hbm, 772, rfl⟩
abbrev main_call0_v533 : Ref sig .tc := ⟨.hbm, 773, rfl⟩
abbrev main_call0_v534 : Ref sig .tc := ⟨.hbm, 774, rfl⟩
abbrev main_call0_v535 : Ref sig .tc := ⟨.hbm, 775, rfl⟩
abbrev main_call0_v536 : Ref sig .tc := ⟨.hbm, 776, rfl⟩
abbrev main_call0_v537 : Ref sig .tc := ⟨.hbm, 777, rfl⟩
abbrev main_call0_v538 : Ref sig .tc := ⟨.hbm, 778, rfl⟩
abbrev main_call0_v539 : Ref sig .tc := ⟨.hbm, 779, rfl⟩
abbrev main_call0_cst_113 : Ref sig .tc := ⟨.hbm, 780, rfl⟩
abbrev main_call0_v540 : Ref sig .tc := ⟨.hbm, 781, rfl⟩
abbrev main_call0_v541 : Ref sig .tc := ⟨.hbm, 782, rfl⟩
abbrev main_call0_v542 : Ref sig .tc := ⟨.hbm, 783, rfl⟩
abbrev main_call0_v543 : Ref sig .tc := ⟨.hbm, 784, rfl⟩
abbrev main_call0_v544 : Ref sig .tc := ⟨.hbm, 785, rfl⟩
abbrev main_call0_v545 : Ref sig .tc := ⟨.hbm, 786, rfl⟩
abbrev main_call0_v546 : Ref sig .tc := ⟨.hbm, 787, rfl⟩
abbrev main_call0_v547 : Ref sig .tc := ⟨.hbm, 788, rfl⟩
abbrev main_call0_v548 : Ref sig .tc := ⟨.hbm, 789, rfl⟩
abbrev main_call0_v549 : Ref sig .tc := ⟨.hbm, 790, rfl⟩
abbrev main_call0_v550 : Ref sig .tc := ⟨.hbm, 791, rfl⟩
abbrev main_call0_v551 : Ref sig .tc := ⟨.hbm, 792, rfl⟩
abbrev main_call0_v552 : Ref sig .tc := ⟨.hbm, 793, rfl⟩
abbrev main_call0_v553 : Ref sig .tc := ⟨.hbm, 794, rfl⟩
abbrev main_call0_v554 : Ref sig .tc := ⟨.hbm, 795, rfl⟩
abbrev main_call0_v555 : Ref sig .tc := ⟨.hbm, 796, rfl⟩
abbrev main_call0_cst_114 : Ref sig .tc := ⟨.hbm, 797, rfl⟩
abbrev main_call0_v556 : Ref sig .tc := ⟨.hbm, 798, rfl⟩
abbrev main_call0_cst_115 : Ref sig .tc := ⟨.hbm, 799, rfl⟩
abbrev main_call0_v557 : Ref sig .tc := ⟨.hbm, 800, rfl⟩
abbrev main_call0_v558 : Ref sig .tc := ⟨.hbm, 801, rfl⟩
abbrev main_call0_v559 : Ref sig .tc := ⟨.hbm, 802, rfl⟩
abbrev main_call0_v560 : Ref sig .tc := ⟨.hbm, 803, rfl⟩
abbrev main_call0_cst_116 : Ref sig .tc := ⟨.hbm, 804, rfl⟩
abbrev main_call0_v561 : Ref sig .tc := ⟨.hbm, 805, rfl⟩
abbrev main_call0_v562 : Ref sig .tc := ⟨.hbm, 806, rfl⟩
abbrev main_call0_v563 : Ref sig .tc := ⟨.hbm, 807, rfl⟩
abbrev main_call0_v564 : Ref sig .tc := ⟨.hbm, 808, rfl⟩
abbrev main_call0_cst_117 : Ref sig .tc := ⟨.hbm, 809, rfl⟩
abbrev main_call0_v565 : Ref sig .tc := ⟨.hbm, 810, rfl⟩
abbrev main_call0_v566 : Ref sig .tc := ⟨.hbm, 811, rfl⟩
abbrev main_call0_v567 : Ref sig .tc := ⟨.hbm, 812, rfl⟩
abbrev main_call0_cst_118 : Ref sig .tc := ⟨.hbm, 813, rfl⟩
abbrev main_call0_v568 : Ref sig .tc := ⟨.hbm, 814, rfl⟩
abbrev main_call0_v569 : Ref sig .tc := ⟨.hbm, 815, rfl⟩
abbrev main_call0_cst_119 : Ref sig .tc := ⟨.hbm, 816, rfl⟩
abbrev main_call0_v570 : Ref sig .tc := ⟨.hbm, 817, rfl⟩
abbrev main_call0_v571 : Ref sig .tc := ⟨.hbm, 818, rfl⟩
abbrev main_call0_v572 : Ref sig .tc := ⟨.hbm, 819, rfl⟩
abbrev main_call0_v573 : Ref sig .tc := ⟨.hbm, 820, rfl⟩
abbrev main_call0_v574 : Ref sig .tc := ⟨.hbm, 821, rfl⟩
abbrev main_call0_v575 : Ref sig .tc := ⟨.hbm, 822, rfl⟩
abbrev main_call0_cst_120 : Ref sig .tc := ⟨.hbm, 823, rfl⟩
abbrev main_call0_v576 : Ref sig .tc := ⟨.hbm, 824, rfl⟩
abbrev main_call0_v577 : Ref sig .tc := ⟨.hbm, 825, rfl⟩
abbrev main_call0_cst_121 : Ref sig .tc := ⟨.hbm, 826, rfl⟩
abbrev main_call0_v578 : Ref sig .tc := ⟨.hbm, 827, rfl⟩
abbrev main_call0_v579 : Ref sig .tc := ⟨.hbm, 828, rfl⟩
abbrev main_call0_v580 : Ref sig .tc := ⟨.hbm, 829, rfl⟩
abbrev main_call0_v581 : Ref sig .tc := ⟨.hbm, 830, rfl⟩
abbrev main_call0_v582 : Ref sig .tc := ⟨.hbm, 831, rfl⟩
abbrev main_call0_v583 : Ref sig .tc := ⟨.hbm, 832, rfl⟩
abbrev main_call0_v584 : Ref sig .tc := ⟨.hbm, 833, rfl⟩
abbrev main_call0_v585 : Ref sig .tc := ⟨.hbm, 834, rfl⟩
abbrev main_call0_v586 : Ref sig .tc := ⟨.hbm, 835, rfl⟩
abbrev main_call0_v587 : Ref sig .tc := ⟨.hbm, 836, rfl⟩
abbrev main_call0_v588 : Ref sig .tc := ⟨.hbm, 837, rfl⟩
abbrev main_call0_v589 : Ref sig .tc := ⟨.hbm, 838, rfl⟩
abbrev main_call0_v590 : Ref sig .tc := ⟨.hbm, 839, rfl⟩
abbrev main_call0_v591 : Ref sig .tc := ⟨.hbm, 840, rfl⟩
abbrev main_call0_cst_122 : Ref sig .tc := ⟨.hbm, 841, rfl⟩
abbrev main_call0_cst_123 : Ref sig .tc := ⟨.hbm, 842, rfl⟩
abbrev main_call0_call17_v0 : Ref sig .tc := ⟨.hbm, 843, rfl⟩
abbrev main_call0_call17_v1 : Ref sig .tc := ⟨.hbm, 844, rfl⟩
abbrev main_call0_call17_v2 : Ref sig .tc := ⟨.hbm, 845, rfl⟩
abbrev main_call0_call17_v3 : Ref sig .tc := ⟨.hbm, 846, rfl⟩
abbrev main_call0_call17_v4 : Ref sig .tc := ⟨.hbm, 847, rfl⟩
abbrev main_call0_v592 : Ref sig .tc := ⟨.hbm, 848, rfl⟩
abbrev main_call0_v593 : Ref sig .tc := ⟨.hbm, 849, rfl⟩
abbrev main_call0_v594 : Ref sig .tc := ⟨.hbm, 850, rfl⟩
abbrev main_call0_v595 : Ref sig .tc := ⟨.hbm, 851, rfl⟩
abbrev main_call0_c_124 : Ref sig .tc := ⟨.hbm, 852, rfl⟩
abbrev main_call0_v596 : Ref sig .tc := ⟨.hbm, 853, rfl⟩
abbrev main_call0_v597 : Ref sig .tc := ⟨.hbm, 854, rfl⟩
abbrev main_call0_c_125 : Ref sig .tc := ⟨.hbm, 855, rfl⟩
abbrev main_call0_v598 : Ref sig .tc := ⟨.hbm, 856, rfl⟩
abbrev main_call0_v599 : Ref sig .tc := ⟨.hbm, 857, rfl⟩
abbrev main_call0_c_126 : Ref sig .tc := ⟨.hbm, 858, rfl⟩
abbrev main_call0_v600 : Ref sig .tc := ⟨.hbm, 859, rfl⟩
abbrev main_call0_c_127 : Ref sig .tc := ⟨.hbm, 860, rfl⟩
abbrev main_call0_call18_v0 : Ref sig .tc := ⟨.hbm, 861, rfl⟩
abbrev main_call0_call18_v1 : Ref sig .tc := ⟨.hbm, 862, rfl⟩
abbrev main_call0_call18_v2 : Ref sig .tc := ⟨.hbm, 863, rfl⟩
abbrev main_call0_call18_v3 : Ref sig .tc := ⟨.hbm, 864, rfl⟩
abbrev main_call0_call18_v4 : Ref sig .tc := ⟨.hbm, 865, rfl⟩
abbrev main_call0_call18_v5 : Ref sig .tc := ⟨.hbm, 866, rfl⟩
abbrev main_call0_call18_v6 : Ref sig .tc := ⟨.hbm, 867, rfl⟩
abbrev main_call0_call18_v7 : Ref sig .tc := ⟨.hbm, 868, rfl⟩
abbrev main_call0_call18_v8 : Ref sig .tc := ⟨.hbm, 869, rfl⟩
abbrev main_call0_call18_c : Ref sig .tc := ⟨.hbm, 870, rfl⟩
abbrev main_call0_call18_v9 : Ref sig .tc := ⟨.hbm, 871, rfl⟩
abbrev main_call0_call18_v10 : Ref sig .tc := ⟨.hbm, 872, rfl⟩
abbrev main_call0_call18_v11 : Ref sig .tc := ⟨.hbm, 873, rfl⟩
abbrev main_call0_call18_c_0 : Ref sig .tc := ⟨.hbm, 874, rfl⟩
abbrev main_call0_call18_v12 : Ref sig .tc := ⟨.hbm, 875, rfl⟩
abbrev main_call0_call18_v13 : Ref sig .tc := ⟨.hbm, 876, rfl⟩
abbrev main_call0_v601 : Ref sig .tc := ⟨.hbm, 877, rfl⟩
abbrev main_call0_c_128 : Ref sig .tc := ⟨.hbm, 878, rfl⟩
abbrev main_call0_v602 : Ref sig .tc := ⟨.hbm, 879, rfl⟩
abbrev main_call0_v603 : Ref sig .tc := ⟨.hbm, 880, rfl⟩
abbrev main_call0_c_129 : Ref sig .tc := ⟨.hbm, 881, rfl⟩
abbrev main_call0_c_130 : Ref sig .tc := ⟨.hbm, 882, rfl⟩
abbrev main_call0_call19_v0 : Ref sig .tc := ⟨.hbm, 883, rfl⟩
abbrev main_call0_call19_v1 : Ref sig .tc := ⟨.hbm, 884, rfl⟩
abbrev main_call0_call19_v2 : Ref sig .tc := ⟨.hbm, 885, rfl⟩
abbrev main_call0_call19_v3 : Ref sig .tc := ⟨.hbm, 886, rfl⟩
abbrev main_call0_call19_v4 : Ref sig .tc := ⟨.hbm, 887, rfl⟩
abbrev main_call0_v604 : Ref sig .tc := ⟨.hbm, 888, rfl⟩
abbrev main_call0_v605 : Ref sig .tc := ⟨.hbm, 889, rfl⟩
abbrev main_call0_v606 : Ref sig .tc := ⟨.hbm, 890, rfl⟩
abbrev main_call0_v607 : Ref sig .tc := ⟨.hbm, 891, rfl⟩
abbrev main_call0_v608 : Ref sig .tc := ⟨.hbm, 892, rfl⟩
abbrev main_call0_v609 : Ref sig .tc := ⟨.hbm, 893, rfl⟩
abbrev main_call0_v610 : Ref sig .tc := ⟨.hbm, 894, rfl⟩
abbrev main_call0_v611 : Ref sig .tc := ⟨.hbm, 895, rfl⟩
abbrev main_call0_v612 : Ref sig .tc := ⟨.hbm, 896, rfl⟩
abbrev main_call0_v613 : Ref sig .tc := ⟨.hbm, 897, rfl⟩
abbrev main_call0_v614 : Ref sig .tc := ⟨.hbm, 898, rfl⟩
abbrev main_call0_v615 : Ref sig .tc := ⟨.hbm, 899, rfl⟩
abbrev main_call0_v616 : Ref sig .tc := ⟨.hbm, 900, rfl⟩
abbrev main_call0_v617 : Ref sig .tc := ⟨.hbm, 901, rfl⟩
abbrev main_call0_cst_131 : Ref sig .tc := ⟨.hbm, 902, rfl⟩
abbrev main_call0_v618 : Ref sig .tc := ⟨.hbm, 903, rfl⟩
abbrev main_call0_v619 : Ref sig .tc := ⟨.hbm, 904, rfl⟩
abbrev main_call0_v620 : Ref sig .tc := ⟨.hbm, 905, rfl⟩
abbrev main_call0_v621 : Ref sig .tc := ⟨.hbm, 906, rfl⟩
abbrev main_call0_v622 : Ref sig .tc := ⟨.hbm, 907, rfl⟩
abbrev main_call0_v623 : Ref sig .tc := ⟨.hbm, 908, rfl⟩
abbrev main_call0_v624 : Ref sig .tc := ⟨.hbm, 909, rfl⟩
abbrev main_call0_v625 : Ref sig .tc := ⟨.hbm, 910, rfl⟩
abbrev main_call0_v626 : Ref sig .tc := ⟨.hbm, 911, rfl⟩
abbrev main_call0_v627 : Ref sig .tc := ⟨.hbm, 912, rfl⟩
abbrev main_call0_v628 : Ref sig .tc := ⟨.hbm, 913, rfl⟩
abbrev main_call0_v629 : Ref sig .tc := ⟨.hbm, 914, rfl⟩
abbrev main_call0_v630 : Ref sig .tc := ⟨.hbm, 915, rfl⟩
abbrev main_call0_v631 : Ref sig .tc := ⟨.hbm, 916, rfl⟩
abbrev main_call0_v632 : Ref sig .tc := ⟨.hbm, 917, rfl⟩
abbrev main_call0_v633 : Ref sig .tc := ⟨.hbm, 918, rfl⟩
abbrev main_call0_cst_132 : Ref sig .tc := ⟨.hbm, 919, rfl⟩
abbrev main_call0_v634 : Ref sig .tc := ⟨.hbm, 920, rfl⟩
abbrev main_call0_cst_133 : Ref sig .tc := ⟨.hbm, 921, rfl⟩
abbrev main_call0_v635 : Ref sig .tc := ⟨.hbm, 922, rfl⟩
abbrev main_call0_v636 : Ref sig .tc := ⟨.hbm, 923, rfl⟩
abbrev main_call0_v637 : Ref sig .tc := ⟨.hbm, 924, rfl⟩
abbrev main_call0_v638 : Ref sig .tc := ⟨.hbm, 925, rfl⟩
abbrev main_call0_v639 : Ref sig .tc := ⟨.hbm, 926, rfl⟩
abbrev main_call0_v640 : Ref sig .tc := ⟨.hbm, 927, rfl⟩
abbrev main_call0_v641 : Ref sig .tc := ⟨.hbm, 928, rfl⟩
abbrev main_call0_v642 : Ref sig .tc := ⟨.hbm, 929, rfl⟩
abbrev main_call0_v643 : Ref sig .tc := ⟨.hbm, 930, rfl⟩
abbrev main_call0_v644 : Ref sig .tc := ⟨.hbm, 931, rfl⟩
abbrev main_call0_v645 : Ref sig .tc := ⟨.hbm, 932, rfl⟩
abbrev main_call0_v646 : Ref sig .tc := ⟨.hbm, 933, rfl⟩
abbrev main_call0_v647 : Ref sig .tc := ⟨.hbm, 934, rfl⟩
abbrev main_call0_v649 : Ref sig .tc := ⟨.hbm, 935, rfl⟩
abbrev main_call0_v650 : Ref sig .tc := ⟨.hbm, 936, rfl⟩
abbrev main_call0_v651 : Ref sig .tc := ⟨.hbm, 937, rfl⟩
abbrev main_call0_v652 : Ref sig .tc := ⟨.hbm, 938, rfl⟩
abbrev main_call0_v654 : Ref sig .tc := ⟨.hbm, 939, rfl⟩
abbrev main_call0_v655 : Ref sig .tc := ⟨.hbm, 940, rfl⟩
abbrev main_call0_v656 : Ref sig .tc := ⟨.hbm, 941, rfl⟩
abbrev main_call0_v657 : Ref sig .tc := ⟨.hbm, 942, rfl⟩
abbrev main_call0_v658 : Ref sig .tc := ⟨.hbm, 943, rfl⟩
abbrev main_v0 : Ref sig .tc := ⟨.hbm, 944, rfl⟩
abbrev main_arg5 : Ref sig .tc := ⟨.smem, 0, rfl⟩
abbrev main_call0_v648 : Ref sig .tc := ⟨.smem, 1, rfl⟩
abbrev main_call0_v653 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![2, 256], ![false, false]⟩

abbrev pre0 : Pipeline.Prefetch sig := ⟨3, ![main_arg5.idx, main_call0_v648.idx, main_call0_v653.idx], fun | 0 => main_arg5.names | 1 => main_call0_v648.names | 2 => main_call0_v653.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_1 : BitVec 32 := 0#32
  let v7 : BitVec 1 := Scalar.cmpi .ne v6 c0_i32_1
  v7

def k0_off1 (i : grid0.Coords) : Fin 1 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let v120 : Index := Scalar.indexCast v1
  ![v120.toNat]
def k0_off2 (i : grid0.Coords) : Fin 2 → Nat :=
  let c0_89 : Index := 0#32
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let v122 : Index := Scalar.indexCast v1
  ![0, v122.toNat]
def k0_mult1 (v125 : BitVec 32) : BitVec 32 :=
  v125

def k0_off3 (v121 : BitVec 32) (v123 : BitVec 32) (v125 : BitVec 32) : Fin 4 → Nat :=
  let v126 : BitVec 32 := v125
  let c0_i32_97 : BitVec 32 := 0#32
  ![v121.toNat, v123.toNat, v126.toNat, 0]

def k0_chk1 (i : grid0.Coords) (v121 : BitVec 32) (v123 : BitVec 32) (v125 : BitVec 32) : Prop :=
  (∀ (k0_h1 : k0_cond1 i = 1#1), 8 ∣ (k0_mult1 v125).toNat) ∧
  (∀ (k0_h1 : k0_cond1 i = 1#1), ∀ a, (k0_off3 v121 v123 v125) a + S1x56x64x256.size a ≤ S2x256x256x256.size a)
theorem k0_mult1_dvd : ∀ (i : grid0.Coords) (v121 : BitVec 32) (v123 : BitVec 32) (v125 : BitVec 32) (k0_hw1 : k0_chk1 i v121 v123 v125), ∀ (k0_h1 : k0_cond1 i = 1#1), 8 ∣ (k0_mult1 v125).toNat := fun i v121 v123 v125 k0_hw1 k0_h1 => k0_hw1.1 k0_h1
theorem k0_off3_inb : ∀ (i : grid0.Coords) (v121 : BitVec 32) (v123 : BitVec 32) (v125 : BitVec 32) (k0_hw1 : k0_chk1 i v121 v123 v125), ∀ (k0_h1 : k0_cond1 i = 1#1), ∀ a, (k0_off3 v121 v123 v125) a + S1x56x64x256.size a ≤ S2x256x256x256.size a := fun i v121 v123 v125 k0_hw1 k0_h1 => k0_hw1.2 k0_h1

def k0_off4 (i : grid0.Coords) : Fin 2 → Nat :=
  let c1_98 : Index := 1#32
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let v133 : Index := Scalar.indexCast v1
  ![1, v133.toNat]
def k0_mult2 (v136 : BitVec 32) : BitVec 32 :=
  v136

def k0_off5 (v121 : BitVec 32) (v134 : BitVec 32) (v136 : BitVec 32) : Fin 4 → Nat :=
  let v137 : BitVec 32 := v136
  let c0_i32_106 : BitVec 32 := 0#32
  ![v121.toNat, v134.toNat, v137.toNat, 0]

def k0_chk2 (i : grid0.Coords) (v121 : BitVec 32) (v134 : BitVec 32) (v136 : BitVec 32) : Prop :=
  (∀ (k0_h1 : k0_cond1 i = 1#1), 8 ∣ (k0_mult2 v136).toNat) ∧
  (∀ (k0_h1 : k0_cond1 i = 1#1), ∀ a, (k0_off5 v121 v134 v136) a + S1x32x40x256.size a ≤ S2x128x128x256.size a)
theorem k0_mult2_dvd : ∀ (i : grid0.Coords) (v121 : BitVec 32) (v134 : BitVec 32) (v136 : BitVec 32) (k0_hw2 : k0_chk2 i v121 v134 v136), ∀ (k0_h1 : k0_cond1 i = 1#1), 8 ∣ (k0_mult2 v136).toNat := fun i v121 v134 v136 k0_hw2 k0_h1 => k0_hw2.1 k0_h1
theorem k0_off5_inb : ∀ (i : grid0.Coords) (v121 : BitVec 32) (v134 : BitVec 32) (v136 : BitVec 32) (k0_hw2 : k0_chk2 i v121 v134 v136), ∀ (k0_h1 : k0_cond1 i = 1#1), ∀ a, (k0_off5 v121 v134 v136) a + S1x32x40x256.size a ≤ S2x128x128x256.size a := fun i v121 v134 v136 k0_hw2 k0_h1 => k0_hw2.2 k0_h1

def k0_off6 (i : grid0.Coords) : Fin 2 → Nat :=
  let c2_107 : Index := 2#32
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let v144 : Index := Scalar.indexCast v1
  ![2, v144.toNat]
def k0_mult3 (v147 : BitVec 32) : BitVec 32 :=
  v147

def k0_off7 (v121 : BitVec 32) (v145 : BitVec 32) (v147 : BitVec 32) : Fin 4 → Nat :=
  let v148 : BitVec 32 := v147
  let c0_i32_115 : BitVec 32 := 0#32
  ![v121.toNat, v145.toNat, v148.toNat, 0]

def k0_chk3 (i : grid0.Coords) (v121 : BitVec 32) (v145 : BitVec 32) (v147 : BitVec 32) : Prop :=
  (∀ (k0_h1 : k0_cond1 i = 1#1), 8 ∣ (k0_mult3 v147).toNat) ∧
  (∀ (k0_h1 : k0_cond1 i = 1#1), ∀ a, (k0_off7 v121 v145 v147) a + S1x16x24x256.size a ≤ S2x64x64x256.size a)
theorem k0_mult3_dvd : ∀ (i : grid0.Coords) (v121 : BitVec 32) (v145 : BitVec 32) (v147 : BitVec 32) (k0_hw3 : k0_chk3 i v121 v145 v147), ∀ (k0_h1 : k0_cond1 i = 1#1), 8 ∣ (k0_mult3 v147).toNat := fun i v121 v145 v147 k0_hw3 k0_h1 => k0_hw3.1 k0_h1
theorem k0_off7_inb : ∀ (i : grid0.Coords) (v121 : BitVec 32) (v145 : BitVec 32) (v147 : BitVec 32) (k0_hw3 : k0_chk3 i v121 v145 v147), ∀ (k0_h1 : k0_cond1 i = 1#1), ∀ a, (k0_off7 v121 v145 v147) a + S1x16x24x256.size a ≤ S2x64x64x256.size a := fun i v121 v145 v147 k0_hw3 k0_h1 => k0_hw3.2 k0_h1

def k0_off8 (i : grid0.Coords) : Fin 2 → Nat :=
  let c3_116 : Index := 3#32
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let v155 : Index := Scalar.indexCast v1
  ![3, v155.toNat]
def k0_mult4 (v158 : BitVec 32) : BitVec 32 :=
  v158

def k0_off9 (v121 : BitVec 32) (v156 : BitVec 32) (v158 : BitVec 32) : Fin 4 → Nat :=
  let v159 : BitVec 32 := v158
  let c0_i32_124 : BitVec 32 := 0#32
  ![v121.toNat, v156.toNat, v159.toNat, 0]

def k0_chk4 (i : grid0.Coords) (v121 : BitVec 32) (v156 : BitVec 32) (v158 : BitVec 32) : Prop :=
  (∀ (k0_h1 : k0_cond1 i = 1#1), 8 ∣ (k0_mult4 v158).toNat) ∧
  (∀ (k0_h1 : k0_cond1 i = 1#1), ∀ a, (k0_off9 v121 v156 v158) a + S1x16x16x256.size a ≤ S2x32x32x256.size a)
theorem k0_mult4_dvd : ∀ (i : grid0.Coords) (v121 : BitVec 32) (v156 : BitVec 32) (v158 : BitVec 32) (k0_hw4 : k0_chk4 i v121 v156 v158), ∀ (k0_h1 : k0_cond1 i = 1#1), 8 ∣ (k0_mult4 v158).toNat := fun i v121 v156 v158 k0_hw4 k0_h1 => k0_hw4.1 k0_h1
theorem k0_off9_inb : ∀ (i : grid0.Coords) (v121 : BitVec 32) (v156 : BitVec 32) (v158 : BitVec 32) (k0_hw4 : k0_chk4 i v121 v156 v158), ∀ (k0_h1 : k0_cond1 i = 1#1), ∀ a, (k0_off9 v121 v156 v158) a + S1x16x16x256.size a ≤ S2x32x32x256.size a := fun i v121 v156 v158 k0_hw4 k0_h1 => k0_hw4.2 k0_h1

def k0_cond2 (i : grid0.Coords) : BitVec 1 :=
  let arg1 : BitVec 32 := BitVec.ofNat 32 (i 1).val
  let c1_i32_2 : BitVec 32 := 1#32
  let v8 : BitVec 32 := Scalar.addi arg1 c1_i32_2
  let c256_i32_3 : BitVec 32 := 256#32
  let v9 : BitVec 1 := Scalar.cmpi .slt v8 c256_i32_3
  let v10 : BitVec 32 := Scalar.extui v9
  let c0_i32_4 : BitVec 32 := 0#32
  let v11 : BitVec 1 := Scalar.cmpi .ne v10 c0_i32_4
  v11

def k0_off10 (i : grid0.Coords) : Fin 1 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_89 : BitVec 32 := 1#32
  let v120 : BitVec 32 := Scalar.addi v1 c1_i32_89
  let v121 : Index := Scalar.indexCast v120
  ![v121.toNat]
def k0_off11 (i : grid0.Coords) : Fin 2 → Nat :=
  let c0_90 : Index := 0#32
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_89 : BitVec 32 := 1#32
  let v120 : BitVec 32 := Scalar.addi v1 c1_i32_89
  let v123 : Index := Scalar.indexCast v120
  ![0, v123.toNat]
def k0_mult5 (v126 : BitVec 32) : BitVec 32 :=
  v126

def k0_off12 (i : grid0.Coords) : Fin 2 → Nat :=
  let arg1 : BitVec 32 := BitVec.ofNat 32 (i 1).val
  let c1_i32 : BitVec 32 := 1#32
  let v3 : BitVec 32 := Scalar.addi arg1 c1_i32
  let c2_i32_0 : BitVec 32 := 2#32
  let v4 : BitVec 32 := Scalar.remsi v3 c2_i32_0
  let c0_i32_92 : BitVec 32 := 0#32
  ![v4.toNat, 0]
def k0_off13 (i : grid0.Coords) : Fin 4 → Nat :=
  let arg1 : BitVec 32 := BitVec.ofNat 32 (i 1).val
  let c1_i32 : BitVec 32 := 1#32
  let v3 : BitVec 32 := Scalar.addi arg1 c1_i32
  let c2_i32_0 : BitVec 32 := 2#32
  let v4 : BitVec 32 := Scalar.remsi v3 c2_i32_0
  let c0_i32_93 : BitVec 32 := 0#32
  let c0_i32_94 : BitVec 32 := 0#32
  let c0_i32_95 : BitVec 32 := 0#32
  ![v4.toNat, 0, 0, 0]
def k0_off14 (v122 : BitVec 32) (v124 : BitVec 32) (v126 : BitVec 32) : Fin 4 → Nat :=
  let v127 : BitVec 32 := v126
  let c0_i32_96 : BitVec 32 := 0#32
  ![v122.toNat, v124.toNat, v127.toNat, 0]

def k0_chk5 (i : grid0.Coords) (v122 : BitVec 32) (v124 : BitVec 32) (v126 : BitVec 32) : Prop :=
  (∀ (k0_h2 : k0_cond2 i = 1#1), 8 ∣ (k0_mult5 v126).toNat) ∧
  (∀ (k0_h2 : k0_cond2 i = 1#1), ∀ a, (k0_off14 v122 v124 v126) a + S1x56x64x256.size a ≤ S2x256x256x256.size a)
theorem k0_mult5_dvd : ∀ (i : grid0.Coords) (v122 : BitVec 32) (v124 : BitVec 32) (v126 : BitVec 32) (k0_hw5 : k0_chk5 i v122 v124 v126), ∀ (k0_h2 : k0_cond2 i = 1#1), 8 ∣ (k0_mult5 v126).toNat := fun i v122 v124 v126 k0_hw5 k0_h2 => k0_hw5.1 k0_h2
theorem k0_off14_inb : ∀ (i : grid0.Coords) (v122 : BitVec 32) (v124 : BitVec 32) (v126 : BitVec 32) (k0_hw5 : k0_chk5 i v122 v124 v126), ∀ (k0_h2 : k0_cond2 i = 1#1), ∀ a, (k0_off14 v122 v124 v126) a + S1x56x64x256.size a ≤ S2x256x256x256.size a := fun i v122 v124 v126 k0_hw5 k0_h2 => k0_hw5.2 k0_h2

def k0_off15 (i : grid0.Coords) : Fin 2 → Nat :=
  let c1_97 : Index := 1#32
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_89 : BitVec 32 := 1#32
  let v120 : BitVec 32 := Scalar.addi v1 c1_i32_89
  let v134 : Index := Scalar.indexCast v120
  ![1, v134.toNat]
def k0_mult6 (v137 : BitVec 32) : BitVec 32 :=
  v137

def k0_off16 (i : grid0.Coords) : Fin 2 → Nat :=
  let arg1 : BitVec 32 := BitVec.ofNat 32 (i 1).val
  let c1_i32 : BitVec 32 := 1#32
  let v3 : BitVec 32 := Scalar.addi arg1 c1_i32
  let c2_i32_0 : BitVec 32 := 2#32
  let v4 : BitVec 32 := Scalar.remsi v3 c2_i32_0
  let c1_i32_99 : BitVec 32 := 1#32
  ![v4.toNat, 1]
def k0_off17 (i : grid0.Coords) : Fin 4 → Nat :=
  let arg1 : BitVec 32 := BitVec.ofNat 32 (i 1).val
  let c1_i32 : BitVec 32 := 1#32
  let v3 : BitVec 32 := Scalar.addi arg1 c1_i32
  let c2_i32_0 : BitVec 32 := 2#32
  let v4 : BitVec 32 := Scalar.remsi v3 c2_i32_0
  let c0_i32_100 : BitVec 32 := 0#32
  let c0_i32_101 : BitVec 32 := 0#32
  let c0_i32_102 : BitVec 32 := 0#32
  ![v4.toNat, 0, 0, 0]
def k0_off18 (v122 : BitVec 32) (v135 : BitVec 32) (v137 : BitVec 32) : Fin 4 → Nat :=
  let v138 : BitVec 32 := v137
  let c0_i32_103 : BitVec 32 := 0#32
  ![v122.toNat, v135.toNat, v138.toNat, 0]

def k0_chk6 (i : grid0.Coords) (v122 : BitVec 32) (v135 : BitVec 32) (v137 : BitVec 32) : Prop :=
  (∀ (k0_h2 : k0_cond2 i = 1#1), 8 ∣ (k0_mult6 v137).toNat) ∧
  (∀ (k0_h2 : k0_cond2 i = 1#1), ∀ a, (k0_off18 v122 v135 v137) a + S1x32x40x256.size a ≤ S2x128x128x256.size a)
theorem k0_mult6_dvd : ∀ (i : grid0.Coords) (v122 : BitVec 32) (v135 : BitVec 32) (v137 : BitVec 32) (k0_hw6 : k0_chk6 i v122 v135 v137), ∀ (k0_h2 : k0_cond2 i = 1#1), 8 ∣ (k0_mult6 v137).toNat := fun i v122 v135 v137 k0_hw6 k0_h2 => k0_hw6.1 k0_h2
theorem k0_off18_inb : ∀ (i : grid0.Coords) (v122 : BitVec 32) (v135 : BitVec 32) (v137 : BitVec 32) (k0_hw6 : k0_chk6 i v122 v135 v137), ∀ (k0_h2 : k0_cond2 i = 1#1), ∀ a, (k0_off18 v122 v135 v137) a + S1x32x40x256.size a ≤ S2x128x128x256.size a := fun i v122 v135 v137 k0_hw6 k0_h2 => k0_hw6.2 k0_h2

def k0_off19 (i : grid0.Coords) : Fin 2 → Nat :=
  let c2_104 : Index := 2#32
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_89 : BitVec 32 := 1#32
  let v120 : BitVec 32 := Scalar.addi v1 c1_i32_89
  let v145 : Index := Scalar.indexCast v120
  ![2, v145.toNat]
def k0_mult7 (v148 : BitVec 32) : BitVec 32 :=
  v148

def k0_off20 (i : grid0.Coords) : Fin 2 → Nat :=
  let arg1 : BitVec 32 := BitVec.ofNat 32 (i 1).val
  let c1_i32 : BitVec 32 := 1#32
  let v3 : BitVec 32 := Scalar.addi arg1 c1_i32
  let c2_i32_0 : BitVec 32 := 2#32
  let v4 : BitVec 32 := Scalar.remsi v3 c2_i32_0
  let c2_i32_106 : BitVec 32 := 2#32
  ![v4.toNat, 2]
def k0_off21 (i : grid0.Coords) : Fin 4 → Nat :=
  let arg1 : BitVec 32 := BitVec.ofNat 32 (i 1).val
  let c1_i32 : BitVec 32 := 1#32
  let v3 : BitVec 32 := Scalar.addi arg1 c1_i32
  let c2_i32_0 : BitVec 32 := 2#32
  let v4 : BitVec 32 := Scalar.remsi v3 c2_i32_0
  let c0_i32_107 : BitVec 32 := 0#32
  let c0_i32_108 : BitVec 32 := 0#32
  let c0_i32_109 : BitVec 32 := 0#32
  ![v4.toNat, 0, 0, 0]
def k0_off22 (v122 : BitVec 32) (v146 : BitVec 32) (v148 : BitVec 32) : Fin 4 → Nat :=
  let v149 : BitVec 32 := v148
  let c0_i32_110 : BitVec 32 := 0#32
  ![v122.toNat, v146.toNat, v149.toNat, 0]

def k0_chk7 (i : grid0.Coords) (v122 : BitVec 32) (v146 : BitVec 32) (v148 : BitVec 32) : Prop :=
  (∀ (k0_h2 : k0_cond2 i = 1#1), 8 ∣ (k0_mult7 v148).toNat) ∧
  (∀ (k0_h2 : k0_cond2 i = 1#1), ∀ a, (k0_off22 v122 v146 v148) a + S1x16x24x256.size a ≤ S2x64x64x256.size a)
theorem k0_mult7_dvd : ∀ (i : grid0.Coords) (v122 : BitVec 32) (v146 : BitVec 32) (v148 : BitVec 32) (k0_hw7 : k0_chk7 i v122 v146 v148), ∀ (k0_h2 : k0_cond2 i = 1#1), 8 ∣ (k0_mult7 v148).toNat := fun i v122 v146 v148 k0_hw7 k0_h2 => k0_hw7.1 k0_h2
theorem k0_off22_inb : ∀ (i : grid0.Coords) (v122 : BitVec 32) (v146 : BitVec 32) (v148 : BitVec 32) (k0_hw7 : k0_chk7 i v122 v146 v148), ∀ (k0_h2 : k0_cond2 i = 1#1), ∀ a, (k0_off22 v122 v146 v148) a + S1x16x24x256.size a ≤ S2x64x64x256.size a := fun i v122 v146 v148 k0_hw7 k0_h2 => k0_hw7.2 k0_h2

def k0_off23 (i : grid0.Coords) : Fin 2 → Nat :=
  let c3_111 : Index := 3#32
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_89 : BitVec 32 := 1#32
  let v120 : BitVec 32 := Scalar.addi v1 c1_i32_89
  let v156 : Index := Scalar.indexCast v120
  ![3, v156.toNat]
def k0_mult8 (v159 : BitVec 32) : BitVec 32 :=
  v159

def k0_off24 (i : grid0.Coords) : Fin 2 → Nat :=
  let arg1 : BitVec 32 := BitVec.ofNat 32 (i 1).val
  let c1_i32 : BitVec 32 := 1#32
  let v3 : BitVec 32 := Scalar.addi arg1 c1_i32
  let c2_i32_0 : BitVec 32 := 2#32
  let v4 : BitVec 32 := Scalar.remsi v3 c2_i32_0
  let c3_i32_113 : BitVec 32 := 3#32
  ![v4.toNat, 3]
def k0_off25 (i : grid0.Coords) : Fin 4 → Nat :=
  let arg1 : BitVec 32 := BitVec.ofNat 32 (i 1).val
  let c1_i32 : BitVec 32 := 1#32
  let v3 : BitVec 32 := Scalar.addi arg1 c1_i32
  let c2_i32_0 : BitVec 32 := 2#32
  let v4 : BitVec 32 := Scalar.remsi v3 c2_i32_0
  let c0_i32_114 : BitVec 32 := 0#32
  let c0_i32_115 : BitVec 32 := 0#32
  let c0_i32_116 : BitVec 32 := 0#32
  ![v4.toNat, 0, 0, 0]
def k0_off26 (v122 : BitVec 32) (v157 : BitVec 32) (v159 : BitVec 32) : Fin 4 → Nat :=
  let v160 : BitVec 32 := v159
  let c0_i32_117 : BitVec 32 := 0#32
  ![v122.toNat, v157.toNat, v160.toNat, 0]

def k0_chk8 (i : grid0.Coords) (v122 : BitVec 32) (v157 : BitVec 32) (v159 : BitVec 32) : Prop :=
  (∀ (k0_h2 : k0_cond2 i = 1#1), 8 ∣ (k0_mult8 v159).toNat) ∧
  (∀ (k0_h2 : k0_cond2 i = 1#1), ∀ a, (k0_off26 v122 v157 v159) a + S1x16x16x256.size a ≤ S2x32x32x256.size a)
theorem k0_mult8_dvd : ∀ (i : grid0.Coords) (v122 : BitVec 32) (v157 : BitVec 32) (v159 : BitVec 32) (k0_hw8 : k0_chk8 i v122 v157 v159), ∀ (k0_h2 : k0_cond2 i = 1#1), 8 ∣ (k0_mult8 v159).toNat := fun i v122 v157 v159 k0_hw8 k0_h2 => k0_hw8.1 k0_h2
theorem k0_off26_inb : ∀ (i : grid0.Coords) (v122 : BitVec 32) (v157 : BitVec 32) (v159 : BitVec 32) (k0_hw8 : k0_chk8 i v122 v157 v159), ∀ (k0_h2 : k0_cond2 i = 1#1), ∀ a, (k0_off26 v122 v157 v159) a + S1x16x16x256.size a ≤ S2x32x32x256.size a := fun i v122 v157 v159 k0_hw8 k0_h2 => k0_hw8.2 k0_h2

def k0_off27 (i : grid0.Coords) : Fin 2 → Nat :=
  let arg1 : BitVec 32 := BitVec.ofNat 32 (i 1).val
  let c2_i32 : BitVec 32 := 2#32
  let v2 : BitVec 32 := Scalar.remsi arg1 c2_i32
  let c0_i32_5 : BitVec 32 := 0#32
  ![v2.toNat, 0]
def k0_off28 (i : grid0.Coords) : Fin 4 → Nat :=
  let arg1 : BitVec 32 := BitVec.ofNat 32 (i 1).val
  let c2_i32 : BitVec 32 := 2#32
  let v2 : BitVec 32 := Scalar.remsi arg1 c2_i32
  let c0_i32_6 : BitVec 32 := 0#32
  let c0_i32_7 : BitVec 32 := 0#32
  let c0_i32_8 : BitVec 32 := 0#32
  ![v2.toNat, 0, 0, 0]
def k0_off29 (i : grid0.Coords) : Fin 4 → Nat :=
  let arg1 : BitVec 32 := BitVec.ofNat 32 (i 1).val
  let c2_i32 : BitVec 32 := 2#32
  let v2 : BitVec 32 := Scalar.remsi arg1 c2_i32
  let v28 : Index := Scalar.indexCast v2
  let c0_17 : Index := 0#32
  let c0_18 : Index := 0#32
  let c0_19 : Index := 0#32
  ![v28.toNat, 0, 0, 0]
def k0_off30 (i : grid0.Coords) : Fin 2 → Nat :=
  let arg1 : BitVec 32 := BitVec.ofNat 32 (i 1).val
  let c2_i32 : BitVec 32 := 2#32
  let v2 : BitVec 32 := Scalar.remsi arg1 c2_i32
  let c1_i32_24 : BitVec 32 := 1#32
  ![v2.toNat, 1]
def k0_off31 (i : grid0.Coords) : Fin 4 → Nat :=
  let arg1 : BitVec 32 := BitVec.ofNat 32 (i 1).val
  let c2_i32 : BitVec 32 := 2#32
  let v2 : BitVec 32 := Scalar.remsi arg1 c2_i32
  let c0_i32_25 : BitVec 32 := 0#32
  let c0_i32_26 : BitVec 32 := 0#32
  let c0_i32_27 : BitVec 32 := 0#32
  ![v2.toNat, 0, 0, 0]
def k0_off32 (i : grid0.Coords) : Fin 4 → Nat :=
  let arg1 : BitVec 32 := BitVec.ofNat 32 (i 1).val
  let c2_i32 : BitVec 32 := 2#32
  let v2 : BitVec 32 := Scalar.remsi arg1 c2_i32
  let v52 : Index := Scalar.indexCast v2
  let c0_37 : Index := 0#32
  let c0_38 : Index := 0#32
  let c0_39 : Index := 0#32
  ![v52.toNat, 0, 0, 0]
def k0_off33 (i : grid0.Coords) : Fin 2 → Nat :=
  let arg1 : BitVec 32 := BitVec.ofNat 32 (i 1).val
  let c2_i32 : BitVec 32 := 2#32
  let v2 : BitVec 32 := Scalar.remsi arg1 c2_i32
  let c2_i32_44 : BitVec 32 := 2#32
  ![v2.toNat, 2]
def k0_off34 (i : grid0.Coords) : Fin 4 → Nat :=
  let arg1 : BitVec 32 := BitVec.ofNat 32 (i 1).val
  let c2_i32 : BitVec 32 := 2#32
  let v2 : BitVec 32 := Scalar.remsi arg1 c2_i32
  let c0_i32_45 : BitVec 32 := 0#32
  let c0_i32_46 : BitVec 32 := 0#32
  let c0_i32_47 : BitVec 32 := 0#32
  ![v2.toNat, 0, 0, 0]
def k0_off35 (i : grid0.Coords) : Fin 4 → Nat :=
  let arg1 : BitVec 32 := BitVec.ofNat 32 (i 1).val
  let c2_i32 : BitVec 32 := 2#32
  let v2 : BitVec 32 := Scalar.remsi arg1 c2_i32
  let v77 : Index := Scalar.indexCast v2
  let c0_57 : Index := 0#32
  let c0_58 : Index := 0#32
  let c0_59 : Index := 0#32
  ![v77.toNat, 0, 0, 0]
def k0_off36 (i : grid0.Coords) : Fin 2 → Nat :=
  let arg1 : BitVec 32 := BitVec.ofNat 32 (i 1).val
  let c2_i32 : BitVec 32 := 2#32
  let v2 : BitVec 32 := Scalar.remsi arg1 c2_i32
  let c3_i32 : BitVec 32 := 3#32
  ![v2.toNat, 3]
def k0_off37 (i : grid0.Coords) : Fin 4 → Nat :=
  let arg1 : BitVec 32 := BitVec.ofNat 32 (i 1).val
  let c2_i32 : BitVec 32 := 2#32
  let v2 : BitVec 32 := Scalar.remsi arg1 c2_i32
  let c0_i32_64 : BitVec 32 := 0#32
  let c0_i32_65 : BitVec 32 := 0#32
  let c0_i32_66 : BitVec 32 := 0#32
  ![v2.toNat, 0, 0, 0]
def k0_off38 (i : grid0.Coords) : Fin 4 → Nat :=
  let arg1 : BitVec 32 := BitVec.ofNat 32 (i 1).val
  let c2_i32 : BitVec 32 := 2#32
  let v2 : BitVec 32 := Scalar.remsi arg1 c2_i32
  let v102 : Index := Scalar.indexCast v2
  let c0_76 : Index := 0#32
  let c0_77 : Index := 0#32
  let c0_78 : Index := 0#32
  ![v102.toNat, 0, 0, 0]
def cc0_transform_4 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x56x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x49 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x49 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x40x49 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x49 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x24x49 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x49 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x49 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S4x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x49x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S2x256x256x256 : Shape := ⟨4, ![2, 256, 256, 256]⟩
abbrev S2x256x128x128 : Shape := ⟨4, ![2, 256, 128, 128]⟩
abbrev S2x256x64x64 : Shape := ⟨4, ![2, 256, 64, 64]⟩
abbrev S2x256x32x32 : Shape := ⟨4, ![2, 256, 32, 32]⟩
abbrev S512x4 : Shape := ⟨2, ![512, 4]⟩
abbrev S512 : Shape := ⟨1, ![512]⟩
abbrev S256x1024 : Shape := ⟨2, ![256, 1024]⟩
abbrev S256 : Shape := ⟨1, ![256]⟩
abbrev S512x1 : Shape := ⟨2, ![512, 1]⟩
abbrev S_ : Shape := ⟨0, ![]⟩
abbrev S7 : Shape := ⟨1, ![7]⟩
abbrev S7x1 : Shape := ⟨2, ![7, 1]⟩
abbrev S2 : Shape := ⟨1, ![2]⟩
abbrev S1x2 : Shape := ⟨2, ![1, 2]⟩
abbrev S7x2 : Shape := ⟨2, ![7, 2]⟩
abbrev S14 : Shape := ⟨1, ![14]⟩
abbrev S1x14 : Shape := ⟨2, ![1, 14]⟩
abbrev S512x14 : Shape := ⟨2, ![512, 14]⟩
abbrev S512x14x1x1 : Shape := ⟨4, ![512, 14, 1, 1]⟩
abbrev S512x1x14x1 : Shape := ⟨4, ![512, 1, 14, 1]⟩
abbrev S512x1x1 : Shape := ⟨3, ![512, 1, 1]⟩
abbrev S512x14x1 : Shape := ⟨3, ![512, 14, 1]⟩
abbrev S512x1x14 : Shape := ⟨3, ![512, 1, 14]⟩
abbrev S512x14x14 : Shape := ⟨3, ![512, 14, 14]⟩
abbrev S512x14x14x1 : Shape := ⟨4, ![512, 14, 14, 1]⟩
abbrev S512x14x14x3 : Shape := ⟨4, ![512, 14, 14, 3]⟩
abbrev S512x14x14x256 : Shape := ⟨4, ![512, 14, 14, 256]⟩
abbrev S512x7x2x7x2x256 : Shape := ⟨6, ![512, 7, 2, 7, 2, 256]⟩
abbrev S512x7x7x256 : Shape := ⟨4, ![512, 7, 7, 256]⟩
abbrev S2x128x128x256 : Shape := ⟨4, ![2, 128, 128, 256]⟩
abbrev S2x64x64x256 : Shape := ⟨4, ![2, 64, 64, 256]⟩
abbrev S2x32x32x256 : Shape := ⟨4, ![2, 32, 32, 256]⟩
abbrev S512x7x7x1024 : Shape := ⟨4, ![512, 7, 7, 1024]⟩
abbrev S256x512x7x7 : Shape := ⟨4, ![256, 512, 7, 7]⟩
abbrev S512x256x7x7 : Shape := ⟨4, ![512, 256, 7, 7]⟩
abbrev S1x256x1x1 : Shape := ⟨4, ![1, 256, 1, 1]⟩

abbrev nBuf : Space → Nat
  | .hbm => 1077
  | .vmem => 0
  | .smem => 0
  | _ => 0

abbrev hbmTy0_0 (i : Nat) : BufTy := match i % 128 with
  | 0 => ⟨S2x256x256x256, .f32⟩
  | 1 => ⟨S2x256x128x128, .f32⟩
  | 2 => ⟨S2x256x64x64, .f32⟩
  | 3 => ⟨S2x256x32x32, .f32⟩
  | 4 => ⟨S512x4, .f32⟩
  | 5 => ⟨S512, .i32⟩
  | 6 => ⟨S256x1024, .f32⟩
  | 7 => ⟨S256, .f32⟩
  | 8 => ⟨S2x256x256x256, .f32⟩
  | 9 => ⟨S512x1, .f32⟩
  | 10 => ⟨S512, .f32⟩
  | 11 => ⟨S_, .f32⟩
  | 12 => ⟨S512, .f32⟩
  | 13 => ⟨S512, .f32⟩
  | 14 => ⟨S512x1, .f32⟩
  | 15 => ⟨S512, .f32⟩
  | 16 => ⟨S_, .f32⟩
  | 17 => ⟨S512, .f32⟩
  | 18 => ⟨S512, .f32⟩
  | 19 => ⟨S512x1, .f32⟩
  | 20 => ⟨S512, .f32⟩
  | 21 => ⟨S_, .f32⟩
  | 22 => ⟨S512, .f32⟩
  | 23 => ⟨S512, .f32⟩
  | 24 => ⟨S512x1, .f32⟩
  | 25 => ⟨S512, .f32⟩
  | 26 => ⟨S_, .f32⟩
  | 27 => ⟨S512, .f32⟩
  | 28 => ⟨S512, .f32⟩
  | 29 => ⟨S512, .f32⟩
  | 30 => ⟨S_, .f32⟩
  | 31 => ⟨S512, .f32⟩
  | 32 => ⟨S512, .f32⟩
  | 33 => ⟨S_, .f32⟩
  | 34 => ⟨S512, .f32⟩
  | 35 => ⟨S512, .f32⟩
  | 36 => ⟨S512, .f32⟩
  | 37 => ⟨S_, .f32⟩
  | 38 => ⟨S512, .f32⟩
  | 39 => ⟨S512, .f32⟩
  | 40 => ⟨S_, .f32⟩
  | 41 => ⟨S512, .f32⟩
  | 42 => ⟨S512, .f32⟩
  | 43 => ⟨S7, .f32⟩
  | 44 => ⟨S7x1, .f32⟩
  | 45 => ⟨S2, .f32⟩
  | 46 => ⟨S1x2, .f32⟩
  | 47 => ⟨S_, .f32⟩
  | 48 => ⟨S1x2, .f32⟩
  | 49 => ⟨S1x2, .f32⟩
  | 50 => ⟨S_, .f32⟩
  | 51 => ⟨S1x2, .f32⟩
  | 52 => ⟨S1x2, .f32⟩
  | 53 => ⟨S7x2, .f32⟩
  | 54 => ⟨S7x2, .f32⟩
  | 55 => ⟨S7x2, .f32⟩
  | 56 => ⟨S14, .f32⟩
  | 57 => ⟨S512x1, .f32⟩
  | 58 => ⟨S1x14, .f32⟩
  | 59 => ⟨S512x1, .f32⟩
  | 60 => ⟨S512x14, .f32⟩
  | 61 => ⟨S512x14, .f32⟩
  | 62 => ⟨S512x14, .f32⟩
  | 63 => ⟨S512x14, .f32⟩
  | 64 => ⟨S512x14, .f32⟩
  | 65 => ⟨S_, .f32⟩
  | 66 => ⟨S_, .f32⟩
  | 67 => ⟨S_, .f32⟩
  | 68 => ⟨S512x14, .f32⟩
  | 69 => ⟨S512x14, .f32⟩
  | 70 => ⟨S_, .f32⟩
  | 71 => ⟨S512x14, .f32⟩
  | 72 => ⟨S512x14, .f32⟩
  | 73 => ⟨S512x1, .f32⟩
  | 74 => ⟨S1x14, .f32⟩
  | 75 => ⟨S512x1, .f32⟩
  | 76 => ⟨S512x14, .f32⟩
  | 77 => ⟨S512x14, .f32⟩
  | 78 => ⟨S512x14, .f32⟩
  | 79 => ⟨S512x14, .f32⟩
  | 80 => ⟨S512x14, .f32⟩
  | 81 => ⟨S_, .f32⟩
  | 82 => ⟨S_, .f32⟩
  | 83 => ⟨S_, .f32⟩
  | 84 => ⟨S512x14, .f32⟩
  | 85 => ⟨S512x14, .f32⟩
  | 86 => ⟨S_, .f32⟩
  | 87 => ⟨S512x14, .f32⟩
  | 88 => ⟨S512x14, .f32⟩
  | 89 => ⟨S512x14, .f32⟩
  | 90 => ⟨S512x14, .i32⟩
  | 91 => ⟨S512x14, .f32⟩
  | 92 => ⟨S512x14, .i32⟩
  | 93 => ⟨S_, .i32⟩
  | 94 => ⟨S512x14, .i32⟩
  | 95 => ⟨S512x14, .i32⟩
  | 96 => ⟨S_, .i32⟩
  | 97 => ⟨S512x14, .i32⟩
  | 98 => ⟨S512x14, .i32⟩
  | 99 => ⟨S_, .i32⟩
  | 100 => ⟨S512x14, .i32⟩
  | 101 => ⟨S512x14, .i32⟩
  | 102 => ⟨S_, .i32⟩
  | 103 => ⟨S512x14, .i32⟩
  | 104 => ⟨S512x14, .i32⟩
  | 105 => ⟨S512x14, .f32⟩
  | 106 => ⟨S512x14, .f32⟩
  | 107 => ⟨S512x14x1x1, .f32⟩
  | 108 => ⟨S512x14, .f32⟩
  | 109 => ⟨S512x14, .f32⟩
  | 110 => ⟨S512x1x14x1, .f32⟩
  | 111 => ⟨S512x1x1, .i32⟩
  | 112 => ⟨S512x14x1, .i32⟩
  | 113 => ⟨S512x1x14, .i32⟩
  | 114 => ⟨S_, .i32⟩
  | 115 => ⟨S512x1x1, .i32⟩
  | 116 => ⟨S512x1x1, .i1⟩
  | 117 => ⟨S_, .i32⟩
  | 118 => ⟨S512x1x1, .i32⟩
  | 119 => ⟨S512x1x1, .i32⟩
  | 120 => ⟨S512x1x1, .i32⟩
  | 121 => ⟨S_, .i32⟩
  | 122 => ⟨S512x14x1, .i32⟩
  | 123 => ⟨S512x14x1, .i1⟩
  | 124 => ⟨S_, .i32⟩
  | 125 => ⟨S512x14x1, .i32⟩
  | 126 => ⟨S512x14x1, .i32⟩
  | 127 => ⟨S512x14x1, .i32⟩
  | _ => ⟨S2x256x256x256, .f32⟩

abbrev hbmTy0_1 (i : Nat) : BufTy := match i % 128 with
  | 0 => ⟨S_, .i32⟩
  | 1 => ⟨S512x1x14, .i32⟩
  | 2 => ⟨S512x1x14, .i1⟩
  | 3 => ⟨S_, .i32⟩
  | 4 => ⟨S512x1x14, .i32⟩
  | 5 => ⟨S512x1x14, .i32⟩
  | 6 => ⟨S512x1x14, .i32⟩
  | 7 => ⟨S512x14x14, .i32⟩
  | 8 => ⟨S512x14x14, .i32⟩
  | 9 => ⟨S512x14x14, .i32⟩
  | 10 => ⟨S512x14x14x1, .i32⟩
  | 11 => ⟨S512x14x14x1, .i32⟩
  | 12 => ⟨S512x14x14x1, .i32⟩
  | 13 => ⟨S512x14x14x3, .i32⟩
  | 14 => ⟨S512x14x14x256, .f32⟩
  | 15 => ⟨S_, .f32⟩
  | 16 => ⟨S512x14x1x1, .f32⟩
  | 17 => ⟨S512x14x1x1, .f32⟩
  | 18 => ⟨S512x14x14x256, .f32⟩
  | 19 => ⟨S512x14x14x256, .f32⟩
  | 20 => ⟨S_, .f32⟩
  | 21 => ⟨S512x1x14x1, .f32⟩
  | 22 => ⟨S512x1x14x1, .f32⟩
  | 23 => ⟨S512x14x14x256, .f32⟩
  | 24 => ⟨S512x14x14x256, .f32⟩
  | 25 => ⟨S512x14x1, .i32⟩
  | 26 => ⟨S512x1x14, .i32⟩
  | 27 => ⟨S_, .i32⟩
  | 28 => ⟨S512x1x1, .i32⟩
  | 29 => ⟨S512x1x1, .i1⟩
  | 30 => ⟨S_, .i32⟩
  | 31 => ⟨S512x1x1, .i32⟩
  | 32 => ⟨S512x1x1, .i32⟩
  | 33 => ⟨S512x1x1, .i32⟩
  | 34 => ⟨S_, .i32⟩
  | 35 => ⟨S512x14x1, .i32⟩
  | 36 => ⟨S512x14x1, .i1⟩
  | 37 => ⟨S_, .i32⟩
  | 38 => ⟨S512x14x1, .i32⟩
  | 39 => ⟨S512x14x1, .i32⟩
  | 40 => ⟨S512x14x1, .i32⟩
  | 41 => ⟨S_, .i32⟩
  | 42 => ⟨S512x1x14, .i32⟩
  | 43 => ⟨S512x1x14, .i1⟩
  | 44 => ⟨S_, .i32⟩
  | 45 => ⟨S512x1x14, .i32⟩
  | 46 => ⟨S512x1x14, .i32⟩
  | 47 => ⟨S512x1x14, .i32⟩
  | 48 => ⟨S512x14x14, .i32⟩
  | 49 => ⟨S512x14x14, .i32⟩
  | 50 => ⟨S512x14x14, .i32⟩
  | 51 => ⟨S512x14x14x1, .i32⟩
  | 52 => ⟨S512x14x14x1, .i32⟩
  | 53 => ⟨S512x14x14x1, .i32⟩
  | 54 => ⟨S512x14x14x3, .i32⟩
  | 55 => ⟨S512x14x14x256, .f32⟩
  | 56 => ⟨S_, .f32⟩
  | 57 => ⟨S512x14x1x1, .f32⟩
  | 58 => ⟨S512x14x1x1, .f32⟩
  | 59 => ⟨S512x14x14x256, .f32⟩
  | 60 => ⟨S512x14x14x256, .f32⟩
  | 61 => ⟨S512x14x14x256, .f32⟩
  | 62 => ⟨S512x14x14x256, .f32⟩
  | 63 => ⟨S512x14x14x256, .f32⟩
  | 64 => ⟨S512x14x1, .i32⟩
  | 65 => ⟨S512x1x14, .i32⟩
  | 66 => ⟨S_, .i32⟩
  | 67 => ⟨S512x1x1, .i32⟩
  | 68 => ⟨S512x1x1, .i1⟩
  | 69 => ⟨S_, .i32⟩
  | 70 => ⟨S512x1x1, .i32⟩
  | 71 => ⟨S512x1x1, .i32⟩
  | 72 => ⟨S512x1x1, .i32⟩
  | 73 => ⟨S_, .i32⟩
  | 74 => ⟨S512x14x1, .i32⟩
  | 75 => ⟨S512x14x1, .i1⟩
  | 76 => ⟨S_, .i32⟩
  | 77 => ⟨S512x14x1, .i32⟩
  | 78 => ⟨S512x14x1, .i32⟩
  | 79 => ⟨S512x14x1, .i32⟩
  | 80 => ⟨S_, .i32⟩
  | 81 => ⟨S512x1x14, .i32⟩
  | 82 => ⟨S512x1x14, .i1⟩
  | 83 => ⟨S_, .i32⟩
  | 84 => ⟨S512x1x14, .i32⟩
  | 85 => ⟨S512x1x14, .i32⟩
  | 86 => ⟨S512x1x14, .i32⟩
  | 87 => ⟨S512x14x14, .i32⟩
  | 88 => ⟨S512x14x14, .i32⟩
  | 89 => ⟨S512x14x14, .i32⟩
  | 90 => ⟨S512x14x14x1, .i32⟩
  | 91 => ⟨S512x14x14x1, .i32⟩
  | 92 => ⟨S512x14x14x1, .i32⟩
  | 93 => ⟨S512x14x14x3, .i32⟩
  | 94 => ⟨S512x14x14x256, .f32⟩
  | 95 => ⟨S512x14x14x256, .f32⟩
  | 96 => ⟨S512x14x14x256, .f32⟩
  | 97 => ⟨S_, .f32⟩
  | 98 => ⟨S512x1x14x1, .f32⟩
  | 99 => ⟨S512x1x14x1, .f32⟩
  | 100 => ⟨S512x14x14x256, .f32⟩
  | 101 => ⟨S512x14x14x256, .f32⟩
  | 102 => ⟨S512x14x14x256, .f32⟩
  | 103 => ⟨S512x14x1, .i32⟩
  | 104 => ⟨S512x1x14, .i32⟩
  | 105 => ⟨S_, .i32⟩
  | 106 => ⟨S512x1x1, .i32⟩
  | 107 => ⟨S512x1x1, .i1⟩
  | 108 => ⟨S_, .i32⟩
  | 109 => ⟨S512x1x1, .i32⟩
  | 110 => ⟨S512x1x1, .i32⟩
  | 111 => ⟨S512x1x1, .i32⟩
  | 112 => ⟨S_, .i32⟩
  | 113 => ⟨S512x14x1, .i32⟩
  | 114 => ⟨S512x14x1, .i1⟩
  | 115 => ⟨S_, .i32⟩
  | 116 => ⟨S512x14x1, .i32⟩
  | 117 => ⟨S512x14x1, .i32⟩
  | 118 => ⟨S512x14x1, .i32⟩
  | 119 => ⟨S_, .i32⟩
  | 120 => ⟨S512x1x14, .i32⟩
  | 121 => ⟨S512x1x14, .i1⟩
  | 122 => ⟨S_, .i32⟩
  | 123 => ⟨S512x1x14, .i32⟩
  | 124 => ⟨S512x1x14, .i32⟩
  | 125 => ⟨S512x1x14, .i32⟩
  | 126 => ⟨S512x14x14, .i32⟩
  | 127 => ⟨S512x14x14, .i32⟩
  | _ => ⟨S2x256x256x256, .f32⟩

abbrev hbmTy0_2 (i : Nat) : BufTy := match i % 128 with
  | 0 => ⟨S512x14x14, .i32⟩
  | 1 => ⟨S512x14x14x1, .i32⟩
  | 2 => ⟨S512x14x14x1, .i32⟩
  | 3 => ⟨S512x14x14x1, .i32⟩
  | 4 => ⟨S512x14x14x3, .i32⟩
  | 5 => ⟨S512x14x14x256, .f32⟩
  | 6 => ⟨S512x14x14x256, .f32⟩
  | 7 => ⟨S512x14x14x256, .f32⟩
  | 8 => ⟨S512x14x14x256, .f32⟩
  | 9 => ⟨S512x14x14x256, .f32⟩
  | 10 => ⟨S512x14x14x256, .f32⟩
  | 11 => ⟨S512x7x2x7x2x256, .f32⟩
  | 12 => ⟨S_, .f32⟩
  | 13 => ⟨S512x7x7x256, .f32⟩
  | 14 => ⟨S_, .f32⟩
  | 15 => ⟨S512x7x7x256, .f32⟩
  | 16 => ⟨S512x7x7x256, .f32⟩
  | 17 => ⟨S2x128x128x256, .f32⟩
  | 18 => ⟨S512x1, .f32⟩
  | 19 => ⟨S512, .f32⟩
  | 20 => ⟨S_, .f32⟩
  | 21 => ⟨S512, .f32⟩
  | 22 => ⟨S512, .f32⟩
  | 23 => ⟨S512x1, .f32⟩
  | 24 => ⟨S512, .f32⟩
  | 25 => ⟨S_, .f32⟩
  | 26 => ⟨S512, .f32⟩
  | 27 => ⟨S512, .f32⟩
  | 28 => ⟨S512x1, .f32⟩
  | 29 => ⟨S512, .f32⟩
  | 30 => ⟨S_, .f32⟩
  | 31 => ⟨S512, .f32⟩
  | 32 => ⟨S512, .f32⟩
  | 33 => ⟨S512x1, .f32⟩
  | 34 => ⟨S512, .f32⟩
  | 35 => ⟨S_, .f32⟩
  | 36 => ⟨S512, .f32⟩
  | 37 => ⟨S512, .f32⟩
  | 38 => ⟨S512, .f32⟩
  | 39 => ⟨S_, .f32⟩
  | 40 => ⟨S512, .f32⟩
  | 41 => ⟨S512, .f32⟩
  | 42 => ⟨S_, .f32⟩
  | 43 => ⟨S512, .f32⟩
  | 44 => ⟨S512, .f32⟩
  | 45 => ⟨S512, .f32⟩
  | 46 => ⟨S_, .f32⟩
  | 47 => ⟨S512, .f32⟩
  | 48 => ⟨S512, .f32⟩
  | 49 => ⟨S_, .f32⟩
  | 50 => ⟨S512, .f32⟩
  | 51 => ⟨S512, .f32⟩
  | 52 => ⟨S7, .f32⟩
  | 53 => ⟨S7x1, .f32⟩
  | 54 => ⟨S2, .f32⟩
  | 55 => ⟨S1x2, .f32⟩
  | 56 => ⟨S_, .f32⟩
  | 57 => ⟨S1x2, .f32⟩
  | 58 => ⟨S1x2, .f32⟩
  | 59 => ⟨S_, .f32⟩
  | 60 => ⟨S1x2, .f32⟩
  | 61 => ⟨S1x2, .f32⟩
  | 62 => ⟨S7x2, .f32⟩
  | 63 => ⟨S7x2, .f32⟩
  | 64 => ⟨S7x2, .f32⟩
  | 65 => ⟨S14, .f32⟩
  | 66 => ⟨S512x1, .f32⟩
  | 67 => ⟨S1x14, .f32⟩
  | 68 => ⟨S512x1, .f32⟩
  | 69 => ⟨S512x14, .f32⟩
  | 70 => ⟨S512x14, .f32⟩
  | 71 => ⟨S512x14, .f32⟩
  | 72 => ⟨S512x14, .f32⟩
  | 73 => ⟨S512x14, .f32⟩
  | 74 => ⟨S_, .f32⟩
  | 75 => ⟨S_, .f32⟩
  | 76 => ⟨S_, .f32⟩
  | 77 => ⟨S512x14, .f32⟩
  | 78 => ⟨S512x14, .f32⟩
  | 79 => ⟨S_, .f32⟩
  | 80 => ⟨S512x14, .f32⟩
  | 81 => ⟨S512x14, .f32⟩
  | 82 => ⟨S512x1, .f32⟩
  | 83 => ⟨S1x14, .f32⟩
  | 84 => ⟨S512x1, .f32⟩
  | 85 => ⟨S512x14, .f32⟩
  | 86 => ⟨S512x14, .f32⟩
  | 87 => ⟨S512x14, .f32⟩
  | 88 => ⟨S512x14, .f32⟩
  | 89 => ⟨S512x14, .f32⟩
  | 90 => ⟨S_, .f32⟩
  | 91 => ⟨S_, .f32⟩
  | 92 => ⟨S_, .f32⟩
  | 93 => ⟨S512x14, .f32⟩
  | 94 => ⟨S512x14, .f32⟩
  | 95 => ⟨S_, .f32⟩
  | 96 => ⟨S512x14, .f32⟩
  | 97 => ⟨S512x14, .f32⟩
  | 98 => ⟨S512x14, .f32⟩
  | 99 => ⟨S512x14, .i32⟩
  | 100 => ⟨S512x14, .f32⟩
  | 101 => ⟨S512x14, .i32⟩
  | 102 => ⟨S_, .i32⟩
  | 103 => ⟨S512x14, .i32⟩
  | 104 => ⟨S512x14, .i32⟩
  | 105 => ⟨S_, .i32⟩
  | 106 => ⟨S512x14, .i32⟩
  | 107 => ⟨S512x14, .i32⟩
  | 108 => ⟨S_, .i32⟩
  | 109 => ⟨S512x14, .i32⟩
  | 110 => ⟨S512x14, .i32⟩
  | 111 => ⟨S_, .i32⟩
  | 112 => ⟨S512x14, .i32⟩
  | 113 => ⟨S512x14, .i32⟩
  | 114 => ⟨S512x14, .f32⟩
  | 115 => ⟨S512x14, .f32⟩
  | 116 => ⟨S512x14x1x1, .f32⟩
  | 117 => ⟨S512x14, .f32⟩
  | 118 => ⟨S512x14, .f32⟩
  | 119 => ⟨S512x1x14x1, .f32⟩
  | 120 => ⟨S512x1x1, .i32⟩
  | 121 => ⟨S512x14x1, .i32⟩
  | 122 => ⟨S512x1x14, .i32⟩
  | 123 => ⟨S_, .i32⟩
  | 124 => ⟨S512x1x1, .i32⟩
  | 125 => ⟨S512x1x1, .i1⟩
  | 126 => ⟨S_, .i32⟩
  | 127 => ⟨S512x1x1, .i32⟩
  | _ => ⟨S2x256x256x256, .f32⟩

abbrev hbmTy0_3 (i : Nat) : BufTy := match i % 128 with
  | 0 => ⟨S512x1x1, .i32⟩
  | 1 => ⟨S512x1x1, .i32⟩
  | 2 => ⟨S_, .i32⟩
  | 3 => ⟨S512x14x1, .i32⟩
  | 4 => ⟨S512x14x1, .i1⟩
  | 5 => ⟨S_, .i32⟩
  | 6 => ⟨S512x14x1, .i32⟩
  | 7 => ⟨S512x14x1, .i32⟩
  | 8 => ⟨S512x14x1, .i32⟩
  | 9 => ⟨S_, .i32⟩
  | 10 => ⟨S512x1x14, .i32⟩
  | 11 => ⟨S512x1x14, .i1⟩
  | 12 => ⟨S_, .i32⟩
  | 13 => ⟨S512x1x14, .i32⟩
  | 14 => ⟨S512x1x14, .i32⟩
  | 15 => ⟨S512x1x14, .i32⟩
  | 16 => ⟨S512x14x14, .i32⟩
  | 17 => ⟨S512x14x14, .i32⟩
  | 18 => ⟨S512x14x14, .i32⟩
  | 19 => ⟨S512x14x14x1, .i32⟩
  | 20 => ⟨S512x14x14x1, .i32⟩
  | 21 => ⟨S512x14x14x1, .i32⟩
  | 22 => ⟨S512x14x14x3, .i32⟩
  | 23 => ⟨S512x14x14x256, .f32⟩
  | 24 => ⟨S_, .f32⟩
  | 25 => ⟨S512x14x1x1, .f32⟩
  | 26 => ⟨S512x14x1x1, .f32⟩
  | 27 => ⟨S512x14x14x256, .f32⟩
  | 28 => ⟨S512x14x14x256, .f32⟩
  | 29 => ⟨S_, .f32⟩
  | 30 => ⟨S512x1x14x1, .f32⟩
  | 31 => ⟨S512x1x14x1, .f32⟩
  | 32 => ⟨S512x14x14x256, .f32⟩
  | 33 => ⟨S512x14x14x256, .f32⟩
  | 34 => ⟨S512x14x1, .i32⟩
  | 35 => ⟨S512x1x14, .i32⟩
  | 36 => ⟨S_, .i32⟩
  | 37 => ⟨S512x1x1, .i32⟩
  | 38 => ⟨S512x1x1, .i1⟩
  | 39 => ⟨S_, .i32⟩
  | 40 => ⟨S512x1x1, .i32⟩
  | 41 => ⟨S512x1x1, .i32⟩
  | 42 => ⟨S512x1x1, .i32⟩
  | 43 => ⟨S_, .i32⟩
  | 44 => ⟨S512x14x1, .i32⟩
  | 45 => ⟨S512x14x1, .i1⟩
  | 46 => ⟨S_, .i32⟩
  | 47 => ⟨S512x14x1, .i32⟩
  | 48 => ⟨S512x14x1, .i32⟩
  | 49 => ⟨S512x14x1, .i32⟩
  | 50 => ⟨S_, .i32⟩
  | 51 => ⟨S512x1x14, .i32⟩
  | 52 => ⟨S512x1x14, .i1⟩
  | 53 => ⟨S_, .i32⟩
  | 54 => ⟨S512x1x14, .i32⟩
  | 55 => ⟨S512x1x14, .i32⟩
  | 56 => ⟨S512x1x14, .i32⟩
  | 57 => ⟨S512x14x14, .i32⟩
  | 58 => ⟨S512x14x14, .i32⟩
  | 59 => ⟨S512x14x14, .i32⟩
  | 60 => ⟨S512x14x14x1, .i32⟩
  | 61 => ⟨S512x14x14x1, .i32⟩
  | 62 => ⟨S512x14x14x1, .i32⟩
  | 63 => ⟨S512x14x14x3, .i32⟩
  | 64 => ⟨S512x14x14x256, .f32⟩
  | 65 => ⟨S_, .f32⟩
  | 66 => ⟨S512x14x1x1, .f32⟩
  | 67 => ⟨S512x14x1x1, .f32⟩
  | 68 => ⟨S512x14x14x256, .f32⟩
  | 69 => ⟨S512x14x14x256, .f32⟩
  | 70 => ⟨S512x14x14x256, .f32⟩
  | 71 => ⟨S512x14x14x256, .f32⟩
  | 72 => ⟨S512x14x14x256, .f32⟩
  | 73 => ⟨S512x14x1, .i32⟩
  | 74 => ⟨S512x1x14, .i32⟩
  | 75 => ⟨S_, .i32⟩
  | 76 => ⟨S512x1x1, .i32⟩
  | 77 => ⟨S512x1x1, .i1⟩
  | 78 => ⟨S_, .i32⟩
  | 79 => ⟨S512x1x1, .i32⟩
  | 80 => ⟨S512x1x1, .i32⟩
  | 81 => ⟨S512x1x1, .i32⟩
  | 82 => ⟨S_, .i32⟩
  | 83 => ⟨S512x14x1, .i32⟩
  | 84 => ⟨S512x14x1, .i1⟩
  | 85 => ⟨S_, .i32⟩
  | 86 => ⟨S512x14x1, .i32⟩
  | 87 => ⟨S512x14x1, .i32⟩
  | 88 => ⟨S512x14x1, .i32⟩
  | 89 => ⟨S_, .i32⟩
  | 90 => ⟨S512x1x14, .i32⟩
  | 91 => ⟨S512x1x14, .i1⟩
  | 92 => ⟨S_, .i32⟩
  | 93 => ⟨S512x1x14, .i32⟩
  | 94 => ⟨S512x1x14, .i32⟩
  | 95 => ⟨S512x1x14, .i32⟩
  | 96 => ⟨S512x14x14, .i32⟩
  | 97 => ⟨S512x14x14, .i32⟩
  | 98 => ⟨S512x14x14, .i32⟩
  | 99 => ⟨S512x14x14x1, .i32⟩
  | 100 => ⟨S512x14x14x1, .i32⟩
  | 101 => ⟨S512x14x14x1, .i32⟩
  | 102 => ⟨S512x14x14x3, .i32⟩
  | 103 => ⟨S512x14x14x256, .f32⟩
  | 104 => ⟨S512x14x14x256, .f32⟩
  | 105 => ⟨S512x14x14x256, .f32⟩
  | 106 => ⟨S_, .f32⟩
  | 107 => ⟨S512x1x14x1, .f32⟩
  | 108 => ⟨S512x1x14x1, .f32⟩
  | 109 => ⟨S512x14x14x256, .f32⟩
  | 110 => ⟨S512x14x14x256, .f32⟩
  | 111 => ⟨S512x14x14x256, .f32⟩
  | 112 => ⟨S512x14x1, .i32⟩
  | 113 => ⟨S512x1x14, .i32⟩
  | 114 => ⟨S_, .i32⟩
  | 115 => ⟨S512x1x1, .i32⟩
  | 116 => ⟨S512x1x1, .i1⟩
  | 117 => ⟨S_, .i32⟩
  | 118 => ⟨S512x1x1, .i32⟩
  | 119 => ⟨S512x1x1, .i32⟩
  | 120 => ⟨S512x1x1, .i32⟩
  | 121 => ⟨S_, .i32⟩
  | 122 => ⟨S512x14x1, .i32⟩
  | 123 => ⟨S512x14x1, .i1⟩
  | 124 => ⟨S_, .i32⟩
  | 125 => ⟨S512x14x1, .i32⟩
  | 126 => ⟨S512x14x1, .i32⟩
  | 127 => ⟨S512x14x1, .i32⟩
  | _ => ⟨S2x256x256x256, .f32⟩

abbrev hbmTy0_4 (i : Nat) : BufTy := match i % 128 with
  | 0 => ⟨S_, .i32⟩
  | 1 => ⟨S512x1x14, .i32⟩
  | 2 => ⟨S512x1x14, .i1⟩
  | 3 => ⟨S_, .i32⟩
  | 4 => ⟨S512x1x14, .i32⟩
  | 5 => ⟨S512x1x14, .i32⟩
  | 6 => ⟨S512x1x14, .i32⟩
  | 7 => ⟨S512x14x14, .i32⟩
  | 8 => ⟨S512x14x14, .i32⟩
  | 9 => ⟨S512x14x14, .i32⟩
  | 10 => ⟨S512x14x14x1, .i32⟩
  | 11 => ⟨S512x14x14x1, .i32⟩
  | 12 => ⟨S512x14x14x1, .i32⟩
  | 13 => ⟨S512x14x14x3, .i32⟩
  | 14 => ⟨S512x14x14x256, .f32⟩
  | 15 => ⟨S512x14x14x256, .f32⟩
  | 16 => ⟨S512x14x14x256, .f32⟩
  | 17 => ⟨S512x14x14x256, .f32⟩
  | 18 => ⟨S512x14x14x256, .f32⟩
  | 19 => ⟨S512x14x14x256, .f32⟩
  | 20 => ⟨S512x7x2x7x2x256, .f32⟩
  | 21 => ⟨S_, .f32⟩
  | 22 => ⟨S512x7x7x256, .f32⟩
  | 23 => ⟨S_, .f32⟩
  | 24 => ⟨S512x7x7x256, .f32⟩
  | 25 => ⟨S512x7x7x256, .f32⟩
  | 26 => ⟨S2x64x64x256, .f32⟩
  | 27 => ⟨S512x1, .f32⟩
  | 28 => ⟨S512, .f32⟩
  | 29 => ⟨S_, .f32⟩
  | 30 => ⟨S512, .f32⟩
  | 31 => ⟨S512, .f32⟩
  | 32 => ⟨S512x1, .f32⟩
  | 33 => ⟨S512, .f32⟩
  | 34 => ⟨S_, .f32⟩
  | 35 => ⟨S512, .f32⟩
  | 36 => ⟨S512, .f32⟩
  | 37 => ⟨S512x1, .f32⟩
  | 38 => ⟨S512, .f32⟩
  | 39 => ⟨S_, .f32⟩
  | 40 => ⟨S512, .f32⟩
  | 41 => ⟨S512, .f32⟩
  | 42 => ⟨S512x1, .f32⟩
  | 43 => ⟨S512, .f32⟩
  | 44 => ⟨S_, .f32⟩
  | 45 => ⟨S512, .f32⟩
  | 46 => ⟨S512, .f32⟩
  | 47 => ⟨S512, .f32⟩
  | 48 => ⟨S_, .f32⟩
  | 49 => ⟨S512, .f32⟩
  | 50 => ⟨S512, .f32⟩
  | 51 => ⟨S_, .f32⟩
  | 52 => ⟨S512, .f32⟩
  | 53 => ⟨S512, .f32⟩
  | 54 => ⟨S512, .f32⟩
  | 55 => ⟨S_, .f32⟩
  | 56 => ⟨S512, .f32⟩
  | 57 => ⟨S512, .f32⟩
  | 58 => ⟨S_, .f32⟩
  | 59 => ⟨S512, .f32⟩
  | 60 => ⟨S512, .f32⟩
  | 61 => ⟨S7, .f32⟩
  | 62 => ⟨S7x1, .f32⟩
  | 63 => ⟨S2, .f32⟩
  | 64 => ⟨S1x2, .f32⟩
  | 65 => ⟨S_, .f32⟩
  | 66 => ⟨S1x2, .f32⟩
  | 67 => ⟨S1x2, .f32⟩
  | 68 => ⟨S_, .f32⟩
  | 69 => ⟨S1x2, .f32⟩
  | 70 => ⟨S1x2, .f32⟩
  | 71 => ⟨S7x2, .f32⟩
  | 72 => ⟨S7x2, .f32⟩
  | 73 => ⟨S7x2, .f32⟩
  | 74 => ⟨S14, .f32⟩
  | 75 => ⟨S512x1, .f32⟩
  | 76 => ⟨S1x14, .f32⟩
  | 77 => ⟨S512x1, .f32⟩
  | 78 => ⟨S512x14, .f32⟩
  | 79 => ⟨S512x14, .f32⟩
  | 80 => ⟨S512x14, .f32⟩
  | 81 => ⟨S512x14, .f32⟩
  | 82 => ⟨S512x14, .f32⟩
  | 83 => ⟨S_, .f32⟩
  | 84 => ⟨S_, .f32⟩
  | 85 => ⟨S_, .f32⟩
  | 86 => ⟨S512x14, .f32⟩
  | 87 => ⟨S512x14, .f32⟩
  | 88 => ⟨S_, .f32⟩
  | 89 => ⟨S512x14, .f32⟩
  | 90 => ⟨S512x14, .f32⟩
  | 91 => ⟨S512x1, .f32⟩
  | 92 => ⟨S1x14, .f32⟩
  | 93 => ⟨S512x1, .f32⟩
  | 94 => ⟨S512x14, .f32⟩
  | 95 => ⟨S512x14, .f32⟩
  | 96 => ⟨S512x14, .f32⟩
  | 97 => ⟨S512x14, .f32⟩
  | 98 => ⟨S512x14, .f32⟩
  | 99 => ⟨S_, .f32⟩
  | 100 => ⟨S_, .f32⟩
  | 101 => ⟨S_, .f32⟩
  | 102 => ⟨S512x14, .f32⟩
  | 103 => ⟨S512x14, .f32⟩
  | 104 => ⟨S_, .f32⟩
  | 105 => ⟨S512x14, .f32⟩
  | 106 => ⟨S512x14, .f32⟩
  | 107 => ⟨S512x14, .f32⟩
  | 108 => ⟨S512x14, .i32⟩
  | 109 => ⟨S512x14, .f32⟩
  | 110 => ⟨S512x14, .i32⟩
  | 111 => ⟨S_, .i32⟩
  | 112 => ⟨S512x14, .i32⟩
  | 113 => ⟨S512x14, .i32⟩
  | 114 => ⟨S_, .i32⟩
  | 115 => ⟨S512x14, .i32⟩
  | 116 => ⟨S512x14, .i32⟩
  | 117 => ⟨S_, .i32⟩
  | 118 => ⟨S512x14, .i32⟩
  | 119 => ⟨S512x14, .i32⟩
  | 120 => ⟨S_, .i32⟩
  | 121 => ⟨S512x14, .i32⟩
  | 122 => ⟨S512x14, .i32⟩
  | 123 => ⟨S512x14, .f32⟩
  | 124 => ⟨S512x14, .f32⟩
  | 125 => ⟨S512x14x1x1, .f32⟩
  | 126 => ⟨S512x14, .f32⟩
  | 127 => ⟨S512x14, .f32⟩
  | _ => ⟨S2x256x256x256, .f32⟩

abbrev hbmTy0_5 (i : Nat) : BufTy := match i % 128 with
  | 0 => ⟨S512x1x14x1, .f32⟩
  | 1 => ⟨S512x1x1, .i32⟩
  | 2 => ⟨S512x14x1, .i32⟩
  | 3 => ⟨S512x1x14, .i32⟩
  | 4 => ⟨S_, .i32⟩
  | 5 => ⟨S512x1x1, .i32⟩
  | 6 => ⟨S512x1x1, .i1⟩
  | 7 => ⟨S_, .i32⟩
  | 8 => ⟨S512x1x1, .i32⟩
  | 9 => ⟨S512x1x1, .i32⟩
  | 10 => ⟨S512x1x1, .i32⟩
  | 11 => ⟨S_, .i32⟩
  | 12 => ⟨S512x14x1, .i32⟩
  | 13 => ⟨S512x14x1, .i1⟩
  | 14 => ⟨S_, .i32⟩
  | 15 => ⟨S512x14x1, .i32⟩
  | 16 => ⟨S512x14x1, .i32⟩
  | 17 => ⟨S512x14x1, .i32⟩
  | 18 => ⟨S_, .i32⟩
  | 19 => ⟨S512x1x14, .i32⟩
  | 20 => ⟨S512x1x14, .i1⟩
  | 21 => ⟨S_, .i32⟩
  | 22 => ⟨S512x1x14, .i32⟩
  | 23 => ⟨S512x1x14, .i32⟩
  | 24 => ⟨S512x1x14, .i32⟩
  | 25 => ⟨S512x14x14, .i32⟩
  | 26 => ⟨S512x14x14, .i32⟩
  | 27 => ⟨S512x14x14, .i32⟩
  | 28 => ⟨S512x14x14x1, .i32⟩
  | 29 => ⟨S512x14x14x1, .i32⟩
  | 30 => ⟨S512x14x14x1, .i32⟩
  | 31 => ⟨S512x14x14x3, .i32⟩
  | 32 => ⟨S512x14x14x256, .f32⟩
  | 33 => ⟨S_, .f32⟩
  | 34 => ⟨S512x14x1x1, .f32⟩
  | 35 => ⟨S512x14x1x1, .f32⟩
  | 36 => ⟨S512x14x14x256, .f32⟩
  | 37 => ⟨S512x14x14x256, .f32⟩
  | 38 => ⟨S_, .f32⟩
  | 39 => ⟨S512x1x14x1, .f32⟩
  | 40 => ⟨S512x1x14x1, .f32⟩
  | 41 => ⟨S512x14x14x256, .f32⟩
  | 42 => ⟨S512x14x14x256, .f32⟩
  | 43 => ⟨S512x14x1, .i32⟩
  | 44 => ⟨S512x1x14, .i32⟩
  | 45 => ⟨S_, .i32⟩
  | 46 => ⟨S512x1x1, .i32⟩
  | 47 => ⟨S512x1x1, .i1⟩
  | 48 => ⟨S_, .i32⟩
  | 49 => ⟨S512x1x1, .i32⟩
  | 50 => ⟨S512x1x1, .i32⟩
  | 51 => ⟨S512x1x1, .i32⟩
  | 52 => ⟨S_, .i32⟩
  | 53 => ⟨S512x14x1, .i32⟩
  | 54 => ⟨S512x14x1, .i1⟩
  | 55 => ⟨S_, .i32⟩
  | 56 => ⟨S512x14x1, .i32⟩
  | 57 => ⟨S512x14x1, .i32⟩
  | 58 => ⟨S512x14x1, .i32⟩
  | 59 => ⟨S_, .i32⟩
  | 60 => ⟨S512x1x14, .i32⟩
  | 61 => ⟨S512x1x14, .i1⟩
  | 62 => ⟨S_, .i32⟩
  | 63 => ⟨S512x1x14, .i32⟩
  | 64 => ⟨S512x1x14, .i32⟩
  | 65 => ⟨S512x1x14, .i32⟩
  | 66 => ⟨S512x14x14, .i32⟩
  | 67 => ⟨S512x14x14, .i32⟩
  | 68 => ⟨S512x14x14, .i32⟩
  | 69 => ⟨S512x14x14x1, .i32⟩
  | 70 => ⟨S512x14x14x1, .i32⟩
  | 71 => ⟨S512x14x14x1, .i32⟩
  | 72 => ⟨S512x14x14x3, .i32⟩
  | 73 => ⟨S512x14x14x256, .f32⟩
  | 74 => ⟨S_, .f32⟩
  | 75 => ⟨S512x14x1x1, .f32⟩
  | 76 => ⟨S512x14x1x1, .f32⟩
  | 77 => ⟨S512x14x14x256, .f32⟩
  | 78 => ⟨S512x14x14x256, .f32⟩
  | 79 => ⟨S512x14x14x256, .f32⟩
  | 80 => ⟨S512x14x14x256, .f32⟩
  | 81 => ⟨S512x14x14x256, .f32⟩
  | 82 => ⟨S512x14x1, .i32⟩
  | 83 => ⟨S512x1x14, .i32⟩
  | 84 => ⟨S_, .i32⟩
  | 85 => ⟨S512x1x1, .i32⟩
  | 86 => ⟨S512x1x1, .i1⟩
  | 87 => ⟨S_, .i32⟩
  | 88 => ⟨S512x1x1, .i32⟩
  | 89 => ⟨S512x1x1, .i32⟩
  | 90 => ⟨S512x1x1, .i32⟩
  | 91 => ⟨S_, .i32⟩
  | 92 => ⟨S512x14x1, .i32⟩
  | 93 => ⟨S512x14x1, .i1⟩
  | 94 => ⟨S_, .i32⟩
  | 95 => ⟨S512x14x1, .i32⟩
  | 96 => ⟨S512x14x1, .i32⟩
  | 97 => ⟨S512x14x1, .i32⟩
  | 98 => ⟨S_, .i32⟩
  | 99 => ⟨S512x1x14, .i32⟩
  | 100 => ⟨S512x1x14, .i1⟩
  | 101 => ⟨S_, .i32⟩
  | 102 => ⟨S512x1x14, .i32⟩
  | 103 => ⟨S512x1x14, .i32⟩
  | 104 => ⟨S512x1x14, .i32⟩
  | 105 => ⟨S512x14x14, .i32⟩
  | 106 => ⟨S512x14x14, .i32⟩
  | 107 => ⟨S512x14x14, .i32⟩
  | 108 => ⟨S512x14x14x1, .i32⟩
  | 109 => ⟨S512x14x14x1, .i32⟩
  | 110 => ⟨S512x14x14x1, .i32⟩
  | 111 => ⟨S512x14x14x3, .i32⟩
  | 112 => ⟨S512x14x14x256, .f32⟩
  | 113 => ⟨S512x14x14x256, .f32⟩
  | 114 => ⟨S512x14x14x256, .f32⟩
  | 115 => ⟨S_, .f32⟩
  | 116 => ⟨S512x1x14x1, .f32⟩
  | 117 => ⟨S512x1x14x1, .f32⟩
  | 118 => ⟨S512x14x14x256, .f32⟩
  | 119 => ⟨S512x14x14x256, .f32⟩
  | 120 => ⟨S512x14x14x256, .f32⟩
  | 121 => ⟨S512x14x1, .i32⟩
  | 122 => ⟨S512x1x14, .i32⟩
  | 123 => ⟨S_, .i32⟩
  | 124 => ⟨S512x1x1, .i32⟩
  | 125 => ⟨S512x1x1, .i1⟩
  | 126 => ⟨S_, .i32⟩
  | 127 => ⟨S512x1x1, .i32⟩
  | _ => ⟨S2x256x256x256, .f32⟩

abbrev hbmTy0_6 (i : Nat) : BufTy := match i % 128 with
  | 0 => ⟨S512x1x1, .i32⟩
  | 1 => ⟨S512x1x1, .i32⟩
  | 2 => ⟨S_, .i32⟩
  | 3 => ⟨S512x14x1, .i32⟩
  | 4 => ⟨S512x14x1, .i1⟩
  | 5 => ⟨S_, .i32⟩
  | 6 => ⟨S512x14x1, .i32⟩
  | 7 => ⟨S512x14x1, .i32⟩
  | 8 => ⟨S512x14x1, .i32⟩
  | 9 => ⟨S_, .i32⟩
  | 10 => ⟨S512x1x14, .i32⟩
  | 11 => ⟨S512x1x14, .i1⟩
  | 12 => ⟨S_, .i32⟩
  | 13 => ⟨S512x1x14, .i32⟩
  | 14 => ⟨S512x1x14, .i32⟩
  | 15 => ⟨S512x1x14, .i32⟩
  | 16 => ⟨S512x14x14, .i32⟩
  | 17 => ⟨S512x14x14, .i32⟩
  | 18 => ⟨S512x14x14, .i32⟩
  | 19 => ⟨S512x14x14x1, .i32⟩
  | 20 => ⟨S512x14x14x1, .i32⟩
  | 21 => ⟨S512x14x14x1, .i32⟩
  | 22 => ⟨S512x14x14x3, .i32⟩
  | 23 => ⟨S512x14x14x256, .f32⟩
  | 24 => ⟨S512x14x14x256, .f32⟩
  | 25 => ⟨S512x14x14x256, .f32⟩
  | 26 => ⟨S512x14x14x256, .f32⟩
  | 27 => ⟨S512x14x14x256, .f32⟩
  | 28 => ⟨S512x14x14x256, .f32⟩
  | 29 => ⟨S512x7x2x7x2x256, .f32⟩
  | 30 => ⟨S_, .f32⟩
  | 31 => ⟨S512x7x7x256, .f32⟩
  | 32 => ⟨S_, .f32⟩
  | 33 => ⟨S512x7x7x256, .f32⟩
  | 34 => ⟨S512x7x7x256, .f32⟩
  | 35 => ⟨S2x32x32x256, .f32⟩
  | 36 => ⟨S512x1, .f32⟩
  | 37 => ⟨S512, .f32⟩
  | 38 => ⟨S_, .f32⟩
  | 39 => ⟨S512, .f32⟩
  | 40 => ⟨S512, .f32⟩
  | 41 => ⟨S512x1, .f32⟩
  | 42 => ⟨S512, .f32⟩
  | 43 => ⟨S_, .f32⟩
  | 44 => ⟨S512, .f32⟩
  | 45 => ⟨S512, .f32⟩
  | 46 => ⟨S512x1, .f32⟩
  | 47 => ⟨S512, .f32⟩
  | 48 => ⟨S_, .f32⟩
  | 49 => ⟨S512, .f32⟩
  | 50 => ⟨S512, .f32⟩
  | 51 => ⟨S512x1, .f32⟩
  | 52 => ⟨S512, .f32⟩
  | 53 => ⟨S_, .f32⟩
  | 54 => ⟨S512, .f32⟩
  | 55 => ⟨S512, .f32⟩
  | 56 => ⟨S512, .f32⟩
  | 57 => ⟨S_, .f32⟩
  | 58 => ⟨S512, .f32⟩
  | 59 => ⟨S512, .f32⟩
  | 60 => ⟨S_, .f32⟩
  | 61 => ⟨S512, .f32⟩
  | 62 => ⟨S512, .f32⟩
  | 63 => ⟨S512, .f32⟩
  | 64 => ⟨S_, .f32⟩
  | 65 => ⟨S512, .f32⟩
  | 66 => ⟨S512, .f32⟩
  | 67 => ⟨S_, .f32⟩
  | 68 => ⟨S512, .f32⟩
  | 69 => ⟨S512, .f32⟩
  | 70 => ⟨S7, .f32⟩
  | 71 => ⟨S7x1, .f32⟩
  | 72 => ⟨S2, .f32⟩
  | 73 => ⟨S1x2, .f32⟩
  | 74 => ⟨S_, .f32⟩
  | 75 => ⟨S1x2, .f32⟩
  | 76 => ⟨S1x2, .f32⟩
  | 77 => ⟨S_, .f32⟩
  | 78 => ⟨S1x2, .f32⟩
  | 79 => ⟨S1x2, .f32⟩
  | 80 => ⟨S7x2, .f32⟩
  | 81 => ⟨S7x2, .f32⟩
  | 82 => ⟨S7x2, .f32⟩
  | 83 => ⟨S14, .f32⟩
  | 84 => ⟨S512x1, .f32⟩
  | 85 => ⟨S1x14, .f32⟩
  | 86 => ⟨S512x1, .f32⟩
  | 87 => ⟨S512x14, .f32⟩
  | 88 => ⟨S512x14, .f32⟩
  | 89 => ⟨S512x14, .f32⟩
  | 90 => ⟨S512x14, .f32⟩
  | 91 => ⟨S512x14, .f32⟩
  | 92 => ⟨S_, .f32⟩
  | 93 => ⟨S_, .f32⟩
  | 94 => ⟨S_, .f32⟩
  | 95 => ⟨S512x14, .f32⟩
  | 96 => ⟨S512x14, .f32⟩
  | 97 => ⟨S_, .f32⟩
  | 98 => ⟨S512x14, .f32⟩
  | 99 => ⟨S512x14, .f32⟩
  | 100 => ⟨S512x1, .f32⟩
  | 101 => ⟨S1x14, .f32⟩
  | 102 => ⟨S512x1, .f32⟩
  | 103 => ⟨S512x14, .f32⟩
  | 104 => ⟨S512x14, .f32⟩
  | 105 => ⟨S512x14, .f32⟩
  | 106 => ⟨S512x14, .f32⟩
  | 107 => ⟨S512x14, .f32⟩
  | 108 => ⟨S_, .f32⟩
  | 109 => ⟨S_, .f32⟩
  | 110 => ⟨S_, .f32⟩
  | 111 => ⟨S512x14, .f32⟩
  | 112 => ⟨S512x14, .f32⟩
  | 113 => ⟨S_, .f32⟩
  | 114 => ⟨S512x14, .f32⟩
  | 115 => ⟨S512x14, .f32⟩
  | 116 => ⟨S512x14, .f32⟩
  | 117 => ⟨S512x14, .i32⟩
  | 118 => ⟨S512x14, .f32⟩
  | 119 => ⟨S512x14, .i32⟩
  | 120 => ⟨S_, .i32⟩
  | 121 => ⟨S512x14, .i32⟩
  | 122 => ⟨S512x14, .i32⟩
  | 123 => ⟨S_, .i32⟩
  | 124 => ⟨S512x14, .i32⟩
  | 125 => ⟨S512x14, .i32⟩
  | 126 => ⟨S_, .i32⟩
  | 127 => ⟨S512x14, .i32⟩
  | _ => ⟨S2x256x256x256, .f32⟩

abbrev hbmTy0_7 (i : Nat) : BufTy := match i % 128 with
  | 0 => ⟨S512x14, .i32⟩
  | 1 => ⟨S_, .i32⟩
  | 2 => ⟨S512x14, .i32⟩
  | 3 => ⟨S512x14, .i32⟩
  | 4 => ⟨S512x14, .f32⟩
  | 5 => ⟨S512x14, .f32⟩
  | 6 => ⟨S512x14x1x1, .f32⟩
  | 7 => ⟨S512x14, .f32⟩
  | 8 => ⟨S512x14, .f32⟩
  | 9 => ⟨S512x1x14x1, .f32⟩
  | 10 => ⟨S512x1x1, .i32⟩
  | 11 => ⟨S512x14x1, .i32⟩
  | 12 => ⟨S512x1x14, .i32⟩
  | 13 => ⟨S_, .i32⟩
  | 14 => ⟨S512x1x1, .i32⟩
  | 15 => ⟨S512x1x1, .i1⟩
  | 16 => ⟨S_, .i32⟩
  | 17 => ⟨S512x1x1, .i32⟩
  | 18 => ⟨S512x1x1, .i32⟩
  | 19 => ⟨S512x1x1, .i32⟩
  | 20 => ⟨S_, .i32⟩
  | 21 => ⟨S512x14x1, .i32⟩
  | 22 => ⟨S512x14x1, .i1⟩
  | 23 => ⟨S_, .i32⟩
  | 24 => ⟨S512x14x1, .i32⟩
  | 25 => ⟨S512x14x1, .i32⟩
  | 26 => ⟨S512x14x1, .i32⟩
  | 27 => ⟨S_, .i32⟩
  | 28 => ⟨S512x1x14, .i32⟩
  | 29 => ⟨S512x1x14, .i1⟩
  | 30 => ⟨S_, .i32⟩
  | 31 => ⟨S512x1x14, .i32⟩
  | 32 => ⟨S512x1x14, .i32⟩
  | 33 => ⟨S512x1x14, .i32⟩
  | 34 => ⟨S512x14x14, .i32⟩
  | 35 => ⟨S512x14x14, .i32⟩
  | 36 => ⟨S512x14x14, .i32⟩
  | 37 => ⟨S512x14x14x1, .i32⟩
  | 38 => ⟨S512x14x14x1, .i32⟩
  | 39 => ⟨S512x14x14x1, .i32⟩
  | 40 => ⟨S512x14x14x3, .i32⟩
  | 41 => ⟨S512x14x14x256, .f32⟩
  | 42 => ⟨S_, .f32⟩
  | 43 => ⟨S512x14x1x1, .f32⟩
  | 44 => ⟨S512x14x1x1, .f32⟩
  | 45 => ⟨S512x14x14x256, .f32⟩
  | 46 => ⟨S512x14x14x256, .f32⟩
  | 47 => ⟨S_, .f32⟩
  | 48 => ⟨S512x1x14x1, .f32⟩
  | 49 => ⟨S512x1x14x1, .f32⟩
  | 50 => ⟨S512x14x14x256, .f32⟩
  | 51 => ⟨S512x14x14x256, .f32⟩
  | 52 => ⟨S512x14x1, .i32⟩
  | 53 => ⟨S512x1x14, .i32⟩
  | 54 => ⟨S_, .i32⟩
  | 55 => ⟨S512x1x1, .i32⟩
  | 56 => ⟨S512x1x1, .i1⟩
  | 57 => ⟨S_, .i32⟩
  | 58 => ⟨S512x1x1, .i32⟩
  | 59 => ⟨S512x1x1, .i32⟩
  | 60 => ⟨S512x1x1, .i32⟩
  | 61 => ⟨S_, .i32⟩
  | 62 => ⟨S512x14x1, .i32⟩
  | 63 => ⟨S512x14x1, .i1⟩
  | 64 => ⟨S_, .i32⟩
  | 65 => ⟨S512x14x1, .i32⟩
  | 66 => ⟨S512x14x1, .i32⟩
  | 67 => ⟨S512x14x1, .i32⟩
  | 68 => ⟨S_, .i32⟩
  | 69 => ⟨S512x1x14, .i32⟩
  | 70 => ⟨S512x1x14, .i1⟩
  | 71 => ⟨S_, .i32⟩
  | 72 => ⟨S512x1x14, .i32⟩
  | 73 => ⟨S512x1x14, .i32⟩
  | 74 => ⟨S512x1x14, .i32⟩
  | 75 => ⟨S512x14x14, .i32⟩
  | 76 => ⟨S512x14x14, .i32⟩
  | 77 => ⟨S512x14x14, .i32⟩
  | 78 => ⟨S512x14x14x1, .i32⟩
  | 79 => ⟨S512x14x14x1, .i32⟩
  | 80 => ⟨S512x14x14x1, .i32⟩
  | 81 => ⟨S512x14x14x3, .i32⟩
  | 82 => ⟨S512x14x14x256, .f32⟩
  | 83 => ⟨S_, .f32⟩
  | 84 => ⟨S512x14x1x1, .f32⟩
  | 85 => ⟨S512x14x1x1, .f32⟩
  | 86 => ⟨S512x14x14x256, .f32⟩
  | 87 => ⟨S512x14x14x256, .f32⟩
  | 88 => ⟨S512x14x14x256, .f32⟩
  | 89 => ⟨S512x14x14x256, .f32⟩
  | 90 => ⟨S512x14x14x256, .f32⟩
  | 91 => ⟨S512x14x1, .i32⟩
  | 92 => ⟨S512x1x14, .i32⟩
  | 93 => ⟨S_, .i32⟩
  | 94 => ⟨S512x1x1, .i32⟩
  | 95 => ⟨S512x1x1, .i1⟩
  | 96 => ⟨S_, .i32⟩
  | 97 => ⟨S512x1x1, .i32⟩
  | 98 => ⟨S512x1x1, .i32⟩
  | 99 => ⟨S512x1x1, .i32⟩
  | 100 => ⟨S_, .i32⟩
  | 101 => ⟨S512x14x1, .i32⟩
  | 102 => ⟨S512x14x1, .i1⟩
  | 103 => ⟨S_, .i32⟩
  | 104 => ⟨S512x14x1, .i32⟩
  | 105 => ⟨S512x14x1, .i32⟩
  | 106 => ⟨S512x14x1, .i32⟩
  | 107 => ⟨S_, .i32⟩
  | 108 => ⟨S512x1x14, .i32⟩
  | 109 => ⟨S512x1x14, .i1⟩
  | 110 => ⟨S_, .i32⟩
  | 111 => ⟨S512x1x14, .i32⟩
  | 112 => ⟨S512x1x14, .i32⟩
  | 113 => ⟨S512x1x14, .i32⟩
  | 114 => ⟨S512x14x14, .i32⟩
  | 115 => ⟨S512x14x14, .i32⟩
  | 116 => ⟨S512x14x14, .i32⟩
  | 117 => ⟨S512x14x14x1, .i32⟩
  | 118 => ⟨S512x14x14x1, .i32⟩
  | 119 => ⟨S512x14x14x1, .i32⟩
  | 120 => ⟨S512x14x14x3, .i32⟩
  | 121 => ⟨S512x14x14x256, .f32⟩
  | 122 => ⟨S512x14x14x256, .f32⟩
  | 123 => ⟨S512x14x14x256, .f32⟩
  | 124 => ⟨S_, .f32⟩
  | 125 => ⟨S512x1x14x1, .f32⟩
  | 126 => ⟨S512x1x14x1, .f32⟩
  | 127 => ⟨S512x14x14x256, .f32⟩
  | _ => ⟨S2x256x256x256, .f32⟩

abbrev hbmTy0_8 (i : Nat) : BufTy := match i % 128 with
  | 0 => ⟨S512x14x14x256, .f32⟩
  | 1 => ⟨S512x14x14x256, .f32⟩
  | 2 => ⟨S512x14x1, .i32⟩
  | 3 => ⟨S512x1x14, .i32⟩
  | 4 => ⟨S_, .i32⟩
  | 5 => ⟨S512x1x1, .i32⟩
  | 6 => ⟨S512x1x1, .i1⟩
  | 7 => ⟨S_, .i32⟩
  | 8 => ⟨S512x1x1, .i32⟩
  | 9 => ⟨S512x1x1, .i32⟩
  | 10 => ⟨S512x1x1, .i32⟩
  | 11 => ⟨S_, .i32⟩
  | 12 => ⟨S512x14x1, .i32⟩
  | 13 => ⟨S512x14x1, .i1⟩
  | 14 => ⟨S_, .i32⟩
  | 15 => ⟨S512x14x1, .i32⟩
  | 16 => ⟨S512x14x1, .i32⟩
  | 17 => ⟨S512x14x1, .i32⟩
  | 18 => ⟨S_, .i32⟩
  | 19 => ⟨S512x1x14, .i32⟩
  | 20 => ⟨S512x1x14, .i1⟩
  | 21 => ⟨S_, .i32⟩
  | 22 => ⟨S512x1x14, .i32⟩
  | 23 => ⟨S512x1x14, .i32⟩
  | 24 => ⟨S512x1x14, .i32⟩
  | 25 => ⟨S512x14x14, .i32⟩
  | 26 => ⟨S512x14x14, .i32⟩
  | 27 => ⟨S512x14x14, .i32⟩
  | 28 => ⟨S512x14x14x1, .i32⟩
  | 29 => ⟨S512x14x14x1, .i32⟩
  | 30 => ⟨S512x14x14x1, .i32⟩
  | 31 => ⟨S512x14x14x3, .i32⟩
  | 32 => ⟨S512x14x14x256, .f32⟩
  | 33 => ⟨S512x14x14x256, .f32⟩
  | 34 => ⟨S512x14x14x256, .f32⟩
  | 35 => ⟨S512x14x14x256, .f32⟩
  | 36 => ⟨S512x14x14x256, .f32⟩
  | 37 => ⟨S512x14x14x256, .f32⟩
  | 38 => ⟨S512x7x2x7x2x256, .f32⟩
  | 39 => ⟨S_, .f32⟩
  | 40 => ⟨S512x7x7x256, .f32⟩
  | 41 => ⟨S_, .f32⟩
  | 42 => ⟨S512x7x7x256, .f32⟩
  | 43 => ⟨S512x7x7x256, .f32⟩
  | 44 => ⟨S512x7x7x1024, .f32⟩
  | 45 => ⟨S256x512x7x7, .f32⟩
  | 46 => ⟨S512x256x7x7, .f32⟩
  | 47 => ⟨S1x256x1x1, .f32⟩
  | 48 => ⟨S512x256x7x7, .f32⟩
  | 49 => ⟨S512x256x7x7, .f32⟩
  | 50 => ⟨S_, .f32⟩
  | 51 => ⟨S512x256x7x7, .f32⟩
  | 52 => ⟨S512x256x7x7, .f32⟩
  | _ => ⟨S2x256x256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S2x256x256x256, .f32⟩

abbrev bufTy : (tb : Table) → Fin (tcTables nBuf tb) → BufTy
  | .hbm, ⟨i, _⟩ => hbmTy i
  | _, _ => ⟨S2x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_cst_10 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_cst_12 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c : Ref sig .tc := ⟨.hbm, 93, rfl⟩
abbrev main_v61 : Ref sig .tc := ⟨.hbm, 94, rfl⟩
abbrev main_v62 : Ref sig .tc := ⟨.hbm, 95, rfl⟩
abbrev main_c_13 : Ref sig .tc := ⟨.hbm, 96, rfl⟩
abbrev main_v63 : Ref sig .tc := ⟨.hbm, 97, rfl⟩
abbrev main_v64 : Ref sig .tc := ⟨.hbm, 98, rfl⟩
abbrev main_c_14 : Ref sig .tc := ⟨.hbm, 99, rfl⟩
abbrev main_v65 : Ref sig .tc := ⟨.hbm, 100, rfl⟩
abbrev main_v66 : Ref sig .tc := ⟨.hbm, 101, rfl⟩
abbrev main_c_15 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_16 : Ref sig .tc := ⟨.hbm, 114, rfl⟩
abbrev main_v78 : Ref sig .tc := ⟨.hbm, 115, rfl⟩
abbrev main_v79 : Ref sig .tc := ⟨.hbm, 116, rfl⟩
abbrev main_c_17 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_c_18 : Ref sig .tc := ⟨.hbm, 121, rfl⟩
abbrev main_v83 : Ref sig .tc := ⟨.hbm, 122, rfl⟩
abbrev main_v84 : Ref sig .tc := ⟨.hbm, 123, rfl⟩
abbrev main_c_19 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_c_20 : Ref sig .tc := ⟨.hbm, 128, rfl⟩
abbrev main_v88 : Ref sig .tc := ⟨.hbm, 129, rfl⟩
abbrev main_v89 : Ref sig .tc := ⟨.hbm, 130, rfl⟩
abbrev main_c_21 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_22 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_23 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_c_24 : Ref sig .tc := ⟨.hbm, 155, rfl⟩
abbrev main_v111 : Ref sig .tc := ⟨.hbm, 156, rfl⟩
abbrev main_v112 : Ref sig .tc := ⟨.hbm, 157, rfl⟩
abbrev main_c_25 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_c_26 : Ref sig .tc := ⟨.hbm, 162, rfl⟩
abbrev main_v116 : Ref sig .tc := ⟨.hbm, 163, rfl⟩
abbrev main_v117 : Ref sig .tc := ⟨.hbm, 164, rfl⟩
abbrev main_c_27 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_c_28 : Ref sig .tc := ⟨.hbm, 169, rfl⟩
abbrev main_v121 : Ref sig .tc := ⟨.hbm, 170, rfl⟩
abbrev main_v122 : Ref sig .tc := ⟨.hbm, 171, rfl⟩
abbrev main_c_29 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_cst_30 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_c_31 : Ref sig .tc := ⟨.hbm, 194, rfl⟩
abbrev main_v143 : Ref sig .tc := ⟨.hbm, 195, rfl⟩
abbrev main_v144 : Ref sig .tc := ⟨.hbm, 196, rfl⟩
abbrev main_c_32 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_c_33 : Ref sig .tc := ⟨.hbm, 201, rfl⟩
abbrev main_v148 : Ref sig .tc := ⟨.hbm, 202, rfl⟩
abbrev main_v149 : Ref sig .tc := ⟨.hbm, 203, rfl⟩
abbrev main_c_34 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_c_35 : Ref sig .tc := ⟨.hbm, 208, rfl⟩
abbrev main_v153 : Ref sig .tc := ⟨.hbm, 209, rfl⟩
abbrev main_v154 : Ref sig .tc := ⟨.hbm, 210, rfl⟩
abbrev main_c_36 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_cst_37 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_c_38 : Ref sig .tc := ⟨.hbm, 233, rfl⟩
abbrev main_v175 : Ref sig .tc := ⟨.hbm, 234, rfl⟩
abbrev main_v176 : Ref sig .tc := ⟨.hbm, 235, rfl⟩
abbrev main_c_39 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_c_40 : Ref sig .tc := ⟨.hbm, 240, rfl⟩
abbrev main_v180 : Ref sig .tc := ⟨.hbm, 241, rfl⟩
abbrev main_v181 : Ref sig .tc := ⟨.hbm, 242, rfl⟩
abbrev main_c_41 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_c_42 : Ref sig .tc := ⟨.hbm, 247, rfl⟩
abbrev main_v185 : Ref sig .tc := ⟨.hbm, 248, rfl⟩
abbrev main_v186 : Ref sig .tc := ⟨.hbm, 249, rfl⟩
abbrev main_c_43 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_cst_44 : Ref sig .tc := ⟨.hbm, 268, rfl⟩
abbrev main_v204 : Ref sig .tc := ⟨.hbm, 269, rfl⟩
abbrev main_cst_45 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_cst_46 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_cst_47 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_cst_48 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_v221 : Ref sig .tc := ⟨.hbm, 290, rfl⟩
abbrev main_cst_49 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_cst_50 : Ref sig .tc := ⟨.hbm, 295, rfl⟩
abbrev main_v225 : Ref sig .tc := ⟨.hbm, 296, rfl⟩
abbrev main_v226 : Ref sig .tc := ⟨.hbm, 297, rfl⟩
abbrev main_cst_51 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_cst_52 : Ref sig .tc := ⟨.hbm, 302, rfl⟩
abbrev main_v230 : Ref sig .tc := ⟨.hbm, 303, rfl⟩
abbrev main_v231 : Ref sig .tc := ⟨.hbm, 304, rfl⟩
abbrev main_cst_53 : Ref sig .tc := ⟨.hbm, 305, rfl⟩
abbrev main_v232 : Ref sig .tc := ⟨.hbm, 306, rfl⟩
abbrev main_v233 : Ref sig .tc := ⟨.hbm, 307, rfl⟩
abbrev main_v234 : Ref sig .tc := ⟨.hbm, 308, rfl⟩
abbrev main_v235 : Ref sig .tc := ⟨.hbm, 309, rfl⟩
abbrev main_v236 : Ref sig .tc := ⟨.hbm, 310, rfl⟩
abbrev main_v237 : Ref sig .tc := ⟨.hbm, 311, rfl⟩
abbrev main_cst_54 : Ref sig .tc := ⟨.hbm, 312, rfl⟩
abbrev main_v238 : Ref sig .tc := ⟨.hbm, 313, rfl⟩
abbrev main_v239 : Ref sig .tc := ⟨.hbm, 314, rfl⟩
abbrev main_cst_55 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_cst_56 : Ref sig .tc := ⟨.hbm, 330, rfl⟩
abbrev main_cst_57 : Ref sig .tc := ⟨.hbm, 331, rfl⟩
abbrev main_call2_v0 : Ref sig .tc := ⟨.hbm, 332, rfl⟩
abbrev main_call2_v1 : Ref sig .tc := ⟨.hbm, 333, rfl⟩
abbrev main_call2_v2 : Ref sig .tc := ⟨.hbm, 334, rfl⟩
abbrev main_call2_v3 : Ref sig .tc := ⟨.hbm, 335, rfl⟩
abbrev main_call2_v4 : Ref sig .tc := ⟨.hbm, 336, rfl⟩
abbrev main_v254 : Ref sig .tc := ⟨.hbm, 337, rfl⟩
abbrev main_v255 : Ref sig .tc := ⟨.hbm, 338, rfl⟩
abbrev main_v256 : Ref sig .tc := ⟨.hbm, 339, rfl⟩
abbrev main_v257 : Ref sig .tc := ⟨.hbm, 340, rfl⟩
abbrev main_v258 : Ref sig .tc := ⟨.hbm, 341, rfl⟩
abbrev main_v259 : Ref sig .tc := ⟨.hbm, 342, rfl⟩
abbrev main_v260 : Ref sig .tc := ⟨.hbm, 343, rfl⟩
abbrev main_v261 : Ref sig .tc := ⟨.hbm, 344, rfl⟩
abbrev main_v262 : Ref sig .tc := ⟨.hbm, 345, rfl⟩
abbrev main_cst_58 : Ref sig .tc := ⟨.hbm, 346, rfl⟩
abbrev main_cst_59 : Ref sig .tc := ⟨.hbm, 347, rfl⟩
abbrev main_call3_v0 : Ref sig .tc := ⟨.hbm, 348, rfl⟩
abbrev main_call3_v1 : Ref sig .tc := ⟨.hbm, 349, rfl⟩
abbrev main_call3_v2 : Ref sig .tc := ⟨.hbm, 350, rfl⟩
abbrev main_call3_v3 : Ref sig .tc := ⟨.hbm, 351, rfl⟩
abbrev main_call3_v4 : Ref sig .tc := ⟨.hbm, 352, rfl⟩
abbrev main_v263 : Ref sig .tc := ⟨.hbm, 353, rfl⟩
abbrev main_v264 : Ref sig .tc := ⟨.hbm, 354, rfl⟩
abbrev main_v265 : Ref sig .tc := ⟨.hbm, 355, rfl⟩
abbrev main_v266 : Ref sig .tc := ⟨.hbm, 356, rfl⟩
abbrev main_v267 : Ref sig .tc := ⟨.hbm, 357, rfl⟩
abbrev main_c_60 : Ref sig .tc := ⟨.hbm, 358, rfl⟩
abbrev main_v268 : Ref sig .tc := ⟨.hbm, 359, rfl⟩
abbrev main_v269 : Ref sig .tc := ⟨.hbm, 360, rfl⟩
abbrev main_c_61 : Ref sig .tc := ⟨.hbm, 361, rfl⟩
abbrev main_v270 : Ref sig .tc := ⟨.hbm, 362, rfl⟩
abbrev main_v271 : Ref sig .tc := ⟨.hbm, 363, rfl⟩
abbrev main_c_62 : Ref sig .tc := ⟨.hbm, 364, rfl⟩
abbrev main_v272 : Ref sig .tc := ⟨.hbm, 365, rfl⟩
abbrev main_v273 : Ref sig .tc := ⟨.hbm, 366, rfl⟩
abbrev main_c_63 : Ref sig .tc := ⟨.hbm, 367, rfl⟩
abbrev main_v274 : Ref sig .tc := ⟨.hbm, 368, rfl⟩
abbrev main_v275 : Ref sig .tc := ⟨.hbm, 369, rfl⟩
abbrev main_v276 : Ref sig .tc := ⟨.hbm, 370, rfl⟩
abbrev main_v277 : Ref sig .tc := ⟨.hbm, 371, rfl⟩
abbrev main_v278 : Ref sig .tc := ⟨.hbm, 372, rfl⟩
abbrev main_v279 : Ref sig .tc := ⟨.hbm, 373, rfl⟩
abbrev main_v280 : Ref sig .tc := ⟨.hbm, 374, rfl⟩
abbrev main_v281 : Ref sig .tc := ⟨.hbm, 375, rfl⟩
abbrev main_v282 : Ref sig .tc := ⟨.hbm, 376, rfl⟩
abbrev main_v283 : Ref sig .tc := ⟨.hbm, 377, rfl⟩
abbrev main_v284 : Ref sig .tc := ⟨.hbm, 378, rfl⟩
abbrev main_c_64 : Ref sig .tc := ⟨.hbm, 379, rfl⟩
abbrev main_v285 : Ref sig .tc := ⟨.hbm, 380, rfl⟩
abbrev main_v286 : Ref sig .tc := ⟨.hbm, 381, rfl⟩
abbrev main_c_65 : Ref sig .tc := ⟨.hbm, 382, rfl⟩
abbrev main_v287 : Ref sig .tc := ⟨.hbm, 383, rfl⟩
abbrev main_v288 : Ref sig .tc := ⟨.hbm, 384, rfl⟩
abbrev main_v289 : Ref sig .tc := ⟨.hbm, 385, rfl⟩
abbrev main_c_66 : Ref sig .tc := ⟨.hbm, 386, rfl⟩
abbrev main_v290 : Ref sig .tc := ⟨.hbm, 387, rfl⟩
abbrev main_v291 : Ref sig .tc := ⟨.hbm, 388, rfl⟩
abbrev main_c_67 : Ref sig .tc := ⟨.hbm, 389, rfl⟩
abbrev main_v292 : Ref sig .tc := ⟨.hbm, 390, rfl⟩
abbrev main_v293 : Ref sig .tc := ⟨.hbm, 391, rfl⟩
abbrev main_v294 : Ref sig .tc := ⟨.hbm, 392, rfl⟩
abbrev main_c_68 : Ref sig .tc := ⟨.hbm, 393, rfl⟩
abbrev main_v295 : Ref sig .tc := ⟨.hbm, 394, rfl⟩
abbrev main_v296 : Ref sig .tc := ⟨.hbm, 395, rfl⟩
abbrev main_c_69 : Ref sig .tc := ⟨.hbm, 396, rfl⟩
abbrev main_v297 : Ref sig .tc := ⟨.hbm, 397, rfl⟩
abbrev main_v298 : Ref sig .tc := ⟨.hbm, 398, rfl⟩
abbrev main_v299 : Ref sig .tc := ⟨.hbm, 399, rfl⟩
abbrev main_v300 : Ref sig .tc := ⟨.hbm, 400, rfl⟩
abbrev main_v301 : Ref sig .tc := ⟨.hbm, 401, rfl⟩
abbrev main_v302 : Ref sig .tc := ⟨.hbm, 402, rfl⟩
abbrev main_v303 : Ref sig .tc := ⟨.hbm, 403, rfl⟩
abbrev main_v304 : Ref sig .tc := ⟨.hbm, 404, rfl⟩
abbrev main_v305 : Ref sig .tc := ⟨.hbm, 405, rfl⟩
abbrev main_v306 : Ref sig .tc := ⟨.hbm, 406, rfl⟩
abbrev main_v307 : Ref sig .tc := ⟨.hbm, 407, rfl⟩
abbrev main_cst_70 : Ref sig .tc := ⟨.hbm, 408, rfl⟩
abbrev main_v308 : Ref sig .tc := ⟨.hbm, 409, rfl⟩
abbrev main_v309 : Ref sig .tc := ⟨.hbm, 410, rfl⟩
abbrev main_v310 : Ref sig .tc := ⟨.hbm, 411, rfl⟩
abbrev main_v311 : Ref sig .tc := ⟨.hbm, 412, rfl⟩
abbrev main_cst_71 : Ref sig .tc := ⟨.hbm, 413, rfl⟩
abbrev main_v312 : Ref sig .tc := ⟨.hbm, 414, rfl⟩
abbrev main_v313 : Ref sig .tc := ⟨.hbm, 415, rfl⟩
abbrev main_v314 : Ref sig .tc := ⟨.hbm, 416, rfl⟩
abbrev main_v315 : Ref sig .tc := ⟨.hbm, 417, rfl⟩
abbrev main_v316 : Ref sig .tc := ⟨.hbm, 418, rfl⟩
abbrev main_v317 : Ref sig .tc := ⟨.hbm, 419, rfl⟩
abbrev main_c_72 : Ref sig .tc := ⟨.hbm, 420, rfl⟩
abbrev main_v318 : Ref sig .tc := ⟨.hbm, 421, rfl⟩
abbrev main_v319 : Ref sig .tc := ⟨.hbm, 422, rfl⟩
abbrev main_c_73 : Ref sig .tc := ⟨.hbm, 423, rfl⟩
abbrev main_v320 : Ref sig .tc := ⟨.hbm, 424, rfl⟩
abbrev main_v321 : Ref sig .tc := ⟨.hbm, 425, rfl⟩
abbrev main_v322 : Ref sig .tc := ⟨.hbm, 426, rfl⟩
abbrev main_c_74 : Ref sig .tc := ⟨.hbm, 427, rfl⟩
abbrev main_v323 : Ref sig .tc := ⟨.hbm, 428, rfl⟩
abbrev main_v324 : Ref sig .tc := ⟨.hbm, 429, rfl⟩
abbrev main_c_75 : Ref sig .tc := ⟨.hbm, 430, rfl⟩
abbrev main_v325 : Ref sig .tc := ⟨.hbm, 431, rfl⟩
abbrev main_v326 : Ref sig .tc := ⟨.hbm, 432, rfl⟩
abbrev main_v327 : Ref sig .tc := ⟨.hbm, 433, rfl⟩
abbrev main_c_76 : Ref sig .tc := ⟨.hbm, 434, rfl⟩
abbrev main_v328 : Ref sig .tc := ⟨.hbm, 435, rfl⟩
abbrev main_v329 : Ref sig .tc := ⟨.hbm, 436, rfl⟩
abbrev main_c_77 : Ref sig .tc := ⟨.hbm, 437, rfl⟩
abbrev main_v330 : Ref sig .tc := ⟨.hbm, 438, rfl⟩
abbrev main_v331 : Ref sig .tc := ⟨.hbm, 439, rfl⟩
abbrev main_v332 : Ref sig .tc := ⟨.hbm, 440, rfl⟩
abbrev main_v333 : Ref sig .tc := ⟨.hbm, 441, rfl⟩
abbrev main_v334 : Ref sig .tc := ⟨.hbm, 442, rfl⟩
abbrev main_v335 : Ref sig .tc := ⟨.hbm, 443, rfl⟩
abbrev main_v336 : Ref sig .tc := ⟨.hbm, 444, rfl⟩
abbrev main_v337 : Ref sig .tc := ⟨.hbm, 445, rfl⟩
abbrev main_v338 : Ref sig .tc := ⟨.hbm, 446, rfl⟩
abbrev main_v339 : Ref sig .tc := ⟨.hbm, 447, rfl⟩
abbrev main_v340 : Ref sig .tc := ⟨.hbm, 448, rfl⟩
abbrev main_cst_78 : Ref sig .tc := ⟨.hbm, 449, rfl⟩
abbrev main_v341 : Ref sig .tc := ⟨.hbm, 450, rfl⟩
abbrev main_v342 : Ref sig .tc := ⟨.hbm, 451, rfl⟩
abbrev main_v343 : Ref sig .tc := ⟨.hbm, 452, rfl⟩
abbrev main_v344 : Ref sig .tc := ⟨.hbm, 453, rfl⟩
abbrev main_v345 : Ref sig .tc := ⟨.hbm, 454, rfl⟩
abbrev main_v346 : Ref sig .tc := ⟨.hbm, 455, rfl⟩
abbrev main_v347 : Ref sig .tc := ⟨.hbm, 456, rfl⟩
abbrev main_v348 : Ref sig .tc := ⟨.hbm, 457, rfl⟩
abbrev main_v349 : Ref sig .tc := ⟨.hbm, 458, rfl⟩
abbrev main_c_79 : Ref sig .tc := ⟨.hbm, 459, rfl⟩
abbrev main_v350 : Ref sig .tc := ⟨.hbm, 460, rfl⟩
abbrev main_v351 : Ref sig .tc := ⟨.hbm, 461, rfl⟩
abbrev main_c_80 : Ref sig .tc := ⟨.hbm, 462, rfl⟩
abbrev main_v352 : Ref sig .tc := ⟨.hbm, 463, rfl⟩
abbrev main_v353 : Ref sig .tc := ⟨.hbm, 464, rfl⟩
abbrev main_v354 : Ref sig .tc := ⟨.hbm, 465, rfl⟩
abbrev main_c_81 : Ref sig .tc := ⟨.hbm, 466, rfl⟩
abbrev main_v355 : Ref sig .tc := ⟨.hbm, 467, rfl⟩
abbrev main_v356 : Ref sig .tc := ⟨.hbm, 468, rfl⟩
abbrev main_c_82 : Ref sig .tc := ⟨.hbm, 469, rfl⟩
abbrev main_v357 : Ref sig .tc := ⟨.hbm, 470, rfl⟩
abbrev main_v358 : Ref sig .tc := ⟨.hbm, 471, rfl⟩
abbrev main_v359 : Ref sig .tc := ⟨.hbm, 472, rfl⟩
abbrev main_c_83 : Ref sig .tc := ⟨.hbm, 473, rfl⟩
abbrev main_v360 : Ref sig .tc := ⟨.hbm, 474, rfl⟩
abbrev main_v361 : Ref sig .tc := ⟨.hbm, 475, rfl⟩
abbrev main_c_84 : Ref sig .tc := ⟨.hbm, 476, rfl⟩
abbrev main_v362 : Ref sig .tc := ⟨.hbm, 477, rfl⟩
abbrev main_v363 : Ref sig .tc := ⟨.hbm, 478, rfl⟩
abbrev main_v364 : Ref sig .tc := ⟨.hbm, 479, rfl⟩
abbrev main_v365 : Ref sig .tc := ⟨.hbm, 480, rfl⟩
abbrev main_v366 : Ref sig .tc := ⟨.hbm, 481, rfl⟩
abbrev main_v367 : Ref sig .tc := ⟨.hbm, 482, rfl⟩
abbrev main_v368 : Ref sig .tc := ⟨.hbm, 483, rfl⟩
abbrev main_v369 : Ref sig .tc := ⟨.hbm, 484, rfl⟩
abbrev main_v370 : Ref sig .tc := ⟨.hbm, 485, rfl⟩
abbrev main_v371 : Ref sig .tc := ⟨.hbm, 486, rfl⟩
abbrev main_v372 : Ref sig .tc := ⟨.hbm, 487, rfl⟩
abbrev main_v373 : Ref sig .tc := ⟨.hbm, 488, rfl⟩
abbrev main_v374 : Ref sig .tc := ⟨.hbm, 489, rfl⟩
abbrev main_cst_85 : Ref sig .tc := ⟨.hbm, 490, rfl⟩
abbrev main_v375 : Ref sig .tc := ⟨.hbm, 491, rfl⟩
abbrev main_v376 : Ref sig .tc := ⟨.hbm, 492, rfl⟩
abbrev main_v377 : Ref sig .tc := ⟨.hbm, 493, rfl⟩
abbrev main_v378 : Ref sig .tc := ⟨.hbm, 494, rfl⟩
abbrev main_v379 : Ref sig .tc := ⟨.hbm, 495, rfl⟩
abbrev main_v380 : Ref sig .tc := ⟨.hbm, 496, rfl⟩
abbrev main_v381 : Ref sig .tc := ⟨.hbm, 497, rfl⟩
abbrev main_c_86 : Ref sig .tc := ⟨.hbm, 498, rfl⟩
abbrev main_v382 : Ref sig .tc := ⟨.hbm, 499, rfl⟩
abbrev main_v383 : Ref sig .tc := ⟨.hbm, 500, rfl⟩
abbrev main_c_87 : Ref sig .tc := ⟨.hbm, 501, rfl⟩
abbrev main_v384 : Ref sig .tc := ⟨.hbm, 502, rfl⟩
abbrev main_v385 : Ref sig .tc := ⟨.hbm, 503, rfl⟩
abbrev main_v386 : Ref sig .tc := ⟨.hbm, 504, rfl⟩
abbrev main_c_88 : Ref sig .tc := ⟨.hbm, 505, rfl⟩
abbrev main_v387 : Ref sig .tc := ⟨.hbm, 506, rfl⟩
abbrev main_v388 : Ref sig .tc := ⟨.hbm, 507, rfl⟩
abbrev main_c_89 : Ref sig .tc := ⟨.hbm, 508, rfl⟩
abbrev main_v389 : Ref sig .tc := ⟨.hbm, 509, rfl⟩
abbrev main_v390 : Ref sig .tc := ⟨.hbm, 510, rfl⟩
abbrev main_v391 : Ref sig .tc := ⟨.hbm, 511, rfl⟩
abbrev main_c_90 : Ref sig .tc := ⟨.hbm, 512, rfl⟩
abbrev main_v392 : Ref sig .tc := ⟨.hbm, 513, rfl⟩
abbrev main_v393 : Ref sig .tc := ⟨.hbm, 514, rfl⟩
abbrev main_c_91 : Ref sig .tc := ⟨.hbm, 515, rfl⟩
abbrev main_v394 : Ref sig .tc := ⟨.hbm, 516, rfl⟩
abbrev main_v395 : Ref sig .tc := ⟨.hbm, 517, rfl⟩
abbrev main_v396 : Ref sig .tc := ⟨.hbm, 518, rfl⟩
abbrev main_v397 : Ref sig .tc := ⟨.hbm, 519, rfl⟩
abbrev main_v398 : Ref sig .tc := ⟨.hbm, 520, rfl⟩
abbrev main_v399 : Ref sig .tc := ⟨.hbm, 521, rfl⟩
abbrev main_v400 : Ref sig .tc := ⟨.hbm, 522, rfl⟩
abbrev main_v401 : Ref sig .tc := ⟨.hbm, 523, rfl⟩
abbrev main_v402 : Ref sig .tc := ⟨.hbm, 524, rfl⟩
abbrev main_v403 : Ref sig .tc := ⟨.hbm, 525, rfl⟩
abbrev main_v404 : Ref sig .tc := ⟨.hbm, 526, rfl⟩
abbrev main_v405 : Ref sig .tc := ⟨.hbm, 527, rfl⟩
abbrev main_v406 : Ref sig .tc := ⟨.hbm, 528, rfl⟩
abbrev main_v407 : Ref sig .tc := ⟨.hbm, 529, rfl⟩
abbrev main_v408 : Ref sig .tc := ⟨.hbm, 530, rfl⟩
abbrev main_v409 : Ref sig .tc := ⟨.hbm, 531, rfl⟩
abbrev main_v410 : Ref sig .tc := ⟨.hbm, 532, rfl⟩
abbrev main_cst_92 : Ref sig .tc := ⟨.hbm, 533, rfl⟩
abbrev main_v411 : Ref sig .tc := ⟨.hbm, 534, rfl⟩
abbrev main_cst_93 : Ref sig .tc := ⟨.hbm, 535, rfl⟩
abbrev main_v412 : Ref sig .tc := ⟨.hbm, 536, rfl⟩
abbrev main_v413 : Ref sig .tc := ⟨.hbm, 537, rfl⟩
abbrev main_v414 : Ref sig .tc := ⟨.hbm, 538, rfl⟩
abbrev main_v415 : Ref sig .tc := ⟨.hbm, 539, rfl⟩
abbrev main_v416 : Ref sig .tc := ⟨.hbm, 540, rfl⟩
abbrev main_cst_94 : Ref sig .tc := ⟨.hbm, 541, rfl⟩
abbrev main_v417 : Ref sig .tc := ⟨.hbm, 542, rfl⟩
abbrev main_v418 : Ref sig .tc := ⟨.hbm, 543, rfl⟩
abbrev main_v419 : Ref sig .tc := ⟨.hbm, 544, rfl⟩
abbrev main_v420 : Ref sig .tc := ⟨.hbm, 545, rfl⟩
abbrev main_cst_95 : Ref sig .tc := ⟨.hbm, 546, rfl⟩
abbrev main_v421 : Ref sig .tc := ⟨.hbm, 547, rfl⟩
abbrev main_v422 : Ref sig .tc := ⟨.hbm, 548, rfl⟩
abbrev main_v423 : Ref sig .tc := ⟨.hbm, 549, rfl⟩
abbrev main_v424 : Ref sig .tc := ⟨.hbm, 550, rfl⟩
abbrev main_cst_96 : Ref sig .tc := ⟨.hbm, 551, rfl⟩
abbrev main_v425 : Ref sig .tc := ⟨.hbm, 552, rfl⟩
abbrev main_v426 : Ref sig .tc := ⟨.hbm, 553, rfl⟩
abbrev main_v427 : Ref sig .tc := ⟨.hbm, 554, rfl⟩
abbrev main_v428 : Ref sig .tc := ⟨.hbm, 555, rfl⟩
abbrev main_cst_97 : Ref sig .tc := ⟨.hbm, 556, rfl⟩
abbrev main_v429 : Ref sig .tc := ⟨.hbm, 557, rfl⟩
abbrev main_v430 : Ref sig .tc := ⟨.hbm, 558, rfl⟩
abbrev main_v431 : Ref sig .tc := ⟨.hbm, 559, rfl⟩
abbrev main_cst_98 : Ref sig .tc := ⟨.hbm, 560, rfl⟩
abbrev main_v432 : Ref sig .tc := ⟨.hbm, 561, rfl⟩
abbrev main_v433 : Ref sig .tc := ⟨.hbm, 562, rfl⟩
abbrev main_cst_99 : Ref sig .tc := ⟨.hbm, 563, rfl⟩
abbrev main_v434 : Ref sig .tc := ⟨.hbm, 564, rfl⟩
abbrev main_v435 : Ref sig .tc := ⟨.hbm, 565, rfl⟩
abbrev main_v436 : Ref sig .tc := ⟨.hbm, 566, rfl⟩
abbrev main_cst_100 : Ref sig .tc := ⟨.hbm, 567, rfl⟩
abbrev main_v437 : Ref sig .tc := ⟨.hbm, 568, rfl⟩
abbrev main_v438 : Ref sig .tc := ⟨.hbm, 569, rfl⟩
abbrev main_cst_101 : Ref sig .tc := ⟨.hbm, 570, rfl⟩
abbrev main_v439 : Ref sig .tc := ⟨.hbm, 571, rfl⟩
abbrev main_v440 : Ref sig .tc := ⟨.hbm, 572, rfl⟩
abbrev main_v441 : Ref sig .tc := ⟨.hbm, 573, rfl⟩
abbrev main_v442 : Ref sig .tc := ⟨.hbm, 574, rfl⟩
abbrev main_v443 : Ref sig .tc := ⟨.hbm, 575, rfl⟩
abbrev main_v444 : Ref sig .tc := ⟨.hbm, 576, rfl⟩
abbrev main_cst_102 : Ref sig .tc := ⟨.hbm, 577, rfl⟩
abbrev main_v445 : Ref sig .tc := ⟨.hbm, 578, rfl⟩
abbrev main_v446 : Ref sig .tc := ⟨.hbm, 579, rfl⟩
abbrev main_cst_103 : Ref sig .tc := ⟨.hbm, 580, rfl⟩
abbrev main_v447 : Ref sig .tc := ⟨.hbm, 581, rfl⟩
abbrev main_v448 : Ref sig .tc := ⟨.hbm, 582, rfl⟩
abbrev main_v449 : Ref sig .tc := ⟨.hbm, 583, rfl⟩
abbrev main_v450 : Ref sig .tc := ⟨.hbm, 584, rfl⟩
abbrev main_v451 : Ref sig .tc := ⟨.hbm, 585, rfl⟩
abbrev main_v452 : Ref sig .tc := ⟨.hbm, 586, rfl⟩
abbrev main_v453 : Ref sig .tc := ⟨.hbm, 587, rfl⟩
abbrev main_v454 : Ref sig .tc := ⟨.hbm, 588, rfl⟩
abbrev main_v455 : Ref sig .tc := ⟨.hbm, 589, rfl⟩
abbrev main_v456 : Ref sig .tc := ⟨.hbm, 590, rfl⟩
abbrev main_v457 : Ref sig .tc := ⟨.hbm, 591, rfl⟩
abbrev main_v458 : Ref sig .tc := ⟨.hbm, 592, rfl⟩
abbrev main_v459 : Ref sig .tc := ⟨.hbm, 593, rfl⟩
abbrev main_v460 : Ref sig .tc := ⟨.hbm, 594, rfl⟩
abbrev main_cst_104 : Ref sig .tc := ⟨.hbm, 595, rfl⟩
abbrev main_cst_105 : Ref sig .tc := ⟨.hbm, 596, rfl⟩
abbrev main_call4_v0 : Ref sig .tc := ⟨.hbm, 597, rfl⟩
abbrev main_call4_v1 : Ref sig .tc := ⟨.hbm, 598, rfl⟩
abbrev main_call4_v2 : Ref sig .tc := ⟨.hbm, 599, rfl⟩
abbrev main_call4_v3 : Ref sig .tc := ⟨.hbm, 600, rfl⟩
abbrev main_call4_v4 : Ref sig .tc := ⟨.hbm, 601, rfl⟩
abbrev main_v461 : Ref sig .tc := ⟨.hbm, 602, rfl⟩
abbrev main_v462 : Ref sig .tc := ⟨.hbm, 603, rfl⟩
abbrev main_v463 : Ref sig .tc := ⟨.hbm, 604, rfl⟩
abbrev main_v464 : Ref sig .tc := ⟨.hbm, 605, rfl⟩
abbrev main_v465 : Ref sig .tc := ⟨.hbm, 606, rfl⟩
abbrev main_v466 : Ref sig .tc := ⟨.hbm, 607, rfl⟩
abbrev main_v467 : Ref sig .tc := ⟨.hbm, 608, rfl⟩
abbrev main_v468 : Ref sig .tc := ⟨.hbm, 609, rfl⟩
abbrev main_v469 : Ref sig .tc := ⟨.hbm, 610, rfl⟩
abbrev main_cst_106 : Ref sig .tc := ⟨.hbm, 611, rfl⟩
abbrev main_cst_107 : Ref sig .tc := ⟨.hbm, 612, rfl⟩
abbrev main_call5_v0 : Ref sig .tc := ⟨.hbm, 613, rfl⟩
abbrev main_call5_v1 : Ref sig .tc := ⟨.hbm, 614, rfl⟩
abbrev main_call5_v2 : Ref sig .tc := ⟨.hbm, 615, rfl⟩
abbrev main_call5_v3 : Ref sig .tc := ⟨.hbm, 616, rfl⟩
abbrev main_call5_v4 : Ref sig .tc := ⟨.hbm, 617, rfl⟩
abbrev main_v470 : Ref sig .tc := ⟨.hbm, 618, rfl⟩
abbrev main_v471 : Ref sig .tc := ⟨.hbm, 619, rfl⟩
abbrev main_v472 : Ref sig .tc := ⟨.hbm, 620, rfl⟩
abbrev main_v473 : Ref sig .tc := ⟨.hbm, 621, rfl⟩
abbrev main_v474 : Ref sig .tc := ⟨.hbm, 622, rfl⟩
abbrev main_c_108 : Ref sig .tc := ⟨.hbm, 623, rfl⟩
abbrev main_v475 : Ref sig .tc := ⟨.hbm, 624, rfl⟩
abbrev main_v476 : Ref sig .tc := ⟨.hbm, 625, rfl⟩
abbrev main_c_109 : Ref sig .tc := ⟨.hbm, 626, rfl⟩
abbrev main_v477 : Ref sig .tc := ⟨.hbm, 627, rfl⟩
abbrev main_v478 : Ref sig .tc := ⟨.hbm, 628, rfl⟩
abbrev main_c_110 : Ref sig .tc := ⟨.hbm, 629, rfl⟩
abbrev main_v479 : Ref sig .tc := ⟨.hbm, 630, rfl⟩
abbrev main_v480 : Ref sig .tc := ⟨.hbm, 631, rfl⟩
abbrev main_c_111 : Ref sig .tc := ⟨.hbm, 632, rfl⟩
abbrev main_v481 : Ref sig .tc := ⟨.hbm, 633, rfl⟩
abbrev main_v482 : Ref sig .tc := ⟨.hbm, 634, rfl⟩
abbrev main_v483 : Ref sig .tc := ⟨.hbm, 635, rfl⟩
abbrev main_v484 : Ref sig .tc := ⟨.hbm, 636, rfl⟩
abbrev main_v485 : Ref sig .tc := ⟨.hbm, 637, rfl⟩
abbrev main_v486 : Ref sig .tc := ⟨.hbm, 638, rfl⟩
abbrev main_v487 : Ref sig .tc := ⟨.hbm, 639, rfl⟩
abbrev main_v488 : Ref sig .tc := ⟨.hbm, 640, rfl⟩
abbrev main_v489 : Ref sig .tc := ⟨.hbm, 641, rfl⟩
abbrev main_v490 : Ref sig .tc := ⟨.hbm, 642, rfl⟩
abbrev main_v491 : Ref sig .tc := ⟨.hbm, 643, rfl⟩
abbrev main_c_112 : Ref sig .tc := ⟨.hbm, 644, rfl⟩
abbrev main_v492 : Ref sig .tc := ⟨.hbm, 645, rfl⟩
abbrev main_v493 : Ref sig .tc := ⟨.hbm, 646, rfl⟩
abbrev main_c_113 : Ref sig .tc := ⟨.hbm, 647, rfl⟩
abbrev main_v494 : Ref sig .tc := ⟨.hbm, 648, rfl⟩
abbrev main_v495 : Ref sig .tc := ⟨.hbm, 649, rfl⟩
abbrev main_v496 : Ref sig .tc := ⟨.hbm, 650, rfl⟩
abbrev main_c_114 : Ref sig .tc := ⟨.hbm, 651, rfl⟩
abbrev main_v497 : Ref sig .tc := ⟨.hbm, 652, rfl⟩
abbrev main_v498 : Ref sig .tc := ⟨.hbm, 653, rfl⟩
abbrev main_c_115 : Ref sig .tc := ⟨.hbm, 654, rfl⟩
abbrev main_v499 : Ref sig .tc := ⟨.hbm, 655, rfl⟩
abbrev main_v500 : Ref sig .tc := ⟨.hbm, 656, rfl⟩
abbrev main_v501 : Ref sig .tc := ⟨.hbm, 657, rfl⟩
abbrev main_c_116 : Ref sig .tc := ⟨.hbm, 658, rfl⟩
abbrev main_v502 : Ref sig .tc := ⟨.hbm, 659, rfl⟩
abbrev main_v503 : Ref sig .tc := ⟨.hbm, 660, rfl⟩
abbrev main_c_117 : Ref sig .tc := ⟨.hbm, 661, rfl⟩
abbrev main_v504 : Ref sig .tc := ⟨.hbm, 662, rfl⟩
abbrev main_v505 : Ref sig .tc := ⟨.hbm, 663, rfl⟩
abbrev main_v506 : Ref sig .tc := ⟨.hbm, 664, rfl⟩
abbrev main_v507 : Ref sig .tc := ⟨.hbm, 665, rfl⟩
abbrev main_v508 : Ref sig .tc := ⟨.hbm, 666, rfl⟩
abbrev main_v509 : Ref sig .tc := ⟨.hbm, 667, rfl⟩
abbrev main_v510 : Ref sig .tc := ⟨.hbm, 668, rfl⟩
abbrev main_v511 : Ref sig .tc := ⟨.hbm, 669, rfl⟩
abbrev main_v512 : Ref sig .tc := ⟨.hbm, 670, rfl⟩
abbrev main_v513 : Ref sig .tc := ⟨.hbm, 671, rfl⟩
abbrev main_v514 : Ref sig .tc := ⟨.hbm, 672, rfl⟩
abbrev main_cst_118 : Ref sig .tc := ⟨.hbm, 673, rfl⟩
abbrev main_v515 : Ref sig .tc := ⟨.hbm, 674, rfl⟩
abbrev main_v516 : Ref sig .tc := ⟨.hbm, 675, rfl⟩
abbrev main_v517 : Ref sig .tc := ⟨.hbm, 676, rfl⟩
abbrev main_v518 : Ref sig .tc := ⟨.hbm, 677, rfl⟩
abbrev main_cst_119 : Ref sig .tc := ⟨.hbm, 678, rfl⟩
abbrev main_v519 : Ref sig .tc := ⟨.hbm, 679, rfl⟩
abbrev main_v520 : Ref sig .tc := ⟨.hbm, 680, rfl⟩
abbrev main_v521 : Ref sig .tc := ⟨.hbm, 681, rfl⟩
abbrev main_v522 : Ref sig .tc := ⟨.hbm, 682, rfl⟩
abbrev main_v523 : Ref sig .tc := ⟨.hbm, 683, rfl⟩
abbrev main_v524 : Ref sig .tc := ⟨.hbm, 684, rfl⟩
abbrev main_c_120 : Ref sig .tc := ⟨.hbm, 685, rfl⟩
abbrev main_v525 : Ref sig .tc := ⟨.hbm, 686, rfl⟩
abbrev main_v526 : Ref sig .tc := ⟨.hbm, 687, rfl⟩
abbrev main_c_121 : Ref sig .tc := ⟨.hbm, 688, rfl⟩
abbrev main_v527 : Ref sig .tc := ⟨.hbm, 689, rfl⟩
abbrev main_v528 : Ref sig .tc := ⟨.hbm, 690, rfl⟩
abbrev main_v529 : Ref sig .tc := ⟨.hbm, 691, rfl⟩
abbrev main_c_122 : Ref sig .tc := ⟨.hbm, 692, rfl⟩
abbrev main_v530 : Ref sig .tc := ⟨.hbm, 693, rfl⟩
abbrev main_v531 : Ref sig .tc := ⟨.hbm, 694, rfl⟩
abbrev main_c_123 : Ref sig .tc := ⟨.hbm, 695, rfl⟩
abbrev main_v532 : Ref sig .tc := ⟨.hbm, 696, rfl⟩
abbrev main_v533 : Ref sig .tc := ⟨.hbm, 697, rfl⟩
abbrev main_v534 : Ref sig .tc := ⟨.hbm, 698, rfl⟩
abbrev main_c_124 : Ref sig .tc := ⟨.hbm, 699, rfl⟩
abbrev main_v535 : Ref sig .tc := ⟨.hbm, 700, rfl⟩
abbrev main_v536 : Ref sig .tc := ⟨.hbm, 701, rfl⟩
abbrev main_c_125 : Ref sig .tc := ⟨.hbm, 702, rfl⟩
abbrev main_v537 : Ref sig .tc := ⟨.hbm, 703, rfl⟩
abbrev main_v538 : Ref sig .tc := ⟨.hbm, 704, rfl⟩
abbrev main_v539 : Ref sig .tc := ⟨.hbm, 705, rfl⟩
abbrev main_v540 : Ref sig .tc := ⟨.hbm, 706, rfl⟩
abbrev main_v541 : Ref sig .tc := ⟨.hbm, 707, rfl⟩
abbrev main_v542 : Ref sig .tc := ⟨.hbm, 708, rfl⟩
abbrev main_v543 : Ref sig .tc := ⟨.hbm, 709, rfl⟩
abbrev main_v544 : Ref sig .tc := ⟨.hbm, 710, rfl⟩
abbrev main_v545 : Ref sig .tc := ⟨.hbm, 711, rfl⟩
abbrev main_v546 : Ref sig .tc := ⟨.hbm, 712, rfl⟩
abbrev main_v547 : Ref sig .tc := ⟨.hbm, 713, rfl⟩
abbrev main_cst_126 : Ref sig .tc := ⟨.hbm, 714, rfl⟩
abbrev main_v548 : Ref sig .tc := ⟨.hbm, 715, rfl⟩
abbrev main_v549 : Ref sig .tc := ⟨.hbm, 716, rfl⟩
abbrev main_v550 : Ref sig .tc := ⟨.hbm, 717, rfl⟩
abbrev main_v551 : Ref sig .tc := ⟨.hbm, 718, rfl⟩
abbrev main_v552 : Ref sig .tc := ⟨.hbm, 719, rfl⟩
abbrev main_v553 : Ref sig .tc := ⟨.hbm, 720, rfl⟩
abbrev main_v554 : Ref sig .tc := ⟨.hbm, 721, rfl⟩
abbrev main_v555 : Ref sig .tc := ⟨.hbm, 722, rfl⟩
abbrev main_v556 : Ref sig .tc := ⟨.hbm, 723, rfl⟩
abbrev main_c_127 : Ref sig .tc := ⟨.hbm, 724, rfl⟩
abbrev main_v557 : Ref sig .tc := ⟨.hbm, 725, rfl⟩
abbrev main_v558 : Ref sig .tc := ⟨.hbm, 726, rfl⟩
abbrev main_c_128 : Ref sig .tc := ⟨.hbm, 727, rfl⟩
abbrev main_v559 : Ref sig .tc := ⟨.hbm, 728, rfl⟩
abbrev main_v560 : Ref sig .tc := ⟨.hbm, 729, rfl⟩
abbrev main_v561 : Ref sig .tc := ⟨.hbm, 730, rfl⟩
abbrev main_c_129 : Ref sig .tc := ⟨.hbm, 731, rfl⟩
abbrev main_v562 : Ref sig .tc := ⟨.hbm, 732, rfl⟩
abbrev main_v563 : Ref sig .tc := ⟨.hbm, 733, rfl⟩
abbrev main_c_130 : Ref sig .tc := ⟨.hbm, 734, rfl⟩
abbrev main_v564 : Ref sig .tc := ⟨.hbm, 735, rfl⟩
abbrev main_v565 : Ref sig .tc := ⟨.hbm, 736, rfl⟩
abbrev main_v566 : Ref sig .tc := ⟨.hbm, 737, rfl⟩
abbrev main_c_131 : Ref sig .tc := ⟨.hbm, 738, rfl⟩
abbrev main_v567 : Ref sig .tc := ⟨.hbm, 739, rfl⟩
abbrev main_v568 : Ref sig .tc := ⟨.hbm, 740, rfl⟩
abbrev main_c_132 : Ref sig .tc := ⟨.hbm, 741, rfl⟩
abbrev main_v569 : Ref sig .tc := ⟨.hbm, 742, rfl⟩
abbrev main_v570 : Ref sig .tc := ⟨.hbm, 743, rfl⟩
abbrev main_v571 : Ref sig .tc := ⟨.hbm, 744, rfl⟩
abbrev main_v572 : Ref sig .tc := ⟨.hbm, 745, rfl⟩
abbrev main_v573 : Ref sig .tc := ⟨.hbm, 746, rfl⟩
abbrev main_v574 : Ref sig .tc := ⟨.hbm, 747, rfl⟩
abbrev main_v575 : Ref sig .tc := ⟨.hbm, 748, rfl⟩
abbrev main_v576 : Ref sig .tc := ⟨.hbm, 749, rfl⟩
abbrev main_v577 : Ref sig .tc := ⟨.hbm, 750, rfl⟩
abbrev main_v578 : Ref sig .tc := ⟨.hbm, 751, rfl⟩
abbrev main_v579 : Ref sig .tc := ⟨.hbm, 752, rfl⟩
abbrev main_v580 : Ref sig .tc := ⟨.hbm, 753, rfl⟩
abbrev main_v581 : Ref sig .tc := ⟨.hbm, 754, rfl⟩
abbrev main_cst_133 : Ref sig .tc := ⟨.hbm, 755, rfl⟩
abbrev main_v582 : Ref sig .tc := ⟨.hbm, 756, rfl⟩
abbrev main_v583 : Ref sig .tc := ⟨.hbm, 757, rfl⟩
abbrev main_v584 : Ref sig .tc := ⟨.hbm, 758, rfl⟩
abbrev main_v585 : Ref sig .tc := ⟨.hbm, 759, rfl⟩
abbrev main_v586 : Ref sig .tc := ⟨.hbm, 760, rfl⟩
abbrev main_v587 : Ref sig .tc := ⟨.hbm, 761, rfl⟩
abbrev main_v588 : Ref sig .tc := ⟨.hbm, 762, rfl⟩
abbrev main_c_134 : Ref sig .tc := ⟨.hbm, 763, rfl⟩
abbrev main_v589 : Ref sig .tc := ⟨.hbm, 764, rfl⟩
abbrev main_v590 : Ref sig .tc := ⟨.hbm, 765, rfl⟩
abbrev main_c_135 : Ref sig .tc := ⟨.hbm, 766, rfl⟩
abbrev main_v591 : Ref sig .tc := ⟨.hbm, 767, rfl⟩
abbrev main_v592 : Ref sig .tc := ⟨.hbm, 768, rfl⟩
abbrev main_v593 : Ref sig .tc := ⟨.hbm, 769, rfl⟩
abbrev main_c_136 : Ref sig .tc := ⟨.hbm, 770, rfl⟩
abbrev main_v594 : Ref sig .tc := ⟨.hbm, 771, rfl⟩
abbrev main_v595 : Ref sig .tc := ⟨.hbm, 772, rfl⟩
abbrev main_c_137 : Ref sig .tc := ⟨.hbm, 773, rfl⟩
abbrev main_v596 : Ref sig .tc := ⟨.hbm, 774, rfl⟩
abbrev main_v597 : Ref sig .tc := ⟨.hbm, 775, rfl⟩
abbrev main_v598 : Ref sig .tc := ⟨.hbm, 776, rfl⟩
abbrev main_c_138 : Ref sig .tc := ⟨.hbm, 777, rfl⟩
abbrev main_v599 : Ref sig .tc := ⟨.hbm, 778, rfl⟩
abbrev main_v600 : Ref sig .tc := ⟨.hbm, 779, rfl⟩
abbrev main_c_139 : Ref sig .tc := ⟨.hbm, 780, rfl⟩
abbrev main_v601 : Ref sig .tc := ⟨.hbm, 781, rfl⟩
abbrev main_v602 : Ref sig .tc := ⟨.hbm, 782, rfl⟩
abbrev main_v603 : Ref sig .tc := ⟨.hbm, 783, rfl⟩
abbrev main_v604 : Ref sig .tc := ⟨.hbm, 784, rfl⟩
abbrev main_v605 : Ref sig .tc := ⟨.hbm, 785, rfl⟩
abbrev main_v606 : Ref sig .tc := ⟨.hbm, 786, rfl⟩
abbrev main_v607 : Ref sig .tc := ⟨.hbm, 787, rfl⟩
abbrev main_v608 : Ref sig .tc := ⟨.hbm, 788, rfl⟩
abbrev main_v609 : Ref sig .tc := ⟨.hbm, 789, rfl⟩
abbrev main_v610 : Ref sig .tc := ⟨.hbm, 790, rfl⟩
abbrev main_v611 : Ref sig .tc := ⟨.hbm, 791, rfl⟩
abbrev main_v612 : Ref sig .tc := ⟨.hbm, 792, rfl⟩
abbrev main_v613 : Ref sig .tc := ⟨.hbm, 793, rfl⟩
abbrev main_v614 : Ref sig .tc := ⟨.hbm, 794, rfl⟩
abbrev main_v615 : Ref sig .tc := ⟨.hbm, 795, rfl⟩
abbrev main_v616 : Ref sig .tc := ⟨.hbm, 796, rfl⟩
abbrev main_v617 : Ref sig .tc := ⟨.hbm, 797, rfl⟩
abbrev main_cst_140 : Ref sig .tc := ⟨.hbm, 798, rfl⟩
abbrev main_v618 : Ref sig .tc := ⟨.hbm, 799, rfl⟩
abbrev main_cst_141 : Ref sig .tc := ⟨.hbm, 800, rfl⟩
abbrev main_v619 : Ref sig .tc := ⟨.hbm, 801, rfl⟩
abbrev main_v620 : Ref sig .tc := ⟨.hbm, 802, rfl⟩
abbrev main_v621 : Ref sig .tc := ⟨.hbm, 803, rfl⟩
abbrev main_v622 : Ref sig .tc := ⟨.hbm, 804, rfl⟩
abbrev main_v623 : Ref sig .tc := ⟨.hbm, 805, rfl⟩
abbrev main_cst_142 : Ref sig .tc := ⟨.hbm, 806, rfl⟩
abbrev main_v624 : Ref sig .tc := ⟨.hbm, 807, rfl⟩
abbrev main_v625 : Ref sig .tc := ⟨.hbm, 808, rfl⟩
abbrev main_v626 : Ref sig .tc := ⟨.hbm, 809, rfl⟩
abbrev main_v627 : Ref sig .tc := ⟨.hbm, 810, rfl⟩
abbrev main_cst_143 : Ref sig .tc := ⟨.hbm, 811, rfl⟩
abbrev main_v628 : Ref sig .tc := ⟨.hbm, 812, rfl⟩
abbrev main_v629 : Ref sig .tc := ⟨.hbm, 813, rfl⟩
abbrev main_v630 : Ref sig .tc := ⟨.hbm, 814, rfl⟩
abbrev main_v631 : Ref sig .tc := ⟨.hbm, 815, rfl⟩
abbrev main_cst_144 : Ref sig .tc := ⟨.hbm, 816, rfl⟩
abbrev main_v632 : Ref sig .tc := ⟨.hbm, 817, rfl⟩
abbrev main_v633 : Ref sig .tc := ⟨.hbm, 818, rfl⟩
abbrev main_v634 : Ref sig .tc := ⟨.hbm, 819, rfl⟩
abbrev main_v635 : Ref sig .tc := ⟨.hbm, 820, rfl⟩
abbrev main_cst_145 : Ref sig .tc := ⟨.hbm, 821, rfl⟩
abbrev main_v636 : Ref sig .tc := ⟨.hbm, 822, rfl⟩
abbrev main_v637 : Ref sig .tc := ⟨.hbm, 823, rfl⟩
abbrev main_v638 : Ref sig .tc := ⟨.hbm, 824, rfl⟩
abbrev main_cst_146 : Ref sig .tc := ⟨.hbm, 825, rfl⟩
abbrev main_v639 : Ref sig .tc := ⟨.hbm, 826, rfl⟩
abbrev main_v640 : Ref sig .tc := ⟨.hbm, 827, rfl⟩
abbrev main_cst_147 : Ref sig .tc := ⟨.hbm, 828, rfl⟩
abbrev main_v641 : Ref sig .tc := ⟨.hbm, 829, rfl⟩
abbrev main_v642 : Ref sig .tc := ⟨.hbm, 830, rfl⟩
abbrev main_v643 : Ref sig .tc := ⟨.hbm, 831, rfl⟩
abbrev main_cst_148 : Ref sig .tc := ⟨.hbm, 832, rfl⟩
abbrev main_v644 : Ref sig .tc := ⟨.hbm, 833, rfl⟩
abbrev main_v645 : Ref sig .tc := ⟨.hbm, 834, rfl⟩
abbrev main_cst_149 : Ref sig .tc := ⟨.hbm, 835, rfl⟩
abbrev main_v646 : Ref sig .tc := ⟨.hbm, 836, rfl⟩
abbrev main_v647 : Ref sig .tc := ⟨.hbm, 837, rfl⟩
abbrev main_v648 : Ref sig .tc := ⟨.hbm, 838, rfl⟩
abbrev main_v649 : Ref sig .tc := ⟨.hbm, 839, rfl⟩
abbrev main_v650 : Ref sig .tc := ⟨.hbm, 840, rfl⟩
abbrev main_v651 : Ref sig .tc := ⟨.hbm, 841, rfl⟩
abbrev main_cst_150 : Ref sig .tc := ⟨.hbm, 842, rfl⟩
abbrev main_v652 : Ref sig .tc := ⟨.hbm, 843, rfl⟩
abbrev main_v653 : Ref sig .tc := ⟨.hbm, 844, rfl⟩
abbrev main_cst_151 : Ref sig .tc := ⟨.hbm, 845, rfl⟩
abbrev main_v654 : Ref sig .tc := ⟨.hbm, 846, rfl⟩
abbrev main_v655 : Ref sig .tc := ⟨.hbm, 847, rfl⟩
abbrev main_v656 : Ref sig .tc := ⟨.hbm, 848, rfl⟩
abbrev main_v657 : Ref sig .tc := ⟨.hbm, 849, rfl⟩
abbrev main_v658 : Ref sig .tc := ⟨.hbm, 850, rfl⟩
abbrev main_v659 : Ref sig .tc := ⟨.hbm, 851, rfl⟩
abbrev main_v660 : Ref sig .tc := ⟨.hbm, 852, rfl⟩
abbrev main_v661 : Ref sig .tc := ⟨.hbm, 853, rfl⟩
abbrev main_v662 : Ref sig .tc := ⟨.hbm, 854, rfl⟩
abbrev main_v663 : Ref sig .tc := ⟨.hbm, 855, rfl⟩
abbrev main_v664 : Ref sig .tc := ⟨.hbm, 856, rfl⟩
abbrev main_v665 : Ref sig .tc := ⟨.hbm, 857, rfl⟩
abbrev main_v666 : Ref sig .tc := ⟨.hbm, 858, rfl⟩
abbrev main_v667 : Ref sig .tc := ⟨.hbm, 859, rfl⟩
abbrev main_cst_152 : Ref sig .tc := ⟨.hbm, 860, rfl⟩
abbrev main_cst_153 : Ref sig .tc := ⟨.hbm, 861, rfl⟩
abbrev main_call6_v0 : Ref sig .tc := ⟨.hbm, 862, rfl⟩
abbrev main_call6_v1 : Ref sig .tc := ⟨.hbm, 863, rfl⟩
abbrev main_call6_v2 : Ref sig .tc := ⟨.hbm, 864, rfl⟩
abbrev main_call6_v3 : Ref sig .tc := ⟨.hbm, 865, rfl⟩
abbrev main_call6_v4 : Ref sig .tc := ⟨.hbm, 866, rfl⟩
abbrev main_v668 : Ref sig .tc := ⟨.hbm, 867, rfl⟩
abbrev main_v669 : Ref sig .tc := ⟨.hbm, 868, rfl⟩
abbrev main_v670 : Ref sig .tc := ⟨.hbm, 869, rfl⟩
abbrev main_v671 : Ref sig .tc := ⟨.hbm, 870, rfl⟩
abbrev main_v672 : Ref sig .tc := ⟨.hbm, 871, rfl⟩
abbrev main_v673 : Ref sig .tc := ⟨.hbm, 872, rfl⟩
abbrev main_v674 : Ref sig .tc := ⟨.hbm, 873, rfl⟩
abbrev main_v675 : Ref sig .tc := ⟨.hbm, 874, rfl⟩
abbrev main_v676 : Ref sig .tc := ⟨.hbm, 875, rfl⟩
abbrev main_cst_154 : Ref sig .tc := ⟨.hbm, 876, rfl⟩
abbrev main_cst_155 : Ref sig .tc := ⟨.hbm, 877, rfl⟩
abbrev main_call7_v0 : Ref sig .tc := ⟨.hbm, 878, rfl⟩
abbrev main_call7_v1 : Ref sig .tc := ⟨.hbm, 879, rfl⟩
abbrev main_call7_v2 : Ref sig .tc := ⟨.hbm, 880, rfl⟩
abbrev main_call7_v3 : Ref sig .tc := ⟨.hbm, 881, rfl⟩
abbrev main_call7_v4 : Ref sig .tc := ⟨.hbm, 882, rfl⟩
abbrev main_v677 : Ref sig .tc := ⟨.hbm, 883, rfl⟩
abbrev main_v678 : Ref sig .tc := ⟨.hbm, 884, rfl⟩
abbrev main_v679 : Ref sig .tc := ⟨.hbm, 885, rfl⟩
abbrev main_v680 : Ref sig .tc := ⟨.hbm, 886, rfl⟩
abbrev main_v681 : Ref sig .tc := ⟨.hbm, 887, rfl⟩
abbrev main_c_156 : Ref sig .tc := ⟨.hbm, 888, rfl⟩
abbrev main_v682 : Ref sig .tc := ⟨.hbm, 889, rfl⟩
abbrev main_v683 : Ref sig .tc := ⟨.hbm, 890, rfl⟩
abbrev main_c_157 : Ref sig .tc := ⟨.hbm, 891, rfl⟩
abbrev main_v684 : Ref sig .tc := ⟨.hbm, 892, rfl⟩
abbrev main_v685 : Ref sig .tc := ⟨.hbm, 893, rfl⟩
abbrev main_c_158 : Ref sig .tc := ⟨.hbm, 894, rfl⟩
abbrev main_v686 : Ref sig .tc := ⟨.hbm, 895, rfl⟩
abbrev main_v687 : Ref sig .tc := ⟨.hbm, 896, rfl⟩
abbrev main_c_159 : Ref sig .tc := ⟨.hbm, 897, rfl⟩
abbrev main_v688 : Ref sig .tc := ⟨.hbm, 898, rfl⟩
abbrev main_v689 : Ref sig .tc := ⟨.hbm, 899, rfl⟩
abbrev main_v690 : Ref sig .tc := ⟨.hbm, 900, rfl⟩
abbrev main_v691 : Ref sig .tc := ⟨.hbm, 901, rfl⟩
abbrev main_v692 : Ref sig .tc := ⟨.hbm, 902, rfl⟩
abbrev main_v693 : Ref sig .tc := ⟨.hbm, 903, rfl⟩
abbrev main_v694 : Ref sig .tc := ⟨.hbm, 904, rfl⟩
abbrev main_v695 : Ref sig .tc := ⟨.hbm, 905, rfl⟩
abbrev main_v696 : Ref sig .tc := ⟨.hbm, 906, rfl⟩
abbrev main_v697 : Ref sig .tc := ⟨.hbm, 907, rfl⟩
abbrev main_v698 : Ref sig .tc := ⟨.hbm, 908, rfl⟩
abbrev main_c_160 : Ref sig .tc := ⟨.hbm, 909, rfl⟩
abbrev main_v699 : Ref sig .tc := ⟨.hbm, 910, rfl⟩
abbrev main_v700 : Ref sig .tc := ⟨.hbm, 911, rfl⟩
abbrev main_c_161 : Ref sig .tc := ⟨.hbm, 912, rfl⟩
abbrev main_v701 : Ref sig .tc := ⟨.hbm, 913, rfl⟩
abbrev main_v702 : Ref sig .tc := ⟨.hbm, 914, rfl⟩
abbrev main_v703 : Ref sig .tc := ⟨.hbm, 915, rfl⟩
abbrev main_c_162 : Ref sig .tc := ⟨.hbm, 916, rfl⟩
abbrev main_v704 : Ref sig .tc := ⟨.hbm, 917, rfl⟩
abbrev main_v705 : Ref sig .tc := ⟨.hbm, 918, rfl⟩
abbrev main_c_163 : Ref sig .tc := ⟨.hbm, 919, rfl⟩
abbrev main_v706 : Ref sig .tc := ⟨.hbm, 920, rfl⟩
abbrev main_v707 : Ref sig .tc := ⟨.hbm, 921, rfl⟩
abbrev main_v708 : Ref sig .tc := ⟨.hbm, 922, rfl⟩
abbrev main_c_164 : Ref sig .tc := ⟨.hbm, 923, rfl⟩
abbrev main_v709 : Ref sig .tc := ⟨.hbm, 924, rfl⟩
abbrev main_v710 : Ref sig .tc := ⟨.hbm, 925, rfl⟩
abbrev main_c_165 : Ref sig .tc := ⟨.hbm, 926, rfl⟩
abbrev main_v711 : Ref sig .tc := ⟨.hbm, 927, rfl⟩
abbrev main_v712 : Ref sig .tc := ⟨.hbm, 928, rfl⟩
abbrev main_v713 : Ref sig .tc := ⟨.hbm, 929, rfl⟩
abbrev main_v714 : Ref sig .tc := ⟨.hbm, 930, rfl⟩
abbrev main_v715 : Ref sig .tc := ⟨.hbm, 931, rfl⟩
abbrev main_v716 : Ref sig .tc := ⟨.hbm, 932, rfl⟩
abbrev main_v717 : Ref sig .tc := ⟨.hbm, 933, rfl⟩
abbrev main_v718 : Ref sig .tc := ⟨.hbm, 934, rfl⟩
abbrev main_v719 : Ref sig .tc := ⟨.hbm, 935, rfl⟩
abbrev main_v720 : Ref sig .tc := ⟨.hbm, 936, rfl⟩
abbrev main_v721 : Ref sig .tc := ⟨.hbm, 937, rfl⟩
abbrev main_cst_166 : Ref sig .tc := ⟨.hbm, 938, rfl⟩
abbrev main_v722 : Ref sig .tc := ⟨.hbm, 939, rfl⟩
abbrev main_v723 : Ref sig .tc := ⟨.hbm, 940, rfl⟩
abbrev main_v724 : Ref sig .tc := ⟨.hbm, 941, rfl⟩
abbrev main_v725 : Ref sig .tc := ⟨.hbm, 942, rfl⟩
abbrev main_cst_167 : Ref sig .tc := ⟨.hbm, 943, rfl⟩
abbrev main_v726 : Ref sig .tc := ⟨.hbm, 944, rfl⟩
abbrev main_v727 : Ref sig .tc := ⟨.hbm, 945, rfl⟩
abbrev main_v728 : Ref sig .tc := ⟨.hbm, 946, rfl⟩
abbrev main_v729 : Ref sig .tc := ⟨.hbm, 947, rfl⟩
abbrev main_v730 : Ref sig .tc := ⟨.hbm, 948, rfl⟩
abbrev main_v731 : Ref sig .tc := ⟨.hbm, 949, rfl⟩
abbrev main_c_168 : Ref sig .tc := ⟨.hbm, 950, rfl⟩
abbrev main_v732 : Ref sig .tc := ⟨.hbm, 951, rfl⟩
abbrev main_v733 : Ref sig .tc := ⟨.hbm, 952, rfl⟩
abbrev main_c_169 : Ref sig .tc := ⟨.hbm, 953, rfl⟩
abbrev main_v734 : Ref sig .tc := ⟨.hbm, 954, rfl⟩
abbrev main_v735 : Ref sig .tc := ⟨.hbm, 955, rfl⟩
abbrev main_v736 : Ref sig .tc := ⟨.hbm, 956, rfl⟩
abbrev main_c_170 : Ref sig .tc := ⟨.hbm, 957, rfl⟩
abbrev main_v737 : Ref sig .tc := ⟨.hbm, 958, rfl⟩
abbrev main_v738 : Ref sig .tc := ⟨.hbm, 959, rfl⟩
abbrev main_c_171 : Ref sig .tc := ⟨.hbm, 960, rfl⟩
abbrev main_v739 : Ref sig .tc := ⟨.hbm, 961, rfl⟩
abbrev main_v740 : Ref sig .tc := ⟨.hbm, 962, rfl⟩
abbrev main_v741 : Ref sig .tc := ⟨.hbm, 963, rfl⟩
abbrev main_c_172 : Ref sig .tc := ⟨.hbm, 964, rfl⟩
abbrev main_v742 : Ref sig .tc := ⟨.hbm, 965, rfl⟩
abbrev main_v743 : Ref sig .tc := ⟨.hbm, 966, rfl⟩
abbrev main_c_173 : Ref sig .tc := ⟨.hbm, 967, rfl⟩
abbrev main_v744 : Ref sig .tc := ⟨.hbm, 968, rfl⟩
abbrev main_v745 : Ref sig .tc := ⟨.hbm, 969, rfl⟩
abbrev main_v746 : Ref sig .tc := ⟨.hbm, 970, rfl⟩
abbrev main_v747 : Ref sig .tc := ⟨.hbm, 971, rfl⟩
abbrev main_v748 : Ref sig .tc := ⟨.hbm, 972, rfl⟩
abbrev main_v749 : Ref sig .tc := ⟨.hbm, 973, rfl⟩
abbrev main_v750 : Ref sig .tc := ⟨.hbm, 974, rfl⟩
abbrev main_v751 : Ref sig .tc := ⟨.hbm, 975, rfl⟩
abbrev main_v752 : Ref sig .tc := ⟨.hbm, 976, rfl⟩
abbrev main_v753 : Ref sig .tc := ⟨.hbm, 977, rfl⟩
abbrev main_v754 : Ref sig .tc := ⟨.hbm, 978, rfl⟩
abbrev main_cst_174 : Ref sig .tc := ⟨.hbm, 979, rfl⟩
abbrev main_v755 : Ref sig .tc := ⟨.hbm, 980, rfl⟩
abbrev main_v756 : Ref sig .tc := ⟨.hbm, 981, rfl⟩
abbrev main_v757 : Ref sig .tc := ⟨.hbm, 982, rfl⟩
abbrev main_v758 : Ref sig .tc := ⟨.hbm, 983, rfl⟩
abbrev main_v759 : Ref sig .tc := ⟨.hbm, 984, rfl⟩
abbrev main_v760 : Ref sig .tc := ⟨.hbm, 985, rfl⟩
abbrev main_v761 : Ref sig .tc := ⟨.hbm, 986, rfl⟩
abbrev main_v762 : Ref sig .tc := ⟨.hbm, 987, rfl⟩
abbrev main_v763 : Ref sig .tc := ⟨.hbm, 988, rfl⟩
abbrev main_c_175 : Ref sig .tc := ⟨.hbm, 989, rfl⟩
abbrev main_v764 : Ref sig .tc := ⟨.hbm, 990, rfl⟩
abbrev main_v765 : Ref sig .tc := ⟨.hbm, 991, rfl⟩
abbrev main_c_176 : Ref sig .tc := ⟨.hbm, 992, rfl⟩
abbrev main_v766 : Ref sig .tc := ⟨.hbm, 993, rfl⟩
abbrev main_v767 : Ref sig .tc := ⟨.hbm, 994, rfl⟩
abbrev main_v768 : Ref sig .tc := ⟨.hbm, 995, rfl⟩
abbrev main_c_177 : Ref sig .tc := ⟨.hbm, 996, rfl⟩
abbrev main_v769 : Ref sig .tc := ⟨.hbm, 997, rfl⟩
abbrev main_v770 : Ref sig .tc := ⟨.hbm, 998, rfl⟩
abbrev main_c_178 : Ref sig .tc := ⟨.hbm, 999, rfl⟩
abbrev main_v771 : Ref sig .tc := ⟨.hbm, 1000, rfl⟩
abbrev main_v772 : Ref sig .tc := ⟨.hbm, 1001, rfl⟩
abbrev main_v773 : Ref sig .tc := ⟨.hbm, 1002, rfl⟩
abbrev main_c_179 : Ref sig .tc := ⟨.hbm, 1003, rfl⟩
abbrev main_v774 : Ref sig .tc := ⟨.hbm, 1004, rfl⟩
abbrev main_v775 : Ref sig .tc := ⟨.hbm, 1005, rfl⟩
abbrev main_c_180 : Ref sig .tc := ⟨.hbm, 1006, rfl⟩
abbrev main_v776 : Ref sig .tc := ⟨.hbm, 1007, rfl⟩
abbrev main_v777 : Ref sig .tc := ⟨.hbm, 1008, rfl⟩
abbrev main_v778 : Ref sig .tc := ⟨.hbm, 1009, rfl⟩
abbrev main_v779 : Ref sig .tc := ⟨.hbm, 1010, rfl⟩
abbrev main_v780 : Ref sig .tc := ⟨.hbm, 1011, rfl⟩
abbrev main_v781 : Ref sig .tc := ⟨.hbm, 1012, rfl⟩
abbrev main_v782 : Ref sig .tc := ⟨.hbm, 1013, rfl⟩
abbrev main_v783 : Ref sig .tc := ⟨.hbm, 1014, rfl⟩
abbrev main_v784 : Ref sig .tc := ⟨.hbm, 1015, rfl⟩
abbrev main_v785 : Ref sig .tc := ⟨.hbm, 1016, rfl⟩
abbrev main_v786 : Ref sig .tc := ⟨.hbm, 1017, rfl⟩
abbrev main_v787 : Ref sig .tc := ⟨.hbm, 1018, rfl⟩
abbrev main_v788 : Ref sig .tc := ⟨.hbm, 1019, rfl⟩
abbrev main_cst_181 : Ref sig .tc := ⟨.hbm, 1020, rfl⟩
abbrev main_v789 : Ref sig .tc := ⟨.hbm, 1021, rfl⟩
abbrev main_v790 : Ref sig .tc := ⟨.hbm, 1022, rfl⟩
abbrev main_v791 : Ref sig .tc := ⟨.hbm, 1023, rfl⟩
abbrev main_v792 : Ref sig .tc := ⟨.hbm, 1024, rfl⟩
abbrev main_v793 : Ref sig .tc := ⟨.hbm, 1025, rfl⟩
abbrev main_v794 : Ref sig .tc := ⟨.hbm, 1026, rfl⟩
abbrev main_v795 : Ref sig .tc := ⟨.hbm, 1027, rfl⟩
abbrev main_c_182 : Ref sig .tc := ⟨.hbm, 1028, rfl⟩
abbrev main_v796 : Ref sig .tc := ⟨.hbm, 1029, rfl⟩
abbrev main_v797 : Ref sig .tc := ⟨.hbm, 1030, rfl⟩
abbrev main_c_183 : Ref sig .tc := ⟨.hbm, 1031, rfl⟩
abbrev main_v798 : Ref sig .tc := ⟨.hbm, 1032, rfl⟩
abbrev main_v799 : Ref sig .tc := ⟨.hbm, 1033, rfl⟩
abbrev main_v800 : Ref sig .tc := ⟨.hbm, 1034, rfl⟩
abbrev main_c_184 : Ref sig .tc := ⟨.hbm, 1035, rfl⟩
abbrev main_v801 : Ref sig .tc := ⟨.hbm, 1036, rfl⟩
abbrev main_v802 : Ref sig .tc := ⟨.hbm, 1037, rfl⟩
abbrev main_c_185 : Ref sig .tc := ⟨.hbm, 1038, rfl⟩
abbrev main_v803 : Ref sig .tc := ⟨.hbm, 1039, rfl⟩
abbrev main_v804 : Ref sig .tc := ⟨.hbm, 1040, rfl⟩
abbrev main_v805 : Ref sig .tc := ⟨.hbm, 1041, rfl⟩
abbrev main_c_186 : Ref sig .tc := ⟨.hbm, 1042, rfl⟩
abbrev main_v806 : Ref sig .tc := ⟨.hbm, 1043, rfl⟩
abbrev main_v807 : Ref sig .tc := ⟨.hbm, 1044, rfl⟩
abbrev main_c_187 : Ref sig .tc := ⟨.hbm, 1045, rfl⟩
abbrev main_v808 : Ref sig .tc := ⟨.hbm, 1046, rfl⟩
abbrev main_v809 : Ref sig .tc := ⟨.hbm, 1047, rfl⟩
abbrev main_v810 : Ref sig .tc := ⟨.hbm, 1048, rfl⟩
abbrev main_v811 : Ref sig .tc := ⟨.hbm, 1049, rfl⟩
abbrev main_v812 : Ref sig .tc := ⟨.hbm, 1050, rfl⟩
abbrev main_v813 : Ref sig .tc := ⟨.hbm, 1051, rfl⟩
abbrev main_v814 : Ref sig .tc := ⟨.hbm, 1052, rfl⟩
abbrev main_v815 : Ref sig .tc := ⟨.hbm, 1053, rfl⟩
abbrev main_v816 : Ref sig .tc := ⟨.hbm, 1054, rfl⟩
abbrev main_v817 : Ref sig .tc := ⟨.hbm, 1055, rfl⟩
abbrev main_v818 : Ref sig .tc := ⟨.hbm, 1056, rfl⟩
abbrev main_v819 : Ref sig .tc := ⟨.hbm, 1057, rfl⟩
abbrev main_v820 : Ref sig .tc := ⟨.hbm, 1058, rfl⟩
abbrev main_v821 : Ref sig .tc := ⟨.hbm, 1059, rfl⟩
abbrev main_v822 : Ref sig .tc := ⟨.hbm, 1060, rfl⟩
abbrev main_v823 : Ref sig .tc := ⟨.hbm, 1061, rfl⟩
abbrev main_v824 : Ref sig .tc := ⟨.hbm, 1062, rfl⟩
abbrev main_cst_188 : Ref sig .tc := ⟨.hbm, 1063, rfl⟩
abbrev main_v825 : Ref sig .tc := ⟨.hbm, 1064, rfl⟩
abbrev main_cst_189 : Ref sig .tc := ⟨.hbm, 1065, rfl⟩
abbrev main_v826 : Ref sig .tc := ⟨.hbm, 1066, rfl⟩
abbrev main_v827 : Ref sig .tc := ⟨.hbm, 1067, rfl⟩
abbrev main_v828 : Ref sig .tc := ⟨.hbm, 1068, rfl⟩
abbrev main_v829 : Ref sig .tc := ⟨.hbm, 1069, rfl⟩
abbrev main_v830 : Ref sig .tc := ⟨.hbm, 1070, rfl⟩
abbrev main_v831 : Ref sig .tc := ⟨.hbm, 1071, rfl⟩
abbrev main_v832 : Ref sig .tc := ⟨.hbm, 1072, rfl⟩
abbrev main_v833 : Ref sig .tc := ⟨.hbm, 1073, rfl⟩
abbrev main_call8_cst : Ref sig .tc := ⟨.hbm, 1074, rfl⟩
abbrev main_call8_v0 : Ref sig .tc := ⟨.hbm, 1075, rfl⟩
abbrev main_v834 : Ref sig .tc := ⟨.hbm, 1076, rfl⟩

abbrev nD : Nat := 1
abbrev τ : Topo := Topo.v7x

variable {F : FTy → Type} [FloatOps F]
-- ==== Kernel2.lean ====
abbrev S2x256x256x256 : Shape := ⟨4, ![2, 256, 256, 256]⟩
abbrev S2x256x128x128 : Shape := ⟨4, ![2, 256, 128, 128]⟩
abbrev S2x256x64x64 : Shape := ⟨4, ![2, 256, 64, 64]⟩
abbrev S2x256x32x32 : Shape := ⟨4, ![2, 256, 32, 32]⟩
abbrev S512 : Shape := ⟨1, ![512]⟩
abbrev S4x512 : Shape := ⟨2, ![4, 512]⟩
abbrev S512x14 : Shape := ⟨2, ![512, 14]⟩
abbrev S256x1024 : Shape := ⟨2, ![256, 1024]⟩
abbrev S256 : Shape := ⟨1, ![256]⟩
abbrev S2x128x128x256 : Shape := ⟨4, ![2, 128, 128, 256]⟩
abbrev S2x64x64x256 : Shape := ⟨4, ![2, 64, 64, 256]⟩
abbrev S2x32x32x256 : Shape := ⟨4, ![2, 32, 32, 256]⟩
abbrev S1x512 : Shape := ⟨2, ![1, 512]⟩
abbrev S_ : Shape := ⟨0, ![]⟩
abbrev S512x1 : Shape := ⟨2, ![512, 1]⟩
abbrev S56 : Shape := ⟨1, ![56]⟩
abbrev S1x1x56 : Shape := ⟨3, ![1, 1, 56]⟩
abbrev S512x14x1 : Shape := ⟨3, ![512, 14, 1]⟩
abbrev S512x14x56 : Shape := ⟨3, ![512, 14, 56]⟩
abbrev S512x7x2x56 : Shape := ⟨4, ![512, 7, 2, 56]⟩
abbrev S512x7x56 : Shape := ⟨3, ![512, 7, 56]⟩
abbrev S64 : Shape := ⟨1, ![64]⟩
abbrev S1x1x64 : Shape := ⟨3, ![1, 1, 64]⟩
abbrev S512x14x64 : Shape := ⟨3, ![512, 14, 64]⟩
abbrev S512x7x2x64 : Shape := ⟨4, ![512, 7, 2, 64]⟩
abbrev S512x7x64 : Shape := ⟨3, ![512, 7, 64]⟩
abbrev S512x56x7 : Shape := ⟨3, ![512, 56, 7]⟩
abbrev S512x56x7x7 : Shape := ⟨4, ![512, 56, 7, 7]⟩
abbrev S512x56x49 : Shape := ⟨3, ![512, 56, 49]⟩
abbrev S512x64x7 : Shape := ⟨3, ![512, 64, 7]⟩
abbrev S1x512x1x64x1x7 : Shape := ⟨6, ![1, 512, 1, 64, 1, 7]⟩
abbrev S1x512x1x64x7x7 : Shape := ⟨6, ![1, 512, 1, 64, 7, 7]⟩
abbrev S512x64x49 : Shape := ⟨3, ![512, 64, 49]⟩
abbrev S32 : Shape := ⟨1, ![32]⟩
abbrev S1x1x32 : Shape := ⟨3, ![1, 1, 32]⟩
abbrev S512x14x32 : Shape := ⟨3, ![512, 14, 32]⟩
abbrev S512x7x2x32 : Shape := ⟨4, ![512, 7, 2, 32]⟩
abbrev S512x7x32 : Shape := ⟨3, ![512, 7, 32]⟩
abbrev S40 : Shape := ⟨1, ![40]⟩
abbrev S1x1x40 : Shape := ⟨3, ![1, 1, 40]⟩
abbrev S512x14x40 : Shape := ⟨3, ![512, 14, 40]⟩
abbrev S512x7x2x40 : Shape := ⟨4, ![512, 7, 2, 40]⟩
abbrev S512x7x40 : Shape := ⟨3, ![512, 7, 40]⟩
abbrev S512x32x7 : Shape := ⟨3, ![512, 32, 7]⟩
abbrev S512x32x7x7 : Shape := ⟨4, ![512, 32, 7, 7]⟩
abbrev S512x32x49 : Shape := ⟨3, ![512, 32, 49]⟩
abbrev S512x40x7 : Shape := ⟨3, ![512, 40, 7]⟩
abbrev S1x512x1x40x1x7 : Shape := ⟨6, ![1, 512, 1, 40, 1, 7]⟩
abbrev S1x512x1x40x7x7 : Shape := ⟨6, ![1, 512, 1, 40, 7, 7]⟩
abbrev S512x40x49 : Shape := ⟨3, ![512, 40, 49]⟩
abbrev S16 : Shape := ⟨1, ![16]⟩
abbrev S1x1x16 : Shape := ⟨3, ![1, 1, 16]⟩
abbrev S512x14x16 : Shape := ⟨3, ![512, 14, 16]⟩
abbrev S512x7x2x16 : Shape := ⟨4, ![512, 7, 2, 16]⟩
abbrev S512x7x16 : Shape := ⟨3, ![512, 7, 16]⟩
abbrev S24 : Shape := ⟨1, ![24]⟩
abbrev S1x1x24 : Shape := ⟨3, ![1, 1, 24]⟩
abbrev S512x14x24 : Shape := ⟨3, ![512, 14, 24]⟩
abbrev S512x7x2x24 : Shape := ⟨4, ![512, 7, 2, 24]⟩
abbrev S512x7x24 : Shape := ⟨3, ![512, 7, 24]⟩
abbrev S512x16x7 : Shape := ⟨3, ![512, 16, 7]⟩
abbrev S512x16x7x7 : Shape := ⟨4, ![512, 16, 7, 7]⟩
abbrev S512x16x49 : Shape := ⟨3, ![512, 16, 49]⟩
abbrev S512x24x7 : Shape := ⟨3, ![512, 24, 7]⟩
abbrev S1x512x1x24x1x7 : Shape := ⟨6, ![1, 512, 1, 24, 1, 7]⟩
abbrev S1x512x1x24x7x7 : Shape := ⟨6, ![1, 512, 1, 24, 7, 7]⟩
abbrev S512x24x49 : Shape := ⟨3, ![512, 24, 49]⟩
abbrev S1x512x1x16x1x7 : Shape := ⟨6, ![1, 512, 1, 16, 1, 7]⟩
abbrev S1x512x1x16x7x7 : Shape := ⟨6, ![1, 512, 1, 16, 7, 7]⟩
abbrev S256x4x256 : Shape := ⟨3, ![256, 4, 256]⟩
abbrev S4x256x256 : Shape := ⟨3, ![4, 256, 256]⟩
abbrev S1x256 : Shape := ⟨2, ![1, 256]⟩
abbrev S512x49x256 : Shape := ⟨3, ![512, 49, 256]⟩
abbrev S512x256x49 : Shape := ⟨3, ![512, 256, 49]⟩
abbrev S512x256x7x7 : Shape := ⟨4, ![512, 256, 7, 7]⟩
abbrev S1x56x49 : Shape := ⟨3, ![1, 56, 49]⟩
abbrev S1x64x49 : Shape := ⟨3, ![1, 64, 49]⟩
abbrev S1x32x49 : Shape := ⟨3, ![1, 32, 49]⟩
abbrev S1x40x49 : Shape := ⟨3, ![1, 40, 49]⟩
abbrev S1x16x49 : Shape := ⟨3, ![1, 16, 49]⟩
abbrev S1x24x49 : Shape := ⟨3, ![1, 24, 49]⟩
abbrev S1x49x256 : Shape := ⟨3, ![1, 49, 256]⟩
abbrev S2x56x64x256 : Shape := ⟨4, ![2, 56, 64, 256]⟩
abbrev S2x32x40x256 : Shape := ⟨4, ![2, 32, 40, 256]⟩
abbrev S2x16x24x256 : Shape := ⟨4, ![2, 16, 24, 256]⟩
abbrev S2x16x16x256 : Shape := ⟨4, ![2, 16, 16, 256]⟩
abbrev S2x4 : Shape := ⟨2, ![2, 4]⟩
abbrev S1 : Shape := ⟨1, ![1]⟩
abbrev S1x1 : Shape := ⟨2, ![1, 1]⟩
abbrev S1x56x64x256 : Shape := ⟨4, ![1, 56, 64, 256]⟩
abbrev S56x64x256 : Shape := ⟨3, ![56, 64, 256]⟩
abbrev S1x32x40x256 : Shape := ⟨4, ![1, 32, 40, 256]⟩
abbrev S32x40x256 : Shape := ⟨3, ![32, 40, 256]⟩
abbrev S1x16x24x256 : Shape := ⟨4, ![1, 16, 24, 256]⟩
abbrev S16x24x256 : Shape := ⟨3, ![16, 24, 256]⟩
abbrev S1x16x16x256 : Shape := ⟨4, ![1, 16, 16, 256]⟩
abbrev S16x16x256 : Shape := ⟨3, ![16, 16, 256]⟩
abbrev S56x49 : Shape := ⟨2, ![56, 49]⟩
abbrev S64x49 : Shape := ⟨2, ![64, 49]⟩
abbrev S56x1x49 : Shape := ⟨3, ![56, 1, 49]⟩
abbrev S56x64x49 : Shape := ⟨3, ![56, 64, 49]⟩
abbrev S3584x49 : Shape := ⟨2, ![3584, 49]⟩
abbrev S3584x256 : Shape := ⟨2, ![3584, 256]⟩
abbrev S49x256 : Shape := ⟨2, ![49, 256]⟩
abbrev S1x256x256 : Shape := ⟨3, ![1, 256, 256]⟩
abbrev S256x256 : Shape := ⟨2, ![256, 256]⟩
abbrev S32x49 : Shape := ⟨2, ![32, 49]⟩
abbrev S40x49 : Shape := ⟨2, ![40, 49]⟩
abbrev S32x1x49 : Shape := ⟨3, ![32, 1, 49]⟩
abbrev S32x40x49 : Shape := ⟨3, ![32, 40, 49]⟩
abbrev S1280x49 : Shape := ⟨2, ![1280, 49]⟩
abbrev S1280x256 : Shape := ⟨2, ![1280, 256]⟩
abbrev S16x49 : Shape := ⟨2, ![16, 49]⟩
abbrev S24x49 : Shape := ⟨2, ![24, 49]⟩
abbrev S16x1x49 : Shape := ⟨3, ![16, 1, 49]⟩
abbrev S16x24x49 : Shape := ⟨3, ![16, 24, 49]⟩
abbrev S384x49 : Shape := ⟨2, ![384, 49]⟩
abbrev S384x256 : Shape := ⟨2, ![384, 256]⟩
abbrev S16x16x49 : Shape := ⟨3, ![16, 16, 49]⟩
abbrev S256x49 : Shape := ⟨2, ![256, 49]⟩

abbrev nBuf : Space → Nat
  | .hbm => 420
  | .vmem => 24
  | .smem => 3
  | _ => 0

abbrev hbmTy0_0 (i : Nat) : BufTy := match i % 128 with
  | 0 => ⟨S2x256x256x256, .f32⟩
  | 1 => ⟨S2x256x128x128, .f32⟩
  | 2 => ⟨S2x256x64x64, .f32⟩
  | 3 => ⟨S2x256x32x32, .f32⟩
  | 4 => ⟨S512x14, .f32⟩
  | 5 => ⟨S512x14, .f32⟩
  | 6 => ⟨S512x14, .f32⟩
  | 7 => ⟨S512x14, .f32⟩
  | 8 => ⟨S512x14, .f32⟩
  | 9 => ⟨S512x14, .f32⟩
  | 10 => ⟨S512x14, .f32⟩
  | 11 => ⟨S512x14, .f32⟩
  | 12 => ⟨S256x1024, .f32⟩
  | 13 => ⟨S256, .f32⟩
  | 14 => ⟨S2x256x256x256, .f32⟩
  | 15 => ⟨S2x128x128x256, .f32⟩
  | 16 => ⟨S2x64x64x256, .f32⟩
  | 17 => ⟨S2x32x32x256, .f32⟩
  | 18 => ⟨S1x512, .i32⟩
  | 19 => ⟨S512, .i32⟩
  | 20 => ⟨S512x14, .f32⟩
  | 21 => ⟨S512x14, .f32⟩
  | 22 => ⟨S512x14, .i32⟩
  | 23 => ⟨S_, .i32⟩
  | 24 => ⟨S512x14, .i32⟩
  | 25 => ⟨S512x14, .i32⟩
  | 26 => ⟨S_, .i32⟩
  | 27 => ⟨S512x14, .i32⟩
  | 28 => ⟨S512x14, .i32⟩
  | 29 => ⟨S512x1, .i32⟩
  | 30 => ⟨S512x14, .i32⟩
  | 31 => ⟨S512x14, .i32⟩
  | 32 => ⟨S512x1, .i32⟩
  | 33 => ⟨S512x14, .i32⟩
  | 34 => ⟨S512x14, .i32⟩
  | 35 => ⟨S56, .i32⟩
  | 36 => ⟨S1x1x56, .i32⟩
  | 37 => ⟨S512x14x1, .i32⟩
  | 38 => ⟨S512x14x56, .i32⟩
  | 39 => ⟨S512x14x56, .i32⟩
  | 40 => ⟨S512x14x56, .i1⟩
  | 41 => ⟨S512x14x56, .f32⟩
  | 42 => ⟨S_, .f32⟩
  | 43 => ⟨S512x14, .f32⟩
  | 44 => ⟨S512x14, .f32⟩
  | 45 => ⟨S512x14x1, .f32⟩
  | 46 => ⟨S512x14x56, .f32⟩
  | 47 => ⟨S512x14x56, .f32⟩
  | 48 => ⟨S1x1x56, .i32⟩
  | 49 => ⟨S512x14x1, .i32⟩
  | 50 => ⟨S512x14x56, .i32⟩
  | 51 => ⟨S512x14x56, .i32⟩
  | 52 => ⟨S512x14x56, .i1⟩
  | 53 => ⟨S512x14x56, .f32⟩
  | 54 => ⟨S512x14x1, .f32⟩
  | 55 => ⟨S512x14x56, .f32⟩
  | 56 => ⟨S512x14x56, .f32⟩
  | 57 => ⟨S512x14x56, .f32⟩
  | 58 => ⟨S512x7x2x56, .f32⟩
  | 59 => ⟨S_, .f32⟩
  | 60 => ⟨S512x7x56, .f32⟩
  | 61 => ⟨S_, .f32⟩
  | 62 => ⟨S512x7x56, .f32⟩
  | 63 => ⟨S512x7x56, .f32⟩
  | 64 => ⟨S1x512, .i32⟩
  | 65 => ⟨S512, .i32⟩
  | 66 => ⟨S512x14, .f32⟩
  | 67 => ⟨S512x14, .f32⟩
  | 68 => ⟨S512x14, .i32⟩
  | 69 => ⟨S_, .i32⟩
  | 70 => ⟨S512x14, .i32⟩
  | 71 => ⟨S512x14, .i32⟩
  | 72 => ⟨S_, .i32⟩
  | 73 => ⟨S512x14, .i32⟩
  | 74 => ⟨S512x14, .i32⟩
  | 75 => ⟨S512x1, .i32⟩
  | 76 => ⟨S512x14, .i32⟩
  | 77 => ⟨S512x14, .i32⟩
  | 78 => ⟨S512x1, .i32⟩
  | 79 => ⟨S512x14, .i32⟩
  | 80 => ⟨S512x14, .i32⟩
  | 81 => ⟨S64, .i32⟩
  | 82 => ⟨S1x1x64, .i32⟩
  | 83 => ⟨S512x14x1, .i32⟩
  | 84 => ⟨S512x14x64, .i32⟩
  | 85 => ⟨S512x14x64, .i32⟩
  | 86 => ⟨S512x14x64, .i1⟩
  | 87 => ⟨S512x14x64, .f32⟩
  | 88 => ⟨S_, .f32⟩
  | 89 => ⟨S512x14, .f32⟩
  | 90 => ⟨S512x14, .f32⟩
  | 91 => ⟨S512x14x1, .f32⟩
  | 92 => ⟨S512x14x64, .f32⟩
  | 93 => ⟨S512x14x64, .f32⟩
  | 94 => ⟨S1x1x64, .i32⟩
  | 95 => ⟨S512x14x1, .i32⟩
  | 96 => ⟨S512x14x64, .i32⟩
  | 97 => ⟨S512x14x64, .i32⟩
  | 98 => ⟨S512x14x64, .i1⟩
  | 99 => ⟨S512x14x64, .f32⟩
  | 100 => ⟨S512x14x1, .f32⟩
  | 101 => ⟨S512x14x64, .f32⟩
  | 102 => ⟨S512x14x64, .f32⟩
  | 103 => ⟨S512x14x64, .f32⟩
  | 104 => ⟨S512x7x2x64, .f32⟩
  | 105 => ⟨S_, .f32⟩
  | 106 => ⟨S512x7x64, .f32⟩
  | 107 => ⟨S_, .f32⟩
  | 108 => ⟨S512x7x64, .f32⟩
  | 109 => ⟨S512x7x64, .f32⟩
  | 110 => ⟨S512x56x7, .f32⟩
  | 111 => ⟨S512x56x7x7, .f32⟩
  | 112 => ⟨S512x56x49, .f32⟩
  | 113 => ⟨S512x64x7, .f32⟩
  | 114 => ⟨S1x512x1x64x1x7, .f32⟩
  | 115 => ⟨S1x512x1x64x7x7, .f32⟩
  | 116 => ⟨S512x64x49, .f32⟩
  | 117 => ⟨S1x512, .i32⟩
  | 118 => ⟨S512, .i32⟩
  | 119 => ⟨S512x14, .f32⟩
  | 120 => ⟨S512x14, .f32⟩
  | 121 => ⟨S512x14, .i32⟩
  | 122 => ⟨S_, .i32⟩
  | 123 => ⟨S512x14, .i32⟩
  | 124 => ⟨S512x14, .i32⟩
  | 125 => ⟨S_, .i32⟩
  | 126 => ⟨S512x14, .i32⟩
  | 127 => ⟨S512x14, .i32⟩
  | _ => ⟨S2x256x256x256, .f32⟩

abbrev hbmTy0_1 (i : Nat) : BufTy := match i % 128 with
  | 0 => ⟨S512x1, .i32⟩
  | 1 => ⟨S512x14, .i32⟩
  | 2 => ⟨S512x14, .i32⟩
  | 3 => ⟨S512x1, .i32⟩
  | 4 => ⟨S512x14, .i32⟩
  | 5 => ⟨S512x14, .i32⟩
  | 6 => ⟨S32, .i32⟩
  | 7 => ⟨S1x1x32, .i32⟩
  | 8 => ⟨S512x14x1, .i32⟩
  | 9 => ⟨S512x14x32, .i32⟩
  | 10 => ⟨S512x14x32, .i32⟩
  | 11 => ⟨S512x14x32, .i1⟩
  | 12 => ⟨S512x14x32, .f32⟩
  | 13 => ⟨S_, .f32⟩
  | 14 => ⟨S512x14, .f32⟩
  | 15 => ⟨S512x14, .f32⟩
  | 16 => ⟨S512x14x1, .f32⟩
  | 17 => ⟨S512x14x32, .f32⟩
  | 18 => ⟨S512x14x32, .f32⟩
  | 19 => ⟨S1x1x32, .i32⟩
  | 20 => ⟨S512x14x1, .i32⟩
  | 21 => ⟨S512x14x32, .i32⟩
  | 22 => ⟨S512x14x32, .i32⟩
  | 23 => ⟨S512x14x32, .i1⟩
  | 24 => ⟨S512x14x32, .f32⟩
  | 25 => ⟨S512x14x1, .f32⟩
  | 26 => ⟨S512x14x32, .f32⟩
  | 27 => ⟨S512x14x32, .f32⟩
  | 28 => ⟨S512x14x32, .f32⟩
  | 29 => ⟨S512x7x2x32, .f32⟩
  | 30 => ⟨S_, .f32⟩
  | 31 => ⟨S512x7x32, .f32⟩
  | 32 => ⟨S_, .f32⟩
  | 33 => ⟨S512x7x32, .f32⟩
  | 34 => ⟨S512x7x32, .f32⟩
  | 35 => ⟨S1x512, .i32⟩
  | 36 => ⟨S512, .i32⟩
  | 37 => ⟨S512x14, .f32⟩
  | 38 => ⟨S512x14, .f32⟩
  | 39 => ⟨S512x14, .i32⟩
  | 40 => ⟨S_, .i32⟩
  | 41 => ⟨S512x14, .i32⟩
  | 42 => ⟨S512x14, .i32⟩
  | 43 => ⟨S_, .i32⟩
  | 44 => ⟨S512x14, .i32⟩
  | 45 => ⟨S512x14, .i32⟩
  | 46 => ⟨S512x1, .i32⟩
  | 47 => ⟨S512x14, .i32⟩
  | 48 => ⟨S512x14, .i32⟩
  | 49 => ⟨S512x1, .i32⟩
  | 50 => ⟨S512x14, .i32⟩
  | 51 => ⟨S512x14, .i32⟩
  | 52 => ⟨S40, .i32⟩
  | 53 => ⟨S1x1x40, .i32⟩
  | 54 => ⟨S512x14x1, .i32⟩
  | 55 => ⟨S512x14x40, .i32⟩
  | 56 => ⟨S512x14x40, .i32⟩
  | 57 => ⟨S512x14x40, .i1⟩
  | 58 => ⟨S512x14x40, .f32⟩
  | 59 => ⟨S_, .f32⟩
  | 60 => ⟨S512x14, .f32⟩
  | 61 => ⟨S512x14, .f32⟩
  | 62 => ⟨S512x14x1, .f32⟩
  | 63 => ⟨S512x14x40, .f32⟩
  | 64 => ⟨S512x14x40, .f32⟩
  | 65 => ⟨S1x1x40, .i32⟩
  | 66 => ⟨S512x14x1, .i32⟩
  | 67 => ⟨S512x14x40, .i32⟩
  | 68 => ⟨S512x14x40, .i32⟩
  | 69 => ⟨S512x14x40, .i1⟩
  | 70 => ⟨S512x14x40, .f32⟩
  | 71 => ⟨S512x14x1, .f32⟩
  | 72 => ⟨S512x14x40, .f32⟩
  | 73 => ⟨S512x14x40, .f32⟩
  | 74 => ⟨S512x14x40, .f32⟩
  | 75 => ⟨S512x7x2x40, .f32⟩
  | 76 => ⟨S_, .f32⟩
  | 77 => ⟨S512x7x40, .f32⟩
  | 78 => ⟨S_, .f32⟩
  | 79 => ⟨S512x7x40, .f32⟩
  | 80 => ⟨S512x7x40, .f32⟩
  | 81 => ⟨S512x32x7, .f32⟩
  | 82 => ⟨S512x32x7x7, .f32⟩
  | 83 => ⟨S512x32x49, .f32⟩
  | 84 => ⟨S512x40x7, .f32⟩
  | 85 => ⟨S1x512x1x40x1x7, .f32⟩
  | 86 => ⟨S1x512x1x40x7x7, .f32⟩
  | 87 => ⟨S512x40x49, .f32⟩
  | 88 => ⟨S1x512, .i32⟩
  | 89 => ⟨S512, .i32⟩
  | 90 => ⟨S512x14, .f32⟩
  | 91 => ⟨S512x14, .f32⟩
  | 92 => ⟨S512x14, .i32⟩
  | 93 => ⟨S_, .i32⟩
  | 94 => ⟨S512x14, .i32⟩
  | 95 => ⟨S512x14, .i32⟩
  | 96 => ⟨S_, .i32⟩
  | 97 => ⟨S512x14, .i32⟩
  | 98 => ⟨S512x14, .i32⟩
  | 99 => ⟨S512x1, .i32⟩
  | 100 => ⟨S512x14, .i32⟩
  | 101 => ⟨S512x14, .i32⟩
  | 102 => ⟨S512x1, .i32⟩
  | 103 => ⟨S512x14, .i32⟩
  | 104 => ⟨S512x14, .i32⟩
  | 105 => ⟨S16, .i32⟩
  | 106 => ⟨S1x1x16, .i32⟩
  | 107 => ⟨S512x14x1, .i32⟩
  | 108 => ⟨S512x14x16, .i32⟩
  | 109 => ⟨S512x14x16, .i32⟩
  | 110 => ⟨S512x14x16, .i1⟩
  | 111 => ⟨S512x14x16, .f32⟩
  | 112 => ⟨S_, .f32⟩
  | 113 => ⟨S512x14, .f32⟩
  | 114 => ⟨S512x14, .f32⟩
  | 115 => ⟨S512x14x1, .f32⟩
  | 116 => ⟨S512x14x16, .f32⟩
  | 117 => ⟨S512x14x16, .f32⟩
  | 118 => ⟨S1x1x16, .i32⟩
  | 119 => ⟨S512x14x1, .i32⟩
  | 120 => ⟨S512x14x16, .i32⟩
  | 121 => ⟨S512x14x16, .i32⟩
  | 122 => ⟨S512x14x16, .i1⟩
  | 123 => ⟨S512x14x16, .f32⟩
  | 124 => ⟨S512x14x1, .f32⟩
  | 125 => ⟨S512x14x16, .f32⟩
  | 126 => ⟨S512x14x16, .f32⟩
  | 127 => ⟨S512x14x16, .f32⟩
  | _ => ⟨S2x256x256x256, .f32⟩

abbrev hbmTy0_2 (i : Nat) : BufTy := match i % 128 with
  | 0 => ⟨S512x7x2x16, .f32⟩
  | 1 => ⟨S_, .f32⟩
  | 2 => ⟨S512x7x16, .f32⟩
  | 3 => ⟨S_, .f32⟩
  | 4 => ⟨S512x7x16, .f32⟩
  | 5 => ⟨S512x7x16, .f32⟩
  | 6 => ⟨S1x512, .i32⟩
  | 7 => ⟨S512, .i32⟩
  | 8 => ⟨S512x14, .f32⟩
  | 9 => ⟨S512x14, .f32⟩
  | 10 => ⟨S512x14, .i32⟩
  | 11 => ⟨S_, .i32⟩
  | 12 => ⟨S512x14, .i32⟩
  | 13 => ⟨S512x14, .i32⟩
  | 14 => ⟨S_, .i32⟩
  | 15 => ⟨S512x14, .i32⟩
  | 16 => ⟨S512x14, .i32⟩
  | 17 => ⟨S512x1, .i32⟩
  | 18 => ⟨S512x14, .i32⟩
  | 19 => ⟨S512x14, .i32⟩
  | 20 => ⟨S512x1, .i32⟩
  | 21 => ⟨S512x14, .i32⟩
  | 22 => ⟨S512x14, .i32⟩
  | 23 => ⟨S24, .i32⟩
  | 24 => ⟨S1x1x24, .i32⟩
  | 25 => ⟨S512x14x1, .i32⟩
  | 26 => ⟨S512x14x24, .i32⟩
  | 27 => ⟨S512x14x24, .i32⟩
  | 28 => ⟨S512x14x24, .i1⟩
  | 29 => ⟨S512x14x24, .f32⟩
  | 30 => ⟨S_, .f32⟩
  | 31 => ⟨S512x14, .f32⟩
  | 32 => ⟨S512x14, .f32⟩
  | 33 => ⟨S512x14x1, .f32⟩
  | 34 => ⟨S512x14x24, .f32⟩
  | 35 => ⟨S512x14x24, .f32⟩
  | 36 => ⟨S1x1x24, .i32⟩
  | 37 => ⟨S512x14x1, .i32⟩
  | 38 => ⟨S512x14x24, .i32⟩
  | 39 => ⟨S512x14x24, .i32⟩
  | 40 => ⟨S512x14x24, .i1⟩
  | 41 => ⟨S512x14x24, .f32⟩
  | 42 => ⟨S512x14x1, .f32⟩
  | 43 => ⟨S512x14x24, .f32⟩
  | 44 => ⟨S512x14x24, .f32⟩
  | 45 => ⟨S512x14x24, .f32⟩
  | 46 => ⟨S512x7x2x24, .f32⟩
  | 47 => ⟨S_, .f32⟩
  | 48 => ⟨S512x7x24, .f32⟩
  | 49 => ⟨S_, .f32⟩
  | 50 => ⟨S512x7x24, .f32⟩
  | 51 => ⟨S512x7x24, .f32⟩
  | 52 => ⟨S512x16x7, .f32⟩
  | 53 => ⟨S512x16x7x7, .f32⟩
  | 54 => ⟨S512x16x49, .f32⟩
  | 55 => ⟨S512x24x7, .f32⟩
  | 56 => ⟨S1x512x1x24x1x7, .f32⟩
  | 57 => ⟨S1x512x1x24x7x7, .f32⟩
  | 58 => ⟨S512x24x49, .f32⟩
  | 59 => ⟨S1x512, .i32⟩
  | 60 => ⟨S512, .i32⟩
  | 61 => ⟨S512x14, .f32⟩
  | 62 => ⟨S512x14, .f32⟩
  | 63 => ⟨S512x14, .i32⟩
  | 64 => ⟨S_, .i32⟩
  | 65 => ⟨S512x14, .i32⟩
  | 66 => ⟨S512x14, .i32⟩
  | 67 => ⟨S_, .i32⟩
  | 68 => ⟨S512x14, .i32⟩
  | 69 => ⟨S512x14, .i32⟩
  | 70 => ⟨S512x1, .i32⟩
  | 71 => ⟨S512x14, .i32⟩
  | 72 => ⟨S512x14, .i32⟩
  | 73 => ⟨S512x1, .i32⟩
  | 74 => ⟨S512x14, .i32⟩
  | 75 => ⟨S512x14, .i32⟩
  | 76 => ⟨S16, .i32⟩
  | 77 => ⟨S1x1x16, .i32⟩
  | 78 => ⟨S512x14x1, .i32⟩
  | 79 => ⟨S512x14x16, .i32⟩
  | 80 => ⟨S512x14x16, .i32⟩
  | 81 => ⟨S512x14x16, .i1⟩
  | 82 => ⟨S512x14x16, .f32⟩
  | 83 => ⟨S_, .f32⟩
  | 84 => ⟨S512x14, .f32⟩
  | 85 => ⟨S512x14, .f32⟩
  | 86 => ⟨S512x14x1, .f32⟩
  | 87 => ⟨S512x14x16, .f32⟩
  | 88 => ⟨S512x14x16, .f32⟩
  | 89 => ⟨S1x1x16, .i32⟩
  | 90 => ⟨S512x14x1, .i32⟩
  | 91 => ⟨S512x14x16, .i32⟩
  | 92 => ⟨S512x14x16, .i32⟩
  | 93 => ⟨S512x14x16, .i1⟩
  | 94 => ⟨S512x14x16, .f32⟩
  | 95 => ⟨S512x14x1, .f32⟩
  | 96 => ⟨S512x14x16, .f32⟩
  | 97 => ⟨S512x14x16, .f32⟩
  | 98 => ⟨S512x14x16, .f32⟩
  | 99 => ⟨S512x7x2x16, .f32⟩
  | 100 => ⟨S_, .f32⟩
  | 101 => ⟨S512x7x16, .f32⟩
  | 102 => ⟨S_, .f32⟩
  | 103 => ⟨S512x7x16, .f32⟩
  | 104 => ⟨S512x7x16, .f32⟩
  | 105 => ⟨S1x512, .i32⟩
  | 106 => ⟨S512, .i32⟩
  | 107 => ⟨S512x14, .f32⟩
  | 108 => ⟨S512x14, .f32⟩
  | 109 => ⟨S512x14, .i32⟩
  | 110 => ⟨S_, .i32⟩
  | 111 => ⟨S512x14, .i32⟩
  | 112 => ⟨S512x14, .i32⟩
  | 113 => ⟨S_, .i32⟩
  | 114 => ⟨S512x14, .i32⟩
  | 115 => ⟨S512x14, .i32⟩
  | 116 => ⟨S512x1, .i32⟩
  | 117 => ⟨S512x14, .i32⟩
  | 118 => ⟨S512x14, .i32⟩
  | 119 => ⟨S512x1, .i32⟩
  | 120 => ⟨S512x14, .i32⟩
  | 121 => ⟨S512x14, .i32⟩
  | 122 => ⟨S16, .i32⟩
  | 123 => ⟨S1x1x16, .i32⟩
  | 124 => ⟨S512x14x1, .i32⟩
  | 125 => ⟨S512x14x16, .i32⟩
  | 126 => ⟨S512x14x16, .i32⟩
  | 127 => ⟨S512x14x16, .i1⟩
  | _ => ⟨S2x256x256x256, .f32⟩

abbrev hbmTy0_3 (i : Nat) : BufTy := match i % 128 with
  | 0 => ⟨S512x14x16, .f32⟩
  | 1 => ⟨S_, .f32⟩
  | 2 => ⟨S512x14, .f32⟩
  | 3 => ⟨S512x14, .f32⟩
  | 4 => ⟨S512x14x1, .f32⟩
  | 5 => ⟨S512x14x16, .f32⟩
  | 6 => ⟨S512x14x16, .f32⟩
  | 7 => ⟨S1x1x16, .i32⟩
  | 8 => ⟨S512x14x1, .i32⟩
  | 9 => ⟨S512x14x16, .i32⟩
  | 10 => ⟨S512x14x16, .i32⟩
  | 11 => ⟨S512x14x16, .i1⟩
  | 12 => ⟨S512x14x16, .f32⟩
  | 13 => ⟨S512x14x1, .f32⟩
  | 14 => ⟨S512x14x16, .f32⟩
  | 15 => ⟨S512x14x16, .f32⟩
  | 16 => ⟨S512x14x16, .f32⟩
  | 17 => ⟨S512x7x2x16, .f32⟩
  | 18 => ⟨S_, .f32⟩
  | 19 => ⟨S512x7x16, .f32⟩
  | 20 => ⟨S_, .f32⟩
  | 21 => ⟨S512x7x16, .f32⟩
  | 22 => ⟨S512x7x16, .f32⟩
  | 23 => ⟨S512x16x7, .f32⟩
  | 24 => ⟨S512x16x7x7, .f32⟩
  | 25 => ⟨S512x16x49, .f32⟩
  | 26 => ⟨S512x16x7, .f32⟩
  | 27 => ⟨S1x512x1x16x1x7, .f32⟩
  | 28 => ⟨S1x512x1x16x7x7, .f32⟩
  | 29 => ⟨S512x16x49, .f32⟩
  | 30 => ⟨S256x4x256, .f32⟩
  | 31 => ⟨S4x256x256, .f32⟩
  | 32 => ⟨S1x256, .f32⟩
  | 33 => ⟨S512x49x256, .f32⟩
  | 34 => ⟨S512x256x49, .f32⟩
  | 35 => ⟨S512x256x7x7, .f32⟩
  | _ => ⟨S2x256x256x256, .f32⟩

abbrev hbmTy (i : Nat) : BufTy := match i / 128 with
  | 0 => hbmTy0_0 i
  | 1 => hbmTy0_1 i
  | 2 => hbmTy0_2 i
  | 3 => hbmTy0_3 i
  | _ => ⟨S2x256x256x256, .f32⟩

abbrev bufTy : (tb : Table) → Fin (tcTables nBuf tb) → BufTy
  | .hbm, ⟨i, _⟩ => hbmTy i
  | .local _ .vmem, ⟨0, _⟩ => ⟨S1x56x49, .f32⟩
  | .local _ .vmem, ⟨1, _⟩ => ⟨S1x56x49, .f32⟩
  | .local _ .vmem, ⟨2, _⟩ => ⟨S1x64x49, .f32⟩
  | .local _ .vmem, ⟨3, _⟩ => ⟨S1x64x49, .f32⟩
  | .local _ .vmem, ⟨4, _⟩ => ⟨S1x32x49, .f32⟩
  | .local _ .vmem, ⟨5, _⟩ => ⟨S1x32x49, .f32⟩
  | .local _ .vmem, ⟨6, _⟩ => ⟨S1x40x49, .f32⟩
  | .local _ .vmem, ⟨7, _⟩ => ⟨S1x40x49, .f32⟩
  | .local _ .vmem, ⟨8, _⟩ => ⟨S1x16x49, .f32⟩
  | .local _ .vmem, ⟨9, _⟩ => ⟨S1x16x49, .f32⟩
  | .local _ .vmem, ⟨10, _⟩ => ⟨S1x24x49, .f32⟩
  | .local _ .vmem, ⟨11, _⟩ => ⟨S1x24x49, .f32⟩
  | .local _ .vmem, ⟨12, _⟩ => ⟨S1x16x49, .f32⟩
  | .local _ .vmem, ⟨13, _⟩ => ⟨S1x16x49, .f32⟩
  | .local _ .vmem, ⟨14, _⟩ => ⟨S1x16x49, .f32⟩
  | .local _ .vmem, ⟨15, _⟩ => ⟨S1x16x49, .f32⟩
  | .local _ .vmem, ⟨16, _⟩ => ⟨S4x256x256, .f32⟩
  | .local _ .vmem, ⟨17, _⟩ => ⟨S1x256, .f32⟩
  | .local _ .vmem, ⟨18, _⟩ => ⟨S1x49x256, .f32⟩
  | .local _ .vmem, ⟨19, _⟩ => ⟨S1x49x256, .f32⟩
  | .local _ .vmem, ⟨20, _⟩ => ⟨S2x56x64x256, .f32⟩
  | .local _ .vmem, ⟨21, _⟩ => ⟨S2x32x40x256, .f32⟩
  | .local _ .vmem, ⟨22, _⟩ => ⟨S2x16x24x256, .f32⟩
  | .local _ .vmem, ⟨23, _⟩ => ⟨S2x16x16x256, .f32⟩
  | .local _ .smem, ⟨0, _⟩ => ⟨S512, .i32⟩
  | .local _ .smem, ⟨1, _⟩ => ⟨S4x512, .i32⟩
  | .local _ .smem, ⟨2, _⟩ => ⟨S4x512, .i32⟩
  | _, _ => ⟨S2x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg7 : Ref sig .tc := ⟨.hbm, 4, rfl⟩
abbrev main_arg8 : Ref sig .tc := ⟨.hbm, 5, rfl⟩
abbrev main_arg9 : Ref sig .tc := ⟨.hbm, 6, rfl⟩
abbrev main_arg10 : Ref sig .tc := ⟨.hbm, 7, rfl⟩
abbrev main_arg11 : Ref sig .tc := ⟨.hbm, 8, rfl⟩
abbrev main_arg12 : Ref sig .tc := ⟨.hbm, 9, rfl⟩
abbrev main_arg13 : Ref sig .tc := ⟨.hbm, 10, rfl⟩
abbrev main_arg14 : Ref sig .tc := ⟨.hbm, 11, rfl⟩
abbrev main_arg15 : Ref sig .tc := ⟨.hbm, 12, rfl⟩
abbrev main_arg16 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_c_0 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_v19 : Ref sig .tc := ⟨.hbm, 35, rfl⟩
abbrev main_call0_v20 : Ref sig .tc := ⟨.hbm, 36, rfl⟩
abbrev main_call0_v21 : Ref sig .tc := ⟨.hbm, 37, rfl⟩
abbrev main_call0_v22 : Ref sig .tc := ⟨.hbm, 38, rfl⟩
abbrev main_call0_v23 : Ref sig .tc := ⟨.hbm, 39, rfl⟩
abbrev main_call0_v24 : Ref sig .tc := ⟨.hbm, 40, rfl⟩
abbrev main_call0_v25 : Ref sig .tc := ⟨.hbm, 41, rfl⟩
abbrev main_call0_cst : Ref sig .tc := ⟨.hbm, 42, rfl⟩
abbrev main_call0_v26 : Ref sig .tc := ⟨.hbm, 43, rfl⟩
abbrev main_call0_v27 : Ref sig .tc := ⟨.hbm, 44, rfl⟩
abbrev main_call0_v28 : Ref sig .tc := ⟨.hbm, 45, rfl⟩
abbrev main_call0_v29 : Ref sig .tc := ⟨.hbm, 46, rfl⟩
abbrev main_call0_v30 : Ref sig .tc := ⟨.hbm, 47, rfl⟩
abbrev main_call0_v31 : Ref sig .tc := ⟨.hbm, 48, rfl⟩
abbrev main_call0_v32 : Ref sig .tc := ⟨.hbm, 49, rfl⟩
abbrev main_call0_v33 : Ref sig .tc := ⟨.hbm, 50, rfl⟩
abbrev main_call0_v34 : Ref sig .tc := ⟨.hbm, 51, rfl⟩
abbrev main_call0_v35 : Ref sig .tc := ⟨.hbm, 52, rfl⟩
abbrev main_call0_v36 : Ref sig .tc := ⟨.hbm, 53, rfl⟩
abbrev main_call0_v37 : Ref sig .tc := ⟨.hbm, 54, rfl⟩
abbrev main_call0_v38 : Ref sig .tc := ⟨.hbm, 55, rfl⟩
abbrev main_call0_v39 : Ref sig .tc := ⟨.hbm, 56, rfl⟩
abbrev main_call0_v40 : Ref sig .tc := ⟨.hbm, 57, rfl⟩
abbrev main_call0_v41 : Ref sig .tc := ⟨.hbm, 58, rfl⟩
abbrev main_call0_cst_1 : Ref sig .tc := ⟨.hbm, 59, rfl⟩
abbrev main_call0_v42 : Ref sig .tc := ⟨.hbm, 60, rfl⟩
abbrev main_call0_cst_2 : Ref sig .tc := ⟨.hbm, 61, rfl⟩
abbrev main_call0_v43 : Ref sig .tc := ⟨.hbm, 62, rfl⟩
abbrev main_call0_v44 : Ref sig .tc := ⟨.hbm, 63, rfl⟩
abbrev main_call0_v45 : Ref sig .tc := ⟨.hbm, 64, rfl⟩
abbrev main_call0_v46 : Ref sig .tc := ⟨.hbm, 65, rfl⟩
abbrev main_call0_v47 : Ref sig .tc := ⟨.hbm, 66, rfl⟩
abbrev main_call0_v48 : Ref sig .tc := ⟨.hbm, 67, rfl⟩
abbrev main_call0_v49 : Ref sig .tc := ⟨.hbm, 68, rfl⟩
abbrev main_call0_c_3 : Ref sig .tc := ⟨.hbm, 69, rfl⟩
abbrev main_call0_v50 : Ref sig .tc := ⟨.hbm, 70, rfl⟩
abbrev main_call0_v51 : Ref sig .tc := ⟨.hbm, 71, rfl⟩
abbrev main_call0_c_4 : Ref sig .tc := ⟨.hbm, 72, rfl⟩
abbrev main_call0_v52 : Ref sig .tc := ⟨.hbm, 73, rfl⟩
abbrev main_call0_v53 : Ref sig .tc := ⟨.hbm, 74, rfl⟩
abbrev main_call0_v54 : Ref sig .tc := ⟨.hbm, 75, rfl⟩
abbrev main_call0_v55 : Ref sig .tc := ⟨.hbm, 76, rfl⟩
abbrev main_call0_v56 : Ref sig .tc := ⟨.hbm, 77, rfl⟩
abbrev main_call0_v57 : Ref sig .tc := ⟨.hbm, 78, rfl⟩
abbrev main_call0_v58 : Ref sig .tc := ⟨.hbm, 79, rfl⟩
abbrev main_call0_v59 : Ref sig .tc := ⟨.hbm, 80, rfl⟩
abbrev main_call0_v60 : Ref sig .tc := ⟨.hbm, 81, rfl⟩
abbrev main_call0_v61 : Ref sig .tc := ⟨.hbm, 82, rfl⟩
abbrev main_call0_v62 : Ref sig .tc := ⟨.hbm, 83, rfl⟩
abbrev main_call0_v63 : Ref sig .tc := ⟨.hbm, 84, rfl⟩
abbrev main_call0_v64 : Ref sig .tc := ⟨.hbm, 85, rfl⟩
abbrev main_call0_v65 : Ref sig .tc := ⟨.hbm, 86, rfl⟩
abbrev main_call0_v66 : Ref sig .tc := ⟨.hbm, 87, rfl⟩
abbrev main_call0_cst_5 : Ref sig .tc := ⟨.hbm, 88, rfl⟩
abbrev main_call0_v67 : Ref sig .tc := ⟨.hbm, 89, rfl⟩
abbrev main_call0_v68 : Ref sig .tc := ⟨.hbm, 90, rfl⟩
abbrev main_call0_v69 : Ref sig .tc := ⟨.hbm, 91, rfl⟩
abbrev main_call0_v70 : Ref sig .tc := ⟨.hbm, 92, rfl⟩
abbrev main_call0_v71 : Ref sig .tc := ⟨.hbm, 93, rfl⟩
abbrev main_call0_v72 : Ref sig .tc := ⟨.hbm, 94, rfl⟩
abbrev main_call0_v73 : Ref sig .tc := ⟨.hbm, 95, rfl⟩
abbrev main_call0_v74 : Ref sig .tc := ⟨.hbm, 96, rfl⟩
abbrev main_call0_v75 : Ref sig .tc := ⟨.hbm, 97, rfl⟩
abbrev main_call0_v76 : Ref sig .tc := ⟨.hbm, 98, rfl⟩
abbrev main_call0_v77 : Ref sig .tc := ⟨.hbm, 99, rfl⟩
abbrev main_call0_v78 : Ref sig .tc := ⟨.hbm, 100, rfl⟩
abbrev main_call0_v79 : Ref sig .tc := ⟨.hbm, 101, rfl⟩
abbrev main_call0_v80 : Ref sig .tc := ⟨.hbm, 102, rfl⟩
abbrev main_call0_v81 : Ref sig .tc := ⟨.hbm, 103, rfl⟩
abbrev main_call0_v82 : Ref sig .tc := ⟨.hbm, 104, rfl⟩
abbrev main_call0_cst_6 : Ref sig .tc := ⟨.hbm, 105, rfl⟩
abbrev main_call0_v83 : Ref sig .tc := ⟨.hbm, 106, rfl⟩
abbrev main_call0_cst_7 : Ref sig .tc := ⟨.hbm, 107, rfl⟩
abbrev main_call0_v84 : Ref sig .tc := ⟨.hbm, 108, rfl⟩
abbrev main_call0_v85 : Ref sig .tc := ⟨.hbm, 109, rfl⟩
abbrev main_call0_v86 : Ref sig .tc := ⟨.hbm, 110, rfl⟩
abbrev main_call0_v87 : Ref sig .tc := ⟨.hbm, 111, rfl⟩
abbrev main_call0_v88 : Ref sig .tc := ⟨.hbm, 112, rfl⟩
abbrev main_call0_v89 : Ref sig .tc := ⟨.hbm, 113, rfl⟩
abbrev main_call0_v90 : Ref sig .tc := ⟨.hbm, 114, rfl⟩
abbrev main_call0_v91 : Ref sig .tc := ⟨.hbm, 115, rfl⟩
abbrev main_call0_v92 : Ref sig .tc := ⟨.hbm, 116, rfl⟩
abbrev main_call0_v93 : Ref sig .tc := ⟨.hbm, 117, rfl⟩
abbrev main_call0_v94 : Ref sig .tc := ⟨.hbm, 118, rfl⟩
abbrev main_call0_v95 : Ref sig .tc := ⟨.hbm, 119, rfl⟩
abbrev main_call0_v96 : Ref sig .tc := ⟨.hbm, 120, rfl⟩
abbrev main_call0_v97 : Ref sig .tc := ⟨.hbm, 121, rfl⟩
abbrev main_call0_c_8 : Ref sig .tc := ⟨.hbm, 122, rfl⟩
abbrev main_call0_v98 : Ref sig .tc := ⟨.hbm, 123, rfl⟩
abbrev main_call0_v99 : Ref sig .tc := ⟨.hbm, 124, rfl⟩
abbrev main_call0_c_9 : Ref sig .tc := ⟨.hbm, 125, rfl⟩
abbrev main_call0_v100 : Ref sig .tc := ⟨.hbm, 126, rfl⟩
abbrev main_call0_v101 : Ref sig .tc := ⟨.hbm, 127, rfl⟩
abbrev main_call0_v102 : Ref sig .tc := ⟨.hbm, 128, rfl⟩
abbrev main_call0_v103 : Ref sig .tc := ⟨.hbm, 129, rfl⟩
abbrev main_call0_v104 : Ref sig .tc := ⟨.hbm, 130, rfl⟩
abbrev main_call0_v105 : Ref sig .tc := ⟨.hbm, 131, rfl⟩
abbrev main_call0_v106 : Ref sig .tc := ⟨.hbm, 132, rfl⟩
abbrev main_call0_v107 : Ref sig .tc := ⟨.hbm, 133, rfl⟩
abbrev main_call0_v108 : Ref sig .tc := ⟨.hbm, 134, rfl⟩
abbrev main_call0_v109 : Ref sig .tc := ⟨.hbm, 135, rfl⟩
abbrev main_call0_v110 : Ref sig .tc := ⟨.hbm, 136, rfl⟩
abbrev main_call0_v111 : Ref sig .tc := ⟨.hbm, 137, rfl⟩
abbrev main_call0_v112 : Ref sig .tc := ⟨.hbm, 138, rfl⟩
abbrev main_call0_v113 : Ref sig .tc := ⟨.hbm, 139, rfl⟩
abbrev main_call0_v114 : Ref sig .tc := ⟨.hbm, 140, rfl⟩
abbrev main_call0_cst_10 : Ref sig .tc := ⟨.hbm, 141, rfl⟩
abbrev main_call0_v115 : Ref sig .tc := ⟨.hbm, 142, rfl⟩
abbrev main_call0_v116 : Ref sig .tc := ⟨.hbm, 143, rfl⟩
abbrev main_call0_v117 : Ref sig .tc := ⟨.hbm, 144, rfl⟩
abbrev main_call0_v118 : Ref sig .tc := ⟨.hbm, 145, rfl⟩
abbrev main_call0_v119 : Ref sig .tc := ⟨.hbm, 146, rfl⟩
abbrev main_call0_v120 : Ref sig .tc := ⟨.hbm, 147, rfl⟩
abbrev main_call0_v121 : Ref sig .tc := ⟨.hbm, 148, rfl⟩
abbrev main_call0_v122 : Ref sig .tc := ⟨.hbm, 149, rfl⟩
abbrev main_call0_v123 : Ref sig .tc := ⟨.hbm, 150, rfl⟩
abbrev main_call0_v124 : Ref sig .tc := ⟨.hbm, 151, rfl⟩
abbrev main_call0_v125 : Ref sig .tc := ⟨.hbm, 152, rfl⟩
abbrev main_call0_v126 : Ref sig .tc := ⟨.hbm, 153, rfl⟩
abbrev main_call0_v127 : Ref sig .tc := ⟨.hbm, 154, rfl⟩
abbrev main_call0_v128 : Ref sig .tc := ⟨.hbm, 155, rfl⟩
abbrev main_call0_v129 : Ref sig .tc := ⟨.hbm, 156, rfl⟩
abbrev main_call0_v130 : Ref sig .tc := ⟨.hbm, 157, rfl⟩
abbrev main_call0_cst_11 : Ref sig .tc := ⟨.hbm, 158, rfl⟩
abbrev main_call0_v131 : Ref sig .tc := ⟨.hbm, 159, rfl⟩
abbrev main_call0_cst_12 : Ref sig .tc := ⟨.hbm, 160, rfl⟩
abbrev main_call0_v132 : Ref sig .tc := ⟨.hbm, 161, rfl⟩
abbrev main_call0_v133 : Ref sig .tc := ⟨.hbm, 162, rfl⟩
abbrev main_call0_v134 : Ref sig .tc := ⟨.hbm, 163, rfl⟩
abbrev main_call0_v135 : Ref sig .tc := ⟨.hbm, 164, rfl⟩
abbrev main_call0_v136 : Ref sig .tc := ⟨.hbm, 165, rfl⟩
abbrev main_call0_v137 : Ref sig .tc := ⟨.hbm, 166, rfl⟩
abbrev main_call0_v138 : Ref sig .tc := ⟨.hbm, 167, rfl⟩
abbrev main_call0_c_13 : Ref sig .tc := ⟨.hbm, 168, rfl⟩
abbrev main_call0_v139 : Ref sig .tc := ⟨.hbm, 169, rfl⟩
abbrev main_call0_v140 : Ref sig .tc := ⟨.hbm, 170, rfl⟩
abbrev main_call0_c_14 : Ref sig .tc := ⟨.hbm, 171, rfl⟩
abbrev main_call0_v141 : Ref sig .tc := ⟨.hbm, 172, rfl⟩
abbrev main_call0_v142 : Ref sig .tc := ⟨.hbm, 173, rfl⟩
abbrev main_call0_v143 : Ref sig .tc := ⟨.hbm, 174, rfl⟩
abbrev main_call0_v144 : Ref sig .tc := ⟨.hbm, 175, rfl⟩
abbrev main_call0_v145 : Ref sig .tc := ⟨.hbm, 176, rfl⟩
abbrev main_call0_v146 : Ref sig .tc := ⟨.hbm, 177, rfl⟩
abbrev main_call0_v147 : Ref sig .tc := ⟨.hbm, 178, rfl⟩
abbrev main_call0_v148 : Ref sig .tc := ⟨.hbm, 179, rfl⟩
abbrev main_call0_v149 : Ref sig .tc := ⟨.hbm, 180, rfl⟩
abbrev main_call0_v150 : Ref sig .tc := ⟨.hbm, 181, rfl⟩
abbrev main_call0_v151 : Ref sig .tc := ⟨.hbm, 182, rfl⟩
abbrev main_call0_v152 : Ref sig .tc := ⟨.hbm, 183, rfl⟩
abbrev main_call0_v153 : Ref sig .tc := ⟨.hbm, 184, rfl⟩
abbrev main_call0_v154 : Ref sig .tc := ⟨.hbm, 185, rfl⟩
abbrev main_call0_v155 : Ref sig .tc := ⟨.hbm, 186, rfl⟩
abbrev main_call0_cst_15 : Ref sig .tc := ⟨.hbm, 187, rfl⟩
abbrev main_call0_v156 : Ref sig .tc := ⟨.hbm, 188, rfl⟩
abbrev main_call0_v157 : Ref sig .tc := ⟨.hbm, 189, rfl⟩
abbrev main_call0_v158 : Ref sig .tc := ⟨.hbm, 190, rfl⟩
abbrev main_call0_v159 : Ref sig .tc := ⟨.hbm, 191, rfl⟩
abbrev main_call0_v160 : Ref sig .tc := ⟨.hbm, 192, rfl⟩
abbrev main_call0_v161 : Ref sig .tc := ⟨.hbm, 193, rfl⟩
abbrev main_call0_v162 : Ref sig .tc := ⟨.hbm, 194, rfl⟩
abbrev main_call0_v163 : Ref sig .tc := ⟨.hbm, 195, rfl⟩
abbrev main_call0_v164 : Ref sig .tc := ⟨.hbm, 196, rfl⟩
abbrev main_call0_v165 : Ref sig .tc := ⟨.hbm, 197, rfl⟩
abbrev main_call0_v166 : Ref sig .tc := ⟨.hbm, 198, rfl⟩
abbrev main_call0_v167 : Ref sig .tc := ⟨.hbm, 199, rfl⟩
abbrev main_call0_v168 : Ref sig .tc := ⟨.hbm, 200, rfl⟩
abbrev main_call0_v169 : Ref sig .tc := ⟨.hbm, 201, rfl⟩
abbrev main_call0_v170 : Ref sig .tc := ⟨.hbm, 202, rfl⟩
abbrev main_call0_v171 : Ref sig .tc := ⟨.hbm, 203, rfl⟩
abbrev main_call0_cst_16 : Ref sig .tc := ⟨.hbm, 204, rfl⟩
abbrev main_call0_v172 : Ref sig .tc := ⟨.hbm, 205, rfl⟩
abbrev main_call0_cst_17 : Ref sig .tc := ⟨.hbm, 206, rfl⟩
abbrev main_call0_v173 : Ref sig .tc := ⟨.hbm, 207, rfl⟩
abbrev main_call0_v174 : Ref sig .tc := ⟨.hbm, 208, rfl⟩
abbrev main_call0_v175 : Ref sig .tc := ⟨.hbm, 209, rfl⟩
abbrev main_call0_v176 : Ref sig .tc := ⟨.hbm, 210, rfl⟩
abbrev main_call0_v177 : Ref sig .tc := ⟨.hbm, 211, rfl⟩
abbrev main_call0_v178 : Ref sig .tc := ⟨.hbm, 212, rfl⟩
abbrev main_call0_v179 : Ref sig .tc := ⟨.hbm, 213, rfl⟩
abbrev main_call0_v180 : Ref sig .tc := ⟨.hbm, 214, rfl⟩
abbrev main_call0_v181 : Ref sig .tc := ⟨.hbm, 215, rfl⟩
abbrev main_call0_v182 : Ref sig .tc := ⟨.hbm, 216, rfl⟩
abbrev main_call0_v183 : Ref sig .tc := ⟨.hbm, 217, rfl⟩
abbrev main_call0_v184 : Ref sig .tc := ⟨.hbm, 218, rfl⟩
abbrev main_call0_v185 : Ref sig .tc := ⟨.hbm, 219, rfl⟩
abbrev main_call0_v186 : Ref sig .tc := ⟨.hbm, 220, rfl⟩
abbrev main_call0_c_18 : Ref sig .tc := ⟨.hbm, 221, rfl⟩
abbrev main_call0_v187 : Ref sig .tc := ⟨.hbm, 222, rfl⟩
abbrev main_call0_v188 : Ref sig .tc := ⟨.hbm, 223, rfl⟩
abbrev main_call0_c_19 : Ref sig .tc := ⟨.hbm, 224, rfl⟩
abbrev main_call0_v189 : Ref sig .tc := ⟨.hbm, 225, rfl⟩
abbrev main_call0_v190 : Ref sig .tc := ⟨.hbm, 226, rfl⟩
abbrev main_call0_v191 : Ref sig .tc := ⟨.hbm, 227, rfl⟩
abbrev main_call0_v192 : Ref sig .tc := ⟨.hbm, 228, rfl⟩
abbrev main_call0_v193 : Ref sig .tc := ⟨.hbm, 229, rfl⟩
abbrev main_call0_v194 : Ref sig .tc := ⟨.hbm, 230, rfl⟩
abbrev main_call0_v195 : Ref sig .tc := ⟨.hbm, 231, rfl⟩
abbrev main_call0_v196 : Ref sig .tc := ⟨.hbm, 232, rfl⟩
abbrev main_call0_v197 : Ref sig .tc := ⟨.hbm, 233, rfl⟩
abbrev main_call0_v198 : Ref sig .tc := ⟨.hbm, 234, rfl⟩
abbrev main_call0_v199 : Ref sig .tc := ⟨.hbm, 235, rfl⟩
abbrev main_call0_v200 : Ref sig .tc := ⟨.hbm, 236, rfl⟩
abbrev main_call0_v201 : Ref sig .tc := ⟨.hbm, 237, rfl⟩
abbrev main_call0_v202 : Ref sig .tc := ⟨.hbm, 238, rfl⟩
abbrev main_call0_v203 : Ref sig .tc := ⟨.hbm, 239, rfl⟩
abbrev main_call0_cst_20 : Ref sig .tc := ⟨.hbm, 240, rfl⟩
abbrev main_call0_v204 : Ref sig .tc := ⟨.hbm, 241, rfl⟩
abbrev main_call0_v205 : Ref sig .tc := ⟨.hbm, 242, rfl⟩
abbrev main_call0_v206 : Ref sig .tc := ⟨.hbm, 243, rfl⟩
abbrev main_call0_v207 : Ref sig .tc := ⟨.hbm, 244, rfl⟩
abbrev main_call0_v208 : Ref sig .tc := ⟨.hbm, 245, rfl⟩
abbrev main_call0_v209 : Ref sig .tc := ⟨.hbm, 246, rfl⟩
abbrev main_call0_v210 : Ref sig .tc := ⟨.hbm, 247, rfl⟩
abbrev main_call0_v211 : Ref sig .tc := ⟨.hbm, 248, rfl⟩
abbrev main_call0_v212 : Ref sig .tc := ⟨.hbm, 249, rfl⟩
abbrev main_call0_v213 : Ref sig .tc := ⟨.hbm, 250, rfl⟩
abbrev main_call0_v214 : Ref sig .tc := ⟨.hbm, 251, rfl⟩
abbrev main_call0_v215 : Ref sig .tc := ⟨.hbm, 252, rfl⟩
abbrev main_call0_v216 : Ref sig .tc := ⟨.hbm, 253, rfl⟩
abbrev main_call0_v217 : Ref sig .tc := ⟨.hbm, 254, rfl⟩
abbrev main_call0_v218 : Ref sig .tc := ⟨.hbm, 255, rfl⟩
abbrev main_call0_v219 : Ref sig .tc := ⟨.hbm, 256, rfl⟩
abbrev main_call0_cst_21 : Ref sig .tc := ⟨.hbm, 257, rfl⟩
abbrev main_call0_v220 : Ref sig .tc := ⟨.hbm, 258, rfl⟩
abbrev main_call0_cst_22 : Ref sig .tc := ⟨.hbm, 259, rfl⟩
abbrev main_call0_v221 : Ref sig .tc := ⟨.hbm, 260, rfl⟩
abbrev main_call0_v222 : Ref sig .tc := ⟨.hbm, 261, rfl⟩
abbrev main_call0_v223 : Ref sig .tc := ⟨.hbm, 262, rfl⟩
abbrev main_call0_v224 : Ref sig .tc := ⟨.hbm, 263, rfl⟩
abbrev main_call0_v225 : Ref sig .tc := ⟨.hbm, 264, rfl⟩
abbrev main_call0_v226 : Ref sig .tc := ⟨.hbm, 265, rfl⟩
abbrev main_call0_v227 : Ref sig .tc := ⟨.hbm, 266, rfl⟩
abbrev main_call0_c_23 : Ref sig .tc := ⟨.hbm, 267, rfl⟩
abbrev main_call0_v228 : Ref sig .tc := ⟨.hbm, 268, rfl⟩
abbrev main_call0_v229 : Ref sig .tc := ⟨.hbm, 269, rfl⟩
abbrev main_call0_c_24 : Ref sig .tc := ⟨.hbm, 270, rfl⟩
abbrev main_call0_v230 : Ref sig .tc := ⟨.hbm, 271, rfl⟩
abbrev main_call0_v231 : Ref sig .tc := ⟨.hbm, 272, rfl⟩
abbrev main_call0_v232 : Ref sig .tc := ⟨.hbm, 273, rfl⟩
abbrev main_call0_v233 : Ref sig .tc := ⟨.hbm, 274, rfl⟩
abbrev main_call0_v234 : Ref sig .tc := ⟨.hbm, 275, rfl⟩
abbrev main_call0_v235 : Ref sig .tc := ⟨.hbm, 276, rfl⟩
abbrev main_call0_v236 : Ref sig .tc := ⟨.hbm, 277, rfl⟩
abbrev main_call0_v237 : Ref sig .tc := ⟨.hbm, 278, rfl⟩
abbrev main_call0_v238 : Ref sig .tc := ⟨.hbm, 279, rfl⟩
abbrev main_call0_v239 : Ref sig .tc := ⟨.hbm, 280, rfl⟩
abbrev main_call0_v240 : Ref sig .tc := ⟨.hbm, 281, rfl⟩
abbrev main_call0_v241 : Ref sig .tc := ⟨.hbm, 282, rfl⟩
abbrev main_call0_v242 : Ref sig .tc := ⟨.hbm, 283, rfl⟩
abbrev main_call0_v243 : Ref sig .tc := ⟨.hbm, 284, rfl⟩
abbrev main_call0_v244 : Ref sig .tc := ⟨.hbm, 285, rfl⟩
abbrev main_call0_cst_25 : Ref sig .tc := ⟨.hbm, 286, rfl⟩
abbrev main_call0_v245 : Ref sig .tc := ⟨.hbm, 287, rfl⟩
abbrev main_call0_v246 : Ref sig .tc := ⟨.hbm, 288, rfl⟩
abbrev main_call0_v247 : Ref sig .tc := ⟨.hbm, 289, rfl⟩
abbrev main_call0_v248 : Ref sig .tc := ⟨.hbm, 290, rfl⟩
abbrev main_call0_v249 : Ref sig .tc := ⟨.hbm, 291, rfl⟩
abbrev main_call0_v250 : Ref sig .tc := ⟨.hbm, 292, rfl⟩
abbrev main_call0_v251 : Ref sig .tc := ⟨.hbm, 293, rfl⟩
abbrev main_call0_v252 : Ref sig .tc := ⟨.hbm, 294, rfl⟩
abbrev main_call0_v253 : Ref sig .tc := ⟨.hbm, 295, rfl⟩
abbrev main_call0_v254 : Ref sig .tc := ⟨.hbm, 296, rfl⟩
abbrev main_call0_v255 : Ref sig .tc := ⟨.hbm, 297, rfl⟩
abbrev main_call0_v256 : Ref sig .tc := ⟨.hbm, 298, rfl⟩
abbrev main_call0_v257 : Ref sig .tc := ⟨.hbm, 299, rfl⟩
abbrev main_call0_v258 : Ref sig .tc := ⟨.hbm, 300, rfl⟩
abbrev main_call0_v259 : Ref sig .tc := ⟨.hbm, 301, rfl⟩
abbrev main_call0_v260 : Ref sig .tc := ⟨.hbm, 302, rfl⟩
abbrev main_call0_cst_26 : Ref sig .tc := ⟨.hbm, 303, rfl⟩
abbrev main_call0_v261 : Ref sig .tc := ⟨.hbm, 304, rfl⟩
abbrev main_call0_cst_27 : Ref sig .tc := ⟨.hbm, 305, rfl⟩
abbrev main_call0_v262 : Ref sig .tc := ⟨.hbm, 306, rfl⟩
abbrev main_call0_v263 : Ref sig .tc := ⟨.hbm, 307, rfl⟩
abbrev main_call0_v264 : Ref sig .tc := ⟨.hbm, 308, rfl⟩
abbrev main_call0_v265 : Ref sig .tc := ⟨.hbm, 309, rfl⟩
abbrev main_call0_v266 : Ref sig .tc := ⟨.hbm, 310, rfl⟩
abbrev main_call0_v267 : Ref sig .tc := ⟨.hbm, 311, rfl⟩
abbrev main_call0_v268 : Ref sig .tc := ⟨.hbm, 312, rfl⟩
abbrev main_call0_v269 : Ref sig .tc := ⟨.hbm, 313, rfl⟩
abbrev main_call0_v270 : Ref sig .tc := ⟨.hbm, 314, rfl⟩
abbrev main_call0_v271 : Ref sig .tc := ⟨.hbm, 315, rfl⟩
abbrev main_call0_v272 : Ref sig .tc := ⟨.hbm, 316, rfl⟩
abbrev main_call0_v273 : Ref sig .tc := ⟨.hbm, 317, rfl⟩
abbrev main_call0_v274 : Ref sig .tc := ⟨.hbm, 318, rfl⟩
abbrev main_call0_v275 : Ref sig .tc := ⟨.hbm, 319, rfl⟩
abbrev main_call0_c_28 : Ref sig .tc := ⟨.hbm, 320, rfl⟩
abbrev main_call0_v276 : Ref sig .tc := ⟨.hbm, 321, rfl⟩
abbrev main_call0_v277 : Ref sig .tc := ⟨.hbm, 322, rfl⟩
abbrev main_call0_c_29 : Ref sig .tc := ⟨.hbm, 323, rfl⟩
abbrev main_call0_v278 : Ref sig .tc := ⟨.hbm, 324, rfl⟩
abbrev main_call0_v279 : Ref sig .tc := ⟨.hbm, 325, rfl⟩
abbrev main_call0_v280 : Ref sig .tc := ⟨.hbm, 326, rfl⟩
abbrev main_call0_v281 : Ref sig .tc := ⟨.hbm, 327, rfl⟩
abbrev main_call0_v282 : Ref sig .tc := ⟨.hbm, 328, rfl⟩
abbrev main_call0_v283 : Ref sig .tc := ⟨.hbm, 329, rfl⟩
abbrev main_call0_v284 : Ref sig .tc := ⟨.hbm, 330, rfl⟩
abbrev main_call0_v285 : Ref sig .tc := ⟨.hbm, 331, rfl⟩
abbrev main_call0_v286 : Ref sig .tc := ⟨.hbm, 332, rfl⟩
abbrev main_call0_v287 : Ref sig .tc := ⟨.hbm, 333, rfl⟩
abbrev main_call0_v288 : Ref sig .tc := ⟨.hbm, 334, rfl⟩
abbrev main_call0_v289 : Ref sig .tc := ⟨.hbm, 335, rfl⟩
abbrev main_call0_v290 : Ref sig .tc := ⟨.hbm, 336, rfl⟩
abbrev main_call0_v291 : Ref sig .tc := ⟨.hbm, 337, rfl⟩
abbrev main_call0_v292 : Ref sig .tc := ⟨.hbm, 338, rfl⟩
abbrev main_call0_cst_30 : Ref sig .tc := ⟨.hbm, 339, rfl⟩
abbrev main_call0_v293 : Ref sig .tc := ⟨.hbm, 340, rfl⟩
abbrev main_call0_v294 : Ref sig .tc := ⟨.hbm, 341, rfl⟩
abbrev main_call0_v295 : Ref sig .tc := ⟨.hbm, 342, rfl⟩
abbrev main_call0_v296 : Ref sig .tc := ⟨.hbm, 343, rfl⟩
abbrev main_call0_v297 : Ref sig .tc := ⟨.hbm, 344, rfl⟩
abbrev main_call0_v298 : Ref sig .tc := ⟨.hbm, 345, rfl⟩
abbrev main_call0_v299 : Ref sig .tc := ⟨.hbm, 346, rfl⟩
abbrev main_call0_v300 : Ref sig .tc := ⟨.hbm, 347, rfl⟩
abbrev main_call0_v301 : Ref sig .tc := ⟨.hbm, 348, rfl⟩
abbrev main_call0_v302 : Ref sig .tc := ⟨.hbm, 349, rfl⟩
abbrev main_call0_v303 : Ref sig .tc := ⟨.hbm, 350, rfl⟩
abbrev main_call0_v304 : Ref sig .tc := ⟨.hbm, 351, rfl⟩
abbrev main_call0_v305 : Ref sig .tc := ⟨.hbm, 352, rfl⟩
abbrev main_call0_v306 : Ref sig .tc := ⟨.hbm, 353, rfl⟩
abbrev main_call0_v307 : Ref sig .tc := ⟨.hbm, 354, rfl⟩
abbrev main_call0_v308 : Ref sig .tc := ⟨.hbm, 355, rfl⟩
abbrev main_call0_cst_31 : Ref sig .tc := ⟨.hbm, 356, rfl⟩
abbrev main_call0_v309 : Ref sig .tc := ⟨.hbm, 357, rfl⟩
abbrev main_call0_cst_32 : Ref sig .tc := ⟨.hbm, 358, rfl⟩
abbrev main_call0_v310 : Ref sig .tc := ⟨.hbm, 359, rfl⟩
abbrev main_call0_v311 : Ref sig .tc := ⟨.hbm, 360, rfl⟩
abbrev main_call0_v312 : Ref sig .tc := ⟨.hbm, 361, rfl⟩
abbrev main_call0_v313 : Ref sig .tc := ⟨.hbm, 362, rfl⟩
abbrev main_call0_v314 : Ref sig .tc := ⟨.hbm, 363, rfl⟩
abbrev main_call0_v315 : Ref sig .tc := ⟨.hbm, 364, rfl⟩
abbrev main_call0_v316 : Ref sig .tc := ⟨.hbm, 365, rfl⟩
abbrev main_call0_c_33 : Ref sig .tc := ⟨.hbm, 366, rfl⟩
abbrev main_call0_v317 : Ref sig .tc := ⟨.hbm, 367, rfl⟩
abbrev main_call0_v318 : Ref sig .tc := ⟨.hbm, 368, rfl⟩
abbrev main_call0_c_34 : Ref sig .tc := ⟨.hbm, 369, rfl⟩
abbrev main_call0_v319 : Ref sig .tc := ⟨.hbm, 370, rfl⟩
abbrev main_call0_v320 : Ref sig .tc := ⟨.hbm, 371, rfl⟩
abbrev main_call0_v321 : Ref sig .tc := ⟨.hbm, 372, rfl⟩
abbrev main_call0_v322 : Ref sig .tc := ⟨.hbm, 373, rfl⟩
abbrev main_call0_v323 : Ref sig .tc := ⟨.hbm, 374, rfl⟩
abbrev main_call0_v324 : Ref sig .tc := ⟨.hbm, 375, rfl⟩
abbrev main_call0_v325 : Ref sig .tc := ⟨.hbm, 376, rfl⟩
abbrev main_call0_v326 : Ref sig .tc := ⟨.hbm, 377, rfl⟩
abbrev main_call0_v327 : Ref sig .tc := ⟨.hbm, 378, rfl⟩
abbrev main_call0_v328 : Ref sig .tc := ⟨.hbm, 379, rfl⟩
abbrev main_call0_v329 : Ref sig .tc := ⟨.hbm, 380, rfl⟩
abbrev main_call0_v330 : Ref sig .tc := ⟨.hbm, 381, rfl⟩
abbrev main_call0_v331 : Ref sig .tc := ⟨.hbm, 382, rfl⟩
abbrev main_call0_v332 : Ref sig .tc := ⟨.hbm, 383, rfl⟩
abbrev main_call0_v333 : Ref sig .tc := ⟨.hbm, 384, rfl⟩
abbrev main_call0_cst_35 : Ref sig .tc := ⟨.hbm, 385, rfl⟩
abbrev main_call0_v334 : Ref sig .tc := ⟨.hbm, 386, rfl⟩
abbrev main_call0_v335 : Ref sig .tc := ⟨.hbm, 387, rfl⟩
abbrev main_call0_v336 : Ref sig .tc := ⟨.hbm, 388, rfl⟩
abbrev main_call0_v337 : Ref sig .tc := ⟨.hbm, 389, rfl⟩
abbrev main_call0_v338 : Ref sig .tc := ⟨.hbm, 390, rfl⟩
abbrev main_call0_v339 : Ref sig .tc := ⟨.hbm, 391, rfl⟩
abbrev main_call0_v340 : Ref sig .tc := ⟨.hbm, 392, rfl⟩
abbrev main_call0_v341 : Ref sig .tc := ⟨.hbm, 393, rfl⟩
abbrev main_call0_v342 : Ref sig .tc := ⟨.hbm, 394, rfl⟩
abbrev main_call0_v343 : Ref sig .tc := ⟨.hbm, 395, rfl⟩
abbrev main_call0_v344 : Ref sig .tc := ⟨.hbm, 396, rfl⟩
abbrev main_call0_v345 : Ref sig .tc := ⟨.hbm, 397, rfl⟩
abbrev main_call0_v346 : Ref sig .tc := ⟨.hbm, 398, rfl⟩
abbrev main_call0_v347 : Ref sig .tc := ⟨.hbm, 399, rfl⟩
abbrev main_call0_v348 : Ref sig .tc := ⟨.hbm, 400, rfl⟩
abbrev main_call0_v349 : Ref sig .tc := ⟨.hbm, 401, rfl⟩
abbrev main_call0_cst_36 : Ref sig .tc := ⟨.hbm, 402, rfl⟩
abbrev main_call0_v350 : Ref sig .tc := ⟨.hbm, 403, rfl⟩
abbrev main_call0_cst_37 : Ref sig .tc := ⟨.hbm, 404, rfl⟩
abbrev main_call0_v351 : Ref sig .tc := ⟨.hbm, 405, rfl⟩
abbrev main_call0_v352 : Ref sig .tc := ⟨.hbm, 406, rfl⟩
abbrev main_call0_v353 : Ref sig .tc := ⟨.hbm, 407, rfl⟩
abbrev main_call0_v354 : Ref sig .tc := ⟨.hbm, 408, rfl⟩
abbrev main_call0_v355 : Ref sig .tc := ⟨.hbm, 409, rfl⟩
abbrev main_call0_v356 : Ref sig .tc := ⟨.hbm, 410, rfl⟩
abbrev main_call0_v357 : Ref sig .tc := ⟨.hbm, 411, rfl⟩
abbrev main_call0_v358 : Ref sig .tc := ⟨.hbm, 412, rfl⟩
abbrev main_call0_v359 : Ref sig .tc := ⟨.hbm, 413, rfl⟩
abbrev main_call0_v360 : Ref sig .tc := ⟨.hbm, 414, rfl⟩
abbrev main_call0_v361 : Ref sig .tc := ⟨.hbm, 415, rfl⟩
abbrev main_call0_v362 : Ref sig .tc := ⟨.hbm, 416, rfl⟩
abbrev main_call0_v363 : Ref sig .tc := ⟨.hbm, 417, rfl⟩
abbrev main_call0_v364 : Ref sig .tc := ⟨.hbm, 418, rfl⟩
abbrev main_v0 : Ref sig .tc := ⟨.hbm, 419, rfl⟩
abbrev main_arg4 : Ref sig .tc := ⟨.smem, 0, rfl⟩
abbrev main_arg5 : Ref sig .tc := ⟨.smem, 1, rfl⟩
abbrev main_arg6 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![2, 256], ![false, false]⟩

abbrev pre0 : Pipeline.Prefetch sig := ⟨3, ![main_arg4.idx, main_arg5.idx, main_arg6.idx], fun | 0 => main_arg4.names | 1 => main_arg5.names | 2 => main_arg6.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_1 : BitVec 32 := 0#32
  let v7 : BitVec 1 := Scalar.cmpi .ne v6 c0_i32_1
  v7

def k0_off1 (i : grid0.Coords) : Fin 1 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let v120 : Index := Scalar.indexCast v1
  ![v120.toNat]
def k0_off2 (i : grid0.Coords) : Fin 2 → Nat :=
  let c0_89 : Index := 0#32
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let v122 : Index := Scalar.indexCast v1
  ![0, v122.toNat]
def k0_mult1 (v125 : BitVec 32) : BitVec 32 :=
  v125

def k0_off3 (v121 : BitVec 32) (v123 : BitVec 32) (v125 : BitVec 32) : Fin 4 → Nat :=
  let v126 : BitVec 32 := v125
  let c0_i32_97 : BitVec 32 := 0#32
  ![v121.toNat, v123.toNat, v126.toNat, 0]

def k0_chk1 (i : grid0.Coords) (v121 : BitVec 32) (v123 : BitVec 32) (v125 : BitVec 32) : Prop :=
  (∀ (k0_h1 : k0_cond1 i = 1#1), 8 ∣ (k0_mult1 v125).toNat) ∧
  (∀ (k0_h1 : k0_cond1 i = 1#1), ∀ a, (k0_off3 v121 v123 v125) a + S1x56x64x256.size a ≤ S2x256x256x256.size a)
theorem k0_mult1_dvd : ∀ (i : grid0.Coords) (v121 : BitVec 32) (v123 : BitVec 32) (v125 : BitVec 32) (k0_hw1 : k0_chk1 i v121 v123 v125), ∀ (k0_h1 : k0_cond1 i = 1#1), 8 ∣ (k0_mult1 v125).toNat := fun i v121 v123 v125 k0_hw1 k0_h1 => k0_hw1.1 k0_h1
theorem k0_off3_inb : ∀ (i : grid0.Coords) (v121 : BitVec 32) (v123 : BitVec 32) (v125 : BitVec 32) (k0_hw1 : k0_chk1 i v121 v123 v125), ∀ (k0_h1 : k0_cond1 i = 1#1), ∀ a, (k0_off3 v121 v123 v125) a + S1x56x64x256.size a ≤ S2x256x256x256.size a := fun i v121 v123 v125 k0_hw1 k0_h1 => k0_hw1.2 k0_h1

def k0_off4 (i : grid0.Coords) : Fin 2 → Nat :=
  let c1_98 : Index := 1#32
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let v133 : Index := Scalar.indexCast v1
  ![1, v133.toNat]
def k0_mult2 (v136 : BitVec 32) : BitVec 32 :=
  v136

def k0_off5 (v121 : BitVec 32) (v134 : BitVec 32) (v136 : BitVec 32) : Fin 4 → Nat :=
  let v137 : BitVec 32 := v136
  let c0_i32_106 : BitVec 32 := 0#32
  ![v121.toNat, v134.toNat, v137.toNat, 0]

def k0_chk2 (i : grid0.Coords) (v121 : BitVec 32) (v134 : BitVec 32) (v136 : BitVec 32) : Prop :=
  (∀ (k0_h1 : k0_cond1 i = 1#1), 8 ∣ (k0_mult2 v136).toNat) ∧
  (∀ (k0_h1 : k0_cond1 i = 1#1), ∀ a, (k0_off5 v121 v134 v136) a + S1x32x40x256.size a ≤ S2x128x128x256.size a)
theorem k0_mult2_dvd : ∀ (i : grid0.Coords) (v121 : BitVec 32) (v134 : BitVec 32) (v136 : BitVec 32) (k0_hw2 : k0_chk2 i v121 v134 v136), ∀ (k0_h1 : k0_cond1 i = 1#1), 8 ∣ (k0_mult2 v136).toNat := fun i v121 v134 v136 k0_hw2 k0_h1 => k0_hw2.1 k0_h1
theorem k0_off5_inb : ∀ (i : grid0.Coords) (v121 : BitVec 32) (v134 : BitVec 32) (v136 : BitVec 32) (k0_hw2 : k0_chk2 i v121 v134 v136), ∀ (k0_h1 : k0_cond1 i = 1#1), ∀ a, (k0_off5 v121 v134 v136) a + S1x32x40x256.size a ≤ S2x128x128x256.size a := fun i v121 v134 v136 k0_hw2 k0_h1 => k0_hw2.2 k0_h1

def k0_off6 (i : grid0.Coords) : Fin 2 → Nat :=
  let c2_107 : Index := 2#32
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let v144 : Index := Scalar.indexCast v1
  ![2, v144.toNat]
def k0_mult3 (v147 : BitVec 32) : BitVec 32 :=
  v147

def k0_off7 (v121 : BitVec 32) (v145 : BitVec 32) (v147 : BitVec 32) : Fin 4 → Nat :=
  let v148 : BitVec 32 := v147
  let c0_i32_115 : BitVec 32 := 0#32
  ![v121.toNat, v145.toNat, v148.toNat, 0]

def k0_chk3 (i : grid0.Coords) (v121 : BitVec 32) (v145 : BitVec 32) (v147 : BitVec 32) : Prop :=
  (∀ (k0_h1 : k0_cond1 i = 1#1), 8 ∣ (k0_mult3 v147).toNat) ∧
  (∀ (k0_h1 : k0_cond1 i = 1#1), ∀ a, (k0_off7 v121 v145 v147) a + S1x16x24x256.size a ≤ S2x64x64x256.size a)
theorem k0_mult3_dvd : ∀ (i : grid0.Coords) (v121 : BitVec 32) (v145 : BitVec 32) (v147 : BitVec 32) (k0_hw3 : k0_chk3 i v121 v145 v147), ∀ (k0_h1 : k0_cond1 i = 1#1), 8 ∣ (k0_mult3 v147).toNat := fun i v121 v145 v147 k0_hw3 k0_h1 => k0_hw3.1 k0_h1
theorem k0_off7_inb : ∀ (i : grid0.Coords) (v121 : BitVec 32) (v145 : BitVec 32) (v147 : BitVec 32) (k0_hw3 : k0_chk3 i v121 v145 v147), ∀ (k0_h1 : k0_cond1 i = 1#1), ∀ a, (k0_off7 v121 v145 v147) a + S1x16x24x256.size a ≤ S2x64x64x256.size a := fun i v121 v145 v147 k0_hw3 k0_h1 => k0_hw3.2 k0_h1

def k0_off8 (i : grid0.Coords) : Fin 2 → Nat :=
  let c3_116 : Index := 3#32
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let v155 : Index := Scalar.indexCast v1
  ![3, v155.toNat]
def k0_mult4 (v158 : BitVec 32) : BitVec 32 :=
  v158

def k0_off9 (v121 : BitVec 32) (v156 : BitVec 32) (v158 : BitVec 32) : Fin 4 → Nat :=
  let v159 : BitVec 32 := v158
  let c0_i32_124 : BitVec 32 := 0#32
  ![v121.toNat, v156.toNat, v159.toNat, 0]

def k0_chk4 (i : grid0.Coords) (v121 : BitVec 32) (v156 : BitVec 32) (v158 : BitVec 32) : Prop :=
  (∀ (k0_h1 : k0_cond1 i = 1#1), 8 ∣ (k0_mult4 v158).toNat) ∧
  (∀ (k0_h1 : k0_cond1 i = 1#1), ∀ a, (k0_off9 v121 v156 v158) a + S1x16x16x256.size a ≤ S2x32x32x256.size a)
theorem k0_mult4_dvd : ∀ (i : grid0.Coords) (v121 : BitVec 32) (v156 : BitVec 32) (v158 : BitVec 32) (k0_hw4 : k0_chk4 i v121 v156 v158), ∀ (k0_h1 : k0_cond1 i = 1#1), 8 ∣ (k0_mult4 v158).toNat := fun i v121 v156 v158 k0_hw4 k0_h1 => k0_hw4.1 k0_h1
theorem k0_off9_inb : ∀ (i : grid0.Coords) (v121 : BitVec 32) (v156 : BitVec 32) (v158 : BitVec 32) (k0_hw4 : k0_chk4 i v121 v156 v158), ∀ (k0_h1 : k0_cond1 i = 1#1), ∀ a, (k0_off9 v121 v156 v158) a + S1x16x16x256.size a ≤ S2x32x32x256.size a := fun i v121 v156 v158 k0_hw4 k0_h1 => k0_hw4.2 k0_h1

def k0_cond2 (i : grid0.Coords) : BitVec 1 :=
  let arg1 : BitVec 32 := BitVec.ofNat 32 (i 1).val
  let c1_i32_2 : BitVec 32 := 1#32
  let v8 : BitVec 32 := Scalar.addi arg1 c1_i32_2
  let c256_i32_3 : BitVec 32 := 256#32
  let v9 : BitVec 1 := Scalar.cmpi .slt v8 c256_i32_3
  let v10 : BitVec 32 := Scalar.extui v9
  let c0_i32_4 : BitVec 32 := 0#32
  let v11 : BitVec 1 := Scalar.cmpi .ne v10 c0_i32_4
  v11

def k0_off10 (i : grid0.Coords) : Fin 1 → Nat :=
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_89 : BitVec 32 := 1#32
  let v120 : BitVec 32 := Scalar.addi v1 c1_i32_89
  let v121 : Index := Scalar.indexCast v120
  ![v121.toNat]
def k0_off11 (i : grid0.Coords) : Fin 2 → Nat :=
  let c0_90 : Index := 0#32
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_89 : BitVec 32 := 1#32
  let v120 : BitVec 32 := Scalar.addi v1 c1_i32_89
  let v123 : Index := Scalar.indexCast v120
  ![0, v123.toNat]
def k0_mult5 (v126 : BitVec 32) : BitVec 32 :=
  v126

def k0_off12 (i : grid0.Coords) : Fin 2 → Nat :=
  let arg1 : BitVec 32 := BitVec.ofNat 32 (i 1).val
  let c1_i32 : BitVec 32 := 1#32
  let v3 : BitVec 32 := Scalar.addi arg1 c1_i32
  let c2_i32_0 : BitVec 32 := 2#32
  let v4 : BitVec 32 := Scalar.remsi v3 c2_i32_0
  let c0_i32_92 : BitVec 32 := 0#32
  ![v4.toNat, 0]
def k0_off13 (i : grid0.Coords) : Fin 4 → Nat :=
  let arg1 : BitVec 32 := BitVec.ofNat 32 (i 1).val
  let c1_i32 : BitVec 32 := 1#32
  let v3 : BitVec 32 := Scalar.addi arg1 c1_i32
  let c2_i32_0 : BitVec 32 := 2#32
  let v4 : BitVec 32 := Scalar.remsi v3 c2_i32_0
  let c0_i32_93 : BitVec 32 := 0#32
  let c0_i32_94 : BitVec 32 := 0#32
  let c0_i32_95 : BitVec 32 := 0#32
  ![v4.toNat, 0, 0, 0]
def k0_off14 (v122 : BitVec 32) (v124 : BitVec 32) (v126 : BitVec 32) : Fin 4 → Nat :=
  let v127 : BitVec 32 := v126
  let c0_i32_96 : BitVec 32 := 0#32
  ![v122.toNat, v124.toNat, v127.toNat, 0]

def k0_chk5 (i : grid0.Coords) (v122 : BitVec 32) (v124 : BitVec 32) (v126 : BitVec 32) : Prop :=
  (∀ (k0_h2 : k0_cond2 i = 1#1), 8 ∣ (k0_mult5 v126).toNat) ∧
  (∀ (k0_h2 : k0_cond2 i = 1#1), ∀ a, (k0_off14 v122 v124 v126) a + S1x56x64x256.size a ≤ S2x256x256x256.size a)
theorem k0_mult5_dvd : ∀ (i : grid0.Coords) (v122 : BitVec 32) (v124 : BitVec 32) (v126 : BitVec 32) (k0_hw5 : k0_chk5 i v122 v124 v126), ∀ (k0_h2 : k0_cond2 i = 1#1), 8 ∣ (k0_mult5 v126).toNat := fun i v122 v124 v126 k0_hw5 k0_h2 => k0_hw5.1 k0_h2
theorem k0_off14_inb : ∀ (i : grid0.Coords) (v122 : BitVec 32) (v124 : BitVec 32) (v126 : BitVec 32) (k0_hw5 : k0_chk5 i v122 v124 v126), ∀ (k0_h2 : k0_cond2 i = 1#1), ∀ a, (k0_off14 v122 v124 v126) a + S1x56x64x256.size a ≤ S2x256x256x256.size a := fun i v122 v124 v126 k0_hw5 k0_h2 => k0_hw5.2 k0_h2

def k0_off15 (i : grid0.Coords) : Fin 2 → Nat :=
  let c1_97 : Index := 1#32
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_89 : BitVec 32 := 1#32
  let v120 : BitVec 32 := Scalar.addi v1 c1_i32_89
  let v134 : Index := Scalar.indexCast v120
  ![1, v134.toNat]
def k0_mult6 (v137 : BitVec 32) : BitVec 32 :=
  v137

def k0_off16 (i : grid0.Coords) : Fin 2 → Nat :=
  let arg1 : BitVec 32 := BitVec.ofNat 32 (i 1).val
  let c1_i32 : BitVec 32 := 1#32
  let v3 : BitVec 32 := Scalar.addi arg1 c1_i32
  let c2_i32_0 : BitVec 32 := 2#32
  let v4 : BitVec 32 := Scalar.remsi v3 c2_i32_0
  let c1_i32_99 : BitVec 32 := 1#32
  ![v4.toNat, 1]
def k0_off17 (i : grid0.Coords) : Fin 4 → Nat :=
  let arg1 : BitVec 32 := BitVec.ofNat 32 (i 1).val
  let c1_i32 : BitVec 32 := 1#32
  let v3 : BitVec 32 := Scalar.addi arg1 c1_i32
  let c2_i32_0 : BitVec 32 := 2#32
  let v4 : BitVec 32 := Scalar.remsi v3 c2_i32_0
  let c0_i32_100 : BitVec 32 := 0#32
  let c0_i32_101 : BitVec 32 := 0#32
  let c0_i32_102 : BitVec 32 := 0#32
  ![v4.toNat, 0, 0, 0]
def k0_off18 (v122 : BitVec 32) (v135 : BitVec 32) (v137 : BitVec 32) : Fin 4 → Nat :=
  let v138 : BitVec 32 := v137
  let c0_i32_103 : BitVec 32 := 0#32
  ![v122.toNat, v135.toNat, v138.toNat, 0]

def k0_chk6 (i : grid0.Coords) (v122 : BitVec 32) (v135 : BitVec 32) (v137 : BitVec 32) : Prop :=
  (∀ (k0_h2 : k0_cond2 i = 1#1), 8 ∣ (k0_mult6 v137).toNat) ∧
  (∀ (k0_h2 : k0_cond2 i = 1#1), ∀ a, (k0_off18 v122 v135 v137) a + S1x32x40x256.size a ≤ S2x128x128x256.size a)
theorem k0_mult6_dvd : ∀ (i : grid0.Coords) (v122 : BitVec 32) (v135 : BitVec 32) (v137 : BitVec 32) (k0_hw6 : k0_chk6 i v122 v135 v137), ∀ (k0_h2 : k0_cond2 i = 1#1), 8 ∣ (k0_mult6 v137).toNat := fun i v122 v135 v137 k0_hw6 k0_h2 => k0_hw6.1 k0_h2
theorem k0_off18_inb : ∀ (i : grid0.Coords) (v122 : BitVec 32) (v135 : BitVec 32) (v137 : BitVec 32) (k0_hw6 : k0_chk6 i v122 v135 v137), ∀ (k0_h2 : k0_cond2 i = 1#1), ∀ a, (k0_off18 v122 v135 v137) a + S1x32x40x256.size a ≤ S2x128x128x256.size a := fun i v122 v135 v137 k0_hw6 k0_h2 => k0_hw6.2 k0_h2

def k0_off19 (i : grid0.Coords) : Fin 2 → Nat :=
  let c2_104 : Index := 2#32
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_89 : BitVec 32 := 1#32
  let v120 : BitVec 32 := Scalar.addi v1 c1_i32_89
  let v145 : Index := Scalar.indexCast v120
  ![2, v145.toNat]
def k0_mult7 (v148 : BitVec 32) : BitVec 32 :=
  v148

def k0_off20 (i : grid0.Coords) : Fin 2 → Nat :=
  let arg1 : BitVec 32 := BitVec.ofNat 32 (i 1).val
  let c1_i32 : BitVec 32 := 1#32
  let v3 : BitVec 32 := Scalar.addi arg1 c1_i32
  let c2_i32_0 : BitVec 32 := 2#32
  let v4 : BitVec 32 := Scalar.remsi v3 c2_i32_0
  let c2_i32_106 : BitVec 32 := 2#32
  ![v4.toNat, 2]
def k0_off21 (i : grid0.Coords) : Fin 4 → Nat :=
  let arg1 : BitVec 32 := BitVec.ofNat 32 (i 1).val
  let c1_i32 : BitVec 32 := 1#32
  let v3 : BitVec 32 := Scalar.addi arg1 c1_i32
  let c2_i32_0 : BitVec 32 := 2#32
  let v4 : BitVec 32 := Scalar.remsi v3 c2_i32_0
  let c0_i32_107 : BitVec 32 := 0#32
  let c0_i32_108 : BitVec 32 := 0#32
  let c0_i32_109 : BitVec 32 := 0#32
  ![v4.toNat, 0, 0, 0]
def k0_off22 (v122 : BitVec 32) (v146 : BitVec 32) (v148 : BitVec 32) : Fin 4 → Nat :=
  let v149 : BitVec 32 := v148
  let c0_i32_110 : BitVec 32 := 0#32
  ![v122.toNat, v146.toNat, v149.toNat, 0]

def k0_chk7 (i : grid0.Coords) (v122 : BitVec 32) (v146 : BitVec 32) (v148 : BitVec 32) : Prop :=
  (∀ (k0_h2 : k0_cond2 i = 1#1), 8 ∣ (k0_mult7 v148).toNat) ∧
  (∀ (k0_h2 : k0_cond2 i = 1#1), ∀ a, (k0_off22 v122 v146 v148) a + S1x16x24x256.size a ≤ S2x64x64x256.size a)
theorem k0_mult7_dvd : ∀ (i : grid0.Coords) (v122 : BitVec 32) (v146 : BitVec 32) (v148 : BitVec 32) (k0_hw7 : k0_chk7 i v122 v146 v148), ∀ (k0_h2 : k0_cond2 i = 1#1), 8 ∣ (k0_mult7 v148).toNat := fun i v122 v146 v148 k0_hw7 k0_h2 => k0_hw7.1 k0_h2
theorem k0_off22_inb : ∀ (i : grid0.Coords) (v122 : BitVec 32) (v146 : BitVec 32) (v148 : BitVec 32) (k0_hw7 : k0_chk7 i v122 v146 v148), ∀ (k0_h2 : k0_cond2 i = 1#1), ∀ a, (k0_off22 v122 v146 v148) a + S1x16x24x256.size a ≤ S2x64x64x256.size a := fun i v122 v146 v148 k0_hw7 k0_h2 => k0_hw7.2 k0_h2

def k0_off23 (i : grid0.Coords) : Fin 2 → Nat :=
  let c3_111 : Index := 3#32
  let arg0 : BitVec 32 := BitVec.ofNat 32 (i 0).val
  let c256_i32 : BitVec 32 := 256#32
  let v0 : BitVec 32 := Scalar.muli arg0 c256_i32
  let arg1 : BitVec 32 := BitVec.ofNat 32 (i 1).val
  let v1 : BitVec 32 := Scalar.addi v0 arg1
  let c1_i32_89 : BitVec 32 := 1#32
  let v120 : BitVec 32 := Scalar.addi v1 c1_i32_89
  let v156 : Index := Scalar.indexCast v120
  ![3, v156.toNat]
def k0_mult8 (v159 : BitVec 32) : BitVec 32 :=
  v159

def k0_off24 (i : grid0.Coords) : Fin 2 → Nat :=
  let arg1 : BitVec 32 := BitVec.ofNat 32 (i 1).val
  let c1_i32 : BitVec 32 := 1#32
  let v3 : BitVec 32 := Scalar.addi arg1 c1_i32
  let c2_i32_0 : BitVec 32 := 2#32
  let v4 : BitVec 32 := Scalar.remsi v3 c2_i32_0
  let c3_i32_113 : BitVec 32 := 3#32
  ![v4.toNat, 3]
def k0_off25 (i : grid0.Coords) : Fin 4 → Nat :=
  let arg1 : BitVec 32 := BitVec.ofNat 32 (i 1).val
  let c1_i32 : BitVec 32 := 1#32
  let v3 : BitVec 32 := Scalar.addi arg1 c1_i32
  let c2_i32_0 : BitVec 32 := 2#32
  let v4 : BitVec 32 := Scalar.remsi v3 c2_i32_0
  let c0_i32_114 : BitVec 32 := 0#32
  let c0_i32_115 : BitVec 32 := 0#32
  let c0_i32_116 : BitVec 32 := 0#32
  ![v4.toNat, 0, 0, 0]
def k0_off26 (v122 : BitVec 32) (v157 : BitVec 32) (v159 : BitVec 32) : Fin 4 → Nat :=
  let v160 : BitVec 32 := v159
  let c0_i32_117 : BitVec 32 := 0#32
  ![v122.toNat, v157.toNat, v160.toNat, 0]

def k0_chk8 (i : grid0.Coords) (v122 : BitVec 32) (v157 : BitVec 32) (v159 : BitVec 32) : Prop :=
  (∀ (k0_h2 : k0_cond2 i = 1#1), 8 ∣ (k0_mult8 v159).toNat) ∧
  (∀ (k0_h2 : k0_cond2 i = 1#1), ∀ a, (k0_off26 v122 v157 v159) a + S1x16x16x256.size a ≤ S2x32x32x256.size a)
theorem k0_mult8_dvd : ∀ (i : grid0.Coords) (v122 : BitVec 32) (v157 : BitVec 32) (v159 : BitVec 32) (k0_hw8 : k0_chk8 i v122 v157 v159), ∀ (k0_h2 : k0_cond2 i = 1#1), 8 ∣ (k0_mult8 v159).toNat := fun i v122 v157 v159 k0_hw8 k0_h2 => k0_hw8.1 k0_h2
theorem k0_off26_inb : ∀ (i : grid0.Coords) (v122 : BitVec 32) (v157 : BitVec 32) (v159 : BitVec 32) (k0_hw8 : k0_chk8 i v122 v157 v159), ∀ (k0_h2 : k0_cond2 i = 1#1), ∀ a, (k0_off26 v122 v157 v159) a + S1x16x16x256.size a ≤ S2x32x32x256.size a := fun i v122 v157 v159 k0_hw8 k0_h2 => k0_hw8.2 k0_h2

def k0_off27 (i : grid0.Coords) : Fin 2 → Nat :=
  let arg1 : BitVec 32 := BitVec.ofNat 32 (i 1).val
  let c2_i32 : BitVec 32 := 2#32
  let v2 : BitVec 32 := Scalar.remsi arg1 c2_i32
  let c0_i32_5 : BitVec 32 := 0#32
  ![v2.toNat, 0]
def k0_off28 (i : grid0.Coords) : Fin 4 → Nat :=
  let arg1 : BitVec 32 := BitVec.ofNat 32 (i 1).val
  let c2_i32 : BitVec 32 := 2#32
  let v2 : BitVec 32 := Scalar.remsi arg1 c2_i32
  let c0_i32_6 : BitVec 32 := 0#32
  let c0_i32_7 : BitVec 32 := 0#32
  let c0_i32_8 : BitVec 32 := 0#32
  ![v2.toNat, 0, 0, 0]
def k0_off29 (i : grid0.Coords) : Fin 4 → Nat :=
  let arg1 : BitVec 32 := BitVec.ofNat 32 (i 1).val
  let c2_i32 : BitVec 32 := 2#32
  let v2 : BitVec 32 := Scalar.remsi arg1 c2_i32
  let v28 : Index := Scalar.indexCast v2
  let c0_17 : Index := 0#32
  let c0_18 : Index := 0#32
  let c0_19 : Index := 0#32
  ![v28.toNat, 0, 0, 0]
def k0_off30 (i : grid0.Coords) : Fin 2 → Nat :=
  let arg1 : BitVec 32 := BitVec.ofNat 32 (i 1).val
  let c2_i32 : BitVec 32 := 2#32
  let v2 : BitVec 32 := Scalar.remsi arg1 c2_i32
  let c1_i32_24 : BitVec 32 := 1#32
  ![v2.toNat, 1]
def k0_off31 (i : grid0.Coords) : Fin 4 → Nat :=
  let arg1 : BitVec 32 := BitVec.ofNat 32 (i 1).val
  let c2_i32 : BitVec 32 := 2#32
  let v2 : BitVec 32 := Scalar.remsi arg1 c2_i32
  let c0_i32_25 : BitVec 32 := 0#32
  let c0_i32_26 : BitVec 32 := 0#32
  let c0_i32_27 : BitVec 32 := 0#32
  ![v2.toNat, 0, 0, 0]
def k0_off32 (i : grid0.Coords) : Fin 4 → Nat :=
  let arg1 : BitVec 32 := BitVec.ofNat 32 (i 1).val
  let c2_i32 : BitVec 32 := 2#32
  let v2 : BitVec 32 := Scalar.remsi arg1 c2_i32
  let v52 : Index := Scalar.indexCast v2
  let c0_37 : Index := 0#32
  let c0_38 : Index := 0#32
  let c0_39 : Index := 0#32
  ![v52.toNat, 0, 0, 0]
def k0_off33 (i : grid0.Coords) : Fin 2 → Nat :=
  let arg1 : BitVec 32 := BitVec.ofNat 32 (i 1).val
  let c2_i32 : BitVec 32 := 2#32
  let v2 : BitVec 32 := Scalar.remsi arg1 c2_i32
  let c2_i32_44 : BitVec 32 := 2#32
  ![v2.toNat, 2]
def k0_off34 (i : grid0.Coords) : Fin 4 → Nat :=
  let arg1 : BitVec 32 := BitVec.ofNat 32 (i 1).val
  let c2_i32 : BitVec 32 := 2#32
  let v2 : BitVec 32 := Scalar.remsi arg1 c2_i32
  let c0_i32_45 : BitVec 32 := 0#32
  let c0_i32_46 : BitVec 32 := 0#32
  let c0_i32_47 : BitVec 32 := 0#32
  ![v2.toNat, 0, 0, 0]
def k0_off35 (i : grid0.Coords) : Fin 4 → Nat :=
  let arg1 : BitVec 32 := BitVec.ofNat 32 (i 1).val
  let c2_i32 : BitVec 32 := 2#32
  let v2 : BitVec 32 := Scalar.remsi arg1 c2_i32
  let v77 : Index := Scalar.indexCast v2
  let c0_57 : Index := 0#32
  let c0_58 : Index := 0#32
  let c0_59 : Index := 0#32
  ![v77.toNat, 0, 0, 0]
def k0_off36 (i : grid0.Coords) : Fin 2 → Nat :=
  let arg1 : BitVec 32 := BitVec.ofNat 32 (i 1).val
  let c2_i32 : BitVec 32 := 2#32
  let v2 : BitVec 32 := Scalar.remsi arg1 c2_i32
  let c3_i32 : BitVec 32 := 3#32
  ![v2.toNat, 3]
def k0_off37 (i : grid0.Coords) : Fin 4 → Nat :=
  let arg1 : BitVec 32 := BitVec.ofNat 32 (i 1).val
  let c2_i32 : BitVec 32 := 2#32
  let v2 : BitVec 32 := Scalar.remsi arg1 c2_i32
  let c0_i32_64 : BitVec 32 := 0#32
  let c0_i32_65 : BitVec 32 := 0#32
  let c0_i32_66 : BitVec 32 := 0#32
  ![v2.toNat, 0, 0, 0]
def k0_off38 (i : grid0.Coords) : Fin 4 → Nat :=
  let arg1 : BitVec 32 := BitVec.ofNat 32 (i 1).val
  let c2_i32 : BitVec 32 := 2#32
  let v2 : BitVec 32 := Scalar.remsi arg1 c2_i32
  let v102 : Index := Scalar.indexCast v2
  let c0_76 : Index := 0#32
  let c0_77 : Index := 0#32
  let c0_78 : Index := 0#32
  ![v102.toNat, 0, 0, 0]
def cc0_transform_4 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x56x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x49 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x49 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x40x49 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x49 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x24x49 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x49 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x49 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S4x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x49x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S2x256x256x256 : Shape := ⟨4, ![2, 256, 256, 256]⟩
abbrev S2x256x128x128 : Shape := ⟨4, ![2, 256, 128, 128]⟩
abbrev S2x256x64x64 : Shape := ⟨4, ![2, 256, 64, 64]⟩
abbrev S2x256x32x32 : Shape := ⟨4, ![2, 256, 32, 32]⟩
abbrev S512 : Shape := ⟨1, ![512]⟩
abbrev S4x512 : Shape := ⟨2, ![4, 512]⟩
abbrev S512x14 : Shape := ⟨2, ![512, 14]⟩
abbrev S256x1024 : Shape := ⟨2, ![256, 1024]⟩
abbrev S256 : Shape := ⟨1, ![256]⟩
abbrev S_ : Shape := ⟨0, ![]⟩
abbrev S512x14x1x1 : Shape := ⟨4, ![512, 14, 1, 1]⟩
abbrev S512x1x14x1 : Shape := ⟨4, ![512, 1, 14, 1]⟩
abbrev S512x1x1 : Shape := ⟨3, ![512, 1, 1]⟩
abbrev S512x14x1 : Shape := ⟨3, ![512, 14, 1]⟩
abbrev S512x1x14 : Shape := ⟨3, ![512, 1, 14]⟩
abbrev S512x14x14 : Shape := ⟨3, ![512, 14, 14]⟩
abbrev S512x14x14x1 : Shape := ⟨4, ![512, 14, 14, 1]⟩
abbrev S512x14x14x3 : Shape := ⟨4, ![512, 14, 14, 3]⟩
abbrev S512x14x14x256 : Shape := ⟨4, ![512, 14, 14, 256]⟩
abbrev S512x7x2x7x2x256 : Shape := ⟨6, ![512, 7, 2, 7, 2, 256]⟩
abbrev S512x7x7x256 : Shape := ⟨4, ![512, 7, 7, 256]⟩
abbrev S2x128x128x256 : Shape := ⟨4, ![2, 128, 128, 256]⟩
abbrev S2x64x64x256 : Shape := ⟨4, ![2, 64, 64, 256]⟩
abbrev S2x32x32x256 : Shape := ⟨4, ![2, 32, 32, 256]⟩
abbrev S512x7x7x1024 : Shape := ⟨4, ![512, 7, 7, 1024]⟩
abbrev S256x512x7x7 : Shape := ⟨4, ![256, 512, 7, 7]⟩
abbrev S512x256x7x7 : Shape := ⟨4, ![512, 256, 7, 7]⟩
abbrev S1x256x1x1 : Shape := ⟨4, ![1, 256, 1, 1]⟩

abbrev nBuf : Space → Nat
  | .hbm => 766
  | .vmem => 0
  | .smem => 0
  | _ => 0

abbrev hbmTy0_0 (i : Nat) : BufTy := match i % 128 with
  | 0 => ⟨S2x256x256x256, .f32⟩
  | 1 => ⟨S2x256x128x128, .f32⟩
  | 2 => ⟨S2x256x64x64, .f32⟩
  | 3 => ⟨S2x256x32x32, .f32⟩
  | 4 => ⟨S512, .i32⟩
  | 5 => ⟨S4x512, .i32⟩
  | 6 => ⟨S4x512, .i32⟩
  | 7 => ⟨S512x14, .f32⟩
  | 8 => ⟨S512x14, .f32⟩
  | 9 => ⟨S512x14, .f32⟩
  | 10 => ⟨S512x14, .f32⟩
  | 11 => ⟨S512x14, .f32⟩
  | 12 => ⟨S512x14, .f32⟩
  | 13 => ⟨S512x14, .f32⟩
  | 14 => ⟨S512x14, .f32⟩
  | 15 => ⟨S256x1024, .f32⟩
  | 16 => ⟨S256, .f32⟩
  | 17 => ⟨S2x256x256x256, .f32⟩
  | 18 => ⟨S512x14, .f32⟩
  | 19 => ⟨S512x14, .i32⟩
  | 20 => ⟨S512x14, .f32⟩
  | 21 => ⟨S512x14, .i32⟩
  | 22 => ⟨S_, .i32⟩
  | 23 => ⟨S512x14, .i32⟩
  | 24 => ⟨S512x14, .i32⟩
  | 25 => ⟨S_, .i32⟩
  | 26 => ⟨S512x14, .i32⟩
  | 27 => ⟨S512x14, .i32⟩
  | 28 => ⟨S_, .i32⟩
  | 29 => ⟨S512x14, .i32⟩
  | 30 => ⟨S512x14, .i32⟩
  | 31 => ⟨S_, .i32⟩
  | 32 => ⟨S512x14, .i32⟩
  | 33 => ⟨S512x14, .i32⟩
  | 34 => ⟨S512x14, .f32⟩
  | 35 => ⟨S512x14, .f32⟩
  | 36 => ⟨S512x14x1x1, .f32⟩
  | 37 => ⟨S512x14, .f32⟩
  | 38 => ⟨S512x14, .f32⟩
  | 39 => ⟨S512x1x14x1, .f32⟩
  | 40 => ⟨S512x1x1, .i32⟩
  | 41 => ⟨S512x14x1, .i32⟩
  | 42 => ⟨S512x1x14, .i32⟩
  | 43 => ⟨S_, .i32⟩
  | 44 => ⟨S512x1x1, .i32⟩
  | 45 => ⟨S512x1x1, .i1⟩
  | 46 => ⟨S_, .i32⟩
  | 47 => ⟨S512x1x1, .i32⟩
  | 48 => ⟨S512x1x1, .i32⟩
  | 49 => ⟨S512x1x1, .i32⟩
  | 50 => ⟨S_, .i32⟩
  | 51 => ⟨S512x14x1, .i32⟩
  | 52 => ⟨S512x14x1, .i1⟩
  | 53 => ⟨S_, .i32⟩
  | 54 => ⟨S512x14x1, .i32⟩
  | 55 => ⟨S512x14x1, .i32⟩
  | 56 => ⟨S512x14x1, .i32⟩
  | 57 => ⟨S_, .i32⟩
  | 58 => ⟨S512x1x14, .i32⟩
  | 59 => ⟨S512x1x14, .i1⟩
  | 60 => ⟨S_, .i32⟩
  | 61 => ⟨S512x1x14, .i32⟩
  | 62 => ⟨S512x1x14, .i32⟩
  | 63 => ⟨S512x1x14, .i32⟩
  | 64 => ⟨S512x14x14, .i32⟩
  | 65 => ⟨S512x14x14, .i32⟩
  | 66 => ⟨S512x14x14, .i32⟩
  | 67 => ⟨S512x14x14x1, .i32⟩
  | 68 => ⟨S512x14x14x1, .i32⟩
  | 69 => ⟨S512x14x14x1, .i32⟩
  | 70 => ⟨S512x14x14x3, .i32⟩
  | 71 => ⟨S512x14x14x256, .f32⟩
  | 72 => ⟨S_, .f32⟩
  | 73 => ⟨S512x14x1x1, .f32⟩
  | 74 => ⟨S512x14x1x1, .f32⟩
  | 75 => ⟨S512x14x14x256, .f32⟩
  | 76 => ⟨S512x14x14x256, .f32⟩
  | 77 => ⟨S_, .f32⟩
  | 78 => ⟨S512x1x14x1, .f32⟩
  | 79 => ⟨S512x1x14x1, .f32⟩
  | 80 => ⟨S512x14x14x256, .f32⟩
  | 81 => ⟨S512x14x14x256, .f32⟩
  | 82 => ⟨S512x14x1, .i32⟩
  | 83 => ⟨S512x1x14, .i32⟩
  | 84 => ⟨S_, .i32⟩
  | 85 => ⟨S512x1x1, .i32⟩
  | 86 => ⟨S512x1x1, .i1⟩
  | 87 => ⟨S_, .i32⟩
  | 88 => ⟨S512x1x1, .i32⟩
  | 89 => ⟨S512x1x1, .i32⟩
  | 90 => ⟨S512x1x1, .i32⟩
  | 91 => ⟨S_, .i32⟩
  | 92 => ⟨S512x14x1, .i32⟩
  | 93 => ⟨S512x14x1, .i1⟩
  | 94 => ⟨S_, .i32⟩
  | 95 => ⟨S512x14x1, .i32⟩
  | 96 => ⟨S512x14x1, .i32⟩
  | 97 => ⟨S512x14x1, .i32⟩
  | 98 => ⟨S_, .i32⟩
  | 99 => ⟨S512x1x14, .i32⟩
  | 100 => ⟨S512x1x14, .i1⟩
  | 101 => ⟨S_, .i32⟩
  | 102 => ⟨S512x1x14, .i32⟩
  | 103 => ⟨S512x1x14, .i32⟩
  | 104 => ⟨S512x1x14, .i32⟩
  | 105 => ⟨S512x14x14, .i32⟩
  | 106 => ⟨S512x14x14, .i32⟩
  | 107 => ⟨S512x14x14, .i32⟩
  | 108 => ⟨S512x14x14x1, .i32⟩
  | 109 => ⟨S512x14x14x1, .i32⟩
  | 110 => ⟨S512x14x14x1, .i32⟩
  | 111 => ⟨S512x14x14x3, .i32⟩
  | 112 => ⟨S512x14x14x256, .f32⟩
  | 113 => ⟨S_, .f32⟩
  | 114 => ⟨S512x14x1x1, .f32⟩
  | 115 => ⟨S512x14x1x1, .f32⟩
  | 116 => ⟨S512x14x14x256, .f32⟩
  | 117 => ⟨S512x14x14x256, .f32⟩
  | 118 => ⟨S512x14x14x256, .f32⟩
  | 119 => ⟨S512x14x14x256, .f32⟩
  | 120 => ⟨S512x14x14x256, .f32⟩
  | 121 => ⟨S512x14x1, .i32⟩
  | 122 => ⟨S512x1x14, .i32⟩
  | 123 => ⟨S_, .i32⟩
  | 124 => ⟨S512x1x1, .i32⟩
  | 125 => ⟨S512x1x1, .i1⟩
  | 126 => ⟨S_, .i32⟩
  | 127 => ⟨S512x1x1, .i32⟩
  | _ => ⟨S2x256x256x256, .f32⟩

abbrev hbmTy0_1 (i : Nat) : BufTy := match i % 128 with
  | 0 => ⟨S512x1x1, .i32⟩
  | 1 => ⟨S512x1x1, .i32⟩
  | 2 => ⟨S_, .i32⟩
  | 3 => ⟨S512x14x1, .i32⟩
  | 4 => ⟨S512x14x1, .i1⟩
  | 5 => ⟨S_, .i32⟩
  | 6 => ⟨S512x14x1, .i32⟩
  | 7 => ⟨S512x14x1, .i32⟩
  | 8 => ⟨S512x14x1, .i32⟩
  | 9 => ⟨S_, .i32⟩
  | 10 => ⟨S512x1x14, .i32⟩
  | 11 => ⟨S512x1x14, .i1⟩
  | 12 => ⟨S_, .i32⟩
  | 13 => ⟨S512x1x14, .i32⟩
  | 14 => ⟨S512x1x14, .i32⟩
  | 15 => ⟨S512x1x14, .i32⟩
  | 16 => ⟨S512x14x14, .i32⟩
  | 17 => ⟨S512x14x14, .i32⟩
  | 18 => ⟨S512x14x14, .i32⟩
  | 19 => ⟨S512x14x14x1, .i32⟩
  | 20 => ⟨S512x14x14x1, .i32⟩
  | 21 => ⟨S512x14x14x1, .i32⟩
  | 22 => ⟨S512x14x14x3, .i32⟩
  | 23 => ⟨S512x14x14x256, .f32⟩
  | 24 => ⟨S512x14x14x256, .f32⟩
  | 25 => ⟨S512x14x14x256, .f32⟩
  | 26 => ⟨S_, .f32⟩
  | 27 => ⟨S512x1x14x1, .f32⟩
  | 28 => ⟨S512x1x14x1, .f32⟩
  | 29 => ⟨S512x14x14x256, .f32⟩
  | 30 => ⟨S512x14x14x256, .f32⟩
  | 31 => ⟨S512x14x14x256, .f32⟩
  | 32 => ⟨S512x14x1, .i32⟩
  | 33 => ⟨S512x1x14, .i32⟩
  | 34 => ⟨S_, .i32⟩
  | 35 => ⟨S512x1x1, .i32⟩
  | 36 => ⟨S512x1x1, .i1⟩
  | 37 => ⟨S_, .i32⟩
  | 38 => ⟨S512x1x1, .i32⟩
  | 39 => ⟨S512x1x1, .i32⟩
  | 40 => ⟨S512x1x1, .i32⟩
  | 41 => ⟨S_, .i32⟩
  | 42 => ⟨S512x14x1, .i32⟩
  | 43 => ⟨S512x14x1, .i1⟩
  | 44 => ⟨S_, .i32⟩
  | 45 => ⟨S512x14x1, .i32⟩
  | 46 => ⟨S512x14x1, .i32⟩
  | 47 => ⟨S512x14x1, .i32⟩
  | 48 => ⟨S_, .i32⟩
  | 49 => ⟨S512x1x14, .i32⟩
  | 50 => ⟨S512x1x14, .i1⟩
  | 51 => ⟨S_, .i32⟩
  | 52 => ⟨S512x1x14, .i32⟩
  | 53 => ⟨S512x1x14, .i32⟩
  | 54 => ⟨S512x1x14, .i32⟩
  | 55 => ⟨S512x14x14, .i32⟩
  | 56 => ⟨S512x14x14, .i32⟩
  | 57 => ⟨S512x14x14, .i32⟩
  | 58 => ⟨S512x14x14x1, .i32⟩
  | 59 => ⟨S512x14x14x1, .i32⟩
  | 60 => ⟨S512x14x14x1, .i32⟩
  | 61 => ⟨S512x14x14x3, .i32⟩
  | 62 => ⟨S512x14x14x256, .f32⟩
  | 63 => ⟨S512x14x14x256, .f32⟩
  | 64 => ⟨S512x14x14x256, .f32⟩
  | 65 => ⟨S512x14x14x256, .f32⟩
  | 66 => ⟨S512x14x14x256, .f32⟩
  | 67 => ⟨S512x14x14x256, .f32⟩
  | 68 => ⟨S512x7x2x7x2x256, .f32⟩
  | 69 => ⟨S_, .f32⟩
  | 70 => ⟨S512x7x7x256, .f32⟩
  | 71 => ⟨S_, .f32⟩
  | 72 => ⟨S512x7x7x256, .f32⟩
  | 73 => ⟨S512x7x7x256, .f32⟩
  | 74 => ⟨S2x128x128x256, .f32⟩
  | 75 => ⟨S512x14, .f32⟩
  | 76 => ⟨S512x14, .i32⟩
  | 77 => ⟨S512x14, .f32⟩
  | 78 => ⟨S512x14, .i32⟩
  | 79 => ⟨S_, .i32⟩
  | 80 => ⟨S512x14, .i32⟩
  | 81 => ⟨S512x14, .i32⟩
  | 82 => ⟨S_, .i32⟩
  | 83 => ⟨S512x14, .i32⟩
  | 84 => ⟨S512x14, .i32⟩
  | 85 => ⟨S_, .i32⟩
  | 86 => ⟨S512x14, .i32⟩
  | 87 => ⟨S512x14, .i32⟩
  | 88 => ⟨S_, .i32⟩
  | 89 => ⟨S512x14, .i32⟩
  | 90 => ⟨S512x14, .i32⟩
  | 91 => ⟨S512x14, .f32⟩
  | 92 => ⟨S512x14, .f32⟩
  | 93 => ⟨S512x14x1x1, .f32⟩
  | 94 => ⟨S512x14, .f32⟩
  | 95 => ⟨S512x14, .f32⟩
  | 96 => ⟨S512x1x14x1, .f32⟩
  | 97 => ⟨S512x1x1, .i32⟩
  | 98 => ⟨S512x14x1, .i32⟩
  | 99 => ⟨S512x1x14, .i32⟩
  | 100 => ⟨S_, .i32⟩
  | 101 => ⟨S512x1x1, .i32⟩
  | 102 => ⟨S512x1x1, .i1⟩
  | 103 => ⟨S_, .i32⟩
  | 104 => ⟨S512x1x1, .i32⟩
  | 105 => ⟨S512x1x1, .i32⟩
  | 106 => ⟨S512x1x1, .i32⟩
  | 107 => ⟨S_, .i32⟩
  | 108 => ⟨S512x14x1, .i32⟩
  | 109 => ⟨S512x14x1, .i1⟩
  | 110 => ⟨S_, .i32⟩
  | 111 => ⟨S512x14x1, .i32⟩
  | 112 => ⟨S512x14x1, .i32⟩
  | 113 => ⟨S512x14x1, .i32⟩
  | 114 => ⟨S_, .i32⟩
  | 115 => ⟨S512x1x14, .i32⟩
  | 116 => ⟨S512x1x14, .i1⟩
  | 117 => ⟨S_, .i32⟩
  | 118 => ⟨S512x1x14, .i32⟩
  | 119 => ⟨S512x1x14, .i32⟩
  | 120 => ⟨S512x1x14, .i32⟩
  | 121 => ⟨S512x14x14, .i32⟩
  | 122 => ⟨S512x14x14, .i32⟩
  | 123 => ⟨S512x14x14, .i32⟩
  | 124 => ⟨S512x14x14x1, .i32⟩
  | 125 => ⟨S512x14x14x1, .i32⟩
  | 126 => ⟨S512x14x14x1, .i32⟩
  | 127 => ⟨S512x14x14x3, .i32⟩
  | _ => ⟨S2x256x256x256, .f32⟩

abbrev hbmTy0_2 (i : Nat) : BufTy := match i % 128 with
  | 0 => ⟨S512x14x14x256, .f32⟩
  | 1 => ⟨S_, .f32⟩
  | 2 => ⟨S512x14x1x1, .f32⟩
  | 3 => ⟨S512x14x1x1, .f32⟩
  | 4 => ⟨S512x14x14x256, .f32⟩
  | 5 => ⟨S512x14x14x256, .f32⟩
  | 6 => ⟨S_, .f32⟩
  | 7 => ⟨S512x1x14x1, .f32⟩
  | 8 => ⟨S512x1x14x1, .f32⟩
  | 9 => ⟨S512x14x14x256, .f32⟩
  | 10 => ⟨S512x14x14x256, .f32⟩
  | 11 => ⟨S512x14x1, .i32⟩
  | 12 => ⟨S512x1x14, .i32⟩
  | 13 => ⟨S_, .i32⟩
  | 14 => ⟨S512x1x1, .i32⟩
  | 15 => ⟨S512x1x1, .i1⟩
  | 16 => ⟨S_, .i32⟩
  | 17 => ⟨S512x1x1, .i32⟩
  | 18 => ⟨S512x1x1, .i32⟩
  | 19 => ⟨S512x1x1, .i32⟩
  | 20 => ⟨S_, .i32⟩
  | 21 => ⟨S512x14x1, .i32⟩
  | 22 => ⟨S512x14x1, .i1⟩
  | 23 => ⟨S_, .i32⟩
  | 24 => ⟨S512x14x1, .i32⟩
  | 25 => ⟨S512x14x1, .i32⟩
  | 26 => ⟨S512x14x1, .i32⟩
  | 27 => ⟨S_, .i32⟩
  | 28 => ⟨S512x1x14, .i32⟩
  | 29 => ⟨S512x1x14, .i1⟩
  | 30 => ⟨S_, .i32⟩
  | 31 => ⟨S512x1x14, .i32⟩
  | 32 => ⟨S512x1x14, .i32⟩
  | 33 => ⟨S512x1x14, .i32⟩
  | 34 => ⟨S512x14x14, .i32⟩
  | 35 => ⟨S512x14x14, .i32⟩
  | 36 => ⟨S512x14x14, .i32⟩
  | 37 => ⟨S512x14x14x1, .i32⟩
  | 38 => ⟨S512x14x14x1, .i32⟩
  | 39 => ⟨S512x14x14x1, .i32⟩
  | 40 => ⟨S512x14x14x3, .i32⟩
  | 41 => ⟨S512x14x14x256, .f32⟩
  | 42 => ⟨S_, .f32⟩
  | 43 => ⟨S512x14x1x1, .f32⟩
  | 44 => ⟨S512x14x1x1, .f32⟩
  | 45 => ⟨S512x14x14x256, .f32⟩
  | 46 => ⟨S512x14x14x256, .f32⟩
  | 47 => ⟨S512x14x14x256, .f32⟩
  | 48 => ⟨S512x14x14x256, .f32⟩
  | 49 => ⟨S512x14x14x256, .f32⟩
  | 50 => ⟨S512x14x1, .i32⟩
  | 51 => ⟨S512x1x14, .i32⟩
  | 52 => ⟨S_, .i32⟩
  | 53 => ⟨S512x1x1, .i32⟩
  | 54 => ⟨S512x1x1, .i1⟩
  | 55 => ⟨S_, .i32⟩
  | 56 => ⟨S512x1x1, .i32⟩
  | 57 => ⟨S512x1x1, .i32⟩
  | 58 => ⟨S512x1x1, .i32⟩
  | 59 => ⟨S_, .i32⟩
  | 60 => ⟨S512x14x1, .i32⟩
  | 61 => ⟨S512x14x1, .i1⟩
  | 62 => ⟨S_, .i32⟩
  | 63 => ⟨S512x14x1, .i32⟩
  | 64 => ⟨S512x14x1, .i32⟩
  | 65 => ⟨S512x14x1, .i32⟩
  | 66 => ⟨S_, .i32⟩
  | 67 => ⟨S512x1x14, .i32⟩
  | 68 => ⟨S512x1x14, .i1⟩
  | 69 => ⟨S_, .i32⟩
  | 70 => ⟨S512x1x14, .i32⟩
  | 71 => ⟨S512x1x14, .i32⟩
  | 72 => ⟨S512x1x14, .i32⟩
  | 73 => ⟨S512x14x14, .i32⟩
  | 74 => ⟨S512x14x14, .i32⟩
  | 75 => ⟨S512x14x14, .i32⟩
  | 76 => ⟨S512x14x14x1, .i32⟩
  | 77 => ⟨S512x14x14x1, .i32⟩
  | 78 => ⟨S512x14x14x1, .i32⟩
  | 79 => ⟨S512x14x14x3, .i32⟩
  | 80 => ⟨S512x14x14x256, .f32⟩
  | 81 => ⟨S512x14x14x256, .f32⟩
  | 82 => ⟨S512x14x14x256, .f32⟩
  | 83 => ⟨S_, .f32⟩
  | 84 => ⟨S512x1x14x1, .f32⟩
  | 85 => ⟨S512x1x14x1, .f32⟩
  | 86 => ⟨S512x14x14x256, .f32⟩
  | 87 => ⟨S512x14x14x256, .f32⟩
  | 88 => ⟨S512x14x14x256, .f32⟩
  | 89 => ⟨S512x14x1, .i32⟩
  | 90 => ⟨S512x1x14, .i32⟩
  | 91 => ⟨S_, .i32⟩
  | 92 => ⟨S512x1x1, .i32⟩
  | 93 => ⟨S512x1x1, .i1⟩
  | 94 => ⟨S_, .i32⟩
  | 95 => ⟨S512x1x1, .i32⟩
  | 96 => ⟨S512x1x1, .i32⟩
  | 97 => ⟨S512x1x1, .i32⟩
  | 98 => ⟨S_, .i32⟩
  | 99 => ⟨S512x14x1, .i32⟩
  | 100 => ⟨S512x14x1, .i1⟩
  | 101 => ⟨S_, .i32⟩
  | 102 => ⟨S512x14x1, .i32⟩
  | 103 => ⟨S512x14x1, .i32⟩
  | 104 => ⟨S512x14x1, .i32⟩
  | 105 => ⟨S_, .i32⟩
  | 106 => ⟨S512x1x14, .i32⟩
  | 107 => ⟨S512x1x14, .i1⟩
  | 108 => ⟨S_, .i32⟩
  | 109 => ⟨S512x1x14, .i32⟩
  | 110 => ⟨S512x1x14, .i32⟩
  | 111 => ⟨S512x1x14, .i32⟩
  | 112 => ⟨S512x14x14, .i32⟩
  | 113 => ⟨S512x14x14, .i32⟩
  | 114 => ⟨S512x14x14, .i32⟩
  | 115 => ⟨S512x14x14x1, .i32⟩
  | 116 => ⟨S512x14x14x1, .i32⟩
  | 117 => ⟨S512x14x14x1, .i32⟩
  | 118 => ⟨S512x14x14x3, .i32⟩
  | 119 => ⟨S512x14x14x256, .f32⟩
  | 120 => ⟨S512x14x14x256, .f32⟩
  | 121 => ⟨S512x14x14x256, .f32⟩
  | 122 => ⟨S512x14x14x256, .f32⟩
  | 123 => ⟨S512x14x14x256, .f32⟩
  | 124 => ⟨S512x14x14x256, .f32⟩
  | 125 => ⟨S512x7x2x7x2x256, .f32⟩
  | 126 => ⟨S_, .f32⟩
  | 127 => ⟨S512x7x7x256, .f32⟩
  | _ => ⟨S2x256x256x256, .f32⟩

abbrev hbmTy0_3 (i : Nat) : BufTy := match i % 128 with
  | 0 => ⟨S_, .f32⟩
  | 1 => ⟨S512x7x7x256, .f32⟩
  | 2 => ⟨S512x7x7x256, .f32⟩
  | 3 => ⟨S2x64x64x256, .f32⟩
  | 4 => ⟨S512x14, .f32⟩
  | 5 => ⟨S512x14, .i32⟩
  | 6 => ⟨S512x14, .f32⟩
  | 7 => ⟨S512x14, .i32⟩
  | 8 => ⟨S_, .i32⟩
  | 9 => ⟨S512x14, .i32⟩
  | 10 => ⟨S512x14, .i32⟩
  | 11 => ⟨S_, .i32⟩
  | 12 => ⟨S512x14, .i32⟩
  | 13 => ⟨S512x14, .i32⟩
  | 14 => ⟨S_, .i32⟩
  | 15 => ⟨S512x14, .i32⟩
  | 16 => ⟨S512x14, .i32⟩
  | 17 => ⟨S_, .i32⟩
  | 18 => ⟨S512x14, .i32⟩
  | 19 => ⟨S512x14, .i32⟩
  | 20 => ⟨S512x14, .f32⟩
  | 21 => ⟨S512x14, .f32⟩
  | 22 => ⟨S512x14x1x1, .f32⟩
  | 23 => ⟨S512x14, .f32⟩
  | 24 => ⟨S512x14, .f32⟩
  | 25 => ⟨S512x1x14x1, .f32⟩
  | 26 => ⟨S512x1x1, .i32⟩
  | 27 => ⟨S512x14x1, .i32⟩
  | 28 => ⟨S512x1x14, .i32⟩
  | 29 => ⟨S_, .i32⟩
  | 30 => ⟨S512x1x1, .i32⟩
  | 31 => ⟨S512x1x1, .i1⟩
  | 32 => ⟨S_, .i32⟩
  | 33 => ⟨S512x1x1, .i32⟩
  | 34 => ⟨S512x1x1, .i32⟩
  | 35 => ⟨S512x1x1, .i32⟩
  | 36 => ⟨S_, .i32⟩
  | 37 => ⟨S512x14x1, .i32⟩
  | 38 => ⟨S512x14x1, .i1⟩
  | 39 => ⟨S_, .i32⟩
  | 40 => ⟨S512x14x1, .i32⟩
  | 41 => ⟨S512x14x1, .i32⟩
  | 42 => ⟨S512x14x1, .i32⟩
  | 43 => ⟨S_, .i32⟩
  | 44 => ⟨S512x1x14, .i32⟩
  | 45 => ⟨S512x1x14, .i1⟩
  | 46 => ⟨S_, .i32⟩
  | 47 => ⟨S512x1x14, .i32⟩
  | 48 => ⟨S512x1x14, .i32⟩
  | 49 => ⟨S512x1x14, .i32⟩
  | 50 => ⟨S512x14x14, .i32⟩
  | 51 => ⟨S512x14x14, .i32⟩
  | 52 => ⟨S512x14x14, .i32⟩
  | 53 => ⟨S512x14x14x1, .i32⟩
  | 54 => ⟨S512x14x14x1, .i32⟩
  | 55 => ⟨S512x14x14x1, .i32⟩
  | 56 => ⟨S512x14x14x3, .i32⟩
  | 57 => ⟨S512x14x14x256, .f32⟩
  | 58 => ⟨S_, .f32⟩
  | 59 => ⟨S512x14x1x1, .f32⟩
  | 60 => ⟨S512x14x1x1, .f32⟩
  | 61 => ⟨S512x14x14x256, .f32⟩
  | 62 => ⟨S512x14x14x256, .f32⟩
  | 63 => ⟨S_, .f32⟩
  | 64 => ⟨S512x1x14x1, .f32⟩
  | 65 => ⟨S512x1x14x1, .f32⟩
  | 66 => ⟨S512x14x14x256, .f32⟩
  | 67 => ⟨S512x14x14x256, .f32⟩
  | 68 => ⟨S512x14x1, .i32⟩
  | 69 => ⟨S512x1x14, .i32⟩
  | 70 => ⟨S_, .i32⟩
  | 71 => ⟨S512x1x1, .i32⟩
  | 72 => ⟨S512x1x1, .i1⟩
  | 73 => ⟨S_, .i32⟩
  | 74 => ⟨S512x1x1, .i32⟩
  | 75 => ⟨S512x1x1, .i32⟩
  | 76 => ⟨S512x1x1, .i32⟩
  | 77 => ⟨S_, .i32⟩
  | 78 => ⟨S512x14x1, .i32⟩
  | 79 => ⟨S512x14x1, .i1⟩
  | 80 => ⟨S_, .i32⟩
  | 81 => ⟨S512x14x1, .i32⟩
  | 82 => ⟨S512x14x1, .i32⟩
  | 83 => ⟨S512x14x1, .i32⟩
  | 84 => ⟨S_, .i32⟩
  | 85 => ⟨S512x1x14, .i32⟩
  | 86 => ⟨S512x1x14, .i1⟩
  | 87 => ⟨S_, .i32⟩
  | 88 => ⟨S512x1x14, .i32⟩
  | 89 => ⟨S512x1x14, .i32⟩
  | 90 => ⟨S512x1x14, .i32⟩
  | 91 => ⟨S512x14x14, .i32⟩
  | 92 => ⟨S512x14x14, .i32⟩
  | 93 => ⟨S512x14x14, .i32⟩
  | 94 => ⟨S512x14x14x1, .i32⟩
  | 95 => ⟨S512x14x14x1, .i32⟩
  | 96 => ⟨S512x14x14x1, .i32⟩
  | 97 => ⟨S512x14x14x3, .i32⟩
  | 98 => ⟨S512x14x14x256, .f32⟩
  | 99 => ⟨S_, .f32⟩
  | 100 => ⟨S512x14x1x1, .f32⟩
  | 101 => ⟨S512x14x1x1, .f32⟩
  | 102 => ⟨S512x14x14x256, .f32⟩
  | 103 => ⟨S512x14x14x256, .f32⟩
  | 104 => ⟨S512x14x14x256, .f32⟩
  | 105 => ⟨S512x14x14x256, .f32⟩
  | 106 => ⟨S512x14x14x256, .f32⟩
  | 107 => ⟨S512x14x1, .i32⟩
  | 108 => ⟨S512x1x14, .i32⟩
  | 109 => ⟨S_, .i32⟩
  | 110 => ⟨S512x1x1, .i32⟩
  | 111 => ⟨S512x1x1, .i1⟩
  | 112 => ⟨S_, .i32⟩
  | 113 => ⟨S512x1x1, .i32⟩
  | 114 => ⟨S512x1x1, .i32⟩
  | 115 => ⟨S512x1x1, .i32⟩
  | 116 => ⟨S_, .i32⟩
  | 117 => ⟨S512x14x1, .i32⟩
  | 118 => ⟨S512x14x1, .i1⟩
  | 119 => ⟨S_, .i32⟩
  | 120 => ⟨S512x14x1, .i32⟩
  | 121 => ⟨S512x14x1, .i32⟩
  | 122 => ⟨S512x14x1, .i32⟩
  | 123 => ⟨S_, .i32⟩
  | 124 => ⟨S512x1x14, .i32⟩
  | 125 => ⟨S512x1x14, .i1⟩
  | 126 => ⟨S_, .i32⟩
  | 127 => ⟨S512x1x14, .i32⟩
  | _ => ⟨S2x256x256x256, .f32⟩

abbrev hbmTy0_4 (i : Nat) : BufTy := match i % 128 with
  | 0 => ⟨S512x1x14, .i32⟩
  | 1 => ⟨S512x1x14, .i32⟩
  | 2 => ⟨S512x14x14, .i32⟩
  | 3 => ⟨S512x14x14, .i32⟩
  | 4 => ⟨S512x14x14, .i32⟩
  | 5 => ⟨S512x14x14x1, .i32⟩
  | 6 => ⟨S512x14x14x1, .i32⟩
  | 7 => ⟨S512x14x14x1, .i32⟩
  | 8 => ⟨S512x14x14x3, .i32⟩
  | 9 => ⟨S512x14x14x256, .f32⟩
  | 10 => ⟨S512x14x14x256, .f32⟩
  | 11 => ⟨S512x14x14x256, .f32⟩
  | 12 => ⟨S_, .f32⟩
  | 13 => ⟨S512x1x14x1, .f32⟩
  | 14 => ⟨S512x1x14x1, .f32⟩
  | 15 => ⟨S512x14x14x256, .f32⟩
  | 16 => ⟨S512x14x14x256, .f32⟩
  | 17 => ⟨S512x14x14x256, .f32⟩
  | 18 => ⟨S512x14x1, .i32⟩
  | 19 => ⟨S512x1x14, .i32⟩
  | 20 => ⟨S_, .i32⟩
  | 21 => ⟨S512x1x1, .i32⟩
  | 22 => ⟨S512x1x1, .i1⟩
  | 23 => ⟨S_, .i32⟩
  | 24 => ⟨S512x1x1, .i32⟩
  | 25 => ⟨S512x1x1, .i32⟩
  | 26 => ⟨S512x1x1, .i32⟩
  | 27 => ⟨S_, .i32⟩
  | 28 => ⟨S512x14x1, .i32⟩
  | 29 => ⟨S512x14x1, .i1⟩
  | 30 => ⟨S_, .i32⟩
  | 31 => ⟨S512x14x1, .i32⟩
  | 32 => ⟨S512x14x1, .i32⟩
  | 33 => ⟨S512x14x1, .i32⟩
  | 34 => ⟨S_, .i32⟩
  | 35 => ⟨S512x1x14, .i32⟩
  | 36 => ⟨S512x1x14, .i1⟩
  | 37 => ⟨S_, .i32⟩
  | 38 => ⟨S512x1x14, .i32⟩
  | 39 => ⟨S512x1x14, .i32⟩
  | 40 => ⟨S512x1x14, .i32⟩
  | 41 => ⟨S512x14x14, .i32⟩
  | 42 => ⟨S512x14x14, .i32⟩
  | 43 => ⟨S512x14x14, .i32⟩
  | 44 => ⟨S512x14x14x1, .i32⟩
  | 45 => ⟨S512x14x14x1, .i32⟩
  | 46 => ⟨S512x14x14x1, .i32⟩
  | 47 => ⟨S512x14x14x3, .i32⟩
  | 48 => ⟨S512x14x14x256, .f32⟩
  | 49 => ⟨S512x14x14x256, .f32⟩
  | 50 => ⟨S512x14x14x256, .f32⟩
  | 51 => ⟨S512x14x14x256, .f32⟩
  | 52 => ⟨S512x14x14x256, .f32⟩
  | 53 => ⟨S512x14x14x256, .f32⟩
  | 54 => ⟨S512x7x2x7x2x256, .f32⟩
  | 55 => ⟨S_, .f32⟩
  | 56 => ⟨S512x7x7x256, .f32⟩
  | 57 => ⟨S_, .f32⟩
  | 58 => ⟨S512x7x7x256, .f32⟩
  | 59 => ⟨S512x7x7x256, .f32⟩
  | 60 => ⟨S2x32x32x256, .f32⟩
  | 61 => ⟨S512x14, .f32⟩
  | 62 => ⟨S512x14, .i32⟩
  | 63 => ⟨S512x14, .f32⟩
  | 64 => ⟨S512x14, .i32⟩
  | 65 => ⟨S_, .i32⟩
  | 66 => ⟨S512x14, .i32⟩
  | 67 => ⟨S512x14, .i32⟩
  | 68 => ⟨S_, .i32⟩
  | 69 => ⟨S512x14, .i32⟩
  | 70 => ⟨S512x14, .i32⟩
  | 71 => ⟨S_, .i32⟩
  | 72 => ⟨S512x14, .i32⟩
  | 73 => ⟨S512x14, .i32⟩
  | 74 => ⟨S_, .i32⟩
  | 75 => ⟨S512x14, .i32⟩
  | 76 => ⟨S512x14, .i32⟩
  | 77 => ⟨S512x14, .f32⟩
  | 78 => ⟨S512x14, .f32⟩
  | 79 => ⟨S512x14x1x1, .f32⟩
  | 80 => ⟨S512x14, .f32⟩
  | 81 => ⟨S512x14, .f32⟩
  | 82 => ⟨S512x1x14x1, .f32⟩
  | 83 => ⟨S512x1x1, .i32⟩
  | 84 => ⟨S512x14x1, .i32⟩
  | 85 => ⟨S512x1x14, .i32⟩
  | 86 => ⟨S_, .i32⟩
  | 87 => ⟨S512x1x1, .i32⟩
  | 88 => ⟨S512x1x1, .i1⟩
  | 89 => ⟨S_, .i32⟩
  | 90 => ⟨S512x1x1, .i32⟩
  | 91 => ⟨S512x1x1, .i32⟩
  | 92 => ⟨S512x1x1, .i32⟩
  | 93 => ⟨S_, .i32⟩
  | 94 => ⟨S512x14x1, .i32⟩
  | 95 => ⟨S512x14x1, .i1⟩
  | 96 => ⟨S_, .i32⟩
  | 97 => ⟨S512x14x1, .i32⟩
  | 98 => ⟨S512x14x1, .i32⟩
  | 99 => ⟨S512x14x1, .i32⟩
  | 100 => ⟨S_, .i32⟩
  | 101 => ⟨S512x1x14, .i32⟩
  | 102 => ⟨S512x1x14, .i1⟩
  | 103 => ⟨S_, .i32⟩
  | 104 => ⟨S512x1x14, .i32⟩
  | 105 => ⟨S512x1x14, .i32⟩
  | 106 => ⟨S512x1x14, .i32⟩
  | 107 => ⟨S512x14x14, .i32⟩
  | 108 => ⟨S512x14x14, .i32⟩
  | 109 => ⟨S512x14x14, .i32⟩
  | 110 => ⟨S512x14x14x1, .i32⟩
  | 111 => ⟨S512x14x14x1, .i32⟩
  | 112 => ⟨S512x14x14x1, .i32⟩
  | 113 => ⟨S512x14x14x3, .i32⟩
  | 114 => ⟨S512x14x14x256, .f32⟩
  | 115 => ⟨S_, .f32⟩
  | 116 => ⟨S512x14x1x1, .f32⟩
  | 117 => ⟨S512x14x1x1, .f32⟩
  | 118 => ⟨S512x14x14x256, .f32⟩
  | 119 => ⟨S512x14x14x256, .f32⟩
  | 120 => ⟨S_, .f32⟩
  | 121 => ⟨S512x1x14x1, .f32⟩
  | 122 => ⟨S512x1x14x1, .f32⟩
  | 123 => ⟨S512x14x14x256, .f32⟩
  | 124 => ⟨S512x14x14x256, .f32⟩
  | 125 => ⟨S512x14x1, .i32⟩
  | 126 => ⟨S512x1x14, .i32⟩
  | 127 => ⟨S_, .i32⟩
  | _ => ⟨S2x256x256x256, .f32⟩

abbrev hbmTy0_5 (i : Nat) : BufTy := match i % 128 with
  | 0 => ⟨S512x1x1, .i32⟩
  | 1 => ⟨S512x1x1, .i1⟩
  | 2 => ⟨S_, .i32⟩
  | 3 => ⟨S512x1x1, .i32⟩
  | 4 => ⟨S512x1x1, .i32⟩
  | 5 => ⟨S512x1x1, .i32⟩
  | 6 => ⟨S_, .i32⟩
  | 7 => ⟨S512x14x1, .i32⟩
  | 8 => ⟨S512x14x1, .i1⟩
  | 9 => ⟨S_, .i32⟩
  | 10 => ⟨S512x14x1, .i32⟩
  | 11 => ⟨S512x14x1, .i32⟩
  | 12 => ⟨S512x14x1, .i32⟩
  | 13 => ⟨S_, .i32⟩
  | 14 => ⟨S512x1x14, .i32⟩
  | 15 => ⟨S512x1x14, .i1⟩
  | 16 => ⟨S_, .i32⟩
  | 17 => ⟨S512x1x14, .i32⟩
  | 18 => ⟨S512x1x14, .i32⟩
  | 19 => ⟨S512x1x14, .i32⟩
  | 20 => ⟨S512x14x14, .i32⟩
  | 21 => ⟨S512x14x14, .i32⟩
  | 22 => ⟨S512x14x14, .i32⟩
  | 23 => ⟨S512x14x14x1, .i32⟩
  | 24 => ⟨S512x14x14x1, .i32⟩
  | 25 => ⟨S512x14x14x1, .i32⟩
  | 26 => ⟨S512x14x14x3, .i32⟩
  | 27 => ⟨S512x14x14x256, .f32⟩
  | 28 => ⟨S_, .f32⟩
  | 29 => ⟨S512x14x1x1, .f32⟩
  | 30 => ⟨S512x14x1x1, .f32⟩
  | 31 => ⟨S512x14x14x256, .f32⟩
  | 32 => ⟨S512x14x14x256, .f32⟩
  | 33 => ⟨S512x14x14x256, .f32⟩
  | 34 => ⟨S512x14x14x256, .f32⟩
  | 35 => ⟨S512x14x14x256, .f32⟩
  | 36 => ⟨S512x14x1, .i32⟩
  | 37 => ⟨S512x1x14, .i32⟩
  | 38 => ⟨S_, .i32⟩
  | 39 => ⟨S512x1x1, .i32⟩
  | 40 => ⟨S512x1x1, .i1⟩
  | 41 => ⟨S_, .i32⟩
  | 42 => ⟨S512x1x1, .i32⟩
  | 43 => ⟨S512x1x1, .i32⟩
  | 44 => ⟨S512x1x1, .i32⟩
  | 45 => ⟨S_, .i32⟩
  | 46 => ⟨S512x14x1, .i32⟩
  | 47 => ⟨S512x14x1, .i1⟩
  | 48 => ⟨S_, .i32⟩
  | 49 => ⟨S512x14x1, .i32⟩
  | 50 => ⟨S512x14x1, .i32⟩
  | 51 => ⟨S512x14x1, .i32⟩
  | 52 => ⟨S_, .i32⟩
  | 53 => ⟨S512x1x14, .i32⟩
  | 54 => ⟨S512x1x14, .i1⟩
  | 55 => ⟨S_, .i32⟩
  | 56 => ⟨S512x1x14, .i32⟩
  | 57 => ⟨S512x1x14, .i32⟩
  | 58 => ⟨S512x1x14, .i32⟩
  | 59 => ⟨S512x14x14, .i32⟩
  | 60 => ⟨S512x14x14, .i32⟩
  | 61 => ⟨S512x14x14, .i32⟩
  | 62 => ⟨S512x14x14x1, .i32⟩
  | 63 => ⟨S512x14x14x1, .i32⟩
  | 64 => ⟨S512x14x14x1, .i32⟩
  | 65 => ⟨S512x14x14x3, .i32⟩
  | 66 => ⟨S512x14x14x256, .f32⟩
  | 67 => ⟨S512x14x14x256, .f32⟩
  | 68 => ⟨S512x14x14x256, .f32⟩
  | 69 => ⟨S_, .f32⟩
  | 70 => ⟨S512x1x14x1, .f32⟩
  | 71 => ⟨S512x1x14x1, .f32⟩
  | 72 => ⟨S512x14x14x256, .f32⟩
  | 73 => ⟨S512x14x14x256, .f32⟩
  | 74 => ⟨S512x14x14x256, .f32⟩
  | 75 => ⟨S512x14x1, .i32⟩
  | 76 => ⟨S512x1x14, .i32⟩
  | 77 => ⟨S_, .i32⟩
  | 78 => ⟨S512x1x1, .i32⟩
  | 79 => ⟨S512x1x1, .i1⟩
  | 80 => ⟨S_, .i32⟩
  | 81 => ⟨S512x1x1, .i32⟩
  | 82 => ⟨S512x1x1, .i32⟩
  | 83 => ⟨S512x1x1, .i32⟩
  | 84 => ⟨S_, .i32⟩
  | 85 => ⟨S512x14x1, .i32⟩
  | 86 => ⟨S512x14x1, .i1⟩
  | 87 => ⟨S_, .i32⟩
  | 88 => ⟨S512x14x1, .i32⟩
  | 89 => ⟨S512x14x1, .i32⟩
  | 90 => ⟨S512x14x1, .i32⟩
  | 91 => ⟨S_, .i32⟩
  | 92 => ⟨S512x1x14, .i32⟩
  | 93 => ⟨S512x1x14, .i1⟩
  | 94 => ⟨S_, .i32⟩
  | 95 => ⟨S512x1x14, .i32⟩
  | 96 => ⟨S512x1x14, .i32⟩
  | 97 => ⟨S512x1x14, .i32⟩
  | 98 => ⟨S512x14x14, .i32⟩
  | 99 => ⟨S512x14x14, .i32⟩
  | 100 => ⟨S512x14x14, .i32⟩
  | 101 => ⟨S512x14x14x1, .i32⟩
  | 102 => ⟨S512x14x14x1, .i32⟩
  | 103 => ⟨S512x14x14x1, .i32⟩
  | 104 => ⟨S512x14x14x3, .i32⟩
  | 105 => ⟨S512x14x14x256, .f32⟩
  | 106 => ⟨S512x14x14x256, .f32⟩
  | 107 => ⟨S512x14x14x256, .f32⟩
  | 108 => ⟨S512x14x14x256, .f32⟩
  | 109 => ⟨S512x14x14x256, .f32⟩
  | 110 => ⟨S512x14x14x256, .f32⟩
  | 111 => ⟨S512x7x2x7x2x256, .f32⟩
  | 112 => ⟨S_, .f32⟩
  | 113 => ⟨S512x7x7x256, .f32⟩
  | 114 => ⟨S_, .f32⟩
  | 115 => ⟨S512x7x7x256, .f32⟩
  | 116 => ⟨S512x7x7x256, .f32⟩
  | 117 => ⟨S512x7x7x1024, .f32⟩
  | 118 => ⟨S256x512x7x7, .f32⟩
  | 119 => ⟨S512x256x7x7, .f32⟩
  | 120 => ⟨S1x256x1x1, .f32⟩
  | 121 => ⟨S512x256x7x7, .f32⟩
  | 122 => ⟨S512x256x7x7, .f32⟩
  | 123 => ⟨S_, .f32⟩
  | 124 => ⟨S512x256x7x7, .f32⟩
  | 125 => ⟨S512x256x7x7, .f32⟩
  | _ => ⟨S2x256x256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x256x256x256, .f32⟩

abbrev bufTy : (tb : Table) → Fin (tcTables nBuf tb) → BufTy
  | .hbm, ⟨i, _⟩ => hbmTy i
  | _, _ => ⟨S2x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_c_1 : Ref sig .tc := ⟨.hbm, 28, rfl⟩
abbrev main_v9 : Ref sig .tc := ⟨.hbm, 29, rfl⟩
abbrev main_v10 : Ref sig .tc := ⟨.hbm, 30, rfl⟩
abbrev main_c_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_c_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_7 : Ref sig .tc := ⟨.hbm, 57, rfl⟩
abbrev main_v32 : Ref sig .tc := ⟨.hbm, 58, rfl⟩
abbrev main_v33 : Ref sig .tc := ⟨.hbm, 59, rfl⟩
abbrev main_c_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_10 : Ref sig .tc := ⟨.hbm, 84, rfl⟩
abbrev main_v55 : Ref sig .tc := ⟨.hbm, 85, rfl⟩
abbrev main_v56 : Ref sig .tc := ⟨.hbm, 86, rfl⟩
abbrev main_c_11 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_12 : Ref sig .tc := ⟨.hbm, 91, rfl⟩
abbrev main_v60 : Ref sig .tc := ⟨.hbm, 92, rfl⟩
abbrev main_v61 : Ref sig .tc := ⟨.hbm, 93, rfl⟩
abbrev main_c_13 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_14 : Ref sig .tc := ⟨.hbm, 98, rfl⟩
abbrev main_v65 : Ref sig .tc := ⟨.hbm, 99, rfl⟩
abbrev main_v66 : Ref sig .tc := ⟨.hbm, 100, rfl⟩
abbrev main_c_15 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_16 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_c_17 : Ref sig .tc := ⟨.hbm, 123, rfl⟩
abbrev main_v87 : Ref sig .tc := ⟨.hbm, 124, rfl⟩
abbrev main_v88 : Ref sig .tc := ⟨.hbm, 125, rfl⟩
abbrev main_c_18 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_c_19 : Ref sig .tc := ⟨.hbm, 130, rfl⟩
abbrev main_v92 : Ref sig .tc := ⟨.hbm, 131, rfl⟩
abbrev main_v93 : Ref sig .tc := ⟨.hbm, 132, rfl⟩
abbrev main_c_20 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_c_21 : Ref sig .tc := ⟨.hbm, 137, rfl⟩
abbrev main_v97 : Ref sig .tc := ⟨.hbm, 138, rfl⟩
abbrev main_v98 : Ref sig .tc := ⟨.hbm, 139, rfl⟩
abbrev main_c_22 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_23 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_c_24 : Ref sig .tc := ⟨.hbm, 162, rfl⟩
abbrev main_v119 : Ref sig .tc := ⟨.hbm, 163, rfl⟩
abbrev main_v120 : Ref sig .tc := ⟨.hbm, 164, rfl⟩
abbrev main_c_25 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_c_26 : Ref sig .tc := ⟨.hbm, 169, rfl⟩
abbrev main_v124 : Ref sig .tc := ⟨.hbm, 170, rfl⟩
abbrev main_v125 : Ref sig .tc := ⟨.hbm, 171, rfl⟩
abbrev main_c_27 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_c_28 : Ref sig .tc := ⟨.hbm, 176, rfl⟩
abbrev main_v129 : Ref sig .tc := ⟨.hbm, 177, rfl⟩
abbrev main_v130 : Ref sig .tc := ⟨.hbm, 178, rfl⟩
abbrev main_c_29 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_cst_30 : Ref sig .tc := ⟨.hbm, 197, rfl⟩
abbrev main_v148 : Ref sig .tc := ⟨.hbm, 198, rfl⟩
abbrev main_cst_31 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_c_32 : Ref sig .tc := ⟨.hbm, 207, rfl⟩
abbrev main_v156 : Ref sig .tc := ⟨.hbm, 208, rfl⟩
abbrev main_v157 : Ref sig .tc := ⟨.hbm, 209, rfl⟩
abbrev main_c_33 : Ref sig .tc := ⟨.hbm, 210, rfl⟩
abbrev main_v158 : Ref sig .tc := ⟨.hbm, 211, rfl⟩
abbrev main_v159 : Ref sig .tc := ⟨.hbm, 212, rfl⟩
abbrev main_c_34 : Ref sig .tc := ⟨.hbm, 213, rfl⟩
abbrev main_v160 : Ref sig .tc := ⟨.hbm, 214, rfl⟩
abbrev main_v161 : Ref sig .tc := ⟨.hbm, 215, rfl⟩
abbrev main_c_35 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_c_36 : Ref sig .tc := ⟨.hbm, 228, rfl⟩
abbrev main_v173 : Ref sig .tc := ⟨.hbm, 229, rfl⟩
abbrev main_v174 : Ref sig .tc := ⟨.hbm, 230, rfl⟩
abbrev main_c_37 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_c_38 : Ref sig .tc := ⟨.hbm, 235, rfl⟩
abbrev main_v178 : Ref sig .tc := ⟨.hbm, 236, rfl⟩
abbrev main_v179 : Ref sig .tc := ⟨.hbm, 237, rfl⟩
abbrev main_c_39 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_c_40 : Ref sig .tc := ⟨.hbm, 242, rfl⟩
abbrev main_v183 : Ref sig .tc := ⟨.hbm, 243, rfl⟩
abbrev main_v184 : Ref sig .tc := ⟨.hbm, 244, rfl⟩
abbrev main_c_41 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_cst_42 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_cst_43 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_c_44 : Ref sig .tc := ⟨.hbm, 269, rfl⟩
abbrev main_v206 : Ref sig .tc := ⟨.hbm, 270, rfl⟩
abbrev main_v207 : Ref sig .tc := ⟨.hbm, 271, rfl⟩
abbrev main_c_45 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_c_46 : Ref sig .tc := ⟨.hbm, 276, rfl⟩
abbrev main_v211 : Ref sig .tc := ⟨.hbm, 277, rfl⟩
abbrev main_v212 : Ref sig .tc := ⟨.hbm, 278, rfl⟩
abbrev main_c_47 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_c_48 : Ref sig .tc := ⟨.hbm, 283, rfl⟩
abbrev main_v216 : Ref sig .tc := ⟨.hbm, 284, rfl⟩
abbrev main_v217 : Ref sig .tc := ⟨.hbm, 285, rfl⟩
abbrev main_c_49 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_cst_50 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_c_51 : Ref sig .tc := ⟨.hbm, 308, rfl⟩
abbrev main_v238 : Ref sig .tc := ⟨.hbm, 309, rfl⟩
abbrev main_v239 : Ref sig .tc := ⟨.hbm, 310, rfl⟩
abbrev main_c_52 : Ref sig .tc := ⟨.hbm, 311, rfl⟩
abbrev main_v240 : Ref sig .tc := ⟨.hbm, 312, rfl⟩
abbrev main_v241 : Ref sig .tc := ⟨.hbm, 313, rfl⟩
abbrev main_v242 : Ref sig .tc := ⟨.hbm, 314, rfl⟩
abbrev main_c_53 : Ref sig .tc := ⟨.hbm, 315, rfl⟩
abbrev main_v243 : Ref sig .tc := ⟨.hbm, 316, rfl⟩
abbrev main_v244 : Ref sig .tc := ⟨.hbm, 317, rfl⟩
abbrev main_c_54 : Ref sig .tc := ⟨.hbm, 318, rfl⟩
abbrev main_v245 : Ref sig .tc := ⟨.hbm, 319, rfl⟩
abbrev main_v246 : Ref sig .tc := ⟨.hbm, 320, rfl⟩
abbrev main_v247 : Ref sig .tc := ⟨.hbm, 321, rfl⟩
abbrev main_c_55 : Ref sig .tc := ⟨.hbm, 322, rfl⟩
abbrev main_v248 : Ref sig .tc := ⟨.hbm, 323, rfl⟩
abbrev main_v249 : Ref sig .tc := ⟨.hbm, 324, rfl⟩
abbrev main_c_56 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_v257 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_cst_57 : Ref sig .tc := ⟨.hbm, 339, rfl⟩
abbrev main_v263 : Ref sig .tc := ⟨.hbm, 340, rfl⟩
abbrev main_v264 : Ref sig .tc := ⟨.hbm, 341, rfl⟩
abbrev main_v265 : Ref sig .tc := ⟨.hbm, 342, rfl⟩
abbrev main_v266 : Ref sig .tc := ⟨.hbm, 343, rfl⟩
abbrev main_v267 : Ref sig .tc := ⟨.hbm, 344, rfl⟩
abbrev main_v268 : Ref sig .tc := ⟨.hbm, 345, rfl⟩
abbrev main_v269 : Ref sig .tc := ⟨.hbm, 346, rfl⟩
abbrev main_c_58 : Ref sig .tc := ⟨.hbm, 347, rfl⟩
abbrev main_v270 : Ref sig .tc := ⟨.hbm, 348, rfl⟩
abbrev main_v271 : Ref sig .tc := ⟨.hbm, 349, rfl⟩
abbrev main_c_59 : Ref sig .tc := ⟨.hbm, 350, rfl⟩
abbrev main_v272 : Ref sig .tc := ⟨.hbm, 351, rfl⟩
abbrev main_v273 : Ref sig .tc := ⟨.hbm, 352, rfl⟩
abbrev main_v274 : Ref sig .tc := ⟨.hbm, 353, rfl⟩
abbrev main_c_60 : Ref sig .tc := ⟨.hbm, 354, rfl⟩
abbrev main_v275 : Ref sig .tc := ⟨.hbm, 355, rfl⟩
abbrev main_v276 : Ref sig .tc := ⟨.hbm, 356, rfl⟩
abbrev main_c_61 : Ref sig .tc := ⟨.hbm, 357, rfl⟩
abbrev main_v277 : Ref sig .tc := ⟨.hbm, 358, rfl⟩
abbrev main_v278 : Ref sig .tc := ⟨.hbm, 359, rfl⟩
abbrev main_v279 : Ref sig .tc := ⟨.hbm, 360, rfl⟩
abbrev main_c_62 : Ref sig .tc := ⟨.hbm, 361, rfl⟩
abbrev main_v280 : Ref sig .tc := ⟨.hbm, 362, rfl⟩
abbrev main_v281 : Ref sig .tc := ⟨.hbm, 363, rfl⟩
abbrev main_c_63 : Ref sig .tc := ⟨.hbm, 364, rfl⟩
abbrev main_v282 : Ref sig .tc := ⟨.hbm, 365, rfl⟩
abbrev main_v283 : Ref sig .tc := ⟨.hbm, 366, rfl⟩
abbrev main_v284 : Ref sig .tc := ⟨.hbm, 367, rfl⟩
abbrev main_v285 : Ref sig .tc := ⟨.hbm, 368, rfl⟩
abbrev main_v286 : Ref sig .tc := ⟨.hbm, 369, rfl⟩
abbrev main_v287 : Ref sig .tc := ⟨.hbm, 370, rfl⟩
abbrev main_v288 : Ref sig .tc := ⟨.hbm, 371, rfl⟩
abbrev main_v289 : Ref sig .tc := ⟨.hbm, 372, rfl⟩
abbrev main_v290 : Ref sig .tc := ⟨.hbm, 373, rfl⟩
abbrev main_v291 : Ref sig .tc := ⟨.hbm, 374, rfl⟩
abbrev main_v292 : Ref sig .tc := ⟨.hbm, 375, rfl⟩
abbrev main_v293 : Ref sig .tc := ⟨.hbm, 376, rfl⟩
abbrev main_v294 : Ref sig .tc := ⟨.hbm, 377, rfl⟩
abbrev main_v295 : Ref sig .tc := ⟨.hbm, 378, rfl⟩
abbrev main_v296 : Ref sig .tc := ⟨.hbm, 379, rfl⟩
abbrev main_v297 : Ref sig .tc := ⟨.hbm, 380, rfl⟩
abbrev main_v298 : Ref sig .tc := ⟨.hbm, 381, rfl⟩
abbrev main_cst_64 : Ref sig .tc := ⟨.hbm, 382, rfl⟩
abbrev main_v299 : Ref sig .tc := ⟨.hbm, 383, rfl⟩
abbrev main_cst_65 : Ref sig .tc := ⟨.hbm, 384, rfl⟩
abbrev main_v300 : Ref sig .tc := ⟨.hbm, 385, rfl⟩
abbrev main_v301 : Ref sig .tc := ⟨.hbm, 386, rfl⟩
abbrev main_v302 : Ref sig .tc := ⟨.hbm, 387, rfl⟩
abbrev main_v303 : Ref sig .tc := ⟨.hbm, 388, rfl⟩
abbrev main_v304 : Ref sig .tc := ⟨.hbm, 389, rfl⟩
abbrev main_v305 : Ref sig .tc := ⟨.hbm, 390, rfl⟩
abbrev main_v306 : Ref sig .tc := ⟨.hbm, 391, rfl⟩
abbrev main_c_66 : Ref sig .tc := ⟨.hbm, 392, rfl⟩
abbrev main_v307 : Ref sig .tc := ⟨.hbm, 393, rfl⟩
abbrev main_v308 : Ref sig .tc := ⟨.hbm, 394, rfl⟩
abbrev main_c_67 : Ref sig .tc := ⟨.hbm, 395, rfl⟩
abbrev main_v309 : Ref sig .tc := ⟨.hbm, 396, rfl⟩
abbrev main_v310 : Ref sig .tc := ⟨.hbm, 397, rfl⟩
abbrev main_c_68 : Ref sig .tc := ⟨.hbm, 398, rfl⟩
abbrev main_v311 : Ref sig .tc := ⟨.hbm, 399, rfl⟩
abbrev main_v312 : Ref sig .tc := ⟨.hbm, 400, rfl⟩
abbrev main_c_69 : Ref sig .tc := ⟨.hbm, 401, rfl⟩
abbrev main_v313 : Ref sig .tc := ⟨.hbm, 402, rfl⟩
abbrev main_v314 : Ref sig .tc := ⟨.hbm, 403, rfl⟩
abbrev main_v315 : Ref sig .tc := ⟨.hbm, 404, rfl⟩
abbrev main_v316 : Ref sig .tc := ⟨.hbm, 405, rfl⟩
abbrev main_v317 : Ref sig .tc := ⟨.hbm, 406, rfl⟩
abbrev main_v318 : Ref sig .tc := ⟨.hbm, 407, rfl⟩
abbrev main_v319 : Ref sig .tc := ⟨.hbm, 408, rfl⟩
abbrev main_v320 : Ref sig .tc := ⟨.hbm, 409, rfl⟩
abbrev main_v321 : Ref sig .tc := ⟨.hbm, 410, rfl⟩
abbrev main_v322 : Ref sig .tc := ⟨.hbm, 411, rfl⟩
abbrev main_v323 : Ref sig .tc := ⟨.hbm, 412, rfl⟩
abbrev main_c_70 : Ref sig .tc := ⟨.hbm, 413, rfl⟩
abbrev main_v324 : Ref sig .tc := ⟨.hbm, 414, rfl⟩
abbrev main_v325 : Ref sig .tc := ⟨.hbm, 415, rfl⟩
abbrev main_c_71 : Ref sig .tc := ⟨.hbm, 416, rfl⟩
abbrev main_v326 : Ref sig .tc := ⟨.hbm, 417, rfl⟩
abbrev main_v327 : Ref sig .tc := ⟨.hbm, 418, rfl⟩
abbrev main_v328 : Ref sig .tc := ⟨.hbm, 419, rfl⟩
abbrev main_c_72 : Ref sig .tc := ⟨.hbm, 420, rfl⟩
abbrev main_v329 : Ref sig .tc := ⟨.hbm, 421, rfl⟩
abbrev main_v330 : Ref sig .tc := ⟨.hbm, 422, rfl⟩
abbrev main_c_73 : Ref sig .tc := ⟨.hbm, 423, rfl⟩
abbrev main_v331 : Ref sig .tc := ⟨.hbm, 424, rfl⟩
abbrev main_v332 : Ref sig .tc := ⟨.hbm, 425, rfl⟩
abbrev main_v333 : Ref sig .tc := ⟨.hbm, 426, rfl⟩
abbrev main_c_74 : Ref sig .tc := ⟨.hbm, 427, rfl⟩
abbrev main_v334 : Ref sig .tc := ⟨.hbm, 428, rfl⟩
abbrev main_v335 : Ref sig .tc := ⟨.hbm, 429, rfl⟩
abbrev main_c_75 : Ref sig .tc := ⟨.hbm, 430, rfl⟩
abbrev main_v336 : Ref sig .tc := ⟨.hbm, 431, rfl⟩
abbrev main_v337 : Ref sig .tc := ⟨.hbm, 432, rfl⟩
abbrev main_v338 : Ref sig .tc := ⟨.hbm, 433, rfl⟩
abbrev main_v339 : Ref sig .tc := ⟨.hbm, 434, rfl⟩
abbrev main_v340 : Ref sig .tc := ⟨.hbm, 435, rfl⟩
abbrev main_v341 : Ref sig .tc := ⟨.hbm, 436, rfl⟩
abbrev main_v342 : Ref sig .tc := ⟨.hbm, 437, rfl⟩
abbrev main_v343 : Ref sig .tc := ⟨.hbm, 438, rfl⟩
abbrev main_v344 : Ref sig .tc := ⟨.hbm, 439, rfl⟩
abbrev main_v345 : Ref sig .tc := ⟨.hbm, 440, rfl⟩
abbrev main_v346 : Ref sig .tc := ⟨.hbm, 441, rfl⟩
abbrev main_cst_76 : Ref sig .tc := ⟨.hbm, 442, rfl⟩
abbrev main_v347 : Ref sig .tc := ⟨.hbm, 443, rfl⟩
abbrev main_v348 : Ref sig .tc := ⟨.hbm, 444, rfl⟩
abbrev main_v349 : Ref sig .tc := ⟨.hbm, 445, rfl⟩
abbrev main_v350 : Ref sig .tc := ⟨.hbm, 446, rfl⟩
abbrev main_cst_77 : Ref sig .tc := ⟨.hbm, 447, rfl⟩
abbrev main_v351 : Ref sig .tc := ⟨.hbm, 448, rfl⟩
abbrev main_v352 : Ref sig .tc := ⟨.hbm, 449, rfl⟩
abbrev main_v353 : Ref sig .tc := ⟨.hbm, 450, rfl⟩
abbrev main_v354 : Ref sig .tc := ⟨.hbm, 451, rfl⟩
abbrev main_v355 : Ref sig .tc := ⟨.hbm, 452, rfl⟩
abbrev main_v356 : Ref sig .tc := ⟨.hbm, 453, rfl⟩
abbrev main_c_78 : Ref sig .tc := ⟨.hbm, 454, rfl⟩
abbrev main_v357 : Ref sig .tc := ⟨.hbm, 455, rfl⟩
abbrev main_v358 : Ref sig .tc := ⟨.hbm, 456, rfl⟩
abbrev main_c_79 : Ref sig .tc := ⟨.hbm, 457, rfl⟩
abbrev main_v359 : Ref sig .tc := ⟨.hbm, 458, rfl⟩
abbrev main_v360 : Ref sig .tc := ⟨.hbm, 459, rfl⟩
abbrev main_v361 : Ref sig .tc := ⟨.hbm, 460, rfl⟩
abbrev main_c_80 : Ref sig .tc := ⟨.hbm, 461, rfl⟩
abbrev main_v362 : Ref sig .tc := ⟨.hbm, 462, rfl⟩
abbrev main_v363 : Ref sig .tc := ⟨.hbm, 463, rfl⟩
abbrev main_c_81 : Ref sig .tc := ⟨.hbm, 464, rfl⟩
abbrev main_v364 : Ref sig .tc := ⟨.hbm, 465, rfl⟩
abbrev main_v365 : Ref sig .tc := ⟨.hbm, 466, rfl⟩
abbrev main_v366 : Ref sig .tc := ⟨.hbm, 467, rfl⟩
abbrev main_c_82 : Ref sig .tc := ⟨.hbm, 468, rfl⟩
abbrev main_v367 : Ref sig .tc := ⟨.hbm, 469, rfl⟩
abbrev main_v368 : Ref sig .tc := ⟨.hbm, 470, rfl⟩
abbrev main_c_83 : Ref sig .tc := ⟨.hbm, 471, rfl⟩
abbrev main_v369 : Ref sig .tc := ⟨.hbm, 472, rfl⟩
abbrev main_v370 : Ref sig .tc := ⟨.hbm, 473, rfl⟩
abbrev main_v371 : Ref sig .tc := ⟨.hbm, 474, rfl⟩
abbrev main_v372 : Ref sig .tc := ⟨.hbm, 475, rfl⟩
abbrev main_v373 : Ref sig .tc := ⟨.hbm, 476, rfl⟩
abbrev main_v374 : Ref sig .tc := ⟨.hbm, 477, rfl⟩
abbrev main_v375 : Ref sig .tc := ⟨.hbm, 478, rfl⟩
abbrev main_v376 : Ref sig .tc := ⟨.hbm, 479, rfl⟩
abbrev main_v377 : Ref sig .tc := ⟨.hbm, 480, rfl⟩
abbrev main_v378 : Ref sig .tc := ⟨.hbm, 481, rfl⟩
abbrev main_v379 : Ref sig .tc := ⟨.hbm, 482, rfl⟩
abbrev main_cst_84 : Ref sig .tc := ⟨.hbm, 483, rfl⟩
abbrev main_v380 : Ref sig .tc := ⟨.hbm, 484, rfl⟩
abbrev main_v381 : Ref sig .tc := ⟨.hbm, 485, rfl⟩
abbrev main_v382 : Ref sig .tc := ⟨.hbm, 486, rfl⟩
abbrev main_v383 : Ref sig .tc := ⟨.hbm, 487, rfl⟩
abbrev main_v384 : Ref sig .tc := ⟨.hbm, 488, rfl⟩
abbrev main_v385 : Ref sig .tc := ⟨.hbm, 489, rfl⟩
abbrev main_v386 : Ref sig .tc := ⟨.hbm, 490, rfl⟩
abbrev main_v387 : Ref sig .tc := ⟨.hbm, 491, rfl⟩
abbrev main_v388 : Ref sig .tc := ⟨.hbm, 492, rfl⟩
abbrev main_c_85 : Ref sig .tc := ⟨.hbm, 493, rfl⟩
abbrev main_v389 : Ref sig .tc := ⟨.hbm, 494, rfl⟩
abbrev main_v390 : Ref sig .tc := ⟨.hbm, 495, rfl⟩
abbrev main_c_86 : Ref sig .tc := ⟨.hbm, 496, rfl⟩
abbrev main_v391 : Ref sig .tc := ⟨.hbm, 497, rfl⟩
abbrev main_v392 : Ref sig .tc := ⟨.hbm, 498, rfl⟩
abbrev main_v393 : Ref sig .tc := ⟨.hbm, 499, rfl⟩
abbrev main_c_87 : Ref sig .tc := ⟨.hbm, 500, rfl⟩
abbrev main_v394 : Ref sig .tc := ⟨.hbm, 501, rfl⟩
abbrev main_v395 : Ref sig .tc := ⟨.hbm, 502, rfl⟩
abbrev main_c_88 : Ref sig .tc := ⟨.hbm, 503, rfl⟩
abbrev main_v396 : Ref sig .tc := ⟨.hbm, 504, rfl⟩
abbrev main_v397 : Ref sig .tc := ⟨.hbm, 505, rfl⟩
abbrev main_v398 : Ref sig .tc := ⟨.hbm, 506, rfl⟩
abbrev main_c_89 : Ref sig .tc := ⟨.hbm, 507, rfl⟩
abbrev main_v399 : Ref sig .tc := ⟨.hbm, 508, rfl⟩
abbrev main_v400 : Ref sig .tc := ⟨.hbm, 509, rfl⟩
abbrev main_c_90 : Ref sig .tc := ⟨.hbm, 510, rfl⟩
abbrev main_v401 : Ref sig .tc := ⟨.hbm, 511, rfl⟩
abbrev main_v402 : Ref sig .tc := ⟨.hbm, 512, rfl⟩
abbrev main_v403 : Ref sig .tc := ⟨.hbm, 513, rfl⟩
abbrev main_v404 : Ref sig .tc := ⟨.hbm, 514, rfl⟩
abbrev main_v405 : Ref sig .tc := ⟨.hbm, 515, rfl⟩
abbrev main_v406 : Ref sig .tc := ⟨.hbm, 516, rfl⟩
abbrev main_v407 : Ref sig .tc := ⟨.hbm, 517, rfl⟩
abbrev main_v408 : Ref sig .tc := ⟨.hbm, 518, rfl⟩
abbrev main_v409 : Ref sig .tc := ⟨.hbm, 519, rfl⟩
abbrev main_v410 : Ref sig .tc := ⟨.hbm, 520, rfl⟩
abbrev main_v411 : Ref sig .tc := ⟨.hbm, 521, rfl⟩
abbrev main_v412 : Ref sig .tc := ⟨.hbm, 522, rfl⟩
abbrev main_v413 : Ref sig .tc := ⟨.hbm, 523, rfl⟩
abbrev main_cst_91 : Ref sig .tc := ⟨.hbm, 524, rfl⟩
abbrev main_v414 : Ref sig .tc := ⟨.hbm, 525, rfl⟩
abbrev main_v415 : Ref sig .tc := ⟨.hbm, 526, rfl⟩
abbrev main_v416 : Ref sig .tc := ⟨.hbm, 527, rfl⟩
abbrev main_v417 : Ref sig .tc := ⟨.hbm, 528, rfl⟩
abbrev main_v418 : Ref sig .tc := ⟨.hbm, 529, rfl⟩
abbrev main_v419 : Ref sig .tc := ⟨.hbm, 530, rfl⟩
abbrev main_v420 : Ref sig .tc := ⟨.hbm, 531, rfl⟩
abbrev main_c_92 : Ref sig .tc := ⟨.hbm, 532, rfl⟩
abbrev main_v421 : Ref sig .tc := ⟨.hbm, 533, rfl⟩
abbrev main_v422 : Ref sig .tc := ⟨.hbm, 534, rfl⟩
abbrev main_c_93 : Ref sig .tc := ⟨.hbm, 535, rfl⟩
abbrev main_v423 : Ref sig .tc := ⟨.hbm, 536, rfl⟩
abbrev main_v424 : Ref sig .tc := ⟨.hbm, 537, rfl⟩
abbrev main_v425 : Ref sig .tc := ⟨.hbm, 538, rfl⟩
abbrev main_c_94 : Ref sig .tc := ⟨.hbm, 539, rfl⟩
abbrev main_v426 : Ref sig .tc := ⟨.hbm, 540, rfl⟩
abbrev main_v427 : Ref sig .tc := ⟨.hbm, 541, rfl⟩
abbrev main_c_95 : Ref sig .tc := ⟨.hbm, 542, rfl⟩
abbrev main_v428 : Ref sig .tc := ⟨.hbm, 543, rfl⟩
abbrev main_v429 : Ref sig .tc := ⟨.hbm, 544, rfl⟩
abbrev main_v430 : Ref sig .tc := ⟨.hbm, 545, rfl⟩
abbrev main_c_96 : Ref sig .tc := ⟨.hbm, 546, rfl⟩
abbrev main_v431 : Ref sig .tc := ⟨.hbm, 547, rfl⟩
abbrev main_v432 : Ref sig .tc := ⟨.hbm, 548, rfl⟩
abbrev main_c_97 : Ref sig .tc := ⟨.hbm, 549, rfl⟩
abbrev main_v433 : Ref sig .tc := ⟨.hbm, 550, rfl⟩
abbrev main_v434 : Ref sig .tc := ⟨.hbm, 551, rfl⟩
abbrev main_v435 : Ref sig .tc := ⟨.hbm, 552, rfl⟩
abbrev main_v436 : Ref sig .tc := ⟨.hbm, 553, rfl⟩
abbrev main_v437 : Ref sig .tc := ⟨.hbm, 554, rfl⟩
abbrev main_v438 : Ref sig .tc := ⟨.hbm, 555, rfl⟩
abbrev main_v439 : Ref sig .tc := ⟨.hbm, 556, rfl⟩
abbrev main_v440 : Ref sig .tc := ⟨.hbm, 557, rfl⟩
abbrev main_v441 : Ref sig .tc := ⟨.hbm, 558, rfl⟩
abbrev main_v442 : Ref sig .tc := ⟨.hbm, 559, rfl⟩
abbrev main_v443 : Ref sig .tc := ⟨.hbm, 560, rfl⟩
abbrev main_v444 : Ref sig .tc := ⟨.hbm, 561, rfl⟩
abbrev main_v445 : Ref sig .tc := ⟨.hbm, 562, rfl⟩
abbrev main_v446 : Ref sig .tc := ⟨.hbm, 563, rfl⟩
abbrev main_v447 : Ref sig .tc := ⟨.hbm, 564, rfl⟩
abbrev main_v448 : Ref sig .tc := ⟨.hbm, 565, rfl⟩
abbrev main_v449 : Ref sig .tc := ⟨.hbm, 566, rfl⟩
abbrev main_cst_98 : Ref sig .tc := ⟨.hbm, 567, rfl⟩
abbrev main_v450 : Ref sig .tc := ⟨.hbm, 568, rfl⟩
abbrev main_cst_99 : Ref sig .tc := ⟨.hbm, 569, rfl⟩
abbrev main_v451 : Ref sig .tc := ⟨.hbm, 570, rfl⟩
abbrev main_v452 : Ref sig .tc := ⟨.hbm, 571, rfl⟩
abbrev main_v453 : Ref sig .tc := ⟨.hbm, 572, rfl⟩
abbrev main_v454 : Ref sig .tc := ⟨.hbm, 573, rfl⟩
abbrev main_v455 : Ref sig .tc := ⟨.hbm, 574, rfl⟩
abbrev main_v456 : Ref sig .tc := ⟨.hbm, 575, rfl⟩
abbrev main_v457 : Ref sig .tc := ⟨.hbm, 576, rfl⟩
abbrev main_c_100 : Ref sig .tc := ⟨.hbm, 577, rfl⟩
abbrev main_v458 : Ref sig .tc := ⟨.hbm, 578, rfl⟩
abbrev main_v459 : Ref sig .tc := ⟨.hbm, 579, rfl⟩
abbrev main_c_101 : Ref sig .tc := ⟨.hbm, 580, rfl⟩
abbrev main_v460 : Ref sig .tc := ⟨.hbm, 581, rfl⟩
abbrev main_v461 : Ref sig .tc := ⟨.hbm, 582, rfl⟩
abbrev main_c_102 : Ref sig .tc := ⟨.hbm, 583, rfl⟩
abbrev main_v462 : Ref sig .tc := ⟨.hbm, 584, rfl⟩
abbrev main_v463 : Ref sig .tc := ⟨.hbm, 585, rfl⟩
abbrev main_c_103 : Ref sig .tc := ⟨.hbm, 586, rfl⟩
abbrev main_v464 : Ref sig .tc := ⟨.hbm, 587, rfl⟩
abbrev main_v465 : Ref sig .tc := ⟨.hbm, 588, rfl⟩
abbrev main_v466 : Ref sig .tc := ⟨.hbm, 589, rfl⟩
abbrev main_v467 : Ref sig .tc := ⟨.hbm, 590, rfl⟩
abbrev main_v468 : Ref sig .tc := ⟨.hbm, 591, rfl⟩
abbrev main_v469 : Ref sig .tc := ⟨.hbm, 592, rfl⟩
abbrev main_v470 : Ref sig .tc := ⟨.hbm, 593, rfl⟩
abbrev main_v471 : Ref sig .tc := ⟨.hbm, 594, rfl⟩
abbrev main_v472 : Ref sig .tc := ⟨.hbm, 595, rfl⟩
abbrev main_v473 : Ref sig .tc := ⟨.hbm, 596, rfl⟩
abbrev main_v474 : Ref sig .tc := ⟨.hbm, 597, rfl⟩
abbrev main_c_104 : Ref sig .tc := ⟨.hbm, 598, rfl⟩
abbrev main_v475 : Ref sig .tc := ⟨.hbm, 599, rfl⟩
abbrev main_v476 : Ref sig .tc := ⟨.hbm, 600, rfl⟩
abbrev main_c_105 : Ref sig .tc := ⟨.hbm, 601, rfl⟩
abbrev main_v477 : Ref sig .tc := ⟨.hbm, 602, rfl⟩
abbrev main_v478 : Ref sig .tc := ⟨.hbm, 603, rfl⟩
abbrev main_v479 : Ref sig .tc := ⟨.hbm, 604, rfl⟩
abbrev main_c_106 : Ref sig .tc := ⟨.hbm, 605, rfl⟩
abbrev main_v480 : Ref sig .tc := ⟨.hbm, 606, rfl⟩
abbrev main_v481 : Ref sig .tc := ⟨.hbm, 607, rfl⟩
abbrev main_c_107 : Ref sig .tc := ⟨.hbm, 608, rfl⟩
abbrev main_v482 : Ref sig .tc := ⟨.hbm, 609, rfl⟩
abbrev main_v483 : Ref sig .tc := ⟨.hbm, 610, rfl⟩
abbrev main_v484 : Ref sig .tc := ⟨.hbm, 611, rfl⟩
abbrev main_c_108 : Ref sig .tc := ⟨.hbm, 612, rfl⟩
abbrev main_v485 : Ref sig .tc := ⟨.hbm, 613, rfl⟩
abbrev main_v486 : Ref sig .tc := ⟨.hbm, 614, rfl⟩
abbrev main_c_109 : Ref sig .tc := ⟨.hbm, 615, rfl⟩
abbrev main_v487 : Ref sig .tc := ⟨.hbm, 616, rfl⟩
abbrev main_v488 : Ref sig .tc := ⟨.hbm, 617, rfl⟩
abbrev main_v489 : Ref sig .tc := ⟨.hbm, 618, rfl⟩
abbrev main_v490 : Ref sig .tc := ⟨.hbm, 619, rfl⟩
abbrev main_v491 : Ref sig .tc := ⟨.hbm, 620, rfl⟩
abbrev main_v492 : Ref sig .tc := ⟨.hbm, 621, rfl⟩
abbrev main_v493 : Ref sig .tc := ⟨.hbm, 622, rfl⟩
abbrev main_v494 : Ref sig .tc := ⟨.hbm, 623, rfl⟩
abbrev main_v495 : Ref sig .tc := ⟨.hbm, 624, rfl⟩
abbrev main_v496 : Ref sig .tc := ⟨.hbm, 625, rfl⟩
abbrev main_v497 : Ref sig .tc := ⟨.hbm, 626, rfl⟩
abbrev main_cst_110 : Ref sig .tc := ⟨.hbm, 627, rfl⟩
abbrev main_v498 : Ref sig .tc := ⟨.hbm, 628, rfl⟩
abbrev main_v499 : Ref sig .tc := ⟨.hbm, 629, rfl⟩
abbrev main_v500 : Ref sig .tc := ⟨.hbm, 630, rfl⟩
abbrev main_v501 : Ref sig .tc := ⟨.hbm, 631, rfl⟩
abbrev main_cst_111 : Ref sig .tc := ⟨.hbm, 632, rfl⟩
abbrev main_v502 : Ref sig .tc := ⟨.hbm, 633, rfl⟩
abbrev main_v503 : Ref sig .tc := ⟨.hbm, 634, rfl⟩
abbrev main_v504 : Ref sig .tc := ⟨.hbm, 635, rfl⟩
abbrev main_v505 : Ref sig .tc := ⟨.hbm, 636, rfl⟩
abbrev main_v506 : Ref sig .tc := ⟨.hbm, 637, rfl⟩
abbrev main_v507 : Ref sig .tc := ⟨.hbm, 638, rfl⟩
abbrev main_c_112 : Ref sig .tc := ⟨.hbm, 639, rfl⟩
abbrev main_v508 : Ref sig .tc := ⟨.hbm, 640, rfl⟩
abbrev main_v509 : Ref sig .tc := ⟨.hbm, 641, rfl⟩
abbrev main_c_113 : Ref sig .tc := ⟨.hbm, 642, rfl⟩
abbrev main_v510 : Ref sig .tc := ⟨.hbm, 643, rfl⟩
abbrev main_v511 : Ref sig .tc := ⟨.hbm, 644, rfl⟩
abbrev main_v512 : Ref sig .tc := ⟨.hbm, 645, rfl⟩
abbrev main_c_114 : Ref sig .tc := ⟨.hbm, 646, rfl⟩
abbrev main_v513 : Ref sig .tc := ⟨.hbm, 647, rfl⟩
abbrev main_v514 : Ref sig .tc := ⟨.hbm, 648, rfl⟩
abbrev main_c_115 : Ref sig .tc := ⟨.hbm, 649, rfl⟩
abbrev main_v515 : Ref sig .tc := ⟨.hbm, 650, rfl⟩
abbrev main_v516 : Ref sig .tc := ⟨.hbm, 651, rfl⟩
abbrev main_v517 : Ref sig .tc := ⟨.hbm, 652, rfl⟩
abbrev main_c_116 : Ref sig .tc := ⟨.hbm, 653, rfl⟩
abbrev main_v518 : Ref sig .tc := ⟨.hbm, 654, rfl⟩
abbrev main_v519 : Ref sig .tc := ⟨.hbm, 655, rfl⟩
abbrev main_c_117 : Ref sig .tc := ⟨.hbm, 656, rfl⟩
abbrev main_v520 : Ref sig .tc := ⟨.hbm, 657, rfl⟩
abbrev main_v521 : Ref sig .tc := ⟨.hbm, 658, rfl⟩
abbrev main_v522 : Ref sig .tc := ⟨.hbm, 659, rfl⟩
abbrev main_v523 : Ref sig .tc := ⟨.hbm, 660, rfl⟩
abbrev main_v524 : Ref sig .tc := ⟨.hbm, 661, rfl⟩
abbrev main_v525 : Ref sig .tc := ⟨.hbm, 662, rfl⟩
abbrev main_v526 : Ref sig .tc := ⟨.hbm, 663, rfl⟩
abbrev main_v527 : Ref sig .tc := ⟨.hbm, 664, rfl⟩
abbrev main_v528 : Ref sig .tc := ⟨.hbm, 665, rfl⟩
abbrev main_v529 : Ref sig .tc := ⟨.hbm, 666, rfl⟩
abbrev main_v530 : Ref sig .tc := ⟨.hbm, 667, rfl⟩
abbrev main_cst_118 : Ref sig .tc := ⟨.hbm, 668, rfl⟩
abbrev main_v531 : Ref sig .tc := ⟨.hbm, 669, rfl⟩
abbrev main_v532 : Ref sig .tc := ⟨.hbm, 670, rfl⟩
abbrev main_v533 : Ref sig .tc := ⟨.hbm, 671, rfl⟩
abbrev main_v534 : Ref sig .tc := ⟨.hbm, 672, rfl⟩
abbrev main_v535 : Ref sig .tc := ⟨.hbm, 673, rfl⟩
abbrev main_v536 : Ref sig .tc := ⟨.hbm, 674, rfl⟩
abbrev main_v537 : Ref sig .tc := ⟨.hbm, 675, rfl⟩
abbrev main_v538 : Ref sig .tc := ⟨.hbm, 676, rfl⟩
abbrev main_v539 : Ref sig .tc := ⟨.hbm, 677, rfl⟩
abbrev main_c_119 : Ref sig .tc := ⟨.hbm, 678, rfl⟩
abbrev main_v540 : Ref sig .tc := ⟨.hbm, 679, rfl⟩
abbrev main_v541 : Ref sig .tc := ⟨.hbm, 680, rfl⟩
abbrev main_c_120 : Ref sig .tc := ⟨.hbm, 681, rfl⟩
abbrev main_v542 : Ref sig .tc := ⟨.hbm, 682, rfl⟩
abbrev main_v543 : Ref sig .tc := ⟨.hbm, 683, rfl⟩
abbrev main_v544 : Ref sig .tc := ⟨.hbm, 684, rfl⟩
abbrev main_c_121 : Ref sig .tc := ⟨.hbm, 685, rfl⟩
abbrev main_v545 : Ref sig .tc := ⟨.hbm, 686, rfl⟩
abbrev main_v546 : Ref sig .tc := ⟨.hbm, 687, rfl⟩
abbrev main_c_122 : Ref sig .tc := ⟨.hbm, 688, rfl⟩
abbrev main_v547 : Ref sig .tc := ⟨.hbm, 689, rfl⟩
abbrev main_v548 : Ref sig .tc := ⟨.hbm, 690, rfl⟩
abbrev main_v549 : Ref sig .tc := ⟨.hbm, 691, rfl⟩
abbrev main_c_123 : Ref sig .tc := ⟨.hbm, 692, rfl⟩
abbrev main_v550 : Ref sig .tc := ⟨.hbm, 693, rfl⟩
abbrev main_v551 : Ref sig .tc := ⟨.hbm, 694, rfl⟩
abbrev main_c_124 : Ref sig .tc := ⟨.hbm, 695, rfl⟩
abbrev main_v552 : Ref sig .tc := ⟨.hbm, 696, rfl⟩
abbrev main_v553 : Ref sig .tc := ⟨.hbm, 697, rfl⟩
abbrev main_v554 : Ref sig .tc := ⟨.hbm, 698, rfl⟩
abbrev main_v555 : Ref sig .tc := ⟨.hbm, 699, rfl⟩
abbrev main_v556 : Ref sig .tc := ⟨.hbm, 700, rfl⟩
abbrev main_v557 : Ref sig .tc := ⟨.hbm, 701, rfl⟩
abbrev main_v558 : Ref sig .tc := ⟨.hbm, 702, rfl⟩
abbrev main_v559 : Ref sig .tc := ⟨.hbm, 703, rfl⟩
abbrev main_v560 : Ref sig .tc := ⟨.hbm, 704, rfl⟩
abbrev main_v561 : Ref sig .tc := ⟨.hbm, 705, rfl⟩
abbrev main_v562 : Ref sig .tc := ⟨.hbm, 706, rfl⟩
abbrev main_v563 : Ref sig .tc := ⟨.hbm, 707, rfl⟩
abbrev main_v564 : Ref sig .tc := ⟨.hbm, 708, rfl⟩
abbrev main_cst_125 : Ref sig .tc := ⟨.hbm, 709, rfl⟩
abbrev main_v565 : Ref sig .tc := ⟨.hbm, 710, rfl⟩
abbrev main_v566 : Ref sig .tc := ⟨.hbm, 711, rfl⟩
abbrev main_v567 : Ref sig .tc := ⟨.hbm, 712, rfl⟩
abbrev main_v568 : Ref sig .tc := ⟨.hbm, 713, rfl⟩
abbrev main_v569 : Ref sig .tc := ⟨.hbm, 714, rfl⟩
abbrev main_v570 : Ref sig .tc := ⟨.hbm, 715, rfl⟩
abbrev main_v571 : Ref sig .tc := ⟨.hbm, 716, rfl⟩
abbrev main_c_126 : Ref sig .tc := ⟨.hbm, 717, rfl⟩
abbrev main_v572 : Ref sig .tc := ⟨.hbm, 718, rfl⟩
abbrev main_v573 : Ref sig .tc := ⟨.hbm, 719, rfl⟩
abbrev main_c_127 : Ref sig .tc := ⟨.hbm, 720, rfl⟩
abbrev main_v574 : Ref sig .tc := ⟨.hbm, 721, rfl⟩
abbrev main_v575 : Ref sig .tc := ⟨.hbm, 722, rfl⟩
abbrev main_v576 : Ref sig .tc := ⟨.hbm, 723, rfl⟩
abbrev main_c_128 : Ref sig .tc := ⟨.hbm, 724, rfl⟩
abbrev main_v577 : Ref sig .tc := ⟨.hbm, 725, rfl⟩
abbrev main_v578 : Ref sig .tc := ⟨.hbm, 726, rfl⟩
abbrev main_c_129 : Ref sig .tc := ⟨.hbm, 727, rfl⟩
abbrev main_v579 : Ref sig .tc := ⟨.hbm, 728, rfl⟩
abbrev main_v580 : Ref sig .tc := ⟨.hbm, 729, rfl⟩
abbrev main_v581 : Ref sig .tc := ⟨.hbm, 730, rfl⟩
abbrev main_c_130 : Ref sig .tc := ⟨.hbm, 731, rfl⟩
abbrev main_v582 : Ref sig .tc := ⟨.hbm, 732, rfl⟩
abbrev main_v583 : Ref sig .tc := ⟨.hbm, 733, rfl⟩
abbrev main_c_131 : Ref sig .tc := ⟨.hbm, 734, rfl⟩
abbrev main_v584 : Ref sig .tc := ⟨.hbm, 735, rfl⟩
abbrev main_v585 : Ref sig .tc := ⟨.hbm, 736, rfl⟩
abbrev main_v586 : Ref sig .tc := ⟨.hbm, 737, rfl⟩
abbrev main_v587 : Ref sig .tc := ⟨.hbm, 738, rfl⟩
abbrev main_v588 : Ref sig .tc := ⟨.hbm, 739, rfl⟩
abbrev main_v589 : Ref sig .tc := ⟨.hbm, 740, rfl⟩
abbrev main_v590 : Ref sig .tc := ⟨.hbm, 741, rfl⟩
abbrev main_v591 : Ref sig .tc := ⟨.hbm, 742, rfl⟩
abbrev main_v592 : Ref sig .tc := ⟨.hbm, 743, rfl⟩
abbrev main_v593 : Ref sig .tc := ⟨.hbm, 744, rfl⟩
abbrev main_v594 : Ref sig .tc := ⟨.hbm, 745, rfl⟩
abbrev main_v595 : Ref sig .tc := ⟨.hbm, 746, rfl⟩
abbrev main_v596 : Ref sig .tc := ⟨.hbm, 747, rfl⟩
abbrev main_v597 : Ref sig .tc := ⟨.hbm, 748, rfl⟩
abbrev main_v598 : Ref sig .tc := ⟨.hbm, 749, rfl⟩
abbrev main_v599 : Ref sig .tc := ⟨.hbm, 750, rfl⟩
abbrev main_v600 : Ref sig .tc := ⟨.hbm, 751, rfl⟩
abbrev main_cst_132 : Ref sig .tc := ⟨.hbm, 752, rfl⟩
abbrev main_v601 : Ref sig .tc := ⟨.hbm, 753, rfl⟩
abbrev main_cst_133 : Ref sig .tc := ⟨.hbm, 754, rfl⟩
abbrev main_v602 : Ref sig .tc := ⟨.hbm, 755, rfl⟩
abbrev main_v603 : Ref sig .tc := ⟨.hbm, 756, rfl⟩
abbrev main_v604 : Ref sig .tc := ⟨.hbm, 757, rfl⟩
abbrev main_v605 : Ref sig .tc := ⟨.hbm, 758, rfl⟩
abbrev main_v606 : Ref sig .tc := ⟨.hbm, 759, rfl⟩
abbrev main_v607 : Ref sig .tc := ⟨.hbm, 760, rfl⟩
abbrev main_v608 : Ref sig .tc := ⟨.hbm, 761, rfl⟩
abbrev main_v609 : Ref sig .tc := ⟨.hbm, 762, rfl⟩
abbrev main_call0_cst : Ref sig .tc := ⟨.hbm, 763, rfl⟩
abbrev main_call0_v0 : Ref sig .tc := ⟨.hbm, 764, rfl⟩
abbrev main_v610 : Ref sig .tc := ⟨.hbm, 765, rfl⟩

abbrev nD : Nat := 1
abbrev τ : Topo := Topo.v7x

variable {F : FTy → Type} [FloatOps F]
-- ==== Proof.KernelIdeal.Names.lean ====
/- The names under which the body of the kernel is run: the two slots of each of the four copied windows, the eight
   semaphores, the windows of the four feature arrays, and the closed forms of the offsets the body computes. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffix
public import Idealize.ShloMosaic.Lib.Ring
public import Idealize.ShloMosaic.Lib.Affine
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.Sem

/-! ## The slots, the semaphores and the windows -/

abbrev slotOff (s : Fin 2) : Fin 4 → Nat := ![s.val, 0, 0, 0]
abbrev semOff (s : Fin 2) (l : Fin 4) : Fin 2 → Nat := ![s.val, l.val]
theorem semOff_inb (s : Fin 2) (l : Fin 4) : ∀ a, semOff s l a + S1x1.size a ≤ S2x4.size a := by revert s l; decide

/-- The semaphore of slot `s` at level `l`. -/
def csm (s : Fin 2) (l : Fin 4) : DmaSems sig S_ :=
  (cc0_scratch4.slice (Rect.unit (s := S2x4) (semOff s l) S1x1.size (semOff_inb s l))).squeeze S_ squeezes_S1x1_S_
theorem csm_congr {off : Fin 2 → Nat} {s : Fin 2} {l : Fin 4} (e : off = semOff s l) (hh) :
    (cc0_scratch4.slice (Rect.unit (s := S2x4) off S1x1.size hh)).squeeze S_ squeezes_S1x1_S_ = csm s l :=
  congrArg (fun A : DmaSems sig S1x1 => A.squeeze S_ squeezes_S1x1_S_) (SemArray.slice_unit_congr _ e _ _)

instance (s : Fin 2) : ClosedOff (slotOff s) := ⟨slotOff s, rfl⟩

/-! Level 0. -/
/-- The copied windows' buffer at level 0. -/
abbrev bufM0 : Memref sig .tc .vmem S2x56x64x256 .f32 := Memref.whole cc0_scratch0
/-- The features of level 0. -/
abbrev featM0 : Memref sig .tc .hbm S2x256x256x256 .f32 := Memref.whole main_call0_v0
theorem slotOff_inb0 (s : Fin 2) : ∀ a, slotOff s a + S1x56x64x256.size a ≤ S2x56x64x256.size a := by revert s; decide
def slot0 (s : Fin 2) : Memref sig .tc .vmem S56x64x256 .f32 :=
  (bufM0.slice (Rect.unit (s := S2x56x64x256) (slotOff s) S1x56x64x256.size (slotOff_inb0 s)) (fun _ => rfl)).squeeze S56x64x256 squeezes_S1x56x64x256_S56x64x256
/-- The window of level 0 at offset `off`. -/
abbrev win0 (off : Fin 4 → Nat) (hh : ∀ a, off a + S1x56x64x256.size a ≤ S2x256x256x256.size a) : Memref sig .tc .hbm S56x64x256 .f32 :=
  (featM0.slice (Rect.unit (s := S2x256x256x256) off S1x56x64x256.size hh) (fun _ => rfl)).squeeze S56x64x256 squeezes_S1x56x64x256_S56x64x256
theorem slot0_congr {off : Fin 4 → Nat} {s : Fin 2} (e : off = slotOff s) (hh hs) :
    (bufM0.slice (Rect.unit (s := S2x56x64x256) off S1x56x64x256.size hh) hs).squeeze S56x64x256 squeezes_S1x56x64x256_S56x64x256 = slot0 s :=
  congrArg (fun M : Memref sig .tc .vmem S1x56x64x256 .f32 => M.squeeze S56x64x256 squeezes_S1x56x64x256_S56x64x256) (Memref.slice_unit_congr _ e _ _ _ _)

/-! Level 1. -/
/-- The copied windows' buffer at level 1. -/
abbrev bufM1 : Memref sig .tc .vmem S2x32x40x256 .f32 := Memref.whole cc0_scratch1
/-- The features of level 1. -/
abbrev featM1 : Memref sig .tc .hbm S2x128x128x256 .f32 := Memref.whole main_call0_v1
theorem slotOff_inb1 (s : Fin 2) : ∀ a, slotOff s a + S1x32x40x256.size a ≤ S2x32x40x256.size a := by revert s; decide
def slot1 (s : Fin 2) : Memref sig .tc .vmem S32x40x256 .f32 :=
  (bufM1.slice (Rect.unit (s := S2x32x40x256) (slotOff s) S1x32x40x256.size (slotOff_inb1 s)) (fun _ => rfl)).squeeze S32x40x256 squeezes_S1x32x40x256_S32x40x256
/-- The window of level 1 at offset `off`. -/
abbrev win1 (off : Fin 4 → Nat) (hh : ∀ a, off a + S1x32x40x256.size a ≤ S2x128x128x256.size a) : Memref sig .tc .hbm S32x40x256 .f32 :=
  (featM1.slice (Rect.unit (s := S2x128x128x256) off S1x32x40x256.size hh) (fun _ => rfl)).squeeze S32x40x256 squeezes_S1x32x40x256_S32x40x256
theorem slot1_congr {off : Fin 4 → Nat} {s : Fin 2} (e : off = slotOff s) (hh hs) :
    (bufM1.slice (Rect.unit (s := S2x32x40x256) off S1x32x40x256.size hh) hs).squeeze S32x40x256 squeezes_S1x32x40x256_S32x40x256 = slot1 s :=
  congrArg (fun M : Memref sig .tc .vmem S1x32x40x256 .f32 => M.squeeze S32x40x256 squeezes_S1x32x40x256_S32x40x256) (Memref.slice_unit_congr _ e _ _ _ _)

/-! Level 2. -/
/-- The copied windows' buffer at level 2. -/
abbrev bufM2 : Memref sig .tc .vmem S2x16x24x256 .f32 := Memref.whole cc0_scratch2
/-- The features of level 2. -/
abbrev featM2 : Memref sig .tc .hbm S2x64x64x256 .f32 := Memref.whole main_call0_v2
theorem slotOff_inb2 (s : Fin 2) : ∀ a, slotOff s a + S1x16x24x256.size a ≤ S2x16x24x256.size a := by revert s; decide
def slot2 (s : Fin 2) : Memref sig .tc .vmem S16x24x256 .f32 :=
  (bufM2.slice (Rect.unit (s := S2x16x24x256) (slotOff s) S1x16x24x256.size (slotOff_inb2 s)) (fun _ => rfl)).squeeze S16x24x256 squeezes_S1x16x24x256_S16x24x256
/-- The window of level 2 at offset `off`. -/
abbrev win2 (off : Fin 4 → Nat) (hh : ∀ a, off a + S1x16x24x256.size a ≤ S2x64x64x256.size a) : Memref sig .tc .hbm S16x24x256 .f32 :=
  (featM2.slice (Rect.unit (s := S2x64x64x256) off S1x16x24x256.size hh) (fun _ => rfl)).squeeze S16x24x256 squeezes_S1x16x24x256_S16x24x256
theorem slot2_congr {off : Fin 4 → Nat} {s : Fin 2} (e : off = slotOff s) (hh hs) :
    (bufM2.slice (Rect.unit (s := S2x16x24x256) off S1x16x24x256.size hh) hs).squeeze S16x24x256 squeezes_S1x16x24x256_S16x24x256 = slot2 s :=
  congrArg (fun M : Memref sig .tc .vmem S1x16x24x256 .f32 => M.squeeze S16x24x256 squeezes_S1x16x24x256_S16x24x256) (Memref.slice_unit_congr _ e _ _ _ _)

/-! Level 3. -/
/-- The copied windows' buffer at level 3. -/
abbrev bufM3 : Memref sig .tc .vmem S2x16x16x256 .f32 := Memref.whole cc0_scratch3
/-- The features of level 3. -/
abbrev featM3 : Memref sig .tc .hbm S2x32x32x256 .f32 := Memref.whole main_call0_v3
theorem slotOff_inb3 (s : Fin 2) : ∀ a, slotOff s a + S1x16x16x256.size a ≤ S2x16x16x256.size a := by revert s; decide
def slot3 (s : Fin 2) : Memref sig .tc .vmem S16x16x256 .f32 :=
  (bufM3.slice (Rect.unit (s := S2x16x16x256) (slotOff s) S1x16x16x256.size (slotOff_inb3 s)) (fun _ => rfl)).squeeze S16x16x256 squeezes_S1x16x16x256_S16x16x256
/-- The window of level 3 at offset `off`. -/
abbrev win3 (off : Fin 4 → Nat) (hh : ∀ a, off a + S1x16x16x256.size a ≤ S2x32x32x256.size a) : Memref sig .tc .hbm S16x16x256 .f32 :=
  (featM3.slice (Rect.unit (s := S2x32x32x256) off S1x16x16x256.size hh) (fun _ => rfl)).squeeze S16x16x256 squeezes_S1x16x16x256_S16x16x256
theorem slot3_congr {off : Fin 4 → Nat} {s : Fin 2} (e : off = slotOff s) (hh hs) :
    (bufM3.slice (Rect.unit (s := S2x16x16x256) off S1x16x16x256.size hh) hs).squeeze S16x16x256 squeezes_S1x16x16x256_S16x16x256 = slot3 s :=
  congrArg (fun M : Memref sig .tc .vmem S1x16x16x256 .f32 => M.squeeze S16x16x256 squeezes_S1x16x16x256_S16x16x256) (Memref.slice_unit_congr _ e _ _ _ _)

/-! ## The offsets in closed form -/

/-- The slot of the point `i`, and the other one. -/
def sl (i : grid0.Coords) : Fin 2 := Fin.ofNat 2 (i 1).val
def nsl (i : grid0.Coords) : Fin 2 := Fin.ofNat 2 ((i 1).val + 1)

theorem rem2 : ∀ k : Fin 256, (Scalar.remsi (BitVec.ofNat 32 k.val) 2#32).toNat = (Fin.ofNat 2 k.val).val := by decide +kernel
theorem rem2s : ∀ k : Fin 256, (Scalar.remsi (Scalar.addi (BitVec.ofNat 32 k.val) 1#32) 2#32).toNat = (Fin.ofNat 2 (k.val + 1)).val := by decide +kernel
theorem cond1_iff : ∀ i : grid0.Coords, k0_cond1 i = 1#1 ↔ (i 1).val = 0 := by
  have h : ∀ k : Fin 256, (Scalar.cmpi .ne (Scalar.extui (Scalar.cmpi .eq (BitVec.ofNat 32 k.val) 0#32) : BitVec 32) 0#32 = 1#1) ↔ k.val = 0 := by decide +kernel
  exact fun i => h (i 1)
theorem cond2_iff : ∀ i : grid0.Coords, k0_cond2 i = 1#1 ↔ (i 1).val + 1 < 256 := by
  have h : ∀ k : Fin 256, (Scalar.cmpi .ne (Scalar.extui (Scalar.cmpi .slt (Scalar.addi (BitVec.ofNat 32 k.val) 1#32) 256#32) : BitVec 32) 0#32 = 1#1) ↔ k.val + 1 < 256 := by decide +kernel
  exact fun i => h (i 1)

theorem off12_eq (i : grid0.Coords) : k0_off12 i = semOff (nsl i) 0 := congrArg (fun n : Nat => (![n, 0] : Fin 2 → Nat)) (rem2s (i 1))
theorem off16_eq (i : grid0.Coords) : k0_off16 i = semOff (nsl i) 1 := congrArg (fun n : Nat => (![n, 1] : Fin 2 → Nat)) (rem2s (i 1))
theorem off20_eq (i : grid0.Coords) : k0_off20 i = semOff (nsl i) 2 := congrArg (fun n : Nat => (![n, 2] : Fin 2 → Nat)) (rem2s (i 1))
theorem off24_eq (i : grid0.Coords) : k0_off24 i = semOff (nsl i) 3 := congrArg (fun n : Nat => (![n, 3] : Fin 2 → Nat)) (rem2s (i 1))
theorem off27_eq (i : grid0.Coords) : k0_off27 i = semOff (sl i) 0 := congrArg (fun n : Nat => (![n, 0] : Fin 2 → Nat)) (rem2 (i 1))
theorem off30_eq (i : grid0.Coords) : k0_off30 i = semOff (sl i) 1 := congrArg (fun n : Nat => (![n, 1] : Fin 2 → Nat)) (rem2 (i 1))
theorem off33_eq (i : grid0.Coords) : k0_off33 i = semOff (sl i) 2 := congrArg (fun n : Nat => (![n, 2] : Fin 2 → Nat)) (rem2 (i 1))
theorem off36_eq (i : grid0.Coords) : k0_off36 i = semOff (sl i) 3 := congrArg (fun n : Nat => (![n, 3] : Fin 2 → Nat)) (rem2 (i 1))
theorem off13_eq (i : grid0.Coords) : k0_off13 i = slotOff (nsl i) := congrArg (fun n : Nat => (![n, 0, 0, 0] : Fin 4 → Nat)) (rem2s (i 1))
theorem off17_eq (i : grid0.Coords) : k0_off17 i = slotOff (nsl i) := congrArg (fun n : Nat => (![n, 0, 0, 0] : Fin 4 → Nat)) (rem2s (i 1))
theorem off21_eq (i : grid0.Coords) : k0_off21 i = slotOff (nsl i) := congrArg (fun n : Nat => (![n, 0, 0, 0] : Fin 4 → Nat)) (rem2s (i 1))
theorem off25_eq (i : grid0.Coords) : k0_off25 i = slotOff (nsl i) := congrArg (fun n : Nat => (![n, 0, 0, 0] : Fin 4 → Nat)) (rem2s (i 1))
theorem off28_eq (i : grid0.Coords) : k0_off28 i = slotOff (sl i) := congrArg (fun n : Nat => (![n, 0, 0, 0] : Fin 4 → Nat)) (rem2 (i 1))
theorem off31_eq (i : grid0.Coords) : k0_off31 i = slotOff (sl i) := congrArg (fun n : Nat => (![n, 0, 0, 0] : Fin 4 → Nat)) (rem2 (i 1))
theorem off34_eq (i : grid0.Coords) : k0_off34 i = slotOff (sl i) := congrArg (fun n : Nat => (![n, 0, 0, 0] : Fin 4 → Nat)) (rem2 (i 1))
theorem off37_eq (i : grid0.Coords) : k0_off37 i = slotOff (sl i) := congrArg (fun n : Nat => (![n, 0, 0, 0] : Fin 4 → Nat)) (rem2 (i 1))
theorem off29_eq (i : grid0.Coords) : k0_off29 i = slotOff (sl i) := congrArg (fun n : Nat => (![n, 0, 0, 0] : Fin 4 → Nat)) (rem2 (i 1))
theorem off32_eq (i : grid0.Coords) : k0_off32 i = slotOff (sl i) := congrArg (fun n : Nat => (![n, 0, 0, 0] : Fin 4 → Nat)) (rem2 (i 1))
theorem off35_eq (i : grid0.Coords) : k0_off35 i = slotOff (sl i) := congrArg (fun n : Nat => (![n, 0, 0, 0] : Fin 4 → Nat)) (rem2 (i 1))
theorem off38_eq (i : grid0.Coords) : k0_off38 i = slotOff (sl i) := congrArg (fun n : Nat => (![n, 0, 0, 0] : Fin 4 → Nat)) (rem2 (i 1))

instance (i : grid0.Coords) : ClosedOff (k0_off29 i) := ⟨slotOff (sl i), off29_eq i⟩
instance (i : grid0.Coords) : ClosedOff (k0_off32 i) := ⟨slotOff (sl i), off32_eq i⟩
instance (i : grid0.Coords) : ClosedOff (k0_off35 i) := ⟨slotOff (sl i), off35_eq i⟩
instance (i : grid0.Coords) : ClosedOff (k0_off38 i) := ⟨slotOff (sl i), off38_eq i⟩

/-! ## The names of the slices the body takes -/

@[sl_canon] theorem semF0 (hh) : (cc0_scratch4.slice (Rect.unit (s := S2x4) ![0, 0] S1x1.size hh)).squeeze S_ squeezes_S1x1_S_ = csm 0 0 := csm_congr (by decide) _
@[sl_canon] theorem semN0 (i : grid0.Coords) (hh) : (cc0_scratch4.slice (Rect.unit (s := S2x4) (k0_off12 i) S1x1.size hh)).squeeze S_ squeezes_S1x1_S_ = csm (nsl i) 0 := csm_congr (off12_eq i) _
@[sl_canon] theorem semW0 (i : grid0.Coords) (hh) : (cc0_scratch4.slice (Rect.unit (s := S2x4) (k0_off27 i) S1x1.size hh)).squeeze S_ squeezes_S1x1_S_ = csm (sl i) 0 := csm_congr (off27_eq i) _
@[sl_canon] theorem slotF0 (hh hs) : (bufM0.slice (Rect.unit (s := S2x56x64x256) ![0, 0, 0, 0] S1x56x64x256.size hh) hs).squeeze S56x64x256 squeezes_S1x56x64x256_S56x64x256 = slot0 0 := slot0_congr (by decide) _ _
@[sl_canon] theorem slotN0 (i : grid0.Coords) (hh hs) : (bufM0.slice (Rect.unit (s := S2x56x64x256) (k0_off13 i) S1x56x64x256.size hh) hs).squeeze S56x64x256 squeezes_S1x56x64x256_S56x64x256 = slot0 (nsl i) := slot0_congr (off13_eq i) _ _
@[sl_canon] theorem slotW0 (i : grid0.Coords) (hh hs) : (bufM0.slice (Rect.unit (s := S2x56x64x256) (k0_off28 i) S1x56x64x256.size hh) hs).squeeze S56x64x256 squeezes_S1x56x64x256_S56x64x256 = slot0 (sl i) := slot0_congr (off28_eq i) _ _

@[sl_canon] theorem semF1 (hh) : (cc0_scratch4.slice (Rect.unit (s := S2x4) ![0, 1] S1x1.size hh)).squeeze S_ squeezes_S1x1_S_ = csm 0 1 := csm_congr (by decide) _
@[sl_canon] theorem semN1 (i : grid0.Coords) (hh) : (cc0_scratch4.slice (Rect.unit (s := S2x4) (k0_off16 i) S1x1.size hh)).squeeze S_ squeezes_S1x1_S_ = csm (nsl i) 1 := csm_congr (off16_eq i) _
@[sl_canon] theorem semW1 (i : grid0.Coords) (hh) : (cc0_scratch4.slice (Rect.unit (s := S2x4) (k0_off30 i) S1x1.size hh)).squeeze S_ squeezes_S1x1_S_ = csm (sl i) 1 := csm_congr (off30_eq i) _
@[sl_canon] theorem slotF1 (hh hs) : (bufM1.slice (Rect.unit (s := S2x32x40x256) ![0, 0, 0, 0] S1x32x40x256.size hh) hs).squeeze S32x40x256 squeezes_S1x32x40x256_S32x40x256 = slot1 0 := slot1_congr (by decide) _ _
@[sl_canon] theorem slotN1 (i : grid0.Coords) (hh hs) : (bufM1.slice (Rect.unit (s := S2x32x40x256) (k0_off17 i) S1x32x40x256.size hh) hs).squeeze S32x40x256 squeezes_S1x32x40x256_S32x40x256 = slot1 (nsl i) := slot1_congr (off17_eq i) _ _
@[sl_canon] theorem slotW1 (i : grid0.Coords) (hh hs) : (bufM1.slice (Rect.unit (s := S2x32x40x256) (k0_off31 i) S1x32x40x256.size hh) hs).squeeze S32x40x256 squeezes_S1x32x40x256_S32x40x256 = slot1 (sl i) := slot1_congr (off31_eq i) _ _

@[sl_canon] theorem semF2 (hh) : (cc0_scratch4.slice (Rect.unit (s := S2x4) ![0, 2] S1x1.size hh)).squeeze S_ squeezes_S1x1_S_ = csm 0 2 := csm_congr (by decide) _
@[sl_canon] theorem semN2 (i : grid0.Coords) (hh) : (cc0_scratch4.slice (Rect.unit (s := S2x4) (k0_off20 i) S1x1.size hh)).squeeze S_ squeezes_S1x1_S_ = csm (nsl i) 2 := csm_congr (off20_eq i) _
@[sl_canon] theorem semW2 (i : grid0.Coords) (hh) : (cc0_scratch4.slice (Rect.unit (s := S2x4) (k0_off33 i) S1x1.size hh)).squeeze S_ squeezes_S1x1_S_ = csm (sl i) 2 := csm_congr (off33_eq i) _
@[sl_canon] theorem slotF2 (hh hs) : (bufM2.slice (Rect.unit (s := S2x16x24x256) ![0, 0, 0, 0] S1x16x24x256.size hh) hs).squeeze S16x24x256 squeezes_S1x16x24x256_S16x24x256 = slot2 0 := slot2_congr (by decide) _ _
@[sl_canon] theorem slotN2 (i : grid0.Coords) (hh hs) : (bufM2.slice (Rect.unit (s := S2x16x24x256) (k0_off21 i) S1x16x24x256.size hh) hs).squeeze S16x24x256 squeezes_S1x16x24x256_S16x24x256 = slot2 (nsl i) := slot2_congr (off21_eq i) _ _
@[sl_canon] theorem slotW2 (i : grid0.Coords) (hh hs) : (bufM2.slice (Rect.unit (s := S2x16x24x256) (k0_off34 i) S1x16x24x256.size hh) hs).squeeze S16x24x256 squeezes_S1x16x24x256_S16x24x256 = slot2 (sl i) := slot2_congr (off34_eq i) _ _

@[sl_canon] theorem semF3 (hh) : (cc0_scratch4.slice (Rect.unit (s := S2x4) ![0, 3] S1x1.size hh)).squeeze S_ squeezes_S1x1_S_ = csm 0 3 := csm_congr (by decide) _
@[sl_canon] theorem semN3 (i : grid0.Coords) (hh) : (cc0_scratch4.slice (Rect.unit (s := S2x4) (k0_off24 i) S1x1.size hh)).squeeze S_ squeezes_S1x1_S_ = csm (nsl i) 3 := csm_congr (off24_eq i) _
@[sl_canon] theorem semW3 (i : grid0.Coords) (hh) : (cc0_scratch4.slice (Rect.unit (s := S2x4) (k0_off36 i) S1x1.size hh)).squeeze S_ squeezes_S1x1_S_ = csm (sl i) 3 := csm_congr (off36_eq i) _
@[sl_canon] theorem slotF3 (hh hs) : (bufM3.slice (Rect.unit (s := S2x16x16x256) ![0, 0, 0, 0] S1x16x16x256.size hh) hs).squeeze S16x16x256 squeezes_S1x16x16x256_S16x16x256 = slot3 0 := slot3_congr (by decide) _ _
@[sl_canon] theorem slotN3 (i : grid0.Coords) (hh hs) : (bufM3.slice (Rect.unit (s := S2x16x16x256) (k0_off25 i) S1x16x16x256.size hh) hs).squeeze S16x16x256 squeezes_S1x16x16x256_S16x16x256 = slot3 (nsl i) := slot3_congr (off25_eq i) _ _
@[sl_canon] theorem slotW3 (i : grid0.Coords) (hh hs) : (bufM3.slice (Rect.unit (s := S2x16x16x256) (k0_off37 i) S1x16x16x256.size hh) hs).squeeze S16x16x256 squeezes_S1x16x16x256_S16x16x256 = slot3 (sl i) := slot3_congr (off37_eq i) _ _

end Cert.KernelIdeal.Hand

end
-- ==== Proof.KernelIdeal.Body.lean ====
/- The kernel's body at one point of the grid, run once for each of its three forms. -/
module

public import proofs.«01_k».proof.Proof.KernelIdeal.Names
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (Flight)

variable {F : FTy → Type} [FloatOps F]

local notation "𝕄" => MT nD τ sig Unit (Elt F) ℕ (Pipeline.UD sig nD τ) ℕ

/-- The share of the features lent to the transfers into slot `s`. -/
def hsh (s : Fin 2) : PosShare TreeShare := if s = 0 then fullShare.left else fullShare.right

section Pieces
variable (c : Dev nD)

abbrev cellP (s : Fin 2) (l : Fin 4) : sProp 𝕄 := semVal ((c : Thread nD τ), SemLoc.dma (csm s l).sem) 0

abbrev FBuf0 : Type := Buf (Elt F) ((featM0).view.loc (c : Thread nD τ))
abbrev slotP0 (s : Fin 2) (f : Buf (Elt F) ((slot0 s).view.loc (c : Thread nD τ))) : sProp 𝕄 :=
  (slot0 s).view.loc (c : Thread nD τ) ↦[(slot0 s).view.set]{fullShare} f
/-- What a transfer of the window at `off` leaves in slot `s`. -/
abbrev landed0 (X : FBuf0 (F := F) c) (s : Fin 2) (off : Fin 4 → Nat) (hh : ∀ a, off a + S1x56x64x256.size a ≤ S2x256x256x256.size a)
    (f : Buf (Elt F) ((slot0 s).view.loc (c : Thread nD τ))) : Buf (Elt F) ((slot0 s).view.loc (c : Thread nD τ)) :=
  (slot0 s).view.writes (Elt F) f [⟨Rect.whole S56x64x256, ReadAs.same.apply ((win0 off hh).view.read (Elt F) X)⟩]
abbrev flightP0 (X : FBuf0 (F := F) c) (s : Fin 2) (off : Fin 4 → Nat) (hh : ∀ a, off a + S1x56x64x256.size a ≤ S2x256x256x256.size a)
    (f : Buf (Elt F) ((slot0 s).view.loc (c : Thread nD τ))) : sProp 𝕄 :=
  iprop(Flight countersEmb (c : Thread nD τ) (SemLoc.dma (csm s 0).sem) () (114688)
      iprop(slotP0 c s (landed0 c X s off hh f) ∗ ((win0 off hh).view.loc (c : Thread nD τ) ↦[(win0 off hh).view.set]{hsh s} X))
    ∗ (featM0.view.loc (c : Thread nD τ) ↦[(Finset.univ : Finset _) \ (win0 off hh).view.set]{hsh s} X))
abbrev homeP0 (X : FBuf0 (F := F) c) (s : Fin 2) : sProp 𝕄 := featM0.view.loc (c : Thread nD τ) ↦{hsh s} X

abbrev FBuf1 : Type := Buf (Elt F) ((featM1).view.loc (c : Thread nD τ))
abbrev slotP1 (s : Fin 2) (f : Buf (Elt F) ((slot1 s).view.loc (c : Thread nD τ))) : sProp 𝕄 :=
  (slot1 s).view.loc (c : Thread nD τ) ↦[(slot1 s).view.set]{fullShare} f
/-- What a transfer of the window at `off` leaves in slot `s`. -/
abbrev landed1 (X : FBuf1 (F := F) c) (s : Fin 2) (off : Fin 4 → Nat) (hh : ∀ a, off a + S1x32x40x256.size a ≤ S2x128x128x256.size a)
    (f : Buf (Elt F) ((slot1 s).view.loc (c : Thread nD τ))) : Buf (Elt F) ((slot1 s).view.loc (c : Thread nD τ)) :=
  (slot1 s).view.writes (Elt F) f [⟨Rect.whole S32x40x256, ReadAs.same.apply ((win1 off hh).view.read (Elt F) X)⟩]
abbrev flightP1 (X : FBuf1 (F := F) c) (s : Fin 2) (off : Fin 4 → Nat) (hh : ∀ a, off a + S1x32x40x256.size a ≤ S2x128x128x256.size a)
    (f : Buf (Elt F) ((slot1 s).view.loc (c : Thread nD τ))) : sProp 𝕄 :=
  iprop(Flight countersEmb (c : Thread nD τ) (SemLoc.dma (csm s 1).sem) () (40960)
      iprop(slotP1 c s (landed1 c X s off hh f) ∗ ((win1 off hh).view.loc (c : Thread nD τ) ↦[(win1 off hh).view.set]{hsh s} X))
    ∗ (featM1.view.loc (c : Thread nD τ) ↦[(Finset.univ : Finset _) \ (win1 off hh).view.set]{hsh s} X))
abbrev homeP1 (X : FBuf1 (F := F) c) (s : Fin 2) : sProp 𝕄 := featM1.view.loc (c : Thread nD τ) ↦{hsh s} X

abbrev FBuf2 : Type := Buf (Elt F) ((featM2).view.loc (c : Thread nD τ))
abbrev slotP2 (s : Fin 2) (f : Buf (Elt F) ((slot2 s).view.loc (c : Thread nD τ))) : sProp 𝕄 :=
  (slot2 s).view.loc (c : Thread nD τ) ↦[(slot2 s).view.set]{fullShare} f
/-- What a transfer of the window at `off` leaves in slot `s`. -/
abbrev landed2 (X : FBuf2 (F := F) c) (s : Fin 2) (off : Fin 4 → Nat) (hh : ∀ a, off a + S1x16x24x256.size a ≤ S2x64x64x256.size a)
    (f : Buf (Elt F) ((slot2 s).view.loc (c : Thread nD τ))) : Buf (Elt F) ((slot2 s).view.loc (c : Thread nD τ)) :=
  (slot2 s).view.writes (Elt F) f [⟨Rect.whole S16x24x256, ReadAs.same.apply ((win2 off hh).view.read (Elt F) X)⟩]
abbrev flightP2 (X : FBuf2 (F := F) c) (s : Fin 2) (off : Fin 4 → Nat) (hh : ∀ a, off a + S1x16x24x256.size a ≤ S2x64x64x256.size a)
    (f : Buf (Elt F) ((slot2 s).view.loc (c : Thread nD τ))) : sProp 𝕄 :=
  iprop(Flight countersEmb (c : Thread nD τ) (SemLoc.dma (csm s 2).sem) () (12288)
      iprop(slotP2 c s (landed2 c X s off hh f) ∗ ((win2 off hh).view.loc (c : Thread nD τ) ↦[(win2 off hh).view.set]{hsh s} X))
    ∗ (featM2.view.loc (c : Thread nD τ) ↦[(Finset.univ : Finset _) \ (win2 off hh).view.set]{hsh s} X))
abbrev homeP2 (X : FBuf2 (F := F) c) (s : Fin 2) : sProp 𝕄 := featM2.view.loc (c : Thread nD τ) ↦{hsh s} X

abbrev FBuf3 : Type := Buf (Elt F) ((featM3).view.loc (c : Thread nD τ))
abbrev slotP3 (s : Fin 2) (f : Buf (Elt F) ((slot3 s).view.loc (c : Thread nD τ))) : sProp 𝕄 :=
  (slot3 s).view.loc (c : Thread nD τ) ↦[(slot3 s).view.set]{fullShare} f
/-- What a transfer of the window at `off` leaves in slot `s`. -/
abbrev landed3 (X : FBuf3 (F := F) c) (s : Fin 2) (off : Fin 4 → Nat) (hh : ∀ a, off a + S1x16x16x256.size a ≤ S2x32x32x256.size a)
    (f : Buf (Elt F) ((slot3 s).view.loc (c : Thread nD τ))) : Buf (Elt F) ((slot3 s).view.loc (c : Thread nD τ)) :=
  (slot3 s).view.writes (Elt F) f [⟨Rect.whole S16x16x256, ReadAs.same.apply ((win3 off hh).view.read (Elt F) X)⟩]
abbrev flightP3 (X : FBuf3 (F := F) c) (s : Fin 2) (off : Fin 4 → Nat) (hh : ∀ a, off a + S1x16x16x256.size a ≤ S2x32x32x256.size a)
    (f : Buf (Elt F) ((slot3 s).view.loc (c : Thread nD τ))) : sProp 𝕄 :=
  iprop(Flight countersEmb (c : Thread nD τ) (SemLoc.dma (csm s 3).sem) () (8192)
      iprop(slotP3 c s (landed3 c X s off hh f) ∗ ((win3 off hh).view.loc (c : Thread nD τ) ↦[(win3 off hh).view.set]{hsh s} X))
    ∗ (featM3.view.loc (c : Thread nD τ) ↦[(Finset.univ : Finset _) \ (win3 off hh).view.set]{hsh s} X))
abbrev homeP3 (X : FBuf3 (F := F) c) (s : Fin 2) : sProp 𝕄 := featM3.view.loc (c : Thread nD τ) ↦{hsh s} X

end Pieces
/-! ## The tables' words -/
section Words
variable {c : Dev nD}
abbrev TBuf5 (c : Dev nD) : Type := Buf (Elt F) ((Memref.whole main_arg5 : Memref sig .tc .smem S512 .i32).view.loc (c : Thread nD τ))
abbrev TBufY (c : Dev nD) : Type := Buf (Elt F) ((Memref.whole main_call0_v648 : Memref sig .tc .smem S4x512 .i32).view.loc (c : Thread nD τ))
abbrev TBufX (c : Dev nD) : Type := Buf (Elt F) ((Memref.whole main_call0_v653 : Memref sig .tc .smem S4x512 .i32).view.loc (c : Thread nD τ))
/-- The image of box `n`. -/
def w5 (T5 : TBuf5 (F := F) c) (n : Fin 512) : BitVec 32 := (Memref.whole main_arg5 : Memref sig .tc .smem S512 .i32).view.read (Elt F) T5 (fun a => match a with | ⟨0, _⟩ => n)
/-- The first row of box `n`'s window at level `l`, and its first column. -/
def wY (TY : TBufY (F := F) c) (l : Fin 4) (n : Fin 512) : BitVec 32 := (Memref.whole main_call0_v648 : Memref sig .tc .smem S4x512 .i32).view.read (Elt F) TY (fun a => match a with | ⟨0, _⟩ => l | ⟨1, _⟩ => n)
def wX (TX : TBufX (F := F) c) (l : Fin 4) (n : Fin 512) : BitVec 32 := (Memref.whole main_call0_v653 : Memref sig .tc .smem S4x512 .i32).view.read (Elt F) TX (fun a => match a with | ⟨0, _⟩ => l | ⟨1, _⟩ => n)

theorem rd5 (T5 : TBuf5 (F := F) c) {off : Fin 1 → Nat} (n : Fin 512) (e : off = ![n.val]) (hh x) :
    View.readAt (Elt F) (Memref.whole main_arg5 : Memref sig .tc .smem S512 .i32).view (Rect.unit (s := S512) off S1.size hh).toLoadRect T5 x = w5 T5 n := by
  subst e
  unfold w5
  refine congrArg (View.read (Elt F) (Memref.whole main_arg5 : Memref sig .tc .smem S512 .i32).view T5) (funext fun a => Fin.ext ?_)
  have hx := (x a).isLt
  revert hx
  match a with
  | ⟨0, _⟩ => intro hx; have : (x 0).val = 0 := by simpa using hx
              show n.val + 1 * (x 0).val = n.val; omega
theorem rdY (TY : TBufY (F := F) c) {off : Fin 2 → Nat} (l : Fin 4) (n : Fin 512) (e : off = ![l.val, n.val]) (hh x) :
    View.readAt (Elt F) (Memref.whole main_call0_v648 : Memref sig .tc .smem S4x512 .i32).view (Rect.unit (s := S4x512) off S1x1.size hh).toLoadRect TY x = wY TY l n := by
  subst e
  unfold wY
  refine congrArg (View.read (Elt F) (Memref.whole main_call0_v648 : Memref sig .tc .smem S4x512 .i32).view TY) (funext fun a => Fin.ext ?_)
  have hx := (x a).isLt
  revert hx
  match a with
  | ⟨0, _⟩ => intro hx; have : (x 0).val = 0 := by simpa using hx
              show l.val + 1 * (x 0).val = l.val; omega
  | ⟨1, _⟩ => intro hx; have : (x 1).val = 0 := by simpa using hx
              show n.val + 1 * (x 1).val = n.val; omega
theorem rdX (TX : TBufX (F := F) c) {off : Fin 2 → Nat} (l : Fin 4) (n : Fin 512) (e : off = ![l.val, n.val]) (hh x) :
    View.readAt (Elt F) (Memref.whole main_call0_v653 : Memref sig .tc .smem S4x512 .i32).view (Rect.unit (s := S4x512) off S1x1.size hh).toLoadRect TX x = wX TX l n := by
  subst e
  unfold wX
  refine congrArg (View.read (Elt F) (Memref.whole main_call0_v653 : Memref sig .tc .smem S4x512 .i32).view TX) (funext fun a => Fin.ext ?_)
  have hx := (x a).isLt
  revert hx
  match a with
  | ⟨0, _⟩ => intro hx; have : (x 0).val = 0 := by simpa using hx
              show l.val + 1 * (x 0).val = l.val; omega
  | ⟨1, _⟩ => intro hx; have : (x 1).val = 0 := by simpa using hx
              show n.val + 1 * (x 1).val = n.val; omega

/-- How far a window's first row and column can go at each level, that the window stay inside the features. -/
def maxY (l : Fin 4) : Nat := ![200, 96, 48, 16] l
def maxX (l : Fin 4) : Nat := ![192, 88, 40, 16] l
/-- What the tables must satisfy: every window lies inside its features, its first column a multiple of eight. -/
def TabOk (T5 : TBuf5 (F := F) c) (TY : TBufY (F := F) c) (TX : TBufX (F := F) c) : Prop :=
  (∀ n, (w5 T5 n).toNat < 2) ∧ (∀ l n, (wY TY l n).toNat ≤ maxY l) ∧ (∀ l n, (wX TX l n).toNat ≤ maxX l ∧ 8 ∣ (wX TX l n).toNat)
/-- Where box `n`'s window at level `l` begins. -/
def woff (T5 : TBuf5 (F := F) c) (TY : TBufY (F := F) c) (TX : TBufX (F := F) c) (l : Fin 4) (n : Fin 512) : Fin 4 → Nat :=
  ![(w5 T5 n).toNat, (wY TY l n).toNat, (wX TX l n).toNat, 0]
end Words
section Inb
variable {c : Dev nD} {T5 : TBuf5 (F := F) c} {TY : TBufY (F := F) c} {TX : TBufX (F := F) c}

theorem woff_inb0 (ht : TabOk T5 TY TX) (n : Fin 512) : ∀ a, woff T5 TY TX 0 n a + S1x56x64x256.size a ≤ S2x256x256x256.size a := by
  have h1 := ht.1 n
  have h2 : (wY TY 0 n).toNat ≤ 200 := ht.2.1 0 n
  have h3 : (wX TX 0 n).toNat ≤ 192 := (ht.2.2 0 n).1
  intro a
  match a with
  | ⟨0, _⟩ => show (w5 T5 n).toNat + 1 ≤ 2; omega
  | ⟨1, _⟩ => show (wY TY 0 n).toNat + 56 ≤ 256; omega
  | ⟨2, _⟩ => show (wX TX 0 n).toNat + 64 ≤ 256; omega
  | ⟨3, _⟩ => show 0 + 256 ≤ 256; omega
/-- Box `n`'s window of the features at level 0. -/
def wv0 (ht : TabOk T5 TY TX) (X : FBuf0 (F := F) c) (n : Fin 512) : S1x56x64x256.Idx → Elt F .f32 :=
  View.readAt (Elt F) featM0.view (Rect.unit (s := S2x256x256x256) (woff T5 TY TX 0 n) S1x56x64x256.size (woff_inb0 ht n)).toLoadRect X
theorem wvOf0 (ht : TabOk T5 TY TX) (X : FBuf0 (F := F) c) (n : Fin 512) {o : Fin 4 → Nat} (hh) (e : o = woff T5 TY TX 0 n) :
    View.readAt (Elt F) featM0.view (Rect.unit (s := S2x256x256x256) o S1x56x64x256.size hh).toLoadRect X = wv0 ht X n := by subst e; rfl
theorem chkF0 (ht : TabOk T5 TY TX) (n : Fin 512) (i : grid0.Coords) {a b d : BitVec 32} (ha : a = w5 T5 n) (hb : b = wY TY 0 n) (hd : d = wX TX 0 n) :
    k0_chk1 i a b d := by
  subst ha; subst hb; subst hd
  exact ⟨fun _ => (ht.2.2 0 n).2, fun _ => woff_inb0 ht n⟩
theorem chkN0 (ht : TabOk T5 TY TX) (n : Fin 512) (i : grid0.Coords) {a b d : BitVec 32} (ha : a = w5 T5 n) (hb : b = wY TY 0 n) (hd : d = wX TX 0 n) :
    k0_chk5 i a b d := by
  subst ha; subst hb; subst hd
  exact ⟨fun _ => (ht.2.2 0 n).2, fun _ => woff_inb0 ht n⟩
/-- A load of a slot a window has landed in reads the window. -/
theorem slotRead0 {off : Fin 4 → Nat} {s : Fin 2} (e : off = slotOff s) (hb o hh) (g) (X : FBuf0 (F := F) c) :
    View.readAt (Elt F) bufM0.view (Rect.unit (s := S2x56x64x256) off S1x56x64x256.size hb).toLoadRect
      ((slot0 s).view.writes (Elt F) g [⟨Rect.whole S56x64x256, ReadAs.same.apply ((win0 o hh).view.read (Elt F) X)⟩])
      = View.readAt (Elt F) featM0.view (Rect.unit (s := S2x256x256x256) o S1x56x64x256.size hh).toLoadRect X := by
  subst e
  funext x
  obtain ⟨y, rfl⟩ := (Shape.reshapeEquiv squeezes_S1x56x64x256_S56x64x256.numel_eq).surjective x
  exact congrFun (View.read_writes_whole (slot0 s).view g (ReadAs.same.apply ((win0 o hh).view.read (Elt F) X))) y

theorem woff_inb1 (ht : TabOk T5 TY TX) (n : Fin 512) : ∀ a, woff T5 TY TX 1 n a + S1x32x40x256.size a ≤ S2x128x128x256.size a := by
  have h1 := ht.1 n
  have h2 : (wY TY 1 n).toNat ≤ 96 := ht.2.1 1 n
  have h3 : (wX TX 1 n).toNat ≤ 88 := (ht.2.2 1 n).1
  intro a
  match a with
  | ⟨0, _⟩ => show (w5 T5 n).toNat + 1 ≤ 2; omega
  | ⟨1, _⟩ => show (wY TY 1 n).toNat + 32 ≤ 128; omega
  | ⟨2, _⟩ => show (wX TX 1 n).toNat + 40 ≤ 128; omega
  | ⟨3, _⟩ => show 0 + 256 ≤ 256; omega
/-- Box `n`'s window of the features at level 1. -/
def wv1 (ht : TabOk T5 TY TX) (X : FBuf1 (F := F) c) (n : Fin 512) : S1x32x40x256.Idx → Elt F .f32 :=
  View.readAt (Elt F) featM1.view (Rect.unit (s := S2x128x128x256) (woff T5 TY TX 1 n) S1x32x40x256.size (woff_inb1 ht n)).toLoadRect X
theorem wvOf1 (ht : TabOk T5 TY TX) (X : FBuf1 (F := F) c) (n : Fin 512) {o : Fin 4 → Nat} (hh) (e : o = woff T5 TY TX 1 n) :
    View.readAt (Elt F) featM1.view (Rect.unit (s := S2x128x128x256) o S1x32x40x256.size hh).toLoadRect X = wv1 ht X n := by subst e; rfl
theorem chkF1 (ht : TabOk T5 TY TX) (n : Fin 512) (i : grid0.Coords) {a b d : BitVec 32} (ha : a = w5 T5 n) (hb : b = wY TY 1 n) (hd : d = wX TX 1 n) :
    k0_chk2 i a b d := by
  subst ha; subst hb; subst hd
  exact ⟨fun _ => (ht.2.2 1 n).2, fun _ => woff_inb1 ht n⟩
theorem chkN1 (ht : TabOk T5 TY TX) (n : Fin 512) (i : grid0.Coords) {a b d : BitVec 32} (ha : a = w5 T5 n) (hb : b = wY TY 1 n) (hd : d = wX TX 1 n) :
    k0_chk6 i a b d := by
  subst ha; subst hb; subst hd
  exact ⟨fun _ => (ht.2.2 1 n).2, fun _ => woff_inb1 ht n⟩
/-- A load of a slot a window has landed in reads the window. -/
theorem slotRead1 {off : Fin 4 → Nat} {s : Fin 2} (e : off = slotOff s) (hb o hh) (g) (X : FBuf1 (F := F) c) :
    View.readAt (Elt F) bufM1.view (Rect.unit (s := S2x32x40x256) off S1x32x40x256.size hb).toLoadRect
      ((slot1 s).view.writes (Elt F) g [⟨Rect.whole S32x40x256, ReadAs.same.apply ((win1 o hh).view.read (Elt F) X)⟩])
      = View.readAt (Elt F) featM1.view (Rect.unit (s := S2x128x128x256) o S1x32x40x256.size hh).toLoadRect X := by
  subst e
  funext x
  obtain ⟨y, rfl⟩ := (Shape.reshapeEquiv squeezes_S1x32x40x256_S32x40x256.numel_eq).surjective x
  exact congrFun (View.read_writes_whole (slot1 s).view g (ReadAs.same.apply ((win1 o hh).view.read (Elt F) X))) y

theorem woff_inb2 (ht : TabOk T5 TY TX) (n : Fin 512) : ∀ a, woff T5 TY TX 2 n a + S1x16x24x256.size a ≤ S2x64x64x256.size a := by
  have h1 := ht.1 n
  have h2 : (wY TY 2 n).toNat ≤ 48 := ht.2.1 2 n
  have h3 : (wX TX 2 n).toNat ≤ 40 := (ht.2.2 2 n).1
  intro a
  match a with
  | ⟨0, _⟩ => show (w5 T5 n).toNat + 1 ≤ 2; omega
  | ⟨1, _⟩ => show (wY TY 2 n).toNat + 16 ≤ 64; omega
  | ⟨2, _⟩ => show (wX TX 2 n).toNat + 24 ≤ 64; omega
  | ⟨3, _⟩ => show 0 + 256 ≤ 256; omega
/-- Box `n`'s window of the features at level 2. -/
def wv2 (ht : TabOk T5 TY TX) (X : FBuf2 (F := F) c) (n : Fin 512) : S1x16x24x256.Idx → Elt F .f32 :=
  View.readAt (Elt F) featM2.view (Rect.unit (s := S2x64x64x256) (woff T5 TY TX 2 n) S1x16x24x256.size (woff_inb2 ht n)).toLoadRect X
theorem wvOf2 (ht : TabOk T5 TY TX) (X : FBuf2 (F := F) c) (n : Fin 512) {o : Fin 4 → Nat} (hh) (e : o = woff T5 TY TX 2 n) :
    View.readAt (Elt F) featM2.view (Rect.unit (s := S2x64x64x256) o S1x16x24x256.size hh).toLoadRect X = wv2 ht X n := by subst e; rfl
theorem chkF2 (ht : TabOk T5 TY TX) (n : Fin 512) (i : grid0.Coords) {a b d : BitVec 32} (ha : a = w5 T5 n) (hb : b = wY TY 2 n) (hd : d = wX TX 2 n) :
    k0_chk3 i a b d := by
  subst ha; subst hb; subst hd
  exact ⟨fun _ => (ht.2.2 2 n).2, fun _ => woff_inb2 ht n⟩
theorem chkN2 (ht : TabOk T5 TY TX) (n : Fin 512) (i : grid0.Coords) {a b d : BitVec 32} (ha : a = w5 T5 n) (hb : b = wY TY 2 n) (hd : d = wX TX 2 n) :
    k0_chk7 i a b d := by
  subst ha; subst hb; subst hd
  exact ⟨fun _ => (ht.2.2 2 n).2, fun _ => woff_inb2 ht n⟩
/-- A load of a slot a window has landed in reads the window. -/
theorem slotRead2 {off : Fin 4 → Nat} {s : Fin 2} (e : off = slotOff s) (hb o hh) (g) (X : FBuf2 (F := F) c) :
    View.readAt (Elt F) bufM2.view (Rect.unit (s := S2x16x24x256) off S1x16x24x256.size hb).toLoadRect
      ((slot2 s).view.writes (Elt F) g [⟨Rect.whole S16x24x256, ReadAs.same.apply ((win2 o hh).view.read (Elt F) X)⟩])
      = View.readAt (Elt F) featM2.view (Rect.unit (s := S2x64x64x256) o S1x16x24x256.size hh).toLoadRect X := by
  subst e
  funext x
  obtain ⟨y, rfl⟩ := (Shape.reshapeEquiv squeezes_S1x16x24x256_S16x24x256.numel_eq).surjective x
  exact congrFun (View.read_writes_whole (slot2 s).view g (ReadAs.same.apply ((win2 o hh).view.read (Elt F) X))) y

theorem woff_inb3 (ht : TabOk T5 TY TX) (n : Fin 512) : ∀ a, woff T5 TY TX 3 n a + S1x16x16x256.size a ≤ S2x32x32x256.size a := by
  have h1 := ht.1 n
  have h2 : (wY TY 3 n).toNat ≤ 16 := ht.2.1 3 n
  have h3 : (wX TX 3 n).toNat ≤ 16 := (ht.2.2 3 n).1
  intro a
  match a with
  | ⟨0, _⟩ => show (w5 T5 n).toNat + 1 ≤ 2; omega
  | ⟨1, _⟩ => show (wY TY 3 n).toNat + 16 ≤ 32; omega
  | ⟨2, _⟩ => show (wX TX 3 n).toNat + 16 ≤ 32; omega
  | ⟨3, _⟩ => show 0 + 256 ≤ 256; omega
/-- Box `n`'s window of the features at level 3. -/
def wv3 (ht : TabOk T5 TY TX) (X : FBuf3 (F := F) c) (n : Fin 512) : S1x16x16x256.Idx → Elt F .f32 :=
  View.readAt (Elt F) featM3.view (Rect.unit (s := S2x32x32x256) (woff T5 TY TX 3 n) S1x16x16x256.size (woff_inb3 ht n)).toLoadRect X
theorem wvOf3 (ht : TabOk T5 TY TX) (X : FBuf3 (F := F) c) (n : Fin 512) {o : Fin 4 → Nat} (hh) (e : o = woff T5 TY TX 3 n) :
    View.readAt (Elt F) featM3.view (Rect.unit (s := S2x32x32x256) o S1x16x16x256.size hh).toLoadRect X = wv3 ht X n := by subst e; rfl
theorem chkF3 (ht : TabOk T5 TY TX) (n : Fin 512) (i : grid0.Coords) {a b d : BitVec 32} (ha : a = w5 T5 n) (hb : b = wY TY 3 n) (hd : d = wX TX 3 n) :
    k0_chk4 i a b d := by
  subst ha; subst hb; subst hd
  exact ⟨fun _ => (ht.2.2 3 n).2, fun _ => woff_inb3 ht n⟩
theorem chkN3 (ht : TabOk T5 TY TX) (n : Fin 512) (i : grid0.Coords) {a b d : BitVec 32} (ha : a = w5 T5 n) (hb : b = wY TY 3 n) (hd : d = wX TX 3 n) :
    k0_chk8 i a b d := by
  subst ha; subst hb; subst hd
  exact ⟨fun _ => (ht.2.2 3 n).2, fun _ => woff_inb3 ht n⟩
/-- A load of a slot a window has landed in reads the window. -/
theorem slotRead3 {off : Fin 4 → Nat} {s : Fin 2} (e : off = slotOff s) (hb o hh) (g) (X : FBuf3 (F := F) c) :
    View.readAt (Elt F) bufM3.view (Rect.unit (s := S2x16x16x256) off S1x16x16x256.size hb).toLoadRect
      ((slot3 s).view.writes (Elt F) g [⟨Rect.whole S16x16x256, ReadAs.same.apply ((win3 o hh).view.read (Elt F) X)⟩])
      = View.readAt (Elt F) featM3.view (Rect.unit (s := S2x32x32x256) o S1x16x16x256.size hh).toLoadRect X := by
  subst e
  funext x
  obtain ⟨y, rfl⟩ := (Shape.reshapeEquiv squeezes_S1x16x16x256_S16x16x256.numel_eq).surjective x
  exact congrFun (View.read_writes_whole (slot3 s).view g (ReadAs.same.apply ((win3 o hh).view.read (Elt F) X))) y

end Inb

section State
variable (c : Dev nD) (T5 : TBuf5 (F := F) c) (TY : TBufY (F := F) c) (TX : TBufX (F := F) c)
variable (X0 : FBuf0 (F := F) c) (X1 : FBuf1 (F := F) c) (X2 : FBuf2 (F := F) c) (X3 : FBuf3 (F := F) c)
variable (q : PosShare TreeShare)
/-- The tables, shared with the launch. -/
def tabsP : sProp 𝕄 := iprop(((Memref.whole main_arg5 : Memref sig .tc .smem S512 .i32).view.loc (c : Thread nD τ) ↦{q} T5)
  ∗ ((Memref.whole main_call0_v648 : Memref sig .tc .smem S4x512 .i32).view.loc (c : Thread nD τ) ↦{q} TY)
  ∗ ((Memref.whole main_call0_v653 : Memref sig .tc .smem S4x512 .i32).view.loc (c : Thread nD τ) ↦{q} TX))
/-- Slot `s` idle: its four semaphores at zero, its four buffers and its share of the features at home. -/
def freeP (s : Fin 2) : sProp 𝕄 :=
  iprop(cellP c s 0 ∗ (∃ f, slotP0 c s f) ∗ homeP0 c X0 s ∗ cellP c s 1 ∗ (∃ f, slotP1 c s f) ∗ homeP1 c X1 s ∗ cellP c s 2 ∗ (∃ f, slotP2 c s f) ∗ homeP2 c X2 s ∗ cellP c s 3 ∗ (∃ f, slotP3 c s f) ∗ homeP3 c X3 s)
/-- Slot `s` receiving the four windows of box `n`. -/
def busyP (s : Fin 2) (n : Fin 512) : sProp 𝕄 :=
  iprop((∃ o hh f, ⌜o = woff T5 TY TX 0 n⌝ ∗ flightP0 c X0 s o hh f) ∗ (∃ o hh f, ⌜o = woff T5 TY TX 1 n⌝ ∗ flightP1 c X1 s o hh f) ∗ (∃ o hh f, ⌜o = woff T5 TY TX 2 n⌝ ∗ flightP2 c X2 s o hh f) ∗ (∃ o hh f, ⌜o = woff T5 TY TX 3 n⌝ ∗ flightP3 c X3 s o hh f))
end State

theorem rdW {sp : Space} {S : Shape} (v : View sig .tc sp S .f32) (r : Rect S)
    {f : v.ty.Contents (Elt F)} {d : S.Idx → Elt F .f32} (hf : v.read (Elt F) f = d) :
    View.readAt (Elt F) v r.toLoadRect f = View.ld d r := by
  subst hf; rfl
/-- What one point of the grid stores, from its blocks and its four windows. -/
def outV (d9 : S1x56x49.Idx → Elt F .f32) (d10 : S1x64x49.Idx → Elt F .f32) (d11 : S1x32x49.Idx → Elt F .f32) (d12 : S1x40x49.Idx → Elt F .f32) (d13 : S1x16x49.Idx → Elt F .f32) (d14 : S1x24x49.Idx → Elt F .f32) (d15 : S1x16x49.Idx → Elt F .f32) (d16 : S1x16x49.Idx → Elt F .f32) (d17 : S4x256x256.Idx → Elt F .f32) (d18 : S1x256.Idx → Elt F .f32)
    (v0 : S1x56x64x256.Idx → Elt F .f32) (v1 : S1x32x40x256.Idx → Elt F .f32) (v2 : S1x16x24x256.Idx → Elt F .f32) (v3 : S1x16x16x256.Idx → Elt F .f32) : S1x49x256.Idx → Elt F .f32 :=
  k0_pay1 (F := F) (k0_pay4 (k0_pay3 (k0_pay2 d9 d10) v0 (View.ld d17 (Rect.unit ![0, 0, 0] S1x256x256.size inb_S4x256x256_S1x256x256_0_0_0)) d11 d12 v1 (View.ld d17 (Rect.unit ![1, 0, 0] S1x256x256.size inb_S4x256x256_S1x256x256_1_0_0)))
    d13 d14 v2 (View.ld d17 (Rect.unit ![2, 0, 0] S1x256x256.size inb_S4x256x256_S1x256x256_2_0_0))) d15 d16 v3 (View.ld d17 (Rect.unit ![3, 0, 0] S1x256x256.size inb_S4x256x256_S1x256x256_3_0_0)) d18

theorem outV_of {x9 d9 : S1x56x49.Idx → Elt F .f32} {x10 d10 : S1x64x49.Idx → Elt F .f32} {x11 d11 : S1x32x49.Idx → Elt F .f32} {x12 d12 : S1x40x49.Idx → Elt F .f32}
    {x13 d13 : S1x16x49.Idx → Elt F .f32} {x14 d14 : S1x24x49.Idx → Elt F .f32} {x15 d15 : S1x16x49.Idx → Elt F .f32} {x16 d16 : S1x16x49.Idx → Elt F .f32}
    {y0 y1 y2 y3 : S1x256x256.Idx → Elt F .f32} {d17 : S4x256x256.Idx → Elt F .f32} {x18 d18 : S1x256.Idx → Elt F .f32}
    {u0 v0 : S1x56x64x256.Idx → Elt F .f32} {u1 v1 : S1x32x40x256.Idx → Elt F .f32} {u2 v2 : S1x16x24x256.Idx → Elt F .f32} {u3 v3 : S1x16x16x256.Idx → Elt F .f32}
    (h9 : x9 = d9) (h10 : x10 = d10) (h11 : x11 = d11) (h12 : x12 = d12) (h13 : x13 = d13) (h14 : x14 = d14) (h15 : x15 = d15) (h16 : x16 = d16) (h18 : x18 = d18)
    (k0 : y0 = View.ld d17 (Rect.unit ![0, 0, 0] S1x256x256.size inb_S4x256x256_S1x256x256_0_0_0)) (k1 : y1 = View.ld d17 (Rect.unit ![1, 0, 0] S1x256x256.size inb_S4x256x256_S1x256x256_1_0_0))
    (k2 : y2 = View.ld d17 (Rect.unit ![2, 0, 0] S1x256x256.size inb_S4x256x256_S1x256x256_2_0_0)) (k3 : y3 = View.ld d17 (Rect.unit ![3, 0, 0] S1x256x256.size inb_S4x256x256_S1x256x256_3_0_0))
    (e0 : u0 = v0) (e1 : u1 = v1) (e2 : u2 = v2) (e3 : u3 = v3) :
    k0_pay1 (F := F) (k0_pay4 (k0_pay3 (k0_pay2 x9 x10) u0 y0 x11 x12 u1 y1) x13 x14 u2 y2) x15 x16 u3 y3 x18
      = outV d9 d10 d11 d12 d13 d14 d15 d16 d17 d18 v0 v1 v2 v3 := by
  subst h9 h10 h11 h12 h13 h14 h15 h16 h18 k0 k1 k2 k3 e0 e1 e2 e3; rfl

/-- A load of a whole block reads what the block holds. -/
theorem rdArg {sp : Space} {S : Shape} (v : View sig .tc sp S .f32) {off : Fin S.rank → Nat} (h : off = fun _ => 0) (inb : ∀ a, off a + S.size a ≤ S.size a)
    {f : v.ty.Contents (Elt F)} {d : S.Idx → Elt F .f32} (hf : v.read (Elt F) f = d) :
    View.readAt (Elt F) v (Rect.unit off S.size inb).toLoadRect f = d := by
  subst hf; exact View.ld_unit_zero h inb _

theorem hz3 : (![0, 0, 0] : Fin 3 → Nat) = fun _ => 0 := by decide
theorem hz2 : (![0, 0] : Fin 2 → Nat) = fun _ => 0 := by decide

theorem read_stored (v : View sig .tc .vmem S1x49x256 .f32) (f : v.ty.Contents (Elt F)) (w : S1x49x256.Idx → Elt F .f32) (hh) :
    v.read (Elt F) (v.writes (Elt F) f [⟨Rect.unit ![0, 0, 0] S1x49x256.size hh, w⟩]) = w := by
  rw [View.read_writes_eq_canon _ _ _ (fun y => ⟨_, List.mem_singleton.mpr rfl, by
    rw [Rect.mem_set_unit]; intro a; have := (y a).isLt
    match a with
    | ⟨0, _⟩ => exact ⟨Nat.zero_le _, by simpa using this⟩
    | ⟨1, _⟩ => exact ⟨Nat.zero_le _, by simpa using this⟩
    | ⟨2, _⟩ => exact ⟨Nat.zero_le _, by simpa using this⟩⟩), View.canon_unit_zero hz3]

/-- The box of a point of the grid, and the next one. -/
def bx (i : grid0.Coords) : Fin 512 := ⟨256 * (i 0).val + (i 1).val, by
  have a : (i 0).val < 2 := (i 0).isLt; have b : (i 1).val < 256 := (i 1).isLt; omega⟩
def nbx (i : grid0.Coords) (h : k0_cond2 i = 1#1) : Fin 512 := ⟨256 * (i 0).val + (i 1).val + 1, by
  have h' := (cond2_iff i).1 h; have a : (i 0).val < 2 := (i 0).isLt; omega⟩

section Run
variable (c : Dev nD) (i : grid0.Coords)
  (arg9 : Memref sig .tc .vmem S1x56x49 .f32) (harg9 : arg9.IsWhole)
  (arg10 : Memref sig .tc .vmem S1x64x49 .f32) (harg10 : arg10.IsWhole)
  (arg11 : Memref sig .tc .vmem S1x32x49 .f32) (harg11 : arg11.IsWhole)
  (arg12 : Memref sig .tc .vmem S1x40x49 .f32) (harg12 : arg12.IsWhole)
  (arg13 : Memref sig .tc .vmem S1x16x49 .f32) (harg13 : arg13.IsWhole)
  (arg14 : Memref sig .tc .vmem S1x24x49 .f32) (harg14 : arg14.IsWhole)
  (arg15 : Memref sig .tc .vmem S1x16x49 .f32) (harg15 : arg15.IsWhole)
  (arg16 : Memref sig .tc .vmem S1x16x49 .f32) (harg16 : arg16.IsWhole)
  (arg17 : Memref sig .tc .vmem S4x256x256 .f32) (harg17 : arg17.IsWhole)
  (arg18 : Memref sig .tc .vmem S1x256 .f32) (harg18 : arg18.IsWhole)
  (arg19 : Memref sig .tc .vmem S1x49x256 .f32) (harg19 : arg19.IsWhole)

abbrev bodyG : Prog (TpuEff nD τ sig (Elt F) Λ₀ .tc) PUnit :=
  cc0_pyramid_roialign i (Memref.whole main_arg5) (Memref.isWhole_whole _) (Memref.whole main_call0_v648) (Memref.isWhole_whole _) (Memref.whole main_call0_v653) (Memref.isWhole_whole _)
    featM0 (Memref.isWhole_whole _) featM1 (Memref.isWhole_whole _) featM2 (Memref.isWhole_whole _) featM3 (Memref.isWhole_whole _)
    arg9 harg9 arg10 harg10 arg11 harg11 arg12 harg12 arg13 harg13 arg14 harg14 arg15 harg15 arg16 harg16 arg17 harg17 arg18 harg18 arg19 harg19
    bufM0 (Memref.isWhole_whole _) bufM1 (Memref.isWhole_whole _) bufM2 (Memref.isWhole_whole _) bufM3 (Memref.isWhole_whole _) cc0_scratch4

variable (q : PosShare TreeShare) {T5 : TBuf5 (F := F) c} {TY : TBufY (F := F) c} {TX : TBufX (F := F) c} (ht : TabOk T5 TY TX)
variable (X0 : FBuf0 (F := F) c) (X1 : FBuf1 (F := F) c) (X2 : FBuf2 (F := F) c) (X3 : FBuf3 (F := F) c)
variable (d9 : S1x56x49.Idx → Elt F .f32) (d10 : S1x64x49.Idx → Elt F .f32) (d11 : S1x32x49.Idx → Elt F .f32) (d12 : S1x40x49.Idx → Elt F .f32) (d13 : S1x16x49.Idx → Elt F .f32) (d14 : S1x24x49.Idx → Elt F .f32) (d15 : S1x16x49.Idx → Elt F .f32) (d16 : S1x16x49.Idx → Elt F .f32) (d17 : S4x256x256.Idx → Elt F .f32) (d18 : S1x256.Idx → Elt F .f32)

theorem congr4 {a a' b b' d d' : BitVec 32} (ha : a = a') (hb : b = b') (hd : d = d') :
    (![a.toNat, b.toNat, d.toNat, 0] : Fin 4 → Nat) = ![a'.toNat, b'.toNat, d'.toNat, 0] := by subst ha; subst hb; subst hd; rfl

theorem o5F (i : grid0.Coords) (h : k0_cond1 i = 1#1) : k0_off1 i = ![(bx i).val] := by
  rw [k0_off1_eq]; rfl
theorem o2 (i : grid0.Coords) (h : k0_cond1 i = 1#1) : k0_off2 i = ![(0 : Fin 4).val, (bx i).val] := by
  rw [k0_off2_eq]; rfl
theorem o4 (i : grid0.Coords) (h : k0_cond1 i = 1#1) : k0_off4 i = ![(1 : Fin 4).val, (bx i).val] := by
  rw [k0_off4_eq]; rfl
theorem o6 (i : grid0.Coords) (h : k0_cond1 i = 1#1) : k0_off6 i = ![(2 : Fin 4).val, (bx i).val] := by
  rw [k0_off6_eq]; rfl
theorem o8 (i : grid0.Coords) (h : k0_cond1 i = 1#1) : k0_off8 i = ![(3 : Fin 4).val, (bx i).val] := by
  rw [k0_off8_eq]; rfl
theorem o5N (i : grid0.Coords) (h : k0_cond2 i = 1#1) : k0_off10 i = ![(nbx i h).val] := by
  rw [k0_off10_eq]; rfl
theorem o11 (i : grid0.Coords) (h : k0_cond2 i = 1#1) : k0_off11 i = ![(0 : Fin 4).val, (nbx i h).val] := by
  rw [k0_off11_eq]; rfl
theorem o15 (i : grid0.Coords) (h : k0_cond2 i = 1#1) : k0_off15 i = ![(1 : Fin 4).val, (nbx i h).val] := by
  rw [k0_off15_eq]; rfl
theorem o19 (i : grid0.Coords) (h : k0_cond2 i = 1#1) : k0_off19 i = ![(2 : Fin 4).val, (nbx i h).val] := by
  rw [k0_off19_eq]; rfl
theorem o23 (i : grid0.Coords) (h : k0_cond2 i = 1#1) : k0_off23 i = ![(3 : Fin 4).val, (nbx i h).val] := by
  rw [k0_off23_eq]; rfl

set_option maxHeartbeats 4000000 in
theorem runM (h1 : ¬ (k0_cond1 i = 1#1)) (h2 : k0_cond2 i = 1#1)
  (W : Waits sig Unit) (K : PUnit → sProp 𝕄) :
  iprop(owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18
    ∗ (∃ d, owns (c : Thread nD τ) arg19 fullShare d) ∗ tabsP c T5 TY TX q
    ∗ busyP c T5 TY TX X0 X1 X2 X3 (sl i) (bx i) ∗ freeP c X0 X1 X2 X3 (nsl i) ∗ owes (c : Thread nD τ) 0 W
    ∗ (iprop(owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18
        ∗ owns (c : Thread nD τ) arg19 fullShare (outV d9 d10 d11 d12 d13 d14 d15 d16 d17 d18 (wv0 ht X0 (bx i)) (wv1 ht X1 (bx i)) (wv2 ht X2 (bx i)) (wv3 ht X3 (bx i))) ∗ tabsP c T5 TY TX q
        ∗ freeP c X0 X1 X2 X3 (sl i) ∗ busyP c T5 TY TX X0 X1 X2 X3 (nsl i) (nbx i h2) ∗ (∃ W', owes (c : Thread nD τ) 0 W')) -∗ K ⟨⟩))
   ⊢ wp frame (wpE (defs₀ (F := F)) Variants.none c none) Set.univ (bodyG (F := F) i arg9 harg9 arg10 harg10 arg11 harg11 arg12 harg12 arg13 harg13 arg14 harg14 arg15 harg15 arg16 harg16 arg17 harg17 arg18 harg18 arg19 harg19) K := by
  have hc5 := chkN0 ht (nbx i h2) i
    (rd5 T5 (off := k0_off10 i) (nbx i h2) (o5N i h2) (k0_off10_inb i h2) (Shape.Idx.first (show 0 < S1.numel by decide)))
    (rdY TY (off := k0_off11 i) 0 (nbx i h2) (o11 i h2) (k0_off11_inb i h2) (Shape.Idx.first (show 0 < S1x1.numel by decide)))
    (rdX TX (off := k0_off11 i) 0 (nbx i h2) (o11 i h2) (k0_off11_inb i h2) (Shape.Idx.first (show 0 < S1x1.numel by decide)))
  have hc6 := chkN1 ht (nbx i h2) i
    (rd5 T5 (off := k0_off10 i) (nbx i h2) (o5N i h2) (k0_off10_inb i h2) (Shape.Idx.first (show 0 < S1.numel by decide)))
    (rdY TY (off := k0_off15 i) 1 (nbx i h2) (o15 i h2) (k0_off15_inb i h2) (Shape.Idx.first (show 0 < S1x1.numel by decide)))
    (rdX TX (off := k0_off15 i) 1 (nbx i h2) (o15 i h2) (k0_off15_inb i h2) (Shape.Idx.first (show 0 < S1x1.numel by decide)))
  have hc7 := chkN2 ht (nbx i h2) i
    (rd5 T5 (off := k0_off10 i) (nbx i h2) (o5N i h2) (k0_off10_inb i h2) (Shape.Idx.first (show 0 < S1.numel by decide)))
    (rdY TY (off := k0_off19 i) 2 (nbx i h2) (o19 i h2) (k0_off19_inb i h2) (Shape.Idx.first (show 0 < S1x1.numel by decide)))
    (rdX TX (off := k0_off19 i) 2 (nbx i h2) (o19 i h2) (k0_off19_inb i h2) (Shape.Idx.first (show 0 < S1x1.numel by decide)))
  have hc8 := chkN3 ht (nbx i h2) i
    (rd5 T5 (off := k0_off10 i) (nbx i h2) (o5N i h2) (k0_off10_inb i h2) (Shape.Idx.first (show 0 < S1.numel by decide)))
    (rdY TY (off := k0_off23 i) 3 (nbx i h2) (o23 i h2) (k0_off23_inb i h2) (Shape.Idx.first (show 0 < S1x1.numel by decide)))
    (rdX TX (off := k0_off23 i) 3 (nbx i h2) (o23 i h2) (k0_off23_inb i h2) (Shape.Idx.first (show 0 < S1x1.numel by decide)))
  simp only [bodyG, cc0_pyramid_roialign_eq_skeleton]
  unfold cc0_pyramid_roialign_skel
  unfold freeP busyP tabsP owns
  iintro ⟨⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨HT5, HTY, HTX⟩, ⟨⟨%o0, %hh0, %g0, %ho0, HF0, HR0⟩, ⟨%o1, %hh1, %g1, %ho1, HF1, HR1⟩, ⟨%o2, %hh2, %g2, %ho2, HF2, HR2⟩, ⟨%o3, %hh3, %g3, %ho3, HF3, HR3⟩⟩, ⟨HCb0, ⟨%eb0, HSb0⟩, HHb0, HCb1, ⟨%eb1, HSb1⟩, HHb1, HCb2, ⟨%eb2, HSb2⟩, HHb2, HCb3, ⟨%eb3, HSb3⟩, HHb3⟩, HW, Hk⟩
  sl_exec
  sl_step
  iapply Hk
  isplitl [H9]
  · iexists f9; isplitr; · ipureintro; exact hf9
    iexact H9
  isplitl [H10]
  · iexists f10; isplitr; · ipureintro; exact hf10
    iexact H10
  isplitl [H11]
  · iexists f11; isplitr; · ipureintro; exact hf11
    iexact H11
  isplitl [H12]
  · iexists f12; isplitr; · ipureintro; exact hf12
    iexact H12
  isplitl [H13]
  · iexists f13; isplitr; · ipureintro; exact hf13
    iexact H13
  isplitl [H14]
  · iexists f14; isplitr; · ipureintro; exact hf14
    iexact H14
  isplitl [H15]
  · iexists f15; isplitr; · ipureintro; exact hf15
    iexact H15
  isplitl [H16]
  · iexists f16; isplitr; · ipureintro; exact hf16
    iexact H16
  isplitl [H17]
  · iexists f17; isplitr; · ipureintro; exact hf17
    iexact H17
  isplitl [H18]
  · iexists f18; isplitr; · ipureintro; exact hf18
    iexact H18
  isplitl [H19]
  · iexists _; isplitr; swap; · iexact H19
    ipureintro
    rw [read_stored]
    subst ho0 ho1 ho2 ho3
    exact outV_of (rdArg arg9.view hz3 _ hf9) (rdArg arg10.view hz3 _ hf10) (rdArg arg11.view hz3 _ hf11) (rdArg arg12.view hz3 _ hf12) (rdArg arg13.view hz3 _ hf13) (rdArg arg14.view hz3 _ hf14) (rdArg arg15.view hz3 _ hf15) (rdArg arg16.view hz3 _ hf16) (rdArg arg18.view hz2 _ hf18)
      (rdW arg17.view _ hf17) (rdW arg17.view _ hf17) (rdW arg17.view _ hf17) (rdW arg17.view _ hf17)
      (slotRead0 (off29_eq i) _ _ _ _ X0) (slotRead1 (off32_eq i) _ _ _ _ X1) (slotRead2 (off35_eq i) _ _ _ _ X2) (slotRead3 (off38_eq i) _ _ _ _ X3)
  isplitl [HT5 HTY HTX]
  · isplitl [HT5]; · iexact HT5
    isplitl [HTY]; · iexact HTY
    iexact HTX
  isplitl [HF0 HF1 HF2 HF3 HF0_dst HF1_dst HF2_dst HF3_dst HR0 HR1 HR2 HR3]
  · isplitl [HF0]; · iexact HF0
    isplitl [HF0_dst]; · iexists _; iexact HF0_dst
    isplitl [HR0]; · iexact HR0
    isplitl [HF1]; · iexact HF1
    isplitl [HF1_dst]; · iexists _; iexact HF1_dst
    isplitl [HR1]; · iexact HR1
    isplitl [HF2]; · iexact HF2
    isplitl [HF2_dst]; · iexists _; iexact HF2_dst
    isplitl [HR2]; · iexact HR2
    isplitl [HF3]; · iexact HF3
    isplitl [HF3_dst]; · iexists _; iexact HF3_dst
    iexact HR3
  isplitl [HCb0 HHb0 HCb1 HHb1 HCb2 HHb2 HCb3 HHb3]
  · isplitl [HCb0 HHb0]
    · iexists _, _, _; isplitr; swap
      · isplitl [HCb0]; · iexact HCb0
        iexact HHb0
      ipureintro
      exact congr4 (rd5 T5 (off := k0_off10 i) (nbx i h2) (o5N i h2) _ _) (rdY TY (off := k0_off11 i) 0 (nbx i h2) (o11 i h2) _ _) (rdX TX (off := k0_off11 i) 0 (nbx i h2) (o11 i h2) _ _)
    isplitl [HCb1 HHb1]
    · iexists _, _, _; isplitr; swap
      · isplitl [HCb1]; · iexact HCb1
        iexact HHb1
      ipureintro
      exact congr4 (rd5 T5 (off := k0_off10 i) (nbx i h2) (o5N i h2) _ _) (rdY TY (off := k0_off15 i) 1 (nbx i h2) (o15 i h2) _ _) (rdX TX (off := k0_off15 i) 1 (nbx i h2) (o15 i h2) _ _)
    isplitl [HCb2 HHb2]
    · iexists _, _, _; isplitr; swap
      · isplitl [HCb2]; · iexact HCb2
        iexact HHb2
      ipureintro
      exact congr4 (rd5 T5 (off := k0_off10 i) (nbx i h2) (o5N i h2) _ _) (rdY TY (off := k0_off19 i) 2 (nbx i h2) (o19 i h2) _ _) (rdX TX (off := k0_off19 i) 2 (nbx i h2) (o19 i h2) _ _)
    iexists _, _, _; isplitr; swap
    · isplitl [HCb3]; · iexact HCb3
      iexact HHb3
    ipureintro
    exact congr4 (rd5 T5 (off := k0_off10 i) (nbx i h2) (o5N i h2) _ _) (rdY TY (off := k0_off23 i) 3 (nbx i h2) (o23 i h2) _ _) (rdX TX (off := k0_off23 i) 3 (nbx i h2) (o23 i h2) _ _)
  iexists _; iexact HW

set_option maxHeartbeats 4000000 in
theorem runL (h1 : ¬ (k0_cond1 i = 1#1)) (h2 : ¬ (k0_cond2 i = 1#1))
  (W : Waits sig Unit) (K : PUnit → sProp 𝕄) :
  iprop(owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18
    ∗ (∃ d, owns (c : Thread nD τ) arg19 fullShare d) ∗ tabsP c T5 TY TX q
    ∗ busyP c T5 TY TX X0 X1 X2 X3 (sl i) (bx i) ∗ owes (c : Thread nD τ) 0 W
    ∗ (iprop(owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18
        ∗ owns (c : Thread nD τ) arg19 fullShare (outV d9 d10 d11 d12 d13 d14 d15 d16 d17 d18 (wv0 ht X0 (bx i)) (wv1 ht X1 (bx i)) (wv2 ht X2 (bx i)) (wv3 ht X3 (bx i))) ∗ tabsP c T5 TY TX q
        ∗ freeP c X0 X1 X2 X3 (sl i) ∗ (∃ W', owes (c : Thread nD τ) 0 W')) -∗ K ⟨⟩))
   ⊢ wp frame (wpE (defs₀ (F := F)) Variants.none c none) Set.univ (bodyG (F := F) i arg9 harg9 arg10 harg10 arg11 harg11 arg12 harg12 arg13 harg13 arg14 harg14 arg15 harg15 arg16 harg16 arg17 harg17 arg18 harg18 arg19 harg19) K := by
  simp only [bodyG, cc0_pyramid_roialign_eq_skeleton]
  unfold cc0_pyramid_roialign_skel
  unfold freeP busyP tabsP owns
  iintro ⟨⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨HT5, HTY, HTX⟩, ⟨⟨%o0, %hh0, %g0, %ho0, HF0, HR0⟩, ⟨%o1, %hh1, %g1, %ho1, HF1, HR1⟩, ⟨%o2, %hh2, %g2, %ho2, HF2, HR2⟩, ⟨%o3, %hh3, %g3, %ho3, HF3, HR3⟩⟩, HW, Hk⟩
  sl_exec
  sl_step
  iapply Hk
  isplitl [H9]
  · iexists f9; isplitr; · ipureintro; exact hf9
    iexact H9
  isplitl [H10]
  · iexists f10; isplitr; · ipureintro; exact hf10
    iexact H10
  isplitl [H11]
  · iexists f11; isplitr; · ipureintro; exact hf11
    iexact H11
  isplitl [H12]
  · iexists f12; isplitr; · ipureintro; exact hf12
    iexact H12
  isplitl [H13]
  · iexists f13; isplitr; · ipureintro; exact hf13
    iexact H13
  isplitl [H14]
  · iexists f14; isplitr; · ipureintro; exact hf14
    iexact H14
  isplitl [H15]
  · iexists f15; isplitr; · ipureintro; exact hf15
    iexact H15
  isplitl [H16]
  · iexists f16; isplitr; · ipureintro; exact hf16
    iexact H16
  isplitl [H17]
  · iexists f17; isplitr; · ipureintro; exact hf17
    iexact H17
  isplitl [H18]
  · iexists f18; isplitr; · ipureintro; exact hf18
    iexact H18
  isplitl [H19]
  · iexists _; isplitr; swap; · iexact H19
    ipureintro
    rw [read_stored]
    subst ho0 ho1 ho2 ho3
    exact outV_of (rdArg arg9.view hz3 _ hf9) (rdArg arg10.view hz3 _ hf10) (rdArg arg11.view hz3 _ hf11) (rdArg arg12.view hz3 _ hf12) (rdArg arg13.view hz3 _ hf13) (rdArg arg14.view hz3 _ hf14) (rdArg arg15.view hz3 _ hf15) (rdArg arg16.view hz3 _ hf16) (rdArg arg18.view hz2 _ hf18)
      (rdW arg17.view _ hf17) (rdW arg17.view _ hf17) (rdW arg17.view _ hf17) (rdW arg17.view _ hf17)
      (slotRead0 (off29_eq i) _ _ _ _ X0) (slotRead1 (off32_eq i) _ _ _ _ X1) (slotRead2 (off35_eq i) _ _ _ _ X2) (slotRead3 (off38_eq i) _ _ _ _ X3)
  isplitl [HT5 HTY HTX]
  · isplitl [HT5]; · iexact HT5
    isplitl [HTY]; · iexact HTY
    iexact HTX
  isplitl [HF0 HF1 HF2 HF3 HF0_dst HF1_dst HF2_dst HF3_dst HR0 HR1 HR2 HR3]
  · isplitl [HF0]; · iexact HF0
    isplitl [HF0_dst]; · iexists _; iexact HF0_dst
    isplitl [HR0]; · iexact HR0
    isplitl [HF1]; · iexact HF1
    isplitl [HF1_dst]; · iexists _; iexact HF1_dst
    isplitl [HR1]; · iexact HR1
    isplitl [HF2]; · iexact HF2
    isplitl [HF2_dst]; · iexists _; iexact HF2_dst
    isplitl [HR2]; · iexact HR2
    isplitl [HF3]; · iexact HF3
    isplitl [HF3_dst]; · iexists _; iexact HF3_dst
    iexact HR3
  iexists _; iexact HW

set_option maxHeartbeats 4000000 in
theorem runF (h1 : k0_cond1 i = 1#1) (h2 : k0_cond2 i = 1#1) (hcanonS : sl i = 0) (hcanonN : nsl i = 1)
  (W : Waits sig Unit) (K : PUnit → sProp 𝕄) :
  iprop(owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18
    ∗ (∃ d, owns (c : Thread nD τ) arg19 fullShare d) ∗ tabsP c T5 TY TX q
    ∗ freeP c X0 X1 X2 X3 0 ∗ freeP c X0 X1 X2 X3 1 ∗ owes (c : Thread nD τ) 0 W
    ∗ (iprop(owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18
        ∗ owns (c : Thread nD τ) arg19 fullShare (outV d9 d10 d11 d12 d13 d14 d15 d16 d17 d18 (wv0 ht X0 (bx i)) (wv1 ht X1 (bx i)) (wv2 ht X2 (bx i)) (wv3 ht X3 (bx i))) ∗ tabsP c T5 TY TX q
        ∗ freeP c X0 X1 X2 X3 0 ∗ busyP c T5 TY TX X0 X1 X2 X3 1 (nbx i h2) ∗ (∃ W', owes (c : Thread nD τ) 0 W')) -∗ K ⟨⟩))
   ⊢ wp frame (wpE (defs₀ (F := F)) Variants.none c none) Set.univ (bodyG (F := F) i arg9 harg9 arg10 harg10 arg11 harg11 arg12 harg12 arg13 harg13 arg14 harg14 arg15 harg15 arg16 harg16 arg17 harg17 arg18 harg18 arg19 harg19) K := by
  have hc1 := chkF0 ht (bx i) i
    (rd5 T5 (off := k0_off1 i) (bx i) (o5F i h1) (k0_off1_inb i h1) (Shape.Idx.first (show 0 < S1.numel by decide)))
    (rdY TY (off := k0_off2 i) 0 (bx i) (o2 i h1) (k0_off2_inb i h1) (Shape.Idx.first (show 0 < S1x1.numel by decide)))
    (rdX TX (off := k0_off2 i) 0 (bx i) (o2 i h1) (k0_off2_inb i h1) (Shape.Idx.first (show 0 < S1x1.numel by decide)))
  have hc2 := chkF1 ht (bx i) i
    (rd5 T5 (off := k0_off1 i) (bx i) (o5F i h1) (k0_off1_inb i h1) (Shape.Idx.first (show 0 < S1.numel by decide)))
    (rdY TY (off := k0_off4 i) 1 (bx i) (o4 i h1) (k0_off4_inb i h1) (Shape.Idx.first (show 0 < S1x1.numel by decide)))
    (rdX TX (off := k0_off4 i) 1 (bx i) (o4 i h1) (k0_off4_inb i h1) (Shape.Idx.first (show 0 < S1x1.numel by decide)))
  have hc3 := chkF2 ht (bx i) i
    (rd5 T5 (off := k0_off1 i) (bx i) (o5F i h1) (k0_off1_inb i h1) (Shape.Idx.first (show 0 < S1.numel by decide)))
    (rdY TY (off := k0_off6 i) 2 (bx i) (o6 i h1) (k0_off6_inb i h1) (Shape.Idx.first (show 0 < S1x1.numel by decide)))
    (rdX TX (off := k0_off6 i) 2 (bx i) (o6 i h1) (k0_off6_inb i h1) (Shape.Idx.first (show 0 < S1x1.numel by decide)))
  have hc4 := chkF3 ht (bx i) i
    (rd5 T5 (off := k0_off1 i) (bx i) (o5F i h1) (k0_off1_inb i h1) (Shape.Idx.first (show 0 < S1.numel by decide)))
    (rdY TY (off := k0_off8 i) 3 (bx i) (o8 i h1) (k0_off8_inb i h1) (Shape.Idx.first (show 0 < S1x1.numel by decide)))
    (rdX TX (off := k0_off8 i) 3 (bx i) (o8 i h1) (k0_off8_inb i h1) (Shape.Idx.first (show 0 < S1x1.numel by decide)))
  have hc5 := chkN0 ht (nbx i h2) i
    (rd5 T5 (off := k0_off10 i) (nbx i h2) (o5N i h2) (k0_off10_inb i h2) (Shape.Idx.first (show 0 < S1.numel by decide)))
    (rdY TY (off := k0_off11 i) 0 (nbx i h2) (o11 i h2) (k0_off11_inb i h2) (Shape.Idx.first (show 0 < S1x1.numel by decide)))
    (rdX TX (off := k0_off11 i) 0 (nbx i h2) (o11 i h2) (k0_off11_inb i h2) (Shape.Idx.first (show 0 < S1x1.numel by decide)))
  have hc6 := chkN1 ht (nbx i h2) i
    (rd5 T5 (off := k0_off10 i) (nbx i h2) (o5N i h2) (k0_off10_inb i h2) (Shape.Idx.first (show 0 < S1.numel by decide)))
    (rdY TY (off := k0_off15 i) 1 (nbx i h2) (o15 i h2) (k0_off15_inb i h2) (Shape.Idx.first (show 0 < S1x1.numel by decide)))
    (rdX TX (off := k0_off15 i) 1 (nbx i h2) (o15 i h2) (k0_off15_inb i h2) (Shape.Idx.first (show 0 < S1x1.numel by decide)))
  have hc7 := chkN2 ht (nbx i h2) i
    (rd5 T5 (off := k0_off10 i) (nbx i h2) (o5N i h2) (k0_off10_inb i h2) (Shape.Idx.first (show 0 < S1.numel by decide)))
    (rdY TY (off := k0_off19 i) 2 (nbx i h2) (o19 i h2) (k0_off19_inb i h2) (Shape.Idx.first (show 0 < S1x1.numel by decide)))
    (rdX TX (off := k0_off19 i) 2 (nbx i h2) (o19 i h2) (k0_off19_inb i h2) (Shape.Idx.first (show 0 < S1x1.numel by decide)))
  have hc8 := chkN3 ht (nbx i h2) i
    (rd5 T5 (off := k0_off10 i) (nbx i h2) (o5N i h2) (k0_off10_inb i h2) (Shape.Idx.first (show 0 < S1.numel by decide)))
    (rdY TY (off := k0_off23 i) 3 (nbx i h2) (o23 i h2) (k0_off23_inb i h2) (Shape.Idx.first (show 0 < S1x1.numel by decide)))
    (rdX TX (off := k0_off23 i) 3 (nbx i h2) (o23 i h2) (k0_off23_inb i h2) (Shape.Idx.first (show 0 < S1x1.numel by decide)))
  simp only [bodyG, cc0_pyramid_roialign_eq_skeleton]
  unfold cc0_pyramid_roialign_skel
  unfold freeP tabsP owns
  iintro ⟨⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨HT5, HTY, HTX⟩, ⟨HCa0, ⟨%ea0, HSa0⟩, HHa0, HCa1, ⟨%ea1, HSa1⟩, HHa1, HCa2, ⟨%ea2, HSa2⟩, HHa2, HCa3, ⟨%ea3, HSa3⟩, HHa3⟩, ⟨HCb0, ⟨%eb0, HSb0⟩, HHb0, HCb1, ⟨%eb1, HSb1⟩, HHb1, HCb2, ⟨%eb2, HSb2⟩, HHb2, HCb3, ⟨%eb3, HSb3⟩, HHb3⟩, HW, Hk⟩
  sl_exec
  sl_step
  iapply Hk
  isplitl [H9]
  · iexists f9; isplitr; · ipureintro; exact hf9
    iexact H9
  isplitl [H10]
  · iexists f10; isplitr; · ipureintro; exact hf10
    iexact H10
  isplitl [H11]
  · iexists f11; isplitr; · ipureintro; exact hf11
    iexact H11
  isplitl [H12]
  · iexists f12; isplitr; · ipureintro; exact hf12
    iexact H12
  isplitl [H13]
  · iexists f13; isplitr; · ipureintro; exact hf13
    iexact H13
  isplitl [H14]
  · iexists f14; isplitr; · ipureintro; exact hf14
    iexact H14
  isplitl [H15]
  · iexists f15; isplitr; · ipureintro; exact hf15
    iexact H15
  isplitl [H16]
  · iexists f16; isplitr; · ipureintro; exact hf16
    iexact H16
  isplitl [H17]
  · iexists f17; isplitr; · ipureintro; exact hf17
    iexact H17
  isplitl [H18]
  · iexists f18; isplitr; · ipureintro; exact hf18
    iexact H18
  isplitl [H19]
  · iexists _; isplitr; swap; · iexact H19
    ipureintro
    rw [read_stored]
    exact outV_of (rdArg arg9.view hz3 _ hf9) (rdArg arg10.view hz3 _ hf10) (rdArg arg11.view hz3 _ hf11) (rdArg arg12.view hz3 _ hf12) (rdArg arg13.view hz3 _ hf13) (rdArg arg14.view hz3 _ hf14) (rdArg arg15.view hz3 _ hf15) (rdArg arg16.view hz3 _ hf16) (rdArg arg18.view hz2 _ hf18)
      (rdW arg17.view _ hf17) (rdW arg17.view _ hf17) (rdW arg17.view _ hf17) (rdW arg17.view _ hf17)
      ((slotRead0 ((off29_eq i).trans (congrArg slotOff hcanonS)) _ _ _ _ X0).trans (wvOf0 ht X0 (bx i) _ (congr4 (rd5 T5 (off := k0_off1 i) (bx i) (o5F i h1) _ _) (rdY TY (off := k0_off2 i) 0 (bx i) (o2 i h1) _ _) (rdX TX (off := k0_off2 i) 0 (bx i) (o2 i h1) _ _)))) ((slotRead1 ((off32_eq i).trans (congrArg slotOff hcanonS)) _ _ _ _ X1).trans (wvOf1 ht X1 (bx i) _ (congr4 (rd5 T5 (off := k0_off1 i) (bx i) (o5F i h1) _ _) (rdY TY (off := k0_off4 i) 1 (bx i) (o4 i h1) _ _) (rdX TX (off := k0_off4 i) 1 (bx i) (o4 i h1) _ _)))) ((slotRead2 ((off35_eq i).trans (congrArg slotOff hcanonS)) _ _ _ _ X2).trans (wvOf2 ht X2 (bx i) _ (congr4 (rd5 T5 (off := k0_off1 i) (bx i) (o5F i h1) _ _) (rdY TY (off := k0_off6 i) 2 (bx i) (o6 i h1) _ _) (rdX TX (off := k0_off6 i) 2 (bx i) (o6 i h1) _ _)))) ((slotRead3 ((off38_eq i).trans (congrArg slotOff hcanonS)) _ _ _ _ X3).trans (wvOf3 ht X3 (bx i) _ (congr4 (rd5 T5 (off := k0_off1 i) (bx i) (o5F i h1) _ _) (rdY TY (off := k0_off8 i) 3 (bx i) (o8 i h1) _ _) (rdX TX (off := k0_off8 i) 3 (bx i) (o8 i h1) _ _))))
  isplitl [HT5 HTY HTX]
  · isplitl [HT5]; · iexact HT5
    isplitl [HTY]; · iexact HTY
    iexact HTX
  isplitl [HCa0 HCa1 HCa2 HCa3 HSa0 HSa1 HSa2 HSa3 HHa0 HHa1 HHa2 HHa3]
  · isplitl [HCa0]; · iexact HCa0
    isplitl [HSa0]; · iexists _; iexact HSa0
    isplitl [HHa0]; · iexact HHa0
    isplitl [HCa1]; · iexact HCa1
    isplitl [HSa1]; · iexists _; iexact HSa1
    isplitl [HHa1]; · iexact HHa1
    isplitl [HCa2]; · iexact HCa2
    isplitl [HSa2]; · iexists _; iexact HSa2
    isplitl [HHa2]; · iexact HHa2
    isplitl [HCa3]; · iexact HCa3
    isplitl [HSa3]; · iexists _; iexact HSa3
    iexact HHa3
  isplitl [HCb0 HHb0 HCb1 HHb1 HCb2 HHb2 HCb3 HHb3]
  · unfold busyP
    isplitl [HCb0 HHb0]
    · iexists _, _, _; isplitr; swap
      · isplitl [HCb0]; · iexact HCb0
        iexact HHb0
      ipureintro
      exact congr4 (rd5 T5 (off := k0_off10 i) (nbx i h2) (o5N i h2) _ _) (rdY TY (off := k0_off11 i) 0 (nbx i h2) (o11 i h2) _ _) (rdX TX (off := k0_off11 i) 0 (nbx i h2) (o11 i h2) _ _)
    isplitl [HCb1 HHb1]
    · iexists _, _, _; isplitr; swap
      · isplitl [HCb1]; · iexact HCb1
        iexact HHb1
      ipureintro
      exact congr4 (rd5 T5 (off := k0_off10 i) (nbx i h2) (o5N i h2) _ _) (rdY TY (off := k0_off15 i) 1 (nbx i h2) (o15 i h2) _ _) (rdX TX (off := k0_off15 i) 1 (nbx i h2) (o15 i h2) _ _)
    isplitl [HCb2 HHb2]
    · iexists _, _, _; isplitr; swap
      · isplitl [HCb2]; · iexact HCb2
        iexact HHb2
      ipureintro
      exact congr4 (rd5 T5 (off := k0_off10 i) (nbx i h2) (o5N i h2) _ _) (rdY TY (off := k0_off19 i) 2 (nbx i h2) (o19 i h2) _ _) (rdX TX (off := k0_off19 i) 2 (nbx i h2) (o19 i h2) _ _)
    iexists _, _, _; isplitr; swap
    · isplitl [HCb3]; · iexact HCb3
      iexact HHb3
    ipureintro
    exact congr4 (rd5 T5 (off := k0_off10 i) (nbx i h2) (o5N i h2) _ _) (rdY TY (off := k0_off23 i) 3 (nbx i h2) (o23 i h2) _ _) (rdX TX (off := k0_off23 i) 3 (nbx i h2) (o23 i h2) _ _)
  iexists _; iexact HW

end Run

end Cert.KernelIdeal.Hand

end
-- ==== Proof.KernelIdeal.Frame.lean ====
/- The launch of the kernel over its grid: what the buffers hold at each boundary between two points, and what the run leaves. -/
module

public import proofs.«01_k».proof.Proof.KernelIdeal.Body
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (Flight)

variable {F : FTy → Type} [FloatOps F]

local notation "𝕄" => MT nD τ sig Unit (Elt F) ℕ (Pipeline.UD sig nD τ) ℕ

/-! ## The two slots of a copied window's buffer -/

abbrev slotSet0 (s : Fin 2) : Finset S2x56x64x256.Idx := (Rect.unit (s := S2x56x64x256) (slotOff s) S1x56x64x256.size (slotOff_inb0 s)).set
theorem slotSet0_eq (s : Fin 2) : (slot0 s).view.set = slotSet0 s := by
  simp only [slot0, Memref.view_squeeze, View.set_reshape]; exact View.set_slice_whole _ _
theorem slots0_disjoint (s s' : Fin 2) (h : s ≠ s') : Disjoint (slotSet0 s) (slotSet0 s') :=
  Ring.lead_disjoint (s := S2x56x64x256) (0 : Fin 4) 1 slotOff S1x56x64x256.size slotOff_inb0 (fun s => by simp [slotOff]) rfl s s' h
theorem slots0_cover : Finset.univ.biUnion slotSet0 = Finset.univ :=
  Ring.lead_cover (s := S2x56x64x256) (0 : Fin 4) 1 slotOff S1x56x64x256.size slotOff_inb0 (fun s => by simp [slotOff])
    (fun s a ha => by fin_cases a <;> first | exact absurd rfl ha | rfl) rfl (fun a ha => by fin_cases a <;> first | exact absurd rfl ha | rfl) rfl
theorem slotP0_eq (c : Dev nD) (s : Fin 2) (f) : slotP0 (F := F) c s f = (bufM0.view.loc (c : Thread nD τ) ↦[slotSet0 s]{fullShare} f : sProp 𝕄) := by
  unfold slotP0; rw [slotSet0_eq]; rfl
theorem slots0_in (c : Dev nD) :
    iprop(∃ f, bufM0.view.loc (c : Thread nD τ) ↦{fullShare} f) ⊢ (iprop((∃ f, slotP0 (F := F) c 0 f) ∗ ∃ f, slotP0 c 1 f) : sProp 𝕄) :=
  Ring.slots2_split (ℓ := bufM0.view.loc (c : Thread nD τ)) (q := fullShare) slotSet0 slots0_disjoint slots0_cover
    (slotP0 c 0) (slotP0 c 1) (slotP0_eq c 0) (slotP0_eq c 1)
theorem slots0_out (c : Dev nD) :
    (iprop((∃ f, slotP0 (F := F) c 0 f) ∗ ∃ f, slotP0 c 1 f) : sProp 𝕄) ⊢ iprop(∃ f, bufM0.view.loc (c : Thread nD τ) ↦{fullShare} f) :=
  Ring.slots2_join (ℓ := bufM0.view.loc (c : Thread nD τ)) (q := fullShare) slotSet0 slots0_disjoint slots0_cover
    (slotP0 c 0) (slotP0 c 1) (slotP0_eq c 0) (slotP0_eq c 1)
theorem home0_in (c : Dev nD) (X : FBuf0 (F := F) c) :
    (featM0.view.loc (c : Thread nD τ) ↦{fullShare} X : sProp 𝕄) ⊣⊢ iprop(homeP0 c X 0 ∗ homeP0 c X 1) :=
  pointsTo_share (PosShare.mem_left_op_right fullShare)

abbrev slotSet1 (s : Fin 2) : Finset S2x32x40x256.Idx := (Rect.unit (s := S2x32x40x256) (slotOff s) S1x32x40x256.size (slotOff_inb1 s)).set
theorem slotSet1_eq (s : Fin 2) : (slot1 s).view.set = slotSet1 s := by
  simp only [slot1, Memref.view_squeeze, View.set_reshape]; exact View.set_slice_whole _ _
theorem slots1_disjoint (s s' : Fin 2) (h : s ≠ s') : Disjoint (slotSet1 s) (slotSet1 s') :=
  Ring.lead_disjoint (s := S2x32x40x256) (0 : Fin 4) 1 slotOff S1x32x40x256.size slotOff_inb1 (fun s => by simp [slotOff]) rfl s s' h
theorem slots1_cover : Finset.univ.biUnion slotSet1 = Finset.univ :=
  Ring.lead_cover (s := S2x32x40x256) (0 : Fin 4) 1 slotOff S1x32x40x256.size slotOff_inb1 (fun s => by simp [slotOff])
    (fun s a ha => by fin_cases a <;> first | exact absurd rfl ha | rfl) rfl (fun a ha => by fin_cases a <;> first | exact absurd rfl ha | rfl) rfl
theorem slotP1_eq (c : Dev nD) (s : Fin 2) (f) : slotP1 (F := F) c s f = (bufM1.view.loc (c : Thread nD τ) ↦[slotSet1 s]{fullShare} f : sProp 𝕄) := by
  unfold slotP1; rw [slotSet1_eq]; rfl
theorem slots1_in (c : Dev nD) :
    iprop(∃ f, bufM1.view.loc (c : Thread nD τ) ↦{fullShare} f) ⊢ (iprop((∃ f, slotP1 (F := F) c 0 f) ∗ ∃ f, slotP1 c 1 f) : sProp 𝕄) :=
  Ring.slots2_split (ℓ := bufM1.view.loc (c : Thread nD τ)) (q := fullShare) slotSet1 slots1_disjoint slots1_cover
    (slotP1 c 0) (slotP1 c 1) (slotP1_eq c 0) (slotP1_eq c 1)
theorem slots1_out (c : Dev nD) :
    (iprop((∃ f, slotP1 (F := F) c 0 f) ∗ ∃ f, slotP1 c 1 f) : sProp 𝕄) ⊢ iprop(∃ f, bufM1.view.loc (c : Thread nD τ) ↦{fullShare} f) :=
  Ring.slots2_join (ℓ := bufM1.view.loc (c : Thread nD τ)) (q := fullShare) slotSet1 slots1_disjoint slots1_cover
    (slotP1 c 0) (slotP1 c 1) (slotP1_eq c 0) (slotP1_eq c 1)
theorem home1_in (c : Dev nD) (X : FBuf1 (F := F) c) :
    (featM1.view.loc (c : Thread nD τ) ↦{fullShare} X : sProp 𝕄) ⊣⊢ iprop(homeP1 c X 0 ∗ homeP1 c X 1) :=
  pointsTo_share (PosShare.mem_left_op_right fullShare)

abbrev slotSet2 (s : Fin 2) : Finset S2x16x24x256.Idx := (Rect.unit (s := S2x16x24x256) (slotOff s) S1x16x24x256.size (slotOff_inb2 s)).set
theorem slotSet2_eq (s : Fin 2) : (slot2 s).view.set = slotSet2 s := by
  simp only [slot2, Memref.view_squeeze, View.set_reshape]; exact View.set_slice_whole _ _
theorem slots2_disjoint (s s' : Fin 2) (h : s ≠ s') : Disjoint (slotSet2 s) (slotSet2 s') :=
  Ring.lead_disjoint (s := S2x16x24x256) (0 : Fin 4) 1 slotOff S1x16x24x256.size slotOff_inb2 (fun s => by simp [slotOff]) rfl s s' h
theorem slots2_cover : Finset.univ.biUnion slotSet2 = Finset.univ :=
  Ring.lead_cover (s := S2x16x24x256) (0 : Fin 4) 1 slotOff S1x16x24x256.size slotOff_inb2 (fun s => by simp [slotOff])
    (fun s a ha => by fin_cases a <;> first | exact absurd rfl ha | rfl) rfl (fun a ha => by fin_cases a <;> first | exact absurd rfl ha | rfl) rfl
theorem slotP2_eq (c : Dev nD) (s : Fin 2) (f) : slotP2 (F := F) c s f = (bufM2.view.loc (c : Thread nD τ) ↦[slotSet2 s]{fullShare} f : sProp 𝕄) := by
  unfold slotP2; rw [slotSet2_eq]; rfl
theorem slots2_in (c : Dev nD) :
    iprop(∃ f, bufM2.view.loc (c : Thread nD τ) ↦{fullShare} f) ⊢ (iprop((∃ f, slotP2 (F := F) c 0 f) ∗ ∃ f, slotP2 c 1 f) : sProp 𝕄) :=
  Ring.slots2_split (ℓ := bufM2.view.loc (c : Thread nD τ)) (q := fullShare) slotSet2 slots2_disjoint slots2_cover
    (slotP2 c 0) (slotP2 c 1) (slotP2_eq c 0) (slotP2_eq c 1)
theorem slots2_out (c : Dev nD) :
    (iprop((∃ f, slotP2 (F := F) c 0 f) ∗ ∃ f, slotP2 c 1 f) : sProp 𝕄) ⊢ iprop(∃ f, bufM2.view.loc (c : Thread nD τ) ↦{fullShare} f) :=
  Ring.slots2_join (ℓ := bufM2.view.loc (c : Thread nD τ)) (q := fullShare) slotSet2 slots2_disjoint slots2_cover
    (slotP2 c 0) (slotP2 c 1) (slotP2_eq c 0) (slotP2_eq c 1)
theorem home2_in (c : Dev nD) (X : FBuf2 (F := F) c) :
    (featM2.view.loc (c : Thread nD τ) ↦{fullShare} X : sProp 𝕄) ⊣⊢ iprop(homeP2 c X 0 ∗ homeP2 c X 1) :=
  pointsTo_share (PosShare.mem_left_op_right fullShare)

abbrev slotSet3 (s : Fin 2) : Finset S2x16x16x256.Idx := (Rect.unit (s := S2x16x16x256) (slotOff s) S1x16x16x256.size (slotOff_inb3 s)).set
theorem slotSet3_eq (s : Fin 2) : (slot3 s).view.set = slotSet3 s := by
  simp only [slot3, Memref.view_squeeze, View.set_reshape]; exact View.set_slice_whole _ _
theorem slots3_disjoint (s s' : Fin 2) (h : s ≠ s') : Disjoint (slotSet3 s) (slotSet3 s') :=
  Ring.lead_disjoint (s := S2x16x16x256) (0 : Fin 4) 1 slotOff S1x16x16x256.size slotOff_inb3 (fun s => by simp [slotOff]) rfl s s' h
theorem slots3_cover : Finset.univ.biUnion slotSet3 = Finset.univ :=
  Ring.lead_cover (s := S2x16x16x256) (0 : Fin 4) 1 slotOff S1x16x16x256.size slotOff_inb3 (fun s => by simp [slotOff])
    (fun s a ha => by fin_cases a <;> first | exact absurd rfl ha | rfl) rfl (fun a ha => by fin_cases a <;> first | exact absurd rfl ha | rfl) rfl
theorem slotP3_eq (c : Dev nD) (s : Fin 2) (f) : slotP3 (F := F) c s f = (bufM3.view.loc (c : Thread nD τ) ↦[slotSet3 s]{fullShare} f : sProp 𝕄) := by
  unfold slotP3; rw [slotSet3_eq]; rfl
theorem slots3_in (c : Dev nD) :
    iprop(∃ f, bufM3.view.loc (c : Thread nD τ) ↦{fullShare} f) ⊢ (iprop((∃ f, slotP3 (F := F) c 0 f) ∗ ∃ f, slotP3 c 1 f) : sProp 𝕄) :=
  Ring.slots2_split (ℓ := bufM3.view.loc (c : Thread nD τ)) (q := fullShare) slotSet3 slots3_disjoint slots3_cover
    (slotP3 c 0) (slotP3 c 1) (slotP3_eq c 0) (slotP3_eq c 1)
theorem slots3_out (c : Dev nD) :
    (iprop((∃ f, slotP3 (F := F) c 0 f) ∗ ∃ f, slotP3 c 1 f) : sProp 𝕄) ⊢ iprop(∃ f, bufM3.view.loc (c : Thread nD τ) ↦{fullShare} f) :=
  Ring.slots2_join (ℓ := bufM3.view.loc (c : Thread nD τ)) (q := fullShare) slotSet3 slots3_disjoint slots3_cover
    (slotP3 c 0) (slotP3 c 1) (slotP3_eq c 0) (slotP3_eq c 1)
theorem home3_in (c : Dev nD) (X : FBuf3 (F := F) c) :
    (featM3.view.loc (c : Thread nD τ) ↦{fullShare} X : sProp 𝕄) ⊣⊢ iprop(homeP3 c X 0 ∗ homeP3 c X 1) :=
  pointsTo_share (PosShare.mem_left_op_right fullShare)

/-! ## The semaphores and the features -/

/-- The eight semaphores of the copies, in slot order. -/
abbrev osem0 : Fin 8 → SemLoc sig := fun j => (![SemLoc.dma 20, SemLoc.dma 21, SemLoc.dma 22, SemLoc.dma 23, SemLoc.dma 24, SemLoc.dma 25, SemLoc.dma 26, SemLoc.dma 27] : Fin 8 → SemLoc sig) j
theorem ownSemFacts0 : Pipeline.OwnSemFacts spec0 osem0 := by decide
theorem csm_00 : (csm 0 0).sem = 20 := by decide
theorem csm_01 : (csm 0 1).sem = 21 := by decide
theorem csm_02 : (csm 0 2).sem = 22 := by decide
theorem csm_03 : (csm 0 3).sem = 23 := by decide
theorem csm_10 : (csm 1 0).sem = 24 := by decide
theorem csm_11 : (csm 1 1).sem = 25 := by decide
theorem csm_12 : (csm 1 2).sem = 26 := by decide
theorem csm_13 : (csm 1 3).sem = 27 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP (F := F) c 0 0 ∗ cellP (F := F) c 0 1 ∗ cellP (F := F) c 0 2 ∗ cellP (F := F) c 0 3 ∗ cellP (F := F) c 1 0 ∗ cellP (F := F) c 1 1 ∗ cellP (F := F) c 1 2 ∗ cellP (F := F) c 1 3) := by
  unfold cellP
  rw [csm_00, csm_01, csm_02, csm_03, csm_10, csm_11, csm_12, csm_13]
  rw [Pipeline.ownSems0_eq_of_list c osem0 [0, 1, 2, 3, 4, 5, 6, 7] (by decide) (by decide)]; rfl

/-- The features, which the body copies from. -/
def H0 : Finset (Ref sig .tc) := {main_call0_v0, main_call0_v1, main_call0_v2, main_call0_v3}
theorem H0_sub : H0 ⊆ Pipeline.restRefsP sig pre0 spec0 := by decide

section Data
variable (V : Dev nD → Valuation τ sig (Elt F))
/-- The buffer `b` of core `c`, as the launch finds it. -/
abbrev rdV (c : Dev nD) (b : Ref sig .tc) : Buf (Elt F) ((c : Thread nD τ).loc b) := V c (Proc.devRef .tc b)
abbrev tab5 (c : Dev nD) : TBuf5 (F := F) c := rdV V c main_arg5
abbrev tabY (c : Dev nD) : TBufY (F := F) c := rdV V c main_call0_v648
abbrev tabX (c : Dev nD) : TBufX (F := F) c := rdV V c main_call0_v653
abbrev ft0 (c : Dev nD) : FBuf0 (F := F) c := rdV V c main_call0_v0
abbrev ft1 (c : Dev nD) : FBuf1 (F := F) c := rdV V c main_call0_v1
abbrev ft2 (c : Dev nD) : FBuf2 (F := F) c := rdV V c main_call0_v2
abbrev ft3 (c : Dev nD) : FBuf3 (F := F) c := rdV V c main_call0_v3

theorem hbmPts0_eq (c : Dev nD) :
    (bigSep H0 (fun b => ((c : Thread nD τ).loc b) ↦{fullShare} rdV V c b) : sProp 𝕄)
      = iprop((featM0.view.loc (c : Thread nD τ) ↦{fullShare} ft0 V c) ∗ (featM1.view.loc (c : Thread nD τ) ↦{fullShare} ft1 V c) ∗ (featM2.view.loc (c : Thread nD τ) ↦{fullShare} ft2 V c) ∗ (featM3.view.loc (c : Thread nD τ) ↦{fullShare} ft3 V c)) :=
  BI.bigSep_eq_bigSepL_of_eq (S := H0) [main_call0_v0, main_call0_v1, main_call0_v2, main_call0_v3] (by decide) (by decide) _

/-- What the body holds before point `n` besides its blocks. -/
def PhiS (c : Dev nD) (n : Nat) : sProp 𝕄 :=
  iprop((if n % 256 = 0 then iprop(freeP c (ft0 V c) (ft1 V c) (ft2 V c) (ft3 V c) 0 ∗ freeP c (ft0 V c) (ft1 V c) (ft2 V c) (ft3 V c) 1)
      else iprop(busyP c (tab5 V c) (tabY V c) (tabX V c) (ft0 V c) (ft1 V c) (ft2 V c) (ft3 V c) (Fin.ofNat 2 n) (Fin.ofNat 512 n) ∗ freeP c (ft0 V c) (ft1 V c) (ft2 V c) (ft3 V c) (Fin.ofNat 2 (n + 1))))
    ∗ (∃ r, prngReg c r) ∗ tabsP c (tab5 V c) (tabY V c) (tabX V c) fullShare.right)

theorem phi_in (c : Dev nD) (P : sProp 𝕄) (hP : P ⊢ tabsP c (tab5 V c) (tabY V c) (tabX V c) fullShare.right) :
    iprop(Pipeline.ΦD osem0 spec0 H0 (rdV V) c ∗ P) ⊢ PhiS V c 0 := by
  rw [Pipeline.ΦD_eq, scopedRest0_eq, ownSems00_eq, hbmPts0_eq]
  unfold PhiS freeP; rw [if_pos (by decide)]
  iintro ⟨⟨⟨HS0, HS1, HS2, HS3⟩, Hg, ⟨C00, C01, C02, C03, C10, C11, C12, C13⟩, ⟨Hh0, Hh1, Hh2, Hh3⟩⟩, HP⟩
  ihave HS0 := (slots0_in c) $$ HS0
  icases HS0 with ⟨A0, B0⟩
  ihave Hh0 := (home0_in c (ft0 V c)).1 $$ Hh0
  icases Hh0 with ⟨D0, E0⟩
  ihave HS1 := (slots1_in c) $$ HS1
  icases HS1 with ⟨A1, B1⟩
  ihave Hh1 := (home1_in c (ft1 V c)).1 $$ Hh1
  icases Hh1 with ⟨D1, E1⟩
  ihave HS2 := (slots2_in c) $$ HS2
  icases HS2 with ⟨A2, B2⟩
  ihave Hh2 := (home2_in c (ft2 V c)).1 $$ Hh2
  icases Hh2 with ⟨D2, E2⟩
  ihave HS3 := (slots3_in c) $$ HS3
  icases HS3 with ⟨A3, B3⟩
  ihave Hh3 := (home3_in c (ft3 V c)).1 $$ Hh3
  icases Hh3 with ⟨D3, E3⟩
  isplitl [C00 A0 D0 C01 A1 D1 C02 A2 D2 C03 A3 D3 C10 B0 E0 C11 B1 E1 C12 B2 E2 C13 B3 E3]
  · isplitl [C00 A0 D0 C01 A1 D1 C02 A2 D2 C03 A3 D3]
    · skip
      isplitl [C00]; · iexact C00
      isplitl [A0]; · iexact A0
      isplitl [D0]; · iexact D0
      isplitl [C01]; · iexact C01
      isplitl [A1]; · iexact A1
      isplitl [D1]; · iexact D1
      isplitl [C02]; · iexact C02
      isplitl [A2]; · iexact A2
      isplitl [D2]; · iexact D2
      isplitl [C03]; · iexact C03
      isplitl [A3]; · iexact A3
      iexact D3
    isplitl [C10]; · iexact C10
    isplitl [B0]; · iexact B0
    isplitl [E0]; · iexact E0
    isplitl [C11]; · iexact C11
    isplitl [B1]; · iexact B1
    isplitl [E1]; · iexact E1
    isplitl [C12]; · iexact C12
    isplitl [B2]; · iexact B2
    isplitl [E2]; · iexact E2
    isplitl [C13]; · iexact C13
    isplitl [B3]; · iexact B3
    iexact E3
  isplitl [Hg]; · iexact Hg
  iapply hP; iexact HP

theorem phi_out (c : Dev nD) : PhiS V c 512 ⊢ Pipeline.ΦD osem0 spec0 H0 (rdV V) c := by
  rw [Pipeline.ΦD_eq, scopedRest0_eq, ownSems00_eq, hbmPts0_eq]
  unfold PhiS freeP; rw [if_pos (by decide)]
  iintro ⟨⟨⟨C00, A0, D0, C01, A1, D1, C02, A2, D2, C03, A3, D3⟩, ⟨C10, B0, E0, C11, B1, E1, C12, B2, E2, C13, B3, E3⟩⟩, Hg, -⟩
  ihave HS0 := (slots0_out c) $$ [A0 B0]
  · isplitl [A0]; · iexact A0
    iexact B0
  ihave Hh0 := (home0_in c (ft0 V c)).2 $$ [D0 E0]
  · isplitl [D0]; · iexact D0
    iexact E0
  ihave HS1 := (slots1_out c) $$ [A1 B1]
  · isplitl [A1]; · iexact A1
    iexact B1
  ihave Hh1 := (home1_in c (ft1 V c)).2 $$ [D1 E1]
  · isplitl [D1]; · iexact D1
    iexact E1
  ihave HS2 := (slots2_out c) $$ [A2 B2]
  · isplitl [A2]; · iexact A2
    iexact B2
  ihave Hh2 := (home2_in c (ft2 V c)).2 $$ [D2 E2]
  · isplitl [D2]; · iexact D2
    iexact E2
  ihave HS3 := (slots3_out c) $$ [A3 B3]
  · isplitl [A3]; · iexact A3
    iexact B3
  ihave Hh3 := (home3_in c (ft3 V c)).2 $$ [D3 E3]
  · isplitl [D3]; · iexact D3
    iexact E3
  isplitl [HS0 HS1 HS2 HS3]
  · isplitl [HS0]; · iexact HS0
    isplitl [HS1]; · iexact HS1
    isplitl [HS2]; · iexact HS2
    iexact HS3
  isplitl [Hg]; · iexact Hg
  isplitl [C00 C01 C02 C03 C10 C11 C12 C13]
  · skip
    isplitl [C00]; · iexact C00
    isplitl [C01]; · iexact C01
    isplitl [C02]; · iexact C02
    isplitl [C03]; · iexact C03
    isplitl [C10]; · iexact C10
    isplitl [C11]; · iexact C11
    isplitl [C12]; · iexact C12
    iexact C13
  isplitl [Hh0]; · iexact Hh0
  isplitl [Hh1]; · iexact Hh1
  isplitl [Hh2]; · iexact Hh2
  iexact Hh3

/-! ## The proof data -/
variable (a : (pcfg0 (F := F)).Adm)

/-- Window `w`'s block at point `t`, read off its array as the launch finds it. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (rdV V c (Pipeline.arrRef spec0 w))

variable (ht : ∀ c, TabOk (tab5 V c) (tabY V c) (tabX V c))

/-- What point `t` stores. -/
def outAt (c : Dev nD) (t : Fin (cfg0 a).N) : S1x49x256.Idx → Elt F .f32 :=
  outV (iblk V a c 0 t) (iblk V a c 1 t) (iblk V a c 2 t) (iblk V a c 3 t) (iblk V a c 4 t) (iblk V a c 5 t) (iblk V a c 6 t) (iblk V a c 7 t) (iblk V a c 8 t) (iblk V a c 9 t)
    (wv0 (ht c) (ft0 V c) (bx (grid0.coords t))) (wv1 (ht c) (ft1 V c) (bx (grid0.coords t))) (wv2 (ht c) (ft2 V c) (bx (grid0.coords t))) (wv3 (ht c) (ft3 V c) (bx (grid0.coords t)))

def dats (_ : Fin 1) (c : Dev nD) : Dat τ (Elt F) Unit ℕ (Pipeline.UD sig nD τ) ℕ (cfg0 a) c where
  A w := rdV V c (Pipeline.arrRef spec0 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => iblk V a c 5 t
    | ⟨6, _⟩ => iblk V a c 6 t
    | ⟨7, _⟩ => iblk V a c 7 t
    | ⟨8, _⟩ => iblk V a c 8 t
    | ⟨9, _⟩ => iblk V a c 9 t
    | ⟨10, _⟩ => outAt V a ht c t
    | ⟨_ + 11, h⟩ => absurd h (Nat.not_lt.2 (Nat.le_add_left _ _))
  Φ t := PhiS V c t.val
  q _ := fullShare
  owed _ := 0

theorem A_eq (c : Dev nD) (w : Fin (cfg0 a).W) : (dats V a ht 0 c).A w = rdV V c (Pipeline.arrRef spec0 w) := by
  dsimp only [dats]
theorem after_0 (c : Dev nD) (t : Fin (cfg0 a).N) : (dats V a ht 0 c).after 0 t = iblk V a c 0 t := rfl
theorem before_0 (c : Dev nD) (t : Fin (cfg0 a).N) (d) : (dats V a ht 0 c).before 0 t d = iblk V a c 0 t :=
  ((dats V a ht 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (c : Dev nD) (t : Fin (cfg0 a).N) : (dats V a ht 0 c).after 1 t = iblk V a c 1 t := rfl
theorem before_1 (c : Dev nD) (t : Fin (cfg0 a).N) (d) : (dats V a ht 0 c).before 1 t d = iblk V a c 1 t :=
  ((dats V a ht 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (c : Dev nD) (t : Fin (cfg0 a).N) : (dats V a ht 0 c).after 2 t = iblk V a c 2 t := rfl
theorem before_2 (c : Dev nD) (t : Fin (cfg0 a).N) (d) : (dats V a ht 0 c).before 2 t d = iblk V a c 2 t :=
  ((dats V a ht 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (c : Dev nD) (t : Fin (cfg0 a).N) : (dats V a ht 0 c).after 3 t = iblk V a c 3 t := rfl
theorem before_3 (c : Dev nD) (t : Fin (cfg0 a).N) (d) : (dats V a ht 0 c).before 3 t d = iblk V a c 3 t :=
  ((dats V a ht 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem after_4 (c : Dev nD) (t : Fin (cfg0 a).N) : (dats V a ht 0 c).after 4 t = iblk V a c 4 t := rfl
theorem before_4 (c : Dev nD) (t : Fin (cfg0 a).N) (d) : (dats V a ht 0 c).before 4 t d = iblk V a c 4 t :=
  ((dats V a ht 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem after_5 (c : Dev nD) (t : Fin (cfg0 a).N) : (dats V a ht 0 c).after 5 t = iblk V a c 5 t := rfl
theorem before_5 (c : Dev nD) (t : Fin (cfg0 a).N) (d) : (dats V a ht 0 c).before 5 t d = iblk V a c 5 t :=
  ((dats V a ht 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem after_6 (c : Dev nD) (t : Fin (cfg0 a).N) : (dats V a ht 0 c).after 6 t = iblk V a c 6 t := rfl
theorem before_6 (c : Dev nD) (t : Fin (cfg0 a).N) (d) : (dats V a ht 0 c).before 6 t d = iblk V a c 6 t :=
  ((dats V a ht 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem after_7 (c : Dev nD) (t : Fin (cfg0 a).N) : (dats V a ht 0 c).after 7 t = iblk V a c 7 t := rfl
theorem before_7 (c : Dev nD) (t : Fin (cfg0 a).N) (d) : (dats V a ht 0 c).before 7 t d = iblk V a c 7 t :=
  ((dats V a ht 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem after_8 (c : Dev nD) (t : Fin (cfg0 a).N) : (dats V a ht 0 c).after 8 t = iblk V a c 8 t := rfl
theorem before_8 (c : Dev nD) (t : Fin (cfg0 a).N) (d) : (dats V a ht 0 c).before 8 t d = iblk V a c 8 t :=
  ((dats V a ht 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem after_9 (c : Dev nD) (t : Fin (cfg0 a).N) : (dats V a ht 0 c).after 9 t = iblk V a c 9 t := rfl
theorem before_9 (c : Dev nD) (t : Fin (cfg0 a).N) (d) : (dats V a ht 0 c).before 9 t d = iblk V a c 9 t :=
  ((dats V a ht 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem after_10 (c : Dev nD) (t : Fin (cfg0 a).N) : (dats V a ht 0 c).after 10 t = outAt V a ht c t := rfl
abbrev ms0 (t : Fin (cfg0 a).N) : Memref sig .tc .vmem S1x56x49 .f32 := spec0_0.stage ((cfg0 a).slots t 0)
abbrev hs0 (t : Fin (cfg0 a).N) : (ms0 a t).IsWhole := hstage0_0 (((cfg0 a).slots t 0).cast nbuf0_0)
abbrev ms1 (t : Fin (cfg0 a).N) : Memref sig .tc .vmem S1x64x49 .f32 := spec0_1.stage ((cfg0 a).slots t 1)
abbrev hs1 (t : Fin (cfg0 a).N) : (ms1 a t).IsWhole := hstage0_1 (((cfg0 a).slots t 1).cast nbuf0_1)
abbrev ms2 (t : Fin (cfg0 a).N) : Memref sig .tc .vmem S1x32x49 .f32 := spec0_2.stage ((cfg0 a).slots t 2)
abbrev hs2 (t : Fin (cfg0 a).N) : (ms2 a t).IsWhole := hstage0_2 (((cfg0 a).slots t 2).cast nbuf0_2)
abbrev ms3 (t : Fin (cfg0 a).N) : Memref sig .tc .vmem S1x40x49 .f32 := spec0_3.stage ((cfg0 a).slots t 3)
abbrev hs3 (t : Fin (cfg0 a).N) : (ms3 a t).IsWhole := hstage0_3 (((cfg0 a).slots t 3).cast nbuf0_3)
abbrev ms4 (t : Fin (cfg0 a).N) : Memref sig .tc .vmem S1x16x49 .f32 := spec0_4.stage ((cfg0 a).slots t 4)
abbrev hs4 (t : Fin (cfg0 a).N) : (ms4 a t).IsWhole := hstage0_4 (((cfg0 a).slots t 4).cast nbuf0_4)
abbrev ms5 (t : Fin (cfg0 a).N) : Memref sig .tc .vmem S1x24x49 .f32 := spec0_5.stage ((cfg0 a).slots t 5)
abbrev hs5 (t : Fin (cfg0 a).N) : (ms5 a t).IsWhole := hstage0_5 (((cfg0 a).slots t 5).cast nbuf0_5)
abbrev ms6 (t : Fin (cfg0 a).N) : Memref sig .tc .vmem S1x16x49 .f32 := spec0_6.stage ((cfg0 a).slots t 6)
abbrev hs6 (t : Fin (cfg0 a).N) : (ms6 a t).IsWhole := hstage0_6 (((cfg0 a).slots t 6).cast nbuf0_6)
abbrev ms7 (t : Fin (cfg0 a).N) : Memref sig .tc .vmem S1x16x49 .f32 := spec0_7.stage ((cfg0 a).slots t 7)
abbrev hs7 (t : Fin (cfg0 a).N) : (ms7 a t).IsWhole := hstage0_7 (((cfg0 a).slots t 7).cast nbuf0_7)
abbrev ms8 (t : Fin (cfg0 a).N) : Memref sig .tc .vmem S4x256x256 .f32 := spec0_8.stage ((cfg0 a).slots t 8)
abbrev hs8 (t : Fin (cfg0 a).N) : (ms8 a t).IsWhole := hstage0_8 (((cfg0 a).slots t 8).cast nbuf0_8)
abbrev ms9 (t : Fin (cfg0 a).N) : Memref sig .tc .vmem S1x256 .f32 := spec0_9.stage ((cfg0 a).slots t 9)
abbrev hs9 (t : Fin (cfg0 a).N) : (ms9 a t).IsWhole := hstage0_9 (((cfg0 a).slots t 9).cast nbuf0_9)
abbrev ms10 (t : Fin (cfg0 a).N) : Memref sig .tc .vmem S1x49x256 .f32 := spec0_10.stage ((cfg0 a).slots t 10)
abbrev hs10 (t : Fin (cfg0 a).N) : (ms10 a t).IsWhole := hstage0_10 (((cfg0 a).slots t 10).cast nbuf0_10)

/-- The body at point `t`. -/
abbrev bodyAt (t : Fin (cfg0 a).N) : Prog (TpuEff nD τ sig (Elt F) Λ₀ .tc) PUnit := bodyG (F := F) (grid0.coords t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (ms8 a t) (hs8 a t) (ms9 a t) (hs9 a t) (ms10 a t) (hs10 a t)
theorem defs₀_row (t : Fin (cfg0 a).N) :
    defs₀ (F := F) .tc (cfg0 a).body ((cfg0 a).bodyArgs t ((cfg0 a).slots t)) = bodyAt a t := by
  unfold defs₀; rw [Defs.onTc_tc]

theorem coords_val : ∀ t : Fin grid0.N, 256 * (grid0.coords t 0).val + (grid0.coords t 1).val = t.val := by decide +kernel
theorem coords_lt (t : Fin grid0.N) : (grid0.coords t 0).val < 2 ∧ (grid0.coords t 1).val < 256 := ⟨(grid0.coords t 0).isLt, (grid0.coords t 1).isLt⟩
theorem sl_eq (t : Fin grid0.N) : sl (grid0.coords t) = Fin.ofNat 2 t.val := by
  apply Fin.ext; have := coords_val t; show (grid0.coords t 1).val % 2 = t.val % 2; omega
theorem nsl_eq (t : Fin grid0.N) : nsl (grid0.coords t) = Fin.ofNat 2 (t.val + 1) := by
  apply Fin.ext; have := coords_val t; show ((grid0.coords t 1).val + 1) % 2 = (t.val + 1) % 2; omega
theorem bx_eq (t : Fin grid0.N) : bx (grid0.coords t) = Fin.ofNat 512 t.val := by
  apply Fin.ext; have := coords_val t; have := coords_lt t; show 256 * (grid0.coords t 0).val + (grid0.coords t 1).val = t.val % 512; omega
theorem nbx_eq (t : Fin grid0.N) (h) : nbx (grid0.coords t) h = Fin.ofNat 512 (t.val + 1) := by
  apply Fin.ext; have := coords_val t; have := coords_lt t; have h' := (cond2_iff _).1 h
  show 256 * (grid0.coords t 0).val + (grid0.coords t 1).val + 1 = (t.val + 1) % 512; omega

def bodyPre (c : Dev nD) (t : Fin (cfg0 a).N) : sProp 𝕄 :=
  iprop((dats V a ht 0 c).Φ t.castSucc ∗ (dats V a ht 0 c).owesAt () t.castSucc ∗ (∃ d, owns (c : Thread nD τ) (ms0 a t) fullShare ((dats V a ht 0 c).before 0 t d)) ∗ (∃ d, owns (c : Thread nD τ) (ms1 a t) fullShare ((dats V a ht 0 c).before 1 t d)) ∗ (∃ d, owns (c : Thread nD τ) (ms2 a t) fullShare ((dats V a ht 0 c).before 2 t d)) ∗ (∃ d, owns (c : Thread nD τ) (ms3 a t) fullShare ((dats V a ht 0 c).before 3 t d)) ∗ (∃ d, owns (c : Thread nD τ) (ms4 a t) fullShare ((dats V a ht 0 c).before 4 t d)) ∗ (∃ d, owns (c : Thread nD τ) (ms5 a t) fullShare ((dats V a ht 0 c).before 5 t d)) ∗ (∃ d, owns (c : Thread nD τ) (ms6 a t) fullShare ((dats V a ht 0 c).before 6 t d)) ∗ (∃ d, owns (c : Thread nD τ) (ms7 a t) fullShare ((dats V a ht 0 c).before 7 t d)) ∗ (∃ d, owns (c : Thread nD τ) (ms8 a t) fullShare ((dats V a ht 0 c).before 8 t d)) ∗ (∃ d, owns (c : Thread nD τ) (ms9 a t) fullShare ((dats V a ht 0 c).before 9 t d)) ∗ (∃ d, owns (c : Thread nD τ) (ms10 a t) fullShare ((dats V a ht 0 c).before 10 t d)))
def bodyPost (c : Dev nD) (t : Fin (cfg0 a).N) : sProp 𝕄 :=
  iprop((dats V a ht 0 c).Φ t.succ ∗ (dats V a ht 0 c).owesAt () t.succ ∗ owns (c : Thread nD τ) (ms0 a t) fullShare ((dats V a ht 0 c).after 0 t) ∗ owns (c : Thread nD τ) (ms1 a t) fullShare ((dats V a ht 0 c).after 1 t) ∗ owns (c : Thread nD τ) (ms2 a t) fullShare ((dats V a ht 0 c).after 2 t) ∗ owns (c : Thread nD τ) (ms3 a t) fullShare ((dats V a ht 0 c).after 3 t) ∗ owns (c : Thread nD τ) (ms4 a t) fullShare ((dats V a ht 0 c).after 4 t) ∗ owns (c : Thread nD τ) (ms5 a t) fullShare ((dats V a ht 0 c).after 5 t) ∗ owns (c : Thread nD τ) (ms6 a t) fullShare ((dats V a ht 0 c).after 6 t) ∗ owns (c : Thread nD τ) (ms7 a t) fullShare ((dats V a ht 0 c).after 7 t) ∗ owns (c : Thread nD τ) (ms8 a t) fullShare ((dats V a ht 0 c).after 8 t) ∗ owns (c : Thread nD τ) (ms9 a t) fullShare ((dats V a ht 0 c).after 9 t) ∗ owns (c : Thread nD τ) (ms10 a t) fullShare ((dats V a ht 0 c).after 10 t))

/-- The body's triple from the slots `A` to the slots `B`, restated over the pipeline's assertions. -/
theorem body_of (c : Dev nD) (t : Fin (cfg0 a).N) (A A' B : sProp 𝕄)
    (hA : PhiS V c t.val ⊢ iprop(A ∗ A' ∗ (∃ r, prngReg c r) ∗ tabsP c (tab5 V c) (tabY V c) (tabX V c) fullShare.right))
    (hB : iprop(B ∗ (∃ r, prngReg c r) ∗ tabsP c (tab5 V c) (tabY V c) (tabX V c) fullShare.right) ⊢ PhiS V c (t.val + 1))
    (run : ∀ (W : Waits sig Unit) (K : PUnit → sProp 𝕄),
      iprop(owns (c : Thread nD τ) (ms0 a t) fullShare (iblk V a c 0 t) ∗ owns (c : Thread nD τ) (ms1 a t) fullShare (iblk V a c 1 t) ∗ owns (c : Thread nD τ) (ms2 a t) fullShare (iblk V a c 2 t) ∗ owns (c : Thread nD τ) (ms3 a t) fullShare (iblk V a c 3 t) ∗ owns (c : Thread nD τ) (ms4 a t) fullShare (iblk V a c 4 t) ∗ owns (c : Thread nD τ) (ms5 a t) fullShare (iblk V a c 5 t) ∗ owns (c : Thread nD τ) (ms6 a t) fullShare (iblk V a c 6 t) ∗ owns (c : Thread nD τ) (ms7 a t) fullShare (iblk V a c 7 t) ∗ owns (c : Thread nD τ) (ms8 a t) fullShare (iblk V a c 8 t) ∗ owns (c : Thread nD τ) (ms9 a t) fullShare (iblk V a c 9 t) ∗ (∃ d, owns (c : Thread nD τ) (ms10 a t) fullShare d) ∗ tabsP c (tab5 V c) (tabY V c) (tabX V c) fullShare.right ∗ A ∗ A' ∗ owes (c : Thread nD τ) 0 W
        ∗ (iprop(owns (c : Thread nD τ) (ms0 a t) fullShare (iblk V a c 0 t) ∗ owns (c : Thread nD τ) (ms1 a t) fullShare (iblk V a c 1 t) ∗ owns (c : Thread nD τ) (ms2 a t) fullShare (iblk V a c 2 t) ∗ owns (c : Thread nD τ) (ms3 a t) fullShare (iblk V a c 3 t) ∗ owns (c : Thread nD τ) (ms4 a t) fullShare (iblk V a c 4 t) ∗ owns (c : Thread nD τ) (ms5 a t) fullShare (iblk V a c 5 t) ∗ owns (c : Thread nD τ) (ms6 a t) fullShare (iblk V a c 6 t) ∗ owns (c : Thread nD τ) (ms7 a t) fullShare (iblk V a c 7 t) ∗ owns (c : Thread nD τ) (ms8 a t) fullShare (iblk V a c 8 t) ∗ owns (c : Thread nD τ) (ms9 a t) fullShare (iblk V a c 9 t) ∗ owns (c : Thread nD τ) (ms10 a t) fullShare (outAt V a ht c t) ∗ tabsP c (tab5 V c) (tabY V c) (tabX V c) fullShare.right ∗ B ∗ (∃ W', owes (c : Thread nD τ) 0 W')) -∗ K ⟨⟩))
      ⊢ wp frame (wpE (defs₀ (F := F)) Variants.none c none) Set.univ (bodyAt a t) K) :
    bodyPre V a ht c t ⊢ wp frame (wpE (defs₀ (F := F)) Variants.none c none) Set.univ (bodyAt a t) (fun _ => bodyPost V a ht c t) := by
  unfold bodyPre bodyPost
  simp only [before_0, before_1, before_2, before_3, before_4, before_5, before_6, before_7, before_8, before_9]
  rw [after_0, after_1, after_2, after_3, after_4, after_5, after_6, after_7, after_8, after_9, after_10]
  rw [show (dats V a ht 0 c).Φ t.castSucc = PhiS V c t.val from by dsimp only [dats]; exact Dat.Φ_castSucc (fun n _ => PhiS V c n) t, show (dats V a ht 0 c).Φ t.succ = PhiS V c (t.val + 1) from rfl]
  unfold Dat.owesAt Pipeline.owesWithin
  rw [show (dats V a ht 0 c).owed t.castSucc = 0 from rfl, show (dats V a ht 0 c).owed t.succ = 0 from rfl]
  iintro ⟨HP, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HP := hA $$ HP
  icases HP with ⟨HA, HA', Hg, HT⟩
  iapply (run W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HT]; · iexact HT
  isplitl [HA]; · iexact HA
  isplitl [HA']; · iexact HA'
  isplitl [HW]; · iexact HW
  iintro ⟨H0, H1, H2, H3, H4, H5, H6, H7, H8, H9, H10, HT, HB, ⟨%W', HW'⟩⟩
  isplitl [HB Hg HT]
  · iapply hB
    isplitl [HB]; · iexact HB
    isplitl [Hg]; · iexact Hg
    iexact HT
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem sound_body (c : Dev nD) (t : Fin (cfg0 a).N) :
    bodyPre V a ht c t ⊢ wp frame (wpE (defs₀ (F := F)) Variants.none c none) Set.univ (bodyAt a t) (fun _ => bodyPost V a ht c t) := by
  have hv := coords_val t
  have hl := coords_lt t
  by_cases h1 : (grid0.coords t 1).val = 0
  · have h1' := (cond1_iff (grid0.coords t)).2 h1
    have h2' := (cond2_iff (grid0.coords t)).2 (by omega)
    have hm : t.val % 256 = 0 := by omega
    have hm' : ¬ (t.val + 1) % 256 = 0 := by omega
    have hS : sl (grid0.coords t) = 0 := by apply Fin.ext; show (grid0.coords t 1).val % 2 = 0; omega
    have hN : nsl (grid0.coords t) = 1 := by apply Fin.ext; show ((grid0.coords t 1).val + 1) % 2 = 1; omega
    have e1 : (Fin.ofNat 2 (t.val + 1) : Fin 2) = 1 := (nsl_eq t).symm.trans hN
    have e2 : (Fin.ofNat 2 (t.val + 1 + 1) : Fin 2) = 0 := by apply Fin.ext; show (t.val + 1 + 1) % 2 = 0; omega
    refine body_of V a ht c t (freeP c (ft0 V c) (ft1 V c) (ft2 V c) (ft3 V c) (0)) (freeP c (ft0 V c) (ft1 V c) (ft2 V c) (ft3 V c) (1))
      iprop(freeP c (ft0 V c) (ft1 V c) (ft2 V c) (ft3 V c) (0) ∗ busyP c (tab5 V c) (tabY V c) (tabX V c) (ft0 V c) (ft1 V c) (ft2 V c) (ft3 V c) (1) (nbx (grid0.coords t) h2')) ?_ ?_ (fun W K => ?_)
    · unfold PhiS; rw [if_pos hm]
      iintro ⟨⟨H0, H1⟩, Hg, HT⟩
      isplitl [H0]; · iexact H0
      isplitl [H1]; · iexact H1
      isplitl [Hg]; · iexact Hg
      iexact HT
    · unfold PhiS; rw [if_neg hm', e1, e2, nbx_eq]
      iintro ⟨⟨H0, H1⟩, Hg, HT⟩
      isplitl [H0 H1]
      · isplitl [H1]; · iexact H1
        iexact H0
      isplitl [Hg]; · iexact Hg
      iexact HT
    · refine (?_ : _ ⊢ _).trans (runF c (grid0.coords t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (ms8 a t) (hs8 a t) (ms9 a t) (hs9 a t) (ms10 a t) (hs10 a t) fullShare.right (ht c) (ft0 V c) (ft1 V c) (ft2 V c) (ft3 V c) (iblk V a c 0 t) (iblk V a c 1 t) (iblk V a c 2 t) (iblk V a c 3 t) (iblk V a c 4 t) (iblk V a c 5 t) (iblk V a c 6 t) (iblk V a c 7 t) (iblk V a c 8 t) (iblk V a c 9 t) h1' h2' hS hN W K)
      iintro ⟨H0, H1, H2, H3, H4, H5, H6, H7, H8, H9, H10, HT, HA, HA', HW, HK⟩
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HT]; · iexact HT
      isplitl [HA]; · iexact HA
      isplitl [HA']; · iexact HA'
      isplitl [HW]; · iexact HW
      iintro ⟨H0, H1, H2, H3, H4, H5, H6, H7, H8, H9, H10, HT, HB, HB', HW⟩
      iapply HK
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HT]; · iexact HT
      isplitl [HB HB']
      · isplitl [HB]; · iexact HB
        iexact HB'
      iexact HW
  · have h1' := fun h => h1 ((cond1_iff (grid0.coords t)).1 h)
    have hm : ¬ t.val % 256 = 0 := by omega
    by_cases h2 : (grid0.coords t 1).val + 1 < 256
    · have h2' := (cond2_iff (grid0.coords t)).2 h2
      have hm' : ¬ (t.val + 1) % 256 = 0 := by omega
      have e2 : (Fin.ofNat 2 (t.val + 1 + 1) : Fin 2) = Fin.ofNat 2 t.val := by apply Fin.ext; show (t.val + 1 + 1) % 2 = t.val % 2; omega
      refine body_of V a ht c t (busyP c (tab5 V c) (tabY V c) (tabX V c) (ft0 V c) (ft1 V c) (ft2 V c) (ft3 V c) (sl (grid0.coords t)) (bx (grid0.coords t))) (freeP c (ft0 V c) (ft1 V c) (ft2 V c) (ft3 V c) (nsl (grid0.coords t)))
        iprop(freeP c (ft0 V c) (ft1 V c) (ft2 V c) (ft3 V c) (sl (grid0.coords t)) ∗ busyP c (tab5 V c) (tabY V c) (tabX V c) (ft0 V c) (ft1 V c) (ft2 V c) (ft3 V c) (nsl (grid0.coords t)) (nbx (grid0.coords t) h2')) ?_ ?_ (fun W K => ?_)
      · unfold PhiS; rw [if_neg hm, sl_eq, nsl_eq, bx_eq]
        iintro ⟨⟨H0, H1⟩, Hg, HT⟩
        isplitl [H0]; · iexact H0
        isplitl [H1]; · iexact H1
        isplitl [Hg]; · iexact Hg
        iexact HT
      · unfold PhiS; rw [if_neg hm', e2, nbx_eq, sl_eq, nsl_eq]
        iintro ⟨⟨H0, H1⟩, Hg, HT⟩
        isplitl [H0 H1]
        · isplitl [H1]; · iexact H1
          iexact H0
        isplitl [Hg]; · iexact Hg
        iexact HT
      · refine (?_ : _ ⊢ _).trans (runM c (grid0.coords t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (ms8 a t) (hs8 a t) (ms9 a t) (hs9 a t) (ms10 a t) (hs10 a t) fullShare.right (ht c) (ft0 V c) (ft1 V c) (ft2 V c) (ft3 V c) (iblk V a c 0 t) (iblk V a c 1 t) (iblk V a c 2 t) (iblk V a c 3 t) (iblk V a c 4 t) (iblk V a c 5 t) (iblk V a c 6 t) (iblk V a c 7 t) (iblk V a c 8 t) (iblk V a c 9 t) h1' h2' W K)
        iintro ⟨H0, H1, H2, H3, H4, H5, H6, H7, H8, H9, H10, HT, HA, HA', HW, HK⟩
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HT]; · iexact HT
        isplitl [HA]; · iexact HA
        isplitl [HA']; · iexact HA'
        isplitl [HW]; · iexact HW
        iintro ⟨H0, H1, H2, H3, H4, H5, H6, H7, H8, H9, H10, HT, HB, HB', HW⟩
        iapply HK
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HT]; · iexact HT
        isplitl [HB HB']
        · isplitl [HB]; · iexact HB
          iexact HB'
        iexact HW
    · have h2' := fun h => h2 ((cond2_iff (grid0.coords t)).1 h)
      have hm' : (t.val + 1) % 256 = 0 := by omega
      have eS : sl (grid0.coords t) = 1 := by apply Fin.ext; show (grid0.coords t 1).val % 2 = 1; omega
      have eN : nsl (grid0.coords t) = 0 := by apply Fin.ext; show ((grid0.coords t 1).val + 1) % 2 = 0; omega
      refine body_of V a ht c t (busyP c (tab5 V c) (tabY V c) (tabX V c) (ft0 V c) (ft1 V c) (ft2 V c) (ft3 V c) (sl (grid0.coords t)) (bx (grid0.coords t))) (freeP c (ft0 V c) (ft1 V c) (ft2 V c) (ft3 V c) (nsl (grid0.coords t)))
        iprop(freeP c (ft0 V c) (ft1 V c) (ft2 V c) (ft3 V c) (sl (grid0.coords t)) ∗ freeP c (ft0 V c) (ft1 V c) (ft2 V c) (ft3 V c) (nsl (grid0.coords t))) ?_ ?_ (fun W K => ?_)
      · unfold PhiS; rw [if_neg hm, sl_eq, nsl_eq, bx_eq]
        iintro ⟨⟨H0, H1⟩, Hg, HT⟩
        isplitl [H0]; · iexact H0
        isplitl [H1]; · iexact H1
        isplitl [Hg]; · iexact Hg
        iexact HT
      · unfold PhiS; rw [if_pos hm', eS, eN]
        iintro ⟨⟨H0, H1⟩, Hg, HT⟩
        isplitl [H0 H1]
        · isplitl [H1]; · iexact H1
          iexact H0
        isplitl [Hg]; · iexact Hg
        iexact HT
      · refine (?_ : _ ⊢ _).trans (runL c (grid0.coords t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (ms8 a t) (hs8 a t) (ms9 a t) (hs9 a t) (ms10 a t) (hs10 a t) fullShare.right (ht c) (ft0 V c) (ft1 V c) (ft2 V c) (ft3 V c) (iblk V a c 0 t) (iblk V a c 1 t) (iblk V a c 2 t) (iblk V a c 3 t) (iblk V a c 4 t) (iblk V a c 5 t) (iblk V a c 6 t) (iblk V a c 7 t) (iblk V a c 8 t) (iblk V a c 9 t) h1' h2' W K)
        iintro ⟨H0, H1, H2, H3, H4, H5, H6, H7, H8, H9, H10, HT, HA, HA', HW, HK⟩
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HT]; · iexact HT
        isplitl [HA]; · iexact HA
        isplitl [HW]; · iexact HW
        iintro ⟨H0, H1, H2, H3, H4, H5, H6, H7, H8, H9, H10, HT, HB, HW⟩
        iapply HK
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HT]; · iexact HT
        isplitl [HB HA']
        · isplitl [HB]; · iexact HB
          iexact HA'
        iexact HW

theorem body_obligation (c : Dev nD) : BodyObligation (dats V a ht 0 c) (defs₀ (F := F)) Variants.none () Set.univ := fun t => by
  rw [bigSep_W0, bigSep_W0, defs₀_row]
  exact triple_restated (sound_body V a ht c t) rfl .rfl fun _ => .rfl
end Data

end Cert.KernelIdeal.Hand

end
-- ==== Proof.KernelIdeal.Run.lean ====
/- The run of the kernel and its host lines: what every buffer holds at the end, and that the argument arrays end as they began. -/
module

public import proofs.«01_k».proof.Proof.KernelIdeal.Frame
public import Idealize.ShloMosaic.Lib.StableHlo.RunRead

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

set_option maxRecDepth 100000 in
set_option maxHeartbeats 40000000 in
/-- No host line before the launch allocates a buffer. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- What the core's buffers hold when the kernel is launched. -/
def V₀ (m : (ℓ : Loc nD τ sig) → Buf (Elt F) ℓ) (c : Dev nD) : Valuation τ sig (Elt F) :=
  StableHlo.after [hostOps0].flatten (fun b => m (c, b))

set_option maxHeartbeats 4000000 in
theorem V₀_args (m : (ℓ : Loc nD τ sig) → Buf (Elt F) ℓ) (c : Dev nD) :
    V₀ m c (Proc.devRef .tc main_arg0) = m (c, Proc.devRef .tc main_arg0) ∧ V₀ m c (Proc.devRef .tc main_arg1) = m (c, Proc.devRef .tc main_arg1)
    ∧ V₀ m c (Proc.devRef .tc main_arg2) = m (c, Proc.devRef .tc main_arg2) ∧ V₀ m c (Proc.devRef .tc main_arg3) = m (c, Proc.devRef .tc main_arg3)
    ∧ V₀ m c (Proc.devRef .tc main_arg4) = m (c, Proc.devRef .tc main_arg4) ∧ V₀ m c (Proc.devRef .tc main_arg5) = m (c, Proc.devRef .tc main_arg5)
    ∧ V₀ m c (Proc.devRef .tc main_arg6) = m (c, Proc.devRef .tc main_arg6) ∧ V₀ m c (Proc.devRef .tc main_arg7) = m (c, Proc.devRef .tc main_arg7) := by
  unfold V₀; rw [List.flatten_singleton]
  refine ⟨?_, ?_, ?_, ?_, ?_, ?_, ?_, ?_⟩ <;> after_reads_simp

theorem V₀_eq (m : (ℓ : Loc nD τ sig) → Buf (Elt F) ℓ) (c : Dev nD) : V₀ m c = StableHlo.after [hostOps0].flatten (fun b => m (c, b)) := rfl
attribute [irreducible] V₀

/-- The tables the launch reads. -/
def adm (m : (ℓ : Loc nD τ sig) → Buf (Elt F) ℓ) : (p : Fin 1) → (pcfgs (F := F) p).Adm := fun
  | 0 => ⟨fun k => V₀ m 0 (Proc.devRef .tc (pre0.ref k)), trivial⟩

/-- The two host lines after the launch: what they touch, and that they write no array of the launch. -/
theorem tail_sub : ∀ ops ∈ [hostOps1 (F := F)], ∀ op ∈ ops, op.bufs ⊆ Pipeline.tailRefsBut sig pre0 spec0 H0 := by
  intro ops ho op hop
  obtain rfl := List.mem_singleton.1 ho
  rcases List.mem_cons.1 hop with rfl | hop
  · show ({Proc.devRef .tc main_call0_v657, Proc.devRef .tc main_call0_v658} : Finset (DevRef τ sig)) ⊆ _
    decide +kernel
  · obtain rfl := List.mem_singleton.1 hop
    show ({Proc.devRef .tc main_call0_v658, Proc.devRef .tc main_v0} : Finset (DevRef τ sig)) ⊆ _
    decide +kernel
theorem tail_fresh : ∀ ops ∈ [hostOps1 (F := F)], ∀ op ∈ ops, op.fresh = ∅ := by
  intro ops ho op hop
  obtain rfl := List.mem_singleton.1 ho
  rcases List.mem_cons.1 hop with rfl | hop
  · rfl
  · obtain rfl := List.mem_singleton.1 hop
    rfl
theorem tail_keep : ∀ ops ∈ [hostOps1 (F := F)], ∀ op ∈ ops, ∀ w, Proc.devRef .tc (Pipeline.arrRef spec0 w) ∉ op.writes := by
  intro ops ho op hop
  obtain rfl := List.mem_singleton.1 ho
  rcases List.mem_cons.1 hop with rfl | hop
  · show ∀ w : Fin 11, Proc.devRef .tc (Pipeline.arrRef spec0 w) ∉ ({Proc.devRef .tc main_call0_v658} : Finset (DevRef τ sig))
    decide +kernel
  · obtain rfl := List.mem_singleton.1 hop
    show ∀ w : Fin 11, Proc.devRef .tc (Pipeline.arrRef spec0 w) ∉ ({Proc.devRef .tc main_v0} : Finset (DevRef τ sig))
    decide +kernel

section
variable (m : (ℓ : Loc nD τ sig) → Buf (Elt F) ℓ) (g : Dev nD → PrngReg)

theorem hmain₀ : Pipeline.HMainPK (Ix := Unit) (Name := ℕ) (U := Pipeline.UD sig nD τ) (Lvl := ℕ) pcfgs 0 defs₀ Variants.none m (main (F := F))
    (fun c b => V₀ m c (Proc.devRef .tc b)) (fun _ => Pipeline.chain ([hostOps1].map StableHlo.seq)) := by
  simp only [V₀_eq]
  exact Pipeline.hmainP_around pcfgs 0 defs₀ Variants.none m main [hostOps0] [hostOps1] hostOps0_sub hostOps0_fresh main_chain
theorem tabs_gen (v : pre0.Contents (Elt F)) (c : Dev nD) : (Pipeline.ΦT pre0 v c : sProp 𝕄) ⊢ tabsP c (v 0) (v 1) (v 2) fullShare.right := by
  unfold Pipeline.ΦT Pipeline.prefHeld tabsP
  rw [show (bigSep (Finset.univ : Finset (Fin 3)) (fun k => ((c.tc : Thread nD τ).loc (pre0.ref k)) ↦{fullShare.right} v k) : sProp 𝕄)
    = _ from bigSep_univ_eq_bigSepL [(0 : Fin 3), 1, 2] (by decide) (by decide) _]
  exact .rfl
theorem tabs_of (c : Dev nD) : (Pipeline.ΦT pre0 (adm m 0).1 c : sProp 𝕄) ⊢ tabsP c (tab5 (V₀ m) c) (tabY (V₀ m) c) (tabX (V₀ m) c) fullShare.right := by
  obtain rfl : c = 0 := Subsingleton.elim _ _
  exact tabs_gen (adm m 0).1 0

variable (hT : ∀ c, TabOk (tab5 (V₀ m) c) (tabY (V₀ m) c) (tabX (V₀ m) c))

set_option backward.isDefEq.respectTransparency.types false in
theorem run_main : θ_run defs (onTc (τ := τ) (main (F := F))) (s₀ m g) (fun r =>
    Pipeline.FramePost (Pipeline.pin pcfgs (adm m)) (dats (V₀ m) (adm m 0) hT) 0 (Pipeline.afterTail pcfgs (adm m) (dats (V₀ m) (adm m 0) hT) 0 (V₀ m) [hostOps1]) r ∧ r.2.sem = fun _ => 0) :=
  Pipeline.θ_run_frameP_dma_around (Q' := _) pcfgs (adm m) (dats (V₀ m) (adm m 0) hT) (0 : Fin 1) launch0 osem0 defs₀ Variants.none ownSemFacts0 H0 H0_sub m g main
    (hbody := fun c => (body_obligation (V₀ m) (adm m 0) hT c).loose) (hshare := fun c => (dats (V₀ m) (adm m 0) hT 0 c).share_full fun _ => rfl)
    (howed := fun _ _ => rfl) (V₀ := V₀ m) (opss := [hostOps1])
    (hsub := tail_sub) (hfresh := tail_fresh) (hkeep := tail_keep)
    (hmain := hmain₀ m)
    (hA := A_eq (V₀ m) (adm m 0) hT)
    (hpf := fun c k => by obtain rfl : c = 0 := Subsingleton.elim _ _; rfl)
    (hin := fun c => phi_in (V₀ m) c _ (tabs_of m c)) (hout := fun c => phi_out (V₀ m) c)

/-- An argument array is none of the launch's arrays, and no host line writes one. -/
theorem arg_end (c : Dev nD) (b : Ref sig .tc) (hb : ∀ w, Pipeline.arrRef spec0 w ≠ b) (h1 : b ≠ main_call0_v658) (h2 : b ≠ main_v0)
    (h0 : V₀ m c (Proc.devRef .tc b) = m (c, Proc.devRef .tc b)) :
    Pipeline.afterTail pcfgs (adm m) (dats (V₀ m) (adm m 0) hT) 0 (V₀ m) [hostOps1] c b = m (c, Proc.devRef .tc b) := by
  unfold Pipeline.afterTail
  rw [List.flatten_singleton]
  refine (StableHlo.after_unwritten [main_call0_v658, main_v0] rfl (by simp [h1, h2]) _).trans ?_
  exact (Pipeline.withArrays_of_ne spec0 c (V₀ m c) _ b hb).trans h0

include hT in
/-- The run ends, nothing faulting, with the argument arrays as they were and every semaphore at zero. -/
theorem frame : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine (θ_run defs (onTc (τ := τ) (main (F := F))) _).mono (fun r hr => ⟨fun c => ?_, hr.2⟩) (run_main m g hT)
  have H := (hr.1 c).2
  obtain ⟨e0, e1, e2, e3, e4, e5, e6, e7⟩ := V₀_args m c
  exact ⟨(H main_arg0 (show main_arg0 ∈ Pipeline.restRefs sig spec0 by decide)).trans (arg_end m hT c main_arg0 (by decide) (by decide) (by decide) e0),
    (H main_arg1 (show main_arg1 ∈ Pipeline.restRefs sig spec0 by decide)).trans (arg_end m hT c main_arg1 (by decide) (by decide) (by decide) e1),
    (H main_arg2 (show main_arg2 ∈ Pipeline.restRefs sig spec0 by decide)).trans (arg_end m hT c main_arg2 (by decide) (by decide) (by decide) e2),
    (H main_arg3 (show main_arg3 ∈ Pipeline.restRefs sig spec0 by decide)).trans (arg_end m hT c main_arg3 (by decide) (by decide) (by decide) e3),
    (H main_arg4 (show main_arg4 ∈ Pipeline.restRefs sig spec0 by decide)).trans (arg_end m hT c main_arg4 (by decide) (by decide) (by decide) e4),
    (H main_arg5 (show main_arg5 ∈ Pipeline.restRefs sig spec0 by decide)).trans (arg_end m hT c main_arg5 (by decide) (by decide) (by decide) e5),
    (H main_arg6 (show main_arg6 ∈ Pipeline.restRefs sig spec0 by decide)).trans (arg_end m hT c main_arg6 (by decide) (by decide) (by decide) e6),
    (H main_arg7 (show main_arg7 ∈ Pipeline.restRefs sig spec0 by decide)).trans (arg_end m hT c main_arg7 (by decide) (by decide) (by decide) e7)⟩

end

end Cert.KernelIdeal.Hand

end
-- ==== Proof.KernelIdeal.Tables.lean ====
/- The tables the kernel reads: every window they place lies inside its features, and begins at a multiple of eight columns. -/
module

public import proofs.«01_k».proof.Proof.KernelIdeal.Run
public import proofs.«01_k».proof.Pre_batch_named
public import Idealize.ShloMosaic.Lib.StableHlo.RunRead
public import Idealize.ShloMosaic.Lib.StableHlo.Predicate
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ) (c : Dev nD)

/-- The host lines, cut after the first `k`. -/
theorem V₀_split (k : Nat) : V₀ m c = StableHlo.after ((hostOps0 (F := F)).drop k) (StableHlo.after ((hostOps0 (F := F)).take k) (fun b => m (c, b))) := by
  rw [V₀_eq, List.flatten_singleton, ← StableHlo.after_append, List.take_append_drop]

/-- `q` held to `[0, k]`, entry by entry. -/
abbrev clampI (k : BitVec 32) (q : IVec S512 32) : IVec S512 32 :=
  minsi (broadcastInDim S512 ![] bcast_S_S512 (constantI S_ 32 k)) (maxsi (broadcastInDim S512 ![] bcast_S_S512 (constantI S_ 32 0#32)) q)
/-- Eight times `q`, entry by entry. -/
abbrev timesEight (q : IVec S512 32) : IVec S512 32 := muli q (broadcastInDim S512 ![] bcast_S_S512 (constantI S_ 32 8#32))
/-- Four rows of 512, one under the other. -/
abbrev rows4 (a b d e : IVec S512 32) : IVec S4x512 32 :=
  concatenate S4x512 0 [⟨S1x512, broadcastInDim S1x512 ![1] bcast_S512_S1x512_1 a⟩, ⟨S1x512, broadcastInDim S1x512 ![1] bcast_S512_S1x512_1 b⟩,
    ⟨S1x512, broadcastInDim S1x512 ![1] bcast_S512_S1x512_1 d⟩, ⟨S1x512, broadcastInDim S1x512 ![1] bcast_S512_S1x512_1 e⟩] concatenates_S1x512_S1x512_S1x512_S1x512_S4x512_d0
/-- The vector a buffer of 512 words holds at the launch. -/
abbrev vec512 (V : Valuation τ sig (Elt F)) (r : Ref sig .tc) (h : (⟨S512, .i32⟩ : BufTy) = r.ty) : IVec S512 32 := cast (congrArg (fun T : BufTy => T.Contents (Elt F)) h.symm) (V (Proc.devRef .tc r))

set_option maxHeartbeats 4000000 in
theorem read_v46 : ∃ q : IVec S512 32, V₀ m c (Proc.devRef .tc main_call0_v46) = clampI 200#32 (q) := by
  rw [V₀_split m c 62]; generalize StableHlo.after ((hostOps0 (F := F)).take 62) _ = W
  after_reads_simp
  exact ⟨_, rfl⟩
set_option maxHeartbeats 4000000 in
theorem read_v206 : ∃ q : IVec S512 32, V₀ m c (Proc.devRef .tc main_call0_v206) = clampI 96#32 (q) := by
  rw [V₀_split m c 292]; generalize StableHlo.after ((hostOps0 (F := F)).take 292) _ = W
  after_reads_simp
  exact ⟨_, rfl⟩
set_option maxHeartbeats 4000000 in
theorem read_v366 : ∃ q : IVec S512 32, V₀ m c (Proc.devRef .tc main_call0_v366) = clampI 48#32 (q) := by
  rw [V₀_split m c 522]; generalize StableHlo.after ((hostOps0 (F := F)).take 522) _ = W
  after_reads_simp
  exact ⟨_, rfl⟩
set_option maxHeartbeats 4000000 in
theorem read_v526 : ∃ q : IVec S512 32, V₀ m c (Proc.devRef .tc main_call0_v526) = clampI 16#32 (q) := by
  rw [V₀_split m c 752]; generalize StableHlo.after ((hostOps0 (F := F)).take 752) _ = W
  after_reads_simp
  exact ⟨_, rfl⟩
set_option maxHeartbeats 4000000 in
theorem read_v124 : ∃ q : IVec S512 32, V₀ m c (Proc.devRef .tc main_call0_v124) = clampI 192#32 (timesEight q) := by
  rw [V₀_split m c 181]; generalize StableHlo.after ((hostOps0 (F := F)).take 181) _ = W
  after_reads_simp
  exact ⟨_, rfl⟩
set_option maxHeartbeats 4000000 in
theorem read_v284 : ∃ q : IVec S512 32, V₀ m c (Proc.devRef .tc main_call0_v284) = clampI 88#32 (timesEight q) := by
  rw [V₀_split m c 411]; generalize StableHlo.after ((hostOps0 (F := F)).take 411) _ = W
  after_reads_simp
  exact ⟨_, rfl⟩
set_option maxHeartbeats 4000000 in
theorem read_v444 : ∃ q : IVec S512 32, V₀ m c (Proc.devRef .tc main_call0_v444) = clampI 40#32 (timesEight q) := by
  rw [V₀_split m c 641]; generalize StableHlo.after ((hostOps0 (F := F)).take 641) _ = W
  after_reads_simp
  exact ⟨_, rfl⟩
set_option maxHeartbeats 4000000 in
theorem read_v604 : ∃ q : IVec S512 32, V₀ m c (Proc.devRef .tc main_call0_v604) = clampI 16#32 (timesEight q) := by
  rw [V₀_split m c 871]; generalize StableHlo.after ((hostOps0 (F := F)).take 871) _ = W
  after_reads_simp
  exact ⟨_, rfl⟩
set_option maxHeartbeats 4000000 in
theorem read_Y : V₀ m c (Proc.devRef .tc main_call0_v648) = rows4 (V₀ m c (Proc.devRef .tc main_call0_v46)) (V₀ m c (Proc.devRef .tc main_call0_v206)) (V₀ m c (Proc.devRef .tc main_call0_v366)) (V₀ m c (Proc.devRef .tc main_call0_v526)) := by
  rw [V₀_split m c 924]; generalize StableHlo.after ((hostOps0 (F := F)).take 924) _ = W
  after_reads_simp
  rfl
set_option maxHeartbeats 4000000 in
theorem read_X : V₀ m c (Proc.devRef .tc main_call0_v653) = rows4 (V₀ m c (Proc.devRef .tc main_call0_v124)) (V₀ m c (Proc.devRef .tc main_call0_v284)) (V₀ m c (Proc.devRef .tc main_call0_v444)) (V₀ m c (Proc.devRef .tc main_call0_v604)) := by
  rw [V₀_split m c 924]; generalize StableHlo.after ((hostOps0 (F := F)).take 924) _ = W
  after_reads_simp
  rfl

theorem clamp_le (k q : BitVec 32) (hk : k.toNat < 2 ^ 31) : (IntOp.minsi k (IntOp.maxsi 0#32 q)).toNat ≤ k.toNat := by
  have hk' : k.toInt = k.toNat := StableHlo.Predicate.toInt_eq_toNat_of_lt hk
  have hq := BitVec.toInt_eq_toNat_cond q
  simp only [IntOp.minsi, IntOp.maxsi, BitVec.slt, BitVec.toInt_zero]
  split_ifs with h1 h2 h2 <;> simp only [decide_eq_true_eq] at * <;> first | omega | simp | (split at hq <;> omega)
theorem clamp_dvd (k q : BitVec 32) (hk : 8 ∣ k.toNat) : 8 ∣ (IntOp.minsi k (IntOp.maxsi 0#32 (q * 8#32))).toNat := by
  have h8 : 8 ∣ (q * 8#32).toNat := by
    rw [BitVec.toNat_mul]; simp only [BitVec.toNat_ofNat]; omega
  simp only [IntOp.minsi, IntOp.maxsi]
  split_ifs <;> first | exact hk | exact h8 | simp

theorem rows4_at (a b d e : IVec S512 32) (l : Fin 4) (n : Fin 512) :
    rows4 a b d e (fun x => match x with | ⟨0, _⟩ => l | ⟨1, _⟩ => n) = (![a, b, d, e] l) (ix1 n) := by
  fin_cases l <;> pointwise
theorem wY_at {c : Dev nD} (T : TBufY (F := F) c) (a b d e : IVec S512 32) (h : T = rows4 a b d e) (l : Fin 4) (n : Fin 512) :
    wY T l n = (![a, b, d, e] l) (ix1 n) := by subst h; exact rows4_at a b d e l n
theorem wX_at {c : Dev nD} (T : TBufX (F := F) c) (a b d e : IVec S512 32) (h : T = rows4 a b d e) (l : Fin 4) (n : Fin 512) :
    wX T l n = (![a, b, d, e] l) (ix1 n) := by subst h; exact rows4_at a b d e l n
theorem clampI_at (k : BitVec 32) (q : IVec S512 32) (i) : clampI k q i = IntOp.minsi k (IntOp.maxsi 0#32 (q i)) := by
  pointwise
theorem timesEight_at (q : IVec S512 32) (i) : timesEight q i = q i * 8#32 := by
  pointwise; try rfl

/-- With every batch index below two, the tables place every window inside its features. -/
theorem tabOk (hb : ∀ n, (w5 (tab5 (V₀ m) c) n).toNat < 2) : TabOk (tab5 (V₀ m) c) (tabY (V₀ m) c) (tabX (V₀ m) c) := by
  refine ⟨hb, fun l n => ?_, fun l n => ?_⟩
  · obtain ⟨q0, h0⟩ := read_v46 m c
    obtain ⟨q1, h1⟩ := read_v206 m c
    obtain ⟨q2, h2⟩ := read_v366 m c
    obtain ⟨q3, h3⟩ := read_v526 m c
    rw [wY_at (tabY (V₀ m) c) _ _ _ _ (read_Y m c), h0, h1, h2, h3]
    match l with
    | 0 => exact (congrArg BitVec.toNat (clampI_at _ _ _)).trans_le (clamp_le 200#32 _ (by decide))
    | 1 => exact (congrArg BitVec.toNat (clampI_at _ _ _)).trans_le (clamp_le 96#32 _ (by decide))
    | 2 => exact (congrArg BitVec.toNat (clampI_at _ _ _)).trans_le (clamp_le 48#32 _ (by decide))
    | 3 => exact (congrArg BitVec.toNat (clampI_at _ _ _)).trans_le (clamp_le 16#32 _ (by decide))
  · obtain ⟨q0, h0⟩ := read_v124 m c
    obtain ⟨q1, h1⟩ := read_v284 m c
    obtain ⟨q2, h2⟩ := read_v444 m c
    obtain ⟨q3, h3⟩ := read_v604 m c
    have key : ∀ (k : BitVec 32) (q : IVec S512 32) (i), k.toNat < 2 ^ 31 → 8 ∣ k.toNat →
        (clampI k (timesEight q) i).toNat ≤ k.toNat ∧ 8 ∣ (clampI k (timesEight q) i).toNat := fun k q i hk hd => by
      rw [clampI_at, timesEight_at]; exact ⟨clamp_le k _ hk, clamp_dvd k _ hd⟩
    rw [wX_at (tabX (V₀ m) c) _ _ _ _ (read_X m c), h0, h1, h2, h3]
    match l with
    | 0 => exact key 192#32 q0 _ (by decide) (by decide)
    | 1 => exact key 88#32 q1 _ (by decide) (by decide)
    | 2 => exact key 40#32 q2 _ (by decide) (by decide)
    | 3 => exact key 16#32 q3 _ (by decide) (by decide)

/-- What the precondition says of one box: its batch index, and the two differences of its corners. -/
theorem pre_fields [Cert.Pre_batch_named.Facts] (a0 : FVec F S2x256x256x256 .f32) (a1 : FVec F S2x256x128x128 .f32) (a2 : FVec F S2x256x64x64 .f32) (a3 : FVec F S2x256x32x32 .f32)
    (a4 : FVec F S512x4 .f32) (a5 : IVec S512 32) (a6 : FVec F S256x1024 .f32) (a7 : FVec F S256 .f32)
    (h : Cert.Pre_batch_named.fn (F := F) a0 a1 a2 a3 a4 a5 a6 a7 = fun _ => 1#1) (n) : (a5 n).toNat < 2 := by
  have e : IntOp.andi (IntOp.cmpi .sge (a5 n) 0#32) (IntOp.cmpi .slt (a5 n) 2#32) = 1#1 := congrFun h n
  have band : ∀ a b : BitVec 1, IntOp.andi a b = 1#1 → a = 1#1 ∧ b = 1#1 := by decide
  obtain ⟨h1, h2⟩ := band _ _ e
  simp only [IntOp.cmpi, StableHlo.Predicate.ofBool_eq_one_iff, BitVec.slt, BitVec.sle, decide_eq_true_eq] at h1 h2
  have hq := BitVec.toInt_eq_toNat_cond (a5 n)
  simp at h1 h2
  split at hq <;> omega

end Cert.KernelIdeal.Hand

end
-- ==== Proof.Kernel2Ideal.Names.lean ====
/- The names under which the body of the kernel is run: the two slots of each of the four copied windows, the eight
   semaphores, the windows of the four feature arrays, and the closed forms of the offsets the body computes. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.FrameSuffix
public import Idealize.ShloMosaic.Lib.Ring
public import Idealize.ShloMosaic.Lib.Affine
public import Idealize.ShloMosaic.Lib.Tactic

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.Sem

/-! ## The slots, the semaphores and the windows -/

abbrev slotOff (s : Fin 2) : Fin 4 → Nat := ![s.val, 0, 0, 0]
abbrev semOff (s : Fin 2) (l : Fin 4) : Fin 2 → Nat := ![s.val, l.val]
theorem semOff_inb (s : Fin 2) (l : Fin 4) : ∀ a, semOff s l a + S1x1.size a ≤ S2x4.size a := by revert s l; decide

/-- The semaphore of slot `s` at level `l`. -/
def csm (s : Fin 2) (l : Fin 4) : DmaSems sig S_ :=
  (cc0_scratch4.slice (Rect.unit (s := S2x4) (semOff s l) S1x1.size (semOff_inb s l))).squeeze S_ squeezes_S1x1_S_
theorem csm_congr {off : Fin 2 → Nat} {s : Fin 2} {l : Fin 4} (e : off = semOff s l) (hh) :
    (cc0_scratch4.slice (Rect.unit (s := S2x4) off S1x1.size hh)).squeeze S_ squeezes_S1x1_S_ = csm s l :=
  congrArg (fun A : DmaSems sig S1x1 => A.squeeze S_ squeezes_S1x1_S_) (SemArray.slice_unit_congr _ e _ _)

instance (s : Fin 2) : ClosedOff (slotOff s) := ⟨slotOff s, rfl⟩

/-! Level 0. -/
/-- The copied windows' buffer at level 0. -/
abbrev bufM0 : Memref sig .tc .vmem S2x56x64x256 .f32 := Memref.whole cc0_scratch0
/-- The features of level 0. -/
abbrev featM0 : Memref sig .tc .hbm S2x256x256x256 .f32 := Memref.whole main_call0_v0
theorem slotOff_inb0 (s : Fin 2) : ∀ a, slotOff s a + S1x56x64x256.size a ≤ S2x56x64x256.size a := by revert s; decide
def slot0 (s : Fin 2) : Memref sig .tc .vmem S56x64x256 .f32 :=
  (bufM0.slice (Rect.unit (s := S2x56x64x256) (slotOff s) S1x56x64x256.size (slotOff_inb0 s)) (fun _ => rfl)).squeeze S56x64x256 squeezes_S1x56x64x256_S56x64x256
/-- The window of level 0 at offset `off`. -/
abbrev win0 (off : Fin 4 → Nat) (hh : ∀ a, off a + S1x56x64x256.size a ≤ S2x256x256x256.size a) : Memref sig .tc .hbm S56x64x256 .f32 :=
  (featM0.slice (Rect.unit (s := S2x256x256x256) off S1x56x64x256.size hh) (fun _ => rfl)).squeeze S56x64x256 squeezes_S1x56x64x256_S56x64x256
theorem slot0_congr {off : Fin 4 → Nat} {s : Fin 2} (e : off = slotOff s) (hh hs) :
    (bufM0.slice (Rect.unit (s := S2x56x64x256) off S1x56x64x256.size hh) hs).squeeze S56x64x256 squeezes_S1x56x64x256_S56x64x256 = slot0 s :=
  congrArg (fun M : Memref sig .tc .vmem S1x56x64x256 .f32 => M.squeeze S56x64x256 squeezes_S1x56x64x256_S56x64x256) (Memref.slice_unit_congr _ e _ _ _ _)

/-! Level 1. -/
/-- The copied windows' buffer at level 1. -/
abbrev bufM1 : Memref sig .tc .vmem S2x32x40x256 .f32 := Memref.whole cc0_scratch1
/-- The features of level 1. -/
abbrev featM1 : Memref sig .tc .hbm S2x128x128x256 .f32 := Memref.whole main_call0_v1
theorem slotOff_inb1 (s : Fin 2) : ∀ a, slotOff s a + S1x32x40x256.size a ≤ S2x32x40x256.size a := by revert s; decide
def slot1 (s : Fin 2) : Memref sig .tc .vmem S32x40x256 .f32 :=
  (bufM1.slice (Rect.unit (s := S2x32x40x256) (slotOff s) S1x32x40x256.size (slotOff_inb1 s)) (fun _ => rfl)).squeeze S32x40x256 squeezes_S1x32x40x256_S32x40x256
/-- The window of level 1 at offset `off`. -/
abbrev win1 (off : Fin 4 → Nat) (hh : ∀ a, off a + S1x32x40x256.size a ≤ S2x128x128x256.size a) : Memref sig .tc .hbm S32x40x256 .f32 :=
  (featM1.slice (Rect.unit (s := S2x128x128x256) off S1x32x40x256.size hh) (fun _ => rfl)).squeeze S32x40x256 squeezes_S1x32x40x256_S32x40x256
theorem slot1_congr {off : Fin 4 → Nat} {s : Fin 2} (e : off = slotOff s) (hh hs) :
    (bufM1.slice (Rect.unit (s := S2x32x40x256) off S1x32x40x256.size hh) hs).squeeze S32x40x256 squeezes_S1x32x40x256_S32x40x256 = slot1 s :=
  congrArg (fun M : Memref sig .tc .vmem S1x32x40x256 .f32 => M.squeeze S32x40x256 squeezes_S1x32x40x256_S32x40x256) (Memref.slice_unit_congr _ e _ _ _ _)

/-! Level 2. -/
/-- The copied windows' buffer at level 2. -/
abbrev bufM2 : Memref sig .tc .vmem S2x16x24x256 .f32 := Memref.whole cc0_scratch2
/-- The features of level 2. -/
abbrev featM2 : Memref sig .tc .hbm S2x64x64x256 .f32 := Memref.whole main_call0_v2
theorem slotOff_inb2 (s : Fin 2) : ∀ a, slotOff s a + S1x16x24x256.size a ≤ S2x16x24x256.size a := by revert s; decide
def slot2 (s : Fin 2) : Memref sig .tc .vmem S16x24x256 .f32 :=
  (bufM2.slice (Rect.unit (s := S2x16x24x256) (slotOff s) S1x16x24x256.size (slotOff_inb2 s)) (fun _ => rfl)).squeeze S16x24x256 squeezes_S1x16x24x256_S16x24x256
/-- The window of level 2 at offset `off`. -/
abbrev win2 (off : Fin 4 → Nat) (hh : ∀ a, off a + S1x16x24x256.size a ≤ S2x64x64x256.size a) : Memref sig .tc .hbm S16x24x256 .f32 :=
  (featM2.slice (Rect.unit (s := S2x64x64x256) off S1x16x24x256.size hh) (fun _ => rfl)).squeeze S16x24x256 squeezes_S1x16x24x256_S16x24x256
theorem slot2_congr {off : Fin 4 → Nat} {s : Fin 2} (e : off = slotOff s) (hh hs) :
    (bufM2.slice (Rect.unit (s := S2x16x24x256) off S1x16x24x256.size hh) hs).squeeze S16x24x256 squeezes_S1x16x24x256_S16x24x256 = slot2 s :=
  congrArg (fun M : Memref sig .tc .vmem S1x16x24x256 .f32 => M.squeeze S16x24x256 squeezes_S1x16x24x256_S16x24x256) (Memref.slice_unit_congr _ e _ _ _ _)

/-! Level 3. -/
/-- The copied windows' buffer at level 3. -/
abbrev bufM3 : Memref sig .tc .vmem S2x16x16x256 .f32 := Memref.whole cc0_scratch3
/-- The features of level 3. -/
abbrev featM3 : Memref sig .tc .hbm S2x32x32x256 .f32 := Memref.whole main_call0_v3
theorem slotOff_inb3 (s : Fin 2) : ∀ a, slotOff s a + S1x16x16x256.size a ≤ S2x16x16x256.size a := by revert s; decide
def slot3 (s : Fin 2) : Memref sig .tc .vmem S16x16x256 .f32 :=
  (bufM3.slice (Rect.unit (s := S2x16x16x256) (slotOff s) S1x16x16x256.size (slotOff_inb3 s)) (fun _ => rfl)).squeeze S16x16x256 squeezes_S1x16x16x256_S16x16x256
/-- The window of level 3 at offset `off`. -/
abbrev win3 (off : Fin 4 → Nat) (hh : ∀ a, off a + S1x16x16x256.size a ≤ S2x32x32x256.size a) : Memref sig .tc .hbm S16x16x256 .f32 :=
  (featM3.slice (Rect.unit (s := S2x32x32x256) off S1x16x16x256.size hh) (fun _ => rfl)).squeeze S16x16x256 squeezes_S1x16x16x256_S16x16x256
theorem slot3_congr {off : Fin 4 → Nat} {s : Fin 2} (e : off = slotOff s) (hh hs) :
    (bufM3.slice (Rect.unit (s := S2x16x16x256) off S1x16x16x256.size hh) hs).squeeze S16x16x256 squeezes_S1x16x16x256_S16x16x256 = slot3 s :=
  congrArg (fun M : Memref sig .tc .vmem S1x16x16x256 .f32 => M.squeeze S16x16x256 squeezes_S1x16x16x256_S16x16x256) (Memref.slice_unit_congr _ e _ _ _ _)

/-! ## The offsets in closed form -/

/-- The slot of the point `i`, and the other one. -/
def sl (i : grid0.Coords) : Fin 2 := Fin.ofNat 2 (i 1).val
def nsl (i : grid0.Coords) : Fin 2 := Fin.ofNat 2 ((i 1).val + 1)

theorem rem2 : ∀ k : Fin 256, (Scalar.remsi (BitVec.ofNat 32 k.val) 2#32).toNat = (Fin.ofNat 2 k.val).val := by decide +kernel
theorem rem2s : ∀ k : Fin 256, (Scalar.remsi (Scalar.addi (BitVec.ofNat 32 k.val) 1#32) 2#32).toNat = (Fin.ofNat 2 (k.val + 1)).val := by decide +kernel
theorem cond1_iff : ∀ i : grid0.Coords, k0_cond1 i = 1#1 ↔ (i 1).val = 0 := by
  have h : ∀ k : Fin 256, (Scalar.cmpi .ne (Scalar.extui (Scalar.cmpi .eq (BitVec.ofNat 32 k.val) 0#32) : BitVec 32) 0#32 = 1#1) ↔ k.val = 0 := by decide +kernel
  exact fun i => h (i 1)
theorem cond2_iff : ∀ i : grid0.Coords, k0_cond2 i = 1#1 ↔ (i 1).val + 1 < 256 := by
  have h : ∀ k : Fin 256, (Scalar.cmpi .ne (Scalar.extui (Scalar.cmpi .slt (Scalar.addi (BitVec.ofNat 32 k.val) 1#32) 256#32) : BitVec 32) 0#32 = 1#1) ↔ k.val + 1 < 256 := by decide +kernel
  exact fun i => h (i 1)

theorem off12_eq (i : grid0.Coords) : k0_off12 i = semOff (nsl i) 0 := congrArg (fun n : Nat => (![n, 0] : Fin 2 → Nat)) (rem2s (i 1))
theorem off16_eq (i : grid0.Coords) : k0_off16 i = semOff (nsl i) 1 := congrArg (fun n : Nat => (![n, 1] : Fin 2 → Nat)) (rem2s (i 1))
theorem off20_eq (i : grid0.Coords) : k0_off20 i = semOff (nsl i) 2 := congrArg (fun n : Nat => (![n, 2] : Fin 2 → Nat)) (rem2s (i 1))
theorem off24_eq (i : grid0.Coords) : k0_off24 i = semOff (nsl i) 3 := congrArg (fun n : Nat => (![n, 3] : Fin 2 → Nat)) (rem2s (i 1))
theorem off27_eq (i : grid0.Coords) : k0_off27 i = semOff (sl i) 0 := congrArg (fun n : Nat => (![n, 0] : Fin 2 → Nat)) (rem2 (i 1))
theorem off30_eq (i : grid0.Coords) : k0_off30 i = semOff (sl i) 1 := congrArg (fun n : Nat => (![n, 1] : Fin 2 → Nat)) (rem2 (i 1))
theorem off33_eq (i : grid0.Coords) : k0_off33 i = semOff (sl i) 2 := congrArg (fun n : Nat => (![n, 2] : Fin 2 → Nat)) (rem2 (i 1))
theorem off36_eq (i : grid0.Coords) : k0_off36 i = semOff (sl i) 3 := congrArg (fun n : Nat => (![n, 3] : Fin 2 → Nat)) (rem2 (i 1))
theorem off13_eq (i : grid0.Coords) : k0_off13 i = slotOff (nsl i) := congrArg (fun n : Nat => (![n, 0, 0, 0] : Fin 4 → Nat)) (rem2s (i 1))
theorem off17_eq (i : grid0.Coords) : k0_off17 i = slotOff (nsl i) := congrArg (fun n : Nat => (![n, 0, 0, 0] : Fin 4 → Nat)) (rem2s (i 1))
theorem off21_eq (i : grid0.Coords) : k0_off21 i = slotOff (nsl i) := congrArg (fun n : Nat => (![n, 0, 0, 0] : Fin 4 → Nat)) (rem2s (i 1))
theorem off25_eq (i : grid0.Coords) : k0_off25 i = slotOff (nsl i) := congrArg (fun n : Nat => (![n, 0, 0, 0] : Fin 4 → Nat)) (rem2s (i 1))
theorem off28_eq (i : grid0.Coords) : k0_off28 i = slotOff (sl i) := congrArg (fun n : Nat => (![n, 0, 0, 0] : Fin 4 → Nat)) (rem2 (i 1))
theorem off31_eq (i : grid0.Coords) : k0_off31 i = slotOff (sl i) := congrArg (fun n : Nat => (![n, 0, 0, 0] : Fin 4 → Nat)) (rem2 (i 1))
theorem off34_eq (i : grid0.Coords) : k0_off34 i = slotOff (sl i) := congrArg (fun n : Nat => (![n, 0, 0, 0] : Fin 4 → Nat)) (rem2 (i 1))
theorem off37_eq (i : grid0.Coords) : k0_off37 i = slotOff (sl i) := congrArg (fun n : Nat => (![n, 0, 0, 0] : Fin 4 → Nat)) (rem2 (i 1))
theorem off29_eq (i : grid0.Coords) : k0_off29 i = slotOff (sl i) := congrArg (fun n : Nat => (![n, 0, 0, 0] : Fin 4 → Nat)) (rem2 (i 1))
theorem off32_eq (i : grid0.Coords) : k0_off32 i = slotOff (sl i) := congrArg (fun n : Nat => (![n, 0, 0, 0] : Fin 4 → Nat)) (rem2 (i 1))
theorem off35_eq (i : grid0.Coords) : k0_off35 i = slotOff (sl i) := congrArg (fun n : Nat => (![n, 0, 0, 0] : Fin 4 → Nat)) (rem2 (i 1))
theorem off38_eq (i : grid0.Coords) : k0_off38 i = slotOff (sl i) := congrArg (fun n : Nat => (![n, 0, 0, 0] : Fin 4 → Nat)) (rem2 (i 1))

instance (i : grid0.Coords) : ClosedOff (k0_off29 i) := ⟨slotOff (sl i), off29_eq i⟩
instance (i : grid0.Coords) : ClosedOff (k0_off32 i) := ⟨slotOff (sl i), off32_eq i⟩
instance (i : grid0.Coords) : ClosedOff (k0_off35 i) := ⟨slotOff (sl i), off35_eq i⟩
instance (i : grid0.Coords) : ClosedOff (k0_off38 i) := ⟨slotOff (sl i), off38_eq i⟩

/-! ## The names of the slices the body takes -/

@[sl_canon] theorem semF0 (hh) : (cc0_scratch4.slice (Rect.unit (s := S2x4) ![0, 0] S1x1.size hh)).squeeze S_ squeezes_S1x1_S_ = csm 0 0 := csm_congr (by decide) _
@[sl_canon] theorem semN0 (i : grid0.Coords) (hh) : (cc0_scratch4.slice (Rect.unit (s := S2x4) (k0_off12 i) S1x1.size hh)).squeeze S_ squeezes_S1x1_S_ = csm (nsl i) 0 := csm_congr (off12_eq i) _
@[sl_canon] theorem semW0 (i : grid0.Coords) (hh) : (cc0_scratch4.slice (Rect.unit (s := S2x4) (k0_off27 i) S1x1.size hh)).squeeze S_ squeezes_S1x1_S_ = csm (sl i) 0 := csm_congr (off27_eq i) _
@[sl_canon] theorem slotF0 (hh hs) : (bufM0.slice (Rect.unit (s := S2x56x64x256) ![0, 0, 0, 0] S1x56x64x256.size hh) hs).squeeze S56x64x256 squeezes_S1x56x64x256_S56x64x256 = slot0 0 := slot0_congr (by decide) _ _
@[sl_canon] theorem slotN0 (i : grid0.Coords) (hh hs) : (bufM0.slice (Rect.unit (s := S2x56x64x256) (k0_off13 i) S1x56x64x256.size hh) hs).squeeze S56x64x256 squeezes_S1x56x64x256_S56x64x256 = slot0 (nsl i) := slot0_congr (off13_eq i) _ _
@[sl_canon] theorem slotW0 (i : grid0.Coords) (hh hs) : (bufM0.slice (Rect.unit (s := S2x56x64x256) (k0_off28 i) S1x56x64x256.size hh) hs).squeeze S56x64x256 squeezes_S1x56x64x256_S56x64x256 = slot0 (sl i) := slot0_congr (off28_eq i) _ _

@[sl_canon] theorem semF1 (hh) : (cc0_scratch4.slice (Rect.unit (s := S2x4) ![0, 1] S1x1.size hh)).squeeze S_ squeezes_S1x1_S_ = csm 0 1 := csm_congr (by decide) _
@[sl_canon] theorem semN1 (i : grid0.Coords) (hh) : (cc0_scratch4.slice (Rect.unit (s := S2x4) (k0_off16 i) S1x1.size hh)).squeeze S_ squeezes_S1x1_S_ = csm (nsl i) 1 := csm_congr (off16_eq i) _
@[sl_canon] theorem semW1 (i : grid0.Coords) (hh) : (cc0_scratch4.slice (Rect.unit (s := S2x4) (k0_off30 i) S1x1.size hh)).squeeze S_ squeezes_S1x1_S_ = csm (sl i) 1 := csm_congr (off30_eq i) _
@[sl_canon] theorem slotF1 (hh hs) : (bufM1.slice (Rect.unit (s := S2x32x40x256) ![0, 0, 0, 0] S1x32x40x256.size hh) hs).squeeze S32x40x256 squeezes_S1x32x40x256_S32x40x256 = slot1 0 := slot1_congr (by decide) _ _
@[sl_canon] theorem slotN1 (i : grid0.Coords) (hh hs) : (bufM1.slice (Rect.unit (s := S2x32x40x256) (k0_off17 i) S1x32x40x256.size hh) hs).squeeze S32x40x256 squeezes_S1x32x40x256_S32x40x256 = slot1 (nsl i) := slot1_congr (off17_eq i) _ _
@[sl_canon] theorem slotW1 (i : grid0.Coords) (hh hs) : (bufM1.slice (Rect.unit (s := S2x32x40x256) (k0_off31 i) S1x32x40x256.size hh) hs).squeeze S32x40x256 squeezes_S1x32x40x256_S32x40x256 = slot1 (sl i) := slot1_congr (off31_eq i) _ _

@[sl_canon] theorem semF2 (hh) : (cc0_scratch4.slice (Rect.unit (s := S2x4) ![0, 2] S1x1.size hh)).squeeze S_ squeezes_S1x1_S_ = csm 0 2 := csm_congr (by decide) _
@[sl_canon] theorem semN2 (i : grid0.Coords) (hh) : (cc0_scratch4.slice (Rect.unit (s := S2x4) (k0_off20 i) S1x1.size hh)).squeeze S_ squeezes_S1x1_S_ = csm (nsl i) 2 := csm_congr (off20_eq i) _
@[sl_canon] theorem semW2 (i : grid0.Coords) (hh) : (cc0_scratch4.slice (Rect.unit (s := S2x4) (k0_off33 i) S1x1.size hh)).squeeze S_ squeezes_S1x1_S_ = csm (sl i) 2 := csm_congr (off33_eq i) _
@[sl_canon] theorem slotF2 (hh hs) : (bufM2.slice (Rect.unit (s := S2x16x24x256) ![0, 0, 0, 0] S1x16x24x256.size hh) hs).squeeze S16x24x256 squeezes_S1x16x24x256_S16x24x256 = slot2 0 := slot2_congr (by decide) _ _
@[sl_canon] theorem slotN2 (i : grid0.Coords) (hh hs) : (bufM2.slice (Rect.unit (s := S2x16x24x256) (k0_off21 i) S1x16x24x256.size hh) hs).squeeze S16x24x256 squeezes_S1x16x24x256_S16x24x256 = slot2 (nsl i) := slot2_congr (off21_eq i) _ _
@[sl_canon] theorem slotW2 (i : grid0.Coords) (hh hs) : (bufM2.slice (Rect.unit (s := S2x16x24x256) (k0_off34 i) S1x16x24x256.size hh) hs).squeeze S16x24x256 squeezes_S1x16x24x256_S16x24x256 = slot2 (sl i) := slot2_congr (off34_eq i) _ _

@[sl_canon] theorem semF3 (hh) : (cc0_scratch4.slice (Rect.unit (s := S2x4) ![0, 3] S1x1.size hh)).squeeze S_ squeezes_S1x1_S_ = csm 0 3 := csm_congr (by decide) _
@[sl_canon] theorem semN3 (i : grid0.Coords) (hh) : (cc0_scratch4.slice (Rect.unit (s := S2x4) (k0_off24 i) S1x1.size hh)).squeeze S_ squeezes_S1x1_S_ = csm (nsl i) 3 := csm_congr (off24_eq i) _
@[sl_canon] theorem semW3 (i : grid0.Coords) (hh) : (cc0_scratch4.slice (Rect.unit (s := S2x4) (k0_off36 i) S1x1.size hh)).squeeze S_ squeezes_S1x1_S_ = csm (sl i) 3 := csm_congr (off36_eq i) _
@[sl_canon] theorem slotF3 (hh hs) : (bufM3.slice (Rect.unit (s := S2x16x16x256) ![0, 0, 0, 0] S1x16x16x256.size hh) hs).squeeze S16x16x256 squeezes_S1x16x16x256_S16x16x256 = slot3 0 := slot3_congr (by decide) _ _
@[sl_canon] theorem slotN3 (i : grid0.Coords) (hh hs) : (bufM3.slice (Rect.unit (s := S2x16x16x256) (k0_off25 i) S1x16x16x256.size hh) hs).squeeze S16x16x256 squeezes_S1x16x16x256_S16x16x256 = slot3 (nsl i) := slot3_congr (off25_eq i) _ _
@[sl_canon] theorem slotW3 (i : grid0.Coords) (hh hs) : (bufM3.slice (Rect.unit (s := S2x16x16x256) (k0_off37 i) S1x16x16x256.size hh) hs).squeeze S16x16x256 squeezes_S1x16x16x256_S16x16x256 = slot3 (sl i) := slot3_congr (off37_eq i) _ _

end Cert.Kernel2Ideal.Hand

end
-- ==== Proof.Kernel2Ideal.Body.lean ====
/- The kernel's body at one point of the grid, run once for each of its three forms. -/
module

public import proofs.«01_k».proof.Proof.Kernel2Ideal.Names
public import Idealize.ShloMosaic.Lib.Pipeline.Value

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (Flight)

variable {F : FTy → Type} [FloatOps F]

local notation "𝕄" => MT nD τ sig Unit (Elt F) ℕ (Pipeline.UD sig nD τ) ℕ

/-- The share of the features lent to the transfers into slot `s`. -/
def hsh (s : Fin 2) : PosShare TreeShare := if s = 0 then fullShare.left else fullShare.right

section Pieces
variable (c : Dev nD)

abbrev cellP (s : Fin 2) (l : Fin 4) : sProp 𝕄 := semVal ((c : Thread nD τ), SemLoc.dma (csm s l).sem) 0

abbrev FBuf0 : Type := Buf (Elt F) ((featM0).view.loc (c : Thread nD τ))
abbrev slotP0 (s : Fin 2) (f : Buf (Elt F) ((slot0 s).view.loc (c : Thread nD τ))) : sProp 𝕄 :=
  (slot0 s).view.loc (c : Thread nD τ) ↦[(slot0 s).view.set]{fullShare} f
/-- What a transfer of the window at `off` leaves in slot `s`. -/
abbrev landed0 (X : FBuf0 (F := F) c) (s : Fin 2) (off : Fin 4 → Nat) (hh : ∀ a, off a + S1x56x64x256.size a ≤ S2x256x256x256.size a)
    (f : Buf (Elt F) ((slot0 s).view.loc (c : Thread nD τ))) : Buf (Elt F) ((slot0 s).view.loc (c : Thread nD τ)) :=
  (slot0 s).view.writes (Elt F) f [⟨Rect.whole S56x64x256, ReadAs.same.apply ((win0 off hh).view.read (Elt F) X)⟩]
abbrev flightP0 (X : FBuf0 (F := F) c) (s : Fin 2) (off : Fin 4 → Nat) (hh : ∀ a, off a + S1x56x64x256.size a ≤ S2x256x256x256.size a)
    (f : Buf (Elt F) ((slot0 s).view.loc (c : Thread nD τ))) : sProp 𝕄 :=
  iprop(Flight countersEmb (c : Thread nD τ) (SemLoc.dma (csm s 0).sem) () (114688)
      iprop(slotP0 c s (landed0 c X s off hh f) ∗ ((win0 off hh).view.loc (c : Thread nD τ) ↦[(win0 off hh).view.set]{hsh s} X))
    ∗ (featM0.view.loc (c : Thread nD τ) ↦[(Finset.univ : Finset _) \ (win0 off hh).view.set]{hsh s} X))
abbrev homeP0 (X : FBuf0 (F := F) c) (s : Fin 2) : sProp 𝕄 := featM0.view.loc (c : Thread nD τ) ↦{hsh s} X

abbrev FBuf1 : Type := Buf (Elt F) ((featM1).view.loc (c : Thread nD τ))
abbrev slotP1 (s : Fin 2) (f : Buf (Elt F) ((slot1 s).view.loc (c : Thread nD τ))) : sProp 𝕄 :=
  (slot1 s).view.loc (c : Thread nD τ) ↦[(slot1 s).view.set]{fullShare} f
/-- What a transfer of the window at `off` leaves in slot `s`. -/
abbrev landed1 (X : FBuf1 (F := F) c) (s : Fin 2) (off : Fin 4 → Nat) (hh : ∀ a, off a + S1x32x40x256.size a ≤ S2x128x128x256.size a)
    (f : Buf (Elt F) ((slot1 s).view.loc (c : Thread nD τ))) : Buf (Elt F) ((slot1 s).view.loc (c : Thread nD τ)) :=
  (slot1 s).view.writes (Elt F) f [⟨Rect.whole S32x40x256, ReadAs.same.apply ((win1 off hh).view.read (Elt F) X)⟩]
abbrev flightP1 (X : FBuf1 (F := F) c) (s : Fin 2) (off : Fin 4 → Nat) (hh : ∀ a, off a + S1x32x40x256.size a ≤ S2x128x128x256.size a)
    (f : Buf (Elt F) ((slot1 s).view.loc (c : Thread nD τ))) : sProp 𝕄 :=
  iprop(Flight countersEmb (c : Thread nD τ) (SemLoc.dma (csm s 1).sem) () (40960)
      iprop(slotP1 c s (landed1 c X s off hh f) ∗ ((win1 off hh).view.loc (c : Thread nD τ) ↦[(win1 off hh).view.set]{hsh s} X))
    ∗ (featM1.view.loc (c : Thread nD τ) ↦[(Finset.univ : Finset _) \ (win1 off hh).view.set]{hsh s} X))
abbrev homeP1 (X : FBuf1 (F := F) c) (s : Fin 2) : sProp 𝕄 := featM1.view.loc (c : Thread nD τ) ↦{hsh s} X

abbrev FBuf2 : Type := Buf (Elt F) ((featM2).view.loc (c : Thread nD τ))
abbrev slotP2 (s : Fin 2) (f : Buf (Elt F) ((slot2 s).view.loc (c : Thread nD τ))) : sProp 𝕄 :=
  (slot2 s).view.loc (c : Thread nD τ) ↦[(slot2 s).view.set]{fullShare} f
/-- What a transfer of the window at `off` leaves in slot `s`. -/
abbrev landed2 (X : FBuf2 (F := F) c) (s : Fin 2) (off : Fin 4 → Nat) (hh : ∀ a, off a + S1x16x24x256.size a ≤ S2x64x64x256.size a)
    (f : Buf (Elt F) ((slot2 s).view.loc (c : Thread nD τ))) : Buf (Elt F) ((slot2 s).view.loc (c : Thread nD τ)) :=
  (slot2 s).view.writes (Elt F) f [⟨Rect.whole S16x24x256, ReadAs.same.apply ((win2 off hh).view.read (Elt F) X)⟩]
abbrev flightP2 (X : FBuf2 (F := F) c) (s : Fin 2) (off : Fin 4 → Nat) (hh : ∀ a, off a + S1x16x24x256.size a ≤ S2x64x64x256.size a)
    (f : Buf (Elt F) ((slot2 s).view.loc (c : Thread nD τ))) : sProp 𝕄 :=
  iprop(Flight countersEmb (c : Thread nD τ) (SemLoc.dma (csm s 2).sem) () (12288)
      iprop(slotP2 c s (landed2 c X s off hh f) ∗ ((win2 off hh).view.loc (c : Thread nD τ) ↦[(win2 off hh).view.set]{hsh s} X))
    ∗ (featM2.view.loc (c : Thread nD τ) ↦[(Finset.univ : Finset _) \ (win2 off hh).view.set]{hsh s} X))
abbrev homeP2 (X : FBuf2 (F := F) c) (s : Fin 2) : sProp 𝕄 := featM2.view.loc (c : Thread nD τ) ↦{hsh s} X

abbrev FBuf3 : Type := Buf (Elt F) ((featM3).view.loc (c : Thread nD τ))
abbrev slotP3 (s : Fin 2) (f : Buf (Elt F) ((slot3 s).view.loc (c : Thread nD τ))) : sProp 𝕄 :=
  (slot3 s).view.loc (c : Thread nD τ) ↦[(slot3 s).view.set]{fullShare} f
/-- What a transfer of the window at `off` leaves in slot `s`. -/
abbrev landed3 (X : FBuf3 (F := F) c) (s : Fin 2) (off : Fin 4 → Nat) (hh : ∀ a, off a + S1x16x16x256.size a ≤ S2x32x32x256.size a)
    (f : Buf (Elt F) ((slot3 s).view.loc (c : Thread nD τ))) : Buf (Elt F) ((slot3 s).view.loc (c : Thread nD τ)) :=
  (slot3 s).view.writes (Elt F) f [⟨Rect.whole S16x16x256, ReadAs.same.apply ((win3 off hh).view.read (Elt F) X)⟩]
abbrev flightP3 (X : FBuf3 (F := F) c) (s : Fin 2) (off : Fin 4 → Nat) (hh : ∀ a, off a + S1x16x16x256.size a ≤ S2x32x32x256.size a)
    (f : Buf (Elt F) ((slot3 s).view.loc (c : Thread nD τ))) : sProp 𝕄 :=
  iprop(Flight countersEmb (c : Thread nD τ) (SemLoc.dma (csm s 3).sem) () (8192)
      iprop(slotP3 c s (landed3 c X s off hh f) ∗ ((win3 off hh).view.loc (c : Thread nD τ) ↦[(win3 off hh).view.set]{hsh s} X))
    ∗ (featM3.view.loc (c : Thread nD τ) ↦[(Finset.univ : Finset _) \ (win3 off hh).view.set]{hsh s} X))
abbrev homeP3 (X : FBuf3 (F := F) c) (s : Fin 2) : sProp 𝕄 := featM3.view.loc (c : Thread nD τ) ↦{hsh s} X

end Pieces
/-! ## The tables' words -/
section Words
variable {c : Dev nD}
abbrev TBuf5 (c : Dev nD) : Type := Buf (Elt F) ((Memref.whole main_arg4 : Memref sig .tc .smem S512 .i32).view.loc (c : Thread nD τ))
abbrev TBufY (c : Dev nD) : Type := Buf (Elt F) ((Memref.whole main_arg5 : Memref sig .tc .smem S4x512 .i32).view.loc (c : Thread nD τ))
abbrev TBufX (c : Dev nD) : Type := Buf (Elt F) ((Memref.whole main_arg6 : Memref sig .tc .smem S4x512 .i32).view.loc (c : Thread nD τ))
/-- The image of box `n`. -/
def w5 (T5 : TBuf5 (F := F) c) (n : Fin 512) : BitVec 32 := (Memref.whole main_arg4 : Memref sig .tc .smem S512 .i32).view.read (Elt F) T5 (fun a => match a with | ⟨0, _⟩ => n)
/-- The first row of box `n`'s window at level `l`, and its first column. -/
def wY (TY : TBufY (F := F) c) (l : Fin 4) (n : Fin 512) : BitVec 32 := (Memref.whole main_arg5 : Memref sig .tc .smem S4x512 .i32).view.read (Elt F) TY (fun a => match a with | ⟨0, _⟩ => l | ⟨1, _⟩ => n)
def wX (TX : TBufX (F := F) c) (l : Fin 4) (n : Fin 512) : BitVec 32 := (Memref.whole main_arg6 : Memref sig .tc .smem S4x512 .i32).view.read (Elt F) TX (fun a => match a with | ⟨0, _⟩ => l | ⟨1, _⟩ => n)

theorem rd5 (T5 : TBuf5 (F := F) c) {off : Fin 1 → Nat} (n : Fin 512) (e : off = ![n.val]) (hh x) :
    View.readAt (Elt F) (Memref.whole main_arg4 : Memref sig .tc .smem S512 .i32).view (Rect.unit (s := S512) off S1.size hh).toLoadRect T5 x = w5 T5 n := by
  subst e
  unfold w5
  refine congrArg (View.read (Elt F) (Memref.whole main_arg4 : Memref sig .tc .smem S512 .i32).view T5) (funext fun a => Fin.ext ?_)
  have hx := (x a).isLt
  revert hx
  match a with
  | ⟨0, _⟩ => intro hx; have : (x 0).val = 0 := by simpa using hx
              show n.val + 1 * (x 0).val = n.val; omega
theorem rdY (TY : TBufY (F := F) c) {off : Fin 2 → Nat} (l : Fin 4) (n : Fin 512) (e : off = ![l.val, n.val]) (hh x) :
    View.readAt (Elt F) (Memref.whole main_arg5 : Memref sig .tc .smem S4x512 .i32).view (Rect.unit (s := S4x512) off S1x1.size hh).toLoadRect TY x = wY TY l n := by
  subst e
  unfold wY
  refine congrArg (View.read (Elt F) (Memref.whole main_arg5 : Memref sig .tc .smem S4x512 .i32).view TY) (funext fun a => Fin.ext ?_)
  have hx := (x a).isLt
  revert hx
  match a with
  | ⟨0, _⟩ => intro hx; have : (x 0).val = 0 := by simpa using hx
              show l.val + 1 * (x 0).val = l.val; omega
  | ⟨1, _⟩ => intro hx; have : (x 1).val = 0 := by simpa using hx
              show n.val + 1 * (x 1).val = n.val; omega
theorem rdX (TX : TBufX (F := F) c) {off : Fin 2 → Nat} (l : Fin 4) (n : Fin 512) (e : off = ![l.val, n.val]) (hh x) :
    View.readAt (Elt F) (Memref.whole main_arg6 : Memref sig .tc .smem S4x512 .i32).view (Rect.unit (s := S4x512) off S1x1.size hh).toLoadRect TX x = wX TX l n := by
  subst e
  unfold wX
  refine congrArg (View.read (Elt F) (Memref.whole main_arg6 : Memref sig .tc .smem S4x512 .i32).view TX) (funext fun a => Fin.ext ?_)
  have hx := (x a).isLt
  revert hx
  match a with
  | ⟨0, _⟩ => intro hx; have : (x 0).val = 0 := by simpa using hx
              show l.val + 1 * (x 0).val = l.val; omega
  | ⟨1, _⟩ => intro hx; have : (x 1).val = 0 := by simpa using hx
              show n.val + 1 * (x 1).val = n.val; omega

/-- How far a window's first row and column can go at each level, that the window stay inside the features. -/
def maxY (l : Fin 4) : Nat := ![200, 96, 48, 16] l
def maxX (l : Fin 4) : Nat := ![192, 88, 40, 16] l
/-- What the tables must satisfy: every window lies inside its features, its first column a multiple of eight. -/
def TabOk (T5 : TBuf5 (F := F) c) (TY : TBufY (F := F) c) (TX : TBufX (F := F) c) : Prop :=
  (∀ n, (w5 T5 n).toNat < 2) ∧ (∀ l n, (wY TY l n).toNat ≤ maxY l) ∧ (∀ l n, (wX TX l n).toNat ≤ maxX l ∧ 8 ∣ (wX TX l n).toNat)
/-- Where box `n`'s window at level `l` begins. -/
def woff (T5 : TBuf5 (F := F) c) (TY : TBufY (F := F) c) (TX : TBufX (F := F) c) (l : Fin 4) (n : Fin 512) : Fin 4 → Nat :=
  ![(w5 T5 n).toNat, (wY TY l n).toNat, (wX TX l n).toNat, 0]
end Words
section Inb
variable {c : Dev nD} {T5 : TBuf5 (F := F) c} {TY : TBufY (F := F) c} {TX : TBufX (F := F) c}

theorem woff_inb0 (ht : TabOk T5 TY TX) (n : Fin 512) : ∀ a, woff T5 TY TX 0 n a + S1x56x64x256.size a ≤ S2x256x256x256.size a := by
  have h1 := ht.1 n
  have h2 : (wY TY 0 n).toNat ≤ 200 := ht.2.1 0 n
  have h3 : (wX TX 0 n).toNat ≤ 192 := (ht.2.2 0 n).1
  intro a
  match a with
  | ⟨0, _⟩ => show (w5 T5 n).toNat + 1 ≤ 2; omega
  | ⟨1, _⟩ => show (wY TY 0 n).toNat + 56 ≤ 256; omega
  | ⟨2, _⟩ => show (wX TX 0 n).toNat + 64 ≤ 256; omega
  | ⟨3, _⟩ => show 0 + 256 ≤ 256; omega
/-- Box `n`'s window of the features at level 0. -/
def wv0 (ht : TabOk T5 TY TX) (X : FBuf0 (F := F) c) (n : Fin 512) : S1x56x64x256.Idx → Elt F .f32 :=
  View.readAt (Elt F) featM0.view (Rect.unit (s := S2x256x256x256) (woff T5 TY TX 0 n) S1x56x64x256.size (woff_inb0 ht n)).toLoadRect X
theorem wvOf0 (ht : TabOk T5 TY TX) (X : FBuf0 (F := F) c) (n : Fin 512) {o : Fin 4 → Nat} (hh) (e : o = woff T5 TY TX 0 n) :
    View.readAt (Elt F) featM0.view (Rect.unit (s := S2x256x256x256) o S1x56x64x256.size hh).toLoadRect X = wv0 ht X n := by subst e; rfl
theorem chkF0 (ht : TabOk T5 TY TX) (n : Fin 512) (i : grid0.Coords) {a b d : BitVec 32} (ha : a = w5 T5 n) (hb : b = wY TY 0 n) (hd : d = wX TX 0 n) :
    k0_chk1 i a b d := by
  subst ha; subst hb; subst hd
  exact ⟨fun _ => (ht.2.2 0 n).2, fun _ => woff_inb0 ht n⟩
theorem chkN0 (ht : TabOk T5 TY TX) (n : Fin 512) (i : grid0.Coords) {a b d : BitVec 32} (ha : a = w5 T5 n) (hb : b = wY TY 0 n) (hd : d = wX TX 0 n) :
    k0_chk5 i a b d := by
  subst ha; subst hb; subst hd
  exact ⟨fun _ => (ht.2.2 0 n).2, fun _ => woff_inb0 ht n⟩
/-- A load of a slot a window has landed in reads the window. -/
theorem slotRead0 {off : Fin 4 → Nat} {s : Fin 2} (e : off = slotOff s) (hb o hh) (g) (X : FBuf0 (F := F) c) :
    View.readAt (Elt F) bufM0.view (Rect.unit (s := S2x56x64x256) off S1x56x64x256.size hb).toLoadRect
      ((slot0 s).view.writes (Elt F) g [⟨Rect.whole S56x64x256, ReadAs.same.apply ((win0 o hh).view.read (Elt F) X)⟩])
      = View.readAt (Elt F) featM0.view (Rect.unit (s := S2x256x256x256) o S1x56x64x256.size hh).toLoadRect X := by
  subst e
  funext x
  obtain ⟨y, rfl⟩ := (Shape.reshapeEquiv squeezes_S1x56x64x256_S56x64x256.numel_eq).surjective x
  exact congrFun (View.read_writes_whole (slot0 s).view g (ReadAs.same.apply ((win0 o hh).view.read (Elt F) X))) y

theorem woff_inb1 (ht : TabOk T5 TY TX) (n : Fin 512) : ∀ a, woff T5 TY TX 1 n a + S1x32x40x256.size a ≤ S2x128x128x256.size a := by
  have h1 := ht.1 n
  have h2 : (wY TY 1 n).toNat ≤ 96 := ht.2.1 1 n
  have h3 : (wX TX 1 n).toNat ≤ 88 := (ht.2.2 1 n).1
  intro a
  match a with
  | ⟨0, _⟩ => show (w5 T5 n).toNat + 1 ≤ 2; omega
  | ⟨1, _⟩ => show (wY TY 1 n).toNat + 32 ≤ 128; omega
  | ⟨2, _⟩ => show (wX TX 1 n).toNat + 40 ≤ 128; omega
  | ⟨3, _⟩ => show 0 + 256 ≤ 256; omega
/-- Box `n`'s window of the features at level 1. -/
def wv1 (ht : TabOk T5 TY TX) (X : FBuf1 (F := F) c) (n : Fin 512) : S1x32x40x256.Idx → Elt F .f32 :=
  View.readAt (Elt F) featM1.view (Rect.unit (s := S2x128x128x256) (woff T5 TY TX 1 n) S1x32x40x256.size (woff_inb1 ht n)).toLoadRect X
theorem wvOf1 (ht : TabOk T5 TY TX) (X : FBuf1 (F := F) c) (n : Fin 512) {o : Fin 4 → Nat} (hh) (e : o = woff T5 TY TX 1 n) :
    View.readAt (Elt F) featM1.view (Rect.unit (s := S2x128x128x256) o S1x32x40x256.size hh).toLoadRect X = wv1 ht X n := by subst e; rfl
theorem chkF1 (ht : TabOk T5 TY TX) (n : Fin 512) (i : grid0.Coords) {a b d : BitVec 32} (ha : a = w5 T5 n) (hb : b = wY TY 1 n) (hd : d = wX TX 1 n) :
    k0_chk2 i a b d := by
  subst ha; subst hb; subst hd
  exact ⟨fun _ => (ht.2.2 1 n).2, fun _ => woff_inb1 ht n⟩
theorem chkN1 (ht : TabOk T5 TY TX) (n : Fin 512) (i : grid0.Coords) {a b d : BitVec 32} (ha : a = w5 T5 n) (hb : b = wY TY 1 n) (hd : d = wX TX 1 n) :
    k0_chk6 i a b d := by
  subst ha; subst hb; subst hd
  exact ⟨fun _ => (ht.2.2 1 n).2, fun _ => woff_inb1 ht n⟩
/-- A load of a slot a window has landed in reads the window. -/
theorem slotRead1 {off : Fin 4 → Nat} {s : Fin 2} (e : off = slotOff s) (hb o hh) (g) (X : FBuf1 (F := F) c) :
    View.readAt (Elt F) bufM1.view (Rect.unit (s := S2x32x40x256) off S1x32x40x256.size hb).toLoadRect
      ((slot1 s).view.writes (Elt F) g [⟨Rect.whole S32x40x256, ReadAs.same.apply ((win1 o hh).view.read (Elt F) X)⟩])
      = View.readAt (Elt F) featM1.view (Rect.unit (s := S2x128x128x256) o S1x32x40x256.size hh).toLoadRect X := by
  subst e
  funext x
  obtain ⟨y, rfl⟩ := (Shape.reshapeEquiv squeezes_S1x32x40x256_S32x40x256.numel_eq).surjective x
  exact congrFun (View.read_writes_whole (slot1 s).view g (ReadAs.same.apply ((win1 o hh).view.read (Elt F) X))) y

theorem woff_inb2 (ht : TabOk T5 TY TX) (n : Fin 512) : ∀ a, woff T5 TY TX 2 n a + S1x16x24x256.size a ≤ S2x64x64x256.size a := by
  have h1 := ht.1 n
  have h2 : (wY TY 2 n).toNat ≤ 48 := ht.2.1 2 n
  have h3 : (wX TX 2 n).toNat ≤ 40 := (ht.2.2 2 n).1
  intro a
  match a with
  | ⟨0, _⟩ => show (w5 T5 n).toNat + 1 ≤ 2; omega
  | ⟨1, _⟩ => show (wY TY 2 n).toNat + 16 ≤ 64; omega
  | ⟨2, _⟩ => show (wX TX 2 n).toNat + 24 ≤ 64; omega
  | ⟨3, _⟩ => show 0 + 256 ≤ 256; omega
/-- Box `n`'s window of the features at level 2. -/
def wv2 (ht : TabOk T5 TY TX) (X : FBuf2 (F := F) c) (n : Fin 512) : S1x16x24x256.Idx → Elt F .f32 :=
  View.readAt (Elt F) featM2.view (Rect.unit (s := S2x64x64x256) (woff T5 TY TX 2 n) S1x16x24x256.size (woff_inb2 ht n)).toLoadRect X
theorem wvOf2 (ht : TabOk T5 TY TX) (X : FBuf2 (F := F) c) (n : Fin 512) {o : Fin 4 → Nat} (hh) (e : o = woff T5 TY TX 2 n) :
    View.readAt (Elt F) featM2.view (Rect.unit (s := S2x64x64x256) o S1x16x24x256.size hh).toLoadRect X = wv2 ht X n := by subst e; rfl
theorem chkF2 (ht : TabOk T5 TY TX) (n : Fin 512) (i : grid0.Coords) {a b d : BitVec 32} (ha : a = w5 T5 n) (hb : b = wY TY 2 n) (hd : d = wX TX 2 n) :
    k0_chk3 i a b d := by
  subst ha; subst hb; subst hd
  exact ⟨fun _ => (ht.2.2 2 n).2, fun _ => woff_inb2 ht n⟩
theorem chkN2 (ht : TabOk T5 TY TX) (n : Fin 512) (i : grid0.Coords) {a b d : BitVec 32} (ha : a = w5 T5 n) (hb : b = wY TY 2 n) (hd : d = wX TX 2 n) :
    k0_chk7 i a b d := by
  subst ha; subst hb; subst hd
  exact ⟨fun _ => (ht.2.2 2 n).2, fun _ => woff_inb2 ht n⟩
/-- A load of a slot a window has landed in reads the window. -/
theorem slotRead2 {off : Fin 4 → Nat} {s : Fin 2} (e : off = slotOff s) (hb o hh) (g) (X : FBuf2 (F := F) c) :
    View.readAt (Elt F) bufM2.view (Rect.unit (s := S2x16x24x256) off S1x16x24x256.size hb).toLoadRect
      ((slot2 s).view.writes (Elt F) g [⟨Rect.whole S16x24x256, ReadAs.same.apply ((win2 o hh).view.read (Elt F) X)⟩])
      = View.readAt (Elt F) featM2.view (Rect.unit (s := S2x64x64x256) o S1x16x24x256.size hh).toLoadRect X := by
  subst e
  funext x
  obtain ⟨y, rfl⟩ := (Shape.reshapeEquiv squeezes_S1x16x24x256_S16x24x256.numel_eq).surjective x
  exact congrFun (View.read_writes_whole (slot2 s).view g (ReadAs.same.apply ((win2 o hh).view.read (Elt F) X))) y

theorem woff_inb3 (ht : TabOk T5 TY TX) (n : Fin 512) : ∀ a, woff T5 TY TX 3 n a + S1x16x16x256.size a ≤ S2x32x32x256.size a := by
  have h1 := ht.1 n
  have h2 : (wY TY 3 n).toNat ≤ 16 := ht.2.1 3 n
  have h3 : (wX TX 3 n).toNat ≤ 16 := (ht.2.2 3 n).1
  intro a
  match a with
  | ⟨0, _⟩ => show (w5 T5 n).toNat + 1 ≤ 2; omega
  | ⟨1, _⟩ => show (wY TY 3 n).toNat + 16 ≤ 32; omega
  | ⟨2, _⟩ => show (wX TX 3 n).toNat + 16 ≤ 32; omega
  | ⟨3, _⟩ => show 0 + 256 ≤ 256; omega
/-- Box `n`'s window of the features at level 3. -/
def wv3 (ht : TabOk T5 TY TX) (X : FBuf3 (F := F) c) (n : Fin 512) : S1x16x16x256.Idx → Elt F .f32 :=
  View.readAt (Elt F) featM3.view (Rect.unit (s := S2x32x32x256) (woff T5 TY TX 3 n) S1x16x16x256.size (woff_inb3 ht n)).toLoadRect X
theorem wvOf3 (ht : TabOk T5 TY TX) (X : FBuf3 (F := F) c) (n : Fin 512) {o : Fin 4 → Nat} (hh) (e : o = woff T5 TY TX 3 n) :
    View.readAt (Elt F) featM3.view (Rect.unit (s := S2x32x32x256) o S1x16x16x256.size hh).toLoadRect X = wv3 ht X n := by subst e; rfl
theorem chkF3 (ht : TabOk T5 TY TX) (n : Fin 512) (i : grid0.Coords) {a b d : BitVec 32} (ha : a = w5 T5 n) (hb : b = wY TY 3 n) (hd : d = wX TX 3 n) :
    k0_chk4 i a b d := by
  subst ha; subst hb; subst hd
  exact ⟨fun _ => (ht.2.2 3 n).2, fun _ => woff_inb3 ht n⟩
theorem chkN3 (ht : TabOk T5 TY TX) (n : Fin 512) (i : grid0.Coords) {a b d : BitVec 32} (ha : a = w5 T5 n) (hb : b = wY TY 3 n) (hd : d = wX TX 3 n) :
    k0_chk8 i a b d := by
  subst ha; subst hb; subst hd
  exact ⟨fun _ => (ht.2.2 3 n).2, fun _ => woff_inb3 ht n⟩
/-- A load of a slot a window has landed in reads the window. -/
theorem slotRead3 {off : Fin 4 → Nat} {s : Fin 2} (e : off = slotOff s) (hb o hh) (g) (X : FBuf3 (F := F) c) :
    View.readAt (Elt F) bufM3.view (Rect.unit (s := S2x16x16x256) off S1x16x16x256.size hb).toLoadRect
      ((slot3 s).view.writes (Elt F) g [⟨Rect.whole S16x16x256, ReadAs.same.apply ((win3 o hh).view.read (Elt F) X)⟩])
      = View.readAt (Elt F) featM3.view (Rect.unit (s := S2x32x32x256) o S1x16x16x256.size hh).toLoadRect X := by
  subst e
  funext x
  obtain ⟨y, rfl⟩ := (Shape.reshapeEquiv squeezes_S1x16x16x256_S16x16x256.numel_eq).surjective x
  exact congrFun (View.read_writes_whole (slot3 s).view g (ReadAs.same.apply ((win3 o hh).view.read (Elt F) X))) y

end Inb

section State
variable (c : Dev nD) (T5 : TBuf5 (F := F) c) (TY : TBufY (F := F) c) (TX : TBufX (F := F) c)
variable (X0 : FBuf0 (F := F) c) (X1 : FBuf1 (F := F) c) (X2 : FBuf2 (F := F) c) (X3 : FBuf3 (F := F) c)
variable (q : PosShare TreeShare)
/-- The tables, shared with the launch. -/
def tabsP : sProp 𝕄 := iprop(((Memref.whole main_arg4 : Memref sig .tc .smem S512 .i32).view.loc (c : Thread nD τ) ↦{q} T5)
  ∗ ((Memref.whole main_arg5 : Memref sig .tc .smem S4x512 .i32).view.loc (c : Thread nD τ) ↦{q} TY)
  ∗ ((Memref.whole main_arg6 : Memref sig .tc .smem S4x512 .i32).view.loc (c : Thread nD τ) ↦{q} TX))
/-- Slot `s` idle: its four semaphores at zero, its four buffers and its share of the features at home. -/
def freeP (s : Fin 2) : sProp 𝕄 :=
  iprop(cellP c s 0 ∗ (∃ f, slotP0 c s f) ∗ homeP0 c X0 s ∗ cellP c s 1 ∗ (∃ f, slotP1 c s f) ∗ homeP1 c X1 s ∗ cellP c s 2 ∗ (∃ f, slotP2 c s f) ∗ homeP2 c X2 s ∗ cellP c s 3 ∗ (∃ f, slotP3 c s f) ∗ homeP3 c X3 s)
/-- Slot `s` receiving the four windows of box `n`. -/
def busyP (s : Fin 2) (n : Fin 512) : sProp 𝕄 :=
  iprop((∃ o hh f, ⌜o = woff T5 TY TX 0 n⌝ ∗ flightP0 c X0 s o hh f) ∗ (∃ o hh f, ⌜o = woff T5 TY TX 1 n⌝ ∗ flightP1 c X1 s o hh f) ∗ (∃ o hh f, ⌜o = woff T5 TY TX 2 n⌝ ∗ flightP2 c X2 s o hh f) ∗ (∃ o hh f, ⌜o = woff T5 TY TX 3 n⌝ ∗ flightP3 c X3 s o hh f))
end State

theorem rdW {sp : Space} {S : Shape} (v : View sig .tc sp S .f32) (r : Rect S)
    {f : v.ty.Contents (Elt F)} {d : S.Idx → Elt F .f32} (hf : v.read (Elt F) f = d) :
    View.readAt (Elt F) v r.toLoadRect f = View.ld d r := by
  subst hf; rfl
/-- What one point of the grid stores, from its blocks and its four windows. -/
def outV (d9 : S1x56x49.Idx → Elt F .f32) (d10 : S1x64x49.Idx → Elt F .f32) (d11 : S1x32x49.Idx → Elt F .f32) (d12 : S1x40x49.Idx → Elt F .f32) (d13 : S1x16x49.Idx → Elt F .f32) (d14 : S1x24x49.Idx → Elt F .f32) (d15 : S1x16x49.Idx → Elt F .f32) (d16 : S1x16x49.Idx → Elt F .f32) (d17 : S4x256x256.Idx → Elt F .f32) (d18 : S1x256.Idx → Elt F .f32)
    (v0 : S1x56x64x256.Idx → Elt F .f32) (v1 : S1x32x40x256.Idx → Elt F .f32) (v2 : S1x16x24x256.Idx → Elt F .f32) (v3 : S1x16x16x256.Idx → Elt F .f32) : S1x49x256.Idx → Elt F .f32 :=
  k0_pay1 (F := F) (k0_pay4 (k0_pay3 (k0_pay2 d9 d10) v0 (View.ld d17 (Rect.unit ![0, 0, 0] S1x256x256.size inb_S4x256x256_S1x256x256_0_0_0)) d11 d12 v1 (View.ld d17 (Rect.unit ![1, 0, 0] S1x256x256.size inb_S4x256x256_S1x256x256_1_0_0)))
    d13 d14 v2 (View.ld d17 (Rect.unit ![2, 0, 0] S1x256x256.size inb_S4x256x256_S1x256x256_2_0_0))) d15 d16 v3 (View.ld d17 (Rect.unit ![3, 0, 0] S1x256x256.size inb_S4x256x256_S1x256x256_3_0_0)) d18

theorem outV_of {x9 d9 : S1x56x49.Idx → Elt F .f32} {x10 d10 : S1x64x49.Idx → Elt F .f32} {x11 d11 : S1x32x49.Idx → Elt F .f32} {x12 d12 : S1x40x49.Idx → Elt F .f32}
    {x13 d13 : S1x16x49.Idx → Elt F .f32} {x14 d14 : S1x24x49.Idx → Elt F .f32} {x15 d15 : S1x16x49.Idx → Elt F .f32} {x16 d16 : S1x16x49.Idx → Elt F .f32}
    {y0 y1 y2 y3 : S1x256x256.Idx → Elt F .f32} {d17 : S4x256x256.Idx → Elt F .f32} {x18 d18 : S1x256.Idx → Elt F .f32}
    {u0 v0 : S1x56x64x256.Idx → Elt F .f32} {u1 v1 : S1x32x40x256.Idx → Elt F .f32} {u2 v2 : S1x16x24x256.Idx → Elt F .f32} {u3 v3 : S1x16x16x256.Idx → Elt F .f32}
    (h9 : x9 = d9) (h10 : x10 = d10) (h11 : x11 = d11) (h12 : x12 = d12) (h13 : x13 = d13) (h14 : x14 = d14) (h15 : x15 = d15) (h16 : x16 = d16) (h18 : x18 = d18)
    (k0 : y0 = View.ld d17 (Rect.unit ![0, 0, 0] S1x256x256.size inb_S4x256x256_S1x256x256_0_0_0)) (k1 : y1 = View.ld d17 (Rect.unit ![1, 0, 0] S1x256x256.size inb_S4x256x256_S1x256x256_1_0_0))
    (k2 : y2 = View.ld d17 (Rect.unit ![2, 0, 0] S1x256x256.size inb_S4x256x256_S1x256x256_2_0_0)) (k3 : y3 = View.ld d17 (Rect.unit ![3, 0, 0] S1x256x256.size inb_S4x256x256_S1x256x256_3_0_0))
    (e0 : u0 = v0) (e1 : u1 = v1) (e2 : u2 = v2) (e3 : u3 = v3) :
    k0_pay1 (F := F) (k0_pay4 (k0_pay3 (k0_pay2 x9 x10) u0 y0 x11 x12 u1 y1) x13 x14 u2 y2) x15 x16 u3 y3 x18
      = outV d9 d10 d11 d12 d13 d14 d15 d16 d17 d18 v0 v1 v2 v3 := by
  subst h9 h10 h11 h12 h13 h14 h15 h16 h18 k0 k1 k2 k3 e0 e1 e2 e3; rfl

/-- A load of a whole block reads what the block holds. -/
theorem rdArg {sp : Space} {S : Shape} (v : View sig .tc sp S .f32) {off : Fin S.rank → Nat} (h : off = fun _ => 0) (inb : ∀ a, off a + S.size a ≤ S.size a)
    {f : v.ty.Contents (Elt F)} {d : S.Idx → Elt F .f32} (hf : v.read (Elt F) f = d) :
    View.readAt (Elt F) v (Rect.unit off S.size inb).toLoadRect f = d := by
  subst hf; exact View.ld_unit_zero h inb _

theorem hz3 : (![0, 0, 0] : Fin 3 → Nat) = fun _ => 0 := by decide
theorem hz2 : (![0, 0] : Fin 2 → Nat) = fun _ => 0 := by decide

theorem read_stored (v : View sig .tc .vmem S1x49x256 .f32) (f : v.ty.Contents (Elt F)) (w : S1x49x256.Idx → Elt F .f32) (hh) :
    v.read (Elt F) (v.writes (Elt F) f [⟨Rect.unit ![0, 0, 0] S1x49x256.size hh, w⟩]) = w := by
  rw [View.read_writes_eq_canon _ _ _ (fun y => ⟨_, List.mem_singleton.mpr rfl, by
    rw [Rect.mem_set_unit]; intro a; have := (y a).isLt
    match a with
    | ⟨0, _⟩ => exact ⟨Nat.zero_le _, by simpa using this⟩
    | ⟨1, _⟩ => exact ⟨Nat.zero_le _, by simpa using this⟩
    | ⟨2, _⟩ => exact ⟨Nat.zero_le _, by simpa using this⟩⟩), View.canon_unit_zero hz3]

/-- The box of a point of the grid, and the next one. -/
def bx (i : grid0.Coords) : Fin 512 := ⟨256 * (i 0).val + (i 1).val, by
  have a : (i 0).val < 2 := (i 0).isLt; have b : (i 1).val < 256 := (i 1).isLt; omega⟩
def nbx (i : grid0.Coords) (h : k0_cond2 i = 1#1) : Fin 512 := ⟨256 * (i 0).val + (i 1).val + 1, by
  have h' := (cond2_iff i).1 h; have a : (i 0).val < 2 := (i 0).isLt; omega⟩

section Run
variable (c : Dev nD) (i : grid0.Coords)
  (arg9 : Memref sig .tc .vmem S1x56x49 .f32) (harg9 : arg9.IsWhole)
  (arg10 : Memref sig .tc .vmem S1x64x49 .f32) (harg10 : arg10.IsWhole)
  (arg11 : Memref sig .tc .vmem S1x32x49 .f32) (harg11 : arg11.IsWhole)
  (arg12 : Memref sig .tc .vmem S1x40x49 .f32) (harg12 : arg12.IsWhole)
  (arg13 : Memref sig .tc .vmem S1x16x49 .f32) (harg13 : arg13.IsWhole)
  (arg14 : Memref sig .tc .vmem S1x24x49 .f32) (harg14 : arg14.IsWhole)
  (arg15 : Memref sig .tc .vmem S1x16x49 .f32) (harg15 : arg15.IsWhole)
  (arg16 : Memref sig .tc .vmem S1x16x49 .f32) (harg16 : arg16.IsWhole)
  (arg17 : Memref sig .tc .vmem S4x256x256 .f32) (harg17 : arg17.IsWhole)
  (arg18 : Memref sig .tc .vmem S1x256 .f32) (harg18 : arg18.IsWhole)
  (arg19 : Memref sig .tc .vmem S1x49x256 .f32) (harg19 : arg19.IsWhole)

abbrev bodyG : Prog (TpuEff nD τ sig (Elt F) Λ₀ .tc) PUnit :=
  cc0_pyramid_roialign i (Memref.whole main_arg4) (Memref.isWhole_whole _) (Memref.whole main_arg5) (Memref.isWhole_whole _) (Memref.whole main_arg6) (Memref.isWhole_whole _)
    featM0 (Memref.isWhole_whole _) featM1 (Memref.isWhole_whole _) featM2 (Memref.isWhole_whole _) featM3 (Memref.isWhole_whole _)
    arg9 harg9 arg10 harg10 arg11 harg11 arg12 harg12 arg13 harg13 arg14 harg14 arg15 harg15 arg16 harg16 arg17 harg17 arg18 harg18 arg19 harg19
    bufM0 (Memref.isWhole_whole _) bufM1 (Memref.isWhole_whole _) bufM2 (Memref.isWhole_whole _) bufM3 (Memref.isWhole_whole _) cc0_scratch4

variable (q : PosShare TreeShare) {T5 : TBuf5 (F := F) c} {TY : TBufY (F := F) c} {TX : TBufX (F := F) c} (ht : TabOk T5 TY TX)
variable (X0 : FBuf0 (F := F) c) (X1 : FBuf1 (F := F) c) (X2 : FBuf2 (F := F) c) (X3 : FBuf3 (F := F) c)
variable (d9 : S1x56x49.Idx → Elt F .f32) (d10 : S1x64x49.Idx → Elt F .f32) (d11 : S1x32x49.Idx → Elt F .f32) (d12 : S1x40x49.Idx → Elt F .f32) (d13 : S1x16x49.Idx → Elt F .f32) (d14 : S1x24x49.Idx → Elt F .f32) (d15 : S1x16x49.Idx → Elt F .f32) (d16 : S1x16x49.Idx → Elt F .f32) (d17 : S4x256x256.Idx → Elt F .f32) (d18 : S1x256.Idx → Elt F .f32)

theorem congr4 {a a' b b' d d' : BitVec 32} (ha : a = a') (hb : b = b') (hd : d = d') :
    (![a.toNat, b.toNat, d.toNat, 0] : Fin 4 → Nat) = ![a'.toNat, b'.toNat, d'.toNat, 0] := by subst ha; subst hb; subst hd; rfl

theorem o5F (i : grid0.Coords) (h : k0_cond1 i = 1#1) : k0_off1 i = ![(bx i).val] := by
  rw [k0_off1_eq]; rfl
theorem o2 (i : grid0.Coords) (h : k0_cond1 i = 1#1) : k0_off2 i = ![(0 : Fin 4).val, (bx i).val] := by
  rw [k0_off2_eq]; rfl
theorem o4 (i : grid0.Coords) (h : k0_cond1 i = 1#1) : k0_off4 i = ![(1 : Fin 4).val, (bx i).val] := by
  rw [k0_off4_eq]; rfl
theorem o6 (i : grid0.Coords) (h : k0_cond1 i = 1#1) : k0_off6 i = ![(2 : Fin 4).val, (bx i).val] := by
  rw [k0_off6_eq]; rfl
theorem o8 (i : grid0.Coords) (h : k0_cond1 i = 1#1) : k0_off8 i = ![(3 : Fin 4).val, (bx i).val] := by
  rw [k0_off8_eq]; rfl
theorem o5N (i : grid0.Coords) (h : k0_cond2 i = 1#1) : k0_off10 i = ![(nbx i h).val] := by
  rw [k0_off10_eq]; rfl
theorem o11 (i : grid0.Coords) (h : k0_cond2 i = 1#1) : k0_off11 i = ![(0 : Fin 4).val, (nbx i h).val] := by
  rw [k0_off11_eq]; rfl
theorem o15 (i : grid0.Coords) (h : k0_cond2 i = 1#1) : k0_off15 i = ![(1 : Fin 4).val, (nbx i h).val] := by
  rw [k0_off15_eq]; rfl
theorem o19 (i : grid0.Coords) (h : k0_cond2 i = 1#1) : k0_off19 i = ![(2 : Fin 4).val, (nbx i h).val] := by
  rw [k0_off19_eq]; rfl
theorem o23 (i : grid0.Coords) (h : k0_cond2 i = 1#1) : k0_off23 i = ![(3 : Fin 4).val, (nbx i h).val] := by
  rw [k0_off23_eq]; rfl

set_option maxHeartbeats 4000000 in
theorem runM (h1 : ¬ (k0_cond1 i = 1#1)) (h2 : k0_cond2 i = 1#1)
  (W : Waits sig Unit) (K : PUnit → sProp 𝕄) :
  iprop(owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18
    ∗ (∃ d, owns (c : Thread nD τ) arg19 fullShare d) ∗ tabsP c T5 TY TX q
    ∗ busyP c T5 TY TX X0 X1 X2 X3 (sl i) (bx i) ∗ freeP c X0 X1 X2 X3 (nsl i) ∗ owes (c : Thread nD τ) 0 W
    ∗ (iprop(owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18
        ∗ owns (c : Thread nD τ) arg19 fullShare (outV d9 d10 d11 d12 d13 d14 d15 d16 d17 d18 (wv0 ht X0 (bx i)) (wv1 ht X1 (bx i)) (wv2 ht X2 (bx i)) (wv3 ht X3 (bx i))) ∗ tabsP c T5 TY TX q
        ∗ freeP c X0 X1 X2 X3 (sl i) ∗ busyP c T5 TY TX X0 X1 X2 X3 (nsl i) (nbx i h2) ∗ (∃ W', owes (c : Thread nD τ) 0 W')) -∗ K ⟨⟩))
   ⊢ wp frame (wpE (defs₀ (F := F)) Variants.none c none) Set.univ (bodyG (F := F) i arg9 harg9 arg10 harg10 arg11 harg11 arg12 harg12 arg13 harg13 arg14 harg14 arg15 harg15 arg16 harg16 arg17 harg17 arg18 harg18 arg19 harg19) K := by
  have hc5 := chkN0 ht (nbx i h2) i
    (rd5 T5 (off := k0_off10 i) (nbx i h2) (o5N i h2) (k0_off10_inb i h2) (Shape.Idx.first (show 0 < S1.numel by decide)))
    (rdY TY (off := k0_off11 i) 0 (nbx i h2) (o11 i h2) (k0_off11_inb i h2) (Shape.Idx.first (show 0 < S1x1.numel by decide)))
    (rdX TX (off := k0_off11 i) 0 (nbx i h2) (o11 i h2) (k0_off11_inb i h2) (Shape.Idx.first (show 0 < S1x1.numel by decide)))
  have hc6 := chkN1 ht (nbx i h2) i
    (rd5 T5 (off := k0_off10 i) (nbx i h2) (o5N i h2) (k0_off10_inb i h2) (Shape.Idx.first (show 0 < S1.numel by decide)))
    (rdY TY (off := k0_off15 i) 1 (nbx i h2) (o15 i h2) (k0_off15_inb i h2) (Shape.Idx.first (show 0 < S1x1.numel by decide)))
    (rdX TX (off := k0_off15 i) 1 (nbx i h2) (o15 i h2) (k0_off15_inb i h2) (Shape.Idx.first (show 0 < S1x1.numel by decide)))
  have hc7 := chkN2 ht (nbx i h2) i
    (rd5 T5 (off := k0_off10 i) (nbx i h2) (o5N i h2) (k0_off10_inb i h2) (Shape.Idx.first (show 0 < S1.numel by decide)))
    (rdY TY (off := k0_off19 i) 2 (nbx i h2) (o19 i h2) (k0_off19_inb i h2) (Shape.Idx.first (show 0 < S1x1.numel by decide)))
    (rdX TX (off := k0_off19 i) 2 (nbx i h2) (o19 i h2) (k0_off19_inb i h2) (Shape.Idx.first (show 0 < S1x1.numel by decide)))
  have hc8 := chkN3 ht (nbx i h2) i
    (rd5 T5 (off := k0_off10 i) (nbx i h2) (o5N i h2) (k0_off10_inb i h2) (Shape.Idx.first (show 0 < S1.numel by decide)))
    (rdY TY (off := k0_off23 i) 3 (nbx i h2) (o23 i h2) (k0_off23_inb i h2) (Shape.Idx.first (show 0 < S1x1.numel by decide)))
    (rdX TX (off := k0_off23 i) 3 (nbx i h2) (o23 i h2) (k0_off23_inb i h2) (Shape.Idx.first (show 0 < S1x1.numel by decide)))
  simp only [bodyG, cc0_pyramid_roialign_eq_skeleton]
  unfold cc0_pyramid_roialign_skel
  unfold freeP busyP tabsP owns
  iintro ⟨⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨HT5, HTY, HTX⟩, ⟨⟨%o0, %hh0, %g0, %ho0, HF0, HR0⟩, ⟨%o1, %hh1, %g1, %ho1, HF1, HR1⟩, ⟨%o2, %hh2, %g2, %ho2, HF2, HR2⟩, ⟨%o3, %hh3, %g3, %ho3, HF3, HR3⟩⟩, ⟨HCb0, ⟨%eb0, HSb0⟩, HHb0, HCb1, ⟨%eb1, HSb1⟩, HHb1, HCb2, ⟨%eb2, HSb2⟩, HHb2, HCb3, ⟨%eb3, HSb3⟩, HHb3⟩, HW, Hk⟩
  sl_exec
  sl_step
  iapply Hk
  isplitl [H9]
  · iexists f9; isplitr; · ipureintro; exact hf9
    iexact H9
  isplitl [H10]
  · iexists f10; isplitr; · ipureintro; exact hf10
    iexact H10
  isplitl [H11]
  · iexists f11; isplitr; · ipureintro; exact hf11
    iexact H11
  isplitl [H12]
  · iexists f12; isplitr; · ipureintro; exact hf12
    iexact H12
  isplitl [H13]
  · iexists f13; isplitr; · ipureintro; exact hf13
    iexact H13
  isplitl [H14]
  · iexists f14; isplitr; · ipureintro; exact hf14
    iexact H14
  isplitl [H15]
  · iexists f15; isplitr; · ipureintro; exact hf15
    iexact H15
  isplitl [H16]
  · iexists f16; isplitr; · ipureintro; exact hf16
    iexact H16
  isplitl [H17]
  · iexists f17; isplitr; · ipureintro; exact hf17
    iexact H17
  isplitl [H18]
  · iexists f18; isplitr; · ipureintro; exact hf18
    iexact H18
  isplitl [H19]
  · iexists _; isplitr; swap; · iexact H19
    ipureintro
    rw [read_stored]
    subst ho0 ho1 ho2 ho3
    exact outV_of (rdArg arg9.view hz3 _ hf9) (rdArg arg10.view hz3 _ hf10) (rdArg arg11.view hz3 _ hf11) (rdArg arg12.view hz3 _ hf12) (rdArg arg13.view hz3 _ hf13) (rdArg arg14.view hz3 _ hf14) (rdArg arg15.view hz3 _ hf15) (rdArg arg16.view hz3 _ hf16) (rdArg arg18.view hz2 _ hf18)
      (rdW arg17.view _ hf17) (rdW arg17.view _ hf17) (rdW arg17.view _ hf17) (rdW arg17.view _ hf17)
      (slotRead0 (off29_eq i) _ _ _ _ X0) (slotRead1 (off32_eq i) _ _ _ _ X1) (slotRead2 (off35_eq i) _ _ _ _ X2) (slotRead3 (off38_eq i) _ _ _ _ X3)
  isplitl [HT5 HTY HTX]
  · isplitl [HT5]; · iexact HT5
    isplitl [HTY]; · iexact HTY
    iexact HTX
  isplitl [HF0 HF1 HF2 HF3 HF0_dst HF1_dst HF2_dst HF3_dst HR0 HR1 HR2 HR3]
  · isplitl [HF0]; · iexact HF0
    isplitl [HF0_dst]; · iexists _; iexact HF0_dst
    isplitl [HR0]; · iexact HR0
    isplitl [HF1]; · iexact HF1
    isplitl [HF1_dst]; · iexists _; iexact HF1_dst
    isplitl [HR1]; · iexact HR1
    isplitl [HF2]; · iexact HF2
    isplitl [HF2_dst]; · iexists _; iexact HF2_dst
    isplitl [HR2]; · iexact HR2
    isplitl [HF3]; · iexact HF3
    isplitl [HF3_dst]; · iexists _; iexact HF3_dst
    iexact HR3
  isplitl [HCb0 HHb0 HCb1 HHb1 HCb2 HHb2 HCb3 HHb3]
  · isplitl [HCb0 HHb0]
    · iexists _, _, _; isplitr; swap
      · isplitl [HCb0]; · iexact HCb0
        iexact HHb0
      ipureintro
      exact congr4 (rd5 T5 (off := k0_off10 i) (nbx i h2) (o5N i h2) _ _) (rdY TY (off := k0_off11 i) 0 (nbx i h2) (o11 i h2) _ _) (rdX TX (off := k0_off11 i) 0 (nbx i h2) (o11 i h2) _ _)
    isplitl [HCb1 HHb1]
    · iexists _, _, _; isplitr; swap
      · isplitl [HCb1]; · iexact HCb1
        iexact HHb1
      ipureintro
      exact congr4 (rd5 T5 (off := k0_off10 i) (nbx i h2) (o5N i h2) _ _) (rdY TY (off := k0_off15 i) 1 (nbx i h2) (o15 i h2) _ _) (rdX TX (off := k0_off15 i) 1 (nbx i h2) (o15 i h2) _ _)
    isplitl [HCb2 HHb2]
    · iexists _, _, _; isplitr; swap
      · isplitl [HCb2]; · iexact HCb2
        iexact HHb2
      ipureintro
      exact congr4 (rd5 T5 (off := k0_off10 i) (nbx i h2) (o5N i h2) _ _) (rdY TY (off := k0_off19 i) 2 (nbx i h2) (o19 i h2) _ _) (rdX TX (off := k0_off19 i) 2 (nbx i h2) (o19 i h2) _ _)
    iexists _, _, _; isplitr; swap
    · isplitl [HCb3]; · iexact HCb3
      iexact HHb3
    ipureintro
    exact congr4 (rd5 T5 (off := k0_off10 i) (nbx i h2) (o5N i h2) _ _) (rdY TY (off := k0_off23 i) 3 (nbx i h2) (o23 i h2) _ _) (rdX TX (off := k0_off23 i) 3 (nbx i h2) (o23 i h2) _ _)
  iexists _; iexact HW

set_option maxHeartbeats 4000000 in
theorem runL (h1 : ¬ (k0_cond1 i = 1#1)) (h2 : ¬ (k0_cond2 i = 1#1))
  (W : Waits sig Unit) (K : PUnit → sProp 𝕄) :
  iprop(owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18
    ∗ (∃ d, owns (c : Thread nD τ) arg19 fullShare d) ∗ tabsP c T5 TY TX q
    ∗ busyP c T5 TY TX X0 X1 X2 X3 (sl i) (bx i) ∗ owes (c : Thread nD τ) 0 W
    ∗ (iprop(owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18
        ∗ owns (c : Thread nD τ) arg19 fullShare (outV d9 d10 d11 d12 d13 d14 d15 d16 d17 d18 (wv0 ht X0 (bx i)) (wv1 ht X1 (bx i)) (wv2 ht X2 (bx i)) (wv3 ht X3 (bx i))) ∗ tabsP c T5 TY TX q
        ∗ freeP c X0 X1 X2 X3 (sl i) ∗ (∃ W', owes (c : Thread nD τ) 0 W')) -∗ K ⟨⟩))
   ⊢ wp frame (wpE (defs₀ (F := F)) Variants.none c none) Set.univ (bodyG (F := F) i arg9 harg9 arg10 harg10 arg11 harg11 arg12 harg12 arg13 harg13 arg14 harg14 arg15 harg15 arg16 harg16 arg17 harg17 arg18 harg18 arg19 harg19) K := by
  simp only [bodyG, cc0_pyramid_roialign_eq_skeleton]
  unfold cc0_pyramid_roialign_skel
  unfold freeP busyP tabsP owns
  iintro ⟨⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨HT5, HTY, HTX⟩, ⟨⟨%o0, %hh0, %g0, %ho0, HF0, HR0⟩, ⟨%o1, %hh1, %g1, %ho1, HF1, HR1⟩, ⟨%o2, %hh2, %g2, %ho2, HF2, HR2⟩, ⟨%o3, %hh3, %g3, %ho3, HF3, HR3⟩⟩, HW, Hk⟩
  sl_exec
  sl_step
  iapply Hk
  isplitl [H9]
  · iexists f9; isplitr; · ipureintro; exact hf9
    iexact H9
  isplitl [H10]
  · iexists f10; isplitr; · ipureintro; exact hf10
    iexact H10
  isplitl [H11]
  · iexists f11; isplitr; · ipureintro; exact hf11
    iexact H11
  isplitl [H12]
  · iexists f12; isplitr; · ipureintro; exact hf12
    iexact H12
  isplitl [H13]
  · iexists f13; isplitr; · ipureintro; exact hf13
    iexact H13
  isplitl [H14]
  · iexists f14; isplitr; · ipureintro; exact hf14
    iexact H14
  isplitl [H15]
  · iexists f15; isplitr; · ipureintro; exact hf15
    iexact H15
  isplitl [H16]
  · iexists f16; isplitr; · ipureintro; exact hf16
    iexact H16
  isplitl [H17]
  · iexists f17; isplitr; · ipureintro; exact hf17
    iexact H17
  isplitl [H18]
  · iexists f18; isplitr; · ipureintro; exact hf18
    iexact H18
  isplitl [H19]
  · iexists _; isplitr; swap; · iexact H19
    ipureintro
    rw [read_stored]
    subst ho0 ho1 ho2 ho3
    exact outV_of (rdArg arg9.view hz3 _ hf9) (rdArg arg10.view hz3 _ hf10) (rdArg arg11.view hz3 _ hf11) (rdArg arg12.view hz3 _ hf12) (rdArg arg13.view hz3 _ hf13) (rdArg arg14.view hz3 _ hf14) (rdArg arg15.view hz3 _ hf15) (rdArg arg16.view hz3 _ hf16) (rdArg arg18.view hz2 _ hf18)
      (rdW arg17.view _ hf17) (rdW arg17.view _ hf17) (rdW arg17.view _ hf17) (rdW arg17.view _ hf17)
      (slotRead0 (off29_eq i) _ _ _ _ X0) (slotRead1 (off32_eq i) _ _ _ _ X1) (slotRead2 (off35_eq i) _ _ _ _ X2) (slotRead3 (off38_eq i) _ _ _ _ X3)
  isplitl [HT5 HTY HTX]
  · isplitl [HT5]; · iexact HT5
    isplitl [HTY]; · iexact HTY
    iexact HTX
  isplitl [HF0 HF1 HF2 HF3 HF0_dst HF1_dst HF2_dst HF3_dst HR0 HR1 HR2 HR3]
  · isplitl [HF0]; · iexact HF0
    isplitl [HF0_dst]; · iexists _; iexact HF0_dst
    isplitl [HR0]; · iexact HR0
    isplitl [HF1]; · iexact HF1
    isplitl [HF1_dst]; · iexists _; iexact HF1_dst
    isplitl [HR1]; · iexact HR1
    isplitl [HF2]; · iexact HF2
    isplitl [HF2_dst]; · iexists _; iexact HF2_dst
    isplitl [HR2]; · iexact HR2
    isplitl [HF3]; · iexact HF3
    isplitl [HF3_dst]; · iexists _; iexact HF3_dst
    iexact HR3
  iexists _; iexact HW

set_option maxHeartbeats 4000000 in
theorem runF (h1 : k0_cond1 i = 1#1) (h2 : k0_cond2 i = 1#1) (hcanonS : sl i = 0) (hcanonN : nsl i = 1)
  (W : Waits sig Unit) (K : PUnit → sProp 𝕄) :
  iprop(owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18
    ∗ (∃ d, owns (c : Thread nD τ) arg19 fullShare d) ∗ tabsP c T5 TY TX q
    ∗ freeP c X0 X1 X2 X3 0 ∗ freeP c X0 X1 X2 X3 1 ∗ owes (c : Thread nD τ) 0 W
    ∗ (iprop(owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18
        ∗ owns (c : Thread nD τ) arg19 fullShare (outV d9 d10 d11 d12 d13 d14 d15 d16 d17 d18 (wv0 ht X0 (bx i)) (wv1 ht X1 (bx i)) (wv2 ht X2 (bx i)) (wv3 ht X3 (bx i))) ∗ tabsP c T5 TY TX q
        ∗ freeP c X0 X1 X2 X3 0 ∗ busyP c T5 TY TX X0 X1 X2 X3 1 (nbx i h2) ∗ (∃ W', owes (c : Thread nD τ) 0 W')) -∗ K ⟨⟩))
   ⊢ wp frame (wpE (defs₀ (F := F)) Variants.none c none) Set.univ (bodyG (F := F) i arg9 harg9 arg10 harg10 arg11 harg11 arg12 harg12 arg13 harg13 arg14 harg14 arg15 harg15 arg16 harg16 arg17 harg17 arg18 harg18 arg19 harg19) K := by
  have hc1 := chkF0 ht (bx i) i
    (rd5 T5 (off := k0_off1 i) (bx i) (o5F i h1) (k0_off1_inb i h1) (Shape.Idx.first (show 0 < S1.numel by decide)))
    (rdY TY (off := k0_off2 i) 0 (bx i) (o2 i h1) (k0_off2_inb i h1) (Shape.Idx.first (show 0 < S1x1.numel by decide)))
    (rdX TX (off := k0_off2 i) 0 (bx i) (o2 i h1) (k0_off2_inb i h1) (Shape.Idx.first (show 0 < S1x1.numel by decide)))
  have hc2 := chkF1 ht (bx i) i
    (rd5 T5 (off := k0_off1 i) (bx i) (o5F i h1) (k0_off1_inb i h1) (Shape.Idx.first (show 0 < S1.numel by decide)))
    (rdY TY (off := k0_off4 i) 1 (bx i) (o4 i h1) (k0_off4_inb i h1) (Shape.Idx.first (show 0 < S1x1.numel by decide)))
    (rdX TX (off := k0_off4 i) 1 (bx i) (o4 i h1) (k0_off4_inb i h1) (Shape.Idx.first (show 0 < S1x1.numel by decide)))
  have hc3 := chkF2 ht (bx i) i
    (rd5 T5 (off := k0_off1 i) (bx i) (o5F i h1) (k0_off1_inb i h1) (Shape.Idx.first (show 0 < S1.numel by decide)))
    (rdY TY (off := k0_off6 i) 2 (bx i) (o6 i h1) (k0_off6_inb i h1) (Shape.Idx.first (show 0 < S1x1.numel by decide)))
    (rdX TX (off := k0_off6 i) 2 (bx i) (o6 i h1) (k0_off6_inb i h1) (Shape.Idx.first (show 0 < S1x1.numel by decide)))
  have hc4 := chkF3 ht (bx i) i
    (rd5 T5 (off := k0_off1 i) (bx i) (o5F i h1) (k0_off1_inb i h1) (Shape.Idx.first (show 0 < S1.numel by decide)))
    (rdY TY (off := k0_off8 i) 3 (bx i) (o8 i h1) (k0_off8_inb i h1) (Shape.Idx.first (show 0 < S1x1.numel by decide)))
    (rdX TX (off := k0_off8 i) 3 (bx i) (o8 i h1) (k0_off8_inb i h1) (Shape.Idx.first (show 0 < S1x1.numel by decide)))
  have hc5 := chkN0 ht (nbx i h2) i
    (rd5 T5 (off := k0_off10 i) (nbx i h2) (o5N i h2) (k0_off10_inb i h2) (Shape.Idx.first (show 0 < S1.numel by decide)))
    (rdY TY (off := k0_off11 i) 0 (nbx i h2) (o11 i h2) (k0_off11_inb i h2) (Shape.Idx.first (show 0 < S1x1.numel by decide)))
    (rdX TX (off := k0_off11 i) 0 (nbx i h2) (o11 i h2) (k0_off11_inb i h2) (Shape.Idx.first (show 0 < S1x1.numel by decide)))
  have hc6 := chkN1 ht (nbx i h2) i
    (rd5 T5 (off := k0_off10 i) (nbx i h2) (o5N i h2) (k0_off10_inb i h2) (Shape.Idx.first (show 0 < S1.numel by decide)))
    (rdY TY (off := k0_off15 i) 1 (nbx i h2) (o15 i h2) (k0_off15_inb i h2) (Shape.Idx.first (show 0 < S1x1.numel by decide)))
    (rdX TX (off := k0_off15 i) 1 (nbx i h2) (o15 i h2) (k0_off15_inb i h2) (Shape.Idx.first (show 0 < S1x1.numel by decide)))
  have hc7 := chkN2 ht (nbx i h2) i
    (rd5 T5 (off := k0_off10 i) (nbx i h2) (o5N i h2) (k0_off10_inb i h2) (Shape.Idx.first (show 0 < S1.numel by decide)))
    (rdY TY (off := k0_off19 i) 2 (nbx i h2) (o19 i h2) (k0_off19_inb i h2) (Shape.Idx.first (show 0 < S1x1.numel by decide)))
    (rdX TX (off := k0_off19 i) 2 (nbx i h2) (o19 i h2) (k0_off19_inb i h2) (Shape.Idx.first (show 0 < S1x1.numel by decide)))
  have hc8 := chkN3 ht (nbx i h2) i
    (rd5 T5 (off := k0_off10 i) (nbx i h2) (o5N i h2) (k0_off10_inb i h2) (Shape.Idx.first (show 0 < S1.numel by decide)))
    (rdY TY (off := k0_off23 i) 3 (nbx i h2) (o23 i h2) (k0_off23_inb i h2) (Shape.Idx.first (show 0 < S1x1.numel by decide)))
    (rdX TX (off := k0_off23 i) 3 (nbx i h2) (o23 i h2) (k0_off23_inb i h2) (Shape.Idx.first (show 0 < S1x1.numel by decide)))
  simp only [bodyG, cc0_pyramid_roialign_eq_skeleton]
  unfold cc0_pyramid_roialign_skel
  unfold freeP tabsP owns
  iintro ⟨⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨HT5, HTY, HTX⟩, ⟨HCa0, ⟨%ea0, HSa0⟩, HHa0, HCa1, ⟨%ea1, HSa1⟩, HHa1, HCa2, ⟨%ea2, HSa2⟩, HHa2, HCa3, ⟨%ea3, HSa3⟩, HHa3⟩, ⟨HCb0, ⟨%eb0, HSb0⟩, HHb0, HCb1, ⟨%eb1, HSb1⟩, HHb1, HCb2, ⟨%eb2, HSb2⟩, HHb2, HCb3, ⟨%eb3, HSb3⟩, HHb3⟩, HW, Hk⟩
  sl_exec
  sl_step
  iapply Hk
  isplitl [H9]
  · iexists f9; isplitr; · ipureintro; exact hf9
    iexact H9
  isplitl [H10]
  · iexists f10; isplitr; · ipureintro; exact hf10
    iexact H10
  isplitl [H11]
  · iexists f11; isplitr; · ipureintro; exact hf11
    iexact H11
  isplitl [H12]
  · iexists f12; isplitr; · ipureintro; exact hf12
    iexact H12
  isplitl [H13]
  · iexists f13; isplitr; · ipureintro; exact hf13
    iexact H13
  isplitl [H14]
  · iexists f14; isplitr; · ipureintro; exact hf14
    iexact H14
  isplitl [H15]
  · iexists f15; isplitr; · ipureintro; exact hf15
    iexact H15
  isplitl [H16]
  · iexists f16; isplitr; · ipureintro; exact hf16
    iexact H16
  isplitl [H17]
  · iexists f17; isplitr; · ipureintro; exact hf17
    iexact H17
  isplitl [H18]
  · iexists f18; isplitr; · ipureintro; exact hf18
    iexact H18
  isplitl [H19]
  · iexists _; isplitr; swap; · iexact H19
    ipureintro
    rw [read_stored]
    exact outV_of (rdArg arg9.view hz3 _ hf9) (rdArg arg10.view hz3 _ hf10) (rdArg arg11.view hz3 _ hf11) (rdArg arg12.view hz3 _ hf12) (rdArg arg13.view hz3 _ hf13) (rdArg arg14.view hz3 _ hf14) (rdArg arg15.view hz3 _ hf15) (rdArg arg16.view hz3 _ hf16) (rdArg arg18.view hz2 _ hf18)
      (rdW arg17.view _ hf17) (rdW arg17.view _ hf17) (rdW arg17.view _ hf17) (rdW arg17.view _ hf17)
      ((slotRead0 ((off29_eq i).trans (congrArg slotOff hcanonS)) _ _ _ _ X0).trans (wvOf0 ht X0 (bx i) _ (congr4 (rd5 T5 (off := k0_off1 i) (bx i) (o5F i h1) _ _) (rdY TY (off := k0_off2 i) 0 (bx i) (o2 i h1) _ _) (rdX TX (off := k0_off2 i) 0 (bx i) (o2 i h1) _ _)))) ((slotRead1 ((off32_eq i).trans (congrArg slotOff hcanonS)) _ _ _ _ X1).trans (wvOf1 ht X1 (bx i) _ (congr4 (rd5 T5 (off := k0_off1 i) (bx i) (o5F i h1) _ _) (rdY TY (off := k0_off4 i) 1 (bx i) (o4 i h1) _ _) (rdX TX (off := k0_off4 i) 1 (bx i) (o4 i h1) _ _)))) ((slotRead2 ((off35_eq i).trans (congrArg slotOff hcanonS)) _ _ _ _ X2).trans (wvOf2 ht X2 (bx i) _ (congr4 (rd5 T5 (off := k0_off1 i) (bx i) (o5F i h1) _ _) (rdY TY (off := k0_off6 i) 2 (bx i) (o6 i h1) _ _) (rdX TX (off := k0_off6 i) 2 (bx i) (o6 i h1) _ _)))) ((slotRead3 ((off38_eq i).trans (congrArg slotOff hcanonS)) _ _ _ _ X3).trans (wvOf3 ht X3 (bx i) _ (congr4 (rd5 T5 (off := k0_off1 i) (bx i) (o5F i h1) _ _) (rdY TY (off := k0_off8 i) 3 (bx i) (o8 i h1) _ _) (rdX TX (off := k0_off8 i) 3 (bx i) (o8 i h1) _ _))))
  isplitl [HT5 HTY HTX]
  · isplitl [HT5]; · iexact HT5
    isplitl [HTY]; · iexact HTY
    iexact HTX
  isplitl [HCa0 HCa1 HCa2 HCa3 HSa0 HSa1 HSa2 HSa3 HHa0 HHa1 HHa2 HHa3]
  · isplitl [HCa0]; · iexact HCa0
    isplitl [HSa0]; · iexists _; iexact HSa0
    isplitl [HHa0]; · iexact HHa0
    isplitl [HCa1]; · iexact HCa1
    isplitl [HSa1]; · iexists _; iexact HSa1
    isplitl [HHa1]; · iexact HHa1
    isplitl [HCa2]; · iexact HCa2
    isplitl [HSa2]; · iexists _; iexact HSa2
    isplitl [HHa2]; · iexact HHa2
    isplitl [HCa3]; · iexact HCa3
    isplitl [HSa3]; · iexists _; iexact HSa3
    iexact HHa3
  isplitl [HCb0 HHb0 HCb1 HHb1 HCb2 HHb2 HCb3 HHb3]
  · unfold busyP
    isplitl [HCb0 HHb0]
    · iexists _, _, _; isplitr; swap
      · isplitl [HCb0]; · iexact HCb0
        iexact HHb0
      ipureintro
      exact congr4 (rd5 T5 (off := k0_off10 i) (nbx i h2) (o5N i h2) _ _) (rdY TY (off := k0_off11 i) 0 (nbx i h2) (o11 i h2) _ _) (rdX TX (off := k0_off11 i) 0 (nbx i h2) (o11 i h2) _ _)
    isplitl [HCb1 HHb1]
    · iexists _, _, _; isplitr; swap
      · isplitl [HCb1]; · iexact HCb1
        iexact HHb1
      ipureintro
      exact congr4 (rd5 T5 (off := k0_off10 i) (nbx i h2) (o5N i h2) _ _) (rdY TY (off := k0_off15 i) 1 (nbx i h2) (o15 i h2) _ _) (rdX TX (off := k0_off15 i) 1 (nbx i h2) (o15 i h2) _ _)
    isplitl [HCb2 HHb2]
    · iexists _, _, _; isplitr; swap
      · isplitl [HCb2]; · iexact HCb2
        iexact HHb2
      ipureintro
      exact congr4 (rd5 T5 (off := k0_off10 i) (nbx i h2) (o5N i h2) _ _) (rdY TY (off := k0_off19 i) 2 (nbx i h2) (o19 i h2) _ _) (rdX TX (off := k0_off19 i) 2 (nbx i h2) (o19 i h2) _ _)
    iexists _, _, _; isplitr; swap
    · isplitl [HCb3]; · iexact HCb3
      iexact HHb3
    ipureintro
    exact congr4 (rd5 T5 (off := k0_off10 i) (nbx i h2) (o5N i h2) _ _) (rdY TY (off := k0_off23 i) 3 (nbx i h2) (o23 i h2) _ _) (rdX TX (off := k0_off23 i) 3 (nbx i h2) (o23 i h2) _ _)
  iexists _; iexact HW

end Run

end Cert.Kernel2Ideal.Hand

end
-- ==== Proof.Kernel2Ideal.Frame.lean ====
/- The launch of the kernel over its grid: what the buffers hold at each boundary between two points, and what the run leaves. -/
module

public import proofs.«01_k».proof.Proof.Kernel2Ideal.Body
public import Idealize.ShloMosaic.Lib.Pipeline.Value

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (Flight)

variable {F : FTy → Type} [FloatOps F]

local notation "𝕄" => MT nD τ sig Unit (Elt F) ℕ (Pipeline.UD sig nD τ) ℕ

/-! ## The two slots of a copied window's buffer -/

abbrev slotSet0 (s : Fin 2) : Finset S2x56x64x256.Idx := (Rect.unit (s := S2x56x64x256) (slotOff s) S1x56x64x256.size (slotOff_inb0 s)).set
theorem slotSet0_eq (s : Fin 2) : (slot0 s).view.set = slotSet0 s := by
  simp only [slot0, Memref.view_squeeze, View.set_reshape]; exact View.set_slice_whole _ _
theorem slots0_disjoint (s s' : Fin 2) (h : s ≠ s') : Disjoint (slotSet0 s) (slotSet0 s') :=
  Ring.lead_disjoint (s := S2x56x64x256) (0 : Fin 4) 1 slotOff S1x56x64x256.size slotOff_inb0 (fun s => by simp [slotOff]) rfl s s' h
theorem slots0_cover : Finset.univ.biUnion slotSet0 = Finset.univ :=
  Ring.lead_cover (s := S2x56x64x256) (0 : Fin 4) 1 slotOff S1x56x64x256.size slotOff_inb0 (fun s => by simp [slotOff])
    (fun s a ha => by fin_cases a <;> first | exact absurd rfl ha | rfl) rfl (fun a ha => by fin_cases a <;> first | exact absurd rfl ha | rfl) rfl
theorem slotP0_eq (c : Dev nD) (s : Fin 2) (f) : slotP0 (F := F) c s f = (bufM0.view.loc (c : Thread nD τ) ↦[slotSet0 s]{fullShare} f : sProp 𝕄) := by
  unfold slotP0; rw [slotSet0_eq]; rfl
theorem slots0_in (c : Dev nD) :
    iprop(∃ f, bufM0.view.loc (c : Thread nD τ) ↦{fullShare} f) ⊢ (iprop((∃ f, slotP0 (F := F) c 0 f) ∗ ∃ f, slotP0 c 1 f) : sProp 𝕄) :=
  Ring.slots2_split (ℓ := bufM0.view.loc (c : Thread nD τ)) (q := fullShare) slotSet0 slots0_disjoint slots0_cover
    (slotP0 c 0) (slotP0 c 1) (slotP0_eq c 0) (slotP0_eq c 1)
theorem slots0_out (c : Dev nD) :
    (iprop((∃ f, slotP0 (F := F) c 0 f) ∗ ∃ f, slotP0 c 1 f) : sProp 𝕄) ⊢ iprop(∃ f, bufM0.view.loc (c : Thread nD τ) ↦{fullShare} f) :=
  Ring.slots2_join (ℓ := bufM0.view.loc (c : Thread nD τ)) (q := fullShare) slotSet0 slots0_disjoint slots0_cover
    (slotP0 c 0) (slotP0 c 1) (slotP0_eq c 0) (slotP0_eq c 1)
theorem home0_in (c : Dev nD) (X : FBuf0 (F := F) c) :
    (featM0.view.loc (c : Thread nD τ) ↦{fullShare} X : sProp 𝕄) ⊣⊢ iprop(homeP0 c X 0 ∗ homeP0 c X 1) :=
  pointsTo_share (PosShare.mem_left_op_right fullShare)

abbrev slotSet1 (s : Fin 2) : Finset S2x32x40x256.Idx := (Rect.unit (s := S2x32x40x256) (slotOff s) S1x32x40x256.size (slotOff_inb1 s)).set
theorem slotSet1_eq (s : Fin 2) : (slot1 s).view.set = slotSet1 s := by
  simp only [slot1, Memref.view_squeeze, View.set_reshape]; exact View.set_slice_whole _ _
theorem slots1_disjoint (s s' : Fin 2) (h : s ≠ s') : Disjoint (slotSet1 s) (slotSet1 s') :=
  Ring.lead_disjoint (s := S2x32x40x256) (0 : Fin 4) 1 slotOff S1x32x40x256.size slotOff_inb1 (fun s => by simp [slotOff]) rfl s s' h
theorem slots1_cover : Finset.univ.biUnion slotSet1 = Finset.univ :=
  Ring.lead_cover (s := S2x32x40x256) (0 : Fin 4) 1 slotOff S1x32x40x256.size slotOff_inb1 (fun s => by simp [slotOff])
    (fun s a ha => by fin_cases a <;> first | exact absurd rfl ha | rfl) rfl (fun a ha => by fin_cases a <;> first | exact absurd rfl ha | rfl) rfl
theorem slotP1_eq (c : Dev nD) (s : Fin 2) (f) : slotP1 (F := F) c s f = (bufM1.view.loc (c : Thread nD τ) ↦[slotSet1 s]{fullShare} f : sProp 𝕄) := by
  unfold slotP1; rw [slotSet1_eq]; rfl
theorem slots1_in (c : Dev nD) :
    iprop(∃ f, bufM1.view.loc (c : Thread nD τ) ↦{fullShare} f) ⊢ (iprop((∃ f, slotP1 (F := F) c 0 f) ∗ ∃ f, slotP1 c 1 f) : sProp 𝕄) :=
  Ring.slots2_split (ℓ := bufM1.view.loc (c : Thread nD τ)) (q := fullShare) slotSet1 slots1_disjoint slots1_cover
    (slotP1 c 0) (slotP1 c 1) (slotP1_eq c 0) (slotP1_eq c 1)
theorem slots1_out (c : Dev nD) :
    (iprop((∃ f, slotP1 (F := F) c 0 f) ∗ ∃ f, slotP1 c 1 f) : sProp 𝕄) ⊢ iprop(∃ f, bufM1.view.loc (c : Thread nD τ) ↦{fullShare} f) :=
  Ring.slots2_join (ℓ := bufM1.view.loc (c : Thread nD τ)) (q := fullShare) slotSet1 slots1_disjoint slots1_cover
    (slotP1 c 0) (slotP1 c 1) (slotP1_eq c 0) (slotP1_eq c 1)
theorem home1_in (c : Dev nD) (X : FBuf1 (F := F) c) :
    (featM1.view.loc (c : Thread nD τ) ↦{fullShare} X : sProp 𝕄) ⊣⊢ iprop(homeP1 c X 0 ∗ homeP1 c X 1) :=
  pointsTo_share (PosShare.mem_left_op_right fullShare)

abbrev slotSet2 (s : Fin 2) : Finset S2x16x24x256.Idx := (Rect.unit (s := S2x16x24x256) (slotOff s) S1x16x24x256.size (slotOff_inb2 s)).set
theorem slotSet2_eq (s : Fin 2) : (slot2 s).view.set = slotSet2 s := by
  simp only [slot2, Memref.view_squeeze, View.set_reshape]; exact View.set_slice_whole _ _
theorem slots2_disjoint (s s' : Fin 2) (h : s ≠ s') : Disjoint (slotSet2 s) (slotSet2 s') :=
  Ring.lead_disjoint (s := S2x16x24x256) (0 : Fin 4) 1 slotOff S1x16x24x256.size slotOff_inb2 (fun s => by simp [slotOff]) rfl s s' h
theorem slots2_cover : Finset.univ.biUnion slotSet2 = Finset.univ :=
  Ring.lead_cover (s := S2x16x24x256) (0 : Fin 4) 1 slotOff S1x16x24x256.size slotOff_inb2 (fun s => by simp [slotOff])
    (fun s a ha => by fin_cases a <;> first | exact absurd rfl ha | rfl) rfl (fun a ha => by fin_cases a <;> first | exact absurd rfl ha | rfl) rfl
theorem slotP2_eq (c : Dev nD) (s : Fin 2) (f) : slotP2 (F := F) c s f = (bufM2.view.loc (c : Thread nD τ) ↦[slotSet2 s]{fullShare} f : sProp 𝕄) := by
  unfold slotP2; rw [slotSet2_eq]; rfl
theorem slots2_in (c : Dev nD) :
    iprop(∃ f, bufM2.view.loc (c : Thread nD τ) ↦{fullShare} f) ⊢ (iprop((∃ f, slotP2 (F := F) c 0 f) ∗ ∃ f, slotP2 c 1 f) : sProp 𝕄) :=
  Ring.slots2_split (ℓ := bufM2.view.loc (c : Thread nD τ)) (q := fullShare) slotSet2 slots2_disjoint slots2_cover
    (slotP2 c 0) (slotP2 c 1) (slotP2_eq c 0) (slotP2_eq c 1)
theorem slots2_out (c : Dev nD) :
    (iprop((∃ f, slotP2 (F := F) c 0 f) ∗ ∃ f, slotP2 c 1 f) : sProp 𝕄) ⊢ iprop(∃ f, bufM2.view.loc (c : Thread nD τ) ↦{fullShare} f) :=
  Ring.slots2_join (ℓ := bufM2.view.loc (c : Thread nD τ)) (q := fullShare) slotSet2 slots2_disjoint slots2_cover
    (slotP2 c 0) (slotP2 c 1) (slotP2_eq c 0) (slotP2_eq c 1)
theorem home2_in (c : Dev nD) (X : FBuf2 (F := F) c) :
    (featM2.view.loc (c : Thread nD τ) ↦{fullShare} X : sProp 𝕄) ⊣⊢ iprop(homeP2 c X 0 ∗ homeP2 c X 1) :=
  pointsTo_share (PosShare.mem_left_op_right fullShare)

abbrev slotSet3 (s : Fin 2) : Finset S2x16x16x256.Idx := (Rect.unit (s := S2x16x16x256) (slotOff s) S1x16x16x256.size (slotOff_inb3 s)).set
theorem slotSet3_eq (s : Fin 2) : (slot3 s).view.set = slotSet3 s := by
  simp only [slot3, Memref.view_squeeze, View.set_reshape]; exact View.set_slice_whole _ _
theorem slots3_disjoint (s s' : Fin 2) (h : s ≠ s') : Disjoint (slotSet3 s) (slotSet3 s') :=
  Ring.lead_disjoint (s := S2x16x16x256) (0 : Fin 4) 1 slotOff S1x16x16x256.size slotOff_inb3 (fun s => by simp [slotOff]) rfl s s' h
theorem slots3_cover : Finset.univ.biUnion slotSet3 = Finset.univ :=
  Ring.lead_cover (s := S2x16x16x256) (0 : Fin 4) 1 slotOff S1x16x16x256.size slotOff_inb3 (fun s => by simp [slotOff])
    (fun s a ha => by fin_cases a <;> first | exact absurd rfl ha | rfl) rfl (fun a ha => by fin_cases a <;> first | exact absurd rfl ha | rfl) rfl
theorem slotP3_eq (c : Dev nD) (s : Fin 2) (f) : slotP3 (F := F) c s f = (bufM3.view.loc (c : Thread nD τ) ↦[slotSet3 s]{fullShare} f : sProp 𝕄) := by
  unfold slotP3; rw [slotSet3_eq]; rfl
theorem slots3_in (c : Dev nD) :
    iprop(∃ f, bufM3.view.loc (c : Thread nD τ) ↦{fullShare} f) ⊢ (iprop((∃ f, slotP3 (F := F) c 0 f) ∗ ∃ f, slotP3 c 1 f) : sProp 𝕄) :=
  Ring.slots2_split (ℓ := bufM3.view.loc (c : Thread nD τ)) (q := fullShare) slotSet3 slots3_disjoint slots3_cover
    (slotP3 c 0) (slotP3 c 1) (slotP3_eq c 0) (slotP3_eq c 1)
theorem slots3_out (c : Dev nD) :
    (iprop((∃ f, slotP3 (F := F) c 0 f) ∗ ∃ f, slotP3 c 1 f) : sProp 𝕄) ⊢ iprop(∃ f, bufM3.view.loc (c : Thread nD τ) ↦{fullShare} f) :=
  Ring.slots2_join (ℓ := bufM3.view.loc (c : Thread nD τ)) (q := fullShare) slotSet3 slots3_disjoint slots3_cover
    (slotP3 c 0) (slotP3 c 1) (slotP3_eq c 0) (slotP3_eq c 1)
theorem home3_in (c : Dev nD) (X : FBuf3 (F := F) c) :
    (featM3.view.loc (c : Thread nD τ) ↦{fullShare} X : sProp 𝕄) ⊣⊢ iprop(homeP3 c X 0 ∗ homeP3 c X 1) :=
  pointsTo_share (PosShare.mem_left_op_right fullShare)

/-! ## The semaphores and the features -/

/-- The eight semaphores of the copies, in slot order. -/
abbrev osem0 : Fin 8 → SemLoc sig := fun j => (![SemLoc.dma 20, SemLoc.dma 21, SemLoc.dma 22, SemLoc.dma 23, SemLoc.dma 24, SemLoc.dma 25, SemLoc.dma 26, SemLoc.dma 27] : Fin 8 → SemLoc sig) j
theorem ownSemFacts0 : Pipeline.OwnSemFacts spec0 osem0 := by decide
theorem csm_00 : (csm 0 0).sem = 20 := by decide
theorem csm_01 : (csm 0 1).sem = 21 := by decide
theorem csm_02 : (csm 0 2).sem = 22 := by decide
theorem csm_03 : (csm 0 3).sem = 23 := by decide
theorem csm_10 : (csm 1 0).sem = 24 := by decide
theorem csm_11 : (csm 1 1).sem = 25 := by decide
theorem csm_12 : (csm 1 2).sem = 26 := by decide
theorem csm_13 : (csm 1 3).sem = 27 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP (F := F) c 0 0 ∗ cellP (F := F) c 0 1 ∗ cellP (F := F) c 0 2 ∗ cellP (F := F) c 0 3 ∗ cellP (F := F) c 1 0 ∗ cellP (F := F) c 1 1 ∗ cellP (F := F) c 1 2 ∗ cellP (F := F) c 1 3) := by
  unfold cellP
  rw [csm_00, csm_01, csm_02, csm_03, csm_10, csm_11, csm_12, csm_13]
  rw [Pipeline.ownSems0_eq_of_list c osem0 [0, 1, 2, 3, 4, 5, 6, 7] (by decide) (by decide)]; rfl

/-- The features, which the body copies from. -/
def H0 : Finset (Ref sig .tc) := {main_call0_v0, main_call0_v1, main_call0_v2, main_call0_v3}
theorem H0_sub : H0 ⊆ Pipeline.restRefsP sig pre0 spec0 := by decide

section Data
variable (V : Dev nD → Valuation τ sig (Elt F))
/-- The buffer `b` of core `c`, as the launch finds it. -/
abbrev rdV (c : Dev nD) (b : Ref sig .tc) : Buf (Elt F) ((c : Thread nD τ).loc b) := V c (Proc.devRef .tc b)
abbrev tab5 (c : Dev nD) : TBuf5 (F := F) c := rdV V c main_arg4
abbrev tabY (c : Dev nD) : TBufY (F := F) c := rdV V c main_arg5
abbrev tabX (c : Dev nD) : TBufX (F := F) c := rdV V c main_arg6
abbrev ft0 (c : Dev nD) : FBuf0 (F := F) c := rdV V c main_call0_v0
abbrev ft1 (c : Dev nD) : FBuf1 (F := F) c := rdV V c main_call0_v1
abbrev ft2 (c : Dev nD) : FBuf2 (F := F) c := rdV V c main_call0_v2
abbrev ft3 (c : Dev nD) : FBuf3 (F := F) c := rdV V c main_call0_v3

theorem hbmPts0_eq (c : Dev nD) :
    (bigSep H0 (fun b => ((c : Thread nD τ).loc b) ↦{fullShare} rdV V c b) : sProp 𝕄)
      = iprop((featM0.view.loc (c : Thread nD τ) ↦{fullShare} ft0 V c) ∗ (featM1.view.loc (c : Thread nD τ) ↦{fullShare} ft1 V c) ∗ (featM2.view.loc (c : Thread nD τ) ↦{fullShare} ft2 V c) ∗ (featM3.view.loc (c : Thread nD τ) ↦{fullShare} ft3 V c)) :=
  BI.bigSep_eq_bigSepL_of_eq (S := H0) [main_call0_v0, main_call0_v1, main_call0_v2, main_call0_v3] (by decide) (by decide) _

/-- What the body holds before point `n` besides its blocks. -/
def PhiS (c : Dev nD) (n : Nat) : sProp 𝕄 :=
  iprop((if n % 256 = 0 then iprop(freeP c (ft0 V c) (ft1 V c) (ft2 V c) (ft3 V c) 0 ∗ freeP c (ft0 V c) (ft1 V c) (ft2 V c) (ft3 V c) 1)
      else iprop(busyP c (tab5 V c) (tabY V c) (tabX V c) (ft0 V c) (ft1 V c) (ft2 V c) (ft3 V c) (Fin.ofNat 2 n) (Fin.ofNat 512 n) ∗ freeP c (ft0 V c) (ft1 V c) (ft2 V c) (ft3 V c) (Fin.ofNat 2 (n + 1))))
    ∗ (∃ r, prngReg c r) ∗ tabsP c (tab5 V c) (tabY V c) (tabX V c) fullShare.right)

theorem phi_in (c : Dev nD) (P : sProp 𝕄) (hP : P ⊢ tabsP c (tab5 V c) (tabY V c) (tabX V c) fullShare.right) :
    iprop(Pipeline.ΦD osem0 spec0 H0 (rdV V) c ∗ P) ⊢ PhiS V c 0 := by
  rw [Pipeline.ΦD_eq, scopedRest0_eq, ownSems00_eq, hbmPts0_eq]
  unfold PhiS freeP; rw [if_pos (by decide)]
  iintro ⟨⟨⟨HS0, HS1, HS2, HS3⟩, Hg, ⟨C00, C01, C02, C03, C10, C11, C12, C13⟩, ⟨Hh0, Hh1, Hh2, Hh3⟩⟩, HP⟩
  ihave HS0 := (slots0_in c) $$ HS0
  icases HS0 with ⟨A0, B0⟩
  ihave Hh0 := (home0_in c (ft0 V c)).1 $$ Hh0
  icases Hh0 with ⟨D0, E0⟩
  ihave HS1 := (slots1_in c) $$ HS1
  icases HS1 with ⟨A1, B1⟩
  ihave Hh1 := (home1_in c (ft1 V c)).1 $$ Hh1
  icases Hh1 with ⟨D1, E1⟩
  ihave HS2 := (slots2_in c) $$ HS2
  icases HS2 with ⟨A2, B2⟩
  ihave Hh2 := (home2_in c (ft2 V c)).1 $$ Hh2
  icases Hh2 with ⟨D2, E2⟩
  ihave HS3 := (slots3_in c) $$ HS3
  icases HS3 with ⟨A3, B3⟩
  ihave Hh3 := (home3_in c (ft3 V c)).1 $$ Hh3
  icases Hh3 with ⟨D3, E3⟩
  isplitl [C00 A0 D0 C01 A1 D1 C02 A2 D2 C03 A3 D3 C10 B0 E0 C11 B1 E1 C12 B2 E2 C13 B3 E3]
  · isplitl [C00 A0 D0 C01 A1 D1 C02 A2 D2 C03 A3 D3]
    · skip
      isplitl [C00]; · iexact C00
      isplitl [A0]; · iexact A0
      isplitl [D0]; · iexact D0
      isplitl [C01]; · iexact C01
      isplitl [A1]; · iexact A1
      isplitl [D1]; · iexact D1
      isplitl [C02]; · iexact C02
      isplitl [A2]; · iexact A2
      isplitl [D2]; · iexact D2
      isplitl [C03]; · iexact C03
      isplitl [A3]; · iexact A3
      iexact D3
    isplitl [C10]; · iexact C10
    isplitl [B0]; · iexact B0
    isplitl [E0]; · iexact E0
    isplitl [C11]; · iexact C11
    isplitl [B1]; · iexact B1
    isplitl [E1]; · iexact E1
    isplitl [C12]; · iexact C12
    isplitl [B2]; · iexact B2
    isplitl [E2]; · iexact E2
    isplitl [C13]; · iexact C13
    isplitl [B3]; · iexact B3
    iexact E3
  isplitl [Hg]; · iexact Hg
  iapply hP; iexact HP

theorem phi_out (c : Dev nD) : PhiS V c 512 ⊢ Pipeline.ΦD osem0 spec0 H0 (rdV V) c := by
  rw [Pipeline.ΦD_eq, scopedRest0_eq, ownSems00_eq, hbmPts0_eq]
  unfold PhiS freeP; rw [if_pos (by decide)]
  iintro ⟨⟨⟨C00, A0, D0, C01, A1, D1, C02, A2, D2, C03, A3, D3⟩, ⟨C10, B0, E0, C11, B1, E1, C12, B2, E2, C13, B3, E3⟩⟩, Hg, -⟩
  ihave HS0 := (slots0_out c) $$ [A0 B0]
  · isplitl [A0]; · iexact A0
    iexact B0
  ihave Hh0 := (home0_in c (ft0 V c)).2 $$ [D0 E0]
  · isplitl [D0]; · iexact D0
    iexact E0
  ihave HS1 := (slots1_out c) $$ [A1 B1]
  · isplitl [A1]; · iexact A1
    iexact B1
  ihave Hh1 := (home1_in c (ft1 V c)).2 $$ [D1 E1]
  · isplitl [D1]; · iexact D1
    iexact E1
  ihave HS2 := (slots2_out c) $$ [A2 B2]
  · isplitl [A2]; · iexact A2
    iexact B2
  ihave Hh2 := (home2_in c (ft2 V c)).2 $$ [D2 E2]
  · isplitl [D2]; · iexact D2
    iexact E2
  ihave HS3 := (slots3_out c) $$ [A3 B3]
  · isplitl [A3]; · iexact A3
    iexact B3
  ihave Hh3 := (home3_in c (ft3 V c)).2 $$ [D3 E3]
  · isplitl [D3]; · iexact D3
    iexact E3
  isplitl [HS0 HS1 HS2 HS3]
  · isplitl [HS0]; · iexact HS0
    isplitl [HS1]; · iexact HS1
    isplitl [HS2]; · iexact HS2
    iexact HS3
  isplitl [Hg]; · iexact Hg
  isplitl [C00 C01 C02 C03 C10 C11 C12 C13]
  · skip
    isplitl [C00]; · iexact C00
    isplitl [C01]; · iexact C01
    isplitl [C02]; · iexact C02
    isplitl [C03]; · iexact C03
    isplitl [C10]; · iexact C10
    isplitl [C11]; · iexact C11
    isplitl [C12]; · iexact C12
    iexact C13
  isplitl [Hh0]; · iexact Hh0
  isplitl [Hh1]; · iexact Hh1
  isplitl [Hh2]; · iexact Hh2
  iexact Hh3

/-! ## The proof data -/
variable (a : (pcfg0 (F := F)).Adm)

/-- Window `w`'s block at point `t`, read off its array as the launch finds it. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (rdV V c (Pipeline.arrRef spec0 w))

variable (ht : ∀ c, TabOk (tab5 V c) (tabY V c) (tabX V c))

/-- What point `t` stores. -/
def outAt (c : Dev nD) (t : Fin (cfg0 a).N) : S1x49x256.Idx → Elt F .f32 :=
  outV (iblk V a c 0 t) (iblk V a c 1 t) (iblk V a c 2 t) (iblk V a c 3 t) (iblk V a c 4 t) (iblk V a c 5 t) (iblk V a c 6 t) (iblk V a c 7 t) (iblk V a c 8 t) (iblk V a c 9 t)
    (wv0 (ht c) (ft0 V c) (bx (grid0.coords t))) (wv1 (ht c) (ft1 V c) (bx (grid0.coords t))) (wv2 (ht c) (ft2 V c) (bx (grid0.coords t))) (wv3 (ht c) (ft3 V c) (bx (grid0.coords t)))

def dats (_ : Fin 1) (c : Dev nD) : Dat τ (Elt F) Unit ℕ (Pipeline.UD sig nD τ) ℕ (cfg0 a) c where
  A w := rdV V c (Pipeline.arrRef spec0 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => iblk V a c 5 t
    | ⟨6, _⟩ => iblk V a c 6 t
    | ⟨7, _⟩ => iblk V a c 7 t
    | ⟨8, _⟩ => iblk V a c 8 t
    | ⟨9, _⟩ => iblk V a c 9 t
    | ⟨10, _⟩ => outAt V a ht c t
    | ⟨_ + 11, h⟩ => absurd h (Nat.not_lt.2 (Nat.le_add_left _ _))
  Φ t := PhiS V c t.val
  q _ := fullShare
  owed _ := 0

theorem A_eq (c : Dev nD) (w : Fin (cfg0 a).W) : (dats V a ht 0 c).A w = rdV V c (Pipeline.arrRef spec0 w) := by
  dsimp only [dats]
theorem after_0 (c : Dev nD) (t : Fin (cfg0 a).N) : (dats V a ht 0 c).after 0 t = iblk V a c 0 t := rfl
theorem before_0 (c : Dev nD) (t : Fin (cfg0 a).N) (d) : (dats V a ht 0 c).before 0 t d = iblk V a c 0 t :=
  ((dats V a ht 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (c : Dev nD) (t : Fin (cfg0 a).N) : (dats V a ht 0 c).after 1 t = iblk V a c 1 t := rfl
theorem before_1 (c : Dev nD) (t : Fin (cfg0 a).N) (d) : (dats V a ht 0 c).before 1 t d = iblk V a c 1 t :=
  ((dats V a ht 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (c : Dev nD) (t : Fin (cfg0 a).N) : (dats V a ht 0 c).after 2 t = iblk V a c 2 t := rfl
theorem before_2 (c : Dev nD) (t : Fin (cfg0 a).N) (d) : (dats V a ht 0 c).before 2 t d = iblk V a c 2 t :=
  ((dats V a ht 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (c : Dev nD) (t : Fin (cfg0 a).N) : (dats V a ht 0 c).after 3 t = iblk V a c 3 t := rfl
theorem before_3 (c : Dev nD) (t : Fin (cfg0 a).N) (d) : (dats V a ht 0 c).before 3 t d = iblk V a c 3 t :=
  ((dats V a ht 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem after_4 (c : Dev nD) (t : Fin (cfg0 a).N) : (dats V a ht 0 c).after 4 t = iblk V a c 4 t := rfl
theorem before_4 (c : Dev nD) (t : Fin (cfg0 a).N) (d) : (dats V a ht 0 c).before 4 t d = iblk V a c 4 t :=
  ((dats V a ht 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem after_5 (c : Dev nD) (t : Fin (cfg0 a).N) : (dats V a ht 0 c).after 5 t = iblk V a c 5 t := rfl
theorem before_5 (c : Dev nD) (t : Fin (cfg0 a).N) (d) : (dats V a ht 0 c).before 5 t d = iblk V a c 5 t :=
  ((dats V a ht 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem after_6 (c : Dev nD) (t : Fin (cfg0 a).N) : (dats V a ht 0 c).after 6 t = iblk V a c 6 t := rfl
theorem before_6 (c : Dev nD) (t : Fin (cfg0 a).N) (d) : (dats V a ht 0 c).before 6 t d = iblk V a c 6 t :=
  ((dats V a ht 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem after_7 (c : Dev nD) (t : Fin (cfg0 a).N) : (dats V a ht 0 c).after 7 t = iblk V a c 7 t := rfl
theorem before_7 (c : Dev nD) (t : Fin (cfg0 a).N) (d) : (dats V a ht 0 c).before 7 t d = iblk V a c 7 t :=
  ((dats V a ht 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem after_8 (c : Dev nD) (t : Fin (cfg0 a).N) : (dats V a ht 0 c).after 8 t = iblk V a c 8 t := rfl
theorem before_8 (c : Dev nD) (t : Fin (cfg0 a).N) (d) : (dats V a ht 0 c).before 8 t d = iblk V a c 8 t :=
  ((dats V a ht 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem after_9 (c : Dev nD) (t : Fin (cfg0 a).N) : (dats V a ht 0 c).after 9 t = iblk V a c 9 t := rfl
theorem before_9 (c : Dev nD) (t : Fin (cfg0 a).N) (d) : (dats V a ht 0 c).before 9 t d = iblk V a c 9 t :=
  ((dats V a ht 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem after_10 (c : Dev nD) (t : Fin (cfg0 a).N) : (dats V a ht 0 c).after 10 t = outAt V a ht c t := rfl
abbrev ms0 (t : Fin (cfg0 a).N) : Memref sig .tc .vmem S1x56x49 .f32 := spec0_0.stage ((cfg0 a).slots t 0)
abbrev hs0 (t : Fin (cfg0 a).N) : (ms0 a t).IsWhole := hstage0_0 (((cfg0 a).slots t 0).cast nbuf0_0)
abbrev ms1 (t : Fin (cfg0 a).N) : Memref sig .tc .vmem S1x64x49 .f32 := spec0_1.stage ((cfg0 a).slots t 1)
abbrev hs1 (t : Fin (cfg0 a).N) : (ms1 a t).IsWhole := hstage0_1 (((cfg0 a).slots t 1).cast nbuf0_1)
abbrev ms2 (t : Fin (cfg0 a).N) : Memref sig .tc .vmem S1x32x49 .f32 := spec0_2.stage ((cfg0 a).slots t 2)
abbrev hs2 (t : Fin (cfg0 a).N) : (ms2 a t).IsWhole := hstage0_2 (((cfg0 a).slots t 2).cast nbuf0_2)
abbrev ms3 (t : Fin (cfg0 a).N) : Memref sig .tc .vmem S1x40x49 .f32 := spec0_3.stage ((cfg0 a).slots t 3)
abbrev hs3 (t : Fin (cfg0 a).N) : (ms3 a t).IsWhole := hstage0_3 (((cfg0 a).slots t 3).cast nbuf0_3)
abbrev ms4 (t : Fin (cfg0 a).N) : Memref sig .tc .vmem S1x16x49 .f32 := spec0_4.stage ((cfg0 a).slots t 4)
abbrev hs4 (t : Fin (cfg0 a).N) : (ms4 a t).IsWhole := hstage0_4 (((cfg0 a).slots t 4).cast nbuf0_4)
abbrev ms5 (t : Fin (cfg0 a).N) : Memref sig .tc .vmem S1x24x49 .f32 := spec0_5.stage ((cfg0 a).slots t 5)
abbrev hs5 (t : Fin (cfg0 a).N) : (ms5 a t).IsWhole := hstage0_5 (((cfg0 a).slots t 5).cast nbuf0_5)
abbrev ms6 (t : Fin (cfg0 a).N) : Memref sig .tc .vmem S1x16x49 .f32 := spec0_6.stage ((cfg0 a).slots t 6)
abbrev hs6 (t : Fin (cfg0 a).N) : (ms6 a t).IsWhole := hstage0_6 (((cfg0 a).slots t 6).cast nbuf0_6)
abbrev ms7 (t : Fin (cfg0 a).N) : Memref sig .tc .vmem S1x16x49 .f32 := spec0_7.stage ((cfg0 a).slots t 7)
abbrev hs7 (t : Fin (cfg0 a).N) : (ms7 a t).IsWhole := hstage0_7 (((cfg0 a).slots t 7).cast nbuf0_7)
abbrev ms8 (t : Fin (cfg0 a).N) : Memref sig .tc .vmem S4x256x256 .f32 := spec0_8.stage ((cfg0 a).slots t 8)
abbrev hs8 (t : Fin (cfg0 a).N) : (ms8 a t).IsWhole := hstage0_8 (((cfg0 a).slots t 8).cast nbuf0_8)
abbrev ms9 (t : Fin (cfg0 a).N) : Memref sig .tc .vmem S1x256 .f32 := spec0_9.stage ((cfg0 a).slots t 9)
abbrev hs9 (t : Fin (cfg0 a).N) : (ms9 a t).IsWhole := hstage0_9 (((cfg0 a).slots t 9).cast nbuf0_9)
abbrev ms10 (t : Fin (cfg0 a).N) : Memref sig .tc .vmem S1x49x256 .f32 := spec0_10.stage ((cfg0 a).slots t 10)
abbrev hs10 (t : Fin (cfg0 a).N) : (ms10 a t).IsWhole := hstage0_10 (((cfg0 a).slots t 10).cast nbuf0_10)

/-- The body at point `t`. -/
abbrev bodyAt (t : Fin (cfg0 a).N) : Prog (TpuEff nD τ sig (Elt F) Λ₀ .tc) PUnit := bodyG (F := F) (grid0.coords t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (ms8 a t) (hs8 a t) (ms9 a t) (hs9 a t) (ms10 a t) (hs10 a t)
theorem defs₀_row (t : Fin (cfg0 a).N) :
    defs₀ (F := F) .tc (cfg0 a).body ((cfg0 a).bodyArgs t ((cfg0 a).slots t)) = bodyAt a t := by
  unfold defs₀; rw [Defs.onTc_tc]

theorem coords_val : ∀ t : Fin grid0.N, 256 * (grid0.coords t 0).val + (grid0.coords t 1).val = t.val := by decide +kernel
theorem coords_lt (t : Fin grid0.N) : (grid0.coords t 0).val < 2 ∧ (grid0.coords t 1).val < 256 := ⟨(grid0.coords t 0).isLt, (grid0.coords t 1).isLt⟩
theorem sl_eq (t : Fin grid0.N) : sl (grid0.coords t) = Fin.ofNat 2 t.val := by
  apply Fin.ext; have := coords_val t; show (grid0.coords t 1).val % 2 = t.val % 2; omega
theorem nsl_eq (t : Fin grid0.N) : nsl (grid0.coords t) = Fin.ofNat 2 (t.val + 1) := by
  apply Fin.ext; have := coords_val t; show ((grid0.coords t 1).val + 1) % 2 = (t.val + 1) % 2; omega
theorem bx_eq (t : Fin grid0.N) : bx (grid0.coords t) = Fin.ofNat 512 t.val := by
  apply Fin.ext; have := coords_val t; have := coords_lt t; show 256 * (grid0.coords t 0).val + (grid0.coords t 1).val = t.val % 512; omega
theorem nbx_eq (t : Fin grid0.N) (h) : nbx (grid0.coords t) h = Fin.ofNat 512 (t.val + 1) := by
  apply Fin.ext; have := coords_val t; have := coords_lt t; have h' := (cond2_iff _).1 h
  show 256 * (grid0.coords t 0).val + (grid0.coords t 1).val + 1 = (t.val + 1) % 512; omega

def bodyPre (c : Dev nD) (t : Fin (cfg0 a).N) : sProp 𝕄 :=
  iprop((dats V a ht 0 c).Φ t.castSucc ∗ (dats V a ht 0 c).owesAt () t.castSucc ∗ (∃ d, owns (c : Thread nD τ) (ms0 a t) fullShare ((dats V a ht 0 c).before 0 t d)) ∗ (∃ d, owns (c : Thread nD τ) (ms1 a t) fullShare ((dats V a ht 0 c).before 1 t d)) ∗ (∃ d, owns (c : Thread nD τ) (ms2 a t) fullShare ((dats V a ht 0 c).before 2 t d)) ∗ (∃ d, owns (c : Thread nD τ) (ms3 a t) fullShare ((dats V a ht 0 c).before 3 t d)) ∗ (∃ d, owns (c : Thread nD τ) (ms4 a t) fullShare ((dats V a ht 0 c).before 4 t d)) ∗ (∃ d, owns (c : Thread nD τ) (ms5 a t) fullShare ((dats V a ht 0 c).before 5 t d)) ∗ (∃ d, owns (c : Thread nD τ) (ms6 a t) fullShare ((dats V a ht 0 c).before 6 t d)) ∗ (∃ d, owns (c : Thread nD τ) (ms7 a t) fullShare ((dats V a ht 0 c).before 7 t d)) ∗ (∃ d, owns (c : Thread nD τ) (ms8 a t) fullShare ((dats V a ht 0 c).before 8 t d)) ∗ (∃ d, owns (c : Thread nD τ) (ms9 a t) fullShare ((dats V a ht 0 c).before 9 t d)) ∗ (∃ d, owns (c : Thread nD τ) (ms10 a t) fullShare ((dats V a ht 0 c).before 10 t d)))
def bodyPost (c : Dev nD) (t : Fin (cfg0 a).N) : sProp 𝕄 :=
  iprop((dats V a ht 0 c).Φ t.succ ∗ (dats V a ht 0 c).owesAt () t.succ ∗ owns (c : Thread nD τ) (ms0 a t) fullShare ((dats V a ht 0 c).after 0 t) ∗ owns (c : Thread nD τ) (ms1 a t) fullShare ((dats V a ht 0 c).after 1 t) ∗ owns (c : Thread nD τ) (ms2 a t) fullShare ((dats V a ht 0 c).after 2 t) ∗ owns (c : Thread nD τ) (ms3 a t) fullShare ((dats V a ht 0 c).after 3 t) ∗ owns (c : Thread nD τ) (ms4 a t) fullShare ((dats V a ht 0 c).after 4 t) ∗ owns (c : Thread nD τ) (ms5 a t) fullShare ((dats V a ht 0 c).after 5 t) ∗ owns (c : Thread nD τ) (ms6 a t) fullShare ((dats V a ht 0 c).after 6 t) ∗ owns (c : Thread nD τ) (ms7 a t) fullShare ((dats V a ht 0 c).after 7 t) ∗ owns (c : Thread nD τ) (ms8 a t) fullShare ((dats V a ht 0 c).after 8 t) ∗ owns (c : Thread nD τ) (ms9 a t) fullShare ((dats V a ht 0 c).after 9 t) ∗ owns (c : Thread nD τ) (ms10 a t) fullShare ((dats V a ht 0 c).after 10 t))

/-- The body's triple from the slots `A` to the slots `B`, restated over the pipeline's assertions. -/
theorem body_of (c : Dev nD) (t : Fin (cfg0 a).N) (A A' B : sProp 𝕄)
    (hA : PhiS V c t.val ⊢ iprop(A ∗ A' ∗ (∃ r, prngReg c r) ∗ tabsP c (tab5 V c) (tabY V c) (tabX V c) fullShare.right))
    (hB : iprop(B ∗ (∃ r, prngReg c r) ∗ tabsP c (tab5 V c) (tabY V c) (tabX V c) fullShare.right) ⊢ PhiS V c (t.val + 1))
    (run : ∀ (W : Waits sig Unit) (K : PUnit → sProp 𝕄),
      iprop(owns (c : Thread nD τ) (ms0 a t) fullShare (iblk V a c 0 t) ∗ owns (c : Thread nD τ) (ms1 a t) fullShare (iblk V a c 1 t) ∗ owns (c : Thread nD τ) (ms2 a t) fullShare (iblk V a c 2 t) ∗ owns (c : Thread nD τ) (ms3 a t) fullShare (iblk V a c 3 t) ∗ owns (c : Thread nD τ) (ms4 a t) fullShare (iblk V a c 4 t) ∗ owns (c : Thread nD τ) (ms5 a t) fullShare (iblk V a c 5 t) ∗ owns (c : Thread nD τ) (ms6 a t) fullShare (iblk V a c 6 t) ∗ owns (c : Thread nD τ) (ms7 a t) fullShare (iblk V a c 7 t) ∗ owns (c : Thread nD τ) (ms8 a t) fullShare (iblk V a c 8 t) ∗ owns (c : Thread nD τ) (ms9 a t) fullShare (iblk V a c 9 t) ∗ (∃ d, owns (c : Thread nD τ) (ms10 a t) fullShare d) ∗ tabsP c (tab5 V c) (tabY V c) (tabX V c) fullShare.right ∗ A ∗ A' ∗ owes (c : Thread nD τ) 0 W
        ∗ (iprop(owns (c : Thread nD τ) (ms0 a t) fullShare (iblk V a c 0 t) ∗ owns (c : Thread nD τ) (ms1 a t) fullShare (iblk V a c 1 t) ∗ owns (c : Thread nD τ) (ms2 a t) fullShare (iblk V a c 2 t) ∗ owns (c : Thread nD τ) (ms3 a t) fullShare (iblk V a c 3 t) ∗ owns (c : Thread nD τ) (ms4 a t) fullShare (iblk V a c 4 t) ∗ owns (c : Thread nD τ) (ms5 a t) fullShare (iblk V a c 5 t) ∗ owns (c : Thread nD τ) (ms6 a t) fullShare (iblk V a c 6 t) ∗ owns (c : Thread nD τ) (ms7 a t) fullShare (iblk V a c 7 t) ∗ owns (c : Thread nD τ) (ms8 a t) fullShare (iblk V a c 8 t) ∗ owns (c : Thread nD τ) (ms9 a t) fullShare (iblk V a c 9 t) ∗ owns (c : Thread nD τ) (ms10 a t) fullShare (outAt V a ht c t) ∗ tabsP c (tab5 V c) (tabY V c) (tabX V c) fullShare.right ∗ B ∗ (∃ W', owes (c : Thread nD τ) 0 W')) -∗ K ⟨⟩))
      ⊢ wp frame (wpE (defs₀ (F := F)) Variants.none c none) Set.univ (bodyAt a t) K) :
    bodyPre V a ht c t ⊢ wp frame (wpE (defs₀ (F := F)) Variants.none c none) Set.univ (bodyAt a t) (fun _ => bodyPost V a ht c t) := by
  unfold bodyPre bodyPost
  simp only [before_0, before_1, before_2, before_3, before_4, before_5, before_6, before_7, before_8, before_9]
  rw [after_0, after_1, after_2, after_3, after_4, after_5, after_6, after_7, after_8, after_9, after_10]
  rw [show (dats V a ht 0 c).Φ t.castSucc = PhiS V c t.val from by dsimp only [dats]; exact Dat.Φ_castSucc (fun n _ => PhiS V c n) t, show (dats V a ht 0 c).Φ t.succ = PhiS V c (t.val + 1) from rfl]
  unfold Dat.owesAt Pipeline.owesWithin
  rw [show (dats V a ht 0 c).owed t.castSucc = 0 from rfl, show (dats V a ht 0 c).owed t.succ = 0 from rfl]
  iintro ⟨HP, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HP := hA $$ HP
  icases HP with ⟨HA, HA', Hg, HT⟩
  iapply (run W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HT]; · iexact HT
  isplitl [HA]; · iexact HA
  isplitl [HA']; · iexact HA'
  isplitl [HW]; · iexact HW
  iintro ⟨H0, H1, H2, H3, H4, H5, H6, H7, H8, H9, H10, HT, HB, ⟨%W', HW'⟩⟩
  isplitl [HB Hg HT]
  · iapply hB
    isplitl [HB]; · iexact HB
    isplitl [Hg]; · iexact Hg
    iexact HT
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem sound_body (c : Dev nD) (t : Fin (cfg0 a).N) :
    bodyPre V a ht c t ⊢ wp frame (wpE (defs₀ (F := F)) Variants.none c none) Set.univ (bodyAt a t) (fun _ => bodyPost V a ht c t) := by
  have hv := coords_val t
  have hl := coords_lt t
  by_cases h1 : (grid0.coords t 1).val = 0
  · have h1' := (cond1_iff (grid0.coords t)).2 h1
    have h2' := (cond2_iff (grid0.coords t)).2 (by omega)
    have hm : t.val % 256 = 0 := by omega
    have hm' : ¬ (t.val + 1) % 256 = 0 := by omega
    have hS : sl (grid0.coords t) = 0 := by apply Fin.ext; show (grid0.coords t 1).val % 2 = 0; omega
    have hN : nsl (grid0.coords t) = 1 := by apply Fin.ext; show ((grid0.coords t 1).val + 1) % 2 = 1; omega
    have e1 : (Fin.ofNat 2 (t.val + 1) : Fin 2) = 1 := (nsl_eq t).symm.trans hN
    have e2 : (Fin.ofNat 2 (t.val + 1 + 1) : Fin 2) = 0 := by apply Fin.ext; show (t.val + 1 + 1) % 2 = 0; omega
    refine body_of V a ht c t (freeP c (ft0 V c) (ft1 V c) (ft2 V c) (ft3 V c) (0)) (freeP c (ft0 V c) (ft1 V c) (ft2 V c) (ft3 V c) (1))
      iprop(freeP c (ft0 V c) (ft1 V c) (ft2 V c) (ft3 V c) (0) ∗ busyP c (tab5 V c) (tabY V c) (tabX V c) (ft0 V c) (ft1 V c) (ft2 V c) (ft3 V c) (1) (nbx (grid0.coords t) h2')) ?_ ?_ (fun W K => ?_)
    · unfold PhiS; rw [if_pos hm]
      iintro ⟨⟨H0, H1⟩, Hg, HT⟩
      isplitl [H0]; · iexact H0
      isplitl [H1]; · iexact H1
      isplitl [Hg]; · iexact Hg
      iexact HT
    · unfold PhiS; rw [if_neg hm', e1, e2, nbx_eq]
      iintro ⟨⟨H0, H1⟩, Hg, HT⟩
      isplitl [H0 H1]
      · isplitl [H1]; · iexact H1
        iexact H0
      isplitl [Hg]; · iexact Hg
      iexact HT
    · refine (?_ : _ ⊢ _).trans (runF c (grid0.coords t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (ms8 a t) (hs8 a t) (ms9 a t) (hs9 a t) (ms10 a t) (hs10 a t) fullShare.right (ht c) (ft0 V c) (ft1 V c) (ft2 V c) (ft3 V c) (iblk V a c 0 t) (iblk V a c 1 t) (iblk V a c 2 t) (iblk V a c 3 t) (iblk V a c 4 t) (iblk V a c 5 t) (iblk V a c 6 t) (iblk V a c 7 t) (iblk V a c 8 t) (iblk V a c 9 t) h1' h2' hS hN W K)
      iintro ⟨H0, H1, H2, H3, H4, H5, H6, H7, H8, H9, H10, HT, HA, HA', HW, HK⟩
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HT]; · iexact HT
      isplitl [HA]; · iexact HA
      isplitl [HA']; · iexact HA'
      isplitl [HW]; · iexact HW
      iintro ⟨H0, H1, H2, H3, H4, H5, H6, H7, H8, H9, H10, HT, HB, HB', HW⟩
      iapply HK
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HT]; · iexact HT
      isplitl [HB HB']
      · isplitl [HB]; · iexact HB
        iexact HB'
      iexact HW
  · have h1' := fun h => h1 ((cond1_iff (grid0.coords t)).1 h)
    have hm : ¬ t.val % 256 = 0 := by omega
    by_cases h2 : (grid0.coords t 1).val + 1 < 256
    · have h2' := (cond2_iff (grid0.coords t)).2 h2
      have hm' : ¬ (t.val + 1) % 256 = 0 := by omega
      have e2 : (Fin.ofNat 2 (t.val + 1 + 1) : Fin 2) = Fin.ofNat 2 t.val := by apply Fin.ext; show (t.val + 1 + 1) % 2 = t.val % 2; omega
      refine body_of V a ht c t (busyP c (tab5 V c) (tabY V c) (tabX V c) (ft0 V c) (ft1 V c) (ft2 V c) (ft3 V c) (sl (grid0.coords t)) (bx (grid0.coords t))) (freeP c (ft0 V c) (ft1 V c) (ft2 V c) (ft3 V c) (nsl (grid0.coords t)))
        iprop(freeP c (ft0 V c) (ft1 V c) (ft2 V c) (ft3 V c) (sl (grid0.coords t)) ∗ busyP c (tab5 V c) (tabY V c) (tabX V c) (ft0 V c) (ft1 V c) (ft2 V c) (ft3 V c) (nsl (grid0.coords t)) (nbx (grid0.coords t) h2')) ?_ ?_ (fun W K => ?_)
      · unfold PhiS; rw [if_neg hm, sl_eq, nsl_eq, bx_eq]
        iintro ⟨⟨H0, H1⟩, Hg, HT⟩
        isplitl [H0]; · iexact H0
        isplitl [H1]; · iexact H1
        isplitl [Hg]; · iexact Hg
        iexact HT
      · unfold PhiS; rw [if_neg hm', e2, nbx_eq, sl_eq, nsl_eq]
        iintro ⟨⟨H0, H1⟩, Hg, HT⟩
        isplitl [H0 H1]
        · isplitl [H1]; · iexact H1
          iexact H0
        isplitl [Hg]; · iexact Hg
        iexact HT
      · refine (?_ : _ ⊢ _).trans (runM c (grid0.coords t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (ms8 a t) (hs8 a t) (ms9 a t) (hs9 a t) (ms10 a t) (hs10 a t) fullShare.right (ht c) (ft0 V c) (ft1 V c) (ft2 V c) (ft3 V c) (iblk V a c 0 t) (iblk V a c 1 t) (iblk V a c 2 t) (iblk V a c 3 t) (iblk V a c 4 t) (iblk V a c 5 t) (iblk V a c 6 t) (iblk V a c 7 t) (iblk V a c 8 t) (iblk V a c 9 t) h1' h2' W K)
        iintro ⟨H0, H1, H2, H3, H4, H5, H6, H7, H8, H9, H10, HT, HA, HA', HW, HK⟩
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HT]; · iexact HT
        isplitl [HA]; · iexact HA
        isplitl [HA']; · iexact HA'
        isplitl [HW]; · iexact HW
        iintro ⟨H0, H1, H2, H3, H4, H5, H6, H7, H8, H9, H10, HT, HB, HB', HW⟩
        iapply HK
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HT]; · iexact HT
        isplitl [HB HB']
        · isplitl [HB]; · iexact HB
          iexact HB'
        iexact HW
    · have h2' := fun h => h2 ((cond2_iff (grid0.coords t)).1 h)
      have hm' : (t.val + 1) % 256 = 0 := by omega
      have eS : sl (grid0.coords t) = 1 := by apply Fin.ext; show (grid0.coords t 1).val % 2 = 1; omega
      have eN : nsl (grid0.coords t) = 0 := by apply Fin.ext; show ((grid0.coords t 1).val + 1) % 2 = 0; omega
      refine body_of V a ht c t (busyP c (tab5 V c) (tabY V c) (tabX V c) (ft0 V c) (ft1 V c) (ft2 V c) (ft3 V c) (sl (grid0.coords t)) (bx (grid0.coords t))) (freeP c (ft0 V c) (ft1 V c) (ft2 V c) (ft3 V c) (nsl (grid0.coords t)))
        iprop(freeP c (ft0 V c) (ft1 V c) (ft2 V c) (ft3 V c) (sl (grid0.coords t)) ∗ freeP c (ft0 V c) (ft1 V c) (ft2 V c) (ft3 V c) (nsl (grid0.coords t))) ?_ ?_ (fun W K => ?_)
      · unfold PhiS; rw [if_neg hm, sl_eq, nsl_eq, bx_eq]
        iintro ⟨⟨H0, H1⟩, Hg, HT⟩
        isplitl [H0]; · iexact H0
        isplitl [H1]; · iexact H1
        isplitl [Hg]; · iexact Hg
        iexact HT
      · unfold PhiS; rw [if_pos hm', eS, eN]
        iintro ⟨⟨H0, H1⟩, Hg, HT⟩
        isplitl [H0 H1]
        · isplitl [H1]; · iexact H1
          iexact H0
        isplitl [Hg]; · iexact Hg
        iexact HT
      · refine (?_ : _ ⊢ _).trans (runL c (grid0.coords t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (ms8 a t) (hs8 a t) (ms9 a t) (hs9 a t) (ms10 a t) (hs10 a t) fullShare.right (ht c) (ft0 V c) (ft1 V c) (ft2 V c) (ft3 V c) (iblk V a c 0 t) (iblk V a c 1 t) (iblk V a c 2 t) (iblk V a c 3 t) (iblk V a c 4 t) (iblk V a c 5 t) (iblk V a c 6 t) (iblk V a c 7 t) (iblk V a c 8 t) (iblk V a c 9 t) h1' h2' W K)
        iintro ⟨H0, H1, H2, H3, H4, H5, H6, H7, H8, H9, H10, HT, HA, HA', HW, HK⟩
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HT]; · iexact HT
        isplitl [HA]; · iexact HA
        isplitl [HW]; · iexact HW
        iintro ⟨H0, H1, H2, H3, H4, H5, H6, H7, H8, H9, H10, HT, HB, HW⟩
        iapply HK
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HT]; · iexact HT
        isplitl [HB HA']
        · isplitl [HB]; · iexact HB
          iexact HA'
        iexact HW

theorem body_obligation (c : Dev nD) : BodyObligation (dats V a ht 0 c) (defs₀ (F := F)) Variants.none () Set.univ := fun t => by
  rw [bigSep_W0, bigSep_W0, defs₀_row]
  exact triple_restated (sound_body V a ht c t) rfl .rfl fun _ => .rfl
end Data

end Cert.Kernel2Ideal.Hand

end
-- ==== Proof.Kernel2Ideal.Run.lean ====
/- The run of the kernel and its host lines: what every buffer holds at the end, and that the argument arrays end as they began. -/
module

public import proofs.«01_k».proof.Proof.Kernel2Ideal.Frame
public import Idealize.ShloMosaic.Lib.StableHlo.RunRead

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

set_option maxRecDepth 100000 in
set_option maxHeartbeats 40000000 in
/-- No host line before the launch allocates a buffer. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- What the core's buffers hold when the kernel is launched. -/
def V₀ (m : (ℓ : Loc nD τ sig) → Buf (Elt F) ℓ) (c : Dev nD) : Valuation τ sig (Elt F) :=
  StableHlo.after [hostOps0].flatten (fun b => m (c, b))

set_option maxHeartbeats 8000000 in
/-- The host lines leave the arguments as they were. -/
theorem V₀_args (m : (ℓ : Loc nD τ sig) → Buf (Elt F) ℓ) (c : Dev nD) :
    V₀ m c (Proc.devRef .tc main_arg0) = m (c, Proc.devRef .tc main_arg0)
    ∧ V₀ m c (Proc.devRef .tc main_arg1) = m (c, Proc.devRef .tc main_arg1)
    ∧ V₀ m c (Proc.devRef .tc main_arg2) = m (c, Proc.devRef .tc main_arg2)
    ∧ V₀ m c (Proc.devRef .tc main_arg3) = m (c, Proc.devRef .tc main_arg3)
    ∧ V₀ m c (Proc.devRef .tc main_arg4) = m (c, Proc.devRef .tc main_arg4)
    ∧ V₀ m c (Proc.devRef .tc main_arg5) = m (c, Proc.devRef .tc main_arg5)
    ∧ V₀ m c (Proc.devRef .tc main_arg6) = m (c, Proc.devRef .tc main_arg6)
    ∧ V₀ m c (Proc.devRef .tc main_arg7) = m (c, Proc.devRef .tc main_arg7)
    ∧ V₀ m c (Proc.devRef .tc main_arg8) = m (c, Proc.devRef .tc main_arg8)
    ∧ V₀ m c (Proc.devRef .tc main_arg9) = m (c, Proc.devRef .tc main_arg9)
    ∧ V₀ m c (Proc.devRef .tc main_arg10) = m (c, Proc.devRef .tc main_arg10)
    ∧ V₀ m c (Proc.devRef .tc main_arg11) = m (c, Proc.devRef .tc main_arg11)
    ∧ V₀ m c (Proc.devRef .tc main_arg12) = m (c, Proc.devRef .tc main_arg12)
    ∧ V₀ m c (Proc.devRef .tc main_arg13) = m (c, Proc.devRef .tc main_arg13)
    ∧ V₀ m c (Proc.devRef .tc main_arg14) = m (c, Proc.devRef .tc main_arg14)
    ∧ V₀ m c (Proc.devRef .tc main_arg15) = m (c, Proc.devRef .tc main_arg15)
    ∧ V₀ m c (Proc.devRef .tc main_arg16) = m (c, Proc.devRef .tc main_arg16) := by
  unfold V₀; rw [List.flatten_singleton]
  refine ⟨?_, ?_, ?_, ?_, ?_, ?_, ?_, ?_, ?_, ?_, ?_, ?_, ?_, ?_, ?_, ?_, ?_⟩ <;> after_reads_simp

theorem V₀_eq (m : (ℓ : Loc nD τ sig) → Buf (Elt F) ℓ) (c : Dev nD) : V₀ m c = StableHlo.after [hostOps0].flatten (fun b => m (c, b)) := rfl
attribute [irreducible] V₀

/-- The tables the launch reads. -/
def adm (m : (ℓ : Loc nD τ sig) → Buf (Elt F) ℓ) : (p : Fin 1) → (pcfgs (F := F) p).Adm := fun
  | 0 => ⟨fun k => V₀ m 0 (Proc.devRef .tc (pre0.ref k)), trivial⟩

/-- The two host lines after the launch: what they touch, and that they write no array of the launch. -/
theorem tail_sub : ∀ ops ∈ [hostOps1 (F := F)], ∀ op ∈ ops, op.bufs ⊆ Pipeline.tailRefsBut sig pre0 spec0 H0 := by
  intro ops ho op hop
  obtain rfl := List.mem_singleton.1 ho
  rcases List.mem_cons.1 hop with rfl | hop
  · show ({Proc.devRef .tc main_call0_v363, Proc.devRef .tc main_call0_v364} : Finset (DevRef τ sig)) ⊆ _
    decide +kernel
  · obtain rfl := List.mem_singleton.1 hop
    show ({Proc.devRef .tc main_call0_v364, Proc.devRef .tc main_v0} : Finset (DevRef τ sig)) ⊆ _
    decide +kernel
theorem tail_fresh : ∀ ops ∈ [hostOps1 (F := F)], ∀ op ∈ ops, op.fresh = ∅ := by
  intro ops ho op hop
  obtain rfl := List.mem_singleton.1 ho
  rcases List.mem_cons.1 hop with rfl | hop
  · rfl
  · obtain rfl := List.mem_singleton.1 hop
    rfl
theorem tail_keep : ∀ ops ∈ [hostOps1 (F := F)], ∀ op ∈ ops, ∀ w, Proc.devRef .tc (Pipeline.arrRef spec0 w) ∉ op.writes := by
  intro ops ho op hop
  obtain rfl := List.mem_singleton.1 ho
  rcases List.mem_cons.1 hop with rfl | hop
  · show ∀ w : Fin 11, Proc.devRef .tc (Pipeline.arrRef spec0 w) ∉ ({Proc.devRef .tc main_call0_v364} : Finset (DevRef τ sig))
    decide +kernel
  · obtain rfl := List.mem_singleton.1 hop
    show ∀ w : Fin 11, Proc.devRef .tc (Pipeline.arrRef spec0 w) ∉ ({Proc.devRef .tc main_v0} : Finset (DevRef τ sig))
    decide +kernel

section
variable (m : (ℓ : Loc nD τ sig) → Buf (Elt F) ℓ) (g : Dev nD → PrngReg)

theorem hmain₀ : Pipeline.HMainPK (Ix := Unit) (Name := ℕ) (U := Pipeline.UD sig nD τ) (Lvl := ℕ) pcfgs 0 defs₀ Variants.none m (main (F := F))
    (fun c b => V₀ m c (Proc.devRef .tc b)) (fun _ => Pipeline.chain ([hostOps1].map StableHlo.seq)) := by
  simp only [V₀_eq]
  exact Pipeline.hmainP_around pcfgs 0 defs₀ Variants.none m main [hostOps0] [hostOps1] hostOps0_sub hostOps0_fresh main_chain
theorem tabs_gen (v : pre0.Contents (Elt F)) (c : Dev nD) : (Pipeline.ΦT pre0 v c : sProp 𝕄) ⊢ tabsP c (v 0) (v 1) (v 2) fullShare.right := by
  unfold Pipeline.ΦT Pipeline.prefHeld tabsP
  rw [show (bigSep (Finset.univ : Finset (Fin 3)) (fun k => ((c.tc : Thread nD τ).loc (pre0.ref k)) ↦{fullShare.right} v k) : sProp 𝕄)
    = _ from bigSep_univ_eq_bigSepL [(0 : Fin 3), 1, 2] (by decide) (by decide) _]
  exact .rfl
theorem tabs_of (c : Dev nD) : (Pipeline.ΦT pre0 (adm m 0).1 c : sProp 𝕄) ⊢ tabsP c (tab5 (V₀ m) c) (tabY (V₀ m) c) (tabX (V₀ m) c) fullShare.right := by
  obtain rfl : c = 0 := Subsingleton.elim _ _
  exact tabs_gen (adm m 0).1 0

variable (hT : ∀ c, TabOk (tab5 (V₀ m) c) (tabY (V₀ m) c) (tabX (V₀ m) c))

set_option backward.isDefEq.respectTransparency.types false in
theorem run_main : θ_run defs (onTc (τ := τ) (main (F := F))) (s₀ m g) (fun r =>
    Pipeline.FramePost (Pipeline.pin pcfgs (adm m)) (dats (V₀ m) (adm m 0) hT) 0 (Pipeline.afterTail pcfgs (adm m) (dats (V₀ m) (adm m 0) hT) 0 (V₀ m) [hostOps1]) r ∧ r.2.sem = fun _ => 0) :=
  Pipeline.θ_run_frameP_dma_around (Q' := _) pcfgs (adm m) (dats (V₀ m) (adm m 0) hT) (0 : Fin 1) launch0 osem0 defs₀ Variants.none ownSemFacts0 H0 H0_sub m g main
    (hbody := fun c => (body_obligation (V₀ m) (adm m 0) hT c).loose) (hshare := fun c => (dats (V₀ m) (adm m 0) hT 0 c).share_full fun _ => rfl)
    (howed := fun _ _ => rfl) (V₀ := V₀ m) (opss := [hostOps1])
    (hsub := tail_sub) (hfresh := tail_fresh) (hkeep := tail_keep)
    (hmain := hmain₀ m)
    (hA := A_eq (V₀ m) (adm m 0) hT)
    (hpf := fun c k => by obtain rfl : c = 0 := Subsingleton.elim _ _; rfl)
    (hin := fun c => phi_in (V₀ m) c _ (tabs_of m c)) (hout := fun c => phi_out (V₀ m) c)

/-- An argument array is none of the launch's arrays, and no host line writes one. -/
theorem arg_end (c : Dev nD) (b : Ref sig .tc) (hb : ∀ w, Pipeline.arrRef spec0 w ≠ b) (h1 : b ≠ main_call0_v364) (h2 : b ≠ main_v0)
    (h0 : V₀ m c (Proc.devRef .tc b) = m (c, Proc.devRef .tc b)) :
    Pipeline.afterTail pcfgs (adm m) (dats (V₀ m) (adm m 0) hT) 0 (V₀ m) [hostOps1] c b = m (c, Proc.devRef .tc b) := by
  unfold Pipeline.afterTail
  rw [List.flatten_singleton]
  refine (StableHlo.after_unwritten [main_call0_v364, main_v0] rfl (by simp [h1, h2]) _).trans ?_
  exact (Pipeline.withArrays_of_ne spec0 c (V₀ m c) _ b hb).trans h0

/-- The argument arrays. -/
abbrev isArg (b : Ref sig .tc) : Prop := (∀ w, Pipeline.arrRef spec0 w ≠ b) ∧ b ≠ main_call0_v364 ∧ b ≠ main_v0 ∧ b ∈ Pipeline.restRefs sig spec0

/-- After the run an argument array holds what it held. -/
theorem arg_kept {r : PUnit × MemSt nD τ sig (Elt F)}
    (H : Pipeline.FramePost (Pipeline.pin pcfgs (adm m)) (dats (V₀ m) (adm m 0) hT) 0 (Pipeline.afterTail pcfgs (adm m) (dats (V₀ m) (adm m 0) hT) 0 (V₀ m) [hostOps1]) r)
    (c : Dev nD) (b : Ref sig .tc) (hb : isArg b) (h0 : V₀ m c (Proc.devRef .tc b) = m (c, Proc.devRef .tc b)) : r.2.mem ((c.tc : Thread nD τ).loc b) = m ((c.tc : Thread nD τ).loc b) :=
  ((H c).2 b hb.2.2.2).trans (arg_end m hT c b hb.1 hb.2.1 hb.2.2.1 h0)

/-- The seventeen argument arrays hold what they held. -/
abbrev Kept (r : PUnit × MemSt nD τ sig (Elt F)) (c : Dev nD) : Prop :=
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)

/-- They do after the run. -/
theorem args_kept {r : PUnit × MemSt nD τ sig (Elt F)}
    (H : Pipeline.FramePost (Pipeline.pin pcfgs (adm m)) (dats (V₀ m) (adm m 0) hT) 0 (Pipeline.afterTail pcfgs (adm m) (dats (V₀ m) (adm m 0) hT) 0 (V₀ m) [hostOps1]) r)
    (c : Dev nD) :
      Kept m r c :=
  ⟨arg_kept m hT H c main_arg0 (by decide) ((V₀_args m c).1), arg_kept m hT H c main_arg1 (by decide) ((V₀_args m c).2.1), arg_kept m hT H c main_arg2 (by decide) ((V₀_args m c).2.2.1), arg_kept m hT H c main_arg3 (by decide) ((V₀_args m c).2.2.2.1), arg_kept m hT H c main_arg4 (by decide) ((V₀_args m c).2.2.2.2.1), arg_kept m hT H c main_arg5 (by decide) ((V₀_args m c).2.2.2.2.2.1), arg_kept m hT H c main_arg6 (by decide) ((V₀_args m c).2.2.2.2.2.2.1), arg_kept m hT H c main_arg7 (by decide) ((V₀_args m c).2.2.2.2.2.2.2.1), arg_kept m hT H c main_arg8 (by decide) ((V₀_args m c).2.2.2.2.2.2.2.2.1), arg_kept m hT H c main_arg9 (by decide) ((V₀_args m c).2.2.2.2.2.2.2.2.2.1), arg_kept m hT H c main_arg10 (by decide) ((V₀_args m c).2.2.2.2.2.2.2.2.2.2.1), arg_kept m hT H c main_arg11 (by decide) ((V₀_args m c).2.2.2.2.2.2.2.2.2.2.2.1), arg_kept m hT H c main_arg12 (by decide) ((V₀_args m c).2.2.2.2.2.2.2.2.2.2.2.2.1), arg_kept m hT H c main_arg13 (by decide) ((V₀_args m c).2.2.2.2.2.2.2.2.2.2.2.2.2.1), arg_kept m hT H c main_arg14 (by decide) ((V₀_args m c).2.2.2.2.2.2.2.2.2.2.2.2.2.2.1), arg_kept m hT H c main_arg15 (by decide) ((V₀_args m c).2.2.2.2.2.2.2.2.2.2.2.2.2.2.2.1), arg_kept m hT H c main_arg16 (by decide) ((V₀_args m c).2.2.2.2.2.2.2.2.2.2.2.2.2.2.2.2)⟩

end

end Cert.Kernel2Ideal.Hand

end
-- ==== Proof.Kernel2Ideal.Tables.lean ====
/- The tables that the precondition allows: every window they place lies inside its features, and begins at a multiple of eight columns. -/
module

public import proofs.«01_k».proof.Proof.Kernel2Ideal.Run
public import proofs.«01_k».proof.Pre_windows_inside
public import Idealize.ShloMosaic.Lib.StableHlo.Predicate
public import Idealize.ShloMosaic.Lib.Pointwise

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL.Sem

variable {F : FTy → Type} [FloatOps F]

/-- A word whose signed value lies in `[0, k]` is at most `k`. -/
theorem le_of_cmpi (q k : BitVec 32) (hk : k.toNat < 2 ^ 31) (h1 : IntOp.cmpi .sge q 0#32 = 1#1) (h2 : IntOp.cmpi .sle q k = 1#1) : q.toNat ≤ k.toNat := by
  have hk' : k.toInt = k.toNat := StableHlo.Predicate.toInt_eq_toNat_of_lt hk
  simp only [IntOp.cmpi, StableHlo.Predicate.ofBool_eq_one_iff, BitVec.slt, BitVec.sle, decide_eq_true_eq] at h1 h2
  have hq := BitVec.toInt_eq_toNat_cond q
  simp at h1
  split at hq <;> omega
/-- A word whose low three bits are clear is a multiple of eight. -/
theorem dvd_of_cmpi (q : BitVec 32) (h : IntOp.cmpi .eq (IntOp.andi q 7#32) 0#32 = 1#1) : 8 ∣ q.toNat := by
  have h' : q &&& 7#32 = 0#32 := by
    simpa [IntOp.cmpi, IntOp.andi, StableHlo.Predicate.ofBool_eq_one_iff] using h
  have h3 := congrArg BitVec.toNat h'
  rw [BitVec.toNat_and] at h3
  have : q.toNat &&& 7 = q.toNat % 8 := Nat.and_two_pow_sub_one_eq_mod q.toNat 3
  simp at h3; omega

/-- A sample lies between the first pixel of its window and the last, `r` further on. -/
abbrev Held (s : FVec F S512x14 .f32) (a : IVec S4x512 32) (l : Fin 4) (r : BitVec 32) (n : Fin 512) (j : Fin 14) : Prop :=
  FloatOps.cmpf .oge (s (ix2 n j)) (FloatOps.sitofp .f32 (a (ix2 l n))) = 1#1 ∧ FloatOps.cmpf .ole (s (ix2 n j)) (FloatOps.sitofp .f32 (IntOp.addi (a (ix2 l n)) r)) = 1#1

set_option maxHeartbeats 4000000 in
/-- What the precondition says of one box and one sample. -/
theorem pre_fields [Cert.Pre_windows_inside.Facts] (a0 : FVec F S2x256x256x256 .f32) (a1 : FVec F S2x256x128x128 .f32) (a2 : FVec F S2x256x64x64 .f32) (a3 : FVec F S2x256x32x32 .f32)
    (a4 : IVec S512 32) (a5 a6 : IVec S4x512 32) (a7 a8 a9 a10 a11 a12 a13 a14 : FVec F S512x14 .f32) (a15 : FVec F S256x1024 .f32) (a16 : FVec F S256 .f32)
    (h : Cert.Pre_windows_inside.fn (F := F) a0 a1 a2 a3 a4 a5 a6 a7 a8 a9 a10 a11 a12 a13 a14 a15 a16 = fun _ => 1#1) (n : Fin 512) (j : Fin 14) :
    ((a4 (ix1 n)).toNat < 2 ∧ ∀ l : Fin 4, (a5 (ix2 l n)).toNat ≤ maxY l ∧ (a6 (ix2 l n)).toNat ≤ maxX l ∧ 8 ∣ (a6 (ix2 l n)).toNat)
    ∧ Held a7 a5 0 55#32 n j ∧ Held a8 a6 0 63#32 n j ∧ Held a9 a5 1 31#32 n j ∧ Held a10 a6 1 39#32 n j ∧ Held a11 a5 2 15#32 n j ∧ Held a12 a6 2 23#32 n j ∧ Held a13 a5 3 15#32 n j ∧ Held a14 a6 3 15#32 n j := by
  have band : ∀ a b : BitVec 1, IntOp.andi a b = 1#1 → a = 1#1 ∧ b = 1#1 := by decide
  have band' : ∀ a b : BitVec 1, IntOp.andi a b = 1#1 ↔ a = 1#1 ∧ b = 1#1 := fun a b => ⟨band a b, fun h => by rw [h.1, h.2]; rfl⟩
  have e : IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.cmpi .sge (a4 (ix1 n)) 0#32) (IntOp.cmpi .slt (a4 (ix1 n)) 2#32))
      (IntOp.cmpi .sge (a5 (ix2 0 n)) 0#32))
      (IntOp.cmpi .sle (a5 (ix2 0 n)) 200#32))
      (IntOp.cmpi .sge (a6 (ix2 0 n)) 0#32))
      (IntOp.cmpi .sle (a6 (ix2 0 n)) 192#32))
      (IntOp.cmpi .eq (IntOp.andi (a6 (ix2 0 n)) 7#32) 0#32))
      (FloatOps.cmpf .oge (a7 (ix2 n j)) (FloatOps.sitofp .f32 (a5 (ix2 0 n)))))
      (FloatOps.cmpf .ole (a7 (ix2 n j)) (FloatOps.sitofp .f32 (IntOp.addi (a5 (ix2 0 n)) 55#32))))
      (FloatOps.cmpf .oge (a8 (ix2 n j)) (FloatOps.sitofp .f32 (a6 (ix2 0 n)))))
      (FloatOps.cmpf .ole (a8 (ix2 n j)) (FloatOps.sitofp .f32 (IntOp.addi (a6 (ix2 0 n)) 63#32))))
      (IntOp.cmpi .sge (a5 (ix2 1 n)) 0#32))
      (IntOp.cmpi .sle (a5 (ix2 1 n)) 96#32))
      (IntOp.cmpi .sge (a6 (ix2 1 n)) 0#32))
      (IntOp.cmpi .sle (a6 (ix2 1 n)) 88#32))
      (IntOp.cmpi .eq (IntOp.andi (a6 (ix2 1 n)) 7#32) 0#32))
      (FloatOps.cmpf .oge (a9 (ix2 n j)) (FloatOps.sitofp .f32 (a5 (ix2 1 n)))))
      (FloatOps.cmpf .ole (a9 (ix2 n j)) (FloatOps.sitofp .f32 (IntOp.addi (a5 (ix2 1 n)) 31#32))))
      (FloatOps.cmpf .oge (a10 (ix2 n j)) (FloatOps.sitofp .f32 (a6 (ix2 1 n)))))
      (FloatOps.cmpf .ole (a10 (ix2 n j)) (FloatOps.sitofp .f32 (IntOp.addi (a6 (ix2 1 n)) 39#32))))
      (IntOp.cmpi .sge (a5 (ix2 2 n)) 0#32))
      (IntOp.cmpi .sle (a5 (ix2 2 n)) 48#32))
      (IntOp.cmpi .sge (a6 (ix2 2 n)) 0#32))
      (IntOp.cmpi .sle (a6 (ix2 2 n)) 40#32))
      (IntOp.cmpi .eq (IntOp.andi (a6 (ix2 2 n)) 7#32) 0#32))
      (FloatOps.cmpf .oge (a11 (ix2 n j)) (FloatOps.sitofp .f32 (a5 (ix2 2 n)))))
      (FloatOps.cmpf .ole (a11 (ix2 n j)) (FloatOps.sitofp .f32 (IntOp.addi (a5 (ix2 2 n)) 15#32))))
      (FloatOps.cmpf .oge (a12 (ix2 n j)) (FloatOps.sitofp .f32 (a6 (ix2 2 n)))))
      (FloatOps.cmpf .ole (a12 (ix2 n j)) (FloatOps.sitofp .f32 (IntOp.addi (a6 (ix2 2 n)) 23#32))))
      (IntOp.cmpi .sge (a5 (ix2 3 n)) 0#32))
      (IntOp.cmpi .sle (a5 (ix2 3 n)) 16#32))
      (IntOp.cmpi .sge (a6 (ix2 3 n)) 0#32))
      (IntOp.cmpi .sle (a6 (ix2 3 n)) 16#32))
      (IntOp.cmpi .eq (IntOp.andi (a6 (ix2 3 n)) 7#32) 0#32))
      (FloatOps.cmpf .oge (a13 (ix2 n j)) (FloatOps.sitofp .f32 (a5 (ix2 3 n)))))
      (FloatOps.cmpf .ole (a13 (ix2 n j)) (FloatOps.sitofp .f32 (IntOp.addi (a5 (ix2 3 n)) 15#32))))
      (FloatOps.cmpf .oge (a14 (ix2 n j)) (FloatOps.sitofp .f32 (a6 (ix2 3 n)))))
      (FloatOps.cmpf .ole (a14 (ix2 n j)) (FloatOps.sitofp .f32 (IntOp.addi (a6 (ix2 3 n)) 15#32))) = 1#1 := by
    refine Eq.trans ?_ (congrFun h (ix2 n j))
    pointwise [Cert.Pre_windows_inside.fn, Cert.Pre_windows_inside.fn_part1, Cert.Pre_windows_inside.fn_part2, Cert.Pre_windows_inside.fn_part3, Cert.Pre_windows_inside.fn_part4, Cert.Pre_windows_inside.fn_part5, Cert.Pre_windows_inside.fn_part6, Cert.Pre_windows_inside.fn_part7, Cert.Pre_windows_inside.fn_part8, Cert.Pre_windows_inside.fn_part9]
  simp only [band'] at e
  obtain ⟨⟨⟨⟨⟨⟨⟨⟨⟨⟨⟨⟨⟨⟨⟨⟨⟨⟨⟨⟨⟨⟨⟨⟨⟨⟨⟨⟨⟨⟨⟨⟨⟨⟨⟨⟨⟨b0, b1⟩, y0⟩, Y0⟩, c0⟩, C0⟩, e0⟩, s0⟩, S0⟩, t0⟩, T0⟩, y1⟩, Y1⟩, c1⟩, C1⟩, e1⟩, s1⟩, S1⟩, t1⟩, T1⟩, y2⟩, Y2⟩, c2⟩, C2⟩, e2⟩, s2⟩, S2⟩, t2⟩, T2⟩, y3⟩, Y3⟩, c3⟩, C3⟩, e3⟩, s3⟩, S3⟩, t3⟩, T3⟩ := e
  refine ⟨⟨?_, fun l => ?_⟩, ⟨s0, S0⟩, ⟨t0, T0⟩, ⟨s1, S1⟩, ⟨t1, T1⟩, ⟨s2, S2⟩, ⟨t2, T2⟩, ⟨s3, S3⟩, ⟨t3, T3⟩⟩
  · simp only [IntOp.cmpi, StableHlo.Predicate.ofBool_eq_one_iff, BitVec.slt, BitVec.sle, decide_eq_true_eq] at b0 b1
    have hq := BitVec.toInt_eq_toNat_cond (a4 (ix1 n))
    simp at b0 b1
    split at hq <;> omega
  · match l with
    | 0 => exact ⟨le_of_cmpi _ 200#32 (by decide) y0 Y0, le_of_cmpi _ 192#32 (by decide) c0 C0, dvd_of_cmpi _ e0⟩
    | 1 => exact ⟨le_of_cmpi _ 96#32 (by decide) y1 Y1, le_of_cmpi _ 88#32 (by decide) c1 C1, dvd_of_cmpi _ e1⟩
    | 2 => exact ⟨le_of_cmpi _ 48#32 (by decide) y2 Y2, le_of_cmpi _ 40#32 (by decide) c2 C2, dvd_of_cmpi _ e2⟩
    | 3 => exact ⟨le_of_cmpi _ 16#32 (by decide) y3 Y3, le_of_cmpi _ 16#32 (by decide) c3 C3, dvd_of_cmpi _ e3⟩

variable (m : (ℓ : Loc nD τ sig) → Buf (Elt F) ℓ)

/-- The three tables are argument arrays. -/
theorem tab5_eq (c : Dev nD) : tab5 (V₀ m) c = m (c, Proc.devRef .tc main_arg4) := (V₀_args m c).2.2.2.2.1
theorem tabY_eq (c : Dev nD) : tabY (V₀ m) c = m (c, Proc.devRef .tc main_arg5) := (V₀_args m c).2.2.2.2.2.1
theorem tabX_eq (c : Dev nD) : tabX (V₀ m) c = m (c, Proc.devRef .tc main_arg6) := (V₀_args m c).2.2.2.2.2.2.1

theorem ix1_eq (n : Fin 512) : (fun a => match a with | ⟨0, _⟩ => n : S512.Idx) = ix1 n := funext fun a => match a with | ⟨0, _⟩ => rfl
theorem ix2_eq (l : Fin 4) (n : Fin 512) : (fun a => match a with | ⟨0, _⟩ => l | ⟨1, _⟩ => n : S4x512.Idx) = ix2 l n :=
  funext fun a => match a with | ⟨0, _⟩ => rfl | ⟨1, _⟩ => rfl
theorem w5_eq {c : Dev nD} (T : TBuf5 (F := F) c) (n : Fin 512) : w5 T n = T (ix1 n) := by rw [← ix1_eq]; rfl
theorem wY_eq {c : Dev nD} (T : TBufY (F := F) c) (l : Fin 4) (n : Fin 512) : wY T l n = T (ix2 l n) := by rw [← ix2_eq]; rfl
theorem wX_eq {c : Dev nD} (T : TBufX (F := F) c) (l : Fin 4) (n : Fin 512) : wX T l n = T (ix2 l n) := by rw [← ix2_eq]; rfl

/-- The precondition, of the arrays the memory holds on one device. -/
abbrev PreAt [Cert.Pre_windows_inside.Facts] (c : Dev nD) : Prop :=
  Cert.Pre_windows_inside.fn (F := F) (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
    (m ((c.tc : Thread nD τ).loc main_arg14)) (m ((c.tc : Thread nD τ).loc main_arg15)) (m ((c.tc : Thread nD τ).loc main_arg16)) = fun _ => 1#1

theorem tabOk [Cert.Pre_windows_inside.Facts] (h : ∀ c, PreAt m c) (c : Dev nD) : TabOk (tab5 (V₀ m) c) (tabY (V₀ m) c) (tabX (V₀ m) c) := by
  have H := fun n => (pre_fields _ _ _ _ _ _ _ _ _ _ _ _ _ _ _ _ _ (h c) n 0).1
  refine ⟨fun n => ?_, fun l n => ?_, fun l n => ?_⟩
  · rw [w5_eq, tab5_eq]; exact (H n).1
  · rw [wY_eq, tabY_eq]; exact ((H n).2 l).1
  · rw [wX_eq, tabX_eq]; exact ((H n).2 l).2

/-- The whole program ends with its semaphores at zero and its arguments as they were. -/
theorem frame (g : Dev nD → PrngReg) (hT : ∀ c, TabOk (tab5 (V₀ m) c) (tabY (V₀ m) c) (tabX (V₀ m) c)) :
    θ_run (defs (F := F)) (onTc (τ := τ) (main (F := F))) (s₀ m g) (fun r => (∀ c : Dev nD,
      Kept m r c)
      ∧ r.2.sem = fun _ => 0) :=
  (θ_run _ _ _).mono (fun _ h => ⟨fun c => args_kept m hT h.1 c, h.2⟩) (run_main m g hT)

end Cert.Kernel2Ideal.Hand

end
-- ==== Proof.Kernel2.Tables.lean ====
/- The tables that the precondition allows: every window they place lies inside its features, and begins at a multiple of eight columns. -/
module

public import proofs.«01_k».proof.Proof.Kernel2.Run
public import proofs.«01_k».proof.Proof.Kernel2Ideal.Tables
public import proofs.«01_k».proof.Pre_windows_inside
public import Idealize.ShloMosaic.Lib.StableHlo.Predicate
public import Idealize.ShloMosaic.Lib.Pointwise

@[expose] public section

noncomputable section

namespace Cert.Kernel2.Hand

open Cert.Kernel2 Cert.Kernel2.Gen
open Idealize.ShloMosaic Idealize.ShloMosaic.TcCoe Idealize.ShloMosaic.Tactic
open Idealize.SL.Sem

variable {F : FTy → Type} [FloatOps F]

variable (m : (ℓ : Loc nD τ sig) → Buf (Elt F) ℓ)

/-- The three tables are argument arrays. -/
theorem tab5_eq (c : Dev nD) : tab5 (V₀ m) c = m (c, Proc.devRef .tc main_arg4) := (V₀_args m c).2.2.2.2.1
theorem tabY_eq (c : Dev nD) : tabY (V₀ m) c = m (c, Proc.devRef .tc main_arg5) := (V₀_args m c).2.2.2.2.2.1
theorem tabX_eq (c : Dev nD) : tabX (V₀ m) c = m (c, Proc.devRef .tc main_arg6) := (V₀_args m c).2.2.2.2.2.2.1

theorem ix1_eq (n : Fin 512) : (fun a => match a with | ⟨0, _⟩ => n : S512.Idx) = ix1 n := funext fun a => match a with | ⟨0, _⟩ => rfl
theorem ix2_eq (l : Fin 4) (n : Fin 512) : (fun a => match a with | ⟨0, _⟩ => l | ⟨1, _⟩ => n : S4x512.Idx) = ix2 l n :=
  funext fun a => match a with | ⟨0, _⟩ => rfl | ⟨1, _⟩ => rfl
theorem w5_eq {c : Dev nD} (T : TBuf5 (F := F) c) (n : Fin 512) : w5 T n = T (ix1 n) := by rw [← ix1_eq]; rfl
theorem wY_eq {c : Dev nD} (T : TBufY (F := F) c) (l : Fin 4) (n : Fin 512) : wY T l n = T (ix2 l n) := by rw [← ix2_eq]; rfl
theorem wX_eq {c : Dev nD} (T : TBufX (F := F) c) (l : Fin 4) (n : Fin 512) : wX T l n = T (ix2 l n) := by rw [← ix2_eq]; rfl

/-- The precondition, of the arrays the memory holds on one device. -/
abbrev PreAt [Cert.Pre_windows_inside.Facts] (c : Dev nD) : Prop :=
  Cert.Pre_windows_inside.fn (F := F) (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
    (m ((c.tc : Thread nD τ).loc main_arg14)) (m ((c.tc : Thread nD τ).loc main_arg15)) (m ((c.tc : Thread nD τ).loc main_arg16)) = fun _ => 1#1

theorem tabOk [Cert.Pre_windows_inside.Facts] (h : ∀ c, PreAt m c) (c : Dev nD) : TabOk (tab5 (V₀ m) c) (tabY (V₀ m) c) (tabX (V₀ m) c) := by
  have H := fun n => (Cert.Kernel2Ideal.Hand.pre_fields _ _ _ _ _ _ _ _ _ _ _ _ _ _ _ _ _ (h c) n 0).1
  refine ⟨fun n => ?_, fun l n => ?_, fun l n => ?_⟩
  · rw [w5_eq, tab5_eq]; exact (H n).1
  · rw [wY_eq, tabY_eq]; exact ((H n).2 l).1
  · rw [wX_eq, tabX_eq]; exact ((H n).2 l).2

/-- The whole program ends with its semaphores at zero and its arguments as they were. -/
theorem frame (g : Dev nD → PrngReg) (hT : ∀ c, TabOk (tab5 (V₀ m) c) (tabY (V₀ m) c) (tabX (V₀ m) c)) :
    θ_run (defs (F := F)) (onTc (τ := τ) (main (F := F))) (s₀ m g) (fun r => (∀ c : Dev nD,
      Kept m r c)
      ∧ r.2.sem = fun _ => 0) :=
  (θ_run _ _ _).mono (fun _ h => ⟨fun c => args_kept m hT h.1 c, h.2⟩) (run_main m g hT)

end Cert.Kernel2.Hand

end
-- ==== Proof.Kernel2Ideal.Array.lean ====
/- The kernel's output array, and the blocks and windows a grid point reads, at an index. -/
module

public import proofs.«01_k».proof.Proof.Kernel2Ideal.Frame
public import Idealize.ShloMosaic.Lib.Pointwise
public import Idealize.ShloMosaic.Lib.Pipeline.ValueKit

@[expose] public section

noncomputable section

namespace Cert.Kernel2Ideal.Hand

open Cert.Kernel2Ideal Cert.Kernel2Ideal.Gen
open Idealize.ShloMosaic Idealize.ShloMosaic.TcCoe Idealize.ShloMosaic.Tactic
open Idealize.ShloMosaic.Pipeline (Dat Cfg Window)

variable (V : Dev nD → Valuation τ sig (Elt Ideal)) (a : (pcfg0 (F := Ideal)).Adm) (ht : ∀ c, TabOk (tab5 V c) (tabY V c) (tabX V c)) (c : Dev nD)

theorem points : grid0.N = 512 := by decide +kernel
theorem at_out : ∀ t : Fin grid0.N, cc0_transform_14 (grid0.coords t) = ![t.val, 0, 0] := by decide +kernel
theorem at_weights : ∀ t : Fin grid0.N, cc0_transform_12 (grid0.coords t) = ![0, 0, 0] := by decide +kernel
theorem at_bias : ∀ t : Fin grid0.N, cc0_transform_13 (grid0.coords t) = ![0, 0] := by decide +kernel

theorem at_rows0 : ∀ t : Fin grid0.N, cc0_transform_4 (grid0.coords t) = ![t.val, 0, 0] := by decide +kernel
theorem rows0_at (t : Fin (cfg0 a).N) (r : Fin 56) (q : Fin 49) : iblk V a c 0 t (ix3 0 r q) = V c (Proc.devRef .tc main_call0_v88) (ix3 t r q) := by
  unfold iblk
  show V c (Proc.devRef .tc main_call0_v88) ((((cfg0 a).win 0).blk t).view.emb (ix3 0 r q)) = _
  have e := at_rows0 t
  refine congrArg (V c (Proc.devRef .tc main_call0_v88)) (funext fun d => Fin.ext ?_)
  match d with
  | ⟨0, _⟩ => show cc0_transform_4 (grid0.coords t) 0 * 1 + 1 * 0 = t.val; rw [e]; simp
  | ⟨1, _⟩ => show cc0_transform_4 (grid0.coords t) 1 * 56 + 1 * r.val = r.val; rw [e]; simp
  | ⟨2, _⟩ => show cc0_transform_4 (grid0.coords t) 2 * 49 + 1 * q.val = q.val; rw [e]; simp

theorem at_cols0 : ∀ t : Fin grid0.N, cc0_transform_5 (grid0.coords t) = ![t.val, 0, 0] := by decide +kernel
theorem cols0_at (t : Fin (cfg0 a).N) (r : Fin 64) (q : Fin 49) : iblk V a c 1 t (ix3 0 r q) = V c (Proc.devRef .tc main_call0_v92) (ix3 t r q) := by
  unfold iblk
  show V c (Proc.devRef .tc main_call0_v92) ((((cfg0 a).win 1).blk t).view.emb (ix3 0 r q)) = _
  have e := at_cols0 t
  refine congrArg (V c (Proc.devRef .tc main_call0_v92)) (funext fun d => Fin.ext ?_)
  match d with
  | ⟨0, _⟩ => show cc0_transform_5 (grid0.coords t) 0 * 1 + 1 * 0 = t.val; rw [e]; simp
  | ⟨1, _⟩ => show cc0_transform_5 (grid0.coords t) 1 * 64 + 1 * r.val = r.val; rw [e]; simp
  | ⟨2, _⟩ => show cc0_transform_5 (grid0.coords t) 2 * 49 + 1 * q.val = q.val; rw [e]; simp

theorem at_rows1 : ∀ t : Fin grid0.N, cc0_transform_6 (grid0.coords t) = ![t.val, 0, 0] := by decide +kernel
theorem rows1_at (t : Fin (cfg0 a).N) (r : Fin 32) (q : Fin 49) : iblk V a c 2 t (ix3 0 r q) = V c (Proc.devRef .tc main_call0_v177) (ix3 t r q) := by
  unfold iblk
  show V c (Proc.devRef .tc main_call0_v177) ((((cfg0 a).win 2).blk t).view.emb (ix3 0 r q)) = _
  have e := at_rows1 t
  refine congrArg (V c (Proc.devRef .tc main_call0_v177)) (funext fun d => Fin.ext ?_)
  match d with
  | ⟨0, _⟩ => show cc0_transform_6 (grid0.coords t) 0 * 1 + 1 * 0 = t.val; rw [e]; simp
  | ⟨1, _⟩ => show cc0_transform_6 (grid0.coords t) 1 * 32 + 1 * r.val = r.val; rw [e]; simp
  | ⟨2, _⟩ => show cc0_transform_6 (grid0.coords t) 2 * 49 + 1 * q.val = q.val; rw [e]; simp

theorem at_cols1 : ∀ t : Fin grid0.N, cc0_transform_7 (grid0.coords t) = ![t.val, 0, 0] := by decide +kernel
theorem cols1_at (t : Fin (cfg0 a).N) (r : Fin 40) (q : Fin 49) : iblk V a c 3 t (ix3 0 r q) = V c (Proc.devRef .tc main_call0_v181) (ix3 t r q) := by
  unfold iblk
  show V c (Proc.devRef .tc main_call0_v181) ((((cfg0 a).win 3).blk t).view.emb (ix3 0 r q)) = _
  have e := at_cols1 t
  refine congrArg (V c (Proc.devRef .tc main_call0_v181)) (funext fun d => Fin.ext ?_)
  match d with
  | ⟨0, _⟩ => show cc0_transform_7 (grid0.coords t) 0 * 1 + 1 * 0 = t.val; rw [e]; simp
  | ⟨1, _⟩ => show cc0_transform_7 (grid0.coords t) 1 * 40 + 1 * r.val = r.val; rw [e]; simp
  | ⟨2, _⟩ => show cc0_transform_7 (grid0.coords t) 2 * 49 + 1 * q.val = q.val; rw [e]; simp

theorem at_rows2 : ∀ t : Fin grid0.N, cc0_transform_8 (grid0.coords t) = ![t.val, 0, 0] := by decide +kernel
theorem rows2_at (t : Fin (cfg0 a).N) (r : Fin 16) (q : Fin 49) : iblk V a c 4 t (ix3 0 r q) = V c (Proc.devRef .tc main_call0_v266) (ix3 t r q) := by
  unfold iblk
  show V c (Proc.devRef .tc main_call0_v266) ((((cfg0 a).win 4).blk t).view.emb (ix3 0 r q)) = _
  have e := at_rows2 t
  refine congrArg (V c (Proc.devRef .tc main_call0_v266)) (funext fun d => Fin.ext ?_)
  match d with
  | ⟨0, _⟩ => show cc0_transform_8 (grid0.coords t) 0 * 1 + 1 * 0 = t.val; rw [e]; simp
  | ⟨1, _⟩ => show cc0_transform_8 (grid0.coords t) 1 * 16 + 1 * r.val = r.val; rw [e]; simp
  | ⟨2, _⟩ => show cc0_transform_8 (grid0.coords t) 2 * 49 + 1 * q.val = q.val; rw [e]; simp

theorem at_cols2 : ∀ t : Fin grid0.N, cc0_transform_9 (grid0.coords t) = ![t.val, 0, 0] := by decide +kernel
theorem cols2_at (t : Fin (cfg0 a).N) (r : Fin 24) (q : Fin 49) : iblk V a c 5 t (ix3 0 r q) = V c (Proc.devRef .tc main_call0_v270) (ix3 t r q) := by
  unfold iblk
  show V c (Proc.devRef .tc main_call0_v270) ((((cfg0 a).win 5).blk t).view.emb (ix3 0 r q)) = _
  have e := at_cols2 t
  refine congrArg (V c (Proc.devRef .tc main_call0_v270)) (funext fun d => Fin.ext ?_)
  match d with
  | ⟨0, _⟩ => show cc0_transform_9 (grid0.coords t) 0 * 1 + 1 * 0 = t.val; rw [e]; simp
  | ⟨1, _⟩ => show cc0_transform_9 (grid0.coords t) 1 * 24 + 1 * r.val = r.val; rw [e]; simp
  | ⟨2, _⟩ => show cc0_transform_9 (grid0.coords t) 2 * 49 + 1 * q.val = q.val; rw [e]; simp

theorem at_rows3 : ∀ t : Fin grid0.N, cc0_transform_10 (grid0.coords t) = ![t.val, 0, 0] := by decide +kernel
theorem rows3_at (t : Fin (cfg0 a).N) (r : Fin 16) (q : Fin 49) : iblk V a c 6 t (ix3 0 r q) = V c (Proc.devRef .tc main_call0_v355) (ix3 t r q) := by
  unfold iblk
  show V c (Proc.devRef .tc main_call0_v355) ((((cfg0 a).win 6).blk t).view.emb (ix3 0 r q)) = _
  have e := at_rows3 t
  refine congrArg (V c (Proc.devRef .tc main_call0_v355)) (funext fun d => Fin.ext ?_)
  match d with
  | ⟨0, _⟩ => show cc0_transform_10 (grid0.coords t) 0 * 1 + 1 * 0 = t.val; rw [e]; simp
  | ⟨1, _⟩ => show cc0_transform_10 (grid0.coords t) 1 * 16 + 1 * r.val = r.val; rw [e]; simp
  | ⟨2, _⟩ => show cc0_transform_10 (grid0.coords t) 2 * 49 + 1 * q.val = q.val; rw [e]; simp

theorem at_cols3 : ∀ t : Fin grid0.N, cc0_transform_11 (grid0.coords t) = ![t.val, 0, 0] := by decide +kernel
theorem cols3_at (t : Fin (cfg0 a).N) (r : Fin 16) (q : Fin 49) : iblk V a c 7 t (ix3 0 r q) = V c (Proc.devRef .tc main_call0_v359) (ix3 t r q) := by
  unfold iblk
  show V c (Proc.devRef .tc main_call0_v359) ((((cfg0 a).win 7).blk t).view.emb (ix3 0 r q)) = _
  have e := at_cols3 t
  refine congrArg (V c (Proc.devRef .tc main_call0_v359)) (funext fun d => Fin.ext ?_)
  match d with
  | ⟨0, _⟩ => show cc0_transform_11 (grid0.coords t) 0 * 1 + 1 * 0 = t.val; rw [e]; simp
  | ⟨1, _⟩ => show cc0_transform_11 (grid0.coords t) 1 * 16 + 1 * r.val = r.val; rw [e]; simp
  | ⟨2, _⟩ => show cc0_transform_11 (grid0.coords t) 2 * 49 + 1 * q.val = q.val; rw [e]; simp

theorem weights_at (t : Fin (cfg0 a).N) (l : Fin 4) (k o : Fin 256) : iblk V a c 8 t (ix3 l k o) = V c (Proc.devRef .tc main_call0_v361) (ix3 l k o) := by
  unfold iblk
  show V c (Proc.devRef .tc main_call0_v361) ((((cfg0 a).win 8).blk t).view.emb (ix3 l k o)) = _
  have e := at_weights t
  refine congrArg (V c (Proc.devRef .tc main_call0_v361)) (funext fun d => Fin.ext ?_)
  match d with
  | ⟨0, _⟩ => show cc0_transform_12 (grid0.coords t) 0 * 4 + 1 * l.val = l.val; rw [e]; simp
  | ⟨1, _⟩ => show cc0_transform_12 (grid0.coords t) 1 * 256 + 1 * k.val = k.val; rw [e]; simp
  | ⟨2, _⟩ => show cc0_transform_12 (grid0.coords t) 2 * 256 + 1 * o.val = o.val; rw [e]; simp

theorem bias_at (t : Fin (cfg0 a).N) (o : Fin 256) : iblk V a c 9 t (ix2 0 o) = V c (Proc.devRef .tc main_call0_v362) (ix2 0 o) := by
  unfold iblk
  show V c (Proc.devRef .tc main_call0_v362) ((((cfg0 a).win 9).blk t).view.emb (ix2 0 o)) = _
  have e := at_bias t
  refine congrArg (V c (Proc.devRef .tc main_call0_v362)) (funext fun d => Fin.ext ?_)
  match d with
  | ⟨0, _⟩ => show cc0_transform_13 (grid0.coords t) 0 * 1 + 1 * 0 = 0; rw [e]; simp
  | ⟨1, _⟩ => show cc0_transform_13 (grid0.coords t) 1 * 256 + 1 * o.val = o.val; rw [e]; simp

/-- Level 0's window of box `n`, an element of the features. -/
theorem window0_at {T5 : TBuf5 (F := Ideal) c} {TY : TBufY (F := Ideal) c} {TX : TBufX (F := Ideal) c} (h : TabOk T5 TY TX) (A : FBuf0 (F := Ideal) c) (n : Fin 512) (r : Fin 56) (x : Fin 64) (k : Fin 256) :
    wv0 h A n (ix4 0 r x k) = A (ix4 (Fin.ofNat 2 (w5 T5 n).toNat) (Fin.ofNat 256 ((wY TY 0 n).toNat + r.val)) (Fin.ofNat 256 ((wX TX 0 n).toNat + x.val)) k) := by
  have h1 := h.1 n
  have h2 : (wY TY 0 n).toNat ≤ 200 := h.2.1 0 n
  have h3 : (wX TX 0 n).toNat ≤ 192 := (h.2.2 0 n).1
  have hr := r.isLt
  have hx := x.isLt
  unfold wv0
  refine congrArg A (funext fun d => Fin.ext ?_)
  match d with
  | ⟨0, _⟩ => show (w5 T5 n).toNat + 1 * 0 = (w5 T5 n).toNat % 2; omega
  | ⟨1, _⟩ => show (wY TY 0 n).toNat + 1 * r.val = ((wY TY 0 n).toNat + r.val) % 256; omega
  | ⟨2, _⟩ => show (wX TX 0 n).toNat + 1 * x.val = ((wX TX 0 n).toNat + x.val) % 256; omega
  | ⟨3, _⟩ => show 0 + 1 * k.val = k.val; omega

/-- Level 1's window of box `n`, an element of the features. -/
theorem window1_at {T5 : TBuf5 (F := Ideal) c} {TY : TBufY (F := Ideal) c} {TX : TBufX (F := Ideal) c} (h : TabOk T5 TY TX) (A : FBuf1 (F := Ideal) c) (n : Fin 512) (r : Fin 32) (x : Fin 40) (k : Fin 256) :
    wv1 h A n (ix4 0 r x k) = A (ix4 (Fin.ofNat 2 (w5 T5 n).toNat) (Fin.ofNat 128 ((wY TY 1 n).toNat + r.val)) (Fin.ofNat 128 ((wX TX 1 n).toNat + x.val)) k) := by
  have h1 := h.1 n
  have h2 : (wY TY 1 n).toNat ≤ 96 := h.2.1 1 n
  have h3 : (wX TX 1 n).toNat ≤ 88 := (h.2.2 1 n).1
  have hr := r.isLt
  have hx := x.isLt
  unfold wv1
  refine congrArg A (funext fun d => Fin.ext ?_)
  match d with
  | ⟨0, _⟩ => show (w5 T5 n).toNat + 1 * 0 = (w5 T5 n).toNat % 2; omega
  | ⟨1, _⟩ => show (wY TY 1 n).toNat + 1 * r.val = ((wY TY 1 n).toNat + r.val) % 128; omega
  | ⟨2, _⟩ => show (wX TX 1 n).toNat + 1 * x.val = ((wX TX 1 n).toNat + x.val) % 128; omega
  | ⟨3, _⟩ => show 0 + 1 * k.val = k.val; omega

/-- Level 2's window of box `n`, an element of the features. -/
theorem window2_at {T5 : TBuf5 (F := Ideal) c} {TY : TBufY (F := Ideal) c} {TX : TBufX (F := Ideal) c} (h : TabOk T5 TY TX) (A : FBuf2 (F := Ideal) c) (n : Fin 512) (r : Fin 16) (x : Fin 24) (k : Fin 256) :
    wv2 h A n (ix4 0 r x k) = A (ix4 (Fin.ofNat 2 (w5 T5 n).toNat) (Fin.ofNat 64 ((wY TY 2 n).toNat + r.val)) (Fin.ofNat 64 ((wX TX 2 n).toNat + x.val)) k) := by
  have h1 := h.1 n
  have h2 : (wY TY 2 n).toNat ≤ 48 := h.2.1 2 n
  have h3 : (wX TX 2 n).toNat ≤ 40 := (h.2.2 2 n).1
  have hr := r.isLt
  have hx := x.isLt
  unfold wv2
  refine congrArg A (funext fun d => Fin.ext ?_)
  match d with
  | ⟨0, _⟩ => show (w5 T5 n).toNat + 1 * 0 = (w5 T5 n).toNat % 2; omega
  | ⟨1, _⟩ => show (wY TY 2 n).toNat + 1 * r.val = ((wY TY 2 n).toNat + r.val) % 64; omega
  | ⟨2, _⟩ => show (wX TX 2 n).toNat + 1 * x.val = ((wX TX 2 n).toNat + x.val) % 64; omega
  | ⟨3, _⟩ => show 0 + 1 * k.val = k.val; omega

/-- Level 3's window of box `n`, an element of the features. -/
theorem window3_at {T5 : TBuf5 (F := Ideal) c} {TY : TBufY (F := Ideal) c} {TX : TBufX (F := Ideal) c} (h : TabOk T5 TY TX) (A : FBuf3 (F := Ideal) c) (n : Fin 512) (r : Fin 16) (x : Fin 16) (k : Fin 256) :
    wv3 h A n (ix4 0 r x k) = A (ix4 (Fin.ofNat 2 (w5 T5 n).toNat) (Fin.ofNat 32 ((wY TY 3 n).toNat + r.val)) (Fin.ofNat 32 ((wX TX 3 n).toNat + x.val)) k) := by
  have h1 := h.1 n
  have h2 : (wY TY 3 n).toNat ≤ 16 := h.2.1 3 n
  have h3 : (wX TX 3 n).toNat ≤ 16 := (h.2.2 3 n).1
  have hr := r.isLt
  have hx := x.isLt
  unfold wv3
  refine congrArg A (funext fun d => Fin.ext ?_)
  match d with
  | ⟨0, _⟩ => show (w5 T5 n).toNat + 1 * 0 = (w5 T5 n).toNat % 2; omega
  | ⟨1, _⟩ => show (wY TY 3 n).toNat + 1 * r.val = ((wY TY 3 n).toNat + r.val) % 32; omega
  | ⟨2, _⟩ => show (wX TX 3 n).toNat + 1 * x.val = ((wX TX 3 n).toNat + x.val) % 32; omega
  | ⟨3, _⟩ => show 0 + 1 * k.val = k.val; omega

theorem flush_out (t : Fin (cfg0 a).N) : ((cfg0 a).win 10).flush t = true := by
  refine (Window.flush_out _ rfl t).mpr ?_
  by_cases h : t.val + 1 = (cfg0 a).grid.N
  · exact .inl h
  · refine .inr ⟨by have := t.isLt; unfold Cfg.N at this; omega, fun e => ?_⟩
    have e0 := (at_out _).symm.trans (e.trans (at_out t))
    have e1 := congrFun e0 0
    simp at e1

theorem covers_out : ((cfg0 a).win 10).Covers := by
  refine ⟨fun b => by match b with | ⟨0, _⟩ => exact (by decide : 0 < 1) | ⟨1, _⟩ => exact (by decide : 0 < 49) | ⟨2, _⟩ => exact (by decide : 0 < 256), fun β => ?_⟩
  have p0 : 0 < ((cfg0 a).win 10).shape.rank := (by decide : 0 < 3)
  have p1 : 1 < ((cfg0 a).win 10).shape.rank := (by decide : 1 < 3)
  have p2 : 2 < ((cfg0 a).win 10).shape.rank := (by decide : 2 < 3)
  have h0 : (β ⟨0, p0⟩).val < 512 := Nat.lt_of_lt_of_eq (β ⟨0, p0⟩).isLt (by
    show (((cfg0 a).win 10).shape.size ⟨0, p0⟩ + ((cfg0 a).win 10).size ⟨0, p0⟩ - 1) / ((cfg0 a).win 10).size ⟨0, p0⟩ = 512
    rw [show ((cfg0 a).win 10).shape.size ⟨0, p0⟩ = 512 from rfl, show ((cfg0 a).win 10).size ⟨0, p0⟩ = 1 from rfl])
  have h1 : (β ⟨1, p1⟩).val < 1 := Nat.lt_of_lt_of_eq (β ⟨1, p1⟩).isLt (by
    show (((cfg0 a).win 10).shape.size ⟨1, p1⟩ + ((cfg0 a).win 10).size ⟨1, p1⟩ - 1) / ((cfg0 a).win 10).size ⟨1, p1⟩ = 1
    rw [show ((cfg0 a).win 10).shape.size ⟨1, p1⟩ = 49 from rfl, show ((cfg0 a).win 10).size ⟨1, p1⟩ = 49 from rfl])
  have h2 : (β ⟨2, p2⟩).val < 1 := Nat.lt_of_lt_of_eq (β ⟨2, p2⟩).isLt (by
    show (((cfg0 a).win 10).shape.size ⟨2, p2⟩ + ((cfg0 a).win 10).size ⟨2, p2⟩ - 1) / ((cfg0 a).win 10).size ⟨2, p2⟩ = 1
    rw [show ((cfg0 a).win 10).shape.size ⟨2, p2⟩ = 256 from rfl, show ((cfg0 a).win 10).size ⟨2, p2⟩ = 256 from rfl])
  refine ⟨⟨(β ⟨0, p0⟩).val, by show _ < grid0.N; rw [points]; exact h0⟩, flush_out a _, fun b => ⟨?_, .inl ?_⟩⟩
  · refine (congrFun (at_out _) b).trans ?_
    match b with
    | ⟨0, _⟩ => rfl
    | ⟨1, _⟩ => show 0 = _; omega
    | ⟨2, _⟩ => show 0 = _; omega
  · match b with
    | ⟨0, _⟩ => rfl
    | ⟨1, _⟩ => rfl
    | ⟨2, _⟩ => rfl

/-- What the grid leaves in the output array. -/
def G (i : S512x49x256.Idx) : Elt Ideal .f32 := outAt V a ht c ⟨(i 0).val, by show _ < grid0.N; rw [points]; exact (i 0).isLt⟩ (ix3 0 (i 1) (i 2))

theorem out_array : (dats V a ht 0 c).arrAt 10 (cfg0 a).N = G V a ht c := by
  refine (dats V a ht 0 c).arrAt_eq_of_covers 10 _ (covers_out a) fun t hf y => ?_
  have e := at_out t
  show outAt V a ht c t y = outAt V a ht c _ _
  congr 1
  · refine Fin.ext ?_
    have h0 : (y (0 : Fin 3)).val < 1 := (y (0 : Fin 3)).isLt
    show t.val = cc0_transform_14 (grid0.coords t) 0 * 1 + 1 * (y (0 : Fin 3)).val
    rw [e]
    show t.val = t.val * 1 + _
    omega
  · funext d
    refine Fin.ext ?_
    match d with
    | ⟨0, _⟩ =>
      have h0 : (y (0 : Fin 3)).val < 1 := (y (0 : Fin 3)).isLt
      show (y (0 : Fin 3)).val = 0
      omega
    | ⟨1, _⟩ => show (y (1 : Fin 3)).val = cc0_transform_14 (grid0.coords t) 1 * 49 + 1 * (y (1 : Fin 3)).val; rw [e]; simp
    | ⟨2, _⟩ => show (y (2 : Fin 3)).val = cc0_transform_14 (grid0.coords t) 2 * 256 + 1 * (y (2 : Fin 3)).val; rw [e]; simp

end Cert.Kernel2Ideal.Hand

end
-- ==== Proof.Level.lean ====
/- One pyramid level's part of one output: the bins of a box over its window, through the level's block of the 1x1 convolution. -/
module

public import Idealize.ShloMosaic.Lib.Pointwise

@[expose] public section

noncomputable section

namespace Cert.Level

open Idealize.ShloMosaic Idealize.ShloMosaic.Tactic

/-- One level's part of one output: over the channels, the bin's mean (rows weighted by `ay`, columns by `ax`) times the convolution's weight. -/
def level (R X : Nat) (ay : Fin R → EReal) (ax : Fin X → EReal) (win : Fin R → Fin X → Fin 256 → EReal) (w : Fin 256 → EReal) : EReal :=
  ∑ k, (∑ r, ∑ x, (ay r * ax x) * win r x k) * w k

/-- The rows and columns of the window run through in one sum. -/
theorem level_flat {R X N : Nat} (hN : R * X = N) (hX : 0 < X) (ay : Fin R → EReal) (ax : Fin X → EReal) (win : Fin R → Fin X → Fin 256 → EReal) (w : Fin 256 → EReal)
    (h1 : ∀ p : Fin N, p.val / X < R) (h2 : ∀ p : Fin N, p.val % X < X) :
    (∑ k, (∑ p : Fin N, (ay ⟨p.val / X, h1 p⟩ * ax ⟨p.val % X, h2 p⟩) * win ⟨p.val / X, h1 p⟩ ⟨p.val % X, h2 p⟩ k) * w k) = level R X ay ax win w := by
  refine Finset.sum_congr rfl fun k _ => congrArg (· * w k) ?_
  rw [Fin.sum_univ_tiles R X hN]
  refine Finset.sum_congr rfl fun r _ => Finset.sum_congr rfl fun x _ => ?_
  have e1 : ∀ h, (⟨(r.val * X + x.val) / X, h⟩ : Fin R) = r := fun h => Fin.ext (by
    show (r.val * X + x.val) / X = r.val
    rw [Nat.mul_comm, Nat.mul_add_div hX, Nat.div_eq_of_lt x.isLt, Nat.add_zero])
  have e2 : ∀ h, (⟨(r.val * X + x.val) % X, h⟩ : Fin X) = x := fun h => Fin.ext (by
    show (r.val * X + x.val) % X = x.val
    rw [Nat.mul_comm, Nat.mul_add_mod, Nat.mod_eq_of_lt x.isLt])
  simp only [e1, e2]

/-- An output at box `n`, channel `o` and bin `(i, j)`: the four levels' parts, the bias, and the rectifier. -/
def out (a0 : (⟨4, ![2, 256, 256, 256]⟩ : Shape).Idx → EReal) (a1 : (⟨4, ![2, 256, 128, 128]⟩ : Shape).Idx → EReal) (a2 : (⟨4, ![2, 256, 64, 64]⟩ : Shape).Idx → EReal) (a3 : (⟨4, ![2, 256, 32, 32]⟩ : Shape).Idx → EReal)
    (b : (⟨1, ![512]⟩ : Shape).Idx → BitVec 32) (ys xs : (⟨2, ![4, 512]⟩ : Shape).Idx → BitVec 32)
    (by0 : (⟨3, ![512, 7, 56]⟩ : Shape).Idx → EReal) (bx0 : (⟨3, ![512, 7, 64]⟩ : Shape).Idx → EReal) (by1 : (⟨3, ![512, 7, 32]⟩ : Shape).Idx → EReal) (bx1 : (⟨3, ![512, 7, 40]⟩ : Shape).Idx → EReal)
    (by2 : (⟨3, ![512, 7, 16]⟩ : Shape).Idx → EReal) (bx2 : (⟨3, ![512, 7, 24]⟩ : Shape).Idx → EReal) (by3 : (⟨3, ![512, 7, 16]⟩ : Shape).Idx → EReal) (bx3 : (⟨3, ![512, 7, 16]⟩ : Shape).Idx → EReal)
    (w : (⟨2, ![256, 1024]⟩ : Shape).Idx → EReal) (bias : (⟨1, ![256]⟩ : Shape).Idx → EReal) (n : Fin 512) (o : Fin 256) (i j : Fin 7) : EReal :=
  max (level 56 64 (fun r => by0 (ix3 n i r)) (fun x => bx0 (ix3 n j x))
      (fun r x k => a0 (ix4 (Fin.ofNat 2 (b (ix1 n)).toNat) k (Fin.ofNat 256 ((ys (ix2 0 n)).toNat + r.val)) (Fin.ofNat 256 ((xs (ix2 0 n)).toNat + x.val))))
      (fun k => w (ix2 o ⟨0 * 256 + k.val, by omega⟩))
    + level 32 40 (fun r => by1 (ix3 n i r)) (fun x => bx1 (ix3 n j x))
      (fun r x k => a1 (ix4 (Fin.ofNat 2 (b (ix1 n)).toNat) k (Fin.ofNat 128 ((ys (ix2 1 n)).toNat + r.val)) (Fin.ofNat 128 ((xs (ix2 1 n)).toNat + x.val))))
      (fun k => w (ix2 o ⟨1 * 256 + k.val, by omega⟩))
    + level 16 24 (fun r => by2 (ix3 n i r)) (fun x => bx2 (ix3 n j x))
      (fun r x k => a2 (ix4 (Fin.ofNat 2 (b (ix1 n)).toNat) k (Fin.ofNat 64 ((ys (ix2 2 n)).toNat + r.val)) (Fin.ofNat 64 ((xs (ix2 2 n)).toNat + x.val))))
      (fun k => w (ix2 o ⟨2 * 256 + k.val, by omega⟩))
    + level 16 16 (fun r => by3 (ix3 n i r)) (fun x => bx3 (ix3 n j x))
      (fun r x k => a3 (ix4 (Fin.ofNat 2 (b (ix1 n)).toNat) k (Fin.ofNat 32 ((ys (ix2 3 n)).toNat + r.val)) (Fin.ofNat 32 ((xs (ix2 3 n)).toNat + x.val))))
      (fun k => w (ix2 o ⟨3 * 256 + k.val, by omega⟩))
    + bias (ix1 o)) 0

end Cert.Level

end
-- ==== Proof.Kernel2Ideal.Block.lean ====
/- What one grid point stores, read at an index. -/
module

public import proofs.«01_k».proof.Proof.Kernel2Ideal.Body
public import proofs.«01_k».proof.Proof.Level
public import Idealize.ShloMosaic.Lib.Pointwise

@[expose] public section

noncomputable section

namespace Cert.Kernel2Ideal.Hand

open Cert.Kernel2Ideal Cert.Kernel2Ideal.Gen
open Idealize.ShloMosaic Idealize.ShloMosaic.TcCoe Idealize.ShloMosaic.Tactic

theorem pay1_at (v85 : FVec Ideal S49x256 .f32) (v92 v94 : Vec Ideal S1x16x49 .f32) (v103 : Vec Ideal S1x16x16x256 .f32) (v107 : Vec Ideal S1x256x256 .f32) (v111 : Vec Ideal S1x256 .f32) (q : Fin 49) (o : Fin 256) :
    (k0_pay1 (F := Ideal) v85 v92 v94 v103 v107 v111 (ix3 0 q o) : EReal)
      = max (v85 (ix2 q o) + Cert.Level.level 16 16 (fun r => v92 (ix3 0 r q)) (fun x => v94 (ix3 0 x q)) (fun r x k => v103 (ix4 0 r x k)) (fun k => v107 (ix3 0 k o)) + v111 (ix2 0 o)) 0 := by
  rw [← Cert.Level.level_flat (R := 16) (X := 16) (N := 256) rfl (by omega) _ _ _ _ (by omega) (by omega)]
  pointwise [k0_pay1]
theorem pay4_at (v60 : FVec Ideal S49x256 .f32) (v67 : Vec Ideal S1x16x49 .f32) (v69 : Vec Ideal S1x24x49 .f32) (v78 : Vec Ideal S1x16x24x256 .f32) (v82 : Vec Ideal S1x256x256 .f32) (q : Fin 49) (o : Fin 256) :
    (k0_pay4 (F := Ideal) v60 v67 v69 v78 v82 (ix2 q o) : EReal)
      = v60 (ix2 q o) + Cert.Level.level 16 24 (fun r => v67 (ix3 0 r q)) (fun x => v69 (ix3 0 x q)) (fun r x k => v78 (ix4 0 r x k)) (fun k => v82 (ix3 0 k o)) := by
  rw [← Cert.Level.level_flat (R := 16) (X := 24) (N := 384) rfl (by omega) _ _ _ _ (by omega) (by omega)]
  pointwise [k0_pay4]
theorem pay3_at (v18 : Vec Ideal S1x56x49 .f32) (v20 : Vec Ideal S1x64x49 .f32) (v29 : Vec Ideal S1x56x64x256 .f32) (v33 : Vec Ideal S1x256x256 .f32) (v42 : Vec Ideal S1x32x49 .f32) (v44 : Vec Ideal S1x40x49 .f32) (v53 : Vec Ideal S1x32x40x256 .f32) (v57 : Vec Ideal S1x256x256 .f32) (q : Fin 49) (o : Fin 256) :
    (k0_pay3 (F := Ideal) (k0_pay2 v18 v20) v29 v33 v42 v44 v53 v57 (ix2 q o) : EReal)
      = Cert.Level.level 56 64 (fun r => v18 (ix3 0 r q)) (fun x => v20 (ix3 0 x q)) (fun r x k => v29 (ix4 0 r x k)) (fun k => v33 (ix3 0 k o))
        + Cert.Level.level 32 40 (fun r => v42 (ix3 0 r q)) (fun x => v44 (ix3 0 x q)) (fun r x k => v53 (ix4 0 r x k)) (fun k => v57 (ix3 0 k o)) := by
  rw [← Cert.Level.level_flat (R := 56) (X := 64) (N := 3584) rfl (by omega) _ _ _ _ (by omega) (by omega), ← Cert.Level.level_flat (R := 32) (X := 40) (N := 1280) rfl (by omega) _ _ _ _ (by omega) (by omega)]
  pointwise [k0_pay3, k0_pay2]

/-- What one grid point stores at bin `q` and channel `o`. -/
theorem outV_at (d9 : S1x56x49.Idx → Elt Ideal .f32) (d10 : S1x64x49.Idx → Elt Ideal .f32) (d11 : S1x32x49.Idx → Elt Ideal .f32) (d12 : S1x40x49.Idx → Elt Ideal .f32) (d13 : S1x16x49.Idx → Elt Ideal .f32) (d14 : S1x24x49.Idx → Elt Ideal .f32) (d15 : S1x16x49.Idx → Elt Ideal .f32) (d16 : S1x16x49.Idx → Elt Ideal .f32) (d17 : S4x256x256.Idx → Elt Ideal .f32) (d18 : S1x256.Idx → Elt Ideal .f32)
    (v0 : S1x56x64x256.Idx → Elt Ideal .f32) (v1 : S1x32x40x256.Idx → Elt Ideal .f32) (v2 : S1x16x24x256.Idx → Elt Ideal .f32) (v3 : S1x16x16x256.Idx → Elt Ideal .f32) (q : Fin 49) (o : Fin 256) :
    (outV d9 d10 d11 d12 d13 d14 d15 d16 d17 d18 v0 v1 v2 v3 (ix3 0 q o) : EReal)
      = max (Cert.Level.level 56 64 (fun r => d9 (ix3 0 r q)) (fun x => d10 (ix3 0 x q)) (fun r x k => v0 (ix4 0 r x k)) (fun k => d17 (ix3 0 k o))
        + Cert.Level.level 32 40 (fun r => d11 (ix3 0 r q)) (fun x => d12 (ix3 0 x q)) (fun r x k => v1 (ix4 0 r x k)) (fun k => d17 (ix3 1 k o))
        + Cert.Level.level 16 24 (fun r => d13 (ix3 0 r q)) (fun x => d14 (ix3 0 x q)) (fun r x k => v2 (ix4 0 r x k)) (fun k => d17 (ix3 2 k o))
        + Cert.Level.level 16 16 (fun r => d15 (ix3 0 r q)) (fun x => d16 (ix3 0 x q)) (fun r x k => v3 (ix4 0 r x k)) (fun k => d17 (ix3 3 k o)) + d18 (ix2 0 o)) 0 := by
  unfold outV
  rw [pay1_at, pay4_at, pay3_at]
  have e : ∀ (l : Fin 4) (k : Fin 256) hh, View.ld d17 (Rect.unit ![l.val, 0, 0] S1x256x256.size hh) (ix3 0 k o) = d17 (ix3 l k o) := fun l k hh =>
    congrArg d17 (funext fun a => Fin.ext (match a with
      | ⟨0, _⟩ => (by show l.val + 1 * 0 = l.val; omega)
      | ⟨1, _⟩ => (by show 0 + 1 * k.val = k.val; omega)
      | ⟨2, _⟩ => (by show 0 + 1 * o.val = o.val; omega)))
  exact congrArg (fun z : EReal => max z 0) (congrArg (fun z : EReal => z + d18 (ix2 0 o)) (congrArg₂ HAdd.hAdd (congrArg₂ HAdd.hAdd (congrArg₂ HAdd.hAdd
    (congrArg (Cert.Level.level 56 64 _ _ _) (funext fun k => e 0 k inb_S4x256x256_S1x256x256_0_0_0))
    (congrArg (Cert.Level.level 32 40 _ _ _) (funext fun k => e 1 k inb_S4x256x256_S1x256x256_1_0_0)))
    (congrArg (Cert.Level.level 16 24 _ _ _) (funext fun k => e 2 k inb_S4x256x256_S1x256x256_2_0_0)))
    (congrArg (Cert.Level.level 16 16 _ _ _) (funext fun k => e 3 k inb_S4x256x256_S1x256x256_3_0_0))))

end Cert.Kernel2Ideal.Hand

end
-- ==== Proof.Sample.lean ====
/- Bilinear samples: the mean of four samples of an image is the sum of a window of it, its rows and columns weighted by where the samples lie. -/
module

public import Idealize.ShloMosaic.Lib.Pointwise

@[expose] public section

noncomputable section

namespace Cert.Sample

open Idealize.ShloMosaic Idealize.ShloMosaic.Tactic

/-- The pixel a sample begins at, and the next one, held inside the axis (`k` is its last pixel). -/
abbrev pix (s : EReal) : BitVec 32 := Ideal.fptosi 32 (Ideal.liftRound Int.floor s)
abbrev next (s : EReal) (k : BitVec 32) : BitVec 32 := IntOp.minsi (IntOp.addi (pix s) 1#32) k
/-- How far past its first pixel a sample lies. -/
abbrev part (s : EReal) : EReal := s - Ideal.liftRound Int.floor s
/-- One where the two words are equal, zero elsewhere. -/
abbrev hit (q p : BitVec 32) : EReal := (((IntOp.cmpi .eq q p).toNat : ℝ) : EReal)
/-- What one sample gives to the `r`-th pixel of the window that begins at `a`. -/
abbrev tap (s : EReal) (a k : BitVec 32) (r : Nat) : EReal :=
  hit (BitVec.ofNat 32 r) (IntOp.subi (pix s) a) * (1 - part s) + hit (BitVec.ofNat 32 r) (IntOp.subi (next s k) a) * part s
/-- The bilinear sample of `f` at row `s`, column `z`. -/
abbrev quad (s z : EReal) (k l : BitVec 32) (f : Nat → Nat → EReal) : EReal :=
  f (pix s).toNat (pix z).toNat * (1 - (s - (((pix s).toInt : ℝ) : EReal))) * (1 - (z - (((pix z).toInt : ℝ) : EReal)))
    + f (pix s).toNat (next z l).toNat * (1 - (s - (((pix s).toInt : ℝ) : EReal))) * (z - (((pix z).toInt : ℝ) : EReal))
    + f (next s k).toNat (pix z).toNat * (s - (((pix s).toInt : ℝ) : EReal)) * (1 - (z - (((pix z).toInt : ℝ) : EReal)))
    + f (next s k).toNat (next z l).toNat * (s - (((pix s).toInt : ℝ) : EReal)) * (z - (((pix z).toInt : ℝ) : EReal))

/-- A sample lies in the `R` pixels from `a` on, inside an axis whose last pixel is `k`. -/
structure Inside (R : Nat) (a k : BitVec 32) (s : EReal) : Prop where
  fit : a.toNat + R ≤ k.toNat + 1
  small : k.toNat < 2 ^ 15
  some : 0 < R
  low : ((a.toInt : ℝ) : EReal) ≤ s
  high : s ≤ (((IntOp.addi a (BitVec.ofNat 32 (R - 1))).toInt : ℝ) : EReal)

theorem toInt_small (q : BitVec 32) (h : q.toNat < 2 ^ 16) : q.toInt = q.toNat := by
  rw [BitVec.toInt_eq_toNat_cond, if_pos (by omega)]

/-- The pixel and the part of a sample inside a window. -/
theorem Inside.parts {R : Nat} {a k : BitVec 32} {s : EReal} (h : Inside R a k s) : ∃ (p : Nat) (w : ℝ), 0 ≤ w ∧ w ≤ 1 ∧ part s = (w : EReal)
    ∧ (pix s).toNat = p ∧ s - (((pix s).toInt : ℝ) : EReal) = (w : EReal) ∧ (next s k).toNat = min (p + 1) k.toNat ∧ a.toNat ≤ p ∧ p < a.toNat + R ∧ p ≤ k.toNat ∧ (p + 1 < a.toNat + R ∨ w = 0) := by
  obtain ⟨hf, hk, hR, hl, hh⟩ := h
  have hadd : (IntOp.addi a (BitVec.ofNat 32 (R - 1))).toNat = a.toNat + (R - 1) := by
    show (a + BitVec.ofNat 32 (R - 1)).toNat = _
    rw [BitVec.toNat_add, BitVec.toNat_ofNat]; omega
  rw [toInt_small _ (by omega), hadd] at hh
  rw [toInt_small _ (by omega)] at hl
  induction s with
  | bot => exact absurd (EReal.bot_lt_coe _) (not_lt.2 hl)
  | top => exact absurd (EReal.coe_lt_top _) (not_lt.2 hh)
  | coe x =>
    have hl' : (a.toNat : ℝ) ≤ x := by exact_mod_cast hl
    have hh' : x ≤ ((a.toNat + (R - 1) : ℕ) : ℝ) := by exact_mod_cast hh
    have f0 : (a.toNat : ℤ) ≤ ⌊x⌋ := Int.le_floor.2 (by exact_mod_cast hl')
    have f1 : ⌊x⌋ ≤ ((a.toNat + (R - 1) : ℕ) : ℤ) := by
      have := Int.floor_le_floor hh'
      rwa [Int.floor_natCast] at this
    obtain ⟨p, hp⟩ : ∃ p : ℕ, ⌊x⌋ = p := ⟨⌊x⌋.toNat, by omega⟩
    have efl : Ideal.liftRound Int.floor (x : EReal) = (((p : ℕ) : ℝ) : EReal) := by
      show (((⌊x⌋ : ℤ) : ℝ) : EReal) = _
      rw [hp]; norm_cast
    have epix : pix (x : EReal) = BitVec.ofNat 32 p := by
      unfold pix; rw [efl]
      have e0 : Ideal.fptosi 32 (((p : ℕ) : ℝ) : EReal) = BitVec.ofInt 32 (max (-(2 ^ 31 : ℕ)) (min ((2 ^ 31 : ℕ) - 1) (if (0 : ℝ) ≤ (p : ℝ) then ⌊((p : ℕ) : ℝ)⌋ else ⌈((p : ℕ) : ℝ)⌉))) := rfl
      rw [if_pos (Nat.cast_nonneg p), Int.floor_natCast] at e0
      rw [e0, show max (-((2 ^ 31 : ℕ) : ℤ)) (min (((2 ^ 31 : ℕ) : ℤ) - 1) (p : ℤ)) = (p : ℤ) from by norm_num; omega]
      simp
    have enat : (pix (x : EReal)).toNat = p := by rw [epix, BitVec.toNat_ofNat]; omega
    have hnext : (next (x : EReal) k).toNat = min (p + 1) k.toNat := by
      have e1 : (IntOp.addi (pix (x : EReal)) 1#32).toNat = p + 1 := by
        show (pix (x : EReal) + 1#32).toNat = _
        rw [BitVec.toNat_add, enat]; simp; omega
      show (IntOp.minsi _ k).toNat = _
      have e2 := toInt_small k (by omega)
      have e3 := toInt_small (IntOp.addi (pix (x : EReal)) 1#32) (by omega)
      unfold IntOp.minsi BitVec.slt
      rw [e2, e3, e1]
      split_ifs with h1 <;> simp only [decide_eq_true_eq] at h1
      · rw [e1]; omega
      · omega
    have hpx : (p : ℝ) ≤ x := by
      have := Int.floor_le x; rw [hp] at this; exact_mod_cast this
    have hxp : x < p + 1 := by
      have := Int.lt_floor_add_one x; rw [hp] at this; exact_mod_cast this
    refine ⟨p, x - p, by linarith, by linarith, ?_, enat, ?_, hnext, by omega, by omega, by omega, ?_⟩
    · unfold part; rw [efl]; norm_cast
    · rw [toInt_small _ (by omega), enat]; norm_cast
    · by_cases hq : p + 1 < a.toNat + R
      · exact Or.inl hq
      · refine Or.inr ?_
        have : p = a.toNat + (R - 1) := by omega
        rw [this] at hpx ⊢; linarith

theorem hit_eq (r : Nat) (p a : BitVec 32) (hr : r < 2 ^ 16) (hp : p.toNat < 2 ^ 16) (ha : a.toNat ≤ p.toNat) :
    hit (BitVec.ofNat 32 r) (IntOp.subi p a) = if a.toNat + r = p.toNat then 1 else 0 := by
  have e : (BitVec.ofNat 32 r = p - a) ↔ a.toNat + r = p.toNat := by
    rw [BitVec.toNat_inj.symm, BitVec.toNat_ofNat, BitVec.toNat_sub]; omega
  unfold hit
  by_cases h : a.toNat + r = p.toNat
  · rw [if_pos h]
    have : IntOp.cmpi .eq (BitVec.ofNat 32 r) (IntOp.subi p a) = 1#1 := by simp [IntOp.cmpi, IntOp.subi, e.2 h]
    rw [this]; simp
  · rw [if_neg h]
    have : IntOp.cmpi .eq (BitVec.ofNat 32 r) (IntOp.subi p a) = 0#1 := by
      have : ¬ (BitVec.ofNat 32 r = p - a) := fun q => h (e.1 q)
      show BitVec.ofBool (BitVec.ofNat 32 r == p - a) = 0#1
      rw [beq_false_of_ne this]; rfl
    rw [this]; simp

/-- A factor that goes into sums: a real number that is not negative. -/
def Good (c : EReal) : Prop := 0 ≤ c ∧ c ≠ ⊤
theorem good_coe {w : ℝ} (h : 0 ≤ w) : Good (w : EReal) := ⟨by exact_mod_cast h, EReal.coe_ne_top w⟩
theorem Good.into {c : EReal} (h : Good c) (x y : EReal) : (x + y) * c = x * c + y * c := EReal.right_distrib_of_nonneg_of_ne_top h.1 h.2 x y

/-- A sum in which one place is weighted. -/
theorem one_place {R : Nat} (a p : Nat) (c : EReal) (g : Nat → EReal) (h0 : a ≤ p) (h : p < a + R ∨ c = 0) :
    ∑ r : Fin R, ((if a + r.val = p then 1 else 0) * c) * g (a + r.val) = g p * c := by
  rcases h with h | h
  · rw [Finset.sum_eq_single_of_mem (⟨p - a, by omega⟩ : Fin R) (Finset.mem_univ _) (fun r _ hr => by
      rw [if_neg (fun q => hr (Fin.ext (by show r.val = p - a; omega)))]; simp)]
    have e : a + (p - a) = p := by omega
    simp only [e, if_pos]; rw [one_mul, mul_comm]
  · subst h; simp

theorem sum_good {ι : Type} [Fintype ι] (f : ι → EReal) {c : EReal} (h : Good c) : (∑ i, f i) * c = ∑ i, f i * c := by
  classical
  have : ∀ s : Finset ι, (∑ i ∈ s, f i) * c = ∑ i ∈ s, f i * c := fun s => by
    induction s using Finset.induction_on with
    | empty => simp
    | insert i s hi ih => rw [Finset.sum_insert hi, Finset.sum_insert hi, h.into, ih]
  exact this _

/-- The weight two samples give a pixel is a real number that is not negative. -/
theorem tap_eq {R : Nat} {a k : BitVec 32} {s : EReal} (h : Inside R a k s) {p : Nat} {w : ℝ} (hp : part s = (w : EReal)) (hq : (pix s).toNat = p)
    (hn : (next s k).toNat = min (p + 1) k.toNat) (ha : a.toNat ≤ p) (hk : p ≤ k.toNat) (r : Fin R) :
    tap s a k r.val = (if a.toNat + r.val = p then 1 else 0) * ((1 - w : ℝ) : EReal) + (if a.toNat + r.val = min (p + 1) k.toNat then 1 else 0) * (w : EReal) := by
  have h1 := h.fit; have h2 := h.small; have h3 := r.isLt
  unfold tap
  rw [hit_eq r.val (pix s) a (by omega) (by omega) (by omega), hit_eq r.val (next s k) a (by omega) (by omega) (by omega), hp, hq, hn]
  norm_cast

theorem good_tap {c d : EReal} (P Q : Prop) [Decidable P] [Decidable Q] (hc : Good c) (hd : Good d) : Good ((if P then 1 else 0) * c + (if Q then 1 else 0) * d) := by
  have e : ∀ (P : Prop) [Decidable P] (c : EReal), Good c → Good ((if P then 1 else 0) * c) := fun P _ c h => by
    by_cases q : P
    · simpa [q] using h
    · simpa [q] using (good_coe le_rfl : Good ((0 : ℝ) : EReal))
  have h1 := e P c hc; have h2 := e Q d hd
  exact ⟨add_nonneg h1.1 h2.1, EReal.add_ne_top h1.2 h2.2⟩

/-- The weighted sum of the window along one axis. -/
theorem line {R : Nat} (a p q p' q' : Nat) (c d c' d' e : EReal) (hc : Good c) (hd : Good d) (hc' : Good c') (hd' : Good d') (he : Good e) (g : Nat → EReal)
    (h1 : a ≤ p ∧ p < a + R) (h2 : a ≤ q ∧ (q < a + R ∨ d = 0)) (h3 : a ≤ p' ∧ p' < a + R) (h4 : a ≤ q' ∧ (q' < a + R ∨ d' = 0)) :
    ∑ r : Fin R, ((((if a + r.val = p then 1 else 0) * c + (if a + r.val = q then 1 else 0) * d) + ((if a + r.val = p' then 1 else 0) * c' + (if a + r.val = q' then 1 else 0) * d')) * e) * g (a + r.val)
      = ((g p * c + g q * d) + (g p' * c' + g q' * d')) * e := by
  have z : ∀ (P : Prop) [Decidable P] (c : EReal), Good c → 0 ≤ ((if P then 1 else 0) * c : EReal) := fun P _ c h => by
    by_cases q : P
    · simpa [q] using h.1
    · simp [q]
  have step : ∀ r : Fin R, ((((if a + r.val = p then 1 else 0) * c + (if a + r.val = q then 1 else 0) * d) + ((if a + r.val = p' then 1 else 0) * c' + (if a + r.val = q' then 1 else 0) * d')) * e) * g (a + r.val)
      = ((((if a + r.val = p then 1 else 0) * c) * g (a + r.val) + ((if a + r.val = q then 1 else 0) * d) * g (a + r.val)) + (((if a + r.val = p' then 1 else 0) * c') * g (a + r.val) + ((if a + r.val = q' then 1 else 0) * d') * g (a + r.val))) * e := fun r => by
    rw [mul_assoc, mul_comm e, ← mul_assoc]
    rw [EReal.right_distrib_of_nonneg (add_nonneg (z _ _ hc) (z _ _ hd)) (add_nonneg (z _ _ hc') (z _ _ hd')),
      EReal.right_distrib_of_nonneg (z _ _ hc) (z _ _ hd), EReal.right_distrib_of_nonneg (z _ _ hc') (z _ _ hd')]
  rw [Finset.sum_congr rfl fun r _ => step r, ← sum_good _ he, Finset.sum_add_distrib, Finset.sum_add_distrib, Finset.sum_add_distrib,
    one_place a p c g h1.1 (Or.inl h1.2), one_place a q d g h2.1 h2.2, one_place a p' c' g h3.1 (Or.inl h3.2), one_place a q' d' g h4.1 h4.2]

abbrev half : EReal := ((1 / 2 : ℝ) : EReal)

theorem half_eq : Ideal.ofBits .f32 0x3F000000#32 = half := by
  simp [Ideal.ofBits, Ideal.ieee, half, -EReal.coe_mul]
  norm_num
theorem four_eq : Ideal.ofBits .f32 0x40800000#32 = ((4 : ℝ) : EReal) := by
  simp [Ideal.ofBits, Ideal.ieee, -EReal.coe_mul]
  norm_num
/-- A quarter is half of a half. -/
theorem quarter (y : EReal) : Ideal.div y (Ideal.ofBits .f32 0x40800000#32) = y * half * half := by
  rw [four_eq, Ideal.div, if_neg (by exact_mod_cast (by norm_num : (4 : ℝ) ≠ 0)), mul_assoc, ← EReal.coe_inv]
  refine congrArg (y * ·) ?_
  show _ = ((1 / 2 * (1 / 2) : ℝ) : EReal)
  norm_num

/-- The window summed with the weights of two samples in each direction is the mean of the four bilinear samples. -/
theorem window_mean {R X : Nat} {a k b l : BitVec 32} {s s' z z' : EReal} (hs : Inside R a k s) (hs' : Inside R a k s') (hz : Inside X b l z) (hz' : Inside X b l z') (f : Nat → Nat → EReal) :
    ∑ r : Fin R, ∑ x : Fin X, (((tap s a k r.val + tap s' a k r.val) * half) * ((tap z b l x.val + tap z' b l x.val) * half)) * f (a.toNat + r.val) (b.toNat + x.val)
      = ((quad s z k l f + quad s z' k l f) + (quad s' z k l f + quad s' z' k l f)) * half * half := by
  obtain ⟨p, w, w0, w1, e1, e2, e3, e4, i1, i2, i3, i4⟩ := hs.parts
  obtain ⟨p', w', w0', w1', e1', e2', e3', e4', i1', i2', i3', i4'⟩ := hs'.parts
  obtain ⟨q, v, v0, v1, g1, g2, g3, g4, j1, j2, j3, j4⟩ := hz.parts
  obtain ⟨q', v', v0', v1', g1', g2', g3', g4', j1', j2', j3', j4'⟩ := hz'.parts
  have c1 := good_coe (show 0 ≤ 1 - w by linarith); have c2 := good_coe w0
  have c3 := good_coe (show 0 ≤ 1 - w' by linarith); have c4 := good_coe w0'
  have d1 := good_coe (show 0 ≤ 1 - v by linarith); have d2 := good_coe v0
  have d3 := good_coe (show 0 ≤ 1 - v' by linarith); have d4 := good_coe v0'
  have hh : Good half := good_coe (by norm_num)
  have one : ∀ w : ℝ, (1 : EReal) - (w : EReal) = ((1 - w : ℝ) : EReal) := fun w => by norm_cast
  have lim : ∀ {m r p k : ℕ} {w : ℝ}, m + r ≤ k + 1 → m ≤ p → p ≤ k → (p + 1 < m + r ∨ w = 0) → m ≤ min (p + 1) k ∧ (min (p + 1) k < m + r ∨ (w : EReal) = 0) := fun a b c h =>
    ⟨by omega, h.imp (fun _ => by omega) (fun h => by rw [h]; rfl)⟩
  obtain ⟨g, hg⟩ : ∃ g : Nat → EReal, ∀ y, g y = ((f y q * ((1 - v : ℝ) : EReal) + f y (min (q + 1) l.toNat) * (v : EReal)) + (f y q' * ((1 - v' : ℝ) : EReal) + f y (min (q' + 1) l.toNat) * (v' : EReal))) * half := ⟨_, fun _ => rfl⟩
  have fa := hs.fit; have fb := hz.fit
  have step : ∀ r : Fin R, ∑ x : Fin X, (((tap s a k r.val + tap s' a k r.val) * half) * ((tap z b l x.val + tap z' b l x.val) * half)) * f (a.toNat + r.val) (b.toNat + x.val)
      = ((((if a.toNat + r.val = p then 1 else 0) * ((1 - w : ℝ) : EReal) + (if a.toNat + r.val = min (p + 1) k.toNat then 1 else 0) * (w : EReal))
          + ((if a.toNat + r.val = p' then 1 else 0) * ((1 - w' : ℝ) : EReal) + (if a.toNat + r.val = min (p' + 1) k.toNat then 1 else 0) * (w' : EReal))) * half)
        * g (a.toNat + r.val) := fun r => by
    rw [tap_eq hs e1 e2 e4 i1 i3 r, tap_eq hs' e1' e2' e4' i1' i3' r]
    have hA : Good ((((if a.toNat + r.val = p then 1 else 0) * ((1 - w : ℝ) : EReal) + (if a.toNat + r.val = min (p + 1) k.toNat then 1 else 0) * (w : EReal))
          + ((if a.toNat + r.val = p' then 1 else 0) * ((1 - w' : ℝ) : EReal) + (if a.toNat + r.val = min (p' + 1) k.toNat then 1 else 0) * (w' : EReal))) * half) := by
      have h1 := good_tap (a.toNat + r.val = p) (a.toNat + r.val = min (p + 1) k.toNat) c1 c2
      have h2 := good_tap (a.toNat + r.val = p') (a.toNat + r.val = min (p' + 1) k.toNat) c3 c4
      refine ⟨mul_nonneg (add_nonneg h1.1 h2.1) hh.1, ?_⟩
      have key : ∀ y : EReal, 0 ≤ y → y ≠ ⊤ → y * half ≠ ⊤ := fun y h0 hy => by
        lift y to ℝ using ⟨hy, (lt_of_lt_of_le EReal.bot_lt_zero h0).ne'⟩
        exact EReal.coe_ne_top (y * (1 / 2))
      exact key _ (add_nonneg h1.1 h2.1) (EReal.add_ne_top h1.2 h2.2)
    generalize ((((if a.toNat + r.val = p then 1 else 0) * ((1 - w : ℝ) : EReal) + (if a.toNat + r.val = min (p + 1) k.toNat then 1 else 0) * (w : EReal))
          + ((if a.toNat + r.val = p' then 1 else 0) * ((1 - w' : ℝ) : EReal) + (if a.toNat + r.val = min (p' + 1) k.toNat then 1 else 0) * (w' : EReal))) * half) = A at hA ⊢
    have hl := line (R := X) b.toNat q (min (q + 1) l.toNat) q' (min (q' + 1) l.toNat) _ _ _ _ half d1 d2 d3 d4 hh (fun c => f (a.toNat + r.val) c)
      ⟨j1, j2⟩ (lim fb j1 j3 j4) ⟨j1', j2'⟩ (lim fb j1' j3' j4')
    rw [hg]
    refine Eq.trans ?_ ((congrArg (· * A) hl).trans (mul_comm _ _))
    show _ = (∑ x : Fin X, _) * A
    rw [sum_good _ hA]
    refine Finset.sum_congr rfl fun x _ => ?_
    rw [tap_eq hz g1 g2 g4 j1 j3 x, tap_eq hz' g1' g2' g4' j1' j3' x, mul_assoc, mul_comm A]
  rw [Finset.sum_congr rfl fun r _ => step r]
  rw [line (R := R) a.toNat p (min (p + 1) k.toNat) p' (min (p' + 1) k.toNat) _ _ _ _ half c1 c2 c3 c4 hh g ⟨i1, i2⟩ (lim fa i1 i3 i4) ⟨i1', i2'⟩ (lim fa i1' i3' i4')]
  simp only [hg]
  unfold quad
  rw [e2, e3, e4, e2', e3', e4', g2, g3, g4, g2', g3', g4']
  simp only [one]
  simp only [c1.into, c2.into, c3.into, c4.into, hh.into]
  ac_rfl

end Cert.Sample

end
-- ==== Proof.Kernel2Ideal.Host.lean ====
/- The arrays that the host lines make for the kernel, read at an index. -/
module

public import proofs.«01_k».proof.Proof.Kernel2Ideal.Run
public import proofs.«01_k».proof.Proof.Sample
public import Idealize.ShloMosaic.Lib.StableHlo.RunRead
public import Idealize.ShloMosaic.Lib.Pointwise

@[expose] public section

noncomputable section

namespace Cert.Kernel2Ideal.Hand

open Cert.Kernel2Ideal Cert.Kernel2Ideal.Gen
open Idealize.ShloMosaic Idealize.ShloMosaic.TcCoe Idealize.ShloMosaic.Tactic

/-- What two samples give to the `r`-th pixel of their window, halved. -/
abbrev weight (s s' : EReal) (a k : BitVec 32) (r : Nat) : EReal := (Cert.Sample.tap s a k r + Cert.Sample.tap s' a k r) * Cert.Sample.half

/-! The host lines' arrays: the pixel each sample begins at, how far past it the sample lies, and the window's start beside every sample. -/
abbrev pixA (s : FVec Ideal S512x14 .f32) : IVec S512x14 32 := fptosi 32 (Host.floor s)
abbrev partA (s : FVec Ideal S512x14 .f32) : FVec Ideal S512x14 .f32 := subf s (Host.floor s)
abbrev nextA (k : BitVec 32) (s : FVec Ideal S512x14 .f32) : IVec S512x14 32 :=
  minsi (addi (pixA s) (broadcastInDim S512x14 ![] bcast_S_S512x14 (constantI S_ 32 1#32))) (broadcastInDim S512x14 ![] bcast_S_S512x14 (constantI S_ 32 k))
abbrev startA0 (a : IVec S4x512 32) : IVec S512x14 32 :=
  broadcastInDim S512x14 ![0, 1] bcast_S512x1_S512x14_0_1 (broadcastInDim S512x1 ![0] bcast_S512_S512x1_0 (shapeCast S512 (extractStridedSlice S1x512 ![0, 0] a slices_S4x512_S1x512_0_0) shapeCasts_S1x512_S512))
abbrev startA1 (a : IVec S4x512 32) : IVec S512x14 32 :=
  broadcastInDim S512x14 ![0, 1] bcast_S512x1_S512x14_0_1 (broadcastInDim S512x1 ![0] bcast_S512_S512x1_0 (shapeCast S512 (extractStridedSlice S1x512 ![1, 0] a slices_S4x512_S1x512_1_0) shapeCasts_S1x512_S512))
abbrev startA2 (a : IVec S4x512 32) : IVec S512x14 32 :=
  broadcastInDim S512x14 ![0, 1] bcast_S512x1_S512x14_0_1 (broadcastInDim S512x1 ![0] bcast_S512_S512x1_0 (shapeCast S512 (extractStridedSlice S1x512 ![2, 0] a slices_S4x512_S1x512_2_0) shapeCasts_S1x512_S512))
abbrev startA3 (a : IVec S4x512 32) : IVec S512x14 32 :=
  broadcastInDim S512x14 ![0, 1] bcast_S512x1_S512x14_0_1 (broadcastInDim S512x1 ![0] bcast_S512_S512x1_0 (shapeCast S512 (extractStridedSlice S1x512 ![3, 0] a slices_S4x512_S1x512_3_0) shapeCasts_S1x512_S512))
/-- Level 0: the weights of the rows of a window. -/
abbrev rows0A (s : FVec Ideal S512x14 .f32) (a : IVec S4x512 32) : FVec Ideal S512x7x56 .f32 :=
  mulf (Host.reduceAdd (shapeCast S512x7x2x56 (addf (mulf (uitofp .f32 (cmpi .eq (broadcastInDim S512x14x56 ![0, 1, 2] bcast_S1x1x56_S512x14x56_0_1_2 (broadcastInDim S1x1x56 ![2] bcast_S56_S1x1x56_2 (iotaInDim S56 32 0))) (broadcastInDim S512x14x56 ![0, 1, 2] bcast_S512x14x1_S512x14x56_0_1_2 (broadcastInDim S512x14x1 ![0, 1] bcast_S512x14_S512x14x1_0_1 (subi (pixA s) (startA0 a)))))) (broadcastInDim S512x14x56 ![0, 1, 2] bcast_S512x14x1_S512x14x56_0_1_2 (broadcastInDim S512x14x1 ![0, 1] bcast_S512x14_S512x14x1_0_1 (subf (broadcastInDim S512x14 ![] bcast_S_S512x14 (constant S_ .f32 0x3F800000#32)) (partA s))))) (mulf (uitofp .f32 (cmpi .eq (broadcastInDim S512x14x56 ![0, 1, 2] bcast_S1x1x56_S512x14x56_0_1_2 (broadcastInDim S1x1x56 ![2] bcast_S56_S1x1x56_2 (iotaInDim S56 32 0))) (broadcastInDim S512x14x56 ![0, 1, 2] bcast_S512x14x1_S512x14x56_0_1_2 (broadcastInDim S512x14x1 ![0, 1] bcast_S512x14_S512x14x1_0_1 (subi (nextA 255#32 s) (startA0 a)))))) (broadcastInDim S512x14x56 ![0, 1, 2] bcast_S512x14x1_S512x14x56_0_1_2 (broadcastInDim S512x14x1 ![0, 1] bcast_S512x14_S512x14x1_0_1 (partA s))))) shapeCasts_S512x14x56_S512x7x2x56) (constant S_ .f32 0x00000000#32) reducesTo_S512x7x2x56_S512x7x56_d2 h_S_) (broadcastInDim S512x7x56 ![] bcast_S_S512x7x56 (constant S_ .f32 0x3F000000#32))
set_option maxHeartbeats 1000000 in
theorem rows0A_at (s : FVec Ideal S512x14 .f32) (a : IVec S4x512 32) (n : Fin 512) (i : Fin 7) (r : Fin 56) :
    rows0A s a (ix3 n i r) = weight (s (ix2 n ⟨i.val * 2, by omega⟩)) (s (ix2 n ⟨i.val * 2 + 1, by omega⟩)) (a (ix2 0 n)) 255#32 r.val := by
  pointwise [Cert.Sample.half_eq]
  rw [Fin.sum_univ_two]; rfl
/-- Level 0: the weights of the columns of a window. -/
abbrev cols0A (s : FVec Ideal S512x14 .f32) (a : IVec S4x512 32) : FVec Ideal S512x7x64 .f32 :=
  mulf (Host.reduceAdd (shapeCast S512x7x2x64 (addf (mulf (uitofp .f32 (cmpi .eq (broadcastInDim S512x14x64 ![0, 1, 2] bcast_S1x1x64_S512x14x64_0_1_2 (broadcastInDim S1x1x64 ![2] bcast_S64_S1x1x64_2 (iotaInDim S64 32 0))) (broadcastInDim S512x14x64 ![0, 1, 2] bcast_S512x14x1_S512x14x64_0_1_2 (broadcastInDim S512x14x1 ![0, 1] bcast_S512x14_S512x14x1_0_1 (subi (pixA s) (startA0 a)))))) (broadcastInDim S512x14x64 ![0, 1, 2] bcast_S512x14x1_S512x14x64_0_1_2 (broadcastInDim S512x14x1 ![0, 1] bcast_S512x14_S512x14x1_0_1 (subf (broadcastInDim S512x14 ![] bcast_S_S512x14 (constant S_ .f32 0x3F800000#32)) (partA s))))) (mulf (uitofp .f32 (cmpi .eq (broadcastInDim S512x14x64 ![0, 1, 2] bcast_S1x1x64_S512x14x64_0_1_2 (broadcastInDim S1x1x64 ![2] bcast_S64_S1x1x64_2 (iotaInDim S64 32 0))) (broadcastInDim S512x14x64 ![0, 1, 2] bcast_S512x14x1_S512x14x64_0_1_2 (broadcastInDim S512x14x1 ![0, 1] bcast_S512x14_S512x14x1_0_1 (subi (nextA 255#32 s) (startA0 a)))))) (broadcastInDim S512x14x64 ![0, 1, 2] bcast_S512x14x1_S512x14x64_0_1_2 (broadcastInDim S512x14x1 ![0, 1] bcast_S512x14_S512x14x1_0_1 (partA s))))) shapeCasts_S512x14x64_S512x7x2x64) (constant S_ .f32 0x00000000#32) reducesTo_S512x7x2x64_S512x7x64_d2 h_S_) (broadcastInDim S512x7x64 ![] bcast_S_S512x7x64 (constant S_ .f32 0x3F000000#32))
set_option maxHeartbeats 1000000 in
theorem cols0A_at (s : FVec Ideal S512x14 .f32) (a : IVec S4x512 32) (n : Fin 512) (i : Fin 7) (r : Fin 64) :
    cols0A s a (ix3 n i r) = weight (s (ix2 n ⟨i.val * 2, by omega⟩)) (s (ix2 n ⟨i.val * 2 + 1, by omega⟩)) (a (ix2 0 n)) 255#32 r.val := by
  pointwise [Cert.Sample.half_eq]
  rw [Fin.sum_univ_two]; rfl
/-- Level 1: the weights of the rows of a window. -/
abbrev rows1A (s : FVec Ideal S512x14 .f32) (a : IVec S4x512 32) : FVec Ideal S512x7x32 .f32 :=
  mulf (Host.reduceAdd (shapeCast S512x7x2x32 (addf (mulf (uitofp .f32 (cmpi .eq (broadcastInDim S512x14x32 ![0, 1, 2] bcast_S1x1x32_S512x14x32_0_1_2 (broadcastInDim S1x1x32 ![2] bcast_S32_S1x1x32_2 (iotaInDim S32 32 0))) (broadcastInDim S512x14x32 ![0, 1, 2] bcast_S512x14x1_S512x14x32_0_1_2 (broadcastInDim S512x14x1 ![0, 1] bcast_S512x14_S512x14x1_0_1 (subi (pixA s) (startA1 a)))))) (broadcastInDim S512x14x32 ![0, 1, 2] bcast_S512x14x1_S512x14x32_0_1_2 (broadcastInDim S512x14x1 ![0, 1] bcast_S512x14_S512x14x1_0_1 (subf (broadcastInDim S512x14 ![] bcast_S_S512x14 (constant S_ .f32 0x3F800000#32)) (partA s))))) (mulf (uitofp .f32 (cmpi .eq (broadcastInDim S512x14x32 ![0, 1, 2] bcast_S1x1x32_S512x14x32_0_1_2 (broadcastInDim S1x1x32 ![2] bcast_S32_S1x1x32_2 (iotaInDim S32 32 0))) (broadcastInDim S512x14x32 ![0, 1, 2] bcast_S512x14x1_S512x14x32_0_1_2 (broadcastInDim S512x14x1 ![0, 1] bcast_S512x14_S512x14x1_0_1 (subi (nextA 127#32 s) (startA1 a)))))) (broadcastInDim S512x14x32 ![0, 1, 2] bcast_S512x14x1_S512x14x32_0_1_2 (broadcastInDim S512x14x1 ![0, 1] bcast_S512x14_S512x14x1_0_1 (partA s))))) shapeCasts_S512x14x32_S512x7x2x32) (constant S_ .f32 0x00000000#32) reducesTo_S512x7x2x32_S512x7x32_d2 h_S_) (broadcastInDim S512x7x32 ![] bcast_S_S512x7x32 (constant S_ .f32 0x3F000000#32))
set_option maxHeartbeats 1000000 in
theorem rows1A_at (s : FVec Ideal S512x14 .f32) (a : IVec S4x512 32) (n : Fin 512) (i : Fin 7) (r : Fin 32) :
    rows1A s a (ix3 n i r) = weight (s (ix2 n ⟨i.val * 2, by omega⟩)) (s (ix2 n ⟨i.val * 2 + 1, by omega⟩)) (a (ix2 1 n)) 127#32 r.val := by
  pointwise [Cert.Sample.half_eq]
  rw [Fin.sum_univ_two]; rfl
/-- Level 1: the weights of the columns of a window. -/
abbrev cols1A (s : FVec Ideal S512x14 .f32) (a : IVec S4x512 32) : FVec Ideal S512x7x40 .f32 :=
  mulf (Host.reduceAdd (shapeCast S512x7x2x40 (addf (mulf (uitofp .f32 (cmpi .eq (broadcastInDim S512x14x40 ![0, 1, 2] bcast_S1x1x40_S512x14x40_0_1_2 (broadcastInDim S1x1x40 ![2] bcast_S40_S1x1x40_2 (iotaInDim S40 32 0))) (broadcastInDim S512x14x40 ![0, 1, 2] bcast_S512x14x1_S512x14x40_0_1_2 (broadcastInDim S512x14x1 ![0, 1] bcast_S512x14_S512x14x1_0_1 (subi (pixA s) (startA1 a)))))) (broadcastInDim S512x14x40 ![0, 1, 2] bcast_S512x14x1_S512x14x40_0_1_2 (broadcastInDim S512x14x1 ![0, 1] bcast_S512x14_S512x14x1_0_1 (subf (broadcastInDim S512x14 ![] bcast_S_S512x14 (constant S_ .f32 0x3F800000#32)) (partA s))))) (mulf (uitofp .f32 (cmpi .eq (broadcastInDim S512x14x40 ![0, 1, 2] bcast_S1x1x40_S512x14x40_0_1_2 (broadcastInDim S1x1x40 ![2] bcast_S40_S1x1x40_2 (iotaInDim S40 32 0))) (broadcastInDim S512x14x40 ![0, 1, 2] bcast_S512x14x1_S512x14x40_0_1_2 (broadcastInDim S512x14x1 ![0, 1] bcast_S512x14_S512x14x1_0_1 (subi (nextA 127#32 s) (startA1 a)))))) (broadcastInDim S512x14x40 ![0, 1, 2] bcast_S512x14x1_S512x14x40_0_1_2 (broadcastInDim S512x14x1 ![0, 1] bcast_S512x14_S512x14x1_0_1 (partA s))))) shapeCasts_S512x14x40_S512x7x2x40) (constant S_ .f32 0x00000000#32) reducesTo_S512x7x2x40_S512x7x40_d2 h_S_) (broadcastInDim S512x7x40 ![] bcast_S_S512x7x40 (constant S_ .f32 0x3F000000#32))
set_option maxHeartbeats 1000000 in
theorem cols1A_at (s : FVec Ideal S512x14 .f32) (a : IVec S4x512 32) (n : Fin 512) (i : Fin 7) (r : Fin 40) :
    cols1A s a (ix3 n i r) = weight (s (ix2 n ⟨i.val * 2, by omega⟩)) (s (ix2 n ⟨i.val * 2 + 1, by omega⟩)) (a (ix2 1 n)) 127#32 r.val := by
  pointwise [Cert.Sample.half_eq]
  rw [Fin.sum_univ_two]; rfl
/-- Level 2: the weights of the rows of a window. -/
abbrev rows2A (s : FVec Ideal S512x14 .f32) (a : IVec S4x512 32) : FVec Ideal S512x7x16 .f32 :=
  mulf (Host.reduceAdd (shapeCast S512x7x2x16 (addf (mulf (uitofp .f32 (cmpi .eq (broadcastInDim S512x14x16 ![0, 1, 2] bcast_S1x1x16_S512x14x16_0_1_2 (broadcastInDim S1x1x16 ![2] bcast_S16_S1x1x16_2 (iotaInDim S16 32 0))) (broadcastInDim S512x14x16 ![0, 1, 2] bcast_S512x14x1_S512x14x16_0_1_2 (broadcastInDim S512x14x1 ![0, 1] bcast_S512x14_S512x14x1_0_1 (subi (pixA s) (startA2 a)))))) (broadcastInDim S512x14x16 ![0, 1, 2] bcast_S512x14x1_S512x14x16_0_1_2 (broadcastInDim S512x14x1 ![0, 1] bcast_S512x14_S512x14x1_0_1 (subf (broadcastInDim S512x14 ![] bcast_S_S512x14 (constant S_ .f32 0x3F800000#32)) (partA s))))) (mulf (uitofp .f32 (cmpi .eq (broadcastInDim S512x14x16 ![0, 1, 2] bcast_S1x1x16_S512x14x16_0_1_2 (broadcastInDim S1x1x16 ![2] bcast_S16_S1x1x16_2 (iotaInDim S16 32 0))) (broadcastInDim S512x14x16 ![0, 1, 2] bcast_S512x14x1_S512x14x16_0_1_2 (broadcastInDim S512x14x1 ![0, 1] bcast_S512x14_S512x14x1_0_1 (subi (nextA 63#32 s) (startA2 a)))))) (broadcastInDim S512x14x16 ![0, 1, 2] bcast_S512x14x1_S512x14x16_0_1_2 (broadcastInDim S512x14x1 ![0, 1] bcast_S512x14_S512x14x1_0_1 (partA s))))) shapeCasts_S512x14x16_S512x7x2x16) (constant S_ .f32 0x00000000#32) reducesTo_S512x7x2x16_S512x7x16_d2 h_S_) (broadcastInDim S512x7x16 ![] bcast_S_S512x7x16 (constant S_ .f32 0x3F000000#32))
set_option maxHeartbeats 1000000 in
theorem rows2A_at (s : FVec Ideal S512x14 .f32) (a : IVec S4x512 32) (n : Fin 512) (i : Fin 7) (r : Fin 16) :
    rows2A s a (ix3 n i r) = weight (s (ix2 n ⟨i.val * 2, by omega⟩)) (s (ix2 n ⟨i.val * 2 + 1, by omega⟩)) (a (ix2 2 n)) 63#32 r.val := by
  pointwise [Cert.Sample.half_eq]
  rw [Fin.sum_univ_two]; rfl
/-- Level 2: the weights of the columns of a window. -/
abbrev cols2A (s : FVec Ideal S512x14 .f32) (a : IVec S4x512 32) : FVec Ideal S512x7x24 .f32 :=
  mulf (Host.reduceAdd (shapeCast S512x7x2x24 (addf (mulf (uitofp .f32 (cmpi .eq (broadcastInDim S512x14x24 ![0, 1, 2] bcast_S1x1x24_S512x14x24_0_1_2 (broadcastInDim S1x1x24 ![2] bcast_S24_S1x1x24_2 (iotaInDim S24 32 0))) (broadcastInDim S512x14x24 ![0, 1, 2] bcast_S512x14x1_S512x14x24_0_1_2 (broadcastInDim S512x14x1 ![0, 1] bcast_S512x14_S512x14x1_0_1 (subi (pixA s) (startA2 a)))))) (broadcastInDim S512x14x24 ![0, 1, 2] bcast_S512x14x1_S512x14x24_0_1_2 (broadcastInDim S512x14x1 ![0, 1] bcast_S512x14_S512x14x1_0_1 (subf (broadcastInDim S512x14 ![] bcast_S_S512x14 (constant S_ .f32 0x3F800000#32)) (partA s))))) (mulf (uitofp .f32 (cmpi .eq (broadcastInDim S512x14x24 ![0, 1, 2] bcast_S1x1x24_S512x14x24_0_1_2 (broadcastInDim S1x1x24 ![2] bcast_S24_S1x1x24_2 (iotaInDim S24 32 0))) (broadcastInDim S512x14x24 ![0, 1, 2] bcast_S512x14x1_S512x14x24_0_1_2 (broadcastInDim S512x14x1 ![0, 1] bcast_S512x14_S512x14x1_0_1 (subi (nextA 63#32 s) (startA2 a)))))) (broadcastInDim S512x14x24 ![0, 1, 2] bcast_S512x14x1_S512x14x24_0_1_2 (broadcastInDim S512x14x1 ![0, 1] bcast_S512x14_S512x14x1_0_1 (partA s))))) shapeCasts_S512x14x24_S512x7x2x24) (constant S_ .f32 0x00000000#32) reducesTo_S512x7x2x24_S512x7x24_d2 h_S_) (broadcastInDim S512x7x24 ![] bcast_S_S512x7x24 (constant S_ .f32 0x3F000000#32))
set_option maxHeartbeats 1000000 in
theorem cols2A_at (s : FVec Ideal S512x14 .f32) (a : IVec S4x512 32) (n : Fin 512) (i : Fin 7) (r : Fin 24) :
    cols2A s a (ix3 n i r) = weight (s (ix2 n ⟨i.val * 2, by omega⟩)) (s (ix2 n ⟨i.val * 2 + 1, by omega⟩)) (a (ix2 2 n)) 63#32 r.val := by
  pointwise [Cert.Sample.half_eq]
  rw [Fin.sum_univ_two]; rfl
/-- Level 3: the weights of the rows of a window. -/
abbrev rows3A (s : FVec Ideal S512x14 .f32) (a : IVec S4x512 32) : FVec Ideal S512x7x16 .f32 :=
  mulf (Host.reduceAdd (shapeCast S512x7x2x16 (addf (mulf (uitofp .f32 (cmpi .eq (broadcastInDim S512x14x16 ![0, 1, 2] bcast_S1x1x16_S512x14x16_0_1_2 (broadcastInDim S1x1x16 ![2] bcast_S16_S1x1x16_2 (iotaInDim S16 32 0))) (broadcastInDim S512x14x16 ![0, 1, 2] bcast_S512x14x1_S512x14x16_0_1_2 (broadcastInDim S512x14x1 ![0, 1] bcast_S512x14_S512x14x1_0_1 (subi (pixA s) (startA3 a)))))) (broadcastInDim S512x14x16 ![0, 1, 2] bcast_S512x14x1_S512x14x16_0_1_2 (broadcastInDim S512x14x1 ![0, 1] bcast_S512x14_S512x14x1_0_1 (subf (broadcastInDim S512x14 ![] bcast_S_S512x14 (constant S_ .f32 0x3F800000#32)) (partA s))))) (mulf (uitofp .f32 (cmpi .eq (broadcastInDim S512x14x16 ![0, 1, 2] bcast_S1x1x16_S512x14x16_0_1_2 (broadcastInDim S1x1x16 ![2] bcast_S16_S1x1x16_2 (iotaInDim S16 32 0))) (broadcastInDim S512x14x16 ![0, 1, 2] bcast_S512x14x1_S512x14x16_0_1_2 (broadcastInDim S512x14x1 ![0, 1] bcast_S512x14_S512x14x1_0_1 (subi (nextA 31#32 s) (startA3 a)))))) (broadcastInDim S512x14x16 ![0, 1, 2] bcast_S512x14x1_S512x14x16_0_1_2 (broadcastInDim S512x14x1 ![0, 1] bcast_S512x14_S512x14x1_0_1 (partA s))))) shapeCasts_S512x14x16_S512x7x2x16) (constant S_ .f32 0x00000000#32) reducesTo_S512x7x2x16_S512x7x16_d2 h_S_) (broadcastInDim S512x7x16 ![] bcast_S_S512x7x16 (constant S_ .f32 0x3F000000#32))
set_option maxHeartbeats 1000000 in
theorem rows3A_at (s : FVec Ideal S512x14 .f32) (a : IVec S4x512 32) (n : Fin 512) (i : Fin 7) (r : Fin 16) :
    rows3A s a (ix3 n i r) = weight (s (ix2 n ⟨i.val * 2, by omega⟩)) (s (ix2 n ⟨i.val * 2 + 1, by omega⟩)) (a (ix2 3 n)) 31#32 r.val := by
  pointwise [Cert.Sample.half_eq]
  rw [Fin.sum_univ_two]; rfl
/-- Level 3: the weights of the columns of a window. -/
abbrev cols3A (s : FVec Ideal S512x14 .f32) (a : IVec S4x512 32) : FVec Ideal S512x7x16 .f32 :=
  mulf (Host.reduceAdd (shapeCast S512x7x2x16 (addf (mulf (uitofp .f32 (cmpi .eq (broadcastInDim S512x14x16 ![0, 1, 2] bcast_S1x1x16_S512x14x16_0_1_2 (broadcastInDim S1x1x16 ![2] bcast_S16_S1x1x16_2 (iotaInDim S16 32 0))) (broadcastInDim S512x14x16 ![0, 1, 2] bcast_S512x14x1_S512x14x16_0_1_2 (broadcastInDim S512x14x1 ![0, 1] bcast_S512x14_S512x14x1_0_1 (subi (pixA s) (startA3 a)))))) (broadcastInDim S512x14x16 ![0, 1, 2] bcast_S512x14x1_S512x14x16_0_1_2 (broadcastInDim S512x14x1 ![0, 1] bcast_S512x14_S512x14x1_0_1 (subf (broadcastInDim S512x14 ![] bcast_S_S512x14 (constant S_ .f32 0x3F800000#32)) (partA s))))) (mulf (uitofp .f32 (cmpi .eq (broadcastInDim S512x14x16 ![0, 1, 2] bcast_S1x1x16_S512x14x16_0_1_2 (broadcastInDim S1x1x16 ![2] bcast_S16_S1x1x16_2 (iotaInDim S16 32 0))) (broadcastInDim S512x14x16 ![0, 1, 2] bcast_S512x14x1_S512x14x16_0_1_2 (broadcastInDim S512x14x1 ![0, 1] bcast_S512x14_S512x14x1_0_1 (subi (nextA 31#32 s) (startA3 a)))))) (broadcastInDim S512x14x16 ![0, 1, 2] bcast_S512x14x1_S512x14x16_0_1_2 (broadcastInDim S512x14x1 ![0, 1] bcast_S512x14_S512x14x1_0_1 (partA s))))) shapeCasts_S512x14x16_S512x7x2x16) (constant S_ .f32 0x00000000#32) reducesTo_S512x7x2x16_S512x7x16_d2 h_S_) (broadcastInDim S512x7x16 ![] bcast_S_S512x7x16 (constant S_ .f32 0x3F000000#32))
set_option maxHeartbeats 1000000 in
theorem cols3A_at (s : FVec Ideal S512x14 .f32) (a : IVec S4x512 32) (n : Fin 512) (i : Fin 7) (r : Fin 16) :
    cols3A s a (ix3 n i r) = weight (s (ix2 n ⟨i.val * 2, by omega⟩)) (s (ix2 n ⟨i.val * 2 + 1, by omega⟩)) (a (ix2 3 n)) 31#32 r.val := by
  pointwise [Cert.Sample.half_eq]
  rw [Fin.sum_univ_two]; rfl

variable (m : (ℓ : Loc nD τ sig) → Buf (Elt Ideal) ℓ) (c : Dev nD)

/-- Level 0: the features with the channels last, and the bins' row and column weights, one column of the table for each bin. -/
theorem host_feat0 (b : Fin 2) (y x : Fin 256) (k : Fin 256) : (show S2x256x256x256.Idx → EReal from V₀ m c (Proc.devRef .tc main_call0_v0)) (ix4 b y x k) = (show S2x256x256x256.Idx → EReal from m (c, Proc.devRef .tc main_arg0)) (ix4 b k y x) := by
  rw [show (V₀ m c (Proc.devRef .tc main_call0_v0)) = transpose S2x256x256x256 [0, 2, 3, 1] (show S2x256x256x256.Idx → EReal from m (c, Proc.devRef .tc main_arg0)) transposes_S2x256x256x256_S2x256x256x256_0_2_3_1 from by
    rw [V₀_eq, List.flatten_singleton]; after_reads_simp; rfl]
  pointwise
theorem host_rows0 (n : Fin 512) (r : Fin 56) (i j : Fin 7) : (show S512x56x49.Idx → EReal from V₀ m c (Proc.devRef .tc main_call0_v88)) (ix3 n r ⟨7 * i.val + j.val, by omega⟩) = (rows0A (m (c, Proc.devRef .tc main_arg7)) (m (c, Proc.devRef .tc main_arg5))) (ix3 n i r) := by
  rw [show (V₀ m c (Proc.devRef .tc main_call0_v88)) = shapeCast S512x56x49 (broadcastInDim S512x56x7x7 ![0, 1, 2] bcast_S512x56x7_S512x56x7x7_0_1_2 (transpose S512x56x7 [0, 2, 1] (rows0A (m (c, Proc.devRef .tc main_arg7)) (m (c, Proc.devRef .tc main_arg5))) transposes_S512x7x56_S512x56x7_0_2_1)) shapeCasts_S512x56x7x7_S512x56x49 from by
    rw [V₀_eq, List.flatten_singleton]; after_reads_simp; rfl]
  pointwise
theorem host_cols0 (n : Fin 512) (x : Fin 64) (i j : Fin 7) : (show S512x64x49.Idx → EReal from V₀ m c (Proc.devRef .tc main_call0_v92)) (ix3 n x ⟨7 * i.val + j.val, by omega⟩) = (cols0A (m (c, Proc.devRef .tc main_arg8)) (m (c, Proc.devRef .tc main_arg6))) (ix3 n j x) := by
  rw [show (V₀ m c (Proc.devRef .tc main_call0_v92)) = shapeCast S512x64x49 (broadcastInDim S1x512x1x64x7x7 ![0, 1, 2, 3, 4, 5] bcast_S1x512x1x64x1x7_S1x512x1x64x7x7_0_1_2_3_4_5 (shapeCast S1x512x1x64x1x7 (transpose S512x64x7 [0, 2, 1] (cols0A (m (c, Proc.devRef .tc main_arg8)) (m (c, Proc.devRef .tc main_arg6))) transposes_S512x7x64_S512x64x7_0_2_1) shapeCasts_S512x64x7_S1x512x1x64x1x7)) shapeCasts_S1x512x1x64x7x7_S512x64x49 from by
    rw [V₀_eq, List.flatten_singleton]; after_reads_simp; rfl]
  pointwise
/-- Level 1: the features with the channels last, and the bins' row and column weights, one column of the table for each bin. -/
theorem host_feat1 (b : Fin 2) (y x : Fin 128) (k : Fin 256) : (show S2x128x128x256.Idx → EReal from V₀ m c (Proc.devRef .tc main_call0_v1)) (ix4 b y x k) = (show S2x256x128x128.Idx → EReal from m (c, Proc.devRef .tc main_arg1)) (ix4 b k y x) := by
  rw [show (V₀ m c (Proc.devRef .tc main_call0_v1)) = transpose S2x128x128x256 [0, 2, 3, 1] (show S2x256x128x128.Idx → EReal from m (c, Proc.devRef .tc main_arg1)) transposes_S2x256x128x128_S2x128x128x256_0_2_3_1 from by
    rw [V₀_eq, List.flatten_singleton]; after_reads_simp; rfl]
  pointwise
theorem host_rows1 (n : Fin 512) (r : Fin 32) (i j : Fin 7) : (show S512x32x49.Idx → EReal from V₀ m c (Proc.devRef .tc main_call0_v177)) (ix3 n r ⟨7 * i.val + j.val, by omega⟩) = (rows1A (m (c, Proc.devRef .tc main_arg9)) (m (c, Proc.devRef .tc main_arg5))) (ix3 n i r) := by
  rw [show (V₀ m c (Proc.devRef .tc main_call0_v177)) = shapeCast S512x32x49 (broadcastInDim S512x32x7x7 ![0, 1, 2] bcast_S512x32x7_S512x32x7x7_0_1_2 (transpose S512x32x7 [0, 2, 1] (rows1A (m (c, Proc.devRef .tc main_arg9)) (m (c, Proc.devRef .tc main_arg5))) transposes_S512x7x32_S512x32x7_0_2_1)) shapeCasts_S512x32x7x7_S512x32x49 from by
    rw [V₀_eq, List.flatten_singleton]; after_reads_simp; rfl]
  pointwise
theorem host_cols1 (n : Fin 512) (x : Fin 40) (i j : Fin 7) : (show S512x40x49.Idx → EReal from V₀ m c (Proc.devRef .tc main_call0_v181)) (ix3 n x ⟨7 * i.val + j.val, by omega⟩) = (cols1A (m (c, Proc.devRef .tc main_arg10)) (m (c, Proc.devRef .tc main_arg6))) (ix3 n j x) := by
  rw [show (V₀ m c (Proc.devRef .tc main_call0_v181)) = shapeCast S512x40x49 (broadcastInDim S1x512x1x40x7x7 ![0, 1, 2, 3, 4, 5] bcast_S1x512x1x40x1x7_S1x512x1x40x7x7_0_1_2_3_4_5 (shapeCast S1x512x1x40x1x7 (transpose S512x40x7 [0, 2, 1] (cols1A (m (c, Proc.devRef .tc main_arg10)) (m (c, Proc.devRef .tc main_arg6))) transposes_S512x7x40_S512x40x7_0_2_1) shapeCasts_S512x40x7_S1x512x1x40x1x7)) shapeCasts_S1x512x1x40x7x7_S512x40x49 from by
    rw [V₀_eq, List.flatten_singleton]; after_reads_simp; rfl]
  pointwise
/-- Level 2: the features with the channels last, and the bins' row and column weights, one column of the table for each bin. -/
theorem host_feat2 (b : Fin 2) (y x : Fin 64) (k : Fin 256) : (show S2x64x64x256.Idx → EReal from V₀ m c (Proc.devRef .tc main_call0_v2)) (ix4 b y x k) = (show S2x256x64x64.Idx → EReal from m (c, Proc.devRef .tc main_arg2)) (ix4 b k y x) := by
  rw [show (V₀ m c (Proc.devRef .tc main_call0_v2)) = transpose S2x64x64x256 [0, 2, 3, 1] (show S2x256x64x64.Idx → EReal from m (c, Proc.devRef .tc main_arg2)) transposes_S2x256x64x64_S2x64x64x256_0_2_3_1 from by
    rw [V₀_eq, List.flatten_singleton]; after_reads_simp; rfl]
  pointwise
theorem host_rows2 (n : Fin 512) (r : Fin 16) (i j : Fin 7) : (show S512x16x49.Idx → EReal from V₀ m c (Proc.devRef .tc main_call0_v266)) (ix3 n r ⟨7 * i.val + j.val, by omega⟩) = (rows2A (m (c, Proc.devRef .tc main_arg11)) (m (c, Proc.devRef .tc main_arg5))) (ix3 n i r) := by
  rw [show (V₀ m c (Proc.devRef .tc main_call0_v266)) = shapeCast S512x16x49 (broadcastInDim S512x16x7x7 ![0, 1, 2] bcast_S512x16x7_S512x16x7x7_0_1_2 (transpose S512x16x7 [0, 2, 1] (rows2A (m (c, Proc.devRef .tc main_arg11)) (m (c, Proc.devRef .tc main_arg5))) transposes_S512x7x16_S512x16x7_0_2_1)) shapeCasts_S512x16x7x7_S512x16x49 from by
    rw [V₀_eq, List.flatten_singleton]; after_reads_simp; rfl]
  pointwise
theorem host_cols2 (n : Fin 512) (x : Fin 24) (i j : Fin 7) : (show S512x24x49.Idx → EReal from V₀ m c (Proc.devRef .tc main_call0_v270)) (ix3 n x ⟨7 * i.val + j.val, by omega⟩) = (cols2A (m (c, Proc.devRef .tc main_arg12)) (m (c, Proc.devRef .tc main_arg6))) (ix3 n j x) := by
  rw [show (V₀ m c (Proc.devRef .tc main_call0_v270)) = shapeCast S512x24x49 (broadcastInDim S1x512x1x24x7x7 ![0, 1, 2, 3, 4, 5] bcast_S1x512x1x24x1x7_S1x512x1x24x7x7_0_1_2_3_4_5 (shapeCast S1x512x1x24x1x7 (transpose S512x24x7 [0, 2, 1] (cols2A (m (c, Proc.devRef .tc main_arg12)) (m (c, Proc.devRef .tc main_arg6))) transposes_S512x7x24_S512x24x7_0_2_1) shapeCasts_S512x24x7_S1x512x1x24x1x7)) shapeCasts_S1x512x1x24x7x7_S512x24x49 from by
    rw [V₀_eq, List.flatten_singleton]; after_reads_simp; rfl]
  pointwise
/-- Level 3: the features with the channels last, and the bins' row and column weights, one column of the table for each bin. -/
theorem host_feat3 (b : Fin 2) (y x : Fin 32) (k : Fin 256) : (show S2x32x32x256.Idx → EReal from V₀ m c (Proc.devRef .tc main_call0_v3)) (ix4 b y x k) = (show S2x256x32x32.Idx → EReal from m (c, Proc.devRef .tc main_arg3)) (ix4 b k y x) := by
  rw [show (V₀ m c (Proc.devRef .tc main_call0_v3)) = transpose S2x32x32x256 [0, 2, 3, 1] (show S2x256x32x32.Idx → EReal from m (c, Proc.devRef .tc main_arg3)) transposes_S2x256x32x32_S2x32x32x256_0_2_3_1 from by
    rw [V₀_eq, List.flatten_singleton]; after_reads_simp; rfl]
  pointwise
theorem host_rows3 (n : Fin 512) (r : Fin 16) (i j : Fin 7) : (show S512x16x49.Idx → EReal from V₀ m c (Proc.devRef .tc main_call0_v355)) (ix3 n r ⟨7 * i.val + j.val, by omega⟩) = (rows3A (m (c, Proc.devRef .tc main_arg13)) (m (c, Proc.devRef .tc main_arg5))) (ix3 n i r) := by
  rw [show (V₀ m c (Proc.devRef .tc main_call0_v355)) = shapeCast S512x16x49 (broadcastInDim S512x16x7x7 ![0, 1, 2] bcast_S512x16x7_S512x16x7x7_0_1_2 (transpose S512x16x7 [0, 2, 1] (rows3A (m (c, Proc.devRef .tc main_arg13)) (m (c, Proc.devRef .tc main_arg5))) transposes_S512x7x16_S512x16x7_0_2_1)) shapeCasts_S512x16x7x7_S512x16x49 from by
    rw [V₀_eq, List.flatten_singleton]; after_reads_simp; rfl]
  pointwise
theorem host_cols3 (n : Fin 512) (x : Fin 16) (i j : Fin 7) : (show S512x16x49.Idx → EReal from V₀ m c (Proc.devRef .tc main_call0_v359)) (ix3 n x ⟨7 * i.val + j.val, by omega⟩) = (cols3A (m (c, Proc.devRef .tc main_arg14)) (m (c, Proc.devRef .tc main_arg6))) (ix3 n j x) := by
  rw [show (V₀ m c (Proc.devRef .tc main_call0_v359)) = shapeCast S512x16x49 (broadcastInDim S1x512x1x16x7x7 ![0, 1, 2, 3, 4, 5] bcast_S1x512x1x16x1x7_S1x512x1x16x7x7_0_1_2_3_4_5 (shapeCast S1x512x1x16x1x7 (transpose S512x16x7 [0, 2, 1] (cols3A (m (c, Proc.devRef .tc main_arg14)) (m (c, Proc.devRef .tc main_arg6))) transposes_S512x7x16_S512x16x7_0_2_1) shapeCasts_S512x16x7_S1x512x1x16x1x7)) shapeCasts_S1x512x1x16x7x7_S512x16x49 from by
    rw [V₀_eq, List.flatten_singleton]; after_reads_simp; rfl]
  pointwise
/-- The convolution's weights, a block of 256 channels for each level, and its bias. -/
theorem host_weights (l : Fin 4) (k o : Fin 256) : (show S4x256x256.Idx → EReal from V₀ m c (Proc.devRef .tc main_call0_v361)) (ix3 l k o) = (show S256x1024.Idx → EReal from m (c, Proc.devRef .tc main_arg15)) (ix2 o ⟨l.val * 256 + k.val, by omega⟩) := by
  rw [show (V₀ m c (Proc.devRef .tc main_call0_v361)) = transpose S4x256x256 [1, 2, 0] (shapeCast S256x4x256 (show S256x1024.Idx → EReal from m (c, Proc.devRef .tc main_arg15)) shapeCasts_S256x1024_S256x4x256) transposes_S256x4x256_S4x256x256_1_2_0 from by
    rw [V₀_eq, List.flatten_singleton]; after_reads_simp; rfl]
  pointwise
theorem host_bias (o : Fin 256) : (show S1x256.Idx → EReal from V₀ m c (Proc.devRef .tc main_call0_v362)) (ix2 0 o) = (show S256.Idx → EReal from m (c, Proc.devRef .tc main_arg16)) (ix1 o) := by
  rw [show (V₀ m c (Proc.devRef .tc main_call0_v362)) = shapeCast S1x256 (show S256.Idx → EReal from m (c, Proc.devRef .tc main_arg16)) shapeCasts_S256_S1x256 from by
    rw [V₀_eq, List.flatten_singleton]; after_reads_simp; rfl]
  pointwise

end Cert.Kernel2Ideal.Hand

end
-- ==== Proof.Kernel2Ideal.Value.lean ====
/- What the second program computes over the exact elements: the pooled features, convolved and clipped. -/
module

public import proofs.«01_k».proof.Proof.Kernel2Ideal.Array
public import proofs.«01_k».proof.Proof.Kernel2Ideal.Block
public import proofs.«01_k».proof.Proof.Kernel2Ideal.Host
public import proofs.«01_k».proof.Proof.Kernel2Ideal.Tables

@[expose] public section

noncomputable section

namespace Cert.Kernel2Ideal.Hand

open Cert.Kernel2Ideal Cert.Kernel2Ideal.Gen
open Idealize Idealize.SL Idealize.ShloMosaic Idealize.ShloMosaic.TcCoe Idealize.ShloMosaic.Tactic

variable (m : (ℓ : Loc nD τ sig) → Buf (Elt Ideal) ℓ) (g : Dev nD → PrngReg)
variable (hT : ∀ c, TabOk (tab5 (V₀ m) c) (tabY (V₀ m) c) (tabX (V₀ m) c)) (c : Dev nD)

/-- The result, of the argument arrays. -/
abbrev spec (n : Fin 512) (o : Fin 256) (i j : Fin 7) : EReal :=
  Cert.Level.out (m (c, Proc.devRef .tc main_arg0)) (m (c, Proc.devRef .tc main_arg1)) (m (c, Proc.devRef .tc main_arg2)) (m (c, Proc.devRef .tc main_arg3))
    (m (c, Proc.devRef .tc main_arg4)) (m (c, Proc.devRef .tc main_arg5)) (m (c, Proc.devRef .tc main_arg6))
    (rows0A (m (c, Proc.devRef .tc main_arg7)) (m (c, Proc.devRef .tc main_arg5))) (cols0A (m (c, Proc.devRef .tc main_arg8)) (m (c, Proc.devRef .tc main_arg6)))
    (rows1A (m (c, Proc.devRef .tc main_arg9)) (m (c, Proc.devRef .tc main_arg5))) (cols1A (m (c, Proc.devRef .tc main_arg10)) (m (c, Proc.devRef .tc main_arg6)))
    (rows2A (m (c, Proc.devRef .tc main_arg11)) (m (c, Proc.devRef .tc main_arg5))) (cols2A (m (c, Proc.devRef .tc main_arg12)) (m (c, Proc.devRef .tc main_arg6)))
    (rows3A (m (c, Proc.devRef .tc main_arg13)) (m (c, Proc.devRef .tc main_arg5))) (cols3A (m (c, Proc.devRef .tc main_arg14)) (m (c, Proc.devRef .tc main_arg6)))
    (m (c, Proc.devRef .tc main_arg15)) (m (c, Proc.devRef .tc main_arg16)) n o i j

theorem level_congr {R X : Nat} {f f' : Fin R → EReal} {h h' : Fin X → EReal} {w w' : Fin R → Fin X → Fin 256 → EReal} {u u' : Fin 256 → EReal}
    (ef : ∀ r, f r = f' r) (eh : ∀ x, h x = h' x) (ew : ∀ r x k, w r x k = w' r x k) (eu : ∀ k, u k = u' k) :
    Cert.Level.level R X f h w u = Cert.Level.level R X f' h' w' u' := by
  rw [show f = f' from funext ef, show h = h' from funext eh, show w = w' from funext fun r => funext fun x => funext (ew r x), show u = u' from funext eu]

/-- One element of the array that the grid leaves. -/
theorem G_at (a : (pcfg0 (F := Ideal)).Adm) (n : Fin 512) (o : Fin 256) (i j : Fin 7) :
    G (V₀ m) a hT c (ix3 n ⟨7 * i.val + j.val, by omega⟩ o) = spec m c n o i j := by
  obtain ⟨t, htn⟩ : ∃ t : Fin grid0.N, t.val = n.val := ⟨⟨n.val, by rw [points]; exact n.isLt⟩, rfl⟩
  have hb : bx (grid0.coords t) = n := by rw [bx_eq]; refine Fin.ext ?_; show t.val % 512 = n.val; rw [htn]; exact Nat.mod_eq_of_lt n.isLt
  show outAt (V₀ m) a hT c ⟨n.val, _⟩ (ix3 0 ⟨7 * i.val + j.val, _⟩ o) = _
  rw [show (⟨n.val, _⟩ : Fin grid0.N) = t from Fin.ext htn.symm]
  unfold outAt
  refine (outV_at _ _ _ _ _ _ _ _ _ _ _ _ _ _ _ _).trans ?_
  have ht' : ∀ (h : t.val < 512), (⟨t.val, h⟩ : Fin 512) = n := fun h => Fin.ext htn
  unfold spec Cert.Level.out
  have e : ∀ {a b c d f a' b' c' d' f' : EReal}, a = a' → b = b' → c = c' → d = d' → f = f' → max (a + b + c + d + f) 0 = max (a' + b' + c' + d' + f') 0 := by
    intros; subst_vars; rfl
  refine e (level_congr (fun r => ?_) (fun x => ?_) (fun r x k => ?_) (fun k => ?_)) (level_congr (fun r => ?_) (fun x => ?_) (fun r x k => ?_) (fun k => ?_))
    (level_congr (fun r => ?_) (fun x => ?_) (fun r x k => ?_) (fun k => ?_)) (level_congr (fun r => ?_) (fun x => ?_) (fun r x k => ?_) (fun k => ?_)) ?_
  · exact (rows0_at (V₀ m) a c t r _).trans ((congrArg (fun z => V₀ m c (Proc.devRef .tc main_call0_v88) (ix3 z r ⟨7 * i.val + j.val, by omega⟩)) (ht' _)).trans (host_rows0 m c n r i j))
  · exact (cols0_at (V₀ m) a c t x _).trans ((congrArg (fun z => V₀ m c (Proc.devRef .tc main_call0_v92) (ix3 z x ⟨7 * i.val + j.val, by omega⟩)) (ht' _)).trans (host_cols0 m c n x i j))
  · refine (window0_at c (hT c) (ft0 (V₀ m) c) _ r x k).trans ((host_feat0 m c _ _ _ k).trans ?_)
    rw [hb, w5_eq, wY_eq, wX_eq, tab5_eq, tabY_eq, tabX_eq]
  · exact (weights_at (V₀ m) a c t 0 k o).trans (host_weights m c 0 k o)
  · exact (rows1_at (V₀ m) a c t r _).trans ((congrArg (fun z => V₀ m c (Proc.devRef .tc main_call0_v177) (ix3 z r ⟨7 * i.val + j.val, by omega⟩)) (ht' _)).trans (host_rows1 m c n r i j))
  · exact (cols1_at (V₀ m) a c t x _).trans ((congrArg (fun z => V₀ m c (Proc.devRef .tc main_call0_v181) (ix3 z x ⟨7 * i.val + j.val, by omega⟩)) (ht' _)).trans (host_cols1 m c n x i j))
  · refine (window1_at c (hT c) (ft1 (V₀ m) c) _ r x k).trans ((host_feat1 m c _ _ _ k).trans ?_)
    rw [hb, w5_eq, wY_eq, wX_eq, tab5_eq, tabY_eq, tabX_eq]
  · exact (weights_at (V₀ m) a c t 1 k o).trans (host_weights m c 1 k o)
  · exact (rows2_at (V₀ m) a c t r _).trans ((congrArg (fun z => V₀ m c (Proc.devRef .tc main_call0_v266) (ix3 z r ⟨7 * i.val + j.val, by omega⟩)) (ht' _)).trans (host_rows2 m c n r i j))
  · exact (cols2_at (V₀ m) a c t x _).trans ((congrArg (fun z => V₀ m c (Proc.devRef .tc main_call0_v270) (ix3 z x ⟨7 * i.val + j.val, by omega⟩)) (ht' _)).trans (host_cols2 m c n x i j))
  · refine (window2_at c (hT c) (ft2 (V₀ m) c) _ r x k).trans ((host_feat2 m c _ _ _ k).trans ?_)
    rw [hb, w5_eq, wY_eq, wX_eq, tab5_eq, tabY_eq, tabX_eq]
  · exact (weights_at (V₀ m) a c t 2 k o).trans (host_weights m c 2 k o)
  · exact (rows3_at (V₀ m) a c t r _).trans ((congrArg (fun z => V₀ m c (Proc.devRef .tc main_call0_v355) (ix3 z r ⟨7 * i.val + j.val, by omega⟩)) (ht' _)).trans (host_rows3 m c n r i j))
  · exact (cols3_at (V₀ m) a c t x _).trans ((congrArg (fun z => V₀ m c (Proc.devRef .tc main_call0_v359) (ix3 z x ⟨7 * i.val + j.val, by omega⟩)) (ht' _)).trans (host_cols3 m c n x i j))
  · refine (window3_at c (hT c) (ft3 (V₀ m) c) _ r x k).trans ((host_feat3 m c _ _ _ k).trans ?_)
    rw [hb, w5_eq, wY_eq, wX_eq, tab5_eq, tabY_eq, tabX_eq]
  · exact (weights_at (V₀ m) a c t 3 k o).trans (host_weights m c 3 k o)
  · exact (bias_at (V₀ m) a c t o).trans (host_bias m c o)

/-- One element of the result array after the run. -/
theorem end_at (n : Fin 512) (o : Fin 256) (i j : Fin 7) :
    (show S512x256x7x7.Idx → EReal from Pipeline.afterTail pcfgs (adm m) (dats (V₀ m) (adm m 0) hT) 0 (V₀ m) [hostOps1] c main_v0) (ix4 n o i j) = spec m c n o i j := by
  rw [show Pipeline.afterTail pcfgs (adm m) (dats (V₀ m) (adm m 0) hT) 0 (V₀ m) [hostOps1] c main_v0
    = shapeCast S512x256x7x7 (transpose S512x256x49 [0, 2, 1] (G (V₀ m) (adm m 0) hT c) transposes_S512x49x256_S512x256x49_0_2_1) shapeCasts_S512x256x49_S512x256x7x7 from by
      unfold Pipeline.afterTail
      rw [List.flatten_singleton, ← out_array]
      after_reads_simp
      refine congrArg (fun z => shapeCast S512x256x7x7 (transpose S512x256x49 [0, 2, 1] z transposes_S512x49x256_S512x256x49_0_2_1) shapeCasts_S512x256x49_S512x256x7x7) ?_
      exact Pipeline.withArrays_arr spec0 (by decide) c (V₀ m c) (fun w => (dats (V₀ m) (adm m 0) hT 0 c).arrAt w (cfg0 (adm m 0)).N) 10]
  refine Eq.trans ?_ (G_at m hT c (adm m 0) n o i j)
  pointwise
  exact congrArg (fun q => G (V₀ m) (adm m 0) hT c (ix3 n q o)) (Fin.ext (by show i.val * 7 + j.val = 7 * i.val + j.val; omega))

/-- The whole run: the result is `spec` at every index, and the arguments are as they were. -/
theorem value_run (hT : ∀ c, TabOk (tab5 (V₀ m) c) (tabY (V₀ m) c) (tabX (V₀ m) c)) : θ_run (defs (F := Ideal)) (onTc (τ := τ) (main (F := Ideal))) (s₀ m g) (fun r => ∀ c : Dev nD,
    (∀ n o i j, (show S512x256x7x7.Idx → EReal from r.2.mem ((c.tc : Thread nD τ).loc main_v0)) (ix4 n o i j) = spec m c n o i j)
    ∧ Kept m r c) :=
  (θ_run _ _ _).mono (fun r h c => ⟨fun n o i j => (congrArg (fun z : S512x256x7x7.Idx → EReal => z (ix4 n o i j)) ((h.1 c).2 main_v0 (by decide : main_v0 ∈ Pipeline.restRefs sig spec0))).trans (end_at m hT c n o i j), args_kept m hT h.1 c⟩) (run_main m g hT)

end Cert.Kernel2Ideal.Hand

end
-- ==== Proof.Reference2.lean ====
/- The reference's result read at an index. -/
module

public import proofs.«01_k».proof.Proof.Level
public import proofs.«01_k».proof.Proof.Sample
public import proofs.«01_k».proof.Proof.Gen.Reference2Ideal
public import proofs.«01_k».proof.Proof.Gen.Reference2Ideal.Run
public import Idealize.ShloMosaic.Lib.Pointwise

@[expose] public section

noncomputable section

namespace Cert.Reference2Ideal.Hand

open Cert.Reference2Ideal Cert.Reference2Ideal.Gen Cert.Reference2Ideal.Value
open Idealize.ShloMosaic Idealize.ShloMosaic.TcCoe Idealize.ShloMosaic.Tactic

/-- Dimension numbers of a gather of one pixel of every channel at a table of (image, row, column). -/
abbrev pixelDims {H W R X : Nat} (wf : GatherDims.WF ⟨4, ![2, H, W, 256]⟩ ⟨4, ![512, R, X, 3]⟩ ⟨4, ![512, R, X, 256]⟩ [3] [0, 1, 2] [] [0, 1, 2] [] 3 ![1, 1, 1, 256]) :
    GatherDims ⟨4, ![2, H, W, 256]⟩ ⟨4, ![512, R, X, 3]⟩ ⟨4, ![512, R, X, 256]⟩ := ⟨[3], [0, 1, 2], [], [], [0, 1, 2], 3, ![1, 1, 1, 256], wf⟩

section
variable {α : Type} {H W R X : Nat} (wf : GatherDims.WF ⟨4, ![2, H, W, 256]⟩ ⟨4, ![512, R, X, 3]⟩ ⟨4, ![512, R, X, 256]⟩ [3] [0, 1, 2] [] [0, 1, 2] [] 3 ![1, 1, 1, 256])
  (n : Fin 512) (r : Fin R) (x : Fin X) (k : Fin 256)

theorem pixel_siIdx (c : Fin 3) : (pixelDims wf).siIdx (ix4 n r x k) c = ix4 n r x c := by
  funext b
  match b with
  | ⟨0, _⟩ => rfl
  | ⟨1, _⟩ => rfl
  | ⟨2, _⟩ => rfl
  | ⟨3, _⟩ => rfl

/-- It reads the pixel the table names, each coordinate held inside its axis. -/
theorem gather_at (hH : 0 < H) (hW : 0 < W) (p : (⟨4, ![2, H, W, 256]⟩ : Shape).Idx → α) (t : IVec ⟨4, ![512, R, X, 3]⟩ 32) :
    Host.gather (pixelDims wf) p t (ix4 n r x k)
      = p (ix4 ⟨min (t (ix4 n r x 0)).toInt.toNat (2 - 1), by omega⟩ ⟨min (t (ix4 n r x 1)).toInt.toNat (H - 1), by omega⟩ ⟨min (t (ix4 n r x 2)).toInt.toNat (W - 1), by omega⟩ k) := by
  unfold Host.gather
  refine congrArg p (funext fun a => Fin.ext ?_)
  match a with
  | ⟨0, _⟩ => exact congrArg (fun q => min (t q).toInt.toNat (2 - 1)) (pixel_siIdx wf n r x k 0)
  | ⟨1, _⟩ => exact congrArg (fun q => min (t q).toInt.toNat (H - 1)) (pixel_siIdx wf n r x k 1)
  | ⟨2, _⟩ => exact congrArg (fun q => min (t q).toInt.toNat (W - 1)) (pixel_siIdx wf n r x k 2)
  | ⟨3, _⟩ => exact Nat.zero_add _
end

/-- A coordinate that is not negative and inside its axis is taken as it is. -/
theorem held (q d : BitVec 32) (k : Nat) (hk : k < 2 ^ 31) (h : q.toNat ≤ k) :
    min (BitVec.toInt (Scalar.select (IntOp.cmpi .slt q 0#32) (IntOp.addi q d) q)).toNat k = q.toNat := by
  have hq := BitVec.toInt_eq_toNat_cond q
  rw [if_pos (by omega)] at hq
  have hn : IntOp.cmpi .slt q 0#32 = 0#1 := by
    have : ¬ q.toInt < 0 := by omega
    simp [IntOp.cmpi, BitVec.slt, this]
  rw [hn]
  show min q.toInt.toNat k = _
  rw [hq]; omega
/-- Two pixels of the same coordinates are one. -/
theorem pixel_congr {H W : Nat} (p : (⟨4, ![2, 256, H, W]⟩ : Shape).Idx → EReal) {a a' : Fin 2} {y y' : Fin H} {x x' : Fin W} (k : Fin 256) (ha : a = a') (hy : y = y') (hx : x = x') :
    p (ix4 a k y x) = p (ix4 a' k y' x') := by subst ha hy hx; rfl

/-- The pixel that a gather reads, of coordinates inside its image. -/
theorem pixel_at {H W : Nat} [NeZero H] [NeZero W] (p : (⟨4, ![2, 256, H, W]⟩ : Shape).Idx → EReal) (b y x : BitVec 32) (k : Fin 256) (hb : b.toNat < 2)
    (hH : H ≤ 2 ^ 15) (hW : W ≤ 2 ^ 15) (hy : y.toNat < H) (hx : x.toNat < W) {d e : BitVec 32} (h0 h1 h2) :
    p (ix4 ⟨min (BitVec.toInt (Scalar.select (IntOp.cmpi .slt b 0#32) (IntOp.addi b 2#32) b)).toNat (2 - 1), h0⟩ k
        ⟨min (BitVec.toInt (Scalar.select (IntOp.cmpi .slt y 0#32) (IntOp.addi y d) y)).toNat (H - 1), h1⟩
        ⟨min (BitVec.toInt (Scalar.select (IntOp.cmpi .slt x 0#32) (IntOp.addi x e) x)).toNat (W - 1), h2⟩)
      = p (ix4 (Fin.ofNat 2 b.toNat) k (Fin.ofNat H y.toNat) (Fin.ofNat W x.toNat)) := by
  refine pixel_congr p k (Fin.ext ?_) (Fin.ext ?_) (Fin.ext ?_)
  · refine (held b 2#32 1 (by omega) (by omega)).trans ?_
    show _ = _ % 2; omega
  · refine (held y d (H - 1) (by omega) (by omega)).trans ?_
    show _ = _ % H; rw [Nat.mod_eq_of_lt hy]
  · refine (held x e (W - 1) (by omega) (by omega)).trans ?_
    show _ = _ % W; rw [Nat.mod_eq_of_lt hx]

/-! The argument arrays and the bins, under the types their elements have. -/
section
variable (V : Valuation τ sig (Elt Ideal))
abbrev feat0 : S2x256x256x256.Idx → EReal := V (Proc.devRef .tc main_arg0)
abbrev ys0 : S512x14.Idx → EReal := V (Proc.devRef .tc main_arg7)
abbrev xs0 : S512x14.Idx → EReal := V (Proc.devRef .tc main_arg8)
abbrev feat1 : S2x256x128x128.Idx → EReal := V (Proc.devRef .tc main_arg1)
abbrev ys1 : S512x14.Idx → EReal := V (Proc.devRef .tc main_arg9)
abbrev xs1 : S512x14.Idx → EReal := V (Proc.devRef .tc main_arg10)
abbrev feat2 : S2x256x64x64.Idx → EReal := V (Proc.devRef .tc main_arg2)
abbrev ys2 : S512x14.Idx → EReal := V (Proc.devRef .tc main_arg11)
abbrev xs2 : S512x14.Idx → EReal := V (Proc.devRef .tc main_arg12)
abbrev feat3 : S2x256x32x32.Idx → EReal := V (Proc.devRef .tc main_arg3)
abbrev ys3 : S512x14.Idx → EReal := V (Proc.devRef .tc main_arg13)
abbrev xs3 : S512x14.Idx → EReal := V (Proc.devRef .tc main_arg14)
abbrev img : S512.Idx → BitVec 32 := V (Proc.devRef .tc main_arg4)
abbrev wred : S256x1024.Idx → EReal := V (Proc.devRef .tc main_arg15)
abbrev bred : S256.Idx → EReal := V (Proc.devRef .tc main_arg16)
abbrev bins : S512x7x7x1024.Idx → EReal := res_main_v604 V
end

/-! The four levels' bins, one after the other along the channels. -/
section
variable (A B C D : S512x7x7x256.Idx → EReal) (n : Fin 512) (i j : Fin 7) (k : Fin 256)
theorem piece0 :
    concatenate S512x7x7x1024 3 [⟨S512x7x7x256, A⟩, ⟨S512x7x7x256, B⟩, ⟨S512x7x7x256, C⟩, ⟨S512x7x7x256, D⟩] concatenates_S512x7x7x256_S512x7x7x256_S512x7x7x256_S512x7x7x256_S512x7x7x1024_d3
      (ix4 n i j ⟨0 * 256 + k.val, by omega⟩) = A (ix4 n i j k) := by
  pointwise
theorem piece1 :
    concatenate S512x7x7x1024 3 [⟨S512x7x7x256, A⟩, ⟨S512x7x7x256, B⟩, ⟨S512x7x7x256, C⟩, ⟨S512x7x7x256, D⟩] concatenates_S512x7x7x256_S512x7x7x256_S512x7x7x256_S512x7x7x256_S512x7x7x1024_d3
      (ix4 n i j ⟨1 * 256 + k.val, by omega⟩) = B (ix4 n i j k) := by
  pointwise
theorem piece2 :
    concatenate S512x7x7x1024 3 [⟨S512x7x7x256, A⟩, ⟨S512x7x7x256, B⟩, ⟨S512x7x7x256, C⟩, ⟨S512x7x7x256, D⟩] concatenates_S512x7x7x256_S512x7x7x256_S512x7x7x256_S512x7x7x256_S512x7x7x1024_d3
      (ix4 n i j ⟨2 * 256 + k.val, by omega⟩) = C (ix4 n i j k) := by
  pointwise
  rw [dif_neg (by omega), dif_neg (by omega), dif_pos (by omega)]
  exact congrArg C (congrArg (ix4 n i j) (Fin.ext (by show 512 + k.val - 256 - 256 = k.val; omega)))
theorem piece3 :
    concatenate S512x7x7x1024 3 [⟨S512x7x7x256, A⟩, ⟨S512x7x7x256, B⟩, ⟨S512x7x7x256, C⟩, ⟨S512x7x7x256, D⟩] concatenates_S512x7x7x256_S512x7x7x256_S512x7x7x256_S512x7x7x256_S512x7x7x1024_d3
      (ix4 n i j ⟨3 * 256 + k.val, by omega⟩) = D (ix4 n i j k) := by
  pointwise
  rw [dif_neg (by omega), dif_neg (by omega), dif_neg (by omega)]
  exact congrArg D (congrArg (ix4 n i j) (Fin.ext (by show 768 + k.val - 256 - 256 - 256 = k.val; omega)))
end

/-- The mean of the four samples of a bin. -/
abbrev mean (s s' z z' : EReal) (k l : BitVec 32) (f : Nat → Nat → EReal) : EReal :=
  ((Cert.Sample.quad s z k l f + Cert.Sample.quad s z' k l f) + (Cert.Sample.quad s' z k l f + Cert.Sample.quad s' z' k l f)) * Cert.Sample.half * Cert.Sample.half
/-- A sample's pixels lie inside an axis of `H` pixels. -/
def Fits (H : Nat) (k : BitVec 32) (s : EReal) : Prop := (Cert.Sample.pix s).toNat < H ∧ (Cert.Sample.next s k).toNat < H

/-- The four samples that drop to one bin. -/
theorem drops (n : Fin 512) (i j : Fin 7) (k : Fin 256) (u : S512x7x2x7x2x256.Idx) :
    (reducesTo_S512x7x2x7x2x256_S512x7x7x256_d2_4 : S512x7x2x7x2x256.ReducesTo [2, 4] S512x7x7x256).drop u = ix4 n i j k ↔ ∃ q : Fin 2 × Fin 2, ix6 n i q.1 j q.2 k = u := by
  constructor
  · intro e
    refine ⟨(u 2, u 4), funext fun a => Fin.ext ?_⟩
    match a with
    | ⟨0, _⟩ => exact (congrArg Fin.val (congrFun e 0)).symm
    | ⟨1, _⟩ => exact (congrArg Fin.val (congrFun e 1)).symm
    | ⟨2, _⟩ => rfl
    | ⟨3, _⟩ => exact (congrArg Fin.val (congrFun e 2)).symm
    | ⟨4, _⟩ => rfl
    | ⟨5, _⟩ => exact (congrArg Fin.val (congrFun e 3)).symm
  · rintro ⟨q, rfl⟩
    funext b
    match b with
    | ⟨0, _⟩ => rfl
    | ⟨1, _⟩ => rfl
    | ⟨2, _⟩ => rfl
    | ⟨3, _⟩ => rfl
theorem bin_sum (v : S512x7x2x7x2x256.Idx → EReal) (n : Fin 512) (i j : Fin 7) (k : Fin 256) :
    Ideal.hostReduceAdd (reducesTo_S512x7x2x7x2x256_S512x7x7x256_d2_4 : S512x7x2x7x2x256.ReducesTo [2, 4] S512x7x7x256) v 0 (ix4 n i j k) = ∑ a : Fin 2, ∑ b : Fin 2, v (ix6 n i a j b k) := by
  refine (zero_add _).trans ((Finset.sum_filter_eq_sum_of_fiber _ (fun q : Fin 2 × Fin 2 => ix6 n i q.1 j q.2 k) (fun _ _ e => Prod.ext (congrFun e 2) (congrFun e 4)) (drops n i j k) v).trans ?_)
  simp only [Fintype.sum_prod_type]
/-- A bin's mean, of the samples. -/
theorem mean_at (A : FVec Ideal S512x14x14x256 .f32) (g : Fin 14 → Fin 14 → EReal) (n : Fin 512) (i j : Fin 7) (k : Fin 256) (hA : ∀ p q, A (ix4 n p q k) = g p q) :
    Host.divf (Host.reduceAdd (shapeCast S512x7x2x7x2x256 A shapeCasts_S512x14x14x256_S512x7x2x7x2x256) (constant S_ .f32 0x00000000#32) reducesTo_S512x7x2x7x2x256_S512x7x7x256_d2_4 h_S_) (broadcastInDim S512x7x7x256 ![] bcast_S_S512x7x7x256 (constant S_ .f32 0x40800000#32)) (ix4 n i j k)
      = ((g ⟨i.val * 2, by omega⟩ ⟨j.val * 2, by omega⟩ + g ⟨i.val * 2, by omega⟩ ⟨j.val * 2 + 1, by omega⟩) + (g ⟨i.val * 2 + 1, by omega⟩ ⟨j.val * 2, by omega⟩ + g ⟨i.val * 2 + 1, by omega⟩ ⟨j.val * 2 + 1, by omega⟩)) * Cert.Sample.half * Cert.Sample.half := by
  pointwise [bin_sum, Cert.Sample.quarter]
  simp only [Fin.sum_univ_two]
  rw [← hA, ← hA, ← hA, ← hA]; rfl
/-- A bilinear sample, of its four pixels. -/
theorem quad_of {s z : EReal} {k l : BitVec 32} {f : Nat → Nat → EReal} {g0 g1 g2 g3 : EReal} (e0 : g0 = f (Cert.Sample.pix s).toNat (Cert.Sample.pix z).toNat) (e1 : g1 = f (Cert.Sample.pix s).toNat (Cert.Sample.next z l).toNat)
    (e2 : g2 = f (Cert.Sample.next s k).toNat (Cert.Sample.pix z).toNat) (e3 : g3 = f (Cert.Sample.next s k).toNat (Cert.Sample.next z l).toNat) :
    g0 * (1 - (s - (((Cert.Sample.pix s).toInt : ℝ) : EReal))) * (1 - (z - (((Cert.Sample.pix z).toInt : ℝ) : EReal)))
      + g1 * (1 - (s - (((Cert.Sample.pix s).toInt : ℝ) : EReal))) * (z - (((Cert.Sample.pix z).toInt : ℝ) : EReal))
      + g2 * (s - (((Cert.Sample.pix s).toInt : ℝ) : EReal)) * (1 - (z - (((Cert.Sample.pix z).toInt : ℝ) : EReal)))
      + g3 * (s - (((Cert.Sample.pix s).toInt : ℝ) : EReal)) * (z - (((Cert.Sample.pix z).toInt : ℝ) : EReal)) = Cert.Sample.quad s z k l f := by
  rw [e0, e1, e2, e3]

theorem gather0 (p : S2x256x256x256.Idx → EReal) (t : IVec S512x14x14x3 32) (n : Fin 512) (r x : Fin 14) (k : Fin 256) :
    Host.gather gather_S2x256x256x256_S512x14x14x3_S512x14x14x256_3_012_n_n_012_3_111256 p t (ix4 n r x k)
      = p (ix4 ⟨min (t (ix4 n r x 0)).toInt.toNat (2 - 1), by omega⟩ ⟨min (t (ix4 n r x 1)).toInt.toNat (256 - 1), by omega⟩ ⟨min (t (ix4 n r x 2)).toInt.toNat (256 - 1), by omega⟩ k) :=
  gather_at _ n r x k (by omega) (by omega) p t
set_option maxHeartbeats 4000000 in
/-- The bins of level 0: the mean of four bilinear samples of the features. -/
theorem bins0 (V : Valuation τ sig (Elt Ideal)) (n : Fin 512) (i j : Fin 7) (k : Fin 256) (hb : (img V (ix1 n)).toNat < 2)
    (hy : ∀ p : Fin 14, Fits 256 255#32 (ys0 V (ix2 n p))) (hx : ∀ p : Fin 14, Fits 256 255#32 (xs0 V (ix2 n p))) :
    bins V (ix4 n i j ⟨0 * 256 + k.val, by omega⟩)
      = mean (ys0 V (ix2 n ⟨i.val * 2, by omega⟩)) (ys0 V (ix2 n ⟨i.val * 2 + 1, by omega⟩)) (xs0 V (ix2 n ⟨j.val * 2, by omega⟩)) (xs0 V (ix2 n ⟨j.val * 2 + 1, by omega⟩)) 255#32 255#32
          (fun y x => feat0 V (ix4 (Fin.ofNat 2 (img V (ix1 n)).toNat) k (Fin.ofNat 256 y) (Fin.ofNat 256 x))) := by
  refine (piece0 _ _ _ _ n i j k).trans ?_
  refine mean_at _ (fun p q => Cert.Sample.quad (ys0 V (ix2 n p)) (xs0 V (ix2 n q)) 255#32 255#32 (fun y x => feat0 V (ix4 (Fin.ofNat 2 (img V (ix1 n)).toNat) k (Fin.ofNat 256 y) (Fin.ofNat 256 x)))) n i j k fun p q => ?_
  pointwise [gather0, res_main_v0, res_main_v2, res_main_v4, res_main_v8, res_main_v12, res_main_v15, res_main_v18, res_main_v19, res_main_v20, res_main_v21, res_main_v53, res_main_v54, res_main_v85, res_main_v86, res_main_v116, res_main_v117, res_main_v118]
  exact quad_of (s := ys0 V (ix2 n p)) (z := xs0 V (ix2 n q))
    (pixel_at (feat0 V) _ _ _ k hb (by omega) (by omega) (hy p).1 (hx q).1 _ _ _) (pixel_at (feat0 V) _ _ _ k hb (by omega) (by omega) (hy p).1 (hx q).2 _ _ _)
    (pixel_at (feat0 V) _ _ _ k hb (by omega) (by omega) (hy p).2 (hx q).1 _ _ _) (pixel_at (feat0 V) _ _ _ k hb (by omega) (by omega) (hy p).2 (hx q).2 _ _ _)
theorem gather1 (p : S2x128x128x256.Idx → EReal) (t : IVec S512x14x14x3 32) (n : Fin 512) (r x : Fin 14) (k : Fin 256) :
    Host.gather gather_S2x128x128x256_S512x14x14x3_S512x14x14x256_3_012_n_n_012_3_111256 p t (ix4 n r x k)
      = p (ix4 ⟨min (t (ix4 n r x 0)).toInt.toNat (2 - 1), by omega⟩ ⟨min (t (ix4 n r x 1)).toInt.toNat (128 - 1), by omega⟩ ⟨min (t (ix4 n r x 2)).toInt.toNat (128 - 1), by omega⟩ k) :=
  gather_at _ n r x k (by omega) (by omega) p t
set_option maxHeartbeats 4000000 in
/-- The bins of level 1: the mean of four bilinear samples of the features. -/
theorem bins1 (V : Valuation τ sig (Elt Ideal)) (n : Fin 512) (i j : Fin 7) (k : Fin 256) (hb : (img V (ix1 n)).toNat < 2)
    (hy : ∀ p : Fin 14, Fits 128 127#32 (ys1 V (ix2 n p))) (hx : ∀ p : Fin 14, Fits 128 127#32 (xs1 V (ix2 n p))) :
    bins V (ix4 n i j ⟨1 * 256 + k.val, by omega⟩)
      = mean (ys1 V (ix2 n ⟨i.val * 2, by omega⟩)) (ys1 V (ix2 n ⟨i.val * 2 + 1, by omega⟩)) (xs1 V (ix2 n ⟨j.val * 2, by omega⟩)) (xs1 V (ix2 n ⟨j.val * 2 + 1, by omega⟩)) 127#32 127#32
          (fun y x => feat1 V (ix4 (Fin.ofNat 2 (img V (ix1 n)).toNat) k (Fin.ofNat 128 y) (Fin.ofNat 128 x))) := by
  refine (piece1 _ _ _ _ n i j k).trans ?_
  refine mean_at _ (fun p q => Cert.Sample.quad (ys1 V (ix2 n p)) (xs1 V (ix2 n q)) 127#32 127#32 (fun y x => feat1 V (ix4 (Fin.ofNat 2 (img V (ix1 n)).toNat) k (Fin.ofNat 128 y) (Fin.ofNat 128 x)))) n i j k fun p q => ?_
  pointwise [gather1, res_main_v151, res_main_v153, res_main_v155, res_main_v159, res_main_v163, res_main_v166, res_main_v169, res_main_v170, res_main_v171, res_main_v172, res_main_v204, res_main_v205, res_main_v236, res_main_v237, res_main_v267, res_main_v268, res_main_v269]
  exact quad_of (s := ys1 V (ix2 n p)) (z := xs1 V (ix2 n q))
    (pixel_at (feat1 V) _ _ _ k hb (by omega) (by omega) (hy p).1 (hx q).1 _ _ _) (pixel_at (feat1 V) _ _ _ k hb (by omega) (by omega) (hy p).1 (hx q).2 _ _ _)
    (pixel_at (feat1 V) _ _ _ k hb (by omega) (by omega) (hy p).2 (hx q).1 _ _ _) (pixel_at (feat1 V) _ _ _ k hb (by omega) (by omega) (hy p).2 (hx q).2 _ _ _)
theorem gather2 (p : S2x64x64x256.Idx → EReal) (t : IVec S512x14x14x3 32) (n : Fin 512) (r x : Fin 14) (k : Fin 256) :
    Host.gather gather_S2x64x64x256_S512x14x14x3_S512x14x14x256_3_012_n_n_012_3_111256 p t (ix4 n r x k)
      = p (ix4 ⟨min (t (ix4 n r x 0)).toInt.toNat (2 - 1), by omega⟩ ⟨min (t (ix4 n r x 1)).toInt.toNat (64 - 1), by omega⟩ ⟨min (t (ix4 n r x 2)).toInt.toNat (64 - 1), by omega⟩ k) :=
  gather_at _ n r x k (by omega) (by omega) p t
set_option maxHeartbeats 4000000 in
/-- The bins of level 2: the mean of four bilinear samples of the features. -/
theorem bins2 (V : Valuation τ sig (Elt Ideal)) (n : Fin 512) (i j : Fin 7) (k : Fin 256) (hb : (img V (ix1 n)).toNat < 2)
    (hy : ∀ p : Fin 14, Fits 64 63#32 (ys2 V (ix2 n p))) (hx : ∀ p : Fin 14, Fits 64 63#32 (xs2 V (ix2 n p))) :
    bins V (ix4 n i j ⟨2 * 256 + k.val, by omega⟩)
      = mean (ys2 V (ix2 n ⟨i.val * 2, by omega⟩)) (ys2 V (ix2 n ⟨i.val * 2 + 1, by omega⟩)) (xs2 V (ix2 n ⟨j.val * 2, by omega⟩)) (xs2 V (ix2 n ⟨j.val * 2 + 1, by omega⟩)) 63#32 63#32
          (fun y x => feat2 V (ix4 (Fin.ofNat 2 (img V (ix1 n)).toNat) k (Fin.ofNat 64 y) (Fin.ofNat 64 x))) := by
  refine (piece2 _ _ _ _ n i j k).trans ?_
  refine mean_at _ (fun p q => Cert.Sample.quad (ys2 V (ix2 n p)) (xs2 V (ix2 n q)) 63#32 63#32 (fun y x => feat2 V (ix4 (Fin.ofNat 2 (img V (ix1 n)).toNat) k (Fin.ofNat 64 y) (Fin.ofNat 64 x)))) n i j k fun p q => ?_
  pointwise [gather2, res_main_v302, res_main_v304, res_main_v306, res_main_v310, res_main_v314, res_main_v317, res_main_v320, res_main_v321, res_main_v322, res_main_v323, res_main_v355, res_main_v356, res_main_v387, res_main_v388, res_main_v418, res_main_v419, res_main_v420]
  exact quad_of (s := ys2 V (ix2 n p)) (z := xs2 V (ix2 n q))
    (pixel_at (feat2 V) _ _ _ k hb (by omega) (by omega) (hy p).1 (hx q).1 _ _ _) (pixel_at (feat2 V) _ _ _ k hb (by omega) (by omega) (hy p).1 (hx q).2 _ _ _)
    (pixel_at (feat2 V) _ _ _ k hb (by omega) (by omega) (hy p).2 (hx q).1 _ _ _) (pixel_at (feat2 V) _ _ _ k hb (by omega) (by omega) (hy p).2 (hx q).2 _ _ _)
theorem gather3 (p : S2x32x32x256.Idx → EReal) (t : IVec S512x14x14x3 32) (n : Fin 512) (r x : Fin 14) (k : Fin 256) :
    Host.gather gather_S2x32x32x256_S512x14x14x3_S512x14x14x256_3_012_n_n_012_3_111256 p t (ix4 n r x k)
      = p (ix4 ⟨min (t (ix4 n r x 0)).toInt.toNat (2 - 1), by omega⟩ ⟨min (t (ix4 n r x 1)).toInt.toNat (32 - 1), by omega⟩ ⟨min (t (ix4 n r x 2)).toInt.toNat (32 - 1), by omega⟩ k) :=
  gather_at _ n r x k (by omega) (by omega) p t
set_option maxHeartbeats 4000000 in
/-- The bins of level 3: the mean of four bilinear samples of the features. -/
theorem bins3 (V : Valuation τ sig (Elt Ideal)) (n : Fin 512) (i j : Fin 7) (k : Fin 256) (hb : (img V (ix1 n)).toNat < 2)
    (hy : ∀ p : Fin 14, Fits 32 31#32 (ys3 V (ix2 n p))) (hx : ∀ p : Fin 14, Fits 32 31#32 (xs3 V (ix2 n p))) :
    bins V (ix4 n i j ⟨3 * 256 + k.val, by omega⟩)
      = mean (ys3 V (ix2 n ⟨i.val * 2, by omega⟩)) (ys3 V (ix2 n ⟨i.val * 2 + 1, by omega⟩)) (xs3 V (ix2 n ⟨j.val * 2, by omega⟩)) (xs3 V (ix2 n ⟨j.val * 2 + 1, by omega⟩)) 31#32 31#32
          (fun y x => feat3 V (ix4 (Fin.ofNat 2 (img V (ix1 n)).toNat) k (Fin.ofNat 32 y) (Fin.ofNat 32 x))) := by
  refine (piece3 _ _ _ _ n i j k).trans ?_
  refine mean_at _ (fun p q => Cert.Sample.quad (ys3 V (ix2 n p)) (xs3 V (ix2 n q)) 31#32 31#32 (fun y x => feat3 V (ix4 (Fin.ofNat 2 (img V (ix1 n)).toNat) k (Fin.ofNat 32 y) (Fin.ofNat 32 x)))) n i j k fun p q => ?_
  pointwise [gather3, res_main_v453, res_main_v455, res_main_v457, res_main_v461, res_main_v465, res_main_v468, res_main_v471, res_main_v472, res_main_v473, res_main_v474, res_main_v506, res_main_v507, res_main_v538, res_main_v539, res_main_v569, res_main_v570, res_main_v571]
  exact quad_of (s := ys3 V (ix2 n p)) (z := xs3 V (ix2 n q))
    (pixel_at (feat3 V) _ _ _ k hb (by omega) (by omega) (hy p).1 (hx q).1 _ _ _) (pixel_at (feat3 V) _ _ _ k hb (by omega) (by omega) (hy p).1 (hx q).2 _ _ _)
    (pixel_at (feat3 V) _ _ _ k hb (by omega) (by omega) (hy p).2 (hx q).1 _ _ _) (pixel_at (feat3 V) _ _ _ k hb (by omega) (by omega) (hy p).2 (hx q).2 _ _ _)
/-- The reference's result. -/
abbrev result (V : Valuation τ sig (Elt Ideal)) : S512x256x7x7.Idx → EReal :=
  maximumf (addf (transpose S512x256x7x7 [1, 0, 2, 3] (Host.dotGeneral (φ₁ := .f32) dot_S256x1024_S512x7x7x1024_S256x512x7x7_1_3_0_012_n_n none (V (Proc.devRef .tc main_arg15)) (res_main_v604 V)) transposes_S256x512x7x7_S512x256x7x7_1_0_2_3) (broadcastInDim S512x256x7x7 ![0, 1, 2, 3] bcast_S1x256x1x1_S512x256x7x7_0_1_2_3 (broadcastInDim S1x256x1x1 ![1] bcast_S256_S1x256x1x1_1 (V (Proc.devRef .tc main_arg16))))) (broadcastInDim S512x256x7x7 ![] bcast_S_S512x256x7x7 (constant S_ .f32 0x00000000#32))

/-- The result at box `n`, channel `o` and bin `(i, j)`, of samples whose pixels lie inside the features. -/
theorem result_at (V : Valuation τ sig (Elt Ideal)) (n : Fin 512) (o : Fin 256) (i j : Fin 7) (hb : (img V (ix1 n)).toNat < 2)
    (hy0 : ∀ p : Fin 14, Fits 256 255#32 (ys0 V (ix2 n p))) (hx0 : ∀ p : Fin 14, Fits 256 255#32 (xs0 V (ix2 n p)))
    (hy1 : ∀ p : Fin 14, Fits 128 127#32 (ys1 V (ix2 n p))) (hx1 : ∀ p : Fin 14, Fits 128 127#32 (xs1 V (ix2 n p)))
    (hy2 : ∀ p : Fin 14, Fits 64 63#32 (ys2 V (ix2 n p))) (hx2 : ∀ p : Fin 14, Fits 64 63#32 (xs2 V (ix2 n p)))
    (hy3 : ∀ p : Fin 14, Fits 32 31#32 (ys3 V (ix2 n p))) (hx3 : ∀ p : Fin 14, Fits 32 31#32 (xs3 V (ix2 n p))) :
    result V (ix4 n o i j) = max ((∑ k : Fin 256, mean (ys0 V (ix2 n ⟨i.val * 2, by omega⟩)) (ys0 V (ix2 n ⟨i.val * 2 + 1, by omega⟩)) (xs0 V (ix2 n ⟨j.val * 2, by omega⟩)) (xs0 V (ix2 n ⟨j.val * 2 + 1, by omega⟩)) 255#32 255#32 (fun y x => feat0 V (ix4 (Fin.ofNat 2 (img V (ix1 n)).toNat) k (Fin.ofNat 256 y) (Fin.ofNat 256 x))) * wred V (ix2 o ⟨0 * 256 + k.val, by omega⟩))
      + (∑ k : Fin 256, mean (ys1 V (ix2 n ⟨i.val * 2, by omega⟩)) (ys1 V (ix2 n ⟨i.val * 2 + 1, by omega⟩)) (xs1 V (ix2 n ⟨j.val * 2, by omega⟩)) (xs1 V (ix2 n ⟨j.val * 2 + 1, by omega⟩)) 127#32 127#32 (fun y x => feat1 V (ix4 (Fin.ofNat 2 (img V (ix1 n)).toNat) k (Fin.ofNat 128 y) (Fin.ofNat 128 x))) * wred V (ix2 o ⟨1 * 256 + k.val, by omega⟩))
      + (∑ k : Fin 256, mean (ys2 V (ix2 n ⟨i.val * 2, by omega⟩)) (ys2 V (ix2 n ⟨i.val * 2 + 1, by omega⟩)) (xs2 V (ix2 n ⟨j.val * 2, by omega⟩)) (xs2 V (ix2 n ⟨j.val * 2 + 1, by omega⟩)) 63#32 63#32 (fun y x => feat2 V (ix4 (Fin.ofNat 2 (img V (ix1 n)).toNat) k (Fin.ofNat 64 y) (Fin.ofNat 64 x))) * wred V (ix2 o ⟨2 * 256 + k.val, by omega⟩))
      + (∑ k : Fin 256, mean (ys3 V (ix2 n ⟨i.val * 2, by omega⟩)) (ys3 V (ix2 n ⟨i.val * 2 + 1, by omega⟩)) (xs3 V (ix2 n ⟨j.val * 2, by omega⟩)) (xs3 V (ix2 n ⟨j.val * 2 + 1, by omega⟩)) 31#32 31#32 (fun y x => feat3 V (ix4 (Fin.ofNat 2 (img V (ix1 n)).toNat) k (Fin.ofNat 32 y) (Fin.ofNat 32 x))) * wred V (ix2 o ⟨3 * 256 + k.val, by omega⟩))
      + bred V (ix1 o)) 0 := by
  have e : result V (ix4 n o i j) = max ((∑ c : Fin 1024, wred V (ix2 o c) * bins V (ix4 n i j c)) + bred V (ix1 o)) 0 := by
    pointwise
  rw [e, Fin.sum_univ_tiles 4 256 rfl, Fin.sum_univ_four]
  refine congrArg (fun z : EReal => max z 0) (congrArg (fun z : EReal => z + bred V (ix1 o)) (congrArg₂ HAdd.hAdd (congrArg₂ HAdd.hAdd (congrArg₂ HAdd.hAdd ?_ ?_) ?_) ?_))
  · exact Finset.sum_congr rfl fun k _ => (congrArg (fun z : EReal => wred V (ix2 o ⟨0 * 256 + k.val, by omega⟩) * z) (bins0 V n i j k hb hy0 hx0)).trans (mul_comm _ _)
  · exact Finset.sum_congr rfl fun k _ => (congrArg (fun z : EReal => wred V (ix2 o ⟨1 * 256 + k.val, by omega⟩) * z) (bins1 V n i j k hb hy1 hx1)).trans (mul_comm _ _)
  · exact Finset.sum_congr rfl fun k _ => (congrArg (fun z : EReal => wred V (ix2 o ⟨2 * 256 + k.val, by omega⟩) * z) (bins2 V n i j k hb hy2 hx2)).trans (mul_comm _ _)
  · exact Finset.sum_congr rfl fun k _ => (congrArg (fun z : EReal => wred V (ix2 o ⟨3 * 256 + k.val, by omega⟩) * z) (bins3 V n i j k hb hy3 hx3)).trans (mul_comm _ _)

end Cert.Reference2Ideal.Hand

end
-- ==== Proof.Meet.lean ====
/- Where the two programs meet: a window's weighted sum, its weights made of the samples, is the mean of the bilinear samples. -/
module

public import proofs.«01_k».proof.Proof.Kernel2Ideal.Value
public import proofs.«01_k».proof.Proof.Reference2

@[expose] public section

noncomputable section

namespace Cert.Meet

open Idealize.ShloMosaic Idealize.ShloMosaic.TcCoe Idealize.ShloMosaic.Tactic
open Cert.Sample Cert.Kernel2Ideal Cert.Kernel2Ideal.Gen Cert.Kernel2Ideal.Hand
open Cert.Reference2Ideal.Hand (mean Fits)

/-- What the precondition says of a sample, as an inequality of extended reals. -/
theorem inside_of {R : Nat} {a k : BitVec 32} {s : EReal} (hf : a.toNat + R ≤ k.toNat + 1) (hk : k.toNat < 2 ^ 15) (hR : 0 < R)
    (h : FloatOps.cmpf (F := Ideal) (φ := .f32) .oge s (FloatOps.sitofp .f32 a) = 1#1 ∧ FloatOps.cmpf (F := Ideal) (φ := .f32) .ole s (FloatOps.sitofp .f32 (IntOp.addi a (BitVec.ofNat 32 (R - 1)))) = 1#1) : Inside R a k s :=
  ⟨hf, hk, hR, of_decide_eq_true ((StableHlo.Predicate.ofBool_eq_one_iff _).mp h.1), of_decide_eq_true ((StableHlo.Predicate.ofBool_eq_one_iff _).mp h.2)⟩
/-- The pixels of a sample in a window lie inside the axis. -/
theorem fits {R H : Nat} {a k : BitVec 32} {s : EReal} (h : Inside R a k s) (e : k.toNat + 1 = H) : Fits H k s := by
  obtain ⟨p, w, _, _, _, e1, _, e2, _, _, i, _⟩ := h.parts
  exact ⟨by rw [e1]; omega, by rw [e2]; omega⟩
/-- One level's part, its weights made of samples, is the mean of the samples through the convolution. -/
theorem level_mean {R X H : Nat} [NeZero H] {a k b l : BitVec 32} {s s' z z' : EReal} (hs : Inside R a k s) (hs' : Inside R a k s') (hz : Inside X b l z) (hz' : Inside X b l z')
    (p : (⟨4, ![2, 256, H, H]⟩ : Shape).Idx → EReal) (q : Fin 2) (w : Fin 256 → EReal) (ay : Fin R → EReal) (ax : Fin X → EReal)
    (ey : ∀ r, ay r = weight s s' a k r.val) (ex : ∀ x, ax x = weight z z' b l x.val) :
    Cert.Level.level R X ay ax (fun r x c => p (ix4 q c (Fin.ofNat H (a.toNat + r.val)) (Fin.ofNat H (b.toNat + x.val)))) w
      = ∑ c : Fin 256, mean s s' z z' k l (fun y x => p (ix4 q c (Fin.ofNat H y) (Fin.ofNat H x))) * w c := by
  refine Finset.sum_congr rfl fun c _ => congrArg (· * w c) ?_
  refine Eq.trans ?_ (window_mean hs hs' hz hz' (fun y x => p (ix4 q c (Fin.ofNat H y) (Fin.ofNat H x))))
  exact Finset.sum_congr rfl fun r _ => Finset.sum_congr rfl fun x _ => by rw [ey, ex]

/-- An output, of the samples. -/
def sampled (a0 : (⟨4, ![2, 256, 256, 256]⟩ : Shape).Idx → EReal) (a1 : (⟨4, ![2, 256, 128, 128]⟩ : Shape).Idx → EReal) (a2 : (⟨4, ![2, 256, 64, 64]⟩ : Shape).Idx → EReal) (a3 : (⟨4, ![2, 256, 32, 32]⟩ : Shape).Idx → EReal)
    (b : (⟨1, ![512]⟩ : Shape).Idx → BitVec 32) (s0 z0 s1 z1 s2 z2 s3 z3 : (⟨2, ![512, 14]⟩ : Shape).Idx → EReal)
    (w : (⟨2, ![256, 1024]⟩ : Shape).Idx → EReal) (bias : (⟨1, ![256]⟩ : Shape).Idx → EReal) (n : Fin 512) (o : Fin 256) (i j : Fin 7) : EReal :=
  max ((∑ k : Fin 256, mean (s0 (ix2 n ⟨i.val * 2, by omega⟩)) (s0 (ix2 n ⟨i.val * 2 + 1, by omega⟩)) (z0 (ix2 n ⟨j.val * 2, by omega⟩)) (z0 (ix2 n ⟨j.val * 2 + 1, by omega⟩)) 255#32 255#32 (fun y x => a0 (ix4 (Fin.ofNat 2 (b (ix1 n)).toNat) k (Fin.ofNat 256 y) (Fin.ofNat 256 x))) * w (ix2 o ⟨0 * 256 + k.val, by omega⟩))
    + (∑ k : Fin 256, mean (s1 (ix2 n ⟨i.val * 2, by omega⟩)) (s1 (ix2 n ⟨i.val * 2 + 1, by omega⟩)) (z1 (ix2 n ⟨j.val * 2, by omega⟩)) (z1 (ix2 n ⟨j.val * 2 + 1, by omega⟩)) 127#32 127#32 (fun y x => a1 (ix4 (Fin.ofNat 2 (b (ix1 n)).toNat) k (Fin.ofNat 128 y) (Fin.ofNat 128 x))) * w (ix2 o ⟨1 * 256 + k.val, by omega⟩))
    + (∑ k : Fin 256, mean (s2 (ix2 n ⟨i.val * 2, by omega⟩)) (s2 (ix2 n ⟨i.val * 2 + 1, by omega⟩)) (z2 (ix2 n ⟨j.val * 2, by omega⟩)) (z2 (ix2 n ⟨j.val * 2 + 1, by omega⟩)) 63#32 63#32 (fun y x => a2 (ix4 (Fin.ofNat 2 (b (ix1 n)).toNat) k (Fin.ofNat 64 y) (Fin.ofNat 64 x))) * w (ix2 o ⟨2 * 256 + k.val, by omega⟩))
    + (∑ k : Fin 256, mean (s3 (ix2 n ⟨i.val * 2, by omega⟩)) (s3 (ix2 n ⟨i.val * 2 + 1, by omega⟩)) (z3 (ix2 n ⟨j.val * 2, by omega⟩)) (z3 (ix2 n ⟨j.val * 2 + 1, by omega⟩)) 31#32 31#32 (fun y x => a3 (ix4 (Fin.ofNat 2 (b (ix1 n)).toNat) k (Fin.ofNat 32 y) (Fin.ofNat 32 x))) * w (ix2 o ⟨3 * 256 + k.val, by omega⟩))
    + bias (ix1 o)) 0

/-- It is the output of the windows, when the samples lie in them. -/
theorem sampled_eq (a0 : (⟨4, ![2, 256, 256, 256]⟩ : Shape).Idx → EReal) (a1 : (⟨4, ![2, 256, 128, 128]⟩ : Shape).Idx → EReal) (a2 : (⟨4, ![2, 256, 64, 64]⟩ : Shape).Idx → EReal) (a3 : (⟨4, ![2, 256, 32, 32]⟩ : Shape).Idx → EReal)
    (b : (⟨1, ![512]⟩ : Shape).Idx → BitVec 32) (ys xs : (⟨2, ![4, 512]⟩ : Shape).Idx → BitVec 32) (s0 z0 s1 z1 s2 z2 s3 z3 : (⟨2, ![512, 14]⟩ : Shape).Idx → EReal)
    (w : (⟨2, ![256, 1024]⟩ : Shape).Idx → EReal) (bias : (⟨1, ![256]⟩ : Shape).Idx → EReal) (n : Fin 512) (o : Fin 256) (i j : Fin 7)
    (hs0 : ∀ p : Fin 14, Inside 56 (ys (ix2 0 n)) 255#32 (s0 (ix2 n p))) (hz0 : ∀ p : Fin 14, Inside 64 (xs (ix2 0 n)) 255#32 (z0 (ix2 n p)))
    (hs1 : ∀ p : Fin 14, Inside 32 (ys (ix2 1 n)) 127#32 (s1 (ix2 n p))) (hz1 : ∀ p : Fin 14, Inside 40 (xs (ix2 1 n)) 127#32 (z1 (ix2 n p)))
    (hs2 : ∀ p : Fin 14, Inside 16 (ys (ix2 2 n)) 63#32 (s2 (ix2 n p))) (hz2 : ∀ p : Fin 14, Inside 24 (xs (ix2 2 n)) 63#32 (z2 (ix2 n p)))
    (hs3 : ∀ p : Fin 14, Inside 16 (ys (ix2 3 n)) 31#32 (s3 (ix2 n p))) (hz3 : ∀ p : Fin 14, Inside 16 (xs (ix2 3 n)) 31#32 (z3 (ix2 n p))) :
    sampled a0 a1 a2 a3 b s0 z0 s1 z1 s2 z2 s3 z3 w bias n o i j
      = Cert.Level.out a0 a1 a2 a3 b ys xs (rows0A s0 ys) (cols0A z0 xs) (rows1A s1 ys) (cols1A z1 xs) (rows2A s2 ys) (cols2A z2 xs) (rows3A s3 ys) (cols3A z3 xs) w bias n o i j := by
  unfold sampled Cert.Level.out
  refine congrArg (fun t : EReal => max t 0) (congrArg (fun t : EReal => t + bias (ix1 o)) (congrArg₂ HAdd.hAdd (congrArg₂ HAdd.hAdd (congrArg₂ HAdd.hAdd ?_ ?_) ?_) ?_))
  · exact (level_mean (hs0 _) (hs0 _) (hz0 _) (hz0 _) a0 _ _ _ _ (fun r => rows0A_at s0 ys n i r) (fun x => cols0A_at z0 xs n j x)).symm
  · exact (level_mean (hs1 _) (hs1 _) (hz1 _) (hz1 _) a1 _ _ _ _ (fun r => rows1A_at s1 ys n i r) (fun x => cols1A_at z1 xs n j x)).symm
  · exact (level_mean (hs2 _) (hs2 _) (hz2 _) (hz2 _) a2 _ _ _ _ (fun r => rows2A_at s2 ys n i r) (fun x => cols2A_at z2 xs n j x)).symm
  · exact (level_mean (hs3 _) (hs3 _) (hz3 _) (hz3 _) a3 _ _ _ _ (fun r => rows3A_at s3 ys n i r) (fun x => cols3A_at z3 xs n j x)).symm

/-- The precondition's samples lie in their windows. -/
theorem samples_inside [Cert.Pre_windows_inside.Facts] (m : (ℓ : Loc nD τ sig) → Buf (Elt Ideal) ℓ) (c : Dev nD) (h : PreAt m c) (n : Fin 512) :
    (∀ p : Fin 14, Inside 56 ((show S4x512.Idx → BitVec 32 from m (c, Proc.devRef .tc main_arg5)) (ix2 0 n)) 255#32 ((show S512x14.Idx → EReal from m (c, Proc.devRef .tc main_arg7)) (ix2 n p)))
    ∧ (∀ p : Fin 14, Inside 64 ((show S4x512.Idx → BitVec 32 from m (c, Proc.devRef .tc main_arg6)) (ix2 0 n)) 255#32 ((show S512x14.Idx → EReal from m (c, Proc.devRef .tc main_arg8)) (ix2 n p)))
    ∧ (∀ p : Fin 14, Inside 32 ((show S4x512.Idx → BitVec 32 from m (c, Proc.devRef .tc main_arg5)) (ix2 1 n)) 127#32 ((show S512x14.Idx → EReal from m (c, Proc.devRef .tc main_arg9)) (ix2 n p)))
    ∧ (∀ p : Fin 14, Inside 40 ((show S4x512.Idx → BitVec 32 from m (c, Proc.devRef .tc main_arg6)) (ix2 1 n)) 127#32 ((show S512x14.Idx → EReal from m (c, Proc.devRef .tc main_arg10)) (ix2 n p)))
    ∧ (∀ p : Fin 14, Inside 16 ((show S4x512.Idx → BitVec 32 from m (c, Proc.devRef .tc main_arg5)) (ix2 2 n)) 63#32 ((show S512x14.Idx → EReal from m (c, Proc.devRef .tc main_arg11)) (ix2 n p)))
    ∧ (∀ p : Fin 14, Inside 24 ((show S4x512.Idx → BitVec 32 from m (c, Proc.devRef .tc main_arg6)) (ix2 2 n)) 63#32 ((show S512x14.Idx → EReal from m (c, Proc.devRef .tc main_arg12)) (ix2 n p)))
    ∧ (∀ p : Fin 14, Inside 16 ((show S4x512.Idx → BitVec 32 from m (c, Proc.devRef .tc main_arg5)) (ix2 3 n)) 31#32 ((show S512x14.Idx → EReal from m (c, Proc.devRef .tc main_arg13)) (ix2 n p)))
    ∧ (∀ p : Fin 14, Inside 16 ((show S4x512.Idx → BitVec 32 from m (c, Proc.devRef .tc main_arg6)) (ix2 3 n)) 31#32 ((show S512x14.Idx → EReal from m (c, Proc.devRef .tc main_arg14)) (ix2 n p))) := by
  have P := fun p => pre_fields _ _ _ _ _ _ _ _ _ _ _ _ _ _ _ _ _ h n p
  exact ⟨fun p => inside_of (Nat.add_le_add_right ((P p).1.2 0).1 56) (by decide) (by decide) (P p).2.1,
    fun p => inside_of (Nat.add_le_add_right ((P p).1.2 0).2.1 64) (by decide) (by decide) (P p).2.2.1,
    fun p => inside_of (Nat.add_le_add_right ((P p).1.2 1).1 32) (by decide) (by decide) (P p).2.2.2.1,
    fun p => inside_of (Nat.add_le_add_right ((P p).1.2 1).2.1 40) (by decide) (by decide) (P p).2.2.2.2.1,
    fun p => inside_of (Nat.add_le_add_right ((P p).1.2 2).1 16) (by decide) (by decide) (P p).2.2.2.2.2.1,
    fun p => inside_of (Nat.add_le_add_right ((P p).1.2 2).2.1 24) (by decide) (by decide) (P p).2.2.2.2.2.2.1,
    fun p => inside_of (Nat.add_le_add_right ((P p).1.2 3).1 16) (by decide) (by decide) (P p).2.2.2.2.2.2.2.1,
    fun p => inside_of (Nat.add_le_add_right ((P p).1.2 3).2.1 16) (by decide) (by decide) (P p).2.2.2.2.2.2.2.2⟩

end Cert.Meet

end
-- ==== Proof.lean ====
module

public import proofs.«01_k».proof.Defs
public import proofs.«01_k».proof.Proof.Kernel.Tables
public import proofs.«01_k».proof.Proof.KernelIdeal.Tables
public import proofs.«01_k».proof.Proof.Kernel2.Tables
public import proofs.«01_k».proof.Proof.Kernel2Ideal.Tables
public import proofs.«01_k».proof.Proof.Kernel2Ideal.Value
public import proofs.«01_k».proof.Proof.Reference2
public import proofs.«01_k».proof.Proof.Meet
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Launch
public import proofs.«01_k».proof.Proof.Gen.Kernel2.Skeleton
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Pre_windows_inside
public import proofs.«01_k».proof.Proof.Gen.Pre_batch_named

@[expose] public section

noncomputable section

namespace Cert.Proof

open Idealize.ShloMosaic Idealize.ShloMosaic.TcCoe Idealize.SL.Sem

instance : Cert.Pre_batch_named.Facts := Cert.Pre_batch_named.Gen.facts

/-- `Kernel` at its precondition: the batch indices are below two, so every window it copies lies inside its features. -/
theorem tables_Kernel (m : (ℓ : Loc Cert.Kernel.nD Cert.Kernel.τ Cert.Kernel.sig) → Buf (Elt Bits) ℓ) (h : Cert.Pre_Kernel m) (c : Dev Cert.Kernel.nD) :
    Cert.Kernel.Hand.TabOk (Cert.Kernel.Hand.tab5 (Cert.Kernel.Hand.V₀ m) c) (Cert.Kernel.Hand.tabY (Cert.Kernel.Hand.V₀ m) c) (Cert.Kernel.Hand.tabX (Cert.Kernel.Hand.V₀ m) c) := by
  refine Cert.Kernel.Hand.tabOk m c fun n => ?_
  have e : Cert.Kernel.Hand.tab5 (Cert.Kernel.Hand.V₀ m) c = m (c, Proc.devRef .tc Cert.Kernel.main_arg5) := (Cert.Kernel.Hand.V₀_args m c).2.2.2.2.2.1
  rw [e]
  exact Cert.Kernel.Hand.pre_fields _ _ _ _ _ _ _ _ (h c) _
theorem frame_Kernel : Cert.quiescent_Kernel := fun m g h => Cert.Kernel.Hand.frame m g (tables_Kernel m h)

/-- `KernelIdeal` at its precondition: the batch indices are below two, so every window it copies lies inside its features. -/
theorem tables_KernelIdeal (m : (ℓ : Loc Cert.KernelIdeal.nD Cert.KernelIdeal.τ Cert.KernelIdeal.sig) → Buf (Elt Ideal) ℓ) (h : Cert.Pre_KernelIdeal m) (c : Dev Cert.KernelIdeal.nD) :
    Cert.KernelIdeal.Hand.TabOk (Cert.KernelIdeal.Hand.tab5 (Cert.KernelIdeal.Hand.V₀ m) c) (Cert.KernelIdeal.Hand.tabY (Cert.KernelIdeal.Hand.V₀ m) c) (Cert.KernelIdeal.Hand.tabX (Cert.KernelIdeal.Hand.V₀ m) c) := by
  refine Cert.KernelIdeal.Hand.tabOk m c fun n => ?_
  have e : Cert.KernelIdeal.Hand.tab5 (Cert.KernelIdeal.Hand.V₀ m) c = m (c, Proc.devRef .tc Cert.KernelIdeal.main_arg5) := (Cert.KernelIdeal.Hand.V₀_args m c).2.2.2.2.2.1
  rw [e]
  exact Cert.KernelIdeal.Hand.pre_fields _ _ _ _ _ _ _ _ (h c) _
theorem frame_KernelIdeal : Cert.quiescent_KernelIdeal := fun m g h => Cert.KernelIdeal.Hand.frame m g (tables_KernelIdeal m h)

/-- The reference's run: it declares no semaphore, and no line of it writes an argument. -/
theorem frame_ReferenceIdeal : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

instance : Cert.Pre_windows_inside.Facts := Cert.Pre_windows_inside.Gen.facts

/-- The second program at its precondition, as written and over the exact elements. -/
theorem frame_Kernel2 : Cert.quiescent_Kernel2 := fun m g h => Cert.Kernel2.Hand.frame m g (Cert.Kernel2.Hand.tabOk m h)
theorem frame_Kernel2Ideal : Cert.quiescent_Kernel2Ideal := fun m g h => Cert.Kernel2Ideal.Hand.frame m g (Cert.Kernel2Ideal.Hand.tabOk m h)
theorem frame_Reference2Ideal : Cert.quiescent_Reference2Ideal := fun m g _ =>
  (θ_run Cert.Reference2Ideal.defs _ _).mono (fun r h => ⟨fun c => (h c).2, Idealize.ShloMosaic.sem_eq_zero_of_no_sems (by decide) r.2⟩)
    (Cert.Reference2Ideal.Value.run (F := Ideal) m g)
theorem frame_Reference2Ideal_pre : Cert.quiescent_Reference2Ideal_pre_windows_inside := fun m g _ => frame_Reference2Ideal m g trivial

/-- The second program's result is the reference's. -/
theorem algebraic : Cert.algebraic_Kernel2Ideal_Reference2Ideal := fun m g m' g' h e => by
  have hT := Cert.Kernel2Ideal.Hand.tabOk m h
  refine ⟨fun c => fun x => Cert.Kernel2Ideal.Hand.spec m c (x 0) (x 1) (x 2) (x 3), ?_, ?_⟩
  · refine (θ_run Cert.Kernel2Ideal.defs _ _).mono (fun r H c => ⟨funext fun x => ?_, (H c).2⟩) (Cert.Kernel2Ideal.Hand.value_run m g hT)
    have hx : x = ix4 (x 0) (x 1) (x 2) (x 3) := by
      funext d
      match d with
      | ⟨0, _⟩ => rfl
      | ⟨1, _⟩ => rfl
      | ⟨2, _⟩ => rfl
      | ⟨3, _⟩ => rfl
    exact (congrArg _ hx).trans ((H c).1 (x 0) (x 1) (x 2) (x 3))
  · refine (θ_run Cert.Reference2Ideal.defs _ _).mono (fun r H c => ⟨(H c).1.trans (funext fun x => ?_), (H c).2⟩) (Cert.Reference2Ideal.Value.run (F := Ideal) m' g')
    have hx : x = ix4 (x 0) (x 1) (x 2) (x 3) := by
      funext d
      match d with
      | ⟨0, _⟩ => rfl
      | ⟨1, _⟩ => rfl
      | ⟨2, _⟩ => rfl
      | ⟨3, _⟩ => rfl
    obtain ⟨e0, e1, e2, e3, e4, e5, e6, e7, e8, e9, e10, e11, e12, e13, e14, e15, e16⟩ := e c
    obtain ⟨i0, j0, i1, j1, i2, j2, i3, j3⟩ := Cert.Meet.samples_inside m c (h c) (x 0)
    have P := (Cert.Kernel2Ideal.Hand.pre_fields _ _ _ _ _ _ _ _ _ _ _ _ _ _ _ _ _ (h c) (x 0) 0).1.1
    have R := Cert.Reference2Ideal.Hand.result_at (StableHlo.launchContents m' c) (x 0) (x 1) (x 2) (x 3)
      (by show (m' (c, Proc.devRef .tc Cert.Reference2Ideal.main_arg4) _).toNat < 2; rw [e4]; exact P)
      (fun p => by show Cert.Reference2Ideal.Hand.Fits 256 255#32 (m' (c, Proc.devRef .tc Cert.Reference2Ideal.main_arg7) _); rw [e7]; exact Cert.Meet.fits (i0 p) rfl)
      (fun p => by show Cert.Reference2Ideal.Hand.Fits 256 255#32 (m' (c, Proc.devRef .tc Cert.Reference2Ideal.main_arg8) _); rw [e8]; exact Cert.Meet.fits (j0 p) rfl)
      (fun p => by show Cert.Reference2Ideal.Hand.Fits 128 127#32 (m' (c, Proc.devRef .tc Cert.Reference2Ideal.main_arg9) _); rw [e9]; exact Cert.Meet.fits (i1 p) rfl)
      (fun p => by show Cert.Reference2Ideal.Hand.Fits 128 127#32 (m' (c, Proc.devRef .tc Cert.Reference2Ideal.main_arg10) _); rw [e10]; exact Cert.Meet.fits (j1 p) rfl)
      (fun p => by show Cert.Reference2Ideal.Hand.Fits 64 63#32 (m' (c, Proc.devRef .tc Cert.Reference2Ideal.main_arg11) _); rw [e11]; exact Cert.Meet.fits (i2 p) rfl)
      (fun p => by show Cert.Reference2Ideal.Hand.Fits 64 63#32 (m' (c, Proc.devRef .tc Cert.Reference2Ideal.main_arg12) _); rw [e12]; exact Cert.Meet.fits (j2 p) rfl)
      (fun p => by show Cert.Reference2Ideal.Hand.Fits 32 31#32 (m' (c, Proc.devRef .tc Cert.Reference2Ideal.main_arg13) _); rw [e13]; exact Cert.Meet.fits (i3 p) rfl)
      (fun p => by show Cert.Reference2Ideal.Hand.Fits 32 31#32 (m' (c, Proc.devRef .tc Cert.Reference2Ideal.main_arg14) _); rw [e14]; exact Cert.Meet.fits (j3 p) rfl)
    refine (congrArg _ hx).trans (R.trans ?_)
    refine Eq.trans (b := Cert.Meet.sampled _ _ _ _ _ _ _ _ _ _ _ _ _ _ _ (x 0) (x 1) (x 2) (x 3)) (congrFun (congrFun (congrFun (congrFun (congr (congr (congr (congr (congr (congr (congr (congr (congr (congr (congr (congr (congr (congr (congrArg Cert.Meet.sampled e0) e1) e2) e3) e4) e7) e8) e9) e10) e11) e12) e13) e14) e15) e16) _) _) _) _) ?_
    exact Cert.Meet.sampled_eq _ _ _ _ _ _ _ _ _ _ _ _ _ _ _ _ _ (x 0) (x 1) (x 2) (x 3) i0 j0 i1 j1 i2 j2 i3 j3

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Pre_batch_named.Gen.facts, Cert.Pre_windows_inside.Gen.facts,
  frame_Kernel, frame_KernelIdeal, frame_ReferenceIdeal, frame_Kernel2, frame_Kernel2Ideal, frame_Reference2Ideal, frame_Reference2Ideal_pre, trivial, trivial, algebraic⟩

end Cert.Proof

end
